-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v3)) (v2 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v3) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v35) = v0 c
          ∧ r.2.mem ((c.tc : Thread Cert.Reference14Ideal.nD Cert.Reference14Ideal.τ).loc Cert.Reference14Ideal.main_v36) = v1 c
          ∧ r.2.mem ((c.tc : Thread Cert.Reference14Ideal.nD Cert.Reference14Ideal.τ).loc Cert.Reference14Ideal.main_v38) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v37) = v0 c
          ∧ r.2.mem ((c.tc : Thread Cert.Reference15Ideal.nD Cert.Reference15Ideal.τ).loc Cert.Reference15Ideal.main_v38) = v1 c
          ∧ r.2.mem ((c.tc : Thread Cert.Reference15Ideal.nD Cert.Reference15Ideal.τ).loc Cert.Reference15Ideal.main_v40) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S3x8320x1024 : Shape := ⟨3, ![3, 8320, 1024]⟩
abbrev S8320x128 : Shape := ⟨2, ![8320, 128]⟩
abbrev S130x8x128x128 : Shape := ⟨4, ![130, 8, 128, 128]⟩
abbrev S130x8x64x64 : Shape := ⟨4, ![130, 8, 64, 64]⟩
abbrev S8320x1024 : Shape := ⟨2, ![8320, 1024]⟩
abbrev S8320x16 : Shape := ⟨2, ![8320, 16]⟩
abbrev S_ : Shape := ⟨0, ![]⟩

class Facts : Prop where
  slices_S8320x128_S8320x16_0_0 : S8320x128.Slices ![0, 0] S8320x16
  bcast_S_S3x8320x1024 : S_.BroadcastsInDim S3x8320x1024 (![] : Fin 0 → Fin S3x8320x1024.rank)
  bcast_S_S8320x16 : S_.BroadcastsInDim S8320x16 (![] : Fin 0 → Fin S8320x16.rank)
  bcast_S_S130x8x128x128 : S_.BroadcastsInDim S130x8x128x128 (![] : Fin 0 → Fin S130x8x128x128.rank)
  bcast_S_S130x8x64x64 : S_.BroadcastsInDim S130x8x64x64 (![] : Fin 0 → Fin S130x8x64x64.rank)
  bcast_S_S8320x1024 : S_.BroadcastsInDim S8320x1024 (![] : Fin 0 → Fin S8320x1024.rank)

variable [Facts]

def fn {F : FTy → Type} [FloatOps F] (main_arg0 : FVec F S3x8320x1024 .f32) (main_arg1 : FVec F S8320x128 .f32) (main_arg2 : FVec F S130x8x128x128 .f32) (main_arg3 : FVec F S130x8x64x64 .f32) (main_arg4 : FVec F S8320x1024 .f32) : IVec S3x8320x1024 1 × IVec S8320x16 1 × IVec S130x8x128x128 1 × IVec S130x8x64x64 1 × IVec S8320x1024 1 :=
  let main_v0 : FVec F S8320x16 .f32 := (extractStridedSlice S8320x16 ![0, 0] · slices_S8320x128_S8320x16_0_0) main_arg1
  let main_v1 : FVec F S3x8320x1024 .f32 := Host.absf main_arg0
  let main_cst : FVec F S_ .f32 := constant S_ .f32 0x7F800000#32
  let main_v2 : FVec F S3x8320x1024 .f32 := broadcastInDim S3x8320x1024 ![] bcast_S_S3x8320x1024 main_cst
  let main_v3 : IVec S3x8320x1024 1 := cmpf .olt main_v1 main_v2
  let main_v4 : FVec F S8320x16 .f32 := Host.absf main_v0
  let main_cst_0 : FVec F S_ .f32 := constant S_ .f32 0x7F800000#32
  let main_v5 : FVec F S8320x16 .f32 := broadcastInDim S8320x16 ![] bcast_S_S8320x16 main_cst_0
  let main_v6 : IVec S8320x16 1 := cmpf .olt main_v4 main_v5
  let main_v7 : FVec F S130x8x128x128 .f32 := Host.absf main_arg2
  let main_cst_1 : FVec F S_ .f32 := constant S_ .f32 0x7F800000#32
  let main_v8 : FVec F S130x8x128x128 .f32 := broadcastInDim S130x8x128x128 ![] bcast_S_S130x8x128x128 main_cst_1
  let main_v9 : IVec S130x8x128x128 1 := cmpf .olt main_v7 main_v8
  let main_v10 : FVec F S130x8x64x64 .f32 := Host.absf main_arg3
  let main_cst_2 : FVec F S_ .f32 := constant S_ .f32 0x7F800000#32
  let main_v11 : FVec F S130x8x64x64 .f32 := broadcastInDim S130x8x64x64 ![] bcast_S_S130x8x64x64 main_cst_2
  let main_v12 : IVec S130x8x64x64 1 := cmpf .olt main_v10 main_v11
  let main_v13 : FVec F S8320x1024 .f32 := Host.absf main_arg4
  let main_cst_3 : FVec F S_ .f32 := constant S_ .f32 0x7F800000#32
  let main_v14 : FVec F S8320x1024 .f32 := broadcastInDim S8320x1024 ![] bcast_S_S8320x1024 main_cst_3
  let main_v15 : IVec S8320x1024 1 := cmpf .olt main_v13 main_v14
  (main_v3, main_v6, main_v9, main_v12, main_v15)
-- ==== Pre_finite2.lean ====
abbrev S4x8320x1408 : Shape := ⟨3, ![4, 8320, 1408]⟩
abbrev S1x4x1024x1408 : Shape := ⟨4, ![1, 4, 1024, 1408]⟩
abbrev S1x8320x1024 : Shape := ⟨3, ![1, 8320, 1024]⟩
abbrev S1x1024 : Shape := ⟨2, ![1, 1024]⟩
abbrev S_ : Shape := ⟨0, ![]⟩

class Facts : Prop where
  bitsLt_bf16_f32 : FTy.bits .bf16 < FTy.bits .f32
  bcast_S_S4x8320x1408 : S_.BroadcastsInDim S4x8320x1408 (![] : Fin 0 → Fin S4x8320x1408.rank)
  bcast_S_S1x4x1024x1408 : S_.BroadcastsInDim S1x4x1024x1408 (![] : Fin 0 → Fin S1x4x1024x1408.rank)
  bcast_S_S1x8320x1024 : S_.BroadcastsInDim S1x8320x1024 (![] : Fin 0 → Fin S1x8320x1024.rank)
  bcast_S_S1x1024 : S_.BroadcastsInDim S1x1024 (![] : Fin 0 → Fin S1x1024.rank)

variable [Facts]

def fn {F : FTy → Type} [FloatOps F] (main_arg0 : FVec F S4x8320x1408 .bf16) (main_arg1 : FVec F S1x4x1024x1408 .bf16) (main_arg2 : FVec F S1x8320x1024 .f32) (main_arg3 : FVec F S1x8320x1024 .f32) (main_arg4 : FVec F S1x1024 .f32) : IVec S4x8320x1408 1 × IVec S1x4x1024x1408 1 × IVec S1x8320x1024 1 × IVec S1x8320x1024 1 × IVec S1x1024 1 :=
  let main_v0 : FVec F S4x8320x1408 .f32 := (extf .f32 · bitsLt_bf16_f32) main_arg0
  let main_v1 : FVec F S4x8320x1408 .f32 := Host.absf main_v0
  let main_cst : FVec F S_ .f32 := constant S_ .f32 0x7F800000#32
  let main_v2 : FVec F S4x8320x1408 .f32 := broadcastInDim S4x8320x1408 ![] bcast_S_S4x8320x1408 main_cst
  let main_v3 : IVec S4x8320x1408 1 := cmpf .olt main_v1 main_v2
  let main_v4 : FVec F S1x4x1024x1408 .f32 := (extf .f32 · bitsLt_bf16_f32) main_arg1
  let main_v5 : FVec F S1x4x1024x1408 .f32 := Host.absf main_v4
  let main_cst_0 : FVec F S_ .f32 := constant S_ .f32 0x7F800000#32
  let main_v6 : FVec F S1x4x1024x1408 .f32 := broadcastInDim S1x4x1024x1408 ![] bcast_S_S1x4x1024x1408 main_cst_0
  let main_v7 : IVec S1x4x1024x1408 1 := cmpf .olt main_v5 main_v6
  let main_v8 : FVec F S1x8320x1024 .f32 := Host.absf main_arg2
  let main_cst_1 : FVec F S_ .f32 := constant S_ .f32 0x7F800000#32
  let main_v9 : FVec F S1x8320x1024 .f32 := broadcastInDim S1x8320x1024 ![] bcast_S_S1x8320x1024 main_cst_1
  let main_v10 : IVec S1x8320x1024 1 := cmpf .olt main_v8 main_v9
  let main_v11 : FVec F S1x8320x1024 .f32 := Host.absf main_arg3
  let main_cst_2 : FVec F S_ .f32 := constant S_ .f32 0x7F800000#32
  let main_v12 : FVec F S1x8320x1024 .f32 := broadcastInDim S1x8320x1024 ![] bcast_S_S1x8320x1024 main_cst_2
  let main_v13 : IVec S1x8320x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Kernel.lean ====
abbrev S3x8320x1024 : Shape := ⟨3, ![3, 8320, 1024]⟩
abbrev S8320x128 : Shape := ⟨2, ![8320, 128]⟩
abbrev S130x8x128x128 : Shape := ⟨4, ![130, 8, 128, 128]⟩
abbrev S130x8x64x64 : Shape := ⟨4, ![130, 8, 64, 64]⟩
abbrev S8320x1024 : Shape := ⟨2, ![8320, 1024]⟩
abbrev S3x64x1024 : Shape := ⟨3, ![3, 64, 1024]⟩
abbrev S64x128 : Shape := ⟨2, ![64, 128]⟩
abbrev S1x8x128x128 : Shape := ⟨4, ![1, 8, 128, 128]⟩
abbrev S1x8x64x64 : Shape := ⟨4, ![1, 8, 64, 64]⟩
abbrev S64x1024 : Shape := ⟨2, ![64, 1024]⟩
abbrev S8x128x128 : Shape := ⟨3, ![8, 128, 128]⟩
abbrev S1x64x128 : Shape := ⟨3, ![1, 64, 128]⟩
abbrev S64x64 : Shape := ⟨2, ![64, 64]⟩
abbrev S128 : Shape := ⟨1, ![128]⟩
abbrev S1x128 : Shape := ⟨2, ![1, 128]⟩
abbrev S64x1 : Shape := ⟨2, ![64, 1]⟩
abbrev S1x1 : Shape := ⟨2, ![1, 1]⟩
abbrev S1x1x128x128 : Shape := ⟨4, ![1, 1, 128, 128]⟩
abbrev S128x128 : Shape := ⟨2, ![128, 128]⟩
abbrev S1x1x64x64 : Shape := ⟨4, ![1, 1, 64, 64]⟩
abbrev S1x128x128 : Shape := ⟨3, ![1, 128, 128]⟩
abbrev S128x64 : Shape := ⟨2, ![128, 64]⟩
abbrev S64 : Shape := ⟨1, ![64]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S3x8320x1024, .f32⟩
  | .hbm, ⟨1, _⟩ => ⟨S8320x128, .f32⟩
  | .hbm, ⟨2, _⟩ => ⟨S130x8x128x128, .f32⟩
  | .hbm, ⟨3, _⟩ => ⟨S130x8x64x64, .f32⟩
  | .hbm, ⟨4, _⟩ => ⟨S8320x1024, .f32⟩
  | .hbm, ⟨5, _⟩ => ⟨S3x8320x1024, .f32⟩
  | .hbm, ⟨6, _⟩ => ⟨S8320x128, .f32⟩
  | .local _ .vmem, ⟨0, _⟩ => ⟨S3x64x1024, .f32⟩
  | .local _ .vmem, ⟨1, _⟩ => ⟨S3x64x1024, .f32⟩
  | .local _ .vmem, ⟨2, _⟩ => ⟨S64x128, .f32⟩
  | .local _ .vmem, ⟨3, _⟩ => ⟨S64x128, .f32⟩
  | .local _ .vmem, ⟨4, _⟩ => ⟨S1x8x128x128, .f32⟩
  | .local _ .vmem, ⟨5, _⟩ => ⟨S1x8x128x128, .f32⟩
  | .local _ .vmem, ⟨6, _⟩ => ⟨S1x8x64x64, .f32⟩
  | .local _ .vmem, ⟨7, _⟩ => ⟨S1x8x64x64, .f32⟩
  | .local _ .vmem, ⟨8, _⟩ => ⟨S64x1024, .f32⟩
  | .local _ .vmem, ⟨9, _⟩ => ⟨S64x1024, .f32⟩
  | .local _ .vmem, ⟨10, _⟩ => ⟨S3x64x1024, .f32⟩
  | .local _ .vmem, ⟨11, _⟩ => ⟨S3x64x1024, .f32⟩
  | .local _ .vmem, ⟨12, _⟩ => ⟨S64x128, .f32⟩
  | .local _ .vmem, ⟨13, _⟩ => ⟨S64x128, .f32⟩
  | .local _ .vmem, ⟨14, _⟩ => ⟨S8x128x128, .f32⟩
  | _, _ => ⟨S3x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![130], ![false]⟩

def cc0_transform_0 (i : grid0.Coords) : Fin 3 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

abbrev stage0_0 : Fin 2 → Memref sig .tc .vmem S3x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S3x8320x1024 : Shape := ⟨3, ![3, 8320, 1024]⟩
abbrev S8320x128 : Shape := ⟨2, ![8320, 128]⟩
abbrev S130x8x128x128 : Shape := ⟨4, ![130, 8, 128, 128]⟩
abbrev S130x8x64x64 : Shape := ⟨4, ![130, 8, 64, 64]⟩
abbrev S8320x1024 : Shape := ⟨2, ![8320, 1024]⟩
abbrev S1x8320x1024 : Shape := ⟨3, ![1, 8320, 1024]⟩
abbrev S130x64x8x128 : Shape := ⟨4, ![130, 64, 8, 128]⟩
abbrev S130x8x64x128 : Shape := ⟨4, ![130, 8, 64, 128]⟩
abbrev S8320x16 : Shape := ⟨2, ![8320, 16]⟩
abbrev S130x64x16 : Shape := ⟨3, ![130, 64, 16]⟩
abbrev S130x16x64 : Shape := ⟨3, ![130, 16, 64]⟩
abbrev S_ : Shape := ⟨0, ![]⟩
abbrev S8x128x128 : Shape := ⟨3, ![8, 128, 128]⟩
abbrev S130x3x8x64x128 : Shape := ⟨5, ![130, 3, 8, 64, 128]⟩
abbrev S1x8x64x64 : Shape := ⟨4, ![1, 8, 64, 64]⟩
abbrev S8x64x64 : Shape := ⟨3, ![8, 64, 64]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x16x64 : Shape := ⟨3, ![1, 16, 64]⟩
abbrev S16x64 : Shape := ⟨2, ![16, 64]⟩
abbrev S8x64 : Shape := ⟨2, ![8, 64]⟩
abbrev S64x64 : Shape := ⟨2, ![64, 64]⟩
abbrev S8x64x1 : Shape := ⟨3, ![8, 64, 1]⟩
abbrev S8x1x64 : Shape := ⟨3, ![8, 1, 64]⟩
abbrev S8x1 : Shape := ⟨2, ![8, 1]⟩
abbrev S8 : Shape := ⟨1, ![8]⟩
abbrev S8x1x1 : Shape := ⟨3, ![8, 1, 1]⟩
abbrev S8x128x64 : Shape := ⟨3, ![8, 128, 64]⟩
abbrev S3x8x64x128 : Shape := ⟨4, ![3, 8, 64, 128]⟩
abbrev S1x3x8x64x128 : Shape := ⟨5, ![1, 3, 8, 64, 128]⟩
abbrev S3x130x64x8x128 : Shape := ⟨5, ![3, 130, 64, 8, 128]⟩
abbrev S8320x112 : Shape := ⟨2, ![8320, 112]⟩

abbrev nBuf : Space → Nat
  | .hbm => 326
  | .vmem => 0
  | .smem => 0
  | _ => 0

abbrev hbmTy0_0 (i : Nat) : BufTy := match i % 128 with
  | 0 => ⟨S3x8320x1024, .f32⟩
  | 1 => ⟨S8320x128, .f32⟩
  | 2 => ⟨S130x8x128x128, .f32⟩
  | 3 => ⟨S130x8x64x64, .f32⟩
  | 4 => ⟨S8320x1024, .f32⟩
  | 5 => ⟨S1x8320x1024, .f32⟩
  | 6 => ⟨S8320x1024, .f32⟩
  | 7 => ⟨S130x64x8x128, .f32⟩
  | 8 => ⟨S130x8x64x128, .f32⟩
  | 9 => ⟨S1x8320x1024, .f32⟩
  | 10 => ⟨S8320x1024, .f32⟩
  | 11 => ⟨S130x64x8x128, .f32⟩
  | 12 => ⟨S130x8x64x128, .f32⟩
  | 13 => ⟨S1x8320x1024, .f32⟩
  | 14 => ⟨S8320x1024, .f32⟩
  | 15 => ⟨S130x64x8x128, .f32⟩
  | 16 => ⟨S130x8x64x128, .f32⟩
  | 17 => ⟨S8320x16, .f32⟩
  | 18 => ⟨S130x64x16, .f32⟩
  | 19 => ⟨S130x16x64, .f32⟩
  | 20 => ⟨S130x64x8x128, .f32⟩
  | 21 => ⟨S130x8x64x128, .f32⟩
  | 22 => ⟨S_, .f32⟩
  | 23 => ⟨S8x128x128, .f32⟩
  | 24 => ⟨S_, .f32⟩
  | 25 => ⟨S130x3x8x64x128, .f32⟩
  | 26 => ⟨S_, .f32⟩
  | 27 => ⟨S130x16x64, .f32⟩
  | 28 => ⟨S_, .i32⟩
  | 29 => ⟨S130x8x64x64, .f32⟩
  | 30 => ⟨S130x8x128x128, .f32⟩
  | 31 => ⟨S130x8x64x128, .f32⟩
  | 32 => ⟨S130x8x64x128, .f32⟩
  | 33 => ⟨S130x8x64x128, .f32⟩
  | 34 => ⟨S130x16x64, .f32⟩
  | 35 => ⟨S130x8x64x128, .f32⟩
  | 36 => ⟨S_, .i32⟩
  | 37 => ⟨S8x128x128, .f32⟩
  | 38 => ⟨S130x3x8x64x128, .f32⟩
  | 39 => ⟨S130x16x64, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S1x8x64x64, .f32⟩
  | 50 => ⟨S8x64x64, .f32⟩
  | 51 => ⟨S_, .i32⟩
  | 52 => ⟨S_, .i32⟩
  | 53 => ⟨S_, .i32⟩
  | 54 => ⟨S1x8x128x128, .f32⟩
  | 55 => ⟨S8x128x128, .f32⟩
  | 56 => ⟨S_, .i32⟩
  | 57 => ⟨S_, .i32⟩
  | 58 => ⟨S_, .i32⟩
  | 59 => ⟨S1x8x64x128, .f32⟩
  | 60 => ⟨S8x64x128, .f32⟩
  | 61 => ⟨S_, .i32⟩
  | 62 => ⟨S_, .i32⟩
  | 63 => ⟨S_, .i32⟩
  | 64 => ⟨S1x8x64x128, .f32⟩
  | 65 => ⟨S8x64x128, .f32⟩
  | 66 => ⟨S_, .i32⟩
  | 67 => ⟨S_, .i32⟩
  | 68 => ⟨S_, .i32⟩
  | 69 => ⟨S1x8x64x128, .f32⟩
  | 70 => ⟨S8x64x128, .f32⟩
  | 71 => ⟨S_, .i32⟩
  | 72 => ⟨S_, .i32⟩
  | 73 => ⟨S1x16x64, .f32⟩
  | 74 => ⟨S16x64, .f32⟩
  | 75 => ⟨S_, .i32⟩
  | 76 => ⟨S_, .i32⟩
  | 77 => ⟨S_, .i32⟩
  | 78 => ⟨S1x8x64x128, .f32⟩
  | 79 => ⟨S8x64x128, .f32⟩
  | 80 => ⟨S8x64, .f32⟩
  | 81 => ⟨S8x64, .f32⟩
  | 82 => ⟨S_, .f32⟩
  | 83 => ⟨S_, .f32⟩
  | 84 => ⟨S8x64, .f32⟩
  | 85 => ⟨S_, .i1⟩
  | 86 => ⟨S64x64, .i1⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i1⟩
  | 93 => ⟨S_, .i1⟩
  | 94 => ⟨S64x64, .i1⟩
  | 95 => ⟨S64x64, .i1⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S8x64x1, .f32⟩
  | 108 => ⟨S8x1x64, .f32⟩
  | 109 => ⟨S8x64x64, .f32⟩
  | 110 => ⟨S8x64x64, .f32⟩
  | 111 => ⟨S8x64x64, .f32⟩
  | 112 => ⟨S_, .f32⟩
  | 113 => ⟨S_, .f32⟩
  | 114 => ⟨S8x64x64, .i1⟩
  | 115 => ⟨S8x64x64, .f32⟩
  | 116 => ⟨S8x64x64, .f32⟩
  | 117 => ⟨S_, .f32⟩
  | 118 => ⟨S8x64x64, .f32⟩
  | 119 => ⟨S8x64x64, .f32⟩
  | 120 => ⟨S8x64x1, .f32⟩
  | 121 => ⟨S8x64x128, .f32⟩
  | 122 => ⟨S8x64x128, .f32⟩
  | 123 => ⟨S8x64x1, .f32⟩
  | 124 => ⟨S8x64x128, .f32⟩
  | 125 => ⟨S8x64x128, .f32⟩
  | 126 => ⟨S8x64x64, .f32⟩
  | 127 => ⟨S8x64x64, .f32⟩
  | _ => ⟨S3x8320x1024, .f32⟩

abbrev hbmTy0_1 (i : Nat) : BufTy := match i % 128 with
  | 0 => ⟨S_, .f32⟩
  | 1 => ⟨S_, .f32⟩
  | 2 => ⟨S8x64x64, .i1⟩
  | 3 => ⟨S8x64x64, .f32⟩
  | 4 => ⟨S8x64x64, .f32⟩
  | 5 => ⟨S_, .f32⟩
  | 6 => ⟨S8x64x64, .f32⟩
  | 7 => ⟨S8x64x128, .f32⟩
  | 8 => ⟨S8x64, .f32⟩
  | 9 => ⟨S8x64x1, .f32⟩
  | 10 => ⟨S8x64x128, .f32⟩
  | 11 => ⟨S8x64x128, .f32⟩
  | 12 => ⟨S8x64x128, .f32⟩
  | 13 => ⟨S8x64x64, .f32⟩
  | 14 => ⟨S8x64x64, .f32⟩
  | 15 => ⟨S8x64, .f32⟩
  | 16 => ⟨S8x64x1, .f32⟩
  | 17 => ⟨S8x64x128, .f32⟩
  | 18 => ⟨S8x64x128, .f32⟩
  | 19 => ⟨S8x1, .f32⟩
  | 20 => ⟨S8, .f32⟩
  | 21 => ⟨S8x1, .f32⟩
  | 22 => ⟨S8x64, .f32⟩
  | 23 => ⟨S8x64, .f32⟩
  | 24 => ⟨S8x64, .f32⟩
  | 25 => ⟨S8x64x1, .f32⟩
  | 26 => ⟨S8x64x128, .f32⟩
  | 27 => ⟨S8x64x128, .f32⟩
  | 28 => ⟨S8x64x128, .f32⟩
  | 29 => ⟨S8x64x128, .f32⟩
  | 30 => ⟨S8x64x128, .f32⟩
  | 31 => ⟨S8x64x128, .f32⟩
  | 32 => ⟨S8x64x128, .f32⟩
  | 33 => ⟨S8, .f32⟩
  | 34 => ⟨S8x1x1, .f32⟩
  | 35 => ⟨S8x128x128, .f32⟩
  | 36 => ⟨S8x128x128, .f32⟩
  | 37 => ⟨S8x128x128, .f32⟩
  | 38 => ⟨S8x128x128, .f32⟩
  | 39 => ⟨S8x128x64, .f32⟩
  | 40 => ⟨S8x64x128, .f32⟩
  | 41 => ⟨S8x128x64, .f32⟩
  | 42 => ⟨S8x64x128, .f32⟩
  | 43 => ⟨S8x128x128, .f32⟩
  | 44 => ⟨S_, .f32⟩
  | 45 => ⟨S8, .f32⟩
  | 46 => ⟨S8x1x1, .f32⟩
  | 47 => ⟨S8x128x128, .f32⟩
  | 48 => ⟨S8x128x128, .f32⟩
  | 49 => ⟨S_, .f32⟩
  | 50 => ⟨S8, .f32⟩
  | 51 => ⟨S8, .f32⟩
  | 52 => ⟨S8x128x64, .f32⟩
  | 53 => ⟨S8x64x128, .f32⟩
  | 54 => ⟨S8x64x128, .f32⟩
  | 55 => ⟨S8x64x64, .f32⟩
  | 56 => ⟨S8x128x128, .f32⟩
  | 57 => ⟨S8x128x128, .f32⟩
  | 58 => ⟨S8x128x128, .f32⟩
  | 59 => ⟨S8x64x128, .f32⟩
  | 60 => ⟨S8x64x128, .f32⟩
  | 61 => ⟨S8x128x128, .f32⟩
  | 62 => ⟨S8x128x128, .f32⟩
  | 63 => ⟨S8x128x128, .f32⟩
  | 64 => ⟨S8x64x128, .f32⟩
  | 65 => ⟨S8x64x128, .f32⟩
  | 66 => ⟨S_, .f32⟩
  | 67 => ⟨S8x64, .f32⟩
  | 68 => ⟨S8x64x1, .f32⟩
  | 69 => ⟨S8x64x128, .f32⟩
  | 70 => ⟨S8x64x128, .f32⟩
  | 71 => ⟨S_, .f32⟩
  | 72 => ⟨S8x64, .f32⟩
  | 73 => ⟨S8x64, .f32⟩
  | 74 => ⟨S_, .f32⟩
  | 75 => ⟨S8, .f32⟩
  | 76 => ⟨S8x1, .f32⟩
  | 77 => ⟨S8x64, .f32⟩
  | 78 => ⟨S_, .f32⟩
  | 79 => ⟨S8, .f32⟩
  | 80 => ⟨S8, .f32⟩
  | 81 => ⟨S8x1, .f32⟩
  | 82 => ⟨S_, .f32⟩
  | 83 => ⟨S8x64, .f32⟩
  | 84 => ⟨S8x64, .f32⟩
  | 85 => ⟨S8x64x128, .f32⟩
  | 86 => ⟨S_, .f32⟩
  | 87 => ⟨S8x64, .f32⟩
  | 88 => ⟨S8x64x1, .f32⟩
  | 89 => ⟨S8x64x128, .f32⟩
  | 90 => ⟨S8x64x128, .f32⟩
  | 91 => ⟨S_, .f32⟩
  | 92 => ⟨S8x64, .f32⟩
  | 93 => ⟨S8x64, .f32⟩
  | 94 => ⟨S8x64, .f32⟩
  | 95 => ⟨S8x64x64, .f32⟩
  | 96 => ⟨S8x64x64, .f32⟩
  | 97 => ⟨S8x64x128, .f32⟩
  | 98 => ⟨S8x64x128, .f32⟩
  | 99 => ⟨S8x64x128, .f32⟩
  | 100 => ⟨S8x64x128, .f32⟩
  | 101 => ⟨S8x64x64, .f32⟩
  | 102 => ⟨S8x64x128, .f32⟩
  | 103 => ⟨S_, .f32⟩
  | 104 => ⟨S8x64x64, .f32⟩
  | 105 => ⟨S8x128x64, .f32⟩
  | 106 => ⟨S8x64x64, .f32⟩
  | 107 => ⟨S8x64x64, .f32⟩
  | 108 => ⟨S8x64x128, .f32⟩
  | 109 => ⟨S_, .f32⟩
  | 110 => ⟨S8x64, .f32⟩
  | 111 => ⟨S8x64x1, .f32⟩
  | 112 => ⟨S8x64x128, .f32⟩
  | 113 => ⟨S8x64x128, .f32⟩
  | 114 => ⟨S_, .f32⟩
  | 115 => ⟨S8x64, .f32⟩
  | 116 => ⟨S8x64, .f32⟩
  | 117 => ⟨S8x64, .f32⟩
  | 118 => ⟨S8x64x64, .f32⟩
  | 119 => ⟨S8x64x128, .f32⟩
  | 120 => ⟨S_, .f32⟩
  | 121 => ⟨S8x64x64, .f32⟩
  | 122 => ⟨S8x128x64, .f32⟩
  | 123 => ⟨S8x64x64, .f32⟩
  | 124 => ⟨S8x64x64, .f32⟩
  | 125 => ⟨S8x64x64, .f32⟩
  | 126 => ⟨S_, .f32⟩
  | 127 => ⟨S8x64x64, .f32⟩
  | _ => ⟨S3x8320x1024, .f32⟩

abbrev hbmTy0_2 (i : Nat) : BufTy := match i % 128 with
  | 0 => ⟨S8x64x64, .f32⟩
  | 1 => ⟨S8x64x64, .f32⟩
  | 2 => ⟨S8x64x64, .f32⟩
  | 3 => ⟨S8x64x64, .f32⟩
  | 4 => ⟨S8x64x128, .f32⟩
  | 5 => ⟨S8x64x128, .f32⟩
  | 6 => ⟨S8x64x128, .f32⟩
  | 7 => ⟨S8x64x128, .f32⟩
  | 8 => ⟨S8x64x128, .f32⟩
  | 9 => ⟨S_, .f32⟩
  | 10 => ⟨S8x64, .f32⟩
  | 11 => ⟨S8x64x1, .f32⟩
  | 12 => ⟨S8x64x128, .f32⟩
  | 13 => ⟨S8x64x128, .f32⟩
  | 14 => ⟨S_, .f32⟩
  | 15 => ⟨S8x64, .f32⟩
  | 16 => ⟨S8x64x128, .f32⟩
  | 17 => ⟨S_, .f32⟩
  | 18 => ⟨S8x64, .f32⟩
  | 19 => ⟨S8x64x1, .f32⟩
  | 20 => ⟨S8x64x128, .f32⟩
  | 21 => ⟨S8x64x128, .f32⟩
  | 22 => ⟨S8x64x128, .f32⟩
  | 23 => ⟨S_, .f32⟩
  | 24 => ⟨S8x64, .f32⟩
  | 25 => ⟨S8x64, .f32⟩
  | 26 => ⟨S8x64x64, .f32⟩
  | 27 => ⟨S_, .f32⟩
  | 28 => ⟨S8x64x64, .f32⟩
  | 29 => ⟨S8x64x64, .f32⟩
  | 30 => ⟨S_, .f32⟩
  | 31 => ⟨S8x64, .f32⟩
  | 32 => ⟨S8x64x1, .f32⟩
  | 33 => ⟨S8x64x64, .f32⟩
  | 34 => ⟨S_, .f32⟩
  | 35 => ⟨S8x64, .f32⟩
  | 36 => ⟨S8x1x64, .f32⟩
  | 37 => ⟨S_, .f32⟩
  | 38 => ⟨S8x64, .f32⟩
  | 39 => ⟨S8x64, .f32⟩
  | 40 => ⟨S_, .f32⟩
  | 41 => ⟨S8x64, .f32⟩
  | 42 => ⟨S8x64, .f32⟩
  | 43 => ⟨S_, .f32⟩
  | 44 => ⟨S_, .f32⟩
  | 45 => ⟨S8x64, .f32⟩
  | 46 => ⟨S1x8x64x128, .f32⟩
  | 47 => ⟨S1x8x64x128, .f32⟩
  | 48 => ⟨S1x8x64x128, .f32⟩
  | 49 => ⟨S3x8x64x128, .f32⟩
  | 50 => ⟨S16x64, .f32⟩
  | 51 => ⟨S1x3x8x64x128, .f32⟩
  | 52 => ⟨S_, .i32⟩
  | 53 => ⟨S_, .i32⟩
  | 54 => ⟨S_, .i32⟩
  | 55 => ⟨S_, .i32⟩
  | 56 => ⟨S130x3x8x64x128, .f32⟩
  | 57 => ⟨S1x16x64, .f32⟩
  | 58 => ⟨S_, .i32⟩
  | 59 => ⟨S_, .i32⟩
  | 60 => ⟨S130x16x64, .f32⟩
  | 61 => ⟨S_, .i32⟩
  | 62 => ⟨S_, .i32⟩
  | 63 => ⟨S130x64x16, .f32⟩
  | 64 => ⟨S8320x16, .f32⟩
  | 65 => ⟨S3x130x64x8x128, .f32⟩
  | 66 => ⟨S3x8320x1024, .f32⟩
  | 67 => ⟨S_, .f32⟩
  | 68 => ⟨S8320x112, .f32⟩
  | 69 => ⟨S8320x128, .f32⟩
  | _ => ⟨S3x8320x1024, .f32⟩

abbrev hbmTy (i : Nat) : BufTy := match i / 128 with
  | 0 => hbmTy0_0 i
  | 1 => hbmTy0_1 i
  | 2 => hbmTy0_2 i
  | _ => ⟨S3x8320x1024, .f32⟩

abbrev bufTy : (tb : Table) → Fin (tcTables nBuf tb) → BufTy
  | .hbm, ⟨i, _⟩ => hbmTy i
  | _, _ => ⟨S3x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_c : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev main_v20_6 : Ref sig .tc := ⟨.hbm, 35, rfl⟩
abbrev main_v20_7 : Ref sig .tc := ⟨.hbm, 36, rfl⟩
abbrev main_v20_8 : Ref sig .tc := ⟨.hbm, 37, rfl⟩
abbrev main_v20_9 : Ref sig .tc := ⟨.hbm, 38, rfl⟩
abbrev main_v20_10 : Ref sig .tc := ⟨.hbm, 39, rfl⟩
abbrev main_while0c_c_13 : Ref sig .tc := ⟨.hbm, 40, rfl⟩
abbrev main_while0c_v27 : Ref sig .tc := ⟨.hbm, 41, rfl⟩
abbrev main_while0b_c_13 : Ref sig .tc := ⟨.hbm, 42, rfl⟩
abbrev main_while0b_v27 : Ref sig .tc := ⟨.hbm, 43, rfl⟩
abbrev main_while0b_c_14 : Ref sig .tc := ⟨.hbm, 44, rfl⟩
abbrev main_while0b_v28 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_c_1 : Ref sig .tc := ⟨.hbm, 48, rfl⟩
abbrev main_while0b_call0_v0 : Ref sig .tc := ⟨.hbm, 49, rfl⟩
abbrev main_while0b_v29 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_c_1 : Ref sig .tc := ⟨.hbm, 53, rfl⟩
abbrev main_while0b_call1_v0 : Ref sig .tc := ⟨.hbm, 54, rfl⟩
abbrev main_while0b_v30 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_v0 : Ref sig .tc := ⟨.hbm, 59, rfl⟩
abbrev main_while0b_v31 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_v0 : Ref sig .tc := ⟨.hbm, 64, rfl⟩
abbrev main_while0b_v32 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_v0 : Ref sig .tc := ⟨.hbm, 69, rfl⟩
abbrev main_while0b_v33 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_v0 : Ref sig .tc := ⟨.hbm, 73, rfl⟩
abbrev main_while0b_v34 : Ref sig .tc := ⟨.hbm, 74, rfl⟩
abbrev main_while0b_call6_c : Ref sig .tc := ⟨.hbm, 75, rfl⟩
abbrev main_while0b_call6_c_0 : Ref sig .tc := ⟨.hbm, 76, rfl⟩
abbrev main_while0b_call6_c_1 : Ref sig .tc := ⟨.hbm, 77, rfl⟩
abbrev main_while0b_call6_v0 : Ref sig .tc := ⟨.hbm, 78, rfl⟩
abbrev main_while0b_v35 : Ref sig .tc := ⟨.hbm, 79, rfl⟩
abbrev main_while0b_v36 : Ref sig .tc := ⟨.hbm, 80, rfl⟩
abbrev main_while0b_v37 : Ref sig .tc := ⟨.hbm, 81, rfl⟩
abbrev main_while0b_call7_call0_cst : Ref sig .tc := ⟨.hbm, 82, rfl⟩
abbrev main_while0b_call7_call0_v0 : Ref sig .tc := ⟨.hbm, 83, rfl⟩
abbrev main_while0b_v38 : Ref sig .tc := ⟨.hbm, 84, rfl⟩
abbrev main_while0b_c_15 : Ref sig .tc := ⟨.hbm, 85, rfl⟩
abbrev main_while0b_v39 : Ref sig .tc := ⟨.hbm, 86, rfl⟩
abbrev main_while0b_call8_v0 : Ref sig .tc := ⟨.hbm, 87, rfl⟩
abbrev main_while0b_call8_c : Ref sig .tc := ⟨.hbm, 88, rfl⟩
abbrev main_while0b_call8_v1 : Ref sig .tc := ⟨.hbm, 89, rfl⟩
abbrev main_while0b_call8_v2 : Ref sig .tc := ⟨.hbm, 90, rfl⟩
abbrev main_while0b_call8_v3 : Ref sig .tc := ⟨.hbm, 91, rfl⟩
abbrev main_while0b_call8_v4 : Ref sig .tc := ⟨.hbm, 92, rfl⟩
abbrev main_while0b_call8_c_0 : Ref sig .tc := ⟨.hbm, 93, rfl⟩
abbrev main_while0b_call8_v5 : Ref sig .tc := ⟨.hbm, 94, rfl⟩
abbrev main_while0b_v40 : Ref sig .tc := ⟨.hbm, 95, rfl⟩
abbrev main_while0b_c_16 : Ref sig .tc := ⟨.hbm, 96, rfl⟩
abbrev main_while0b_v41 : Ref sig .tc := ⟨.hbm, 97, rfl⟩
abbrev main_while0b_call9_v0 : Ref sig .tc := ⟨.hbm, 98, rfl⟩
abbrev main_while0b_call9_c : Ref sig .tc := ⟨.hbm, 99, rfl⟩
abbrev main_while0b_call9_v1 : Ref sig .tc := ⟨.hbm, 100, rfl⟩
abbrev main_while0b_call9_v2 : Ref sig .tc := ⟨.hbm, 101, rfl⟩
abbrev main_while0b_call9_v3 : Ref sig .tc := ⟨.hbm, 102, rfl⟩
abbrev main_while0b_call9_v4 : Ref sig .tc := ⟨.hbm, 103, rfl⟩
abbrev main_while0b_call9_c_0 : Ref sig .tc := ⟨.hbm, 104, rfl⟩
abbrev main_while0b_call9_v5 : Ref sig .tc := ⟨.hbm, 105, rfl⟩
abbrev main_while0b_v42 : Ref sig .tc := ⟨.hbm, 106, rfl⟩
abbrev main_while0b_v43 : Ref sig .tc := ⟨.hbm, 107, rfl⟩
abbrev main_while0b_v44 : Ref sig .tc := ⟨.hbm, 108, rfl⟩
abbrev main_while0b_v45 : Ref sig .tc := ⟨.hbm, 109, rfl⟩
abbrev main_while0b_v46 : Ref sig .tc := ⟨.hbm, 110, rfl⟩
abbrev main_while0b_v47 : Ref sig .tc := ⟨.hbm, 111, rfl⟩
abbrev main_while0b_cst_17 : Ref sig .tc := ⟨.hbm, 112, rfl⟩
abbrev main_while0b_call10_v0 : Ref sig .tc := ⟨.hbm, 113, rfl⟩
abbrev main_while0b_v48_1 : Ref sig .tc := ⟨.hbm, 114, rfl⟩
abbrev main_while0b_call10_v2 : Ref sig .tc := ⟨.hbm, 115, rfl⟩
abbrev main_while0b_v48_0 : Ref sig .tc := ⟨.hbm, 116, rfl⟩
abbrev main_while0b_call10_cst : Ref sig .tc := ⟨.hbm, 117, rfl⟩
abbrev main_while0b_v48_2 : Ref sig .tc := ⟨.hbm, 118, rfl⟩
abbrev main_while0b_v49 : Ref sig .tc := ⟨.hbm, 119, rfl⟩
abbrev main_while0b_v50 : Ref sig .tc := ⟨.hbm, 120, rfl⟩
abbrev main_while0b_v51 : Ref sig .tc := ⟨.hbm, 121, rfl⟩
abbrev main_while0b_v52 : Ref sig .tc := ⟨.hbm, 122, rfl⟩
abbrev main_while0b_v53 : Ref sig .tc := ⟨.hbm, 123, rfl⟩
abbrev main_while0b_v54 : Ref sig .tc := ⟨.hbm, 124, rfl⟩
abbrev main_while0b_v55 : Ref sig .tc := ⟨.hbm, 125, rfl⟩
abbrev main_while0b_v56 : Ref sig .tc := ⟨.hbm, 126, rfl⟩
abbrev main_while0b_v57 : Ref sig .tc := ⟨.hbm, 127, rfl⟩
abbrev main_while0b_cst_18 : Ref sig .tc := ⟨.hbm, 128, rfl⟩
abbrev main_while0b_call11_v0 : Ref sig .tc := ⟨.hbm, 129, rfl⟩
abbrev main_while0b_v58_1 : Ref sig .tc := ⟨.hbm, 130, rfl⟩
abbrev main_while0b_call11_v2 : Ref sig .tc := ⟨.hbm, 131, rfl⟩
abbrev main_while0b_v58_0 : Ref sig .tc := ⟨.hbm, 132, rfl⟩
abbrev main_while0b_call11_cst : Ref sig .tc := ⟨.hbm, 133, rfl⟩
abbrev main_while0b_v58_2 : Ref sig .tc := ⟨.hbm, 134, rfl⟩
abbrev main_while0b_v59 : Ref sig .tc := ⟨.hbm, 135, rfl⟩
abbrev main_while0b_v60 : Ref sig .tc := ⟨.hbm, 136, rfl⟩
abbrev main_while0b_v61 : Ref sig .tc := ⟨.hbm, 137, rfl⟩
abbrev main_while0b_v62 : Ref sig .tc := ⟨.hbm, 138, rfl⟩
abbrev main_while0b_v63 : Ref sig .tc := ⟨.hbm, 139, rfl⟩
abbrev main_while0b_v64 : Ref sig .tc := ⟨.hbm, 140, rfl⟩
abbrev main_while0b_v65 : Ref sig .tc := ⟨.hbm, 141, rfl⟩
abbrev main_while0b_v66 : Ref sig .tc := ⟨.hbm, 142, rfl⟩
abbrev main_while0b_v67 : Ref sig .tc := ⟨.hbm, 143, rfl⟩
abbrev main_while0b_v68 : Ref sig .tc := ⟨.hbm, 144, rfl⟩
abbrev main_while0b_v69 : Ref sig .tc := ⟨.hbm, 145, rfl⟩
abbrev main_while0b_v70 : Ref sig .tc := ⟨.hbm, 146, rfl⟩
abbrev main_while0b_v71 : Ref sig .tc := ⟨.hbm, 147, rfl⟩
abbrev main_while0b_v72 : Ref sig .tc := ⟨.hbm, 148, rfl⟩
abbrev main_while0b_v73 : Ref sig .tc := ⟨.hbm, 149, rfl⟩
abbrev main_while0b_v74 : Ref sig .tc := ⟨.hbm, 150, rfl⟩
abbrev main_while0b_v75 : Ref sig .tc := ⟨.hbm, 151, rfl⟩
abbrev main_while0b_v76 : Ref sig .tc := ⟨.hbm, 152, rfl⟩
abbrev main_while0b_v77 : Ref sig .tc := ⟨.hbm, 153, rfl⟩
abbrev main_while0b_v78 : Ref sig .tc := ⟨.hbm, 154, rfl⟩
abbrev main_while0b_v79 : Ref sig .tc := ⟨.hbm, 155, rfl⟩
abbrev main_while0b_v80 : Ref sig .tc := ⟨.hbm, 156, rfl⟩
abbrev main_while0b_v81 : Ref sig .tc := ⟨.hbm, 157, rfl⟩
abbrev main_while0b_v82 : Ref sig .tc := ⟨.hbm, 158, rfl⟩
abbrev main_while0b_v83 : Ref sig .tc := ⟨.hbm, 159, rfl⟩
abbrev main_while0b_v84 : Ref sig .tc := ⟨.hbm, 160, rfl⟩
abbrev main_while0b_v85 : Ref sig .tc := ⟨.hbm, 161, rfl⟩
abbrev main_while0b_v86 : Ref sig .tc := ⟨.hbm, 162, rfl⟩
abbrev main_while0b_v87 : Ref sig .tc := ⟨.hbm, 163, rfl⟩
abbrev main_while0b_v88 : Ref sig .tc := ⟨.hbm, 164, rfl⟩
abbrev main_while0b_v89 : Ref sig .tc := ⟨.hbm, 165, rfl⟩
abbrev main_while0b_v90 : Ref sig .tc := ⟨.hbm, 166, rfl⟩
abbrev main_while0b_v91 : Ref sig .tc := ⟨.hbm, 167, rfl⟩
abbrev main_while0b_v92 : Ref sig .tc := ⟨.hbm, 168, rfl⟩
abbrev main_while0b_v93 : Ref sig .tc := ⟨.hbm, 169, rfl⟩
abbrev main_while0b_v94 : Ref sig .tc := ⟨.hbm, 170, rfl⟩
abbrev main_while0b_v95 : Ref sig .tc := ⟨.hbm, 171, rfl⟩
abbrev main_while0b_cst_19 : Ref sig .tc := ⟨.hbm, 172, rfl⟩
abbrev main_while0b_v96 : Ref sig .tc := ⟨.hbm, 173, rfl⟩
abbrev main_while0b_v97 : Ref sig .tc := ⟨.hbm, 174, rfl⟩
abbrev main_while0b_v98 : Ref sig .tc := ⟨.hbm, 175, rfl⟩
abbrev main_while0b_v99 : Ref sig .tc := ⟨.hbm, 176, rfl⟩
abbrev main_while0b_cst_20 : Ref sig .tc := ⟨.hbm, 177, rfl⟩
abbrev main_while0b_v100 : Ref sig .tc := ⟨.hbm, 178, rfl⟩
abbrev main_while0b_v101 : Ref sig .tc := ⟨.hbm, 179, rfl⟩
abbrev main_while0b_v102 : Ref sig .tc := ⟨.hbm, 180, rfl⟩
abbrev main_while0b_v103 : Ref sig .tc := ⟨.hbm, 181, rfl⟩
abbrev main_while0b_v104 : Ref sig .tc := ⟨.hbm, 182, rfl⟩
abbrev main_while0b_v105 : Ref sig .tc := ⟨.hbm, 183, rfl⟩
abbrev main_while0b_v106 : Ref sig .tc := ⟨.hbm, 184, rfl⟩
abbrev main_while0b_v107 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_v111 : Ref sig .tc := ⟨.hbm, 189, rfl⟩
abbrev main_while0b_v112 : Ref sig .tc := ⟨.hbm, 190, rfl⟩
abbrev main_while0b_v113 : Ref sig .tc := ⟨.hbm, 191, rfl⟩
abbrev main_while0b_v114 : Ref sig .tc := ⟨.hbm, 192, rfl⟩
abbrev main_while0b_v115 : Ref sig .tc := ⟨.hbm, 193, rfl⟩
abbrev main_while0b_cst_21 : Ref sig .tc := ⟨.hbm, 194, rfl⟩
abbrev main_while0b_v116 : Ref sig .tc := ⟨.hbm, 195, rfl⟩
abbrev main_while0b_v117 : Ref sig .tc := ⟨.hbm, 196, rfl⟩
abbrev main_while0b_v118 : Ref sig .tc := ⟨.hbm, 197, rfl⟩
abbrev main_while0b_v119 : Ref sig .tc := ⟨.hbm, 198, rfl⟩
abbrev main_while0b_cst_22 : Ref sig .tc := ⟨.hbm, 199, rfl⟩
abbrev main_while0b_v120 : Ref sig .tc := ⟨.hbm, 200, rfl⟩
abbrev main_while0b_v121 : Ref sig .tc := ⟨.hbm, 201, rfl⟩
abbrev main_while0b_cst_23 : Ref sig .tc := ⟨.hbm, 202, rfl⟩
abbrev main_while0b_v122 : Ref sig .tc := ⟨.hbm, 203, rfl⟩
abbrev main_while0b_v123 : Ref sig .tc := ⟨.hbm, 204, rfl⟩
abbrev main_while0b_v124 : Ref sig .tc := ⟨.hbm, 205, rfl⟩
abbrev main_while0b_cst_24 : Ref sig .tc := ⟨.hbm, 206, rfl⟩
abbrev main_while0b_v125 : Ref sig .tc := ⟨.hbm, 207, rfl⟩
abbrev main_while0b_v126 : Ref sig .tc := ⟨.hbm, 208, rfl⟩
abbrev main_while0b_v127 : Ref sig .tc := ⟨.hbm, 209, rfl⟩
abbrev main_while0b_cst_25 : Ref sig .tc := ⟨.hbm, 210, rfl⟩
abbrev main_while0b_v128 : Ref sig .tc := ⟨.hbm, 211, rfl⟩
abbrev main_while0b_v129 : Ref sig .tc := ⟨.hbm, 212, rfl⟩
abbrev main_while0b_v130 : Ref sig .tc := ⟨.hbm, 213, rfl⟩
abbrev main_while0b_cst_26 : Ref sig .tc := ⟨.hbm, 214, rfl⟩
abbrev main_while0b_v131 : Ref sig .tc := ⟨.hbm, 215, rfl⟩
abbrev main_while0b_v132 : Ref sig .tc := ⟨.hbm, 216, rfl⟩
abbrev main_while0b_v133 : Ref sig .tc := ⟨.hbm, 217, rfl⟩
abbrev main_while0b_v134 : Ref sig .tc := ⟨.hbm, 218, rfl⟩
abbrev main_while0b_cst_27 : Ref sig .tc := ⟨.hbm, 219, rfl⟩
abbrev main_while0b_v135 : Ref sig .tc := ⟨.hbm, 220, rfl⟩
abbrev main_while0b_v136 : Ref sig .tc := ⟨.hbm, 221, rfl⟩
abbrev main_while0b_v137 : Ref sig .tc := ⟨.hbm, 222, rfl⟩
abbrev main_while0b_v138 : Ref sig .tc := ⟨.hbm, 223, rfl⟩
abbrev main_while0b_v139 : Ref sig .tc := ⟨.hbm, 224, rfl⟩
abbrev main_while0b_v140 : Ref sig .tc := ⟨.hbm, 225, rfl⟩
abbrev main_while0b_v141 : Ref sig .tc := ⟨.hbm, 226, rfl⟩
abbrev main_while0b_v142 : Ref sig .tc := ⟨.hbm, 227, rfl⟩
abbrev main_while0b_v143 : Ref sig .tc := ⟨.hbm, 228, rfl⟩
abbrev main_while0b_v144 : Ref sig .tc := ⟨.hbm, 229, rfl⟩
abbrev main_while0b_v145 : Ref sig .tc := ⟨.hbm, 230, rfl⟩
abbrev main_while0b_cst_28 : Ref sig .tc := ⟨.hbm, 231, rfl⟩
abbrev main_while0b_v146 : Ref sig .tc := ⟨.hbm, 232, rfl⟩
abbrev main_while0b_v147 : Ref sig .tc := ⟨.hbm, 233, rfl⟩
abbrev main_while0b_v148 : Ref sig .tc := ⟨.hbm, 234, rfl⟩
abbrev main_while0b_v149 : Ref sig .tc := ⟨.hbm, 235, rfl⟩
abbrev main_while0b_v150 : Ref sig .tc := ⟨.hbm, 236, rfl⟩
abbrev main_while0b_cst_29 : Ref sig .tc := ⟨.hbm, 237, rfl⟩
abbrev main_while0b_v151 : Ref sig .tc := ⟨.hbm, 238, rfl⟩
abbrev main_while0b_v152 : Ref sig .tc := ⟨.hbm, 239, rfl⟩
abbrev main_while0b_v153 : Ref sig .tc := ⟨.hbm, 240, rfl⟩
abbrev main_while0b_v154 : Ref sig .tc := ⟨.hbm, 241, rfl⟩
abbrev main_while0b_cst_30 : Ref sig .tc := ⟨.hbm, 242, rfl⟩
abbrev main_while0b_v155 : Ref sig .tc := ⟨.hbm, 243, rfl⟩
abbrev main_while0b_v156 : Ref sig .tc := ⟨.hbm, 244, rfl⟩
abbrev main_while0b_v157 : Ref sig .tc := ⟨.hbm, 245, rfl⟩
abbrev main_while0b_v158 : Ref sig .tc := ⟨.hbm, 246, rfl⟩
abbrev main_while0b_v159 : Ref sig .tc := ⟨.hbm, 247, rfl⟩
abbrev main_while0b_cst_31 : Ref sig .tc := ⟨.hbm, 248, rfl⟩
abbrev main_while0b_v160 : Ref sig .tc := ⟨.hbm, 249, rfl⟩
abbrev main_while0b_v161 : Ref sig .tc := ⟨.hbm, 250, rfl⟩
abbrev main_while0b_v162 : Ref sig .tc := ⟨.hbm, 251, rfl⟩
abbrev main_while0b_v163 : Ref sig .tc := ⟨.hbm, 252, rfl⟩
abbrev main_while0b_v164 : Ref sig .tc := ⟨.hbm, 253, rfl⟩
abbrev main_while0b_call12_cst : Ref sig .tc := ⟨.hbm, 254, rfl⟩
abbrev main_while0b_call12_v0 : Ref sig .tc := ⟨.hbm, 255, rfl⟩
abbrev main_while0b_v165 : Ref sig .tc := ⟨.hbm, 256, rfl⟩
abbrev main_while0b_v166 : Ref sig .tc := ⟨.hbm, 257, rfl⟩
abbrev main_while0b_v167 : Ref sig .tc := ⟨.hbm, 258, rfl⟩
abbrev main_while0b_v168 : Ref sig .tc := ⟨.hbm, 259, rfl⟩
abbrev main_while0b_v169 : Ref sig .tc := ⟨.hbm, 260, rfl⟩
abbrev main_while0b_v170 : Ref sig .tc := ⟨.hbm, 261, rfl⟩
abbrev main_while0b_v171 : Ref sig .tc := ⟨.hbm, 262, rfl⟩
abbrev main_while0b_v172 : Ref sig .tc := ⟨.hbm, 263, rfl⟩
abbrev main_while0b_v173 : Ref sig .tc := ⟨.hbm, 264, rfl⟩
abbrev main_while0b_cst_32 : Ref sig .tc := ⟨.hbm, 265, rfl⟩
abbrev main_while0b_v174 : Ref sig .tc := ⟨.hbm, 266, rfl⟩
abbrev main_while0b_v175 : Ref sig .tc := ⟨.hbm, 267, rfl⟩
abbrev main_while0b_v176 : Ref sig .tc := ⟨.hbm, 268, rfl⟩
abbrev main_while0b_v177 : Ref sig .tc := ⟨.hbm, 269, rfl⟩
abbrev main_while0b_cst_33 : Ref sig .tc := ⟨.hbm, 270, rfl⟩
abbrev main_while0b_v178 : Ref sig .tc := ⟨.hbm, 271, rfl⟩
abbrev main_while0b_v179 : Ref sig .tc := ⟨.hbm, 272, rfl⟩
abbrev main_while0b_cst_34 : Ref sig .tc := ⟨.hbm, 273, rfl⟩
abbrev main_while0b_v180 : Ref sig .tc := ⟨.hbm, 274, rfl⟩
abbrev main_while0b_v181 : Ref sig .tc := ⟨.hbm, 275, rfl⟩
abbrev main_while0b_v182 : Ref sig .tc := ⟨.hbm, 276, rfl⟩
abbrev main_while0b_v183 : Ref sig .tc := ⟨.hbm, 277, rfl⟩
abbrev main_while0b_v184 : Ref sig .tc := ⟨.hbm, 278, rfl⟩
abbrev main_while0b_cst_35 : Ref sig .tc := ⟨.hbm, 279, rfl⟩
abbrev main_while0b_v185 : Ref sig .tc := ⟨.hbm, 280, rfl⟩
abbrev main_while0b_v186 : Ref sig .tc := ⟨.hbm, 281, rfl⟩
abbrev main_while0b_v187 : Ref sig .tc := ⟨.hbm, 282, rfl⟩
abbrev main_while0b_call13_cst : Ref sig .tc := ⟨.hbm, 283, rfl⟩
abbrev main_while0b_call13_v0 : Ref sig .tc := ⟨.hbm, 284, rfl⟩
abbrev main_while0b_v188 : Ref sig .tc := ⟨.hbm, 285, rfl⟩
abbrev main_while0b_cst_36 : Ref sig .tc := ⟨.hbm, 286, rfl⟩
abbrev main_while0b_v189 : Ref sig .tc := ⟨.hbm, 287, rfl⟩
abbrev main_while0b_v190 : Ref sig .tc := ⟨.hbm, 288, rfl⟩
abbrev main_while0b_v191 : Ref sig .tc := ⟨.hbm, 289, rfl⟩
abbrev main_while0b_cst_37 : Ref sig .tc := ⟨.hbm, 290, rfl⟩
abbrev main_while0b_v192 : Ref sig .tc := ⟨.hbm, 291, rfl⟩
abbrev main_while0b_v193 : Ref sig .tc := ⟨.hbm, 292, rfl⟩
abbrev main_while0b_cst_38 : Ref sig .tc := ⟨.hbm, 293, rfl⟩
abbrev main_while0b_v194 : Ref sig .tc := ⟨.hbm, 294, rfl⟩
abbrev main_while0b_v195 : Ref sig .tc := ⟨.hbm, 295, rfl⟩
abbrev main_while0b_cst_39 : Ref sig .tc := ⟨.hbm, 296, rfl⟩
abbrev main_while0b_v196 : Ref sig .tc := ⟨.hbm, 297, rfl⟩
abbrev main_while0b_v197 : Ref sig .tc := ⟨.hbm, 298, rfl⟩
abbrev main_while0b_call14_call0_cst : Ref sig .tc := ⟨.hbm, 299, rfl⟩
abbrev main_while0b_call14_call0_v0 : Ref sig .tc := ⟨.hbm, 300, rfl⟩
abbrev main_while0b_v198 : Ref sig .tc := ⟨.hbm, 301, rfl⟩
abbrev main_while0b_v199 : Ref sig .tc := ⟨.hbm, 302, rfl⟩
abbrev main_while0b_v200 : Ref sig .tc := ⟨.hbm, 303, rfl⟩
abbrev main_while0b_v201 : Ref sig .tc := ⟨.hbm, 304, rfl⟩
abbrev main_while0b_v202 : Ref sig .tc := ⟨.hbm, 305, rfl⟩
abbrev main_while0b_v203 : Ref sig .tc := ⟨.hbm, 306, rfl⟩
abbrev main_while0b_call15_v0 : Ref sig .tc := ⟨.hbm, 307, rfl⟩
abbrev main_while0b_call15_c : Ref sig .tc := ⟨.hbm, 308, rfl⟩
abbrev main_while0b_call15_c_0 : Ref sig .tc := ⟨.hbm, 309, rfl⟩
abbrev main_while0b_call15_c_1 : Ref sig .tc := ⟨.hbm, 310, rfl⟩
abbrev main_while0b_call15_c_2 : Ref sig .tc := ⟨.hbm, 311, rfl⟩
abbrev main_while0b_v204 : Ref sig .tc := ⟨.hbm, 312, rfl⟩
abbrev main_while0b_call16_v0 : Ref sig .tc := ⟨.hbm, 313, rfl⟩
abbrev main_while0b_call16_c : Ref sig .tc := ⟨.hbm, 314, rfl⟩
abbrev main_while0b_call16_c_0 : Ref sig .tc := ⟨.hbm, 315, rfl⟩
abbrev main_while0b_v205 : Ref sig .tc := ⟨.hbm, 316, rfl⟩
abbrev main_while0b_c_40 : Ref sig .tc := ⟨.hbm, 317, rfl⟩
abbrev main_while0b_v206 : Ref sig .tc := ⟨.hbm, 318, rfl⟩
abbrev main_v21 : Ref sig .tc := ⟨.hbm, 319, rfl⟩
abbrev main_v22 : Ref sig .tc := ⟨.hbm, 320, rfl⟩
abbrev main_v23 : Ref sig .tc := ⟨.hbm, 321, rfl⟩
abbrev main_v24 : Ref sig .tc := ⟨.hbm, 322, rfl⟩
abbrev main_cst_2 : Ref sig .tc := ⟨.hbm, 323, rfl⟩
abbrev main_v25 : Ref sig .tc := ⟨.hbm, 324, rfl⟩
abbrev main_v26 : Ref sig .tc := ⟨.hbm, 325, rfl⟩

abbrev nD : Nat := 1
abbrev τ : Topo := Topo.v7x

variable {F : FTy → Type} [FloatOps F]

abbrev main_while0_count : Scf.Loop 32 := ⟨0#32, 130#32, 1#32⟩
-- ==== Kernel2.lean ====
abbrev S4x8320x1408 : Shape := ⟨3, ![4, 8320, 1408]⟩
abbrev S1x4x1024x1408 : Shape := ⟨4, ![1, 4, 1024, 1408]⟩
abbrev S1x8320x1024 : Shape := ⟨3, ![1, 8320, 1024]⟩
abbrev S1x1024 : Shape := ⟨2, ![1, 1024]⟩
abbrev S2x8x1024 : Shape := ⟨3, ![2, 8, 1024]⟩
abbrev S1x1040x1408 : Shape := ⟨3, ![1, 1040, 1408]⟩
abbrev S1x1x1024x1408 : Shape := ⟨4, ![1, 1, 1024, 1408]⟩
abbrev S1x1040x1024 : Shape := ⟨3, ![1, 1040, 1024]⟩
abbrev S1040x1408 : Shape := ⟨2, ![1040, 1408]⟩
abbrev S1024x1408 : Shape := ⟨2, ![1024, 1408]⟩
abbrev S1040x1024 : Shape := ⟨2, ![1040, 1024]⟩
abbrev S1x520x1024 : Shape := ⟨3, ![1, 520, 1024]⟩
abbrev S520x1024 : Shape := ⟨2, ![520, 1024]⟩
abbrev S520 : Shape := ⟨1, ![520]⟩
abbrev S520x1 : Shape := ⟨2, ![520, 1]⟩
abbrev S65x8x1024 : Shape := ⟨3, ![65, 8, 1024]⟩
abbrev S8x1024 : Shape := ⟨2, ![8, 1024]⟩
abbrev S1x8x1024 : Shape := ⟨3, ![1, 8, 1024]⟩
abbrev S_ : Shape := ⟨0, ![]⟩
abbrev S1024 : Shape := ⟨1, ![1024]⟩

abbrev nBuf : Space → Nat
  | .hbm => 15
  | .vmem => 12
  | .smem => 0
  | _ => 0

abbrev bufTy : (tb : Table) → Fin (tcTables nBuf tb) → BufTy
  | .hbm, ⟨0, _⟩ => ⟨S4x8320x1408, .bf16⟩
  | .hbm, ⟨1, _⟩ => ⟨S1x4x1024x1408, .bf16⟩
  | .hbm, ⟨2, _⟩ => ⟨S1x8320x1024, .f32⟩
  | .hbm, ⟨3, _⟩ => ⟨S1x8320x1024, .f32⟩
  | .hbm, ⟨4, _⟩ => ⟨S1x1024, .f32⟩
  | .hbm, ⟨5, _⟩ => ⟨S1x8320x1024, .f32⟩
  | .hbm, ⟨6, _⟩ => ⟨S2x8x1024, .f32⟩
  | .hbm, ⟨7, _⟩ => ⟨S1x8x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S1x8x1024, .f32⟩
  | .hbm, ⟨12, _⟩ => ⟨S8x1024, .f32⟩
  | .hbm, ⟨13, _⟩ => ⟨S_, .f32⟩
  | .hbm, ⟨14, _⟩ => ⟨S1024, .f32⟩
  | .local _ .vmem, ⟨0, _⟩ => ⟨S1x1040x1408, .bf16⟩
  | .local _ .vmem, ⟨1, _⟩ => ⟨S1x1040x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1040x1024, .f32⟩
  | .local _ .vmem, ⟨5, _⟩ => ⟨S1x1040x1024, .f32⟩
  | .local _ .vmem, ⟨6, _⟩ => ⟨S1x1040x1024, .f32⟩
  | .local _ .vmem, ⟨7, _⟩ => ⟨S1x1040x1024, .f32⟩
  | .local _ .vmem, ⟨8, _⟩ => ⟨S1x1024, .f32⟩
  | .local _ .vmem, ⟨9, _⟩ => ⟨S1x1040x1024, .f32⟩
  | .local _ .vmem, ⟨10, _⟩ => ⟨S1x1040x1024, .f32⟩
  | .local _ .vmem, ⟨11, _⟩ => ⟨S2x8x1024, .f32⟩
  | _, _ => ⟨S4x8320x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_8 : BitVec 32 := 0#32
  let v10 : BitVec 1 := Scalar.cmpi .eq arg1 c0_i32_8
  let v11 : BitVec 32 := Scalar.extui v10
  let c0_i32_9 : BitVec 32 := 0#32
  let v12 : BitVec 1 := Scalar.cmpi .ne v11 c0_i32_9
  v12

def k0_cond3 (i : grid0.Coords) : BitVec 1 :=
  let arg1 : BitVec 32 := BitVec.ofNat 32 (i 1).val
  let c0_i32_10 : BitVec 32 := 0#32
  let v13 : BitVec 1 := Scalar.cmpi .sgt arg1 c0_i32_10
  let v14 : BitVec 32 := Scalar.extui v13
  let c0_i32_11 : BitVec 32 := 0#32
  let v15 : BitVec 1 := Scalar.cmpi .ne v14 c0_i32_11
  v15

def k0_cond4 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_12 : BitVec 32 := 0#32
  let v18 : BitVec 1 := Scalar.cmpi .ne v17 c0_i32_12
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_6 : BitVec 32 := 0#32
  let v6 : BitVec 1 := Scalar.cmpi .eq arg1 c0_i32_6
  let v7 : BitVec 1 := Scalar.andi v5 v6
  let v8 : BitVec 32 := Scalar.extui v7
  let c0_i32_7 : BitVec 32 := 0#32
  let v9 : BitVec 1 := Scalar.cmpi .ne v8 c0_i32_7
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1040x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S4x8320x1408 : Shape := ⟨3, ![4, 8320, 1408]⟩
abbrev S1x4x1024x1408 : Shape := ⟨4, ![1, 4, 1024, 1408]⟩
abbrev S1x8320x1024 : Shape := ⟨3, ![1, 8320, 1024]⟩
abbrev S1x1024 : Shape := ⟨2, ![1, 1024]⟩
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8320x5632 : Shape := ⟨2, ![8320, 5632]⟩
abbrev S1x8320x1408 : Shape := ⟨3, ![1, 8320, 1408]⟩
abbrev S8320x1408 : Shape := ⟨2, ![8320, 1408]⟩

abbrev nBuf : Space → Nat
  | .hbm => 122
  | .vmem => 0
  | .smem => 0
  | _ => 0

abbrev bufTy : (tb : Table) → Fin (tcTables nBuf tb) → BufTy
  | .hbm, ⟨0, _⟩ => ⟨S4x8320x1408, .bf16⟩
  | .hbm, ⟨1, _⟩ => ⟨S1x4x1024x1408, .bf16⟩
  | .hbm, ⟨2, _⟩ => ⟨S1x8320x1024, .f32⟩
  | .hbm, ⟨3, _⟩ => ⟨S1x8320x1024, .f32⟩
  | .hbm, ⟨4, _⟩ => ⟨S1x1024, .f32⟩
  | .hbm, ⟨5, _⟩ => ⟨S8320x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320x1024, .f32⟩
  | .hbm, ⟨21, _⟩ => ⟨S8320x1024, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x1, .f32⟩
  | .hbm, ⟨34, _⟩ => ⟨S8320x1, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S8320x1024, .f32⟩
  | .hbm, ⟨39, _⟩ => ⟨S8320x1024, .f32⟩
  | .hbm, ⟨40, _⟩ => ⟨S1x1024, .f32⟩
  | .hbm, ⟨41, _⟩ => ⟨S8320x1024, .f32⟩
  | .hbm, ⟨42, _⟩ => ⟨S8320x1024, .f32⟩
  | .hbm, ⟨43, _⟩ => ⟨S1x1024, .f32⟩
  | .hbm, ⟨44, _⟩ => ⟨S8320x1024, .f32⟩
  | .hbm, ⟨45, _⟩ => ⟨S8320x1024, .f32⟩
  | .hbm, ⟨46, _⟩ => ⟨S4x1024x1408, .bf16⟩
  | .hbm, ⟨47, _⟩ => ⟨S4x1024x1408, .f32⟩
  | .hbm, ⟨48, _⟩ => ⟨S1x1024x1408, .f32⟩
  | .hbm, ⟨49, _⟩ => ⟨S1024x1408, .f32⟩
  | .hbm, ⟨50, _⟩ => ⟨S1x1024x1408, .f32⟩
  | .hbm, ⟨51, _⟩ => ⟨S1024x1408, .f32⟩
  | .hbm, ⟨52, _⟩ => ⟨S1x1024x1408, .f32⟩
  | .hbm, ⟨53, _⟩ => ⟨S1024x1408, .f32⟩
  | .hbm, ⟨54, _⟩ => ⟨S1x1024x1408, .f32⟩
  | .hbm, ⟨55, _⟩ => ⟨S1024x1408, .f32⟩
  | .hbm, ⟨56, _⟩ => ⟨S1024x5632, .f32⟩
  | .hbm, ⟨57, _⟩ => ⟨S8320x5632, .f32⟩
  | .hbm, ⟨58, _⟩ => ⟨S_, .f32⟩
  | .hbm, ⟨59, _⟩ => ⟨S8320x1024, .f32⟩
  | .hbm, ⟨60, _⟩ => ⟨S8320x1024, .f32⟩
  | .hbm, ⟨61, _⟩ => ⟨S4x8320x1408, .f32⟩
  | .hbm, ⟨62, _⟩ => ⟨S1x8320x1408, .f32⟩
  | .hbm, ⟨63, _⟩ => ⟨S8320x1408, .f32⟩
  | .hbm, ⟨64, _⟩ => ⟨S1x8320x1408, .f32⟩
  | .hbm, ⟨65, _⟩ => ⟨S8320x1408, .f32⟩
  | .hbm, ⟨66, _⟩ => ⟨S1x8320x1408, .f32⟩
  | .hbm, ⟨67, _⟩ => ⟨S8320x1408, .f32⟩
  | .hbm, ⟨68, _⟩ => ⟨S1x8320x1408, .f32⟩
  | .hbm, ⟨69, _⟩ => ⟨S8320x1408, .f32⟩
  | .hbm, ⟨70, _⟩ => ⟨S8320x5632, .f32⟩
  | .hbm, ⟨71, _⟩ => ⟨S8320x1024, .f32⟩
  | .hbm, ⟨72, _⟩ => ⟨S_, .f32⟩
  | .hbm, ⟨73, _⟩ => ⟨S8320x1024, .f32⟩
  | .hbm, ⟨74, _⟩ => ⟨S8320x1024, .f32⟩
  | .hbm, ⟨75, _⟩ => ⟨S8320x1024, .f32⟩
  | .hbm, ⟨76, _⟩ => ⟨S8320x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S1024, .f32⟩
  | .hbm, ⟨82, _⟩ => ⟨S8320x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8320x1024, .f32⟩
  | .hbm, ⟨87, _⟩ => ⟨S8320x1024, .f32⟩
  | .hbm, ⟨88, _⟩ => ⟨S_, .f32⟩
  | .hbm, ⟨89, _⟩ => ⟨S1024, .f32⟩
  | .hbm, ⟨90, _⟩ => ⟨S8320x1024, .f32⟩
  | .hbm, ⟨91, _⟩ => ⟨S_, .f32⟩
  | .hbm, ⟨92, _⟩ => ⟨S8320, .f32⟩
  | .hbm, ⟨93, _⟩ => ⟨S8320x1, .f32⟩
  | .hbm, ⟨94, _⟩ => ⟨S8320x1024, .f32⟩
  | .hbm, ⟨95, _⟩ => ⟨S8320x1024, .f32⟩
  | .hbm, ⟨96, _⟩ => ⟨S8320x1, .f32⟩
  | .hbm, ⟨97, _⟩ => ⟨S8320x1024, .f32⟩
  | .hbm, ⟨98, _⟩ => ⟨S_, .f32⟩
  | .hbm, ⟨99, _⟩ => ⟨S8320, .f32⟩
  | .hbm, ⟨100, _⟩ => ⟨S8320x1, .f32⟩
  | .hbm, ⟨101, _⟩ => ⟨S_, .f32⟩
  | .hbm, ⟨102, _⟩ => ⟨S8320x1, .f32⟩
  | .hbm, ⟨103, _⟩ => ⟨S8320x1, .f32⟩
  | .hbm, ⟨104, _⟩ => ⟨S_, .f32⟩
  | .hbm, ⟨105, _⟩ => ⟨S8320, .f32⟩
  | .hbm, ⟨106, _⟩ => ⟨S8320x1024, .f32⟩
  | .hbm, ⟨107, _⟩ => ⟨S8320x1024, .f32⟩
  | .hbm, ⟨108, _⟩ => ⟨S8320x1024, .f32⟩
  | .hbm, ⟨109, _⟩ => ⟨S_, .f32⟩
  | .hbm, ⟨110, _⟩ => ⟨S8320, .f32⟩
  | .hbm, ⟨111, _⟩ => ⟨S8320x1, .f32⟩
  | .hbm, ⟨112, _⟩ => ⟨S8320x1024, .f32⟩
  | .hbm, ⟨113, _⟩ => ⟨S8320x1, .f32⟩
  | .hbm, ⟨114, _⟩ => ⟨S_, .f32⟩
  | .hbm, ⟨115, _⟩ => ⟨S8320x1, .f32⟩
  | .hbm, ⟨116, _⟩ => ⟨S8320x1, .f32⟩
  | .hbm, ⟨117, _⟩ => ⟨S_, .f32⟩
  | .hbm, ⟨118, _⟩ => ⟨S8320, .f32⟩
  | .hbm, ⟨119, _⟩ => ⟨S8320x1024, .f32⟩
  | .hbm, ⟨120, _⟩ => ⟨S8320x1024, .f32⟩
  | .hbm, ⟨121, _⟩ => ⟨S1x8320x1024, .f32⟩
  | _, _ => ⟨S4x8320x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_cst_13 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_14 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_17 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_18 : Ref sig .tc := ⟨.hbm, 114, rfl⟩
abbrev main_v90 : Ref sig .tc := ⟨.hbm, 115, rfl⟩
abbrev main_v91 : Ref sig .tc := ⟨.hbm, 116, rfl⟩
abbrev main_cst_19 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩

abbrev nD : Nat := 1
abbrev τ : Topo := Topo.v7x

variable {F : FTy → Type} [FloatOps F]
-- ==== Kernel3.lean ====
abbrev S1x8320x1024 : Shape := ⟨3, ![1, 8320, 1024]⟩
abbrev S4x8320x1408 : Shape := ⟨3, ![4, 8320, 1408]⟩
abbrev S1x4x1024x1408 : Shape := ⟨4, ![1, 4, 1024, 1408]⟩
abbrev S1x1664x1024 : Shape := ⟨3, ![1, 1664, 1024]⟩
abbrev S1x1664x1408 : Shape := ⟨3, ![1, 1664, 1408]⟩
abbrev S1x1x1024x1408 : Shape := ⟨4, ![1, 1, 1024, 1408]⟩
abbrev S1024x1408 : Shape := ⟨2, ![1024, 1408]⟩
abbrev S1664x1408 : Shape := ⟨2, ![1664, 1408]⟩
abbrev S1x1x256x1408 : Shape := ⟨4, ![1, 1, 256, 1408]⟩
abbrev S256x1408 : Shape := ⟨2, ![256, 1408]⟩
abbrev S1x1664x256 : Shape := ⟨3, ![1, 1664, 256]⟩
abbrev S1664x256 : Shape := ⟨2, ![1664, 256]⟩

abbrev nBuf : Space → Nat
  | .hbm => 3
  | .vmem => 6
  | .smem => 0
  | _ => 0

abbrev bufTy : (tb : Table) → Fin (tcTables nBuf tb) → BufTy
  | .hbm, ⟨0, _⟩ => ⟨S1x8320x1024, .bf16⟩
  | .hbm, ⟨1, _⟩ => ⟨S4x8320x1408, .bf16⟩
  | .hbm, ⟨2, _⟩ => ⟨S1x4x1024x1408, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x1408, .bf16⟩
  | .local _ .vmem, ⟨3, _⟩ => ⟨S1x1664x1408, .bf16⟩
  | .local _ .vmem, ⟨4, _⟩ => ⟨S1x1x1024x1408, .f32⟩
  | .local _ .vmem, ⟨5, _⟩ => ⟨S1x1x1024x1408, .f32⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1x8320x1024 : Shape := ⟨3, ![1, 8320, 1024]⟩
abbrev S4x8320x1408 : Shape := ⟨3, ![4, 8320, 1408]⟩
abbrev S_ : Shape := ⟨0, ![]⟩
abbrev S1024x5632 : Shape := ⟨2, ![1024, 5632]⟩
abbrev S8320x1024 : Shape := ⟨2, ![8320, 1024]⟩
abbrev S8320x5632 : Shape := ⟨2, ![8320, 5632]⟩
abbrev S8320x4x1408 : Shape := ⟨3, ![8320, 4, 1408]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S4x8320x1408, .bf16⟩
  | .hbm, ⟨2, _⟩ => ⟨S_, .f32⟩
  | .hbm, ⟨3, _⟩ => ⟨S1024x5632, .f32⟩
  | .hbm, ⟨4, _⟩ => ⟨S8320x1024, .bf16⟩
  | .hbm, ⟨5, _⟩ => ⟨S8320x1024, .f32⟩
  | .hbm, ⟨6, _⟩ => ⟨S8320x5632, .f32⟩
  | .hbm, ⟨7, _⟩ => ⟨S4x8320x1408, .f32⟩
  | .hbm, ⟨8, _⟩ => ⟨S8320x4x1408, .f32⟩
  | .hbm, ⟨9, _⟩ => ⟨S8320x5632, .f32⟩
  | .hbm, ⟨10, _⟩ => ⟨S5632x1024, .f32⟩
  | .hbm, ⟨11, _⟩ => ⟨S1024x5632, .f32⟩
  | .hbm, ⟨12, _⟩ => ⟨S1024x4x1408, .f32⟩
  | .hbm, ⟨13, _⟩ => ⟨S4x1024x1408, .f32⟩
  | .hbm, ⟨14, _⟩ => ⟨S1x4x1024x1408, .f32⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S1x8320x1024 : Shape := ⟨3, ![1, 8320, 1024]⟩
abbrev S1x4x1024x1408 : Shape := ⟨4, ![1, 4, 1024, 1408]⟩
abbrev S4x8320x1408 : Shape := ⟨3, ![4, 8320, 1408]⟩
abbrev S1x1664x1024 : Shape := ⟨3, ![1, 1664, 1024]⟩
abbrev S1x1x1024x1408 : Shape := ⟨4, ![1, 1, 1024, 1408]⟩
abbrev S1x1664x1408 : Shape := ⟨3, ![1, 1664, 1408]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S1x8320x1024, .bf16⟩
  | .hbm, ⟨1, _⟩ => ⟨S1x4x1024x1408, .bf16⟩
  | .hbm, ⟨2, _⟩ => ⟨S4x8320x1408, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1664x1408, .f32⟩
  | .local _ .vmem, ⟨5, _⟩ => ⟨S1x1664x1408, .f32⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg2 : BitVec 32 := BitVec.ofNat 32 (i 2).val
  let c0_i32_7 : BitVec 32 := 0#32
  let v8 : BitVec 1 := Scalar.cmpi .sgt arg2 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1x8320x1024 : Shape := ⟨3, ![1, 8320, 1024]⟩
abbrev S1x4x1024x1408 : Shape := ⟨4, ![1, 4, 1024, 1408]⟩
abbrev S8320x1024 : Shape := ⟨2, ![8320, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8320x5632 : Shape := ⟨2, ![8320, 5632]⟩
abbrev S8320x4x1408 : Shape := ⟨3, ![8320, 4, 1408]⟩
abbrev S4x8320x1408 : Shape := ⟨3, ![4, 8320, 1408]⟩

abbrev nBuf : Space → Nat
  | .hbm => 11
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S1x4x1024x1408, .bf16⟩
  | .hbm, ⟨2, _⟩ => ⟨S8320x1024, .bf16⟩
  | .hbm, ⟨3, _⟩ => ⟨S8320x1024, .f32⟩
  | .hbm, ⟨4, _⟩ => ⟨S4x1024x1408, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S8320x5632, .f32⟩
  | .hbm, ⟨9, _⟩ => ⟨S8320x4x1408, .f32⟩
  | .hbm, ⟨10, _⟩ => ⟨S4x8320x1408, .f32⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel5.lean ====
abbrev S1x8320x1024 : Shape := ⟨3, ![1, 8320, 1024]⟩
abbrev S2x1x1408x1024 : Shape := ⟨4, ![2, 1, 1408, 1024]⟩
abbrev S2x8320x1408 : Shape := ⟨3, ![2, 8320, 1408]⟩
abbrev S1x1664x1024 : Shape := ⟨3, ![1, 1664, 1024]⟩
abbrev S1x1x1408x1024 : Shape := ⟨4, ![1, 1, 1408, 1024]⟩
abbrev S1x1664x1408 : Shape := ⟨3, ![1, 1664, 1408]⟩
abbrev S1664x1024 : Shape := ⟨2, ![1664, 1024]⟩
abbrev S1408x1024 : Shape := ⟨2, ![1408, 1024]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S1x8320x1024, .f32⟩
  | .hbm, ⟨1, _⟩ => ⟨S2x1x1408x1024, .bf16⟩
  | .hbm, ⟨2, _⟩ => ⟨S2x8320x1408, .f32⟩
  | .local _ .vmem, ⟨0, _⟩ => ⟨S1x1664x1024, .f32⟩
  | .local _ .vmem, ⟨1, _⟩ => ⟨S1x1664x1024, .f32⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1x1664x1408, .f32⟩
  | .local _ .vmem, ⟨5, _⟩ => ⟨S1x1664x1408, .f32⟩
  | _, _ => ⟨S1x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_6 : BitVec 32 := 0#32
  let v8 : BitVec 1 := Scalar.cmpi .ne v7 c0_i32_6
  v8

def k0_cond2 (i : grid0.Coords) : BitVec 1 :=
  let arg2 : BitVec 32 := BitVec.ofNat 32 (i 2).val
  let c0_i32_7 : BitVec 32 := 0#32
  let v9 : BitVec 1 := Scalar.cmpi .sgt arg2 c0_i32_7
  let v10 : BitVec 32 := Scalar.extui v9
  let c0_i32_8 : BitVec 32 := 0#32
  let v11 : BitVec 1 := Scalar.cmpi .ne v10 c0_i32_8
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1x8320x1024 : Shape := ⟨3, ![1, 8320, 1024]⟩
abbrev S2x1x1408x1024 : Shape := ⟨4, ![2, 1, 1408, 1024]⟩
abbrev S2816x1024 : Shape := ⟨2, ![2816, 1024]⟩
abbrev S_ : Shape := ⟨0, ![]⟩
abbrev S8320x2816 : Shape := ⟨2, ![8320, 2816]⟩
abbrev S8320x1024 : Shape := ⟨2, ![8320, 1024]⟩
abbrev S8320x2x1408 : Shape := ⟨3, ![8320, 2, 1408]⟩
abbrev S2x8320x1408 : Shape := ⟨3, ![2, 8320, 1408]⟩

abbrev nBuf : Space → Nat
  | .hbm => 11
  | .vmem => 0
  | .smem => 0
  | _ => 0

abbrev bufTy : (tb : Table) → Fin (tcTables nBuf tb) → BufTy
  | .hbm, ⟨0, _⟩ => ⟨S1x8320x1024, .f32⟩
  | .hbm, ⟨1, _⟩ => ⟨S2x1x1408x1024, .bf16⟩
  | .hbm, ⟨2, _⟩ => ⟨S2x1x1408x1024, .f32⟩
  | .hbm, ⟨3, _⟩ => ⟨S2816x1024, .f32⟩
  | .hbm, ⟨4, _⟩ => ⟨S_, .f32⟩
  | .hbm, ⟨5, _⟩ => ⟨S8320x2816, .f32⟩
  | .hbm, ⟨6, _⟩ => ⟨S8320x1024, .f32⟩
  | .hbm, ⟨7, _⟩ => ⟨S8320x1024, .f32⟩
  | .hbm, ⟨8, _⟩ => ⟨S8320x2816, .f32⟩
  | .hbm, ⟨9, _⟩ => ⟨S8320x2x1408, .f32⟩
  | .hbm, ⟨10, _⟩ => ⟨S2x8320x1408, .f32⟩
  | _, _ => ⟨S1x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2x8320x1408 : Shape := ⟨3, ![2, 8320, 1408]⟩
abbrev S1x8320x1024 : Shape := ⟨3, ![1, 8320, 1024]⟩
abbrev S2x1x1408x1024 : Shape := ⟨4, ![2, 1, 1408, 1024]⟩
abbrev S1x1664x1408 : Shape := ⟨3, ![1, 1664, 1408]⟩
abbrev S1x1664x1024 : Shape := ⟨3, ![1, 1664, 1024]⟩
abbrev S1x1x1408x1024 : Shape := ⟨4, ![1, 1, 1408, 1024]⟩
abbrev S1408x1024 : Shape := ⟨2, ![1408, 1024]⟩
abbrev S1664x1024 : Shape := ⟨2, ![1664, 1024]⟩
abbrev S1x1x256x1024 : Shape := ⟨4, ![1, 1, 256, 1024]⟩
abbrev S256x1024 : Shape := ⟨2, ![256, 1024]⟩
abbrev S1x1664x256 : Shape := ⟨3, ![1, 1664, 256]⟩
abbrev S1664x256 : Shape := ⟨2, ![1664, 256]⟩
abbrev S1x1x128x1024 : Shape := ⟨4, ![1, 1, 128, 1024]⟩
abbrev S128x1024 : Shape := ⟨2, ![128, 1024]⟩
abbrev S1x1664x128 : Shape := ⟨3, ![1, 1664, 128]⟩
abbrev S1664x128 : Shape := ⟨2, ![1664, 128]⟩

abbrev nBuf : Space → Nat
  | .hbm => 3
  | .vmem => 6
  | .smem => 0
  | _ => 0

abbrev bufTy : (tb : Table) → Fin (tcTables nBuf tb) → BufTy
  | .hbm, ⟨0, _⟩ => ⟨S2x8320x1408, .bf16⟩
  | .hbm, ⟨1, _⟩ => ⟨S1x8320x1024, .f32⟩
  | .hbm, ⟨2, _⟩ => ⟨S2x1x1408x1024, .f32⟩
  | .local _ .vmem, ⟨0, _⟩ => ⟨S1x1664x1408, .bf16⟩
  | .local _ .vmem, ⟨1, _⟩ => ⟨S1x1664x1408, .bf16⟩
  | .local _ .vmem, ⟨2, _⟩ => ⟨S1x1664x1024, .f32⟩
  | .local _ .vmem, ⟨3, _⟩ => ⟨S1x1664x1024, .f32⟩
  | .local _ .vmem, ⟨4, _⟩ => ⟨S1x1x1408x1024, .f32⟩
  | .local _ .vmem, ⟨5, _⟩ => ⟨S1x1x1408x1024, .f32⟩
  | _, _ => ⟨S2x8320x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x8320x1408 : Shape := ⟨3, ![2, 8320, 1408]⟩
abbrev S1x8320x1024 : Shape := ⟨3, ![1, 8320, 1024]⟩
abbrev S_ : Shape := ⟨0, ![]⟩
abbrev S2816x1024 : Shape := ⟨2, ![2816, 1024]⟩
abbrev S8320x2x1408 : Shape := ⟨3, ![8320, 2, 1408]⟩
abbrev S8320x2816 : Shape := ⟨2, ![8320, 2816]⟩
abbrev S8320x1024 : Shape := ⟨2, ![8320, 1024]⟩
abbrev S1024x2816 : Shape := ⟨2, ![1024, 2816]⟩
abbrev S2x1x1408x1024 : Shape := ⟨4, ![2, 1, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x8320x1408, .bf16⟩
  | .hbm, ⟨1, _⟩ => ⟨S1x8320x1024, .f32⟩
  | .hbm, ⟨2, _⟩ => ⟨S_, .f32⟩
  | .hbm, ⟨3, _⟩ => ⟨S2816x1024, .f32⟩
  | .hbm, ⟨4, _⟩ => ⟨S2x8320x1408, .f32⟩
  | .hbm, ⟨5, _⟩ => ⟨S8320x2x1408, .f32⟩
  | .hbm, ⟨6, _⟩ => ⟨S8320x2816, .f32⟩
  | .hbm, ⟨7, _⟩ => ⟨S8320x1024, .f32⟩
  | .hbm, ⟨8, _⟩ => ⟨S8320x1024, .f32⟩
  | .hbm, ⟨9, _⟩ => ⟨S1024x2816, .f32⟩
  | .hbm, ⟨10, _⟩ => ⟨S2816x1024, .f32⟩
  | .hbm, ⟨11, _⟩ => ⟨S2x1x1408x1024, .f32⟩
  | _, _ => ⟨S2x8320x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S1x8320x1024 : Shape := ⟨3, ![1, 8320, 1024]⟩
abbrev S4x8320x1024 : Shape := ⟨3, ![4, 8320, 1024]⟩
abbrev S1x4x1024x1024 : Shape := ⟨4, ![1, 4, 1024, 1024]⟩
abbrev S1x1664x1024 : Shape := ⟨3, ![1, 1664, 1024]⟩
abbrev S1x1x1024x1024 : Shape := ⟨4, ![1, 1, 1024, 1024]⟩
abbrev S1024x1024 : Shape := ⟨2, ![1024, 1024]⟩
abbrev S1664x1024 : Shape := ⟨2, ![1664, 1024]⟩
abbrev S1x1x256x1024 : Shape := ⟨4, ![1, 1, 256, 1024]⟩
abbrev S256x1024 : Shape := ⟨2, ![256, 1024]⟩
abbrev S1x1664x256 : Shape := ⟨3, ![1, 1664, 256]⟩
abbrev S1664x256 : Shape := ⟨2, ![1664, 256]⟩

abbrev nBuf : Space → Nat
  | .hbm => 3
  | .vmem => 6
  | .smem => 0
  | _ => 0

abbrev bufTy : (tb : Table) → Fin (tcTables nBuf tb) → BufTy
  | .hbm, ⟨0, _⟩ => ⟨S1x8320x1024, .bf16⟩
  | .hbm, ⟨1, _⟩ => ⟨S4x8320x1024, .bf16⟩
  | .hbm, ⟨2, _⟩ => ⟨S1x4x1024x1024, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x1024, .bf16⟩
  | .local _ .vmem, ⟨3, _⟩ => ⟨S1x1664x1024, .bf16⟩
  | .local _ .vmem, ⟨4, _⟩ => ⟨S1x1x1024x1024, .f32⟩
  | .local _ .vmem, ⟨5, _⟩ => ⟨S1x1x1024x1024, .f32⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1x8320x1024 : Shape := ⟨3, ![1, 8320, 1024]⟩
abbrev S4x8320x1024 : Shape := ⟨3, ![4, 8320, 1024]⟩
abbrev S_ : Shape := ⟨0, ![]⟩
abbrev S1024x4096 : Shape := ⟨2, ![1024, 4096]⟩
abbrev S8320x1024 : Shape := ⟨2, ![8320, 1024]⟩
abbrev S8320x4096 : Shape := ⟨2, ![8320, 4096]⟩
abbrev S8320x4x1024 : Shape := ⟨3, ![8320, 4, 1024]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S4x8320x1024, .bf16⟩
  | .hbm, ⟨2, _⟩ => ⟨S_, .f32⟩
  | .hbm, ⟨3, _⟩ => ⟨S1024x4096, .f32⟩
  | .hbm, ⟨4, _⟩ => ⟨S8320x1024, .bf16⟩
  | .hbm, ⟨5, _⟩ => ⟨S8320x1024, .f32⟩
  | .hbm, ⟨6, _⟩ => ⟨S8320x4096, .f32⟩
  | .hbm, ⟨7, _⟩ => ⟨S4x8320x1024, .f32⟩
  | .hbm, ⟨8, _⟩ => ⟨S8320x4x1024, .f32⟩
  | .hbm, ⟨9, _⟩ => ⟨S8320x4096, .f32⟩
  | .hbm, ⟨10, _⟩ => ⟨S4096x1024, .f32⟩
  | .hbm, ⟨11, _⟩ => ⟨S1024x4096, .f32⟩
  | .hbm, ⟨12, _⟩ => ⟨S1024x4x1024, .f32⟩
  | .hbm, ⟨13, _⟩ => ⟨S4x1024x1024, .f32⟩
  | .hbm, ⟨14, _⟩ => ⟨S1x4x1024x1024, .f32⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel8.lean ====
abbrev S1x8320x1024 : Shape := ⟨3, ![1, 8320, 1024]⟩
abbrev S3x8320x1024 : Shape := ⟨3, ![3, 8320, 1024]⟩
abbrev S1x3x1024x1024 : Shape := ⟨4, ![1, 3, 1024, 1024]⟩
abbrev S1x1664x1024 : Shape := ⟨3, ![1, 1664, 1024]⟩
abbrev S1x1x1024x1024 : Shape := ⟨4, ![1, 1, 1024, 1024]⟩
abbrev S1024x1024 : Shape := ⟨2, ![1024, 1024]⟩
abbrev S1664x1024 : Shape := ⟨2, ![1664, 1024]⟩
abbrev S1x1x256x1024 : Shape := ⟨4, ![1, 1, 256, 1024]⟩
abbrev S256x1024 : Shape := ⟨2, ![256, 1024]⟩
abbrev S1x1664x256 : Shape := ⟨3, ![1, 1664, 256]⟩
abbrev S1664x256 : Shape := ⟨2, ![1664, 256]⟩

abbrev nBuf : Space → Nat
  | .hbm => 3
  | .vmem => 6
  | .smem => 0
  | _ => 0

abbrev bufTy : (tb : Table) → Fin (tcTables nBuf tb) → BufTy
  | .hbm, ⟨0, _⟩ => ⟨S1x8320x1024, .bf16⟩
  | .hbm, ⟨1, _⟩ => ⟨S3x8320x1024, .bf16⟩
  | .hbm, ⟨2, _⟩ => ⟨S1x3x1024x1024, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x1024, .bf16⟩
  | .local _ .vmem, ⟨3, _⟩ => ⟨S1x1664x1024, .bf16⟩
  | .local _ .vmem, ⟨4, _⟩ => ⟨S1x1x1024x1024, .f32⟩
  | .local _ .vmem, ⟨5, _⟩ => ⟨S1x1x1024x1024, .f32⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1x8320x1024 : Shape := ⟨3, ![1, 8320, 1024]⟩
abbrev S3x8320x1024 : Shape := ⟨3, ![3, 8320, 1024]⟩
abbrev S_ : Shape := ⟨0, ![]⟩
abbrev S1024x3072 : Shape := ⟨2, ![1024, 3072]⟩
abbrev S8320x1024 : Shape := ⟨2, ![8320, 1024]⟩
abbrev S8320x3072 : Shape := ⟨2, ![8320, 3072]⟩
abbrev S8320x3x1024 : Shape := ⟨3, ![8320, 3, 1024]⟩
abbrev S3072x1024 : Shape := ⟨2, ![3072, 1024]⟩
abbrev S1024x3x1024 : Shape := ⟨3, ![1024, 3, 1024]⟩
abbrev S3x1024x1024 : Shape := ⟨3, ![3, 1024, 1024]⟩
abbrev S1x3x1024x1024 : Shape := ⟨4, ![1, 3, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S3x8320x1024, .bf16⟩
  | .hbm, ⟨2, _⟩ => ⟨S_, .f32⟩
  | .hbm, ⟨3, _⟩ => ⟨S1024x3072, .f32⟩
  | .hbm, ⟨4, _⟩ => ⟨S8320x1024, .bf16⟩
  | .hbm, ⟨5, _⟩ => ⟨S8320x1024, .f32⟩
  | .hbm, ⟨6, _⟩ => ⟨S8320x3072, .f32⟩
  | .hbm, ⟨7, _⟩ => ⟨S3x8320x1024, .f32⟩
  | .hbm, ⟨8, _⟩ => ⟨S8320x3x1024, .f32⟩
  | .hbm, ⟨9, _⟩ => ⟨S8320x3072, .f32⟩
  | .hbm, ⟨10, _⟩ => ⟨S3072x1024, .f32⟩
  | .hbm, ⟨11, _⟩ => ⟨S1024x3072, .f32⟩
  | .hbm, ⟨12, _⟩ => ⟨S1024x3x1024, .f32⟩
  | .hbm, ⟨13, _⟩ => ⟨S3x1024x1024, .f32⟩
  | .hbm, ⟨14, _⟩ => ⟨S1x3x1024x1024, .f32⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel9.lean ====
abbrev S1x8320x1024 : Shape := ⟨3, ![1, 8320, 1024]⟩
abbrev S1x1x1024x1024 : Shape := ⟨4, ![1, 1, 1024, 1024]⟩
abbrev S1x1664x1024 : Shape := ⟨3, ![1, 1664, 1024]⟩
abbrev S1024x1024 : Shape := ⟨2, ![1024, 1024]⟩
abbrev S1664x1024 : Shape := ⟨2, ![1664, 1024]⟩
abbrev S1x1x256x1024 : Shape := ⟨4, ![1, 1, 256, 1024]⟩
abbrev S256x1024 : Shape := ⟨2, ![256, 1024]⟩
abbrev S1x1664x256 : Shape := ⟨3, ![1, 1664, 256]⟩
abbrev S1664x256 : Shape := ⟨2, ![1664, 256]⟩

abbrev nBuf : Space → Nat
  | .hbm => 3
  | .vmem => 5
  | .smem => 0
  | _ => 0

abbrev bufTy : (tb : Table) → Fin (tcTables nBuf tb) → BufTy
  | .hbm, ⟨0, _⟩ => ⟨S1x8320x1024, .bf16⟩
  | .hbm, ⟨1, _⟩ => ⟨S1x8320x1024, .f32⟩
  | .hbm, ⟨2, _⟩ => ⟨S1x1x1024x1024, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x1024, .f32⟩
  | .local _ .vmem, ⟨3, _⟩ => ⟨S1x1664x1024, .f32⟩
  | .local _ .vmem, ⟨4, _⟩ => ⟨S1x1x1024x1024, .f32⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S1x8320x1024 : Shape := ⟨3, ![1, 8320, 1024]⟩
abbrev S_ : Shape := ⟨0, ![]⟩
abbrev S1024x1024 : Shape := ⟨2, ![1024, 1024]⟩
abbrev S8320x1024 : Shape := ⟨2, ![8320, 1024]⟩
abbrev S1x1x1024x1024 : Shape := ⟨4, ![1, 1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S1x8320x1024, .f32⟩
  | .hbm, ⟨2, _⟩ => ⟨S_, .f32⟩
  | .hbm, ⟨3, _⟩ => ⟨S1024x1024, .f32⟩
  | .hbm, ⟨4, _⟩ => ⟨S8320x1024, .bf16⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S1024x1024, .f32⟩
  | .hbm, ⟨9, _⟩ => ⟨S1024x1024, .f32⟩
  | .hbm, ⟨10, _⟩ => ⟨S1x1x1024x1024, .f32⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S1x8320x1024 : Shape := ⟨3, ![1, 8320, 1024]⟩
abbrev S1x4x1024x1024 : Shape := ⟨4, ![1, 4, 1024, 1024]⟩
abbrev S4x8320x1024 : Shape := ⟨3, ![4, 8320, 1024]⟩
abbrev S1x1664x1024 : Shape := ⟨3, ![1, 1664, 1024]⟩
abbrev S1x1x1024x1024 : Shape := ⟨4, ![1, 1, 1024, 1024]⟩
abbrev S1664x1024 : Shape := ⟨2, ![1664, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x8320x1024, .bf16⟩
  | .hbm, ⟨1, _⟩ => ⟨S1x4x1024x1024, .bf16⟩
  | .hbm, ⟨2, _⟩ => ⟨S4x8320x1024, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1664x1024, .f32⟩
  | .local _ .vmem, ⟨5, _⟩ => ⟨S1x1664x1024, .f32⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg2 : BitVec 32 := BitVec.ofNat 32 (i 2).val
  let c0_i32_7 : BitVec 32 := 0#32
  let v8 : BitVec 1 := Scalar.cmpi .sgt arg2 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S1x8320x1024 : Shape := ⟨3, ![1, 8320, 1024]⟩
abbrev S1x4x1024x1024 : Shape := ⟨4, ![1, 4, 1024, 1024]⟩
abbrev S8320x1024 : Shape := ⟨2, ![8320, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8320x4096 : Shape := ⟨2, ![8320, 4096]⟩
abbrev S8320x4x1024 : Shape := ⟨3, ![8320, 4, 1024]⟩
abbrev S4x8320x1024 : Shape := ⟨3, ![4, 8320, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S1x4x1024x1024, .bf16⟩
  | .hbm, ⟨2, _⟩ => ⟨S8320x1024, .bf16⟩
  | .hbm, ⟨3, _⟩ => ⟨S8320x1024, .f32⟩
  | .hbm, ⟨4, _⟩ => ⟨S4x1024x1024, .bf16⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S8320x4096, .f32⟩
  | .hbm, ⟨9, _⟩ => ⟨S8320x4x1024, .f32⟩
  | .hbm, ⟨10, _⟩ => ⟨S4x8320x1024, .f32⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel11.lean ====
abbrev S1x8320x1024 : Shape := ⟨3, ![1, 8320, 1024]⟩
abbrev S1x3x1024x1024 : Shape := ⟨4, ![1, 3, 1024, 1024]⟩
abbrev S3x8320x1024 : Shape := ⟨3, ![3, 8320, 1024]⟩
abbrev S1x1664x1024 : Shape := ⟨3, ![1, 1664, 1024]⟩
abbrev S1x1x1024x1024 : Shape := ⟨4, ![1, 1, 1024, 1024]⟩
abbrev S1664x1024 : Shape := ⟨2, ![1664, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x8320x1024, .bf16⟩
  | .hbm, ⟨1, _⟩ => ⟨S1x3x1024x1024, .bf16⟩
  | .hbm, ⟨2, _⟩ => ⟨S3x8320x1024, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1664x1024, .f32⟩
  | .local _ .vmem, ⟨5, _⟩ => ⟨S1x1664x1024, .f32⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 5, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg2 : BitVec 32 := BitVec.ofNat 32 (i 2).val
  let c0_i32_7 : BitVec 32 := 0#32
  let v8 : BitVec 1 := Scalar.cmpi .sgt arg2 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1x8320x1024 : Shape := ⟨3, ![1, 8320, 1024]⟩
abbrev S1x3x1024x1024 : Shape := ⟨4, ![1, 3, 1024, 1024]⟩
abbrev S8320x1024 : Shape := ⟨2, ![8320, 1024]⟩
abbrev S3x1024x1024 : Shape := ⟨3, ![3, 1024, 1024]⟩
abbrev S1024x3x1024 : Shape := ⟨3, ![1024, 3, 1024]⟩
abbrev S1024x3072 : Shape := ⟨2, ![1024, 3072]⟩
abbrev S8320x3072 : Shape := ⟨2, ![8320, 3072]⟩
abbrev S8320x3x1024 : Shape := ⟨3, ![8320, 3, 1024]⟩
abbrev S3x8320x1024 : Shape := ⟨3, ![3, 8320, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S1x3x1024x1024, .bf16⟩
  | .hbm, ⟨2, _⟩ => ⟨S8320x1024, .bf16⟩
  | .hbm, ⟨3, _⟩ => ⟨S8320x1024, .f32⟩
  | .hbm, ⟨4, _⟩ => ⟨S3x1024x1024, .bf16⟩
  | .hbm, ⟨5, _⟩ => ⟨S3x1024x1024, .f32⟩
  | .hbm, ⟨6, _⟩ => ⟨S1024x3x1024, .f32⟩
  | .hbm, ⟨7, _⟩ => ⟨S1024x3072, .f32⟩
  | .hbm, ⟨8, _⟩ => ⟨S8320x3072, .f32⟩
  | .hbm, ⟨9, _⟩ => ⟨S8320x3x1024, .f32⟩
  | .hbm, ⟨10, _⟩ => ⟨S3x8320x1024, .f32⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel12.lean ====
abbrev S1x8320x1024 : Shape := ⟨3, ![1, 8320, 1024]⟩
abbrev S1x1x1024x1024 : Shape := ⟨4, ![1, 1, 1024, 1024]⟩
abbrev S1x1664x1024 : Shape := ⟨3, ![1, 1664, 1024]⟩
abbrev S1664x1024 : Shape := ⟨2, ![1664, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x8320x1024, .f32⟩
  | .hbm, ⟨1, _⟩ => ⟨S1x1x1024x1024, .bf16⟩
  | .hbm, ⟨2, _⟩ => ⟨S1x8320x1024, .f32⟩
  | .local _ .vmem, ⟨0, _⟩ => ⟨S1x1664x1024, .f32⟩
  | .local _ .vmem, ⟨1, _⟩ => ⟨S1x1664x1024, .f32⟩
  | .local _ .vmem, ⟨2, _⟩ => ⟨S1x1x1024x1024, .bf16⟩
  | .local _ .vmem, ⟨3, _⟩ => ⟨S1x1664x1024, .f32⟩
  | .local _ .vmem, ⟨4, _⟩ => ⟨S1x1664x1024, .f32⟩
  | _, _ => ⟨S1x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_6 : BitVec 32 := 0#32
  let v8 : BitVec 1 := Scalar.cmpi .ne v7 c0_i32_6
  v8

def k0_cond2 (i : grid0.Coords) : BitVec 1 :=
  let arg2 : BitVec 32 := BitVec.ofNat 32 (i 2).val
  let c0_i32_7 : BitVec 32 := 0#32
  let v9 : BitVec 1 := Scalar.cmpi .sgt arg2 c0_i32_7
  let v10 : BitVec 32 := Scalar.extui v9
  let c0_i32_8 : BitVec 32 := 0#32
  let v11 : BitVec 1 := Scalar.cmpi .ne v10 c0_i32_8
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1x8320x1024 : Shape := ⟨3, ![1, 8320, 1024]⟩
abbrev S1x1x1024x1024 : Shape := ⟨4, ![1, 1, 1024, 1024]⟩
abbrev S_ : Shape := ⟨0, ![]⟩
abbrev S8320x1024 : Shape := ⟨2, ![8320, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x8320x1024, .f32⟩
  | .hbm, ⟨1, _⟩ => ⟨S1x1x1024x1024, .bf16⟩
  | .hbm, ⟨2, _⟩ => ⟨S_, .f32⟩
  | .hbm, ⟨3, _⟩ => ⟨S8320x1024, .f32⟩
  | .hbm, ⟨4, _⟩ => ⟨S1024x1024, .bf16⟩
  | .hbm, ⟨5, _⟩ => ⟨S1024x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S1x8320x1024, .f32⟩
  | _, _ => ⟨S1x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4x8320x1024 : Shape := ⟨3, ![4, 8320, 1024]⟩
abbrev S1x4x1024x1024 : Shape := ⟨4, ![1, 4, 1024, 1024]⟩
abbrev S1x8320x1024 : Shape := ⟨3, ![1, 8320, 1024]⟩
abbrev S1x1664x1024 : Shape := ⟨3, ![1, 1664, 1024]⟩
abbrev S1x1x1024x1024 : Shape := ⟨4, ![1, 1, 1024, 1024]⟩
abbrev S1664x1024 : Shape := ⟨2, ![1664, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x8320x1024, .bf16⟩
  | .hbm, ⟨1, _⟩ => ⟨S1x4x1024x1024, .bf16⟩
  | .hbm, ⟨2, _⟩ => ⟨S1x8320x1024, .f32⟩
  | .hbm, ⟨3, _⟩ => ⟨S1x8320x1024, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1664x1024, .f32⟩
  | .local _ .vmem, ⟨5, _⟩ => ⟨S1x1664x1024, .f32⟩
  | .local _ .vmem, ⟨6, _⟩ => ⟨S1x1664x1024, .f32⟩
  | .local _ .vmem, ⟨7, _⟩ => ⟨S1x1664x1024, .f32⟩
  | _, _ => ⟨S4x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 5, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg2 : BitVec 32 := BitVec.ofNat 32 (i 2).val
  let c0_i32_7 : BitVec 32 := 0#32
  let v8 : BitVec 1 := Scalar.cmpi .sgt arg2 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1664x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4x8320x1024 : Shape := ⟨3, ![4, 8320, 1024]⟩
abbrev S1x4x1024x1024 : Shape := ⟨4, ![1, 4, 1024, 1024]⟩
abbrev S1x8320x1024 : Shape := ⟨3, ![1, 8320, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S8320x1024 : Shape := ⟨2, ![8320, 1024]⟩
abbrev S8320x4096 : Shape := ⟨2, ![8320, 4096]⟩
abbrev S8320x4x1024 : Shape := ⟨3, ![8320, 4, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x8320x1024, .bf16⟩
  | .hbm, ⟨1, _⟩ => ⟨S1x4x1024x1024, .bf16⟩
  | .hbm, ⟨2, _⟩ => ⟨S1x8320x1024, .f32⟩
  | .hbm, ⟨3, _⟩ => ⟨S4x1024x1024, .bf16⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S_, .f32⟩
  | .hbm, ⟨8, _⟩ => ⟨S8320x1024, .f32⟩
  | .hbm, ⟨9, _⟩ => ⟨S8320x4096, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S4x8320x1024, .f32⟩
  | .hbm, ⟨14, _⟩ => ⟨S8320x4x1024, .f32⟩
  | .hbm, ⟨15, _⟩ => ⟨S8320x4096, .f32⟩
  | .hbm, ⟨16, _⟩ => ⟨S8320x1024, .f32⟩
  | .hbm, ⟨17, _⟩ => ⟨S_, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S1x8320x1024, .f32⟩
  | _, _ => ⟨S4x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel14.lean ====
abbrev S1x8320x1024 : Shape := ⟨3, ![1, 8320, 1024]⟩
abbrev S1x1x1024x1024 : Shape := ⟨4, ![1, 1, 1024, 1024]⟩
abbrev S1x1024 : Shape := ⟨2, ![1, 1024]⟩
abbrev S1x832x1024 : Shape := ⟨3, ![1, 832, 1024]⟩
abbrev S832x1024 : Shape := ⟨2, ![832, 1024]⟩
abbrev S1024x1024 : Shape := ⟨2, ![1024, 1024]⟩
abbrev S832 : Shape := ⟨1, ![832]⟩
abbrev S832x1 : Shape := ⟨2, ![832, 1]⟩

abbrev nBuf : Space → Nat
  | .hbm => 8
  | .vmem => 13
  | .smem => 0
  | _ => 0

abbrev bufTy : (tb : Table) → Fin (tcTables nBuf tb) → BufTy
  | .hbm, ⟨0, _⟩ => ⟨S1x8320x1024, .bf16⟩
  | .hbm, ⟨1, _⟩ => ⟨S1x1x1024x1024, .bf16⟩
  | .hbm, ⟨2, _⟩ => ⟨S1x8320x1024, .f32⟩
  | .hbm, ⟨3, _⟩ => ⟨S1x1024, .f32⟩
  | .hbm, ⟨4, _⟩ => ⟨S1x1024, .f32⟩
  | .hbm, ⟨5, _⟩ => ⟨S1x8320x1024, .f32⟩
  | .hbm, ⟨6, _⟩ => ⟨S1x8320x1024, .f32⟩
  | .hbm, ⟨7, _⟩ => ⟨S1x8320x1024, .bf16⟩
  | .local _ .vmem, ⟨0, _⟩ => ⟨S1x832x1024, .bf16⟩
  | .local _ .vmem, ⟨1, _⟩ => ⟨S1x832x1024, .bf16⟩
  | .local _ .vmem, ⟨2, _⟩ => ⟨S1x1x1024x1024, .bf16⟩
  | .local _ .vmem, ⟨3, _⟩ => ⟨S1x832x1024, .f32⟩
  | .local _ .vmem, ⟨4, _⟩ => ⟨S1x832x1024, .f32⟩
  | .local _ .vmem, ⟨5, _⟩ => ⟨S1x1024, .f32⟩
  | .local _ .vmem, ⟨6, _⟩ => ⟨S1x1024, .f32⟩
  | .local _ .vmem, ⟨7, _⟩ => ⟨S1x832x1024, .f32⟩
  | .local _ .vmem, ⟨8, _⟩ => ⟨S1x832x1024, .f32⟩
  | .local _ .vmem, ⟨9, _⟩ => ⟨S1x832x1024, .f32⟩
  | .local _ .vmem, ⟨10, _⟩ => ⟨S1x832x1024, .f32⟩
  | .local _ .vmem, ⟨11, _⟩ => ⟨S1x832x1024, .bf16⟩
  | .local _ .vmem, ⟨12, _⟩ => ⟨S1x832x1024, .bf16⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![10, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def k0_cond3 (i : grid0.Coords) : BitVec 1 :=
  let arg1 : BitVec 32 := BitVec.ofNat 32 (i 1).val
  let c0_i32_9 : BitVec 32 := 0#32
  let v11 : BitVec 1 := Scalar.cmpi .eq arg1 c0_i32_9
  let v12 : BitVec 32 := Scalar.extui v11
  let c0_i32_10 : BitVec 32 := 0#32
  let v13 : BitVec 1 := Scalar.cmpi .ne v12 c0_i32_10
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x832x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference14Ideal.lean ====
abbrev S1x8320x1024 : Shape := ⟨3, ![1, 8320, 1024]⟩
abbrev S1x1x1024x1024 : Shape := ⟨4, ![1, 1, 1024, 1024]⟩
abbrev S1x1024 : Shape := ⟨2, ![1, 1024]⟩
abbrev S8320x1024 : Shape := ⟨2, ![8320, 1024]⟩
abbrev S_ : Shape := ⟨0, ![]⟩
abbrev S1024x1024 : Shape := ⟨2, ![1024, 1024]⟩
abbrev S1024 : Shape := ⟨1, ![1024]⟩
abbrev S8320 : Shape := ⟨1, ![8320]⟩
abbrev S8320x1 : Shape := ⟨2, ![8320, 1]⟩

abbrev nBuf : Space → Nat
  | .hbm => 50
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S1x1x1024x1024, .bf16⟩
  | .hbm, ⟨2, _⟩ => ⟨S1x8320x1024, .f32⟩
  | .hbm, ⟨3, _⟩ => ⟨S1x1024, .f32⟩
  | .hbm, ⟨4, _⟩ => ⟨S1x1024, .f32⟩
  | .hbm, ⟨5, _⟩ => ⟨S8320x1024, .f32⟩
  | .hbm, ⟨6, _⟩ => ⟨S_, .f32⟩
  | .hbm, ⟨7, _⟩ => ⟨S8320x1024, .f32⟩
  | .hbm, ⟨8, _⟩ => ⟨S8320x1024, .f32⟩
  | .hbm, ⟨9, _⟩ => ⟨S8320x1024, .bf16⟩
  | .hbm, ⟨10, _⟩ => ⟨S8320x1024, .f32⟩
  | .hbm, ⟨11, _⟩ => ⟨S1024x1024, .bf16⟩
  | .hbm, ⟨12, _⟩ => ⟨S1024x1024, .f32⟩
  | .hbm, ⟨13, _⟩ => ⟨S8320x1024, .f32⟩
  | .hbm, ⟨14, _⟩ => ⟨S8320x1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x1024, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320, .f32⟩
  | .hbm, ⟨28, _⟩ => ⟨S8320x1, .f32⟩
  | .hbm, ⟨29, _⟩ => ⟨S_, .f32⟩
  | .hbm, ⟨30, _⟩ => ⟨S8320x1, .f32⟩
  | .hbm, ⟨31, _⟩ => ⟨S8320x1, .f32⟩
  | .hbm, ⟨32, _⟩ => ⟨S8320x1024, .f32⟩
  | .hbm, ⟨33, _⟩ => ⟨S8320x1024, .f32⟩
  | .hbm, ⟨34, _⟩ => ⟨S_, .f32⟩
  | .hbm, ⟨35, _⟩ => ⟨S8320x1, .f32⟩
  | .hbm, ⟨36, _⟩ => ⟨S8320x1, .f32⟩
  | .hbm, ⟨37, _⟩ => ⟨S8320x1, .f32⟩
  | .hbm, ⟨38, _⟩ => ⟨S8320x1024, .f32⟩
  | .hbm, ⟨39, _⟩ => ⟨S8320x1024, .f32⟩
  | .hbm, ⟨40, _⟩ => ⟨S1x1024, .f32⟩
  | .hbm, ⟨41, _⟩ => ⟨S8320x1024, .f32⟩
  | .hbm, ⟨42, _⟩ => ⟨S8320x1024, .f32⟩
  | .hbm, ⟨43, _⟩ => ⟨S1x1024, .f32⟩
  | .hbm, ⟨44, _⟩ => ⟨S8320x1024, .f32⟩
  | .hbm, ⟨45, _⟩ => ⟨S8320x1024, .f32⟩
  | .hbm, ⟨46, _⟩ => ⟨S1x8320x1024, .f32⟩
  | .hbm, ⟨47, _⟩ => ⟨S1x8320x1024, .f32⟩
  | .hbm, ⟨48, _⟩ => ⟨S1x8320x1024, .f32⟩
  | .hbm, ⟨49, _⟩ => ⟨S1x8320x1024, .bf16⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel15.lean ====
abbrev S2x8320x1408 : Shape := ⟨3, ![2, 8320, 1408]⟩
abbrev S2x1x1408x1024 : Shape := ⟨4, ![2, 1, 1408, 1024]⟩
abbrev S1x8320x1024 : Shape := ⟨3, ![1, 8320, 1024]⟩
abbrev S1x1024 : Shape := ⟨2, ![1, 1024]⟩
abbrev S1x832x1408 : Shape := ⟨3, ![1, 832, 1408]⟩
abbrev S1x1x1408x1024 : Shape := ⟨4, ![1, 1, 1408, 1024]⟩
abbrev S1x832x1024 : Shape := ⟨3, ![1, 832, 1024]⟩
abbrev S832x1408 : Shape := ⟨2, ![832, 1408]⟩
abbrev S1408x1024 : Shape := ⟨2, ![1408, 1024]⟩
abbrev S832x1024 : Shape := ⟨2, ![832, 1024]⟩
abbrev S832 : Shape := ⟨1, ![832]⟩
abbrev S832x1 : Shape := ⟨2, ![832, 1]⟩

abbrev nBuf : Space → Nat
  | .hbm => 8
  | .vmem => 14
  | .smem => 0
  | _ => 0

abbrev bufTy : (tb : Table) → Fin (tcTables nBuf tb) → BufTy
  | .hbm, ⟨0, _⟩ => ⟨S2x8320x1408, .bf16⟩
  | .hbm, ⟨1, _⟩ => ⟨S2x1x1408x1024, .bf16⟩
  | .hbm, ⟨2, _⟩ => ⟨S1x8320x1024, .f32⟩
  | .hbm, ⟨3, _⟩ => ⟨S1x1024, .f32⟩
  | .hbm, ⟨4, _⟩ => ⟨S1x1024, .f32⟩
  | .hbm, ⟨5, _⟩ => ⟨S1x8320x1024, .f32⟩
  | .hbm, ⟨6, _⟩ => ⟨S1x8320x1024, .f32⟩
  | .hbm, ⟨7, _⟩ => ⟨S1x8320x1024, .bf16⟩
  | .local _ .vmem, ⟨0, _⟩ => ⟨S1x832x1408, .bf16⟩
  | .local _ .vmem, ⟨1, _⟩ => ⟨S1x832x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1x832x1024, .f32⟩
  | .local _ .vmem, ⟨5, _⟩ => ⟨S1x832x1024, .f32⟩
  | .local _ .vmem, ⟨6, _⟩ => ⟨S1x1024, .f32⟩
  | .local _ .vmem, ⟨7, _⟩ => ⟨S1x1024, .f32⟩
  | .local _ .vmem, ⟨8, _⟩ => ⟨S1x832x1024, .f32⟩
  | .local _ .vmem, ⟨9, _⟩ => ⟨S1x832x1024, .f32⟩
  | .local _ .vmem, ⟨10, _⟩ => ⟨S1x832x1024, .f32⟩
  | .local _ .vmem, ⟨11, _⟩ => ⟨S1x832x1024, .f32⟩
  | .local _ .vmem, ⟨12, _⟩ => ⟨S1x832x1024, .bf16⟩
  | .local _ .vmem, ⟨13, _⟩ => ⟨S1x832x1024, .bf16⟩
  | _, _ => ⟨S2x8320x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![10, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x832x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x832x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference15Ideal.lean ====
abbrev S2x8320x1408 : Shape := ⟨3, ![2, 8320, 1408]⟩
abbrev S2x1x1408x1024 : Shape := ⟨4, ![2, 1, 1408, 1024]⟩
abbrev S1x8320x1024 : Shape := ⟨3, ![1, 8320, 1024]⟩
abbrev S1x1024 : Shape := ⟨2, ![1, 1024]⟩
abbrev S8320x1024 : Shape := ⟨2, ![8320, 1024]⟩
abbrev S_ : Shape := ⟨0, ![]⟩
abbrev S8320x2x1408 : Shape := ⟨3, ![8320, 2, 1408]⟩
abbrev S8320x2816 : Shape := ⟨2, ![8320, 2816]⟩
abbrev S2x1408x1024 : Shape := ⟨3, ![2, 1408, 1024]⟩
abbrev S2816x1024 : Shape := ⟨2, ![2816, 1024]⟩
abbrev S1024 : Shape := ⟨1, ![1024]⟩
abbrev S8320 : Shape := ⟨1, ![8320]⟩
abbrev S8320x1 : Shape := ⟨2, ![8320, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x8320x1408, .bf16⟩
  | .hbm, ⟨1, _⟩ => ⟨S2x1x1408x1024, .bf16⟩
  | .hbm, ⟨2, _⟩ => ⟨S1x8320x1024, .f32⟩
  | .hbm, ⟨3, _⟩ => ⟨S1x1024, .f32⟩
  | .hbm, ⟨4, _⟩ => ⟨S1x1024, .f32⟩
  | .hbm, ⟨5, _⟩ => ⟨S8320x1024, .f32⟩
  | .hbm, ⟨6, _⟩ => ⟨S_, .f32⟩
  | .hbm, ⟨7, _⟩ => ⟨S8320x1024, .f32⟩
  | .hbm, ⟨8, _⟩ => ⟨S8320x1024, .f32⟩
  | .hbm, ⟨9, _⟩ => ⟨S2x8320x1408, .f32⟩
  | .hbm, ⟨10, _⟩ => ⟨S8320x2x1408, .f32⟩
  | .hbm, ⟨11, _⟩ => ⟨S8320x2816, .f32⟩
  | .hbm, ⟨12, _⟩ => ⟨S2x1408x1024, .bf16⟩
  | .hbm, ⟨13, _⟩ => ⟨S2x1408x1024, .f32⟩
  | .hbm, ⟨14, _⟩ => ⟨S2816x1024, .f32⟩
  | .hbm, ⟨15, _⟩ => ⟨S8320x1024, .f32⟩
  | .hbm, ⟨16, _⟩ => ⟨S8320x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S8320, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S_, .f32⟩
  | .hbm, ⟨29, _⟩ => ⟨S8320, .f32⟩
  | .hbm, ⟨30, _⟩ => ⟨S8320x1, .f32⟩
  | .hbm, ⟨31, _⟩ => ⟨S_, .f32⟩
  | .hbm, ⟨32, _⟩ => ⟨S8320x1, .f32⟩
  | .hbm, ⟨33, _⟩ => ⟨S8320x1, .f32⟩
  | .hbm, ⟨34, _⟩ => ⟨S8320x1024, .f32⟩
  | .hbm, ⟨35, _⟩ => ⟨S8320x1024, .f32⟩
  | .hbm, ⟨36, _⟩ => ⟨S_, .f32⟩
  | .hbm, ⟨37, _⟩ => ⟨S8320x1, .f32⟩
  | .hbm, ⟨38, _⟩ => ⟨S8320x1, .f32⟩
  | .hbm, ⟨39, _⟩ => ⟨S8320x1, .f32⟩
  | .hbm, ⟨40, _⟩ => ⟨S8320x1024, .f32⟩
  | .hbm, ⟨41, _⟩ => ⟨S8320x1024, .f32⟩
  | .hbm, ⟨42, _⟩ => ⟨S1x1024, .f32⟩
  | .hbm, ⟨43, _⟩ => ⟨S8320x1024, .f32⟩
  | .hbm, ⟨44, _⟩ => ⟨S8320x1024, .f32⟩
  | .hbm, ⟨45, _⟩ => ⟨S1x1024, .f32⟩
  | .hbm, ⟨46, _⟩ => ⟨S8320x1024, .f32⟩
  | .hbm, ⟨47, _⟩ => ⟨S8320x1024, .f32⟩
  | .hbm, ⟨48, _⟩ => ⟨S1x8320x1024, .f32⟩
  | .hbm, ⟨49, _⟩ => ⟨S1x8320x1024, .f32⟩
  | .hbm, ⟨50, _⟩ => ⟨S1x8320x1024, .f32⟩
  | .hbm, ⟨51, _⟩ => ⟨S1x8320x1024, .bf16⟩
  | _, _ => ⟨S2x8320x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel16.lean ====
abbrev S1x8320x1024 : Shape := ⟨3, ![1, 8320, 1024]⟩
abbrev S1x8320x128 : Shape := ⟨3, ![1, 8320, 128]⟩
abbrev S1x1x1024x128 : Shape := ⟨4, ![1, 1, 1024, 128]⟩
abbrev S1x1664x1024 : Shape := ⟨3, ![1, 1664, 1024]⟩
abbrev S1x1664x128 : Shape := ⟨3, ![1, 1664, 128]⟩
abbrev S1024x128 : Shape := ⟨2, ![1024, 128]⟩
abbrev S1664x128 : Shape := ⟨2, ![1664, 128]⟩
abbrev S1x1x256x128 : Shape := ⟨4, ![1, 1, 256, 128]⟩
abbrev S256x128 : Shape := ⟨2, ![256, 128]⟩
abbrev S1x1664x256 : Shape := ⟨3, ![1, 1664, 256]⟩
abbrev S1664x256 : Shape := ⟨2, ![1664, 256]⟩

abbrev nBuf : Space → Nat
  | .hbm => 3
  | .vmem => 5
  | .smem => 0
  | _ => 0

abbrev bufTy : (tb : Table) → Fin (tcTables nBuf tb) → BufTy
  | .hbm, ⟨0, _⟩ => ⟨S1x8320x1024, .bf16⟩
  | .hbm, ⟨1, _⟩ => ⟨S1x8320x128, .bf16⟩
  | .hbm, ⟨2, _⟩ => ⟨S1x1x1024x128, .f32⟩
  | .local _ .vmem, ⟨0, _⟩ => ⟨S1x1664x1024, .bf16⟩
  | .local _ .vmem, ⟨1, _⟩ => ⟨S1x1664x1024, .bf16⟩
  | .local _ .vmem, ⟨2, _⟩ => ⟨S1x1664x128, .bf16⟩
  | .local _ .vmem, ⟨3, _⟩ => ⟨S1x1664x128, .bf16⟩
  | .local _ .vmem, ⟨4, _⟩ => ⟨S1x1x1024x128, .f32⟩
  | _, _ => ⟨S1x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1664x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S1x8320x1024 : Shape := ⟨3, ![1, 8320, 1024]⟩
abbrev S1x8320x128 : Shape := ⟨3, ![1, 8320, 128]⟩
abbrev S_ : Shape := ⟨0, ![]⟩
abbrev S1024x128 : Shape := ⟨2, ![1024, 128]⟩
abbrev S8320x1024 : Shape := ⟨2, ![8320, 1024]⟩
abbrev S8320x128 : Shape := ⟨2, ![8320, 128]⟩
abbrev S128x1024 : Shape := ⟨2, ![128, 1024]⟩
abbrev S1x1x1024x128 : Shape := ⟨4, ![1, 1, 1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S1x8320x1024, .bf16⟩
  | .hbm, ⟨1, _⟩ => ⟨S1x8320x128, .bf16⟩
  | .hbm, ⟨2, _⟩ => ⟨S_, .f32⟩
  | .hbm, ⟨3, _⟩ => ⟨S1024x128, .f32⟩
  | .hbm, ⟨4, _⟩ => ⟨S8320x1024, .bf16⟩
  | .hbm, ⟨5, _⟩ => ⟨S8320x1024, .f32⟩
  | .hbm, ⟨6, _⟩ => ⟨S8320x128, .f32⟩
  | .hbm, ⟨7, _⟩ => ⟨S8320x128, .bf16⟩
  | .hbm, ⟨8, _⟩ => ⟨S8320x128, .f32⟩
  | .hbm, ⟨9, _⟩ => ⟨S128x1024, .f32⟩
  | .hbm, ⟨10, _⟩ => ⟨S1024x128, .f32⟩
  | .hbm, ⟨11, _⟩ => ⟨S1x1x1024x128, .f32⟩
  | _, _ => ⟨S1x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel17.lean ====
abbrev S1x8320x128 : Shape := ⟨3, ![1, 8320, 128]⟩
abbrev S1x1x1024x128 : Shape := ⟨4, ![1, 1, 1024, 128]⟩
abbrev S1x8320x1024 : Shape := ⟨3, ![1, 8320, 1024]⟩
abbrev S1x1664x128 : Shape := ⟨3, ![1, 1664, 128]⟩
abbrev S1x1664x1024 : Shape := ⟨3, ![1, 1664, 1024]⟩
abbrev S1664x128 : Shape := ⟨2, ![1664, 128]⟩
abbrev S1024x128 : Shape := ⟨2, ![1024, 128]⟩
abbrev S1664x1024 : Shape := ⟨2, ![1664, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1x8320x128, .bf16⟩
  | .hbm, ⟨1, _⟩ => ⟨S1x1x1024x128, .bf16⟩
  | .hbm, ⟨2, _⟩ => ⟨S1x8320x1024, .f32⟩
  | .hbm, ⟨3, _⟩ => ⟨S1x8320x1024, .f32⟩
  | .local _ .vmem, ⟨0, _⟩ => ⟨S1x1664x128, .bf16⟩
  | .local _ .vmem, ⟨1, _⟩ => ⟨S1x1664x128, .bf16⟩
  | .local _ .vmem, ⟨2, _⟩ => ⟨S1x1x1024x128, .bf16⟩
  | .local _ .vmem, ⟨3, _⟩ => ⟨S1x1664x1024, .f32⟩
  | .local _ .vmem, ⟨4, _⟩ => ⟨S1x1664x1024, .f32⟩
  | .local _ .vmem, ⟨5, _⟩ => ⟨S1x1664x1024, .f32⟩
  | .local _ .vmem, ⟨6, _⟩ => ⟨S1x1664x1024, .f32⟩
  | _, _ => ⟨S1x8320x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 5, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg2 : BitVec 32 := BitVec.ofNat 32 (i 2).val
  let c0_i32_7 : BitVec 32 := 0#32
  let v8 : BitVec 1 := Scalar.cmpi .sgt arg2 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1664x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1664x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S1x8320x128 : Shape := ⟨3, ![1, 8320, 128]⟩
abbrev S1x1x1024x128 : Shape := ⟨4, ![1, 1, 1024, 128]⟩
abbrev S1x8320x1024 : Shape := ⟨3, ![1, 8320, 1024]⟩
abbrev S_ : Shape := ⟨0, ![]⟩
abbrev S8320x1024 : Shape := ⟨2, ![8320, 1024]⟩
abbrev S1024x128 : Shape := ⟨2, ![1024, 128]⟩
abbrev S8320x128 : Shape := ⟨2, ![8320, 128]⟩

abbrev nBuf : Space → Nat
  | .hbm => 14
  | .vmem => 0
  | .smem => 0
  | _ => 0

abbrev bufTy : (tb : Table) → Fin (tcTables nBuf tb) → BufTy
  | .hbm, ⟨0, _⟩ => ⟨S1x8320x128, .bf16⟩
  | .hbm, ⟨1, _⟩ => ⟨S1x1x1024x128, .bf16⟩
  | .hbm, ⟨2, _⟩ => ⟨S1x8320x1024, .f32⟩
  | .hbm, ⟨3, _⟩ => ⟨S_, .f32⟩
  | .hbm, ⟨4, _⟩ => ⟨S8320x1024, .f32⟩
  | .hbm, ⟨5, _⟩ => ⟨S1024x128, .bf16⟩
  | .hbm, ⟨6, _⟩ => ⟨S1024x128, .f32⟩
  | .hbm, ⟨7, _⟩ => ⟨S8320x128, .f32⟩
  | .hbm, ⟨8, _⟩ => ⟨S8320x128, .bf16⟩
  | .hbm, ⟨9, _⟩ => ⟨S8320x128, .f32⟩
  | .hbm, ⟨10, _⟩ => ⟨S8320x1024, .f32⟩
  | .hbm, ⟨11, _⟩ => ⟨S8320x1024, .f32⟩
  | .hbm, ⟨12, _⟩ => ⟨S8320x1024, .f32⟩
  | .hbm, ⟨13, _⟩ => ⟨S1x8320x1024, .f32⟩
  | _, _ => ⟨S1x8320x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Chunk.lean ====
/-
  THE GRADIENTS OF ONE CHUNK, over the reals: one head's chunk of 64 tokens of the gated delta rule, its operands, and the
  cotangents of its operands as the derivative of the chunk's forward lines gives them. Then the same cotangents as the
  kernel groups them — the saved inverse's cotangent first, the gates' sums in three parts — and why the two agree.
-/
module

public import Mathlib.Analysis.SpecialFunctions.Exp
public import Mathlib.Data.Matrix.Mul

@[expose] public section

noncomputable section

namespace Cert.Chunk

open Matrix

/-- The operands of one head's chunk: rows of q, k, v and of the output's cotangent, log decays, write strengths, the
    saved inverse of the chunk's triangular system and the state the chunk starts from. -/
structure Tile where
  q : Matrix (Fin 64) (Fin 128) ℝ
  k : Matrix (Fin 64) (Fin 128) ℝ
  v : Matrix (Fin 64) (Fin 128) ℝ
  d : Matrix (Fin 64) (Fin 128) ℝ
  g : Fin 64 → ℝ
  b : Fin 64 → ℝ
  T : Matrix (Fin 64) (Fin 64) ℝ
  S : Matrix (Fin 128) (Fin 128) ℝ

/-- Each row of `X` times its own number. -/
def rows {m n : ℕ} (X : Matrix (Fin m) (Fin n) ℝ) (a : Fin m → ℝ) : Matrix (Fin m) (Fin n) ℝ := of fun i j => X i j * a i
/-- The entrywise product. -/
def ew {m n : ℕ} (X Y : Matrix (Fin m) (Fin n) ℝ) : Matrix (Fin m) (Fin n) ℝ := of fun i j => X i j * Y i j
theorem ew_apply {m n : ℕ} (X Y : Matrix (Fin m) (Fin n) ℝ) (i : Fin m) (j : Fin n) : ew X Y i j = X i j * Y i j := rfl
/-- A column. -/
def col {m : ℕ} (a : Fin m → ℝ) : Matrix (Fin m) (Fin 1) ℝ := of fun i _ => a i
/-- A matrix on and below its diagonal, zero above. -/
def low {m : ℕ} (X : Matrix (Fin m) (Fin m) ℝ) : Matrix (Fin m) (Fin m) ℝ := of fun i j => if j ≤ i then X i j else 0
/-- A matrix below its diagonal, zero elsewhere. -/
def strict {m : ℕ} (X : Matrix (Fin m) (Fin m) ℝ) : Matrix (Fin m) (Fin m) ℝ := of fun i j => if j < i then X i j else 0
/-- Row sums. -/
def sums {m n : ℕ} (X : Matrix (Fin m) (Fin n) ℝ) : Fin m → ℝ := fun i => ∑ l, X i l
/-- Running sums from the top. -/
def cum (a : Fin 64 → ℝ) : Fin 64 → ℝ := fun i => ∑ p, if p ≤ i then a p else 0
/-- Running sums from the bottom. -/
def cumr (a : Fin 64 → ℝ) : Fin 64 → ℝ := fun i => ∑ p, if i ≤ p then a p else 0

namespace Tile

variable (x : Tile) (D : Matrix (Fin 128) (Fin 128) ℝ)

/-! ## Forward -/

def gc : Fin 64 → ℝ := cum x.g
def gl : ℝ := x.gc 63
def eg : Fin 64 → ℝ := fun i => Real.exp (x.gc i)
def erest : Fin 64 → ℝ := fun i => Real.exp (x.gl - x.gc i)
def decay : Matrix (Fin 64) (Fin 64) ℝ := low (of fun i j => Real.exp (x.gc i - x.gc j))
def kb := rows x.k x.b
def vb := rows x.v x.b
def kbe := rows x.kb x.eg
def qe := rows x.q x.eg
def kd := rows x.k x.erest
def u := x.T * x.vb
def w := x.T * x.kbe
def qk := ew (x.q * x.kᵀ) x.decay
def vn := x.u - x.w * x.S

/-! ## Backward: `D` is the cotangent of the state after the chunk -/

def dvn := x.kd * D + x.qkᵀ * x.d
def dkd := x.vn * Dᵀ
def dS := Real.exp x.gl • D + x.qeᵀ * x.d + -(x.wᵀ * x.dvn D)
def dqk := x.d * x.vnᵀ
def dqe := x.d * x.Sᵀ
def dw := -(x.dvn D) * x.Sᵀ
def tw := x.Tᵀ * x.dw D
def tv := x.Tᵀ * x.dvn D
def dq := rows x.dqe x.eg + (ew x.dqk x.decay) * x.k
def dv := rows (x.tv D) x.b
/-- The cotangent of the triangular system's strict lower triangle. -/
def dM := strict (-(x.tw D * x.wᵀ) + -(x.tv D * x.uᵀ))
def dkb := rows (x.tw D) x.eg + (ew (x.dM D) x.decay) * x.k
def dk := rows (x.dkd D) x.erest + (ew x.dqk x.decay)ᵀ * x.q + (ew (x.dM D) x.decay)ᵀ * x.kb + rows (x.dkb D) x.b
def db : Fin 64 → ℝ := fun i => sums (ew x.v (x.tv D)) i + sums (ew x.k (x.dkb D)) i
/-- The cotangent of the chunk's whole log decay. -/
def dgl : ℝ := (∑ a, ∑ l, (ew x.S D) a l) * Real.exp x.gl + ∑ i, sums (ew x.k (x.dkd D)) i * x.erest i
/-- The decay matrix's cotangent times the decay. -/
def ddec := low (ew (ew (x.q * x.kᵀ) x.dqk + ew (x.kb * x.kᵀ) (x.dM D)) x.decay)
/-- The cotangent of the running sums, the last row's share of `gl` with it. -/
def dgc : Fin 64 → ℝ := fun i =>
  -(sums (ew x.k (x.dkd D)) i * x.erest i) + (if i = 63 then x.dgl D else 0) + sums (ew x.q x.dqe) i * x.eg i
    + sums (ew x.kb (x.tw D)) i * x.eg i + sums (-(x.ddec D)ᵀ) i + sums (x.ddec D) i
def dg : Fin 64 → ℝ := cumr (x.dgc D)

/-! ## The kernel's grouping -/

/-- The saved inverse's cotangent. -/
def dT := x.dw D * x.kbeᵀ + x.dvn D * x.vbᵀ
/-- The triangle's cotangent through it. -/
def dMk := strict (-(x.Tᵀ * x.dT D * x.Tᵀ))
/-- Row sums less column sums of a matrix on and below the diagonal. -/
def dsum (X : Matrix (Fin 64) (Fin 64) ℝ) : Fin 64 → ℝ := sums (low X + (-(low X))ᵀ)
def dgcK0 : Fin 64 → ℝ := fun i => dsum (ew (ew (x.q * x.kᵀ) x.dqk) x.decay) i
  + sums (-(rows (ew x.k (x.dkd D)) x.erest) + rows (ew x.q x.dqe + ew x.kb (x.tw D)) x.eg) i
def dgcK1 : Fin 64 → ℝ := dsum (ew (ew (x.kb * x.kᵀ) (x.dM D)) x.decay)
def dbK0 : Fin 64 → ℝ := sums (ew x.k (rows (x.tw D) x.eg) + ew x.v (x.tv D))
def dbK1 : Fin 64 → ℝ := sums (ew x.k (ew (x.dM D) x.decay * x.k))
def dglK : ℝ := ∑ l, ((∑ a, (ew x.S D) a l) * Real.exp x.gl + ∑ i, (rows (ew x.k (x.dkd D)) x.erest) i l)
def dkK := rows (x.dkd D) x.erest + rows (rows (x.tw D) x.eg) x.b + (ew x.dqk x.decay)ᵀ * x.q
  + ((ew (x.dM D) x.decay)ᵀ * x.kb + rows ((ew (x.dM D) x.decay) * x.k) x.b)

theorem dMk_eq : x.dMk D = x.dM D := by
  unfold dMk dM dT tw tv w u
  congr 1
  simp only [Matrix.transpose_mul, Matrix.mul_add, Matrix.add_mul, Matrix.mul_assoc]
  abel

theorem rows_add {m n : ℕ} (X Y : Matrix (Fin m) (Fin n) ℝ) (a : Fin m → ℝ) : rows (X + Y) a = rows X a + rows Y a := by
  ext i j; simp [rows, add_mul]

theorem dkK_eq : x.dkK D = x.dk D := by
  unfold dkK dk dkb
  rw [rows_add]
  abel

theorem db_eq (i : Fin 64) : x.dbK0 D i + x.dbK1 D i = x.db D i := by
  simp only [dbK0, dbK1, db, dkb, sums, Matrix.add_apply, ew_apply, mul_add, Finset.sum_add_distrib]
  ring

theorem sums_rows {m n : ℕ} (X : Matrix (Fin m) (Fin n) ℝ) (a : Fin m → ℝ) (i : Fin m) : sums (rows X a) i = sums X i * a i := by
  simp [sums, rows, Finset.sum_mul]

theorem dgl_eq : x.dglK D = x.dgl D := by
  unfold dglK dgl
  rw [Finset.sum_add_distrib, ← Finset.sum_mul, Finset.sum_comm]
  congr 1
  rw [Finset.sum_comm]
  exact Finset.sum_congr rfl fun i _ => sums_rows _ _ i

theorem dsum_eq (X : Matrix (Fin 64) (Fin 64) ℝ) (i : Fin 64) : dsum X i = sums (-(low X)ᵀ) i + sums (low X) i := by
  simp only [dsum, sums, Matrix.add_apply, Finset.sum_add_distrib, Matrix.transpose_neg]
  ring

theorem dgc_eq (i : Fin 64) : x.dgc D i = x.dgcK0 D i + x.dgcK1 D i + (if i = 63 then x.dgl D else 0) := by
  have hl : x.ddec D = low (ew (ew (x.q * x.kᵀ) x.dqk) x.decay) + low (ew (ew (x.kb * x.kᵀ) (x.dM D)) x.decay) := by
    ext a c
    simp only [ddec, low, Matrix.of_apply, Matrix.add_apply, ew_apply]
    split <;> ring
  unfold dgc dgcK0 dgcK1
  rw [dsum_eq, dsum_eq, hl]
  simp only [sums, rows, Matrix.add_apply, Matrix.neg_apply, Matrix.transpose_apply, Matrix.of_apply, ew_apply,
    Finset.sum_add_distrib, Finset.sum_neg_distrib, Finset.sum_mul, add_mul, neg_add]
  ring

theorem cumr_add (a c : Fin 64 → ℝ) (i : Fin 64) : cumr (fun p => a p + c p) i = cumr a i + cumr c i := by
  simp only [cumr, ← Finset.sum_add_distrib]
  exact Finset.sum_congr rfl fun p _ => by split <;> simp

theorem cumr_last (t : ℝ) (i : Fin 64) : cumr (fun p => if p = 63 then t else 0) i = t := by
  unfold cumr
  rw [Finset.sum_eq_single (63 : Fin 64)]
  · rw [if_pos (show i ≤ 63 from Fin.le_last i)]; exact if_pos rfl
  · intro p _ hp; simp [hp]
  · intro h; exact absurd (Finset.mem_univ _) h

/-- The kernel sums its packed rows from the bottom and adds the chunk's own share afterwards. -/
theorem dg_eq (i : Fin 64) : cumr (fun p => x.dgcK0 D p + x.dgcK1 D p) i + x.dglK D = x.dg D i := by
  unfold dg
  rw [show x.dgc D = fun p => (x.dgcK0 D p + x.dgcK1 D p) + (if p = 63 then x.dgl D else 0) from funext (x.dgc_eq D),
    cumr_add (fun p => x.dgcK0 D p + x.dgcK1 D p), cumr_last, dgl_eq]

/-- The chunk's whole log decay is the sum of its log decays. -/
theorem gl_eq : x.gl = ∑ p, x.g p := by
  unfold gl gc cum
  exact Finset.sum_congr rfl fun p _ => if_pos (Fin.le_last p)

end Tile

end Cert.Chunk

end
-- ==== Proof.Data.lean ====
/-
  THE CALL'S ARGUMENTS AND RESULTS over the reals. `Data` is what the five argument arrays hold, `Data.tile n h` the
  operands of head `h` in chunk `n` (64 tokens), `Data.ct t h` the cotangent of the state after `t` chunks have been
  handled from the end, and `Data.rowsOut`, `Data.gatesOut` the two result arrays.
-/
module

public import proofs.«01_k».proof.Proof.Chunk
public import Idealize.ShloMosaic.Lib.Pointwise

@[expose] public section

noncomputable section

namespace Cert.Data

open Idealize.ShloMosaic Idealize.ShloMosaic.ValueIdx Matrix Cert.Chunk

abbrev SQ : Shape := ⟨3, ![3, 8320, 1024]⟩
abbrev SG : Shape := ⟨2, ![8320, 128]⟩
abbrev SS : Shape := ⟨4, ![130, 8, 128, 128]⟩
abbrev ST : Shape := ⟨4, ![130, 8, 64, 64]⟩
abbrev SD : Shape := ⟨2, ![8320, 1024]⟩

/-- Real contents of the five arguments. -/
structure Data where
  a0 : SQ.Idx → ℝ
  a1 : SG.Idx → ℝ
  a2 : SS.Idx → ℝ
  a3 : ST.Idx → ℝ
  a4 : SD.Idx → ℝ

/-- The arrays hold `P`; of the gates' array only the sixteen used lanes matter. -/
structure Holds (P : Data) (A0 : FVec Ideal SQ .f32) (A1 : FVec Ideal SG .f32) (A2 : FVec Ideal SS .f32) (A3 : FVec Ideal ST .f32) (A4 : FVec Ideal SD .f32) : Prop where
  h0 : ∀ y, A0 y = (P.a0 y : EReal)
  h1 : ∀ y, (y 1).val < 16 → A1 y = (P.a1 y : EReal)
  h2 : ∀ y, A2 y = (P.a2 y : EReal)
  h3 : ∀ y, A3 y = (P.a3 y : EReal)
  h4 : ∀ y, A4 y = (P.a4 y : EReal)

/-- Token `i` of chunk `n`. -/
def tok (n : Fin 130) (i : Fin 64) : Fin 8320 := ⟨64 * n.val + i.val, by omega⟩
/-- Lane `j` of head `h`. -/
def lane (h : Fin 8) (j : Fin 128) : Fin 1024 := ⟨128 * h.val + j.val, by omega⟩

variable (P : Data)

def tile (n : Fin 130) (h : Fin 8) : Tile where
  q := of fun i j => P.a0 (ValueIdx.ix3 0 (tok n i) (lane h j))
  k := of fun i j => P.a0 (ValueIdx.ix3 1 (tok n i) (lane h j))
  v := of fun i j => P.a0 (ValueIdx.ix3 2 (tok n i) (lane h j))
  d := of fun i j => P.a4 (ValueIdx.ix2 (tok n i) (lane h j))
  g := fun i => P.a1 (ValueIdx.ix2 (tok n i) ⟨h.val + 8, by omega⟩)
  b := fun i => P.a1 (ValueIdx.ix2 (tok n i) ⟨h.val, by omega⟩)
  T := of fun i j => P.a3 (ValueIdx.ix4 n h i j)
  S := of fun i j => P.a2 (ValueIdx.ix4 n h i j)

/-- The chunk handled at step `t`: the last one first. -/
def chunk (t : ℕ) : Fin 130 := ⟨129 - t, by omega⟩

/-- The cotangent of the state after `t` steps. -/
def ct (h : Fin 8) : ℕ → Matrix (Fin 128) (Fin 128) ℝ
  | 0 => 0
  | t + 1 => (tile P (chunk t) h).dS (ct h t)

/-- The cotangents of one head's rows of q (`part` 0), k (1) and v (2), at step `t`. -/
def part (t : ℕ) (h : Fin 8) (p : Fin 3) : Matrix (Fin 64) (Fin 128) ℝ :=
  match p with
  | 0 => (tile P (chunk t) h).dq
  | 1 => (tile P (chunk t) h).dk (ct P h t)
  | 2 => (tile P (chunk t) h).dv (ct P h t)

/-- The first result's block at step `t`. -/
def rowsBlk (t : ℕ) (p : Fin 3) (i : Fin 64) (l : Fin 1024) : ℝ :=
  part P t ⟨l.val / 128, by omega⟩ p i ⟨l.val % 128, by omega⟩
/-- The second's: lanes 0 to 7 the write strengths' cotangents, 8 to 15 the log decays', the rest zero. -/
def gatesBlk (t : ℕ) (i : Fin 64) (l : Fin 128) : ℝ :=
  if h : l.val < 8 then (tile P (chunk t) ⟨l.val, h⟩).db (ct P ⟨l.val, h⟩ t) i
  else if h : l.val < 16 then (tile P (chunk t) ⟨l.val - 8, by omega⟩).dg (ct P ⟨l.val - 8, by omega⟩ t) i
  else 0

/-- The first result. -/
def rowsOut : FVec Ideal SQ .f32 := fun y =>
  ((rowsBlk P (129 - (y 1).val / 64) (y 0) ⟨(y 1).val % 64, by omega⟩ (y 2) : ℝ) : EReal)
/-- The second result. -/
def gatesOut : FVec Ideal SG .f32 := fun y =>
  ((gatesBlk P (129 - (y 0).val / 64) ⟨(y 0).val % 64, by omega⟩ (y 1) : ℝ) : EReal)

theorem rowsOut_at (t : ℕ) (ht : t < 130) (z : SQ.Idx) (p : Fin 3) (i : Fin 64) (l : Fin 1024) (e0 : (z 0).val = p.val)
    (e1 : (z 1).val = (129 - t) * 64 + i.val) (e2 : (z 2).val = l.val) : rowsOut P z = ((rowsBlk P t p i l : ℝ) : EReal) := by
  have hi := i.isLt
  unfold rowsOut
  rw [show (z 0 : Fin 3) = p from Fin.ext e0, show (z 2 : Fin 1024) = l from Fin.ext e2, show 129 - (z 1).val / 64 = t by omega,
    show (⟨(z 1).val % 64, by omega⟩ : Fin 64) = i from Fin.ext (by show (z 1).val % 64 = i.val; omega)]

theorem gatesOut_at (t : ℕ) (ht : t < 130) (z : SG.Idx) (i : Fin 64) (l : Fin 128) (e0 : (z 0).val = (129 - t) * 64 + i.val)
    (e1 : (z 1).val = l.val) : gatesOut P z = ((gatesBlk P t i l : ℝ) : EReal) := by
  have hi := i.isLt
  unfold gatesOut
  rw [show (z 1 : Fin 128) = l from Fin.ext e1, show 129 - (z 0).val / 64 = t by omega,
    show (⟨(z 0).val % 64, by omega⟩ : Fin 64) = i from Fin.ext (by show (z 0).val % 64 = i.val; omega)]

end Cert.Data

end
-- ==== Proof.Head.lean ====
/-
  What the kernel computes for ONE head of one chunk, as functions of the values it loads: the rows of q, k, v and of the
  output's cotangent, the gates' block, the saved state, the saved inverse and the state's cotangent carried from the
  chunk after. The kernel unrolls its eight heads; these functions name their common text once, for every float
  instance, in the kernel's own operations. Nothing is proved here.
-/
module

public import proofs.«01_k».proof.Proof.Gen.KernelIdeal.Skeleton
public import Idealize.ShloMosaic.Lib.Pipeline.FrameBody

@[expose] public section

noncomputable section

namespace Cert.KernelIdeal.Head

open Idealize.ShloMosaic Idealize.SL.Sem Cert.KernelIdeal Cert.KernelIdeal.Gen

variable {F : FTy → Type} [FloatOps F] [Named F]

/-! ## The loads -/

/-- Rows `part` (0 = q, 1 = k, 2 = v) of head `h` of the block of packed rows. -/
theorem inb_qkv (part : Fin 3) (h : Fin 8) (a) : (![part.val, 0, 128 * h.val] : Fin 3 → ℕ) a + S1x64x128.size a ≤ S3x64x1024.size a := by
  revert part h a; decide
theorem inb_out (h : Fin 8) (a) : (![0, 128 * h.val] : Fin 2 → ℕ) a + S64x128.size a ≤ S64x1024.size a := by
  revert h a; decide
theorem inb_state (h : Fin 8) (a) : (![0, h.val, 0, 0] : Fin 4 → ℕ) a + S1x1x128x128.size a ≤ S1x8x128x128.size a := by
  revert h a; decide
theorem inb_inv (h : Fin 8) (a) : (![0, h.val, 0, 0] : Fin 4 → ℕ) a + S1x1x64x64.size a ≤ S1x8x64x64.size a := by
  revert h a; decide
theorem inb_carry (h : Fin 8) (a) : (![h.val, 0, 0] : Fin 3 → ℕ) a + S1x128x128.size a ≤ S8x128x128.size a := by
  revert h a; decide

def row (part : Fin 3) (h : Fin 8) (x0 : Vec F S3x64x1024 .f32) : FVec F S64x128 .f32 :=
  shapeCast S64x128 (View.ld x0 (Rect.unit (s := S3x64x1024) ![part.val, 0, 128 * h.val] S1x64x128.size (inb_qkv part h))) shapeCasts_S1x64x128_S64x128
/-- The cotangent of head `h`'s output rows. -/
def outCt (h : Fin 8) (x4 : Vec F S64x1024 .f32) : FVec F S64x128 .f32 :=
  View.ld x4 (Rect.unit (s := S64x1024) ![0, 128 * h.val] S64x128.size (inb_out h))
/-- Head `h`'s saved state. -/
def state (h : Fin 8) (x2 : Vec F S1x8x128x128 .f32) : FVec F S128x128 .f32 :=
  shapeCast S128x128 (View.ld x2 (Rect.unit (s := S1x8x128x128) ![0, h.val, 0, 0] S1x1x128x128.size (inb_state h))) shapeCasts_S1x1x128x128_S128x128
/-- Head `h`'s saved inverse. -/
def inv (h : Fin 8) (x3 : Vec F S1x8x64x64 .f32) : FVec F S64x64 .f32 :=
  shapeCast S64x64 (View.ld x3 (Rect.unit (s := S1x8x64x64) ![0, h.val, 0, 0] S1x1x64x64.size (inb_inv h))) shapeCasts_S1x1x64x64_S64x64
/-- Head `h`'s carried cotangent of the state. -/
def carry (h : Fin 8) (xs : Vec F S8x128x128 .f32) : FVec F S128x128 .f32 :=
  shapeCast S128x128 (View.ld xs (Rect.unit (s := S8x128x128) ![h.val, 0, 0] S1x128x128.size (inb_carry h))) shapeCasts_S1x128x128_S128x128

/-! ## The gates -/

def rowGe : IVec S64x64 1 := cmpi .sge (iota .tc S64x64 32 [0] iota_S64x64_d0_w32) (iota .tc S64x64 32 [1] iota_S64x64_d1_w32)
def rowGt : IVec S64x64 1 := cmpi .sgt (iota .tc S64x64 32 [0] iota_S64x64_d0_w32) (iota .tc S64x64 32 [1] iota_S64x64_d1_w32)

/-- The part of `x` that its bf16 rounding leaves. -/
def lo {s : Shape} (x : FVec F s .f32) : FVec F s .bf16 := truncf .bf16 (subf x (extf .f32 (truncf .bf16 x bitsLt_bf16_f32) bitsLt_bf16_f32)) bitsLt_bf16_f32
/-- Its bf16 rounding. -/
def hi {s : Shape} (x : FVec F s .f32) : FVec F s .bf16 := truncf .bf16 x bitsLt_bf16_f32

def zero (s : Shape) : FVec F s .f32 := constant s .f32 0x00000000#32

/-- A 0/1 mask times the gates' block, in two bf16 products. -/
def maskDot (m : IVec S64x64 1) (x : FVec F S64x128 .f32) : FVec F S64x128 .f32 :=
  addf (matmul dot_S64x64_S64x128_S64x128_1_0_0_1_n_n none (truncf .bf16 (sitofp (F := F) .f32 (extui 32 m natLt_1_32)) bitsLt_bf16_f32) (hi x) (zero S64x128))
    (matmul dot_S64x64_S64x128_S64x128_1_0_0_1_n_n none (truncf .bf16 (sitofp (F := F) .f32 (extui 32 m natLt_1_32)) bitsLt_bf16_f32) (lo x) (zero S64x128))

/-- The gates' columns, summed from the top. -/
def cumGates (x1 : FVec F S64x128 .f32) : FVec F S64x128 .f32 := maskDot rowGe x1
/-- The gates' columns, summed. -/
def sumGates (x1 : FVec F S64x128 .f32) : FVec F S1x128 .f32 :=
  shapeCast S1x128 (multiReduction .add [0] S128 x1 0x00000000#32 reduces_S64x128_S128 (.inl rfl) rfl) shapeCasts_S128_S1x128

theorem slices_col (l : Fin 16) : S64x128.Slices ![0, l.val] S64x1 := by revert l; decide
theorem slices_lane (l : Fin 16) : S1x128.Slices ![0, l.val] S1x1 := by revert l; decide

/-- Lane `h + 8` of the running sums: the log decay up to each row. -/
def gc (h : Fin 8) (x1 : FVec F S64x128 .f32) : FVec F S64x1 .f32 :=
  extractStridedSlice S64x1 ![0, h.val + 8] (cumGates x1) (slices_col ⟨h.val + 8, by omega⟩)
/-- Lane `h + 8` of the sums: the chunk's log decay. -/
def gt (h : Fin 8) (x1 : FVec F S64x128 .f32) : FVec F S1x1 .f32 :=
  extractStridedSlice S1x1 ![0, h.val + 8] (sumGates x1) (slices_lane ⟨h.val + 8, by omega⟩)
/-- Lane `h`: the write strengths. -/
def bt (h : Fin 8) (x1 : FVec F S64x128 .f32) : FVec F S64x1 .f32 :=
  extractStridedSlice S64x1 ![0, h.val] x1 (slices_col ⟨h.val, by omega⟩)

/-- A column across the 128 lanes. -/
def wide (c : FVec F S64x1 .f32) : FVec F S64x128 .f32 :=
  broadcastTo S64x128 (shapeCast S64x1 c shapeCasts_S64x1_S64x1) broadcasts_S64x1_S64x128
/-- A column across 64 lanes. -/
def square (c : FVec F S64x1 .f32) : FVec F S64x64 .f32 :=
  broadcastTo S64x64 (shapeCast S64x1 c shapeCasts_S64x1_S64x1) broadcasts_S64x1_S64x64
/-- A scalar across the 128 lanes. -/
def lane (t : FVec F S1x1 .f32) : FVec F S1x128 .f32 :=
  broadcastTo S1x128 (shapeCast S1x1 t shapeCasts_S1x1_S1x1) broadcasts_S1x1_S1x128

/-- `exp (gc i - gc j)` where `i ≥ j`, and `exp` of the masked value elsewhere. -/
def decay (c : FVec F S64x1 .f32) : FVec F S64x64 .f32 :=
  exp (select rowGe (subf (square c) (transpose S64x64 [1, 0] (square c) transposes_S64x64_p1_0_S64x64))
    (broadcast S64x64 (Named.named κ "mask" (φ := .f32) 0xF149F2CA#32)))
/-- `exp gc`, across the lanes. -/
def egc (c : FVec F S64x1 .f32) : FVec F S64x128 .f32 := exp (wide c)
/-- `exp (gt - gc)`, across the lanes. -/
def erest (c : FVec F S64x1 .f32) (t : FVec F S1x1 .f32) : FVec F S64x128 .f32 :=
  exp (subf (broadcastTo S64x128 (lane t) broadcasts_S1x128_S64x128) (wide c))
/-- `exp gt`. -/
def egt (t : FVec F S1x1 .f32) : FVec F S1x128 .f32 := exp (lane t)

/-! ## Three-product multiplications -/

/-- `a · b` of f32 operands in three bf16 products. -/
def dot3 (a : FVec F S64x64 .f32) (b : FVec F S64x128 .f32) : FVec F S64x128 .f32 :=
  addf (matmul dot_S64x64_S64x128_S64x128_1_0_0_1_n_n none (hi a) (hi b) (zero S64x128))
    (addf (matmul dot_S64x64_S64x128_S64x128_1_0_0_1_n_n none (hi a) (lo b) (zero S64x128))
      (matmul dot_S64x64_S64x128_S64x128_1_0_0_1_n_n none (lo a) (hi b) (zero S64x128)))
def dot3' (a : FVec F S64x128 .f32) (b : FVec F S128x64 .f32) : FVec F S64x64 .f32 :=
  addf (matmul dot_S64x128_S128x64_S64x64_1_0_0_1_n_n none (hi a) (hi b) (zero S64x64))
    (addf (matmul dot_S64x128_S128x64_S64x64_1_0_0_1_n_n none (hi a) (lo b) (zero S64x64))
      (matmul dot_S64x128_S128x64_S64x64_1_0_0_1_n_n none (lo a) (hi b) (zero S64x64)))
def tr (a : FVec F S64x64 .f32) : FVec F S64x64 .f32 := transpose S64x64 [1, 0] a transposes_S64x64_p1_0_S64x64
def tr' (a : FVec F S64x128 .f32) : FVec F S128x64 .f32 := transpose S128x64 [1, 0] a transposes_S64x128_p1_0_S128x64
def tr'' (a : FVec F S128x64 .f32) : FVec F S64x128 .f32 := transpose S64x128 [1, 0] a transposes_S128x64_p1_0_S64x128
def trS (a : FVec F S128x128 .f32) : FVec F S128x128 .f32 := transpose S128x128 [1, 0] a transposes_S128x128_p1_0_S128x128
/-- `- a`, as the kernel writes it. -/
def neg {s : Shape} (a : FVec F s .f32) : FVec F s .f32 := subf (broadcast s (Scalar.ofBits .f32 0x00000000#32)) a

/-! ## The forward values the backward pass needs again -/

def qk (q k : FVec F S64x128 .f32) : FVec F S64x64 .f32 := matmul dot_S64x128_S64x128_S64x64_1_1_0_0_n_n none q k (zero S64x64)
def u (T : FVec F S64x64 .f32) (v : FVec F S64x128 .f32) (b : FVec F S64x1 .f32) : FVec F S64x128 .f32 := dot3 T (mulf v (wide b))
def kbe (k : FVec F S64x128 .f32) (b c : FVec F S64x1 .f32) : FVec F S64x128 .f32 := mulf (mulf k (wide b)) (egc c)
def w (T : FVec F S64x64 .f32) (k : FVec F S64x128 .f32) (b c : FVec F S64x1 .f32) : FVec F S64x128 .f32 := dot3 T (kbe k b c)
def vnew (u w : FVec F S64x128 .f32) (S : FVec F S128x128 .f32) : FVec F S64x128 .f32 :=
  subf u (matmul dot_S64x128_S128x128_S64x128_1_0_0_1_n_n none w S (zero S64x128))

/-! ## The cotangents -/

/-- Of `v_new`. -/
def dvn (q k d : FVec F S64x128 .f32) (c : FVec F S64x1 .f32) (t : FVec F S1x1 .f32) (D : FVec F S128x128 .f32) : FVec F S64x128 .f32 :=
  addf (tr'' (matmul dot_S128x128_S64x128_S128x64_0_1_1_0_n_n none (shapeCast S128x128 D shapeCasts_S128x128_S128x128) (mulf k (erest c t)) (zero S128x64)))
    (tr'' (matmul dot_S64x128_S64x64_S128x64_0_0_1_1_n_n none (shapeCast S64x128 d shapeCasts_S64x128_S64x128) (mulf (qk q k) (decay c)) (zero S128x64)))
/-- Of the decayed keys. -/
def dkd (D : FVec F S128x128 .f32) (vn : FVec F S64x128 .f32) : FVec F S64x128 .f32 :=
  tr'' (matmul dot_S128x128_S64x128_S128x64_1_1_0_0_n_n none (shapeCast S128x128 D shapeCasts_S128x128_S128x128) vn (zero S128x64))
/-- Of the chunk's first state: what the point carries to the next. -/
def dS (q d w dv : FVec F S64x128 .f32) (c : FVec F S64x1 .f32) (t : FVec F S1x1 .f32) (D : FVec F S128x128 .f32) : FVec F S128x128 .f32 :=
  addf (addf (mulf (shapeCast S128x128 D shapeCasts_S128x128_S128x128) (broadcastTo S128x128 (egt t) broadcasts_S1x128_S128x128))
      (trS (matmul dot_S64x128_S64x128_S128x128_0_0_1_1_n_n none (shapeCast S64x128 d shapeCasts_S64x128_S64x128) (mulf q (egc c)) (zero S128x128))))
    (trS (matmul dot_S64x128_S64x128_S128x128_0_0_1_1_n_n none (neg dv) w (zero S128x128)))
/-- Of the scores, before the decay. -/
def dqk (d vn : FVec F S64x128 .f32) : FVec F S64x64 .f32 :=
  matmul dot_S64x128_S64x128_S64x64_1_1_0_0_n_n none (shapeCast S64x128 d shapeCasts_S64x128_S64x128) vn (zero S64x64)
/-- Of `q exp gc`. -/
def dqe (d : FVec F S64x128 .f32) (S : FVec F S128x128 .f32) : FVec F S64x128 .f32 :=
  matmul dot_S64x128_S128x128_S64x128_1_1_0_0_n_n none (shapeCast S64x128 d shapeCasts_S64x128_S64x128) S (zero S64x128)
/-- Of `w`. -/
def dw (dv : FVec F S64x128 .f32) (S : FVec F S128x128 .f32) : FVec F S64x128 .f32 :=
  matmul dot_S64x128_S128x128_S64x128_1_1_0_0_n_n none (neg dv) S (zero S64x128)
/-- Of q. -/
def dq (k d vn : FVec F S64x128 .f32) (c : FVec F S64x1 .f32) (S : FVec F S128x128 .f32) : FVec F S64x128 .f32 :=
  addf (mulf (dqe d S) (egc c)) (matmul dot_S64x64_S64x128_S64x128_1_0_0_1_n_n none (mulf (dqk d vn) (decay c)) k (zero S64x128))
/-- The inverse's transpose times a cotangent. -/
def tdot (T : FVec F S64x64 .f32) (x : FVec F S64x128 .f32) : FVec F S64x128 .f32 := dot3 (tr T) x
/-- Of v. -/
def dv (tv : FVec F S64x128 .f32) (b : FVec F S64x1 .f32) : FVec F S64x128 .f32 := mulf tv (wide b)
/-- Of k, without the triangular system's share. -/
def dk0 (q d vn kd tw : FVec F S64x128 .f32) (b c : FVec F S64x1 .f32) (t : FVec F S1x1 .f32) : FVec F S64x128 .f32 :=
  addf (addf (mulf kd (erest c t)) (mulf (mulf tw (egc c)) (wide b)))
    (matmul dot_S64x64_S64x128_S64x128_0_0_1_1_n_n none (mulf (dqk d vn) (decay c)) q (zero S64x128))
/-- Of the inverse. -/
def dT (k v dv dw : FVec F S64x128 .f32) (b c : FVec F S64x1 .f32) : FVec F S64x64 .f32 :=
  addf (dot3' dw (tr' (kbe k b c))) (dot3' dv (tr' (mulf v (wide b))))
/-- Of the strict lower triangle the inverse is taken of. -/
def dM (T dT : FVec F S64x64 .f32) : FVec F S64x64 .f32 :=
  select rowGt (neg (matmul dot_S64x64_S64x64_S64x64_1_0_0_1_n_n none (matmul dot_S64x64_S64x64_S64x64_1_0_0_1_n_n none (tr T) dT (zero S64x64)) (tr T) (zero S64x64)))
    (broadcast S64x64 (Scalar.ofBits .f32 0x00000000#32))
/-- The triangle's cotangent times the decay, times k. -/
def dMk (k : FVec F S64x128 .f32) (c : FVec F S64x1 .f32) (dM : FVec F S64x64 .f32) : FVec F S64x128 .f32 :=
  matmul dot_S64x64_S64x128_S64x128_1_0_0_1_n_n none (mulf dM (decay c)) k (zero S64x128)
/-- Of k, the triangular system's share. -/
def dk1 (k : FVec F S64x128 .f32) (b c : FVec F S64x1 .f32) (dM : FVec F S64x64 .f32) : FVec F S64x128 .f32 :=
  addf (matmul dot_S64x64_S64x128_S64x128_0_0_1_1_n_n none (mulf dM (decay c)) (mulf k (wide b)) (zero S64x128))
    (mulf (dMk k c dM) (wide b))

/-! ## The gates' cotangents -/

/-- A block's rows, summed. -/
def rowSum (x : FVec F S64x128 .f32) : FVec F S64x1 .f32 :=
  shapeCast S64x1 (multiReduction .add [1] S64 x 0x00000000#32 reduces_S64x128_S64 (.inl rfl) rfl) shapeCasts_S64_S64x1
def rowSum' (x : FVec F S64x64 .f32) : FVec F S64x1 .f32 :=
  shapeCast S64x1 (multiReduction .add [1] S64 x 0x00000000#32 reduces_S64x64_S64 (.inl rfl) rfl) shapeCasts_S64_S64x1
/-- What a decay matrix's cotangent `x` leaves at each `gc`: its row sums less its column sums, on and below the diagonal. -/
def decaySum (x : FVec F S64x64 .f32) : FVec F S64x1 .f32 :=
  rowSum' (addf (select rowGe x (broadcast S64x64 (Scalar.ofBits .f32 0x00000000#32)))
    (tr (neg (select rowGe x (broadcast S64x64 (Scalar.ofBits .f32 0x00000000#32))))))
/-- Of `gt` and `gc` through the decayed keys, per entry. -/
def dkde (k kd : FVec F S64x128 .f32) (c : FVec F S64x1 .f32) (t : FVec F S1x1 .f32) : FVec F S64x128 .f32 := mulf (mulf k kd) (erest c t)
/-- Of `gc`, without the triangular system's share. -/
def dgc0 (q k d vn kd tw : FVec F S64x128 .f32) (b c : FVec F S64x1 .f32) (t : FVec F S1x1 .f32) (S : FVec F S128x128 .f32) : FVec F S64x1 .f32 :=
  addf (decaySum (mulf (mulf (qk q k) (dqk d vn)) (decay c)))
    (rowSum (addf (neg (dkde k kd c t)) (mulf (addf (mulf q (dqe d S)) (mulf (mulf k (wide b)) tw)) (egc c))))
/-- Of `gc`, the triangular system's share. -/
def dgc1 (k : FVec F S64x128 .f32) (b c : FVec F S64x1 .f32) (dM : FVec F S64x64 .f32) : FVec F S64x1 .f32 :=
  decaySum (mulf (mulf (matmul dot_S64x128_S64x128_S64x64_1_1_0_0_n_n none (mulf k (wide b)) k (zero S64x64)) dM) (decay c))
/-- Of the write strengths, without the triangular system's share. -/
def db0 (k v tv tw : FVec F S64x128 .f32) (c : FVec F S64x1 .f32) : FVec F S64x1 .f32 :=
  rowSum (addf (mulf k (mulf tw (egc c))) (mulf v tv))
/-- … its share. -/
def db1 (k : FVec F S64x128 .f32) (c : FVec F S64x1 .f32) (dM : FVec F S64x64 .f32) : FVec F S64x1 .f32 := rowSum (mulf k (dMk k c dM))
/-- Of `gt`. -/
def dgt (k kd : FVec F S64x128 .f32) (c : FVec F S64x1 .f32) (t : FVec F S1x1 .f32) (S D : FVec F S128x128 .f32) : FVec F S1x1 .f32 :=
  broadcast S1x1 (extractAt ![0, 0, 0] (shapeCast S1x1x1 (multiReduction .add [1, 2] S1 (shapeCast S1x1x128
    (addf (mulf (shapeCast S1x128 (multiReduction .add [0] S128 (mulf S (shapeCast S128x128 D shapeCasts_S128x128_S128x128)) 0x00000000#32 reduces_S128x128_S128 (.inl rfl) rfl) shapeCasts_S128_S1x128) (egt t))
      (shapeCast S1x128 (multiReduction .add [0] S128 (dkde k kd c t) 0x00000000#32 reduces_S64x128_S128 (.inl rfl) rfl) shapeCasts_S128_S1x128))
    shapeCasts_S1x128_S1x1x128) 0x00000000#32 reduces_S1x1x128_S1 (.inl rfl) rfl) shapeCasts_S1_S1x1x1) inpos_S1x1x1_p0_0_0)

/-- Column `x` put at lane `l` of `y`. -/
def put (l : BitVec 32) (x : FVec F S64x1 .f32) (y : FVec F S64x128 .f32) : FVec F S64x128 .f32 :=
  select (cmpi .eq (iota .tc S64x128 32 [1] iota_S64x128_d1_w32) (broadcast S64x128 l)) (wide x) y
/-- Scalar `x` put at lane `l` of `y`. -/
def put1 (l : BitVec 32) (x : FVec F S1x1 .f32) (y : FVec F S1x128 .f32) : FVec F S1x128 .f32 :=
  select (cmpi .eq (iota .tc S1x128 32 [1] iota_S1x128_d1_w32) (broadcast S1x128 l)) (lane x) y
/-- The columns side by side: write strengths at lanes 0 to 7, log decays at lanes 8 to 15. -/
def pack (db dg : Fin 8 → FVec F S64x1 .f32) : FVec F S64x128 .f32 :=
  put 15#32 (dg 7) (put 7#32 (db 7) (put 14#32 (dg 6) (put 6#32 (db 6) (put 13#32 (dg 5) (put 5#32 (db 5) (put 12#32 (dg 4) (put 4#32 (db 4)
    (put 11#32 (dg 3) (put 3#32 (db 3) (put 10#32 (dg 2) (put 2#32 (db 2) (put 9#32 (dg 1) (put 1#32 (db 1) (put 8#32 (dg 0) (put 0#32 (db 0)
      (broadcast S64x128 (Scalar.ofBits .f32 0x00000000#32)))))))))))))))))
/-- The scalars side by side, at lanes 8 to 15. -/
def pack1 (dt : Fin 8 → FVec F S1x1 .f32) : FVec F S1x128 .f32 :=
  put1 15#32 (dt 7) (put1 14#32 (dt 6) (put1 13#32 (dt 5) (put1 12#32 (dt 4) (put1 11#32 (dt 3) (put1 10#32 (dt 2) (put1 9#32 (dt 1) (put1 8#32 (dt 0)
    (broadcast S1x128 (Scalar.ofBits .f32 0x00000000#32)))))))))
/-- The gates' cotangent block. -/
def dgates (p : FVec F S64x128 .f32) (t : FVec F S1x128 .f32) : FVec F S64x128 .f32 :=
  select (cmpi .slt (iota .tc S64x128 32 [1] iota_S64x128_d1_w32) (broadcast S64x128 8#32)) p
    (addf (maskDot (xori rowGt (constantI S64x64 1 1#1)) p) (broadcastTo S64x128 t broadcasts_S1x128_S64x128))

/-- No cotangent carried: the last chunk's. -/
abbrev z8 : FVec F S8x128x128 .f32 := zero S8x128x128

/-! ## A head's values from the blocks -/

section
variable (h : Fin 8) (x0 : Vec F S3x64x1024 .f32) (x1 : Vec F S64x128 .f32) (x2 : Vec F S1x8x128x128 .f32) (x3 : Vec F S1x8x64x64 .f32) (x4 : Vec F S64x1024 .f32) (xs : Vec F S8x128x128 .f32)
abbrev dvN : FVec F S64x128 .f32 := dvn (row 0 h x0) (row 1 h x0) (outCt h x4) (gc h x1) (gt h x1) (carry h xs)
abbrev vnN : FVec F S64x128 .f32 := vnew (u (inv h x3) (row 2 h x0) (bt h x1)) (w (inv h x3) (row 1 h x0) (bt h x1) (gc h x1)) (state h x2)
abbrev dwN : FVec F S64x128 .f32 := dw (dvN h x0 x1 x4 xs) (state h x2)
abbrev dTN : FVec F S64x64 .f32 := dT (row 1 h x0) (row 2 h x0) (dvN h x0 x1 x4 xs) (dwN h x0 x1 x2 x4 xs) (bt h x1) (gc h x1)
abbrev dMN : FVec F S64x64 .f32 := dM (inv h x3) (dTN h x0 x1 x2 x4 xs)
abbrev dkN : FVec F S64x128 .f32 := dkd (carry h xs) (vnN h x0 x1 x2 x3)
abbrev twN : FVec F S64x128 .f32 := tdot (inv h x3) (dwN h x0 x1 x2 x4 xs)
abbrev tvN : FVec F S64x128 .f32 := tdot (inv h x3) (dvN h x0 x1 x4 xs)
end

end Cert.KernelIdeal.Head

end
-- ==== Proof.Block.lean ====
/-
  What ONE grid point leaves in its blocks, as functions of the blocks it reads and of the carried cotangent: the eight heads'
  results (Head.lean) side by side. The pieces that the run stores are blocks of these (`piece`, `pieceS`).
-/
module

public import proofs.«01_k».proof.Proof.Head
public import Idealize.ShloMosaic.Lib.Pipeline.Value
public import Idealize.ShloMosaic.Lib.Pointwise

@[expose] public section

noncomputable section

namespace Cert.KernelIdeal.Head

open Idealize.ShloMosaic Idealize.ShloMosaic.ValueIdx Idealize.SL.Sem Cert.KernelIdeal Cert.KernelIdeal.Gen

variable {F : FTy → Type} [FloatOps F] [Named F]
variable (h : Fin 8) (x0 : Vec F S3x64x1024 .f32) (x1 : Vec F S64x128 .f32) (x2 : Vec F S1x8x128x128 .f32) (x3 : Vec F S1x8x64x64 .f32)
  (x4 : Vec F S64x1024 .f32) (xs : Vec F S8x128x128 .f32)

def hVn : FVec F S64x128 .f32 := vnew (u (inv h x3) (row 2 h x0) (bt h x1)) (w (inv h x3) (row 1 h x0) (bt h x1) (gc h x1)) (state h x2)
def hDvn : FVec F S64x128 .f32 := dvn (row 0 h x0) (row 1 h x0) (outCt h x4) (gc h x1) (gt h x1) (carry h xs)
def hDw : FVec F S64x128 .f32 := dw (hDvn h x0 x1 x4 xs) (state h x2)
def hTw : FVec F S64x128 .f32 := tdot (inv h x3) (hDw h x0 x1 x2 x4 xs)
def hTv : FVec F S64x128 .f32 := tdot (inv h x3) (hDvn h x0 x1 x4 xs)
def hKd : FVec F S64x128 .f32 := dkd (carry h xs) (hVn h x0 x1 x2 x3)
def hM : FVec F S64x64 .f32 :=
  dM (inv h x3) (dT (row 1 h x0) (row 2 h x0) (hDvn h x0 x1 x4 xs) (hDw h x0 x1 x2 x4 xs) (bt h x1) (gc h x1))

/-- Head `h`'s cotangent of q. -/
def hQ : FVec F S64x128 .f32 := dq (row 1 h x0) (outCt h x4) (hVn h x0 x1 x2 x3) (gc h x1) (state h x2)
/-- … of k. -/
def hK : FVec F S64x128 .f32 :=
  addf (dk0 (row 0 h x0) (outCt h x4) (hVn h x0 x1 x2 x3) (hKd h x0 x1 x2 x3 xs) (hTw h x0 x1 x2 x3 x4 xs) (bt h x1) (gc h x1) (gt h x1))
    (dk1 (row 1 h x0) (bt h x1) (gc h x1) (hM h x0 x1 x2 x3 x4 xs))
/-- … of v. -/
def hV : FVec F S64x128 .f32 := dv (hTv h x0 x1 x3 x4 xs) (bt h x1)
/-- … of the state. -/
def hS : FVec F S128x128 .f32 :=
  dS (row 0 h x0) (outCt h x4) (w (inv h x3) (row 1 h x0) (bt h x1) (gc h x1)) (hDvn h x0 x1 x4 xs) (gc h x1) (gt h x1) (carry h xs)
/-- … of the write strengths. -/
def hB : FVec F S64x1 .f32 :=
  addf (db0 (row 1 h x0) (row 2 h x0) (hTv h x0 x1 x3 x4 xs) (hTw h x0 x1 x2 x3 x4 xs) (gc h x1))
    (db1 (row 1 h x0) (gc h x1) (hM h x0 x1 x2 x3 x4 xs))
/-- … of the running sums of the log decays. -/
def hG : FVec F S64x1 .f32 :=
  addf (dgc0 (row 0 h x0) (row 1 h x0) (outCt h x4) (hVn h x0 x1 x2 x3) (hKd h x0 x1 x2 x3 xs) (hTw h x0 x1 x2 x3 x4 xs) (bt h x1) (gc h x1) (gt h x1) (state h x2))
    (dgc1 (row 1 h x0) (bt h x1) (gc h x1) (hM h x0 x1 x2 x3 x4 xs))
/-- … of their total. -/
def hT : FVec F S1x1 .f32 := dgt (row 1 h x0) (hKd h x0 x1 x2 x3 xs) (gc h x1) (gt h x1) (state h x2) (carry h xs)

/-- The three cotangents of head `h`'s rows. -/
def hRows (part : Fin 3) : FVec F S64x128 .f32 :=
  match part with
  | 0 => hQ h x0 x1 x2 x3 x4
  | 1 => hK h x0 x1 x2 x3 x4 xs
  | 2 => hV h x0 x1 x3 x4 xs

/-- Rows of eight heads side by side. -/
def glue (R : Fin 3 → Fin 8 → FVec F S64x128 .f32) : Vec F S3x64x1024 .f32 := fun y =>
  R (y 0) ⟨(y 2).val / 128, by have : (y 2).val < 1024 := (y 2).isLt; omega⟩ (ValueIdx.ix2 (n0 := 64) (n1 := 128) (y 1) ⟨(y 2).val % 128, by omega⟩)
/-- The first output's block. -/
def blockRows : Vec F S3x64x1024 .f32 := glue (F := F) fun part h => hRows h x0 x1 x2 x3 x4 xs part
/-- The second's. -/
def blockGates : Vec F S64x128 .f32 :=
  dgates (pack (fun h => hB h x0 x1 x2 x3 x4 xs) (fun h => hG h x0 x1 x2 x3 x4 xs)) (pack1 fun h => hT h x0 x1 x2 x3 xs)
/-- Eight matrices, one after another. -/
def stackS (R : Fin 8 → FVec F S128x128 .f32) : Vec F S8x128x128 .f32 := fun y => R (y 0) (ValueIdx.ix2 (n0 := 128) (n1 := 128) (y 1) (y 2))
/-- The carried block. -/
def blockCarry : Vec F S8x128x128 .f32 := stackS (F := F) fun h => hS h x0 x1 x3 x4 xs

theorem piece (R : Fin 3 → Fin 8 → FVec F S64x128 .f32) (part : Fin 3) (h : Fin 8) (x : S1x64x128.Idx) :
    shapeCast S1x64x128 (R part h) shapeCasts_S64x128_S1x64x128 x
      = glue R ((Rect.unit (s := S3x64x1024) ![part.val, 0, 128 * h.val] S1x64x128.size (inb_qkv part h)).emb x) := by
  have hx0 : (x 0).val < 1 := (x 0).isLt
  have hx2 : (x 2).val < 128 := (x 2).isLt
  refine (shapeCast_addUnit_apply ![64, 128] (R part h) _ x).trans ?_
  unfold glue
  have e0 : ((Rect.unit (s := S3x64x1024) ![part.val, 0, 128 * h.val] S1x64x128.size (inb_qkv part h)).emb x) 0 = part :=
    Fin.ext (show part.val + 1 * (x 0).val = part.val by omega)
  have e2 : (((Rect.unit (s := S3x64x1024) ![part.val, 0, 128 * h.val] S1x64x128.size (inb_qkv part h)).emb x) 2).val = 128 * h.val + 1 * (x 2).val := rfl
  have e1 : (((Rect.unit (s := S3x64x1024) ![part.val, 0, 128 * h.val] S1x64x128.size (inb_qkv part h)).emb x) 1).val = 0 + 1 * (x 1).val := rfl
  have eh : (⟨(((Rect.unit (s := S3x64x1024) ![part.val, 0, 128 * h.val] S1x64x128.size (inb_qkv part h)).emb x) 2).val / 128, by rw [e2]; omega⟩ : Fin 8) = h :=
    Fin.ext (by show _ / 128 = h.val; rw [e2]; omega)
  rw [show R (((Rect.unit (s := S3x64x1024) ![part.val, 0, 128 * h.val] S1x64x128.size (inb_qkv part h)).emb x) 0) = R part from congrArg R e0, eh]
  refine congrArg (R part h) (funext fun a => Fin.ext ?_)
  match a with
  | ⟨0, _⟩ => show (x 1).val = _; exact (by rw [e1]; omega : (x 1).val = (((Rect.unit (s := S3x64x1024) ![part.val, 0, 128 * h.val] S1x64x128.size (inb_qkv part h)).emb x) 1).val)
  | ⟨1, _⟩ => show (x 2).val = (((Rect.unit (s := S3x64x1024) ![part.val, 0, 128 * h.val] S1x64x128.size (inb_qkv part h)).emb x) 2).val % 128; rw [e2]; omega

theorem pieceS (R : Fin 8 → FVec F S128x128 .f32) (h : Fin 8) (x : S1x128x128.Idx) :
    shapeCast S1x128x128 (R h) shapeCasts_S128x128_S1x128x128 x
      = stackS R ((Rect.unit (s := S8x128x128) ![h.val, 0, 0] S1x128x128.size (inb_carry h)).emb x) := by
  have hx0 : (x 0).val < 1 := (x 0).isLt
  refine (shapeCast_addUnit_apply ![128, 128] (R h) _ x).trans ?_
  unfold stackS
  have e0 : ((Rect.unit (s := S8x128x128) ![h.val, 0, 0] S1x128x128.size (inb_carry h)).emb x) 0 = h :=
    Fin.ext (show h.val + 1 * (x 0).val = h.val by omega)
  rw [show R (((Rect.unit (s := S8x128x128) ![h.val, 0, 0] S1x128x128.size (inb_carry h)).emb x) 0) = R h from congrArg R e0]
  refine congrArg (R h) (funext fun a => Fin.ext ?_)
  match a with
  | ⟨0, _⟩ => show (x 1).val = 0 + 1 * (x 1).val; omega
  | ⟨1, _⟩ => show (x 2).val = 0 + 1 * (x 2).val; omega

/-- Every index of the carried block lies in its head's matrix. -/
theorem mem_carry (y : S8x128x128.Idx) (n : ℕ) (e : (y 0).val = n) (inb) :
    y ∈ (Rect.unit (s := S8x128x128) ![n, 0, 0] S1x128x128.size inb).set := by
  refine LoadRect.mem_set _ |>.mpr fun a => ?_
  match a with
  | ⟨0, _⟩ => exact ⟨0, (by decide : 0 < 1), (by show (y 0).val = n + 1 * 0; omega)⟩
  | ⟨1, _⟩ => exact ⟨(y 1).val, (y 1).isLt, (by show (y 1).val = 0 + 1 * (y 1).val; omega)⟩
  | ⟨2, _⟩ => exact ⟨(y 2).val, (y 2).isLt, (by show (y 2).val = 0 + 1 * (y 2).val; omega)⟩

/-- Eight stores, one per head's matrix, cover the block. -/
theorem cover8 (w7 w6 w5 w4 w3 w2 w1 w0 : S1x128x128.Idx → Elt F .f32) (y : S8x128x128.Idx) :
    ∃ p ∈ ([⟨Rect.unit (s := S8x128x128) ![7, 0, 0] S1x128x128.size (inb_carry 7), w7⟩,
      ⟨Rect.unit (s := S8x128x128) ![6, 0, 0] S1x128x128.size (inb_carry 6), w6⟩,
      ⟨Rect.unit (s := S8x128x128) ![5, 0, 0] S1x128x128.size (inb_carry 5), w5⟩,
      ⟨Rect.unit (s := S8x128x128) ![4, 0, 0] S1x128x128.size (inb_carry 4), w4⟩,
      ⟨Rect.unit (s := S8x128x128) ![3, 0, 0] S1x128x128.size (inb_carry 3), w3⟩,
      ⟨Rect.unit (s := S8x128x128) ![2, 0, 0] S1x128x128.size (inb_carry 2), w2⟩,
      ⟨Rect.unit (s := S8x128x128) ![1, 0, 0] S1x128x128.size (inb_carry 1), w1⟩,
      ⟨Rect.unit (s := S8x128x128) ![0, 0, 0] S1x128x128.size (inb_carry 0), w0⟩] : List (View.Piece (Elt F) S8x128x128 .f32)), y ∈ p.1.set := by
  have h8 : (y 0).val < 8 := (y 0).isLt
  have : (y 0).val = 0 ∨ (y 0).val = 1 ∨ (y 0).val = 2 ∨ (y 0).val = 3 ∨ (y 0).val = 4 ∨ (y 0).val = 5 ∨ (y 0).val = 6 ∨ (y 0).val = 7 := by omega
  rcases this with e | e | e | e | e | e | e | e
  · exact ⟨_, .tail _ (.tail _ (.tail _ (.tail _ (.tail _ (.tail _ (.tail _ (.head _))))))), mem_carry y 0 e (inb_carry 0)⟩
  · exact ⟨_, .tail _ (.tail _ (.tail _ (.tail _ (.tail _ (.tail _ (.head _)))))), mem_carry y 1 e (inb_carry 1)⟩
  · exact ⟨_, .tail _ (.tail _ (.tail _ (.tail _ (.tail _ (.head _))))), mem_carry y 2 e (inb_carry 2)⟩
  · exact ⟨_, .tail _ (.tail _ (.tail _ (.tail _ (.head _)))), mem_carry y 3 e (inb_carry 3)⟩
  · exact ⟨_, .tail _ (.tail _ (.tail _ (.head _))), mem_carry y 4 e (inb_carry 4)⟩
  · exact ⟨_, .tail _ (.tail _ (.head _)), mem_carry y 5 e (inb_carry 5)⟩
  · exact ⟨_, .tail _ (.head _), mem_carry y 6 e (inb_carry 6)⟩
  · exact ⟨_, .head _, mem_carry y 7 e (inb_carry 7)⟩

end Cert.KernelIdeal.Head

end
-- ==== Proof.Rep.lean ====
/-
  REAL READINGS of blocks at the ideal instance: `Rep X M` says that the rank-2 block `X` holds the real matrix `M`. One
  lemma for each operation the kernel uses: elementwise arithmetic, the bf16 halves of an operand (the rounding is the
  identity here, so the lower half is zero), the products, transposes, broadcasts, masks and sums.
-/
module

public import proofs.«01_k».proof.Proof.Head
public import proofs.«01_k».proof.Proof.Chunk
public import Idealize.ShloMosaic.Lib.Pointwise

@[expose] public section

noncomputable section

namespace Cert.Rep

open Idealize.ShloMosaic Idealize.ShloMosaic.ValueIdx Matrix Cert.Chunk Cert.KernelIdeal Cert.KernelIdeal.Gen Cert.KernelIdeal.Head

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type*} [Fintype ι] {f : ι → EReal} {a : ι → ℝ} (h : ∀ i, f i = (a i : EReal)) : ∑ i, f i = ((∑ i, a i : ℝ) : EReal) := by
  rw [coe_sum]; exact Finset.sum_congr rfl fun i _ => h i

theorem sum_mul_coe {ι : Type*} [Fintype ι] {f g : ι → EReal} {a b : ι → ℝ} (hf : ∀ i, f i = (a i : EReal)) (hg : ∀ i, g i = (b i : EReal)) :
    (0 : EReal) + ∑ i, f i * g i = ((∑ i, a i * b i : ℝ) : EReal) := by
  rw [zero_add]; exact sum_coe fun i => by rw [hf, hg, EReal.coe_mul]

/-- The block `X` holds the real matrix `M`. -/
def Rep {φ : FTy} {m n : ℕ} (X : FVec Ideal ⟨2, ![m, n]⟩ φ) (M : Matrix (Fin m) (Fin n) ℝ) : Prop :=
  ∀ i j, X (ValueIdx.ix2 i j) = ((M i j : ℝ) : EReal)

section
variable {φ : FTy} {m n : ℕ} {X Y : FVec Ideal ⟨2, ![m, n]⟩ φ} {A B : Matrix (Fin m) (Fin n) ℝ}

theorem Rep.congr (h : Rep X A) (e : A = B) : Rep X B := e ▸ h

theorem Rep.addf (hX : Rep X A) (hY : Rep Y B) : Rep (addf X Y) (A + B) := fun i j => by
  show X _ + Y _ = _
  rw [hX, hY, Matrix.add_apply, EReal.coe_add]
theorem Rep.subf (hX : Rep X A) (hY : Rep Y B) : Rep (subf X Y) (A - B) := fun i j => by
  show X _ - Y _ = _
  rw [hX, hY, Matrix.sub_apply, EReal.coe_sub]
theorem Rep.mulf (hX : Rep X A) (hY : Rep Y B) : Rep (mulf X Y) (ew A B) := fun i j => by
  show X _ * Y _ = _
  rw [hX, hY, ew_apply, EReal.coe_mul]
theorem Rep.exp (hX : Rep X A) : Rep (exp X) (of fun i j => Real.exp (A i j)) := fun i j => by
  show Ideal.exp (X _) = _
  rw [hX, Ideal.exp_coe]; rfl
end

section
variable {m n : ℕ} {X Y : FVec Ideal ⟨2, ![m, n]⟩ .f32} {A B : Matrix (Fin m) (Fin n) ℝ}

theorem Rep.splat (h : Ideal.ofBits .f32 0x00000000#32 = 0 := Ideal.ofBits_zero_f32) : Rep (broadcast ⟨2, ![m, n]⟩ (Scalar.ofBits (F := Ideal) .f32 0x00000000#32)) (0 : Matrix (Fin m) (Fin n) ℝ) := fun i j => by
  show Ideal.ofBits .f32 0x00000000#32 = _
  rw [h]; rfl
theorem Rep.neg (hX : Rep X A) : Rep (Head.neg X) (-A) := by
  have := Rep.subf (Rep.splat (m := m) (n := n)) hX
  rwa [zero_sub] at this
theorem Rep.hi (hX : Rep X A) : Rep (Head.hi X) A := hX
theorem Rep.lo (hX : Rep X A) : Rep (Head.lo X) 0 := fun i j => by
  show X _ - X _ = _
  rw [hX, ← EReal.coe_sub, sub_self]; rfl
end

theorem zero_apply (s : Shape) (i : s.Idx) : Head.zero (F := Ideal) s i = (0 : EReal) := Ideal.ofBits_zero_f32

/-! ## Products -/

section
variable {φ₁ φ₂ : FTy}

theorem mm_64_64_128 {X : FVec Ideal S64x64 φ₁} {Y : FVec Ideal S64x128 φ₂} {A : Matrix (Fin 64) (Fin 64) ℝ} {B : Matrix (Fin 64) (Fin 128) ℝ}
    (hX : Rep X A) (hY : Rep Y B) : Rep (matmul dot_S64x64_S64x128_S64x128_1_0_0_1_n_n none X Y (Head.zero S64x128)) (A * B) := fun i j => by
  simp only [pointwise, zero_apply]
  exact sum_mul_coe (fun k => hX i k) (fun k => hY k j)
theorem mm_64_64_64 {X : FVec Ideal S64x64 φ₁} {Y : FVec Ideal S64x64 φ₂} {A : Matrix (Fin 64) (Fin 64) ℝ} {B : Matrix (Fin 64) (Fin 64) ℝ}
    (hX : Rep X A) (hY : Rep Y B) : Rep (matmul dot_S64x64_S64x64_S64x64_1_0_0_1_n_n none X Y (Head.zero S64x64)) (A * B) := fun i j => by
  simp only [pointwise, zero_apply]
  exact sum_mul_coe (fun k => hX i k) (fun k => hY k j)
theorem mm_64_128_64 {X : FVec Ideal S64x128 φ₁} {Y : FVec Ideal S128x64 φ₂} {A : Matrix (Fin 64) (Fin 128) ℝ} {B : Matrix (Fin 128) (Fin 64) ℝ}
    (hX : Rep X A) (hY : Rep Y B) : Rep (matmul dot_S64x128_S128x64_S64x64_1_0_0_1_n_n none X Y (Head.zero S64x64)) (A * B) := fun i j => by
  simp only [pointwise, zero_apply]
  exact sum_mul_coe (fun k => hX i k) (fun k => hY k j)
theorem mm_64_128_128 {X : FVec Ideal S64x128 φ₁} {Y : FVec Ideal S128x128 φ₂} {A : Matrix (Fin 64) (Fin 128) ℝ} {B : Matrix (Fin 128) (Fin 128) ℝ}
    (hX : Rep X A) (hY : Rep Y B) : Rep (matmul dot_S64x128_S128x128_S64x128_1_0_0_1_n_n none X Y (Head.zero S64x128)) (A * B) := fun i j => by
  simp only [pointwise, zero_apply]
  exact sum_mul_coe (fun k => hX i k) (fun k => hY k j)
theorem mm_nt_64 {X : FVec Ideal S64x128 φ₁} {Y : FVec Ideal S64x128 φ₂} {A B : Matrix (Fin 64) (Fin 128) ℝ}
    (hX : Rep X A) (hY : Rep Y B) : Rep (matmul dot_S64x128_S64x128_S64x64_1_1_0_0_n_n none X Y (Head.zero S64x64)) (A * Bᵀ) := fun i j => by
  simp only [pointwise, zero_apply]
  exact sum_mul_coe (fun k => hX i k) (fun k => hY j k)
theorem mm_nt_128 {X : FVec Ideal S64x128 φ₁} {Y : FVec Ideal S128x128 φ₂} {A : Matrix (Fin 64) (Fin 128) ℝ} {B : Matrix (Fin 128) (Fin 128) ℝ}
    (hX : Rep X A) (hY : Rep Y B) : Rep (matmul dot_S64x128_S128x128_S64x128_1_1_0_0_n_n none X Y (Head.zero S64x128)) (A * Bᵀ) := fun i j => by
  simp only [pointwise, zero_apply]
  exact sum_mul_coe (fun k => hX i k) (fun k => hY j k)
theorem mm_nt_S {X : FVec Ideal S128x128 φ₁} {Y : FVec Ideal S64x128 φ₂} {A : Matrix (Fin 128) (Fin 128) ℝ} {B : Matrix (Fin 64) (Fin 128) ℝ}
    (hX : Rep X A) (hY : Rep Y B) : Rep (matmul dot_S128x128_S64x128_S128x64_1_1_0_0_n_n none X Y (Head.zero S128x64)) (A * Bᵀ) := fun i j => by
  simp only [pointwise, zero_apply]
  exact sum_mul_coe (fun k => hX i k) (fun k => hY j k)
theorem mm_tt_S {X : FVec Ideal S128x128 φ₁} {Y : FVec Ideal S64x128 φ₂} {A : Matrix (Fin 128) (Fin 128) ℝ} {B : Matrix (Fin 64) (Fin 128) ℝ}
    (hX : Rep X A) (hY : Rep Y B) : Rep (matmul dot_S128x128_S64x128_S128x64_0_1_1_0_n_n none X Y (Head.zero S128x64)) (Aᵀ * Bᵀ) := fun i j => by
  simp only [pointwise, zero_apply]
  exact sum_mul_coe (fun k => hX k i) (fun k => hY j k)
theorem mm_tn_64 {X : FVec Ideal S64x128 φ₁} {Y : FVec Ideal S64x64 φ₂} {A : Matrix (Fin 64) (Fin 128) ℝ} {B : Matrix (Fin 64) (Fin 64) ℝ}
    (hX : Rep X A) (hY : Rep Y B) : Rep (matmul dot_S64x128_S64x64_S128x64_0_0_1_1_n_n none X Y (Head.zero S128x64)) (Aᵀ * B) := fun i j => by
  simp only [pointwise, zero_apply]
  exact sum_mul_coe (fun k => hX k i) (fun k => hY k j)
theorem mm_tn_128 {X : FVec Ideal S64x128 φ₁} {Y : FVec Ideal S64x128 φ₂} {A B : Matrix (Fin 64) (Fin 128) ℝ}
    (hX : Rep X A) (hY : Rep Y B) : Rep (matmul dot_S64x128_S64x128_S128x128_0_0_1_1_n_n none X Y (Head.zero S128x128)) (Aᵀ * B) := fun i j => by
  simp only [pointwise, zero_apply]
  exact sum_mul_coe (fun k => hX k i) (fun k => hY k j)
theorem mm_tn_sq {X : FVec Ideal S64x64 φ₁} {Y : FVec Ideal S64x128 φ₂} {A : Matrix (Fin 64) (Fin 64) ℝ} {B : Matrix (Fin 64) (Fin 128) ℝ}
    (hX : Rep X A) (hY : Rep Y B) : Rep (matmul dot_S64x64_S64x128_S64x128_0_0_1_1_n_n none X Y (Head.zero S64x128)) (Aᵀ * B) := fun i j => by
  simp only [pointwise, zero_apply]
  exact sum_mul_coe (fun k => hX k i) (fun k => hY k j)
end

theorem dot3 {X : FVec Ideal S64x64 .f32} {Y : FVec Ideal S64x128 .f32} {A : Matrix (Fin 64) (Fin 64) ℝ} {B : Matrix (Fin 64) (Fin 128) ℝ}
    (hX : Rep X A) (hY : Rep Y B) : Rep (Head.dot3 X Y) (A * B) :=
  ((mm_64_64_128 hX.hi hY.hi).addf ((mm_64_64_128 hX.hi hY.lo).addf (mm_64_64_128 hX.lo hY.hi))).congr (by simp)
theorem dot3' {X : FVec Ideal S64x128 .f32} {Y : FVec Ideal S128x64 .f32} {A : Matrix (Fin 64) (Fin 128) ℝ} {B : Matrix (Fin 128) (Fin 64) ℝ}
    (hX : Rep X A) (hY : Rep Y B) : Rep (Head.dot3' X Y) (A * B) :=
  ((mm_64_128_64 hX.hi hY.hi).addf ((mm_64_128_64 hX.hi hY.lo).addf (mm_64_128_64 hX.lo hY.hi))).congr (by simp)

/-! ## Layout -/

theorem tr {X : FVec Ideal S64x64 .f32} {A : Matrix (Fin 64) (Fin 64) ℝ} (h : Rep X A) : Rep (Head.tr X) Aᵀ := fun i j => by
  unfold Head.tr; simp only [pointwise]; exact h j i
theorem tr' {X : FVec Ideal S64x128 .f32} {A : Matrix (Fin 64) (Fin 128) ℝ} (h : Rep X A) : Rep (Head.tr' X) Aᵀ := fun i j => by
  unfold Head.tr'; simp only [pointwise]; exact h j i
theorem tr'' {X : FVec Ideal S128x64 .f32} {A : Matrix (Fin 128) (Fin 64) ℝ} (h : Rep X A) : Rep (Head.tr'' X) Aᵀ := fun i j => by
  unfold Head.tr''; simp only [pointwise]; exact h j i
theorem trS {X : FVec Ideal S128x128 .f32} {A : Matrix (Fin 128) (Fin 128) ℝ} (h : Rep X A) : Rep (Head.trS X) Aᵀ := fun i j => by
  unfold Head.trS; simp only [pointwise]; exact h j i

theorem wide {c : FVec Ideal S64x1 .f32} {a : Fin 64 → ℝ} (h : Rep c (col a)) : Rep (Head.wide c) (of fun i _ => a i) := fun i j => by
  unfold Head.wide; simp only [pointwise]; exact h i 0
theorem square {c : FVec Ideal S64x1 .f32} {a : Fin 64 → ℝ} (h : Rep c (col a)) : Rep (Head.square c) (of fun i _ => a i) := fun i j => by
  unfold Head.square; simp only [pointwise]; exact h i 0
theorem lane {t : FVec Ideal S1x1 .f32} {a : ℝ} (h : Rep t (of fun _ _ => a)) : Rep (Head.lane t) (of fun _ _ => a) := fun i j => by
  unfold Head.lane; simp only [pointwise]; exact h 0 0
theorem down {X : FVec Ideal S1x128 .f32} {A : Matrix (Fin 1) (Fin 128) ℝ} (h : Rep X A) :
    Rep (broadcastTo S64x128 X broadcasts_S1x128_S64x128) (of fun _ j => A 0 j) := fun i j => by
  simp only [pointwise]; exact h 0 j
theorem downS {X : FVec Ideal S1x128 .f32} {A : Matrix (Fin 1) (Fin 128) ℝ} (h : Rep X A) :
    Rep (broadcastTo S128x128 X broadcasts_S1x128_S128x128) (of fun _ j => A 0 j) := fun i j => by
  simp only [pointwise]; exact h 0 j
theorem castS {X : FVec Ideal S128x128 .f32} {A : Matrix (Fin 128) (Fin 128) ℝ} (h : Rep X A) :
    Rep (shapeCast S128x128 X shapeCasts_S128x128_S128x128) A := fun i j => by
  simp only [pointwise]; exact h i j
theorem cast64 {X : FVec Ideal S64x128 .f32} {A : Matrix (Fin 64) (Fin 128) ℝ} (h : Rep X A) :
    Rep (shapeCast S64x128 X shapeCasts_S64x128_S64x128) A := fun i j => by
  simp only [pointwise]; exact h i j

/-! ## Masks -/

theorem rowGe_apply (i j : Fin 64) : rowGe (ValueIdx.ix2 i j) = if j ≤ i then 1#1 else 0#1 := by
  unfold rowGe; revert i j; decide +kernel
theorem rowGt_apply (i j : Fin 64) : rowGt (ValueIdx.ix2 i j) = if j < i then 1#1 else 0#1 := by
  unfold rowGt; revert i j; decide +kernel

theorem selGe {X Y : FVec Ideal S64x64 .f32} {A : Matrix (Fin 64) (Fin 64) ℝ} (hX : Rep X A) (hY : Rep Y 0) : Rep (select rowGe X Y) (low A) := fun i j => by
  rw [ValueIdx.select_apply, rowGe_apply]
  unfold low
  by_cases h : j ≤ i
  · simp [h, hX i j, ValueIdx.select_one]
  · simp [h, hY i j, ValueIdx.select_zero]
theorem selGt {X Y : FVec Ideal S64x64 .f32} {A : Matrix (Fin 64) (Fin 64) ℝ} (hX : Rep X A) (hY : Rep Y 0) : Rep (select rowGt X Y) (strict A) := fun i j => by
  rw [ValueIdx.select_apply, rowGt_apply]
  unfold strict
  by_cases h : j < i
  · simp [h, hX i j, ValueIdx.select_one]
  · simp [h, hY i j, ValueIdx.select_zero]

/-! ## Sums -/

theorem rowSum {X : FVec Ideal S64x128 .f32} {A : Matrix (Fin 64) (Fin 128) ℝ} (h : Rep X A) : Rep (Head.rowSum X) (col (sums A)) := fun i j => by
  unfold Head.rowSum; simp only [pointwise]; exact sum_coe fun l => h i l
theorem rowSum' {X : FVec Ideal S64x64 .f32} {A : Matrix (Fin 64) (Fin 64) ℝ} (h : Rep X A) : Rep (Head.rowSum' X) (col (sums A)) := fun i j => by
  unfold Head.rowSum'; simp only [pointwise]; exact sum_coe fun l => h i l
theorem colSum {X : FVec Ideal S64x128 .f32} {A : Matrix (Fin 64) (Fin 128) ℝ} (h : Rep X A) :
    Rep (shapeCast S1x128 (multiReduction .add [0] S128 X 0x00000000#32 reduces_S64x128_S128 (.inl rfl) rfl) shapeCasts_S128_S1x128) (of fun _ l => ∑ i, A i l) := fun i j => by
  simp only [pointwise]; exact sum_coe fun k => h k j
theorem colSumS {X : FVec Ideal S128x128 .f32} {A : Matrix (Fin 128) (Fin 128) ℝ} (h : Rep X A) :
    Rep (shapeCast S1x128 (multiReduction .add [0] S128 X 0x00000000#32 reduces_S128x128_S128 (.inl rfl) rfl) shapeCasts_S128_S1x128) (of fun _ l => ∑ i, A i l) := fun i j => by
  simp only [pointwise]; exact sum_coe fun k => h k j
theorem total {X : FVec Ideal S1x128 .f32} {A : Matrix (Fin 1) (Fin 128) ℝ} (h : Rep X A) :
    Rep (broadcast S1x1 (extractAt ![0, 0, 0] (shapeCast S1x1x1 (multiReduction .add [1, 2] S1 (shapeCast S1x1x128 X
      shapeCasts_S1x128_S1x1x128) 0x00000000#32 reduces_S1x1x128_S1 (.inl rfl) rfl) shapeCasts_S1_S1x1x1) inpos_S1x1x1_p0_0_0)) (of fun _ _ => ∑ l, A 0 l) := fun i j => by
  simp only [pointwise]
  rw [Fin.sum_univ_one]
  exact sum_coe fun k => h 0 k

end Cert.Rep

end
-- ==== Proof.HeadReal.lean ====
/-
  THE KERNEL'S HEAD over the reals: when the loads hold a tile's matrices and the carried block holds the state's cotangent,
  every intermediate value of the head holds the matrix that the chunk's derivative names.
-/
module

public import proofs.«01_k».proof.Proof.Rep

@[expose] public section

noncomputable section

namespace Cert.HeadReal

open Idealize.ShloMosaic Idealize.ShloMosaic.ValueIdx Matrix Cert.Chunk Cert.Rep Cert.KernelIdeal Cert.KernelIdeal.Gen

variable {x : Tile} {D : Matrix (Fin 128) (Fin 128) ℝ}
variable {q k v d : FVec Ideal S64x128 .f32} {c b : FVec Ideal S64x1 .f32} {t : FVec Ideal S1x1 .f32} {T : FVec Ideal S64x64 .f32}
  {S Db : FVec Ideal S128x128 .f32}

theorem rowsRep {X : FVec Ideal S64x128 .f32} {Y : FVec Ideal S64x128 .f32} {A : Matrix (Fin 64) (Fin 128) ℝ} {a : Fin 64 → ℝ}
    (hX : Rep X A) (hY : Rep Y (of fun i _ => a i)) : Rep (mulf X Y) (rows A a) := (hX.mulf hY).congr rfl

theorem mask_bot : (Named.named (F := Ideal) κ "mask" (φ := .f32) 0xF149F2CA#32 : EReal) = ⊥ := rfl

theorem decay (hc : Rep c (col x.gc)) : Rep (Head.decay c) x.decay := fun i j => by
  show Ideal.exp (select Head.rowGe _ _ _) = _
  rw [ValueIdx.select_apply, rowGe_apply]
  unfold Tile.decay low
  by_cases h : j ≤ i
  · have h1 := ((square hc).subf (tr (square hc))) i j
    unfold Head.tr at h1
    simp only [h, if_true, Matrix.of_apply]
    rw [ValueIdx.select_one, h1, Ideal.exp_coe]
    rfl
  · simp only [h, if_false, Matrix.of_apply]
    rw [ValueIdx.select_zero, ValueIdx.broadcast_apply, mask_bot]
    rfl
theorem egc (hc : Rep c (col x.gc)) : Rep (Head.egc c) (of fun i _ => x.eg i) := (wide hc).exp.congr rfl
theorem erest (hc : Rep c (col x.gc)) (ht : Rep t (of fun _ _ => x.gl)) : Rep (Head.erest c t) (of fun i _ => x.erest i) :=
  ((down (lane ht)).subf (wide hc)).exp.congr rfl
theorem egt (ht : Rep t (of fun _ _ => x.gl)) : Rep (Head.egt t) (of fun _ _ => Real.exp x.gl) := (lane ht).exp.congr rfl

theorem qk (hq : Rep q x.q) (hk : Rep k x.k) : Rep (Head.qk q k) (x.q * x.kᵀ) := mm_nt_64 hq hk
theorem kb (hk : Rep k x.k) (hb : Rep b (col x.b)) : Rep (mulf k (Head.wide b)) x.kb := rowsRep hk (wide hb)
theorem vb (hv : Rep v x.v) (hb : Rep b (col x.b)) : Rep (mulf v (Head.wide b)) x.vb := rowsRep hv (wide hb)
theorem u (hT : Rep T x.T) (hv : Rep v x.v) (hb : Rep b (col x.b)) : Rep (Head.u T v b) x.u := dot3 hT (vb hv hb)
theorem kbe (hk : Rep k x.k) (hb : Rep b (col x.b)) (hc : Rep c (col x.gc)) : Rep (Head.kbe k b c) x.kbe := rowsRep (kb hk hb) (egc hc)
theorem w (hT : Rep T x.T) (hk : Rep k x.k) (hb : Rep b (col x.b)) (hc : Rep c (col x.gc)) : Rep (Head.w T k b c) x.w := dot3 hT (kbe hk hb hc)
theorem vnew {u w : FVec Ideal S64x128 .f32} (hu : Rep u x.u) (hw : Rep w x.w) (hS : Rep S x.S) : Rep (Head.vnew u w S) x.vn :=
  hu.subf (mm_64_128_128 hw hS)

theorem dvn (hq : Rep q x.q) (hk : Rep k x.k) (hd : Rep d x.d) (hc : Rep c (col x.gc)) (ht : Rep t (of fun _ _ => x.gl)) (hD : Rep Db D) :
    Rep (Head.dvn q k d c t Db) (x.dvn D) :=
  ((tr'' (mm_tt_S (castS hD) (rowsRep hk (erest hc ht)))).addf (tr'' (mm_tn_64 (cast64 hd) ((qk hq hk).mulf (decay hc))))).congr (by
    rw [Matrix.transpose_mul, Matrix.transpose_mul, Matrix.transpose_transpose, Matrix.transpose_transpose, Matrix.transpose_transpose]
    rfl)
theorem dkd {vn : FVec Ideal S64x128 .f32} (hD : Rep Db D) (hvn : Rep vn x.vn) : Rep (Head.dkd Db vn) (x.dkd D) :=
  (tr'' (mm_nt_S (castS hD) hvn)).congr (by rw [Matrix.transpose_mul, Matrix.transpose_transpose]; rfl)
theorem dS {w dv : FVec Ideal S64x128 .f32} (hq : Rep q x.q) (hd : Rep d x.d) (hw : Rep w x.w) (hdv : Rep dv (x.dvn D)) (hc : Rep c (col x.gc))
    (ht : Rep t (of fun _ _ => x.gl)) (hD : Rep Db D) : Rep (Head.dS q d w dv c t Db) (x.dS D) :=
  ((((castS hD).mulf (downS (egt ht))).addf (trS (mm_tn_128 (cast64 hd) (rowsRep hq (egc hc))))).addf (trS (mm_tn_128 hdv.neg hw))).congr (by
    rw [Matrix.transpose_mul, Matrix.transpose_mul, Matrix.transpose_transpose, Matrix.transpose_transpose, Matrix.mul_neg]
    unfold Tile.dS
    congr 2
    ext i j
    simp [ew_apply, mul_comm])
theorem dqk {vn : FVec Ideal S64x128 .f32} (hd : Rep d x.d) (hvn : Rep vn x.vn) : Rep (Head.dqk d vn) x.dqk := mm_nt_64 (cast64 hd) hvn
theorem dqe (hd : Rep d x.d) (hS : Rep S x.S) : Rep (Head.dqe d S) x.dqe := mm_nt_128 (cast64 hd) hS
theorem dw {dv : FVec Ideal S64x128 .f32} (hdv : Rep dv (x.dvn D)) (hS : Rep S x.S) : Rep (Head.dw dv S) (x.dw D) := mm_nt_128 hdv.neg hS
theorem dq {vn : FVec Ideal S64x128 .f32} (hk : Rep k x.k) (hd : Rep d x.d) (hvn : Rep vn x.vn) (hc : Rep c (col x.gc)) (hS : Rep S x.S) :
    Rep (Head.dq k d vn c S) x.dq :=
  (rowsRep (dqe hd hS) (egc hc)).addf (mm_64_64_128 ((dqk hd hvn).mulf (decay hc)) hk)
theorem tw {dw : FVec Ideal S64x128 .f32} (hT : Rep T x.T) (h : Rep dw (x.dw D)) : Rep (Head.tdot T dw) (x.tw D) := dot3 (tr hT) h
theorem tv {dv : FVec Ideal S64x128 .f32} (hT : Rep T x.T) (h : Rep dv (x.dvn D)) : Rep (Head.tdot T dv) (x.tv D) := dot3 (tr hT) h
theorem dv {tv : FVec Ideal S64x128 .f32} (h : Rep tv (x.tv D)) (hb : Rep b (col x.b)) : Rep (Head.dv tv b) (x.dv D) := rowsRep h (wide hb)
theorem dT {dv dw : FVec Ideal S64x128 .f32} (hk : Rep k x.k) (hv : Rep v x.v) (hdv : Rep dv (x.dvn D)) (hdw : Rep dw (x.dw D)) (hb : Rep b (col x.b))
    (hc : Rep c (col x.gc)) : Rep (Head.dT k v dv dw b c) (x.dT D) :=
  (dot3' hdw (tr' (kbe hk hb hc))).addf (dot3' hdv (tr' (vb hv hb)))
theorem dM {dT : FVec Ideal S64x64 .f32} (hT : Rep T x.T) (h : Rep dT (x.dT D)) : Rep (Head.dM T dT) (x.dM D) :=
  (selGt (mm_64_64_64 (mm_64_64_64 (tr hT) h) (tr hT)).neg Rep.splat).congr (x.dMk_eq D)
theorem dMk {M : FVec Ideal S64x64 .f32} (hk : Rep k x.k) (hc : Rep c (col x.gc)) (hM : Rep M (x.dM D)) :
    Rep (Head.dMk k c M) ((ew (x.dM D) x.decay) * x.k) := mm_64_64_128 (hM.mulf (decay hc)) hk

/-- The cotangent of k, the sum of its two shares. -/
theorem dk {vn kd tw : FVec Ideal S64x128 .f32} {M : FVec Ideal S64x64 .f32} (hq : Rep q x.q) (hk : Rep k x.k) (hd : Rep d x.d) (hvn : Rep vn x.vn)
    (hkd : Rep kd (x.dkd D)) (htw : Rep tw (x.tw D)) (hb : Rep b (col x.b)) (hc : Rep c (col x.gc)) (ht : Rep t (of fun _ _ => x.gl))
    (hM : Rep M (x.dM D)) : Rep (addf (Head.dk0 q d vn kd tw b c t) (Head.dk1 k b c M)) (x.dk D) :=
  ((((rowsRep hkd (erest hc ht)).addf (rowsRep (rowsRep htw (egc hc)) (wide hb))).addf (mm_tn_sq ((dqk hd hvn).mulf (decay hc)) hq)).addf
    ((mm_tn_sq (hM.mulf (decay hc)) (kb hk hb)).addf (rowsRep (dMk hk hc hM) (wide hb)))).congr (x.dkK_eq D)

/-- The cotangent of the write strengths, the sum of its two shares. -/
theorem db {tv tw : FVec Ideal S64x128 .f32} {M : FVec Ideal S64x64 .f32} (hk : Rep k x.k) (hv : Rep v x.v) (htv : Rep tv (x.tv D)) (htw : Rep tw (x.tw D))
    (hc : Rep c (col x.gc)) (hM : Rep M (x.dM D)) : Rep (addf (Head.db0 k v tv tw c) (Head.db1 k c M)) (col (x.db D)) :=
  ((rowSum ((hk.mulf (rowsRep htw (egc hc))).addf (hv.mulf htv))).addf (rowSum (hk.mulf (dMk hk hc hM)))).congr
    (by ext i j; exact x.db_eq D i)

theorem decaySum {X : FVec Ideal S64x64 .f32} {A : Matrix (Fin 64) (Fin 64) ℝ} (h : Rep X A) : Rep (Head.decaySum X) (col (Tile.dsum A)) :=
  rowSum' ((selGe h Rep.splat).addf (tr (selGe h Rep.splat).neg))
theorem dkde {kd : FVec Ideal S64x128 .f32} (hk : Rep k x.k) (hkd : Rep kd (x.dkd D)) (hc : Rep c (col x.gc)) (ht : Rep t (of fun _ _ => x.gl)) :
    Rep (Head.dkde k kd c t) (rows (ew x.k (x.dkd D)) x.erest) := rowsRep (hk.mulf hkd) (erest hc ht)

/-- The cotangent of the running sums, the sum of its two shares, without the chunk's own. -/
theorem dgc {vn kd tw : FVec Ideal S64x128 .f32} {M : FVec Ideal S64x64 .f32} (hq : Rep q x.q) (hk : Rep k x.k) (hd : Rep d x.d) (hvn : Rep vn x.vn)
    (hkd : Rep kd (x.dkd D)) (htw : Rep tw (x.tw D)) (hb : Rep b (col x.b)) (hc : Rep c (col x.gc)) (ht : Rep t (of fun _ _ => x.gl))
    (hS : Rep S x.S) (hM : Rep M (x.dM D)) :
    Rep (addf (Head.dgc0 q k d vn kd tw b c t S) (Head.dgc1 k b c M)) (col fun i => x.dgcK0 D i + x.dgcK1 D i) :=
  (((decaySum (((qk hq hk).mulf (dqk hd hvn)).mulf (decay hc))).addf
    (rowSum ((dkde hk hkd hc ht).neg.addf (rowsRep ((hq.mulf (dqe hd hS)).addf ((kb hk hb).mulf htw)) (egc hc))))).addf
    (decaySum (((mm_nt_64 (kb hk hb) hk).mulf hM).mulf (decay hc)))).congr rfl

/-- The cotangent of the chunk's whole log decay. -/
theorem dgt {kd : FVec Ideal S64x128 .f32} (hk : Rep k x.k) (hkd : Rep kd (x.dkd D)) (hc : Rep c (col x.gc)) (ht : Rep t (of fun _ _ => x.gl))
    (hS : Rep S x.S) (hD : Rep Db D) : Rep (Head.dgt k kd c t S Db) (of fun _ _ => x.dglK D) :=
  (total (((colSumS (hS.mulf (castS hD))).mulf (egt ht)).addf (colSum (dkde hk hkd hc ht)))).congr rfl

end Cert.HeadReal

end
-- ==== Proof.Gates.lean ====
/-
  THE GATES over the reals: the running sums and the whole sum of a lane of the gates' block as the kernel computes them (a 0/1
  mask times the block, in two halves), and the block of the gates' gradients it packs lane by lane.
-/
module

public import proofs.«01_k».proof.Proof.Rep

@[expose] public section

noncomputable section

namespace Cert.Gates

open Idealize.ShloMosaic Matrix Cert.Chunk Cert.Rep Cert.KernelIdeal Cert.KernelIdeal.Gen Cert.KernelIdeal.Head

/-- Lane `l` of the block `x` holds the vector `a`. -/
def LaneRep (x : FVec Ideal S64x128 .f32) (l : Fin 128) (a : Fin 64 → ℝ) : Prop := ∀ i, x (ValueIdx.ix2 i l) = ((a i : ℝ) : EReal)

theorem mask01 (m : IVec S64x64 1) (y : S64x64.Idx) :
    truncf (F := Ideal) .bf16 (sitofp (F := Ideal) .f32 (extui 32 m natLt_1_32)) bitsLt_bf16_f32 y = (if m y = 1#1 then 1 else 0 : EReal) := by
  show (((BitVec.setWidth 32 (m y)).toInt : ℝ) : EReal) = _
  rcases (show m y = 0#1 ∨ m y = 1#1 by generalize m y = b; revert b; decide) with e | e <;> rw [e] <;> simp

theorem maskDot_apply {m : IVec S64x64 1} {P : Fin 64 → Fin 64 → Prop} [∀ i p, Decidable (P i p)] (hm : ∀ i p, m (ValueIdx.ix2 i p) = if P i p then 1#1 else 0#1)
    {x : FVec Ideal S64x128 .f32} {l : Fin 128} {a : Fin 64 → ℝ} (hx : LaneRep x l a) (i : Fin 64) :
    maskDot m x (ValueIdx.ix2 i l) = ((∑ p, if P i p then a p else 0 : ℝ) : EReal) := by
  have hM : ∀ p, truncf (F := Ideal) .bf16 (sitofp (F := Ideal) .f32 (extui 32 m natLt_1_32)) bitsLt_bf16_f32 (ValueIdx.ix2 i p) = (((if P i p then 1 else 0 : ℝ)) : EReal) := fun p => by
    rw [mask01, hm]
    by_cases h : P i p <;> simp [h]
  have hlo : ∀ p, lo x (ValueIdx.ix2 p l) = ((0 : ℝ) : EReal) := fun p => by
    show x _ - x _ = _
    rw [hx, ← EReal.coe_sub, sub_self]
  have hhi : ∀ p, hi x (ValueIdx.ix2 p l) = ((a p : ℝ) : EReal) := hx
  have h1 : ∀ b : FVec Ideal S64x128 .bf16, matmul dot_S64x64_S64x128_S64x128_1_0_0_1_n_n none (truncf (F := Ideal) .bf16 (sitofp (F := Ideal) .f32 (extui 32 m natLt_1_32)) bitsLt_bf16_f32) b (zero S64x128) (ValueIdx.ix2 i l)
      = 0 + ∑ p, truncf (F := Ideal) .bf16 (sitofp (F := Ideal) .f32 (extui 32 m natLt_1_32)) bitsLt_bf16_f32 (ValueIdx.ix2 i p) * b (ValueIdx.ix2 p l) := fun b => by
    generalize truncf (F := Ideal) .bf16 (sitofp (F := Ideal) .f32 (extui 32 m natLt_1_32)) bitsLt_bf16_f32 = X
    simp only [pointwise, zero_apply]
    rfl
  unfold maskDot
  show matmul dot_S64x64_S64x128_S64x128_1_0_0_1_n_n none _ (hi x) _ _ + matmul dot_S64x64_S64x128_S64x128_1_0_0_1_n_n none _ (lo x) _ _ = _
  rw [h1, h1, Rep.sum_mul_coe hM hhi, Rep.sum_mul_coe hM hlo, ← EReal.coe_add]
  simp

/-! ## The loads' lanes -/

variable {x1 : FVec Ideal S64x128 .f32} {h : Fin 8} {a : Fin 64 → ℝ}

theorem bt (hx : LaneRep x1 ⟨h.val, by omega⟩ a) : Rep (Head.bt h x1) (col a) := fun i j => by
  rw [show Head.bt h x1 (ValueIdx.ix2 i j) = x1 (ValueIdx.ix2 i ⟨h.val, by omega⟩) from congrArg x1 (funext fun k => Fin.ext (by
    match k with
    | ⟨0, _⟩ => show 0 + i.val = i.val; omega
    | ⟨1, _⟩ => show h.val + j.val = h.val; omega))]
  exact hx i
theorem gc (hx : LaneRep x1 ⟨h.val + 8, by omega⟩ a) : Rep (Head.gc h x1) (col (cum a)) := fun i j => by
  rw [show Head.gc h x1 (ValueIdx.ix2 i j) = cumGates x1 (ValueIdx.ix2 i ⟨h.val + 8, by omega⟩) from congrArg (cumGates x1) (funext fun k => Fin.ext (by
    match k with
    | ⟨0, _⟩ => show 0 + i.val = i.val; omega
    | ⟨1, _⟩ => show (h.val + 8) + j.val = h.val + 8; omega))]
  exact maskDot_apply rowGe_apply hx i
theorem gt (hx : LaneRep x1 ⟨h.val + 8, by omega⟩ a) : Rep (Head.gt h x1) (of fun _ _ => ∑ p, a p) := fun i j => by
  rw [show Head.gt h x1 (ValueIdx.ix2 i j) = sumGates x1 (ValueIdx.ix2 0 ⟨h.val + 8, by omega⟩) from congrArg (sumGates x1) (funext fun k => Fin.ext (by
    match k with
    | ⟨0, _⟩ => show 0 + i.val = 0; omega
    | ⟨1, _⟩ => show (h.val + 8) + j.val = h.val + 8; omega))]
  unfold sumGates
  simp only [pointwise]
  exact sum_coe fun k => hx k

/-! ## The packed gradients -/

theorem lane_eq (l : ℕ) (hl : l < 128) (j : Fin 128) : IntOp.cmpi .eq (BitVec.ofNat 32 j.val) (BitVec.ofNat 32 l) = if j.val = l then 1#1 else 0#1 := by
  unfold IntOp.cmpi
  have : (BitVec.ofNat 32 j.val == BitVec.ofNat 32 l) = decide (j.val = l) := by
    rw [Bool.eq_iff_iff]
    simp only [beq_iff_eq, decide_eq_true_eq]
    constructor
    · intro e
      have := congrArg BitVec.toNat e
      simp only [BitVec.toNat_ofNat] at this
      have := j.isLt
      omega
    · intro e; rw [e]
  simp only [this]
  by_cases h : j.val = l <;> simp [h]

theorem iota64 (i : Fin 64) (j : Fin 128) : iota .tc S64x128 32 [1] iota_S64x128_d1_w32 (ValueIdx.ix2 i j) = BitVec.ofNat 32 j.val := by
  show BitVec.ofNat 32 (0 * 128 + j.val) = _
  rw [Nat.zero_mul, Nat.zero_add]
theorem iota1 (i : Fin 1) (j : Fin 128) : iota .tc S1x128 32 [1] iota_S1x128_d1_w32 (ValueIdx.ix2 i j) = BitVec.ofNat 32 j.val := by
  show BitVec.ofNat 32 (0 * 128 + j.val) = _
  rw [Nat.zero_mul, Nat.zero_add]

theorem put_apply (l : ℕ) (hl : l < 128) (x : FVec Ideal S64x1 .f32) (y : FVec Ideal S64x128 .f32) (i : Fin 64) (j : Fin 128) :
    put (BitVec.ofNat 32 l) x y (ValueIdx.ix2 i j) = if j.val = l then x (ValueIdx.ix2 i 0) else y (ValueIdx.ix2 i j) := by
  unfold put
  rw [ValueIdx.select_apply]
  have e : cmpi .eq (iota .tc S64x128 32 [1] iota_S64x128_d1_w32) (broadcast S64x128 (BitVec.ofNat 32 l)) (ValueIdx.ix2 i j) = if j.val = l then 1#1 else 0#1 := by
    rw [← lane_eq l hl j, ← iota64 i j]; rfl
  have w : Head.wide x (ValueIdx.ix2 i j) = x (ValueIdx.ix2 i 0) := by unfold Head.wide; simp only [pointwise]; exact congrArg x (congrArg (ValueIdx.ix2 i) (Subsingleton.elim _ _))
  rw [e, w]
  by_cases h : j.val = l
  · simp only [h, if_true]; rw [ValueIdx.select_one]
  · simp only [h, if_false]; rw [ValueIdx.select_zero]
theorem put1_apply (l : ℕ) (hl : l < 128) (x : FVec Ideal S1x1 .f32) (y : FVec Ideal S1x128 .f32) (i : Fin 1) (j : Fin 128) :
    put1 (BitVec.ofNat 32 l) x y (ValueIdx.ix2 i j) = if j.val = l then x (ValueIdx.ix2 0 0) else y (ValueIdx.ix2 i j) := by
  unfold put1
  rw [ValueIdx.select_apply]
  have e : cmpi .eq (iota .tc S1x128 32 [1] iota_S1x128_d1_w32) (broadcast S1x128 (BitVec.ofNat 32 l)) (ValueIdx.ix2 i j) = if j.val = l then 1#1 else 0#1 := by
    rw [← lane_eq l hl j, ← iota1 i j]; rfl
  have w : Head.lane x (ValueIdx.ix2 i j) = x (ValueIdx.ix2 0 0) := by unfold Head.lane; simp only [pointwise]; rfl
  rw [e, w]
  by_cases h : j.val = l
  · simp only [h, if_true]; rw [ValueIdx.select_one]
  · simp only [h, if_false]; rw [ValueIdx.select_zero]

variable (db dg : Fin 8 → FVec Ideal S64x1 .f32) (dt : Fin 8 → FVec Ideal S1x1 .f32)

theorem zero_splat (s : Shape) (y : s.Idx) : broadcast s (Scalar.ofBits (F := Ideal) .f32 0x00000000#32) y = (0 : EReal) := Ideal.ofBits_zero_f32

theorem pack_b (h : Fin 8) (i : Fin 64) : pack db dg (ValueIdx.ix2 i ⟨h.val, by omega⟩) = db h (ValueIdx.ix2 i 0) := by
  unfold pack
  fin_cases h <;> simp [put_apply]
theorem pack_g (h : Fin 8) (i : Fin 64) : pack db dg (ValueIdx.ix2 i ⟨h.val + 8, by omega⟩) = dg h (ValueIdx.ix2 i 0) := by
  unfold pack
  fin_cases h <;> simp [put_apply]
theorem pack_rest (j : Fin 128) (hj : 16 ≤ j.val) (i : Fin 64) : pack db dg (ValueIdx.ix2 i j) = (0 : EReal) := by
  unfold pack
  have hne : ∀ l : ℕ, l < 16 → ¬ j.val = l := fun l hl => by omega
  rw [put_apply 15 (by decide), if_neg (hne 15 (by decide)), put_apply 7 (by decide), if_neg (hne 7 (by decide)), put_apply 14 (by decide), if_neg (hne 14 (by decide)), put_apply 6 (by decide), if_neg (hne 6 (by decide)), put_apply 13 (by decide), if_neg (hne 13 (by decide)), put_apply 5 (by decide), if_neg (hne 5 (by decide)), put_apply 12 (by decide), if_neg (hne 12 (by decide)), put_apply 4 (by decide), if_neg (hne 4 (by decide)), put_apply 11 (by decide), if_neg (hne 11 (by decide)), put_apply 3 (by decide), if_neg (hne 3 (by decide)), put_apply 10 (by decide), if_neg (hne 10 (by decide)), put_apply 2 (by decide), if_neg (hne 2 (by decide)), put_apply 9 (by decide), if_neg (hne 9 (by decide)), put_apply 1 (by decide), if_neg (hne 1 (by decide)), put_apply 8 (by decide), if_neg (hne 8 (by decide)), put_apply 0 (by decide), if_neg (hne 0 (by decide)), zero_splat]
theorem pack1_g (h : Fin 8) : pack1 dt (ValueIdx.ix2 0 ⟨h.val + 8, by omega⟩) = dt h (ValueIdx.ix2 0 0) := by
  unfold pack1
  fin_cases h <;> simp [put1_apply]
theorem pack1_rest (j : Fin 128) (hj : 16 ≤ j.val) : pack1 dt (ValueIdx.ix2 0 j) = (0 : EReal) := by
  unfold pack1
  have hne : ∀ l : ℕ, l < 16 → ¬ j.val = l := fun l hl => by omega
  rw [put1_apply 15 (by decide), if_neg (hne 15 (by decide)), put1_apply 14 (by decide), if_neg (hne 14 (by decide)), put1_apply 13 (by decide), if_neg (hne 13 (by decide)), put1_apply 12 (by decide), if_neg (hne 12 (by decide)), put1_apply 11 (by decide), if_neg (hne 11 (by decide)), put1_apply 10 (by decide), if_neg (hne 10 (by decide)), put1_apply 9 (by decide), if_neg (hne 9 (by decide)), put1_apply 8 (by decide), if_neg (hne 8 (by decide)), zero_splat]

theorem notGt (i p : Fin 64) : xori rowGt (constantI S64x64 1 1#1) (ValueIdx.ix2 i p) = if i ≤ p then 1#1 else 0#1 := by
  show rowGt _ ^^^ 1#1 = _
  rw [rowGt_apply]
  by_cases h : p < i
  · rw [if_pos h, if_neg (by omega)]; rfl
  · rw [if_neg h, if_pos (by omega)]; rfl

theorem firstLanes (p : FVec Ideal S64x128 .f32) (t : FVec Ideal S1x128 .f32) (i : Fin 64) (j : Fin 128) (hj : j.val < 8) : dgates p t (ValueIdx.ix2 i j) = p (ValueIdx.ix2 i j) := by
  unfold dgates
  rw [ValueIdx.select_apply]
  have e : cmpi .slt (iota .tc S64x128 32 [1] iota_S64x128_d1_w32) (broadcast S64x128 8#32) (ValueIdx.ix2 i j) = 1#1 := by
    have k : ∀ j : Fin 128, j.val < 8 → IntOp.cmpi .slt (BitVec.ofNat 32 j.val) 8#32 = 1#1 := by decide +kernel
    rw [← k j hj, ← iota64 i j]; rfl
  rw [e, ValueIdx.select_one]
theorem otherLanes (p : FVec Ideal S64x128 .f32) (t : FVec Ideal S1x128 .f32) (i : Fin 64) (j : Fin 128) (hj : 8 ≤ j.val) :
    dgates p t (ValueIdx.ix2 i j) = maskDot (xori rowGt (constantI S64x64 1 1#1)) p (ValueIdx.ix2 i j) + t (ValueIdx.ix2 0 j) := by
  unfold dgates
  rw [ValueIdx.select_apply]
  have e : cmpi .slt (iota .tc S64x128 32 [1] iota_S64x128_d1_w32) (broadcast S64x128 8#32) (ValueIdx.ix2 i j) = 0#1 := by
    have k : ∀ j : Fin 128, 8 ≤ j.val → IntOp.cmpi .slt (BitVec.ofNat 32 j.val) 8#32 = 0#1 := by decide +kernel
    rw [← k j hj, ← iota64 i j]; rfl
  have w : broadcastTo S64x128 t broadcasts_S1x128_S64x128 (ValueIdx.ix2 i j) = t (ValueIdx.ix2 0 j) := by simp only [pointwise]; rfl
  rw [e, ValueIdx.select_zero]
  show _ + broadcastTo S64x128 t broadcasts_S1x128_S64x128 (ValueIdx.ix2 i j) = _
  rw [w]

variable {db dg dt}

theorem dgates_b {a : Fin 64 → ℝ} (h : Fin 8) (hb : Rep (db h) (col a)) (i : Fin 64) :
    dgates (pack db dg) (pack1 dt) (ValueIdx.ix2 i ⟨h.val, by omega⟩) = ((a i : ℝ) : EReal) := by
  rw [firstLanes _ _ _ _ h.isLt, pack_b, hb]; rfl
theorem dgates_g {a : Fin 64 → ℝ} {τ : ℝ} (h : Fin 8) (hg : Rep (dg h) (col a)) (ht : Rep (dt h) (of fun _ _ => τ)) (i : Fin 64) :
    dgates (pack db dg) (pack1 dt) (ValueIdx.ix2 i ⟨h.val + 8, by omega⟩) = ((cumr a i + τ : ℝ) : EReal) := by
  have hl : LaneRep (pack db dg) ⟨h.val + 8, by omega⟩ a := fun i => by rw [pack_g, hg]; rfl
  rw [otherLanes _ _ _ _ (by show 8 ≤ h.val + 8; omega), maskDot_apply notGt hl, pack1_g, ht, ← EReal.coe_add]
  rfl
theorem dgates_rest (j : Fin 128) (hj : 16 ≤ j.val) (i : Fin 64) : dgates (pack db dg) (pack1 dt) (ValueIdx.ix2 i j) = (0 : EReal) := by
  have hl : LaneRep (pack db dg) j (fun _ => 0) := fun i => by rw [pack_rest _ _ j hj]; rfl
  rw [otherLanes _ _ _ _ (by omega), maskDot_apply notGt hl, pack1_rest _ j hj]
  simp

end Cert.Gates

end
-- ==== Proof.BlockReal.lean ====
/-
  ONE GRID POINT over the reals: if the blocks that the point reads hold a head's operands and its carried cotangent, the
  blocks that it leaves hold the head's cotangents.
-/
module

public import proofs.«01_k».proof.Proof.Block
public import proofs.«01_k».proof.Proof.HeadReal
public import proofs.«01_k».proof.Proof.Gates

@[expose] public section

noncomputable section

namespace Cert.BlockReal

open Idealize.ShloMosaic Idealize.ShloMosaic.ValueIdx Matrix Cert.Chunk Cert.Rep Cert.Gates Cert.KernelIdeal Cert.KernelIdeal.Gen

/-- The blocks hold head `h`'s operands `x` and carried cotangent `D`. -/
structure Reads (h : Fin 8) (x0 : FVec Ideal S3x64x1024 .f32) (x1 : FVec Ideal S64x128 .f32) (x2 : FVec Ideal S1x8x128x128 .f32)
    (x3 : FVec Ideal S1x8x64x64 .f32) (x4 : FVec Ideal S64x1024 .f32) (xs : FVec Ideal S8x128x128 .f32) (x : Tile) (D : Matrix (Fin 128) (Fin 128) ℝ) : Prop where
  q : Rep (Head.row 0 h x0) x.q
  k : Rep (Head.row 1 h x0) x.k
  v : Rep (Head.row 2 h x0) x.v
  d : Rep (Head.outCt h x4) x.d
  S : Rep (Head.state h x2) x.S
  T : Rep (Head.inv h x3) x.T
  b : LaneRep x1 ⟨h.val, by omega⟩ x.b
  g : LaneRep x1 ⟨h.val + 8, by omega⟩ x.g
  D : Rep (Head.carry h xs) D

variable {h : Fin 8} {x0 : FVec Ideal S3x64x1024 .f32} {x1 : FVec Ideal S64x128 .f32} {x2 : FVec Ideal S1x8x128x128 .f32}
    {x3 : FVec Ideal S1x8x64x64 .f32} {x4 : FVec Ideal S64x1024 .f32} {xs : FVec Ideal S8x128x128 .f32} {x : Tile} {D : Matrix (Fin 128) (Fin 128) ℝ}

namespace Reads

variable (R : Reads h x0 x1 x2 x3 x4 xs x D)
include R

theorem bt : Rep (Head.bt h x1) (col x.b) := Gates.bt R.b
theorem gc : Rep (Head.gc h x1) (col x.gc) := Gates.gc R.g
theorem gt : Rep (Head.gt h x1) (of fun _ _ => x.gl) := (Gates.gt R.g).congr (by rw [x.gl_eq])

theorem w : Rep (Head.w (Head.inv h x3) (Head.row 1 h x0) (Head.bt h x1) (Head.gc h x1)) x.w := HeadReal.w R.T R.k R.bt R.gc
theorem hVn : Rep (Head.hVn h x0 x1 x2 x3) x.vn := HeadReal.vnew (HeadReal.u R.T R.v R.bt) R.w R.S
theorem hDvn : Rep (Head.hDvn h x0 x1 x4 xs) (x.dvn D) := HeadReal.dvn R.q R.k R.d R.gc R.gt R.D
theorem hDw : Rep (Head.hDw h x0 x1 x2 x4 xs) (x.dw D) := HeadReal.dw R.hDvn R.S
theorem hTw : Rep (Head.hTw h x0 x1 x2 x3 x4 xs) (x.tw D) := HeadReal.tw R.T R.hDw
theorem hTv : Rep (Head.hTv h x0 x1 x3 x4 xs) (x.tv D) := HeadReal.tv R.T R.hDvn
theorem hKd : Rep (Head.hKd h x0 x1 x2 x3 xs) (x.dkd D) := HeadReal.dkd R.D R.hVn
theorem hM : Rep (Head.hM h x0 x1 x2 x3 x4 xs) (x.dM D) := HeadReal.dM R.T (HeadReal.dT R.k R.v R.hDvn R.hDw R.bt R.gc)
theorem hQ : Rep (Head.hQ h x0 x1 x2 x3 x4) x.dq := HeadReal.dq R.k R.d R.hVn R.gc R.S
theorem hK : Rep (Head.hK h x0 x1 x2 x3 x4 xs) (x.dk D) := HeadReal.dk R.q R.k R.d R.hVn R.hKd R.hTw R.bt R.gc R.gt R.hM
theorem hV : Rep (Head.hV h x0 x1 x3 x4 xs) (x.dv D) := HeadReal.dv R.hTv R.bt
theorem hS : Rep (Head.hS h x0 x1 x3 x4 xs) (x.dS D) := HeadReal.dS R.q R.d R.w R.hDvn R.gc R.gt R.D
theorem hB : Rep (Head.hB h x0 x1 x2 x3 x4 xs) (col (x.db D)) := HeadReal.db R.k R.v R.hTv R.hTw R.gc R.hM
theorem hG : Rep (Head.hG h x0 x1 x2 x3 x4 xs) (col fun i => x.dgcK0 D i + x.dgcK1 D i) :=
  HeadReal.dgc R.q R.k R.d R.hVn R.hKd R.hTw R.bt R.gc R.gt R.S R.hM
theorem hT : Rep (Head.hT h x0 x1 x2 x3 xs) (of fun _ _ => x.dglK D) := HeadReal.dgt R.k R.hKd R.gc R.gt R.S R.D

theorem gates_b (i : Fin 64) : Head.blockGates (F := Ideal) x0 x1 x2 x3 x4 xs (ValueIdx.ix2 i ⟨h.val, by omega⟩) = ((x.db D i : ℝ) : EReal) :=
  dgates_b h R.hB i
theorem gates_g (i : Fin 64) : Head.blockGates (F := Ideal) x0 x1 x2 x3 x4 xs (ValueIdx.ix2 i ⟨h.val + 8, by omega⟩) = ((x.dg D i : ℝ) : EReal) := by
  rw [← x.dg_eq D i]
  exact dgates_g h R.hG R.hT i

end Reads

theorem gates_rest (j : Fin 128) (hj : 16 ≤ j.val) (i : Fin 64) : Head.blockGates (F := Ideal) x0 x1 x2 x3 x4 xs (ValueIdx.ix2 i j) = (0 : EReal) :=
  dgates_rest j hj i

end Cert.BlockReal

end
-- ==== Proof.KernelReads.lean ====
/-
  What the kernel reads at grid point `t`: chunk `129 - t` of every argument; and the rows, state, inverse and carried
  cotangent of one head among the loaded blocks, at coordinates.
-/
module

public import proofs.«01_k».proof.Proof.Data
public import proofs.«01_k».proof.Proof.BlockReal
public import proofs.«01_k».proof.Proof.Gen.KernelIdeal.Frame
public import Idealize.ShloMosaic.Lib.ValueLayout

@[expose] public section

noncomputable section

namespace Cert.KernelReads

open Idealize.ShloMosaic Idealize.ShloMosaic.ValueIdx Idealize.SL Idealize.SL.Sem Matrix
open Cert.Chunk Cert.Rep Cert.Gates Cert.Data Cert.BlockReal Cert.KernelIdeal Cert.KernelIdeal.Gen

/-! ## The loads at coordinates -/

theorem row_apply (p : Fin 3) (h : Fin 8) (x0 : FVec Ideal S3x64x1024 .f32) (i : Fin 64) (j : Fin 128) :
    Head.row p h x0 (ValueIdx.ix2 i j) = x0 (ValueIdx.ix3 p i (lane h j)) := by
  unfold Head.row
  refine (shapeCast_1ab_ab_apply _ _ i j).trans (congrArg x0 (funext fun a => Fin.ext ?_))
  match a with
  | ⟨0, _⟩ => show p.val + 1 * 0 = p.val; omega
  | ⟨1, _⟩ => show 0 + 1 * i.val = i.val; omega
  | ⟨2, _⟩ => show 128 * h.val + 1 * j.val = 128 * h.val + j.val; omega
theorem outCt_apply (h : Fin 8) (x4 : FVec Ideal S64x1024 .f32) (i : Fin 64) (j : Fin 128) :
    Head.outCt h x4 (ValueIdx.ix2 i j) = x4 (ValueIdx.ix2 i (lane h j)) := by
  unfold Head.outCt
  refine congrArg x4 (funext fun a => Fin.ext ?_)
  match a with
  | ⟨0, _⟩ => show 0 + 1 * i.val = i.val; omega
  | ⟨1, _⟩ => show 128 * h.val + 1 * j.val = 128 * h.val + j.val; omega
theorem state_apply (h : Fin 8) (x2 : FVec Ideal S1x8x128x128 .f32) (i j : Fin 128) :
    Head.state h x2 (ValueIdx.ix2 i j) = x2 (ValueIdx.ix4 0 h i j) := by
  unfold Head.state
  refine (shapeCast_apply _ _ _ (ValueIdx.ix4 (0 : Fin 1) (0 : Fin 1) i j) (by
    rw [Shape.rowMajor_val_four, Shape.rowMajor_val_two]; simp [ValueIdx.ix4, ValueIdx.ix2])).trans (congrArg x2 (funext fun a => Fin.ext ?_))
  match a with
  | ⟨0, _⟩ => rfl
  | ⟨1, _⟩ => show h.val + 1 * 0 = h.val; omega
  | ⟨2, _⟩ => show 0 + 1 * i.val = i.val; omega
  | ⟨3, _⟩ => show 0 + 1 * j.val = j.val; omega
theorem inv_apply (h : Fin 8) (x3 : FVec Ideal S1x8x64x64 .f32) (i j : Fin 64) :
    Head.inv h x3 (ValueIdx.ix2 i j) = x3 (ValueIdx.ix4 0 h i j) := by
  unfold Head.inv
  refine (shapeCast_apply _ _ _ (ValueIdx.ix4 (0 : Fin 1) (0 : Fin 1) i j) (by
    rw [Shape.rowMajor_val_four, Shape.rowMajor_val_two]; simp [ValueIdx.ix4, ValueIdx.ix2])).trans (congrArg x3 (funext fun a => Fin.ext ?_))
  match a with
  | ⟨0, _⟩ => rfl
  | ⟨1, _⟩ => show h.val + 1 * 0 = h.val; omega
  | ⟨2, _⟩ => show 0 + 1 * i.val = i.val; omega
  | ⟨3, _⟩ => show 0 + 1 * j.val = j.val; omega
theorem carry_apply (h : Fin 8) (xs : FVec Ideal S8x128x128 .f32) (i j : Fin 128) :
    Head.carry h xs (ValueIdx.ix2 i j) = xs (ValueIdx.ix3 h i j) := by
  unfold Head.carry
  refine (shapeCast_1ab_ab_apply _ _ i j).trans (congrArg xs (funext fun a => Fin.ext ?_))
  match a with
  | ⟨0, _⟩ => show h.val + 1 * 0 = h.val; omega
  | ⟨1, _⟩ => show 0 + 1 * i.val = i.val; omega
  | ⟨2, _⟩ => show 0 + 1 * j.val = j.val; omega

/-! ## The blocks read at a point -/

theorem i0 : ∀ t : Fin cfg0.N, win0_0.index t = ![0, 129 - t.val, 0] := (by decide +kernel : ∀ t : Fin grid0.N, _)
theorem i1 : ∀ t : Fin cfg0.N, win0_1.index t = ![129 - t.val, 0] := (by decide +kernel : ∀ t : Fin grid0.N, _)
theorem i2 : ∀ t : Fin cfg0.N, win0_2.index t = ![129 - t.val, 0, 0, 0] := (by decide +kernel : ∀ t : Fin grid0.N, _)
theorem i3 : ∀ t : Fin cfg0.N, win0_3.index t = ![129 - t.val, 0, 0, 0] := (by decide +kernel : ∀ t : Fin grid0.N, _)
theorem i4 : ∀ t : Fin cfg0.N, win0_4.index t = ![129 - t.val, 0] := (by decide +kernel : ∀ t : Fin grid0.N, _)
theorem i5 : ∀ t : Fin cfg0.N, win0_5.index t = ![0, 129 - t.val, 0] := (by decide +kernel : ∀ t : Fin grid0.N, _)
theorem i6 : ∀ t : Fin cfg0.N, win0_6.index t = ![129 - t.val, 0] := (by decide +kernel : ∀ t : Fin grid0.N, _)

variable (m : (ℓ : Loc nD τ sig) → Buf (Elt Ideal) ℓ) (c : Dev nD)

theorem blk0 (t : Fin cfg0.N) (p : Fin 3) (i : Fin 64) (l : Fin 1024) :
    (iblk m c 0 t : FVec Ideal S3x64x1024 .f32) (ValueIdx.ix3 p i l) = (m ((c.tc : Thread nD τ).loc main_arg0) : FVec Ideal SQ .f32) (ValueIdx.ix3 p (tok (chunk t.val) i) l) := by
  unfold iblk
  rw [View.read_apply]
  refine congrArg (m ((c.tc : Thread nD τ).loc main_arg0) : FVec Ideal SQ .f32) (funext fun a => Fin.ext ?_)
  match a with
  | ⟨0, _⟩ => show win0_0.index t 0 * 3 + 1 * p.val = p.val; rw [i0]; show 0 * 3 + _ = _; omega
  | ⟨1, _⟩ => show win0_0.index t 1 * 64 + 1 * i.val = 64 * (129 - t.val) + i.val; rw [i0]; show (129 - t.val) * 64 + _ = _; omega
  | ⟨2, _⟩ => show win0_0.index t 2 * 1024 + 1 * l.val = l.val; rw [i0]; show 0 * 1024 + _ = _; omega
theorem blk1 (t : Fin cfg0.N) (i : Fin 64) (l : Fin 128) :
    (iblk m c 1 t : FVec Ideal S64x128 .f32) (ValueIdx.ix2 i l) = (m ((c.tc : Thread nD τ).loc main_arg1) : FVec Ideal SG .f32) (ValueIdx.ix2 (tok (chunk t.val) i) l) := by
  unfold iblk
  rw [View.read_apply]
  refine congrArg (m ((c.tc : Thread nD τ).loc main_arg1) : FVec Ideal SG .f32) (funext fun a => Fin.ext ?_)
  match a with
  | ⟨0, _⟩ => show win0_1.index t 0 * 64 + 1 * i.val = 64 * (129 - t.val) + i.val; rw [i1]; show (129 - t.val) * 64 + _ = _; omega
  | ⟨1, _⟩ => show win0_1.index t 1 * 128 + 1 * l.val = l.val; rw [i1]; show 0 * 128 + _ = _; omega
theorem blk2 (t : Fin cfg0.N) (h : Fin 8) (i j : Fin 128) :
    (iblk m c 2 t : FVec Ideal S1x8x128x128 .f32) (ValueIdx.ix4 0 h i j) = (m ((c.tc : Thread nD τ).loc main_arg2) : FVec Ideal SS .f32) (ValueIdx.ix4 (chunk t.val) h i j) := by
  unfold iblk
  rw [View.read_apply]
  refine congrArg (m ((c.tc : Thread nD τ).loc main_arg2) : FVec Ideal SS .f32) (funext fun a => Fin.ext ?_)
  match a with
  | ⟨0, _⟩ => show win0_2.index t 0 * 1 + 1 * 0 = 129 - t.val; rw [i2]; show (129 - t.val) * 1 + _ = _; omega
  | ⟨1, _⟩ => show win0_2.index t 1 * 8 + 1 * h.val = h.val; rw [i2]; show 0 * 8 + _ = _; omega
  | ⟨2, _⟩ => show win0_2.index t 2 * 128 + 1 * i.val = i.val; rw [i2]; show 0 * 128 + _ = _; omega
  | ⟨3, _⟩ => show win0_2.index t 3 * 128 + 1 * j.val = j.val; rw [i2]; show 0 * 128 + _ = _; omega
theorem blk3 (t : Fin cfg0.N) (h : Fin 8) (i j : Fin 64) :
    (iblk m c 3 t : FVec Ideal S1x8x64x64 .f32) (ValueIdx.ix4 0 h i j) = (m ((c.tc : Thread nD τ).loc main_arg3) : FVec Ideal ST .f32) (ValueIdx.ix4 (chunk t.val) h i j) := by
  unfold iblk
  rw [View.read_apply]
  refine congrArg (m ((c.tc : Thread nD τ).loc main_arg3) : FVec Ideal ST .f32) (funext fun a => Fin.ext ?_)
  match a with
  | ⟨0, _⟩ => show win0_3.index t 0 * 1 + 1 * 0 = 129 - t.val; rw [i3]; show (129 - t.val) * 1 + _ = _; omega
  | ⟨1, _⟩ => show win0_3.index t 1 * 8 + 1 * h.val = h.val; rw [i3]; show 0 * 8 + _ = _; omega
  | ⟨2, _⟩ => show win0_3.index t 2 * 64 + 1 * i.val = i.val; rw [i3]; show 0 * 64 + _ = _; omega
  | ⟨3, _⟩ => show win0_3.index t 3 * 64 + 1 * j.val = j.val; rw [i3]; show 0 * 64 + _ = _; omega
theorem blk4 (t : Fin cfg0.N) (i : Fin 64) (l : Fin 1024) :
    (iblk m c 4 t : FVec Ideal S64x1024 .f32) (ValueIdx.ix2 i l) = (m ((c.tc : Thread nD τ).loc main_arg4) : FVec Ideal SD .f32) (ValueIdx.ix2 (tok (chunk t.val) i) l) := by
  unfold iblk
  rw [View.read_apply]
  refine congrArg (m ((c.tc : Thread nD τ).loc main_arg4) : FVec Ideal SD .f32) (funext fun a => Fin.ext ?_)
  match a with
  | ⟨0, _⟩ => show win0_4.index t 0 * 64 + 1 * i.val = 64 * (129 - t.val) + i.val; rw [i4]; show (129 - t.val) * 64 + _ = _; omega
  | ⟨1, _⟩ => show win0_4.index t 1 * 1024 + 1 * l.val = l.val; rw [i4]; show 0 * 1024 + _ = _; omega

variable (P : Data)
  (H : Holds P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))
include H

theorem reads (t : Fin cfg0.N) (h : Fin 8) (xs : FVec Ideal S8x128x128 .f32) (D : Matrix (Fin 128) (Fin 128) ℝ) (hD : Rep (Head.carry h xs) D) :
    Reads h (iblk m c 0 t) (iblk m c 1 t) (iblk m c 2 t) (iblk m c 3 t) (iblk m c 4 t) xs (tile P (chunk t.val) h) D where
  q i j := (row_apply 0 h _ i j).trans ((blk0 m c t 0 i (lane h j)).trans (H.h0 _))
  k i j := (row_apply 1 h _ i j).trans ((blk0 m c t 1 i (lane h j)).trans (H.h0 _))
  v i j := (row_apply 2 h _ i j).trans ((blk0 m c t 2 i (lane h j)).trans (H.h0 _))
  d i j := (outCt_apply h _ i j).trans ((blk4 m c t i (lane h j)).trans (H.h4 _))
  S i j := (state_apply h _ i j).trans ((blk2 m c t h i j).trans (H.h2 _))
  T i j := (inv_apply h _ i j).trans ((blk3 m c t h i j).trans (H.h3 _))
  b i := (blk1 m c t i _).trans (H.h1 (ValueIdx.ix2 (tok (chunk t.val) i) _) (show h.val < 16 by omega))
  g i := (blk1 m c t i _).trans (H.h1 (ValueIdx.ix2 (tok (chunk t.val) i) _) (show h.val + 8 < 16 by omega))
  D := hD

end Cert.KernelReads

end
-- ==== Proof.RunA.lean ====
/-
  The values the kernel's run names at a grid point which is the first, head by head: each is the head's function
  (Head.lean) of the point's blocks. A name's own operations are compared with the function's by unfolding, one value at a
  time, so no comparison goes deeper than a few operations.
-/
module

public import proofs.«01_k».proof.Proof.Head
public import proofs.«01_k».proof.Proof.Gen.KernelIdeal.Frame.RunA
public import Idealize.ShloMosaic.Lib.Pipeline.Value

@[expose] public section

noncomputable section

namespace Cert.KernelIdeal.Head

open Idealize.ShloMosaic Idealize.SL Idealize.SL.Sem Cert.KernelIdeal Cert.KernelIdeal.Gen Cert.KernelIdeal.Gen.kernelRun0_A.sl

variable {F : FTy → Type} [FloatOps F] [Named F]
variable (c : Dev nD) (a1 : Memref sig .tc .vmem S3x64x1024 .f32) (h1 : a1.IsWhole) (a2 : Memref sig .tc .vmem S64x128 .f32) (h2 : a2.IsWhole) (a3 : Memref sig .tc .vmem S1x8x128x128 .f32) (h3 : a3.IsWhole) (a4 : Memref sig .tc .vmem S1x8x64x64 .f32) (h4 : a4.IsWhole) (a5 : Memref sig .tc .vmem S64x1024 .f32) (h5 : a5.IsWhole) (a8 : Memref sig .tc .vmem S8x128x128 .f32) (h8 : a8.IsWhole)
  (x0 : Vec F S3x64x1024 .f32) (x1 : Vec F S64x128 .f32) (x2 : Vec F S1x8x128x128 .f32) (x3 : Vec F S1x8x64x64 .f32) (x4 : Vec F S64x1024 .f32) (xs0 : Vec F S8x128x128 .f32)

theorem hz2A : (![0, 0] : Fin 2 → ℕ) = fun _ => 0 := by funext a; fin_cases a <;> rfl
theorem hz3A : (![0, 0, 0] : Fin 3 → ℕ) = fun _ => 0 := by funext a; fin_cases a <;> rfl

/-- The zeroed carry, read back. -/
theorem readCov_zero (v : View sig .tc .vmem S8x128x128 .f32) (B : Rect S8x128x128) :
    v.readCov (Val := Elt F) HS0_1 B.toLoadRect = View.ld (zero S8x128x128 : FVec F S8x128x128 .f32) B := by
  unfold View.readCov
  rw [View.readAt_eq_ld, View.read_writes_eq_canon _ _ _ (View.cover_of_wholeMem _ (by sl_whole_mem))]
  unfold HS0_1
  rw [View.canon_cons_unit_zero hz3A]
  rfl

theorem A_q0 : r c a1 h1 x0 = (row 0 0 x0) := by
  simp only [r, View.readAt_eq_ld, h1.read_unread]; rfl
theorem A_k0 : r_8 c a1 h1 x0 = (row 1 0 x0) := by
  simp only [r_8, View.readAt_eq_ld, h1.read_unread]; rfl
theorem A_v0 : r_16 c a1 h1 x0 = (row 2 0 x0) := by
  simp only [r_16, View.readAt_eq_ld, h1.read_unread]; rfl
theorem A_c0 : r_24 c a2 h2 x1 = (gc 0 x1) := by
  simp only [r_24, View.readAt_eq_ld, h2.read_unread, View.ld_unit_zero (S := S64x128) hz2A]; rfl
theorem A_t0 : r_32 c a2 h2 x1 = (gt 0 x1) := by
  simp only [r_32, View.readAt_eq_ld, h2.read_unread, View.ld_unit_zero (S := S64x128) hz2A]; rfl
theorem A_b0 : r_40 c a2 h2 x1 = (bt 0 x1) := by
  simp only [r_40, View.readAt_eq_ld, h2.read_unread, View.ld_unit_zero (S := S64x128) hz2A]; rfl
theorem A_S0 : r_48 c a3 h3 x2 = (state 0 x2) := by
  simp only [r_48, View.readAt_eq_ld, h3.read_unread]; rfl
theorem A_T0 : r_56 c a4 h4 x3 = (inv 0 x3) := by
  simp only [r_56, View.readAt_eq_ld, h4.read_unread]; rfl
theorem A_d0 : r_64 c a5 h5 x4 = (outCt 0 x4) := by
  simp only [r_64, View.readAt_eq_ld, h5.read_unread]; rfl
theorem A_D0 : r_72 (F := F) c a8 = (carry 0 z8) := by
  simp only [r_72, v131, readCov_zero]; rfl
theorem A_q1 : r_1 c a1 h1 x0 = (row 0 1 x0) := by
  simp only [r_1, View.readAt_eq_ld, h1.read_unread]; rfl
theorem A_k1 : r_9 c a1 h1 x0 = (row 1 1 x0) := by
  simp only [r_9, View.readAt_eq_ld, h1.read_unread]; rfl
theorem A_v1 : r_17 c a1 h1 x0 = (row 2 1 x0) := by
  simp only [r_17, View.readAt_eq_ld, h1.read_unread]; rfl
theorem A_c1 : r_25 c a2 h2 x1 = (gc 1 x1) := by
  simp only [r_25, View.readAt_eq_ld, h2.read_unread, View.ld_unit_zero (S := S64x128) hz2A]; rfl
theorem A_t1 : r_33 c a2 h2 x1 = (gt 1 x1) := by
  simp only [r_33, View.readAt_eq_ld, h2.read_unread, View.ld_unit_zero (S := S64x128) hz2A]; rfl
theorem A_b1 : r_41 c a2 h2 x1 = (bt 1 x1) := by
  simp only [r_41, View.readAt_eq_ld, h2.read_unread, View.ld_unit_zero (S := S64x128) hz2A]; rfl
theorem A_S1 : r_49 c a3 h3 x2 = (state 1 x2) := by
  simp only [r_49, View.readAt_eq_ld, h3.read_unread]; rfl
theorem A_T1 : r_57 c a4 h4 x3 = (inv 1 x3) := by
  simp only [r_57, View.readAt_eq_ld, h4.read_unread]; rfl
theorem A_d1 : r_65 c a5 h5 x4 = (outCt 1 x4) := by
  simp only [r_65, View.readAt_eq_ld, h5.read_unread]; rfl
theorem A_D1 : r_73 (F := F) c a8 = (carry 1 z8) := by
  simp only [r_73, v133, readCov_zero]; rfl
theorem A_q2 : r_2 c a1 h1 x0 = (row 0 2 x0) := by
  simp only [r_2, View.readAt_eq_ld, h1.read_unread]; rfl
theorem A_k2 : r_10 c a1 h1 x0 = (row 1 2 x0) := by
  simp only [r_10, View.readAt_eq_ld, h1.read_unread]; rfl
theorem A_v2 : r_18 c a1 h1 x0 = (row 2 2 x0) := by
  simp only [r_18, View.readAt_eq_ld, h1.read_unread]; rfl
theorem A_c2 : r_26 c a2 h2 x1 = (gc 2 x1) := by
  simp only [r_26, View.readAt_eq_ld, h2.read_unread, View.ld_unit_zero (S := S64x128) hz2A]; rfl
theorem A_t2 : r_34 c a2 h2 x1 = (gt 2 x1) := by
  simp only [r_34, View.readAt_eq_ld, h2.read_unread, View.ld_unit_zero (S := S64x128) hz2A]; rfl
theorem A_b2 : r_42 c a2 h2 x1 = (bt 2 x1) := by
  simp only [r_42, View.readAt_eq_ld, h2.read_unread, View.ld_unit_zero (S := S64x128) hz2A]; rfl
theorem A_S2 : r_50 c a3 h3 x2 = (state 2 x2) := by
  simp only [r_50, View.readAt_eq_ld, h3.read_unread]; rfl
theorem A_T2 : r_58 c a4 h4 x3 = (inv 2 x3) := by
  simp only [r_58, View.readAt_eq_ld, h4.read_unread]; rfl
theorem A_d2 : r_66 c a5 h5 x4 = (outCt 2 x4) := by
  simp only [r_66, View.readAt_eq_ld, h5.read_unread]; rfl
theorem A_D2 : r_74 (F := F) c a8 = (carry 2 z8) := by
  simp only [r_74, v135, readCov_zero]; rfl
theorem A_q3 : r_3 c a1 h1 x0 = (row 0 3 x0) := by
  simp only [r_3, View.readAt_eq_ld, h1.read_unread]; rfl
theorem A_k3 : r_11 c a1 h1 x0 = (row 1 3 x0) := by
  simp only [r_11, View.readAt_eq_ld, h1.read_unread]; rfl
theorem A_v3 : r_19 c a1 h1 x0 = (row 2 3 x0) := by
  simp only [r_19, View.readAt_eq_ld, h1.read_unread]; rfl
theorem A_c3 : r_27 c a2 h2 x1 = (gc 3 x1) := by
  simp only [r_27, View.readAt_eq_ld, h2.read_unread, View.ld_unit_zero (S := S64x128) hz2A]; rfl
theorem A_t3 : r_35 c a2 h2 x1 = (gt 3 x1) := by
  simp only [r_35, View.readAt_eq_ld, h2.read_unread, View.ld_unit_zero (S := S64x128) hz2A]; rfl
theorem A_b3 : r_43 c a2 h2 x1 = (bt 3 x1) := by
  simp only [r_43, View.readAt_eq_ld, h2.read_unread, View.ld_unit_zero (S := S64x128) hz2A]; rfl
theorem A_S3 : r_51 c a3 h3 x2 = (state 3 x2) := by
  simp only [r_51, View.readAt_eq_ld, h3.read_unread]; rfl
theorem A_T3 : r_59 c a4 h4 x3 = (inv 3 x3) := by
  simp only [r_59, View.readAt_eq_ld, h4.read_unread]; rfl
theorem A_d3 : r_67 c a5 h5 x4 = (outCt 3 x4) := by
  simp only [r_67, View.readAt_eq_ld, h5.read_unread]; rfl
theorem A_D3 : r_75 (F := F) c a8 = (carry 3 z8) := by
  simp only [r_75, v137, readCov_zero]; rfl
theorem A_q4 : r_4 c a1 h1 x0 = (row 0 4 x0) := by
  simp only [r_4, View.readAt_eq_ld, h1.read_unread]; rfl
theorem A_k4 : r_12 c a1 h1 x0 = (row 1 4 x0) := by
  simp only [r_12, View.readAt_eq_ld, h1.read_unread]; rfl
theorem A_v4 : r_20 c a1 h1 x0 = (row 2 4 x0) := by
  simp only [r_20, View.readAt_eq_ld, h1.read_unread]; rfl
theorem A_c4 : r_28 c a2 h2 x1 = (gc 4 x1) := by
  simp only [r_28, View.readAt_eq_ld, h2.read_unread, View.ld_unit_zero (S := S64x128) hz2A]; rfl
theorem A_t4 : r_36 c a2 h2 x1 = (gt 4 x1) := by
  simp only [r_36, View.readAt_eq_ld, h2.read_unread, View.ld_unit_zero (S := S64x128) hz2A]; rfl
theorem A_b4 : r_44 c a2 h2 x1 = (bt 4 x1) := by
  simp only [r_44, View.readAt_eq_ld, h2.read_unread, View.ld_unit_zero (S := S64x128) hz2A]; rfl
theorem A_S4 : r_52 c a3 h3 x2 = (state 4 x2) := by
  simp only [r_52, View.readAt_eq_ld, h3.read_unread]; rfl
theorem A_T4 : r_60 c a4 h4 x3 = (inv 4 x3) := by
  simp only [r_60, View.readAt_eq_ld, h4.read_unread]; rfl
theorem A_d4 : r_68 c a5 h5 x4 = (outCt 4 x4) := by
  simp only [r_68, View.readAt_eq_ld, h5.read_unread]; rfl
theorem A_D4 : r_76 (F := F) c a8 = (carry 4 z8) := by
  simp only [r_76, v139, readCov_zero]; rfl
theorem A_q5 : r_5 c a1 h1 x0 = (row 0 5 x0) := by
  simp only [r_5, View.readAt_eq_ld, h1.read_unread]; rfl
theorem A_k5 : r_13 c a1 h1 x0 = (row 1 5 x0) := by
  simp only [r_13, View.readAt_eq_ld, h1.read_unread]; rfl
theorem A_v5 : r_21 c a1 h1 x0 = (row 2 5 x0) := by
  simp only [r_21, View.readAt_eq_ld, h1.read_unread]; rfl
theorem A_c5 : r_29 c a2 h2 x1 = (gc 5 x1) := by
  simp only [r_29, View.readAt_eq_ld, h2.read_unread, View.ld_unit_zero (S := S64x128) hz2A]; rfl
theorem A_t5 : r_37 c a2 h2 x1 = (gt 5 x1) := by
  simp only [r_37, View.readAt_eq_ld, h2.read_unread, View.ld_unit_zero (S := S64x128) hz2A]; rfl
theorem A_b5 : r_45 c a2 h2 x1 = (bt 5 x1) := by
  simp only [r_45, View.readAt_eq_ld, h2.read_unread, View.ld_unit_zero (S := S64x128) hz2A]; rfl
theorem A_S5 : r_53 c a3 h3 x2 = (state 5 x2) := by
  simp only [r_53, View.readAt_eq_ld, h3.read_unread]; rfl
theorem A_T5 : r_61 c a4 h4 x3 = (inv 5 x3) := by
  simp only [r_61, View.readAt_eq_ld, h4.read_unread]; rfl
theorem A_d5 : r_69 c a5 h5 x4 = (outCt 5 x4) := by
  simp only [r_69, View.readAt_eq_ld, h5.read_unread]; rfl
theorem A_D5 : r_77 (F := F) c a8 = (carry 5 z8) := by
  simp only [r_77, v141, readCov_zero]; rfl
theorem A_q6 : r_6 c a1 h1 x0 = (row 0 6 x0) := by
  simp only [r_6, View.readAt_eq_ld, h1.read_unread]; rfl
theorem A_k6 : r_14 c a1 h1 x0 = (row 1 6 x0) := by
  simp only [r_14, View.readAt_eq_ld, h1.read_unread]; rfl
theorem A_v6 : r_22 c a1 h1 x0 = (row 2 6 x0) := by
  simp only [r_22, View.readAt_eq_ld, h1.read_unread]; rfl
theorem A_c6 : r_30 c a2 h2 x1 = (gc 6 x1) := by
  simp only [r_30, View.readAt_eq_ld, h2.read_unread, View.ld_unit_zero (S := S64x128) hz2A]; rfl
theorem A_t6 : r_38 c a2 h2 x1 = (gt 6 x1) := by
  simp only [r_38, View.readAt_eq_ld, h2.read_unread, View.ld_unit_zero (S := S64x128) hz2A]; rfl
theorem A_b6 : r_46 c a2 h2 x1 = (bt 6 x1) := by
  simp only [r_46, View.readAt_eq_ld, h2.read_unread, View.ld_unit_zero (S := S64x128) hz2A]; rfl
theorem A_S6 : r_54 c a3 h3 x2 = (state 6 x2) := by
  simp only [r_54, View.readAt_eq_ld, h3.read_unread]; rfl
theorem A_T6 : r_62 c a4 h4 x3 = (inv 6 x3) := by
  simp only [r_62, View.readAt_eq_ld, h4.read_unread]; rfl
theorem A_d6 : r_70 c a5 h5 x4 = (outCt 6 x4) := by
  simp only [r_70, View.readAt_eq_ld, h5.read_unread]; rfl
theorem A_D6 : r_78 (F := F) c a8 = (carry 6 z8) := by
  simp only [r_78, v143, readCov_zero]; rfl
theorem A_q7 : r_7 c a1 h1 x0 = (row 0 7 x0) := by
  simp only [r_7, View.readAt_eq_ld, h1.read_unread]; rfl
theorem A_k7 : r_15 c a1 h1 x0 = (row 1 7 x0) := by
  simp only [r_15, View.readAt_eq_ld, h1.read_unread]; rfl
theorem A_v7 : r_23 c a1 h1 x0 = (row 2 7 x0) := by
  simp only [r_23, View.readAt_eq_ld, h1.read_unread]; rfl
theorem A_c7 : r_31 c a2 h2 x1 = (gc 7 x1) := by
  simp only [r_31, View.readAt_eq_ld, h2.read_unread, View.ld_unit_zero (S := S64x128) hz2A]; rfl
theorem A_t7 : r_39 c a2 h2 x1 = (gt 7 x1) := by
  simp only [r_39, View.readAt_eq_ld, h2.read_unread, View.ld_unit_zero (S := S64x128) hz2A]; rfl
theorem A_b7 : r_47 c a2 h2 x1 = (bt 7 x1) := by
  simp only [r_47, View.readAt_eq_ld, h2.read_unread, View.ld_unit_zero (S := S64x128) hz2A]; rfl
theorem A_S7 : r_55 c a3 h3 x2 = (state 7 x2) := by
  simp only [r_55, View.readAt_eq_ld, h3.read_unread]; rfl
theorem A_T7 : r_63 c a4 h4 x3 = (inv 7 x3) := by
  simp only [r_63, View.readAt_eq_ld, h4.read_unread]; rfl
theorem A_d7 : r_71 c a5 h5 x4 = (outCt 7 x4) := by
  simp only [r_71, View.readAt_eq_ld, h5.read_unread]; rfl
theorem A_D7 : r_79 (F := F) c a8 = (carry 7 z8) := by
  simp only [r_79, v145, readCov_zero]; rfl
theorem A_v214_0 : r_112 c a1 h1 x0 = qk (row 0 0 x0) (row 1 0 x0) := by
  simp only [r_112, A_q0, A_k0]; rfl
theorem A_v226_0 : r_121 c a2 h2 x1 = decay (gc 0 x1) := by
  simp only [r_121, r_120, r_88, A_c0]; rfl
theorem A_v283_0 : r_142 c a1 h1 a2 h2 a4 h4 x0 x1 x3 = u (inv 0 x3) (row 2 0 x0) (bt 0 x1) := by
  simp only [r_142, r_138, r_139, r_140, r_141, r_104, A_T0, A_v0, A_b0]; rfl
theorem A_v383_0 : r_162 c a1 h1 a2 h2 x0 x1 = kbe (row 1 0 x0) (bt 0 x1) (gc 0 x1) := by
  simp only [r_162, r_104, r_129, r_80, A_k0, A_b0, A_c0]; rfl
theorem A_v396_0 : r_163 c a1 h1 a2 h2 a4 h4 x0 x1 x3 = w (inv 0 x3) (row 1 0 x0) (bt 0 x1) (gc 0 x1) := by
  simp only [r_163, r_104, r_129, r_80, A_k0, A_T0, A_b0, A_c0]; rfl
theorem A_v512_0 : r_197 c a2 h2 x1 = erest (gc 0 x1) (gt 0 x1) := by
  simp only [r_197, r_80, r_96, A_c0, A_t0]; rfl
theorem A_v543_0 : r_213 c a1 h1 a2 h2 a3 h3 a4 h4 x0 x1 x2 x3 = vnew (u (inv 0 x3) (row 2 0 x0) (bt 0 x1)) (w (inv 0 x3) (row 1 0 x0) (bt 0 x1) (gc 0 x1)) (state 0 x2) := by
  simp only [r_213, A_S0, A_v283_0, A_v396_0]; rfl
theorem A_v663_0 : r_270 c a1 h1 a2 h2 a3 h3 a4 h4 a8 x0 x1 x2 x3 = dkd (carry 0 z8) (vnN 0 x0 x1 x2 x3) := by
  simp only [r_270, A_D0, A_v543_0]; rfl
theorem A_v716_0 : r_295 c a1 h1 a2 h2 a5 h5 a8 x0 x1 x4 = dvn (row 0 0 x0) (row 1 0 x0) (outCt 0 x4) (gc 0 x1) (gt 0 x1) (carry 0 z8) := by
  simp only [r_295, r_189, r_269, r_198, r_80, r_96, A_d0, A_v214_0, A_v226_0, A_D0, A_k0, A_c0, A_t0]; rfl
theorem A_v717_0 : r_296 c a1 h1 a2 h2 a3 h3 a4 h4 a5 h5 x0 x1 x2 x3 x4 = dqk (outCt 0 x4) (vnN 0 x0 x1 x2 x3) := by
  simp only [r_296, A_d0, A_v543_0]; rfl
theorem A_v812_0 : r_336 c a1 h1 a2 h2 a4 h4 a5 h5 a8 x0 x1 x3 x4 = dS (row 0 0 x0) (outCt 0 x4) (w (inv 0 x3) (row 1 0 x0) (bt 0 x1) (gc 0 x1)) (dvN 0 x0 x1 x4 z8) (gc 0 x1) (gt 0 x1) (carry 0 z8) := by
  simp only [r_336, r_318, r_221, r_271, r_294, r_129, r_229, r_80, r_96, A_v396_0, A_v716_0, A_q0, A_D0, A_d0, A_c0, A_t0]; rfl
theorem A_v813_0 : r_337 c a1 h1 a2 h2 a3 h3 a5 h5 a8 x0 x1 x2 x4 = dw (dvN 0 x0 x1 x4 z8) (state 0 x2) := by
  simp only [r_337, A_S0, A_v716_0]; rfl
theorem A_v1418_0 : r_465 c a1 h1 a2 h2 a3 h3 a5 h5 a8 x0 x1 x2 x4 = dT (row 1 0 x0) (row 2 0 x0) (dvN 0 x0 x1 x4 z8) (dwN 0 x0 x1 x2 x4 z8) (bt 0 x1) (gc 0 x1) := by
  simp only [r_465, r_423, r_460, r_137, r_104, A_v383_0, A_v813_0, A_v716_0, A_v0, A_b0]; rfl
theorem A_v1421_0 : r_467 c a1 h1 a2 h2 a4 h4 a5 h5 a8 x0 x1 x3 x4 = dv (tvN 0 x0 x1 x3 x4 z8) (bt 0 x1) := by
  simp only [r_467, r_104, r_461, r_462, r_463, r_464, A_b0, A_T0, A_v716_0]; rfl
theorem A_v1525_0 : r_500 c a1 h1 a2 h2 a3 h3 a4 h4 a5 h5 x0 x1 x2 x3 x4 = dq (row 1 0 x0) (outCt 0 x4) (vnN 0 x0 x1 x2 x3) (gc 0 x1) (state 0 x2) := by
  simp only [r_500, r_320, r_378, r_129, r_294, r_80, A_k0, A_S0, A_v226_0, A_v717_0, A_d0, A_c0]; rfl
theorem A_v1523_0 : r_499 c a1 h1 a2 h2 a3 h3 a4 h4 a5 h5 a8 x0 x1 x2 x3 x4 = dk0 (row 0 0 x0) (outCt 0 x4) (vnN 0 x0 x1 x2 x3) (dkN 0 x0 x1 x2 x3 z8) (twN 0 x0 x1 x2 x3 x4 z8) (bt 0 x1) (gc 0 x1) (gt 0 x1) := by
  simp only [r_499, r_378, r_428, r_104, r_129, r_360, r_424, r_425, r_80, A_q0, A_v226_0, A_v717_0, A_b0, A_v512_0, A_v663_0, A_T0, A_v813_0, A_c0]; rfl
theorem A_v1541_0 : r_508 c a1 h1 a2 h2 a3 h3 a4 h4 a5 h5 a8 x0 x1 x2 x3 x4 = db0 (row 1 0 x0) (row 2 0 x0) (tvN 0 x0 x1 x3 x4 z8) (twN 0 x0 x1 x2 x3 x4 z8) (gc 0 x1) := by
  simp only [r_508, r_466, r_427, r_461, r_462, r_463, r_464, r_129, r_424, r_425, r_80, A_v0, A_k0, A_T0, A_v716_0, A_v813_0, A_c0]; rfl
theorem A_v1581_0 : r_517 c a1 h1 a2 h2 a3 h3 a4 h4 a8 x0 x1 x2 x3 = dgt (row 1 0 x0) (dkN 0 x0 x1 x2 x3 z8) (gc 0 x1) (gt 0 x1) (state 0 x2) (carry 0 z8) := by
  simp only [r_517, r_362, r_272, r_229, r_96, A_k0, A_v512_0, A_v663_0, A_S0, A_D0, A_t0]; rfl
theorem A_v1621_0 : r_532 c a1 h1 a2 h2 a3 h3 a4 h4 a5 h5 a8 x0 x1 x2 x3 x4 = dgc0 (row 0 0 x0) (row 1 0 x0) (outCt 0 x4) (vnN 0 x0 x1 x2 x3) (dkN 0 x0 x1 x2 x3 z8) (twN 0 x0 x1 x2 x3 x4 z8) (bt 0 x1) (gc 0 x1) (gt 0 x1) (state 0 x2) := by
  simp only [r_532, r_475, r_484, r_129, r_361, r_426, r_377, r_80, r_161, r_319, r_424, r_425, r_104, r_294, A_v226_0, A_k0, A_v512_0, A_v663_0, A_v214_0, A_v717_0, A_c0, A_q0, A_S0, A_T0, A_v813_0, A_b0, A_d0]; rfl
theorem A_v1640_0 : r_549 c a1 h1 a2 h2 a3 h3 a4 h4 a5 h5 a8 x0 x1 x2 x3 x4 = neg (matmul dot_S64x64_S64x64_S64x64_1_0_0_1_n_n none (matmul dot_S64x64_S64x64_S64x64_1_0_0_1_n_n none (tr (inv 0 x3)) (dTN 0 x0 x1 x2 x4 z8) (zero S64x64)) (tr (inv 0 x3)) (zero S64x64)) := by
  simp only [r_549, r_533, r_541, A_T0, A_v1418_0]; rfl
theorem A_v1822_0 : r_623 c a1 h1 a2 h2 a3 h3 a4 h4 a5 h5 a8 x0 x1 x2 x3 x4 = dMk (row 1 0 x0) (gc 0 x1) (dMN 0 x0 x1 x2 x3 x4 z8) := by
  simp only [r_623, r_574, r_557, A_k0, A_v1640_0, A_c0]; rfl
theorem A_v1825_0 : r_625 c a1 h1 a2 h2 a3 h3 a4 h4 a5 h5 a8 x0 x1 x2 x3 x4 = dk1 (row 1 0 x0) (bt 0 x1) (gc 0 x1) (dMN 0 x0 x1 x2 x3 x4 z8) := by
  simp only [r_625, r_565, r_622, r_574, r_583, r_557, A_v1822_0, A_b0, A_v1640_0, A_k0, A_c0]; rfl
theorem A_v1897_0 : r_641 c a1 h1 a2 h2 a3 h3 a4 h4 a5 h5 a8 x0 x1 x2 x3 x4 = db1 (row 1 0 x0) (gc 0 x1) (dMN 0 x0 x1 x2 x3 x4 z8) := by
  simp only [r_641, r_624, A_k0, A_v1822_0]; rfl
theorem A_v1913_0 : r_649 c a1 h1 a2 h2 a3 h3 a4 h4 a5 h5 a8 x0 x1 x2 x3 x4 = dgc1 (row 1 0 x0) (bt 0 x1) (gc 0 x1) (dMN 0 x0 x1 x2 x3 x4 z8) := by
  simp only [r_649, r_633, r_574, r_607, r_557, r_584, r_565, A_v1640_0, A_c0, A_k0, A_b0]; rfl
theorem A_v2018_0 : r_651 c a1 h1 a2 h2 a3 h3 a4 h4 a5 h5 a8 x0 x1 x2 x3 x4 = addf (db0 (row 1 0 x0) (row 2 0 x0) (tvN 0 x0 x1 x3 x4 z8) (twN 0 x0 x1 x2 x3 x4 z8) (gc 0 x1)) (db1 (row 1 0 x0) (gc 0 x1) (dMN 0 x0 x1 x2 x3 x4 z8)) := by
  simp only [r_651, A_v1541_0, A_v1897_0]; rfl
theorem A_v214_1 : r_113 c a1 h1 x0 = qk (row 0 1 x0) (row 1 1 x0) := by
  simp only [r_113, A_q1, A_k1]; rfl
theorem A_v226_1 : r_122 c a2 h2 x1 = decay (gc 1 x1) := by
  simp only [r_122, r_89, A_c1]; rfl
theorem A_v283_1 : r_144 c a1 h1 a2 h2 a4 h4 x0 x1 x3 = u (inv 1 x3) (row 2 1 x0) (bt 1 x1) := by
  simp only [r_144, r_105, A_v1, A_T1, A_b1]; rfl
theorem A_v383_1 : r_165 c a1 h1 a2 h2 x0 x1 = kbe (row 1 1 x0) (bt 1 x1) (gc 1 x1) := by
  simp only [r_165, r_105, r_130, r_81, A_k1, A_b1, A_c1]; rfl
theorem A_v396_1 : r_166 c a1 h1 a2 h2 a4 h4 x0 x1 x3 = w (inv 1 x3) (row 1 1 x0) (bt 1 x1) (gc 1 x1) := by
  simp only [r_166, r_105, r_130, r_81, A_k1, A_T1, A_b1, A_c1]; rfl
theorem A_v512_1 : r_199 c a2 h2 x1 = erest (gc 1 x1) (gt 1 x1) := by
  simp only [r_199, r_81, r_97, A_c1, A_t1]; rfl
theorem A_v543_1 : r_214 c a1 h1 a2 h2 a3 h3 a4 h4 x0 x1 x2 x3 = vnew (u (inv 1 x3) (row 2 1 x0) (bt 1 x1)) (w (inv 1 x3) (row 1 1 x0) (bt 1 x1) (gc 1 x1)) (state 1 x2) := by
  simp only [r_214, A_S1, A_v283_1, A_v396_1]; rfl
theorem A_v663_1 : r_266 c a1 h1 a2 h2 a3 h3 a4 h4 a8 x0 x1 x2 x3 = dkd (carry 1 z8) (vnN 1 x0 x1 x2 x3) := by
  simp only [r_266, A_D1, A_v543_1]; rfl
theorem A_v716_1 : r_292 c a1 h1 a2 h2 a5 h5 a8 x0 x1 x4 = dvn (row 0 1 x0) (row 1 1 x0) (outCt 1 x4) (gc 1 x1) (gt 1 x1) (carry 1 z8) := by
  simp only [r_292, r_190, r_265, r_200, r_81, r_97, A_d1, A_v214_1, A_v226_1, A_D1, A_k1, A_c1, A_t1]; rfl
theorem A_v717_1 : r_293 c a1 h1 a2 h2 a3 h3 a4 h4 a5 h5 x0 x1 x2 x3 x4 = dqk (outCt 1 x4) (vnN 1 x0 x1 x2 x3) := by
  simp only [r_293, A_d1, A_v543_1]; rfl
theorem A_v812_1 : r_334 c a1 h1 a2 h2 a4 h4 a5 h5 a8 x0 x1 x3 x4 = dS (row 0 1 x0) (outCt 1 x4) (w (inv 1 x3) (row 1 1 x0) (bt 1 x1) (gc 1 x1)) (dvN 1 x0 x1 x4 z8) (gc 1 x1) (gt 1 x1) (carry 1 z8) := by
  simp only [r_334, r_315, r_222, r_267, r_291, r_130, r_230, r_81, r_97, A_v396_1, A_v716_1, A_q1, A_D1, A_d1, A_c1, A_t1]; rfl
theorem A_v813_1 : r_335 c a1 h1 a2 h2 a3 h3 a5 h5 a8 x0 x1 x2 x4 = dw (dvN 1 x0 x1 x4 z8) (state 1 x2) := by
  simp only [r_335, r_333, A_S1, A_v716_1]; rfl
theorem A_v1418_1 : r_457 c a1 h1 a2 h2 a3 h3 a5 h5 a8 x0 x1 x2 x4 = dT (row 1 1 x0) (row 2 1 x0) (dvN 1 x0 x1 x4 z8) (dwN 1 x0 x1 x2 x4 z8) (bt 1 x1) (gc 1 x1) := by
  simp only [r_457, r_419, r_454, r_455, r_456, r_415, r_416, r_417, r_418, r_143, r_105, A_v716_1, A_v813_1, A_v383_1, A_v1, A_b1]; rfl
theorem A_v1421_1 : r_459 c a1 h1 a2 h2 a4 h4 a5 h5 a8 x0 x1 x3 x4 = dv (tvN 1 x0 x1 x3 x4 z8) (bt 1 x1) := by
  simp only [r_459, r_105, A_T1, A_v716_1, A_b1]; rfl
theorem A_v1525_1 : r_498 c a1 h1 a2 h2 a3 h3 a4 h4 a5 h5 x0 x1 x2 x3 x4 = dq (row 1 1 x0) (outCt 1 x4) (vnN 1 x0 x1 x2 x3) (gc 1 x1) (state 1 x2) := by
  simp only [r_498, r_317, r_376, r_130, r_291, r_81, A_k1, A_S1, A_v226_1, A_v717_1, A_d1, A_c1]; rfl
theorem A_v1523_1 : r_497 c a1 h1 a2 h2 a3 h3 a4 h4 a5 h5 a8 x0 x1 x2 x3 x4 = dk0 (row 0 1 x0) (outCt 1 x4) (vnN 1 x0 x1 x2 x3) (dkN 1 x0 x1 x2 x3 z8) (twN 1 x0 x1 x2 x3 x4 z8) (bt 1 x1) (gc 1 x1) (gt 1 x1) := by
  simp only [r_497, r_376, r_422, r_105, r_130, r_357, r_81, A_q1, A_v226_1, A_v717_1, A_T1, A_v813_1, A_b1, A_v512_1, A_v663_1, A_c1]; rfl
theorem A_v1541_1 : r_507 c a1 h1 a2 h2 a3 h3 a4 h4 a5 h5 a8 x0 x1 x2 x3 x4 = db0 (row 1 1 x0) (row 2 1 x0) (tvN 1 x0 x1 x3 x4 z8) (twN 1 x0 x1 x2 x3 x4 z8) (gc 1 x1) := by
  simp only [r_507, r_458, r_421, r_130, r_81, A_v1, A_T1, A_v716_1, A_k1, A_v813_1, A_c1]; rfl
theorem A_v1581_1 : r_516 c a1 h1 a2 h2 a3 h3 a4 h4 a8 x0 x1 x2 x3 = dgt (row 1 1 x0) (dkN 1 x0 x1 x2 x3 z8) (gc 1 x1) (gt 1 x1) (state 1 x2) (carry 1 z8) := by
  simp only [r_516, r_359, r_268, r_230, r_97, A_k1, A_v512_1, A_v663_1, A_S1, A_D1, A_t1]; rfl
theorem A_v1621_1 : r_531 c a1 h1 a2 h2 a3 h3 a4 h4 a5 h5 a8 x0 x1 x2 x3 x4 = dgc0 (row 0 1 x0) (row 1 1 x0) (outCt 1 x4) (vnN 1 x0 x1 x2 x3) (dkN 1 x0 x1 x2 x3 z8) (twN 1 x0 x1 x2 x3 x4 z8) (bt 1 x1) (gc 1 x1) (gt 1 x1) (state 1 x2) := by
  simp only [r_531, r_474, r_524, r_130, r_358, r_420, r_483, r_81, r_164, r_316, r_375, r_105, r_291, A_k1, A_v512_1, A_v663_1, A_T1, A_v813_1, A_v226_1, A_c1, A_q1, A_S1, A_v214_1, A_v717_1, A_b1, A_d1]; rfl
theorem A_v1640_1 : r_550 c a1 h1 a2 h2 a3 h3 a4 h4 a5 h5 a8 x0 x1 x2 x3 x4 = neg (matmul dot_S64x64_S64x64_S64x64_1_0_0_1_n_n none (matmul dot_S64x64_S64x64_S64x64_1_0_0_1_n_n none (tr (inv 1 x3)) (dTN 1 x0 x1 x2 x4 z8) (zero S64x64)) (tr (inv 1 x3)) (zero S64x64)) := by
  simp only [r_550, r_534, r_542, A_T1, A_v1418_1]; rfl
theorem A_v1783_1 : r_605 c a1 h1 a2 h2 a3 h3 a4 h4 a5 h5 a8 x0 x1 x2 x3 x4 = dM (inv 1 x3) (dTN 1 x0 x1 x2 x4 z8) := by
  simp only [r_605, A_v1640_1]; rfl
theorem A_v1825_1 : r_621 c a1 h1 a2 h2 a3 h3 a4 h4 a5 h5 a8 x0 x1 x2 x3 x4 = dk1 (row 1 1 x0) (bt 1 x1) (gc 1 x1) (dMN 1 x0 x1 x2 x3 x4 z8) := by
  simp only [r_621, r_566, r_575, r_585, r_558, A_k1, A_v1783_1, A_b1, A_c1]; rfl
theorem A_v1897_1 : r_640 c a1 h1 a2 h2 a3 h3 a4 h4 a5 h5 a8 x0 x1 x2 x3 x4 = db1 (row 1 1 x0) (gc 1 x1) (dMN 1 x0 x1 x2 x3 x4 z8) := by
  simp only [r_640, r_620, r_575, r_558, A_k1, A_v1783_1, A_c1]; rfl
theorem A_v1913_1 : r_648 c a1 h1 a2 h2 a3 h3 a4 h4 a5 h5 a8 x0 x1 x2 x3 x4 = dgc1 (row 1 1 x0) (bt 1 x1) (gc 1 x1) (dMN 1 x0 x1 x2 x3 x4 z8) := by
  simp only [r_648, r_632, r_575, r_606, r_558, r_586, r_566, A_v1783_1, A_c1, A_k1, A_b1]; rfl
theorem A_v2018_1 : r_652 c a1 h1 a2 h2 a3 h3 a4 h4 a5 h5 a8 x0 x1 x2 x3 x4 = addf (db0 (row 1 1 x0) (row 2 1 x0) (tvN 1 x0 x1 x3 x4 z8) (twN 1 x0 x1 x2 x3 x4 z8) (gc 1 x1)) (db1 (row 1 1 x0) (gc 1 x1) (dMN 1 x0 x1 x2 x3 x4 z8)) := by
  simp only [r_652, A_v1541_1, A_v1897_1]; rfl
theorem A_v214_2 : r_114 c a1 h1 x0 = qk (row 0 2 x0) (row 1 2 x0) := by
  simp only [r_114, A_q2, A_k2]; rfl
theorem A_v226_2 : r_123 c a2 h2 x1 = decay (gc 2 x1) := by
  simp only [r_123, r_90, A_c2]; rfl
theorem A_v283_2 : r_146 c a1 h1 a2 h2 a4 h4 x0 x1 x3 = u (inv 2 x3) (row 2 2 x0) (bt 2 x1) := by
  simp only [r_146, r_106, A_v2, A_T2, A_b2]; rfl
theorem A_v383_2 : r_168 c a1 h1 a2 h2 x0 x1 = kbe (row 1 2 x0) (bt 2 x1) (gc 2 x1) := by
  simp only [r_168, r_106, r_131, r_82, A_k2, A_b2, A_c2]; rfl
theorem A_v396_2 : r_171 c a1 h1 a2 h2 a4 h4 x0 x1 x3 = w (inv 2 x3) (row 1 2 x0) (bt 2 x1) (gc 2 x1) := by
  simp only [r_171, r_169, r_170, r_106, r_131, r_82, A_k2, A_T2, A_b2, A_c2]; rfl
theorem A_v512_2 : r_201 c a2 h2 x1 = erest (gc 2 x1) (gt 2 x1) := by
  simp only [r_201, r_82, r_98, A_c2, A_t2]; rfl
theorem A_v543_2 : r_215 c a1 h1 a2 h2 a3 h3 a4 h4 x0 x1 x2 x3 = vnew (u (inv 2 x3) (row 2 2 x0) (bt 2 x1)) (w (inv 2 x3) (row 1 2 x0) (bt 2 x1) (gc 2 x1)) (state 2 x2) := by
  simp only [r_215, A_S2, A_v283_2, A_v396_2]; rfl
theorem A_v663_2 : r_262 c a1 h1 a2 h2 a3 h3 a4 h4 a8 x0 x1 x2 x3 = dkd (carry 2 z8) (vnN 2 x0 x1 x2 x3) := by
  simp only [r_262, A_D2, A_v543_2]; rfl
theorem A_v716_2 : r_289 c a1 h1 a2 h2 a5 h5 a8 x0 x1 x4 = dvn (row 0 2 x0) (row 1 2 x0) (outCt 2 x4) (gc 2 x1) (gt 2 x1) (carry 2 z8) := by
  simp only [r_289, r_191, r_261, r_202, r_82, r_98, A_d2, A_v214_2, A_v226_2, A_D2, A_k2, A_c2, A_t2]; rfl
theorem A_v717_2 : r_290 c a1 h1 a2 h2 a3 h3 a4 h4 a5 h5 x0 x1 x2 x3 x4 = dqk (outCt 2 x4) (vnN 2 x0 x1 x2 x3) := by
  simp only [r_290, A_d2, A_v543_2]; rfl
theorem A_v812_2 : r_331 c a1 h1 a2 h2 a4 h4 a5 h5 a8 x0 x1 x3 x4 = dS (row 0 2 x0) (outCt 2 x4) (w (inv 2 x3) (row 1 2 x0) (bt 2 x1) (gc 2 x1)) (dvN 2 x0 x1 x4 z8) (gc 2 x1) (gt 2 x1) (carry 2 z8) := by
  simp only [r_331, r_312, r_223, r_263, r_288, r_131, r_231, r_82, r_98, A_v396_2, A_v716_2, A_q2, A_D2, A_d2, A_c2, A_t2]; rfl
theorem A_v813_2 : r_332 c a1 h1 a2 h2 a3 h3 a5 h5 a8 x0 x1 x2 x4 = dw (dvN 2 x0 x1 x4 z8) (state 2 x2) := by
  simp only [r_332, A_S2, A_v716_2]; rfl
theorem A_v1418_2 : r_451 c a1 h1 a2 h2 a3 h3 a5 h5 a8 x0 x1 x2 x4 = dT (row 1 2 x0) (row 2 2 x0) (dvN 2 x0 x1 x4 z8) (dwN 2 x0 x1 x2 x4 z8) (bt 2 x1) (gc 2 x1) := by
  simp only [r_451, r_145, r_411, r_106, A_v716_2, A_v2, A_v383_2, A_v813_2, A_b2]; rfl
theorem A_v1421_2 : r_453 c a1 h1 a2 h2 a4 h4 a5 h5 a8 x0 x1 x3 x4 = dv (tvN 2 x0 x1 x3 x4 z8) (bt 2 x1) := by
  simp only [r_453, r_106, A_T2, A_v716_2, A_b2]; rfl
theorem A_v1525_2 : r_496 c a1 h1 a2 h2 a3 h3 a4 h4 a5 h5 x0 x1 x2 x3 x4 = dq (row 1 2 x0) (outCt 2 x4) (vnN 2 x0 x1 x2 x3) (gc 2 x1) (state 2 x2) := by
  simp only [r_496, r_314, r_374, r_131, r_288, r_82, A_k2, A_S2, A_v226_2, A_v717_2, A_d2, A_c2]; rfl
theorem A_v1523_2 : r_495 c a1 h1 a2 h2 a3 h3 a4 h4 a5 h5 a8 x0 x1 x2 x3 x4 = dk0 (row 0 2 x0) (outCt 2 x4) (vnN 2 x0 x1 x2 x3) (dkN 2 x0 x1 x2 x3 z8) (twN 2 x0 x1 x2 x3 x4 z8) (bt 2 x1) (gc 2 x1) (gt 2 x1) := by
  simp only [r_495, r_374, r_414, r_106, r_131, r_354, r_82, A_q2, A_v226_2, A_v717_2, A_T2, A_v813_2, A_b2, A_v512_2, A_v663_2, A_c2]; rfl
theorem A_v1541_2 : r_506 c a1 h1 a2 h2 a3 h3 a4 h4 a5 h5 a8 x0 x1 x2 x3 x4 = db0 (row 1 2 x0) (row 2 2 x0) (tvN 2 x0 x1 x3 x4 z8) (twN 2 x0 x1 x2 x3 x4 z8) (gc 2 x1) := by
  simp only [r_506, r_452, r_413, r_131, r_82, A_v2, A_T2, A_v716_2, A_k2, A_v813_2, A_c2]; rfl
theorem A_v1581_2 : r_515 c a1 h1 a2 h2 a3 h3 a4 h4 a8 x0 x1 x2 x3 = dgt (row 1 2 x0) (dkN 2 x0 x1 x2 x3 z8) (gc 2 x1) (gt 2 x1) (state 2 x2) (carry 2 z8) := by
  simp only [r_515, r_356, r_264, r_231, r_98, A_k2, A_v512_2, A_v663_2, A_S2, A_D2, A_t2]; rfl
theorem A_v1621_2 : r_530 c a1 h1 a2 h2 a3 h3 a4 h4 a5 h5 a8 x0 x1 x2 x3 x4 = dgc0 (row 0 2 x0) (row 1 2 x0) (outCt 2 x4) (vnN 2 x0 x1 x2 x3) (dkN 2 x0 x1 x2 x3 z8) (twN 2 x0 x1 x2 x3 x4 z8) (bt 2 x1) (gc 2 x1) (gt 2 x1) (state 2 x2) := by
  simp only [r_530, r_473, r_523, r_131, r_355, r_412, r_482, r_82, r_167, r_313, r_373, r_106, r_288, A_k2, A_v512_2, A_v663_2, A_T2, A_v813_2, A_v226_2, A_c2, A_q2, A_S2, A_v214_2, A_v717_2, A_b2, A_d2]; rfl
theorem A_v1640_2 : r_551 c a1 h1 a2 h2 a3 h3 a4 h4 a5 h5 a8 x0 x1 x2 x3 x4 = neg (matmul dot_S64x64_S64x64_S64x64_1_0_0_1_n_n none (matmul dot_S64x64_S64x64_S64x64_1_0_0_1_n_n none (tr (inv 2 x3)) (dTN 2 x0 x1 x2 x4 z8) (zero S64x64)) (tr (inv 2 x3)) (zero S64x64)) := by
  simp only [r_551, r_535, r_543, A_T2, A_v1418_2]; rfl
theorem A_v1825_2 : r_619 c a1 h1 a2 h2 a3 h3 a4 h4 a5 h5 a8 x0 x1 x2 x3 x4 = dk1 (row 1 2 x0) (bt 2 x1) (gc 2 x1) (dMN 2 x0 x1 x2 x3 x4 z8) := by
  simp only [r_619, r_568, r_587, r_604, r_567, r_576, r_559, A_k2, A_v1640_2, A_b2, A_c2]; rfl
theorem A_v1897_2 : r_639 c a1 h1 a2 h2 a3 h3 a4 h4 a5 h5 a8 x0 x1 x2 x3 x4 = db1 (row 1 2 x0) (gc 2 x1) (dMN 2 x0 x1 x2 x3 x4 z8) := by
  simp only [r_639, r_618, r_604, r_576, r_559, A_k2, A_v1640_2, A_c2]; rfl
theorem A_v1913_2 : r_647 c a1 h1 a2 h2 a3 h3 a4 h4 a5 h5 a8 x0 x1 x2 x3 x4 = dgc1 (row 1 2 x0) (bt 2 x1) (gc 2 x1) (dMN 2 x0 x1 x2 x3 x4 z8) := by
  simp only [r_647, r_631, r_576, r_603, r_559, r_568, r_567, A_k2, A_v1640_2, A_c2, A_b2]; rfl
theorem A_v2018_2 : r_653 c a1 h1 a2 h2 a3 h3 a4 h4 a5 h5 a8 x0 x1 x2 x3 x4 = addf (db0 (row 1 2 x0) (row 2 2 x0) (tvN 2 x0 x1 x3 x4 z8) (twN 2 x0 x1 x2 x3 x4 z8) (gc 2 x1)) (db1 (row 1 2 x0) (gc 2 x1) (dMN 2 x0 x1 x2 x3 x4 z8)) := by
  simp only [r_653, A_v1541_2, A_v1897_2]; rfl
theorem A_v214_3 : r_115 c a1 h1 x0 = qk (row 0 3 x0) (row 1 3 x0) := by
  simp only [r_115, A_q3, A_k3]; rfl
theorem A_v226_3 : r_124 c a2 h2 x1 = decay (gc 3 x1) := by
  simp only [r_124, r_91, A_c3]; rfl
theorem A_v283_3 : r_148 c a1 h1 a2 h2 a4 h4 x0 x1 x3 = u (inv 3 x3) (row 2 3 x0) (bt 3 x1) := by
  simp only [r_148, r_107, A_v3, A_T3, A_b3]; rfl
theorem A_v383_3 : r_173 c a1 h1 a2 h2 x0 x1 = kbe (row 1 3 x0) (bt 3 x1) (gc 3 x1) := by
  simp only [r_173, r_107, r_132, r_83, A_k3, A_b3, A_c3]; rfl
theorem A_v396_3 : r_174 c a1 h1 a2 h2 a4 h4 x0 x1 x3 = w (inv 3 x3) (row 1 3 x0) (bt 3 x1) (gc 3 x1) := by
  simp only [r_174, r_107, r_132, r_83, A_k3, A_T3, A_b3, A_c3]; rfl
theorem A_v512_3 : r_203 c a2 h2 x1 = erest (gc 3 x1) (gt 3 x1) := by
  simp only [r_203, r_83, r_99, A_c3, A_t3]; rfl
theorem A_v543_3 : r_216 c a1 h1 a2 h2 a3 h3 a4 h4 x0 x1 x2 x3 = vnew (u (inv 3 x3) (row 2 3 x0) (bt 3 x1)) (w (inv 3 x3) (row 1 3 x0) (bt 3 x1) (gc 3 x1)) (state 3 x2) := by
  simp only [r_216, A_S3, A_v283_3, A_v396_3]; rfl
theorem A_v663_3 : r_257 c a1 h1 a2 h2 a3 h3 a4 h4 a8 x0 x1 x2 x3 = dkd (carry 3 z8) (vnN 3 x0 x1 x2 x3) := by
  simp only [r_257, A_D3, A_v543_3]; rfl
theorem A_v716_3 : r_286 c a1 h1 a2 h2 a5 h5 a8 x0 x1 x4 = dvn (row 0 3 x0) (row 1 3 x0) (outCt 3 x4) (gc 3 x1) (gt 3 x1) (carry 3 z8) := by
  simp only [r_286, r_192, r_256, r_204, r_83, r_99, A_d3, A_v214_3, A_v226_3, A_D3, A_k3, A_c3, A_t3]; rfl
theorem A_v717_3 : r_287 c a1 h1 a2 h2 a3 h3 a4 h4 a5 h5 x0 x1 x2 x3 x4 = dqk (outCt 3 x4) (vnN 3 x0 x1 x2 x3) := by
  simp only [r_287, A_d3, A_v543_3]; rfl
theorem A_v812_3 : r_329 c a1 h1 a2 h2 a4 h4 a5 h5 a8 x0 x1 x3 x4 = dS (row 0 3 x0) (outCt 3 x4) (w (inv 3 x3) (row 1 3 x0) (bt 3 x1) (gc 3 x1)) (dvN 3 x0 x1 x4 z8) (gc 3 x1) (gt 3 x1) (carry 3 z8) := by
  simp only [r_329, r_309, r_224, r_259, r_285, r_132, r_232, r_255, r_83, r_99, A_v396_3, A_v716_3, A_q3, A_d3, A_D3, A_c3, A_t3]; rfl
theorem A_v813_3 : r_330 c a1 h1 a2 h2 a3 h3 a5 h5 a8 x0 x1 x2 x4 = dw (dvN 3 x0 x1 x4 z8) (state 3 x2) := by
  simp only [r_330, A_S3, A_v716_3]; rfl
theorem A_v1418_3 : r_448 c a1 h1 a2 h2 a3 h3 a5 h5 a8 x0 x1 x2 x4 = dT (row 1 3 x0) (row 2 3 x0) (dvN 3 x0 x1 x4 z8) (dwN 3 x0 x1 x2 x4 z8) (bt 3 x1) (gc 3 x1) := by
  simp only [r_448, r_405, r_445, r_147, r_107, A_v383_3, A_v813_3, A_v716_3, A_v3, A_b3]; rfl
theorem A_v1421_3 : r_450 c a1 h1 a2 h2 a4 h4 a5 h5 a8 x0 x1 x3 x4 = dv (tvN 3 x0 x1 x3 x4 z8) (bt 3 x1) := by
  simp only [r_450, r_107, r_446, r_447, A_v716_3, A_b3, A_T3]; rfl
theorem A_v1525_3 : r_494 c a1 h1 a2 h2 a3 h3 a4 h4 a5 h5 x0 x1 x2 x3 x4 = dq (row 1 3 x0) (outCt 3 x4) (vnN 3 x0 x1 x2 x3) (gc 3 x1) (state 3 x2) := by
  simp only [r_494, r_311, r_372, r_132, r_285, r_83, A_k3, A_S3, A_v226_3, A_v717_3, A_d3, A_c3]; rfl
theorem A_v1523_3 : r_493 c a1 h1 a2 h2 a3 h3 a4 h4 a5 h5 a8 x0 x1 x2 x3 x4 = dk0 (row 0 3 x0) (outCt 3 x4) (vnN 3 x0 x1 x2 x3) (dkN 3 x0 x1 x2 x3 z8) (twN 3 x0 x1 x2 x3 x4 z8) (bt 3 x1) (gc 3 x1) (gt 3 x1) := by
  simp only [r_493, r_372, r_410, r_107, r_132, r_350, r_406, r_407, r_83, A_q3, A_v226_3, A_v717_3, A_b3, A_v512_3, A_v663_3, A_T3, A_v813_3, A_c3]; rfl
theorem A_v1541_3 : r_505 c a1 h1 a2 h2 a3 h3 a4 h4 a5 h5 a8 x0 x1 x2 x3 x4 = db0 (row 1 3 x0) (row 2 3 x0) (tvN 3 x0 x1 x3 x4 z8) (twN 3 x0 x1 x2 x3 x4 z8) (gc 3 x1) := by
  simp only [r_505, r_449, r_409, r_446, r_447, r_132, r_406, r_407, r_83, A_v3, A_v716_3, A_k3, A_T3, A_v813_3, A_c3]; rfl
theorem A_v1581_3 : r_514 c a1 h1 a2 h2 a3 h3 a4 h4 a8 x0 x1 x2 x3 = dgt (row 1 3 x0) (dkN 3 x0 x1 x2 x3 z8) (gc 3 x1) (gt 3 x1) (state 3 x2) (carry 3 z8) := by
  simp only [r_514, r_353, r_260, r_351, r_232, r_258, r_99, A_k3, A_v512_3, A_v663_3, A_S3, A_D3, A_t3]; rfl
theorem A_v1621_3 : r_529 c a1 h1 a2 h2 a3 h3 a4 h4 a5 h5 a8 x0 x1 x2 x3 x4 = dgc0 (row 0 3 x0) (row 1 3 x0) (outCt 3 x4) (vnN 3 x0 x1 x2 x3) (dkN 3 x0 x1 x2 x3 z8) (twN 3 x0 x1 x2 x3 x4 z8) (bt 3 x1) (gc 3 x1) (gt 3 x1) (state 3 x2) := by
  simp only [r_529, r_472, r_522, r_132, r_352, r_408, r_481, r_83, r_172, r_310, r_406, r_407, r_371, r_107, r_285, A_k3, A_v512_3, A_v663_3, A_v226_3, A_c3, A_q3, A_S3, A_T3, A_v813_3, A_v214_3, A_v717_3, A_b3, A_d3]; rfl
theorem A_v1640_3 : r_552 c a1 h1 a2 h2 a3 h3 a4 h4 a5 h5 a8 x0 x1 x2 x3 x4 = neg (matmul dot_S64x64_S64x64_S64x64_1_0_0_1_n_n none (matmul dot_S64x64_S64x64_S64x64_1_0_0_1_n_n none (tr (inv 3 x3)) (dTN 3 x0 x1 x2 x4 z8) (zero S64x64)) (tr (inv 3 x3)) (zero S64x64)) := by
  simp only [r_552, r_536, r_544, A_T3, A_v1418_3]; rfl
theorem A_v1825_3 : r_617 c a1 h1 a2 h2 a3 h3 a4 h4 a5 h5 a8 x0 x1 x2 x3 x4 = dk1 (row 1 3 x0) (bt 3 x1) (gc 3 x1) (dMN 3 x0 x1 x2 x3 x4 z8) := by
  simp only [r_617, r_569, r_588, r_602, r_577, r_560, A_k3, A_b3, A_v1640_3, A_c3]; rfl
theorem A_v1897_3 : r_638 c a1 h1 a2 h2 a3 h3 a4 h4 a5 h5 a8 x0 x1 x2 x3 x4 = db1 (row 1 3 x0) (gc 3 x1) (dMN 3 x0 x1 x2 x3 x4 z8) := by
  simp only [r_638, r_616, r_602, r_577, r_560, A_k3, A_v1640_3, A_c3]; rfl
theorem A_v1913_3 : r_646 c a1 h1 a2 h2 a3 h3 a4 h4 a5 h5 a8 x0 x1 x2 x3 x4 = dgc1 (row 1 3 x0) (bt 3 x1) (gc 3 x1) (dMN 3 x0 x1 x2 x3 x4 z8) := by
  simp only [r_646, r_630, r_577, r_601, r_560, r_569, A_k3, A_v1640_3, A_c3, A_b3]; rfl
theorem A_v2018_3 : r_654 c a1 h1 a2 h2 a3 h3 a4 h4 a5 h5 a8 x0 x1 x2 x3 x4 = addf (db0 (row 1 3 x0) (row 2 3 x0) (tvN 3 x0 x1 x3 x4 z8) (twN 3 x0 x1 x2 x3 x4 z8) (gc 3 x1)) (db1 (row 1 3 x0) (gc 3 x1) (dMN 3 x0 x1 x2 x3 x4 z8)) := by
  simp only [r_654, A_v1541_3, A_v1897_3]; rfl
theorem A_v214_4 : r_116 c a1 h1 x0 = qk (row 0 4 x0) (row 1 4 x0) := by
  simp only [r_116, A_q4, A_k4]; rfl
theorem A_v226_4 : r_125 c a2 h2 x1 = decay (gc 4 x1) := by
  simp only [r_125, r_92, A_c4]; rfl
theorem A_v283_4 : r_150 c a1 h1 a2 h2 a4 h4 x0 x1 x3 = u (inv 4 x3) (row 2 4 x0) (bt 4 x1) := by
  simp only [r_150, r_149, r_108, A_T4, A_v4, A_b4]; rfl
theorem A_v383_4 : r_176 c a1 h1 a2 h2 x0 x1 = kbe (row 1 4 x0) (bt 4 x1) (gc 4 x1) := by
  simp only [r_176, r_108, r_133, r_84, A_k4, A_b4, A_c4]; rfl
theorem A_v396_4 : r_177 c a1 h1 a2 h2 a4 h4 x0 x1 x3 = w (inv 4 x3) (row 1 4 x0) (bt 4 x1) (gc 4 x1) := by
  simp only [r_177, r_108, r_133, r_84, A_k4, A_T4, A_b4, A_c4]; rfl
theorem A_v512_4 : r_205 c a2 h2 x1 = erest (gc 4 x1) (gt 4 x1) := by
  simp only [r_205, r_84, r_100, A_c4, A_t4]; rfl
theorem A_v543_4 : r_217 c a1 h1 a2 h2 a3 h3 a4 h4 x0 x1 x2 x3 = vnew (u (inv 4 x3) (row 2 4 x0) (bt 4 x1)) (w (inv 4 x3) (row 1 4 x0) (bt 4 x1) (gc 4 x1)) (state 4 x2) := by
  simp only [r_217, A_S4, A_v283_4, A_v396_4]; rfl
theorem A_v663_4 : r_252 c a1 h1 a2 h2 a3 h3 a4 h4 a8 x0 x1 x2 x3 = dkd (carry 4 z8) (vnN 4 x0 x1 x2 x3) := by
  simp only [r_252, A_D4, A_v543_4]; rfl
theorem A_v716_4 : r_283 c a1 h1 a2 h2 a5 h5 a8 x0 x1 x4 = dvn (row 0 4 x0) (row 1 4 x0) (outCt 4 x4) (gc 4 x1) (gt 4 x1) (carry 4 z8) := by
  simp only [r_283, r_193, r_251, r_206, r_84, r_100, A_d4, A_v214_4, A_v226_4, A_D4, A_k4, A_c4, A_t4]; rfl
theorem A_v717_4 : r_284 c a1 h1 a2 h2 a3 h3 a4 h4 a5 h5 x0 x1 x2 x3 x4 = dqk (outCt 4 x4) (vnN 4 x0 x1 x2 x3) := by
  simp only [r_284, A_d4, A_v543_4]; rfl
theorem A_v812_4 : r_327 c a1 h1 a2 h2 a4 h4 a5 h5 a8 x0 x1 x3 x4 = dS (row 0 4 x0) (outCt 4 x4) (w (inv 4 x3) (row 1 4 x0) (bt 4 x1) (gc 4 x1)) (dvN 4 x0 x1 x4 z8) (gc 4 x1) (gt 4 x1) (carry 4 z8) := by
  simp only [r_327, r_306, r_225, r_253, r_282, r_133, r_233, r_84, r_100, A_v396_4, A_v716_4, A_q4, A_D4, A_d4, A_c4, A_t4]; rfl
theorem A_v813_4 : r_328 c a1 h1 a2 h2 a3 h3 a5 h5 a8 x0 x1 x2 x4 = dw (dvN 4 x0 x1 x4 z8) (state 4 x2) := by
  simp only [r_328, A_S4, A_v716_4]; rfl
theorem A_v1418_4 : r_442 c a1 h1 a2 h2 a3 h3 a5 h5 a8 x0 x1 x2 x4 = dT (row 1 4 x0) (row 2 4 x0) (dvN 4 x0 x1 x4 z8) (dwN 4 x0 x1 x2 x4 z8) (bt 4 x1) (gc 4 x1) := by
  simp only [r_442, r_149, r_401, r_108, r_397, r_398, r_399, r_400, A_v716_4, A_v4, A_b4, A_v813_4, A_v383_4]; rfl
theorem A_v1421_4 : r_444 c a1 h1 a2 h2 a4 h4 a5 h5 a8 x0 x1 x3 x4 = dv (tvN 4 x0 x1 x3 x4 z8) (bt 4 x1) := by
  simp only [r_444, r_108, A_T4, A_v716_4, A_b4]; rfl
theorem A_v1525_4 : r_492 c a1 h1 a2 h2 a3 h3 a4 h4 a5 h5 x0 x1 x2 x3 x4 = dq (row 1 4 x0) (outCt 4 x4) (vnN 4 x0 x1 x2 x3) (gc 4 x1) (state 4 x2) := by
  simp only [r_492, r_308, r_370, r_133, r_282, r_84, A_k4, A_S4, A_v226_4, A_v717_4, A_d4, A_c4]; rfl
theorem A_v1523_4 : r_491 c a1 h1 a2 h2 a3 h3 a4 h4 a5 h5 a8 x0 x1 x2 x3 x4 = dk0 (row 0 4 x0) (outCt 4 x4) (vnN 4 x0 x1 x2 x3) (dkN 4 x0 x1 x2 x3 z8) (twN 4 x0 x1 x2 x3 x4 z8) (bt 4 x1) (gc 4 x1) (gt 4 x1) := by
  simp only [r_491, r_370, r_404, r_108, r_133, r_347, r_84, A_q4, A_v226_4, A_v717_4, A_T4, A_v813_4, A_b4, A_v512_4, A_v663_4, A_c4]; rfl
theorem A_v1541_4 : r_504 c a1 h1 a2 h2 a3 h3 a4 h4 a5 h5 a8 x0 x1 x2 x3 x4 = db0 (row 1 4 x0) (row 2 4 x0) (tvN 4 x0 x1 x3 x4 z8) (twN 4 x0 x1 x2 x3 x4 z8) (gc 4 x1) := by
  simp only [r_504, r_443, r_403, r_133, r_84, A_v4, A_T4, A_v716_4, A_k4, A_v813_4, A_c4]; rfl
theorem A_v1581_4 : r_513 c a1 h1 a2 h2 a3 h3 a4 h4 a8 x0 x1 x2 x3 = dgt (row 1 4 x0) (dkN 4 x0 x1 x2 x3 z8) (gc 4 x1) (gt 4 x1) (state 4 x2) (carry 4 z8) := by
  simp only [r_513, r_349, r_254, r_233, r_100, A_k4, A_v512_4, A_v663_4, A_S4, A_D4, A_t4]; rfl
theorem A_v1621_4 : r_528 c a1 h1 a2 h2 a3 h3 a4 h4 a5 h5 a8 x0 x1 x2 x3 x4 = dgc0 (row 0 4 x0) (row 1 4 x0) (outCt 4 x4) (vnN 4 x0 x1 x2 x3) (dkN 4 x0 x1 x2 x3 z8) (twN 4 x0 x1 x2 x3 x4 z8) (bt 4 x1) (gc 4 x1) (gt 4 x1) (state 4 x2) := by
  simp only [r_528, r_471, r_521, r_133, r_348, r_402, r_480, r_84, r_175, r_307, r_479, r_108, r_282, r_369, A_k4, A_v512_4, A_v663_4, A_T4, A_v813_4, A_c4, A_q4, A_S4, A_v226_4, A_b4, A_d4, A_v214_4, A_v717_4]; rfl
theorem A_v1640_4 : r_553 c a1 h1 a2 h2 a3 h3 a4 h4 a5 h5 a8 x0 x1 x2 x3 x4 = neg (matmul dot_S64x64_S64x64_S64x64_1_0_0_1_n_n none (matmul dot_S64x64_S64x64_S64x64_1_0_0_1_n_n none (tr (inv 4 x3)) (dTN 4 x0 x1 x2 x4 z8) (zero S64x64)) (tr (inv 4 x3)) (zero S64x64)) := by
  simp only [r_553, r_537, r_545, A_T4, A_v1418_4]; rfl
theorem A_v1825_4 : r_615 c a1 h1 a2 h2 a3 h3 a4 h4 a5 h5 a8 x0 x1 x2 x3 x4 = dk1 (row 1 4 x0) (bt 4 x1) (gc 4 x1) (dMN 4 x0 x1 x2 x3 x4 z8) := by
  simp only [r_615, r_570, r_589, r_600, r_578, r_561, A_k4, A_b4, A_v1640_4, A_c4]; rfl
theorem A_v1897_4 : r_637 c a1 h1 a2 h2 a3 h3 a4 h4 a5 h5 a8 x0 x1 x2 x3 x4 = db1 (row 1 4 x0) (gc 4 x1) (dMN 4 x0 x1 x2 x3 x4 z8) := by
  simp only [r_637, r_614, r_600, r_578, r_561, A_k4, A_v1640_4, A_c4]; rfl
theorem A_v1913_4 : r_645 c a1 h1 a2 h2 a3 h3 a4 h4 a5 h5 a8 x0 x1 x2 x3 x4 = dgc1 (row 1 4 x0) (bt 4 x1) (gc 4 x1) (dMN 4 x0 x1 x2 x3 x4 z8) := by
  simp only [r_645, r_629, r_578, r_599, r_561, r_570, A_k4, A_v1640_4, A_c4, A_b4]; rfl
theorem A_v2018_4 : r_655 c a1 h1 a2 h2 a3 h3 a4 h4 a5 h5 a8 x0 x1 x2 x3 x4 = addf (db0 (row 1 4 x0) (row 2 4 x0) (tvN 4 x0 x1 x3 x4 z8) (twN 4 x0 x1 x2 x3 x4 z8) (gc 4 x1)) (db1 (row 1 4 x0) (gc 4 x1) (dMN 4 x0 x1 x2 x3 x4 z8)) := by
  simp only [r_655, A_v1541_4, A_v1897_4]; rfl
theorem A_v2026_4 : r_659 c a1 h1 a2 h2 a3 h3 a4 h4 a5 h5 a8 x0 x1 x2 x3 x4 = addf (dgc0 (row 0 4 x0) (row 1 4 x0) (outCt 4 x4) (vnN 4 x0 x1 x2 x3) (dkN 4 x0 x1 x2 x3 z8) (twN 4 x0 x1 x2 x3 x4 z8) (bt 4 x1) (gc 4 x1) (gt 4 x1) (state 4 x2)) (dgc1 (row 1 4 x0) (bt 4 x1) (gc 4 x1) (dMN 4 x0 x1 x2 x3 x4 z8)) := by
  simp only [r_659, A_v1621_4, A_v1913_4]; rfl
theorem A_v214_5 : r_117 c a1 h1 x0 = qk (row 0 5 x0) (row 1 5 x0) := by
  simp only [r_117, A_q5, A_k5]; rfl
theorem A_v226_5 : r_126 c a2 h2 x1 = decay (gc 5 x1) := by
  simp only [r_126, r_93, A_c5]; rfl
theorem A_v283_5 : r_152 c a1 h1 a2 h2 a4 h4 x0 x1 x3 = u (inv 5 x3) (row 2 5 x0) (bt 5 x1) := by
  simp only [r_152, r_109, A_v5, A_T5, A_b5]; rfl
theorem A_v383_5 : r_179 c a1 h1 a2 h2 x0 x1 = kbe (row 1 5 x0) (bt 5 x1) (gc 5 x1) := by
  simp only [r_179, r_109, r_134, r_85, A_k5, A_b5, A_c5]; rfl
theorem A_v396_5 : r_180 c a1 h1 a2 h2 a4 h4 x0 x1 x3 = w (inv 5 x3) (row 1 5 x0) (bt 5 x1) (gc 5 x1) := by
  simp only [r_180, r_109, r_134, r_85, A_k5, A_T5, A_b5, A_c5]; rfl
theorem A_v512_5 : r_208 c a2 h2 x1 = erest (gc 5 x1) (gt 5 x1) := by
  simp only [r_208, r_85, r_207, r_101, A_c5, A_t5]; rfl
theorem A_v543_5 : r_218 c a1 h1 a2 h2 a3 h3 a4 h4 x0 x1 x2 x3 = vnew (u (inv 5 x3) (row 2 5 x0) (bt 5 x1)) (w (inv 5 x3) (row 1 5 x0) (bt 5 x1) (gc 5 x1)) (state 5 x2) := by
  simp only [r_218, A_S5, A_v283_5, A_v396_5]; rfl
theorem A_v663_5 : r_248 c a1 h1 a2 h2 a3 h3 a4 h4 a8 x0 x1 x2 x3 = dkd (carry 5 z8) (vnN 5 x0 x1 x2 x3) := by
  simp only [r_248, A_D5, A_v543_5]; rfl
theorem A_v716_5 : r_280 c a1 h1 a2 h2 a5 h5 a8 x0 x1 x4 = dvn (row 0 5 x0) (row 1 5 x0) (outCt 5 x4) (gc 5 x1) (gt 5 x1) (carry 5 z8) := by
  simp only [r_280, r_194, r_247, r_209, r_85, r_207, r_101, A_d5, A_v214_5, A_v226_5, A_D5, A_k5, A_c5, A_t5]; rfl
theorem A_v717_5 : r_281 c a1 h1 a2 h2 a3 h3 a4 h4 a5 h5 x0 x1 x2 x3 x4 = dqk (outCt 5 x4) (vnN 5 x0 x1 x2 x3) := by
  simp only [r_281, A_d5, A_v543_5]; rfl
theorem A_v812_5 : r_325 c a1 h1 a2 h2 a4 h4 a5 h5 a8 x0 x1 x3 x4 = dS (row 0 5 x0) (outCt 5 x4) (w (inv 5 x3) (row 1 5 x0) (bt 5 x1) (gc 5 x1)) (dvN 5 x0 x1 x4 z8) (gc 5 x1) (gt 5 x1) (carry 5 z8) := by
  simp only [r_325, r_303, r_226, r_249, r_279, r_134, r_234, r_85, r_101, A_v396_5, A_v716_5, A_q5, A_D5, A_d5, A_c5, A_t5]; rfl
theorem A_v813_5 : r_326 c a1 h1 a2 h2 a3 h3 a5 h5 a8 x0 x1 x2 x4 = dw (dvN 5 x0 x1 x4 z8) (state 5 x2) := by
  simp only [r_326, A_S5, A_v716_5]; rfl
theorem A_v1417_5 : r_438 c a1 h1 a2 h2 a4 h4 a5 h5 a8 x0 x1 x3 x4 = tdot (inv 5 x3) (dvN 5 x0 x1 x4 z8) := by
  simp only [r_438, A_T5, A_v716_5]; rfl
theorem A_v1418_5 : r_439 c a1 h1 a2 h2 a3 h3 a5 h5 a8 x0 x1 x2 x4 = dT (row 1 5 x0) (row 2 5 x0) (dvN 5 x0 x1 x4 z8) (dwN 5 x0 x1 x2 x4 z8) (bt 5 x1) (gc 5 x1) := by
  simp only [r_439, r_151, r_393, r_109, A_v716_5, A_v5, A_v383_5, A_v813_5, A_b5]; rfl
theorem A_v1421_5 : r_441 c a1 h1 a2 h2 a4 h4 a5 h5 a8 x0 x1 x3 x4 = dv (tvN 5 x0 x1 x3 x4 z8) (bt 5 x1) := by
  simp only [r_441, r_109, A_v1417_5, A_b5]; rfl
theorem A_v1525_5 : r_490 c a1 h1 a2 h2 a3 h3 a4 h4 a5 h5 x0 x1 x2 x3 x4 = dq (row 1 5 x0) (outCt 5 x4) (vnN 5 x0 x1 x2 x3) (gc 5 x1) (state 5 x2) := by
  simp only [r_490, r_305, r_368, r_134, r_279, r_85, A_k5, A_S5, A_v226_5, A_v717_5, A_d5, A_c5]; rfl
theorem A_v1523_5 : r_489 c a1 h1 a2 h2 a3 h3 a4 h4 a5 h5 a8 x0 x1 x2 x3 x4 = dk0 (row 0 5 x0) (outCt 5 x4) (vnN 5 x0 x1 x2 x3) (dkN 5 x0 x1 x2 x3 z8) (twN 5 x0 x1 x2 x3 x4 z8) (bt 5 x1) (gc 5 x1) (gt 5 x1) := by
  simp only [r_489, r_368, r_396, r_109, r_134, r_344, r_85, A_q5, A_v226_5, A_v717_5, A_T5, A_v813_5, A_b5, A_v512_5, A_v663_5, A_c5]; rfl
theorem A_v1541_5 : r_503 c a1 h1 a2 h2 a3 h3 a4 h4 a5 h5 a8 x0 x1 x2 x3 x4 = db0 (row 1 5 x0) (row 2 5 x0) (tvN 5 x0 x1 x3 x4 z8) (twN 5 x0 x1 x2 x3 x4 z8) (gc 5 x1) := by
  simp only [r_503, r_440, r_395, r_134, r_85, A_v5, A_T5, A_v716_5, A_k5, A_v813_5, A_c5]; rfl
theorem A_v1581_5 : r_512 c a1 h1 a2 h2 a3 h3 a4 h4 a8 x0 x1 x2 x3 = dgt (row 1 5 x0) (dkN 5 x0 x1 x2 x3 z8) (gc 5 x1) (gt 5 x1) (state 5 x2) (carry 5 z8) := by
  simp only [r_512, r_346, r_250, r_234, r_101, A_k5, A_v512_5, A_v663_5, A_S5, A_D5, A_t5]; rfl
theorem A_v1621_5 : r_527 c a1 h1 a2 h2 a3 h3 a4 h4 a5 h5 a8 x0 x1 x2 x3 x4 = dgc0 (row 0 5 x0) (row 1 5 x0) (outCt 5 x4) (vnN 5 x0 x1 x2 x3) (dkN 5 x0 x1 x2 x3 z8) (twN 5 x0 x1 x2 x3 x4 z8) (bt 5 x1) (gc 5 x1) (gt 5 x1) (state 5 x2) := by
  simp only [r_527, r_470, r_520, r_134, r_345, r_394, r_478, r_85, r_178, r_304, r_367, r_109, r_279, A_k5, A_v512_5, A_v663_5, A_T5, A_v813_5, A_v226_5, A_c5, A_q5, A_S5, A_v214_5, A_v717_5, A_b5, A_d5]; rfl
theorem A_v1640_5 : r_554 c a1 h1 a2 h2 a3 h3 a4 h4 a5 h5 a8 x0 x1 x2 x3 x4 = neg (matmul dot_S64x64_S64x64_S64x64_1_0_0_1_n_n none (matmul dot_S64x64_S64x64_S64x64_1_0_0_1_n_n none (tr (inv 5 x3)) (dTN 5 x0 x1 x2 x4 z8) (zero S64x64)) (tr (inv 5 x3)) (zero S64x64)) := by
  simp only [r_554, r_538, r_546, A_T5, A_v1418_5]; rfl
theorem A_v1825_5 : r_613 c a1 h1 a2 h2 a3 h3 a4 h4 a5 h5 a8 x0 x1 x2 x3 x4 = dk1 (row 1 5 x0) (bt 5 x1) (gc 5 x1) (dMN 5 x0 x1 x2 x3 x4 z8) := by
  simp only [r_613, r_571, r_590, r_598, r_579, r_562, A_k5, A_b5, A_v1640_5, A_c5]; rfl
theorem A_v1897_5 : r_636 c a1 h1 a2 h2 a3 h3 a4 h4 a5 h5 a8 x0 x1 x2 x3 x4 = db1 (row 1 5 x0) (gc 5 x1) (dMN 5 x0 x1 x2 x3 x4 z8) := by
  simp only [r_636, r_612, r_598, r_579, r_562, A_k5, A_v1640_5, A_c5]; rfl
theorem A_v1913_5 : r_644 c a1 h1 a2 h2 a3 h3 a4 h4 a5 h5 a8 x0 x1 x2 x3 x4 = dgc1 (row 1 5 x0) (bt 5 x1) (gc 5 x1) (dMN 5 x0 x1 x2 x3 x4 z8) := by
  simp only [r_644, r_628, r_579, r_597, r_562, r_571, A_k5, A_v1640_5, A_c5, A_b5]; rfl
theorem A_v2018_5 : r_656 c a1 h1 a2 h2 a3 h3 a4 h4 a5 h5 a8 x0 x1 x2 x3 x4 = addf (db0 (row 1 5 x0) (row 2 5 x0) (tvN 5 x0 x1 x3 x4 z8) (twN 5 x0 x1 x2 x3 x4 z8) (gc 5 x1)) (db1 (row 1 5 x0) (gc 5 x1) (dMN 5 x0 x1 x2 x3 x4 z8)) := by
  simp only [r_656, A_v1541_5, A_v1897_5]; rfl
theorem A_v2026_5 : r_660 c a1 h1 a2 h2 a3 h3 a4 h4 a5 h5 a8 x0 x1 x2 x3 x4 = addf (dgc0 (row 0 5 x0) (row 1 5 x0) (outCt 5 x4) (vnN 5 x0 x1 x2 x3) (dkN 5 x0 x1 x2 x3 z8) (twN 5 x0 x1 x2 x3 x4 z8) (bt 5 x1) (gc 5 x1) (gt 5 x1) (state 5 x2)) (dgc1 (row 1 5 x0) (bt 5 x1) (gc 5 x1) (dMN 5 x0 x1 x2 x3 x4 z8)) := by
  simp only [r_660, A_v1621_5, A_v1913_5]; rfl
theorem A_v214_6 : r_118 c a1 h1 x0 = qk (row 0 6 x0) (row 1 6 x0) := by
  simp only [r_118, A_q6, A_k6]; rfl
theorem A_v226_6 : r_127 c a2 h2 x1 = decay (gc 6 x1) := by
  simp only [r_127, r_94, A_c6]; rfl
theorem A_v283_6 : r_154 c a1 h1 a2 h2 a4 h4 x0 x1 x3 = u (inv 6 x3) (row 2 6 x0) (bt 6 x1) := by
  simp only [r_154, r_110, A_v6, A_T6, A_b6]; rfl
theorem A_v383_6 : r_182 c a1 h1 a2 h2 x0 x1 = kbe (row 1 6 x0) (bt 6 x1) (gc 6 x1) := by
  simp only [r_182, r_110, r_135, r_86, A_k6, A_b6, A_c6]; rfl
theorem A_v396_6 : r_185 c a1 h1 a2 h2 a4 h4 x0 x1 x3 = w (inv 6 x3) (row 1 6 x0) (bt 6 x1) (gc 6 x1) := by
  simp only [r_185, r_183, r_184, A_v383_6, A_T6]; rfl
theorem A_v512_6 : r_210 c a2 h2 x1 = erest (gc 6 x1) (gt 6 x1) := by
  simp only [r_210, r_86, r_102, A_c6, A_t6]; rfl
theorem A_v543_6 : r_219 c a1 h1 a2 h2 a3 h3 a4 h4 x0 x1 x2 x3 = vnew (u (inv 6 x3) (row 2 6 x0) (bt 6 x1)) (w (inv 6 x3) (row 1 6 x0) (bt 6 x1) (gc 6 x1)) (state 6 x2) := by
  simp only [r_219, A_S6, A_v283_6, A_v396_6]; rfl
theorem A_v663_6 : r_244 c a1 h1 a2 h2 a3 h3 a4 h4 a8 x0 x1 x2 x3 = dkd (carry 6 z8) (vnN 6 x0 x1 x2 x3) := by
  simp only [r_244, A_D6, A_v543_6]; rfl
theorem A_v716_6 : r_277 c a1 h1 a2 h2 a5 h5 a8 x0 x1 x4 = dvn (row 0 6 x0) (row 1 6 x0) (outCt 6 x4) (gc 6 x1) (gt 6 x1) (carry 6 z8) := by
  simp only [r_277, r_195, r_243, r_211, r_86, r_102, A_d6, A_v214_6, A_v226_6, A_D6, A_k6, A_c6, A_t6]; rfl
theorem A_v717_6 : r_278 c a1 h1 a2 h2 a3 h3 a4 h4 a5 h5 x0 x1 x2 x3 x4 = dqk (outCt 6 x4) (vnN 6 x0 x1 x2 x3) := by
  simp only [r_278, A_d6, A_v543_6]; rfl
theorem A_v812_6 : r_323 c a1 h1 a2 h2 a4 h4 a5 h5 a8 x0 x1 x3 x4 = dS (row 0 6 x0) (outCt 6 x4) (w (inv 6 x3) (row 1 6 x0) (bt 6 x1) (gc 6 x1)) (dvN 6 x0 x1 x4 z8) (gc 6 x1) (gt 6 x1) (carry 6 z8) := by
  simp only [r_323, r_300, r_227, r_245, r_276, r_135, r_235, r_86, r_102, A_v396_6, A_v716_6, A_q6, A_D6, A_d6, A_c6, A_t6]; rfl
theorem A_v813_6 : r_324 c a1 h1 a2 h2 a3 h3 a5 h5 a8 x0 x1 x2 x4 = dw (dvN 6 x0 x1 x4 z8) (state 6 x2) := by
  simp only [r_324, A_S6, A_v716_6]; rfl
theorem A_v1418_6 : r_435 c a1 h1 a2 h2 a3 h3 a5 h5 a8 x0 x1 x2 x4 = dT (row 1 6 x0) (row 2 6 x0) (dvN 6 x0 x1 x4 z8) (dwN 6 x0 x1 x2 x4 z8) (bt 6 x1) (gc 6 x1) := by
  simp only [r_435, r_387, r_432, r_433, r_434, r_153, r_110, A_v383_6, A_v813_6, A_v716_6, A_v6, A_b6]; rfl
theorem A_v1421_6 : r_437 c a1 h1 a2 h2 a4 h4 a5 h5 a8 x0 x1 x3 x4 = dv (tvN 6 x0 x1 x3 x4 z8) (bt 6 x1) := by
  simp only [r_437, r_110, A_T6, A_v716_6, A_b6]; rfl
theorem A_v1525_6 : r_488 c a1 h1 a2 h2 a3 h3 a4 h4 a5 h5 x0 x1 x2 x3 x4 = dq (row 1 6 x0) (outCt 6 x4) (vnN 6 x0 x1 x2 x3) (gc 6 x1) (state 6 x2) := by
  simp only [r_488, r_302, r_366, r_135, r_276, r_86, A_k6, A_S6, A_v226_6, A_v717_6, A_d6, A_c6]; rfl
theorem A_v1523_6 : r_487 c a1 h1 a2 h2 a3 h3 a4 h4 a5 h5 a8 x0 x1 x2 x3 x4 = dk0 (row 0 6 x0) (outCt 6 x4) (vnN 6 x0 x1 x2 x3) (dkN 6 x0 x1 x2 x3 z8) (twN 6 x0 x1 x2 x3 x4 z8) (bt 6 x1) (gc 6 x1) (gt 6 x1) := by
  simp only [r_487, r_366, r_392, r_110, r_135, r_341, r_388, r_389, r_86, A_q6, A_v226_6, A_v717_6, A_b6, A_v512_6, A_v663_6, A_T6, A_v813_6, A_c6]; rfl
theorem A_v1541_6 : r_502 c a1 h1 a2 h2 a3 h3 a4 h4 a5 h5 a8 x0 x1 x2 x3 x4 = db0 (row 1 6 x0) (row 2 6 x0) (tvN 6 x0 x1 x3 x4 z8) (twN 6 x0 x1 x2 x3 x4 z8) (gc 6 x1) := by
  simp only [r_502, r_436, r_391, r_135, r_388, r_389, r_86, A_v6, A_T6, A_v716_6, A_k6, A_v813_6, A_c6]; rfl
theorem A_v1581_6 : r_511 c a1 h1 a2 h2 a3 h3 a4 h4 a8 x0 x1 x2 x3 = dgt (row 1 6 x0) (dkN 6 x0 x1 x2 x3 z8) (gc 6 x1) (gt 6 x1) (state 6 x2) (carry 6 z8) := by
  simp only [r_511, r_510, r_343, r_246, r_235, r_102, A_k6, A_v512_6, A_v663_6, A_S6, A_D6, A_t6]; rfl
theorem A_v1621_6 : r_526 c a1 h1 a2 h2 a3 h3 a4 h4 a5 h5 a8 x0 x1 x2 x3 x4 = dgc0 (row 0 6 x0) (row 1 6 x0) (outCt 6 x4) (vnN 6 x0 x1 x2 x3) (dkN 6 x0 x1 x2 x3 z8) (twN 6 x0 x1 x2 x3 x4 z8) (bt 6 x1) (gc 6 x1) (gt 6 x1) (state 6 x2) := by
  simp only [r_526, r_469, r_519, r_135, r_342, r_390, r_477, r_86, r_181, r_301, r_388, r_389, r_365, r_110, r_276, A_k6, A_v512_6, A_v663_6, A_v226_6, A_c6, A_q6, A_S6, A_T6, A_v813_6, A_v214_6, A_v717_6, A_b6, A_d6]; rfl
theorem A_v1640_6 : r_555 c a1 h1 a2 h2 a3 h3 a4 h4 a5 h5 a8 x0 x1 x2 x3 x4 = neg (matmul dot_S64x64_S64x64_S64x64_1_0_0_1_n_n none (matmul dot_S64x64_S64x64_S64x64_1_0_0_1_n_n none (tr (inv 6 x3)) (dTN 6 x0 x1 x2 x4 z8) (zero S64x64)) (tr (inv 6 x3)) (zero S64x64)) := by
  simp only [r_555, r_539, r_547, A_T6, A_v1418_6]; rfl
theorem A_v1825_6 : r_611 c a1 h1 a2 h2 a3 h3 a4 h4 a5 h5 a8 x0 x1 x2 x3 x4 = dk1 (row 1 6 x0) (bt 6 x1) (gc 6 x1) (dMN 6 x0 x1 x2 x3 x4 z8) := by
  simp only [r_611, r_572, r_591, r_596, r_580, r_563, A_k6, A_b6, A_v1640_6, A_c6]; rfl
theorem A_v1897_6 : r_635 c a1 h1 a2 h2 a3 h3 a4 h4 a5 h5 a8 x0 x1 x2 x3 x4 = db1 (row 1 6 x0) (gc 6 x1) (dMN 6 x0 x1 x2 x3 x4 z8) := by
  simp only [r_635, r_610, r_596, r_580, r_563, A_k6, A_v1640_6, A_c6]; rfl
theorem A_v1913_6 : r_643 c a1 h1 a2 h2 a3 h3 a4 h4 a5 h5 a8 x0 x1 x2 x3 x4 = dgc1 (row 1 6 x0) (bt 6 x1) (gc 6 x1) (dMN 6 x0 x1 x2 x3 x4 z8) := by
  simp only [r_643, r_627, r_580, r_595, r_563, r_572, A_k6, A_v1640_6, A_c6, A_b6]; rfl
theorem A_v2018_6 : r_657 c a1 h1 a2 h2 a3 h3 a4 h4 a5 h5 a8 x0 x1 x2 x3 x4 = addf (db0 (row 1 6 x0) (row 2 6 x0) (tvN 6 x0 x1 x3 x4 z8) (twN 6 x0 x1 x2 x3 x4 z8) (gc 6 x1)) (db1 (row 1 6 x0) (gc 6 x1) (dMN 6 x0 x1 x2 x3 x4 z8)) := by
  simp only [r_657, A_v1541_6, A_v1897_6]; rfl
theorem A_v2026_6 : r_661 c a1 h1 a2 h2 a3 h3 a4 h4 a5 h5 a8 x0 x1 x2 x3 x4 = addf (dgc0 (row 0 6 x0) (row 1 6 x0) (outCt 6 x4) (vnN 6 x0 x1 x2 x3) (dkN 6 x0 x1 x2 x3 z8) (twN 6 x0 x1 x2 x3 x4 z8) (bt 6 x1) (gc 6 x1) (gt 6 x1) (state 6 x2)) (dgc1 (row 1 6 x0) (bt 6 x1) (gc 6 x1) (dMN 6 x0 x1 x2 x3 x4 z8)) := by
  simp only [r_661, A_v1621_6, A_v1913_6]; rfl
theorem A_v214_7 : r_119 c a1 h1 x0 = qk (row 0 7 x0) (row 1 7 x0) := by
  simp only [r_119, A_q7, A_k7]; rfl
theorem A_v226_7 : r_128 c a2 h2 x1 = decay (gc 7 x1) := by
  simp only [r_128, r_95, A_c7]; rfl
theorem A_v283_7 : r_160 c a1 h1 a2 h2 a4 h4 x0 x1 x3 = u (inv 7 x3) (row 2 7 x0) (bt 7 x1) := by
  simp only [r_160, r_156, r_157, r_158, r_159, r_111, A_T7, A_v7, A_b7]; rfl
theorem A_v383_7 : r_187 c a1 h1 a2 h2 x0 x1 = kbe (row 1 7 x0) (bt 7 x1) (gc 7 x1) := by
  simp only [r_187, r_111, r_136, r_87, A_k7, A_b7, A_c7]; rfl
theorem A_v396_7 : r_188 c a1 h1 a2 h2 a4 h4 x0 x1 x3 = w (inv 7 x3) (row 1 7 x0) (bt 7 x1) (gc 7 x1) := by
  simp only [r_188, r_111, r_136, r_87, A_k7, A_T7, A_b7, A_c7]; rfl
theorem A_v512_7 : r_212 c a2 h2 x1 = erest (gc 7 x1) (gt 7 x1) := by
  simp only [r_212, r_87, r_103, A_c7, A_t7]; rfl
theorem A_v543_7 : r_220 c a1 h1 a2 h2 a3 h3 a4 h4 x0 x1 x2 x3 = vnew (u (inv 7 x3) (row 2 7 x0) (bt 7 x1)) (w (inv 7 x3) (row 1 7 x0) (bt 7 x1) (gc 7 x1)) (state 7 x2) := by
  simp only [r_220, A_S7, A_v283_7, A_v396_7]; rfl
theorem A_v663_7 : r_239 c a1 h1 a2 h2 a3 h3 a4 h4 a8 x0 x1 x2 x3 = dkd (carry 7 z8) (vnN 7 x0 x1 x2 x3) := by
  simp only [r_239, A_S7, A_D7, A_v283_7, A_v396_7]; rfl
theorem A_v716_7 : r_274 c a1 h1 a2 h2 a5 h5 a8 x0 x1 x4 = dvn (row 0 7 x0) (row 1 7 x0) (outCt 7 x4) (gc 7 x1) (gt 7 x1) (carry 7 z8) := by
  simp only [r_274, r_196, r_238, r_87, r_103, A_d7, A_v214_7, A_v226_7, A_k7, A_D7, A_c7, A_t7]; rfl
theorem A_v717_7 : r_275 c a1 h1 a2 h2 a3 h3 a4 h4 a5 h5 x0 x1 x2 x3 x4 = dqk (outCt 7 x4) (vnN 7 x0 x1 x2 x3) := by
  simp only [r_275, A_d7, A_v543_7]; rfl
theorem A_v812_7 : r_321 c a1 h1 a2 h2 a4 h4 a5 h5 a8 x0 x1 x3 x4 = dS (row 0 7 x0) (outCt 7 x4) (w (inv 7 x3) (row 1 7 x0) (bt 7 x1) (gc 7 x1)) (dvN 7 x0 x1 x4 z8) (gc 7 x1) (gt 7 x1) (carry 7 z8) := by
  simp only [r_321, r_297, r_228, r_241, r_273, r_136, r_236, r_237, r_87, r_103, A_v396_7, A_v716_7, A_q7, A_d7, A_D7, A_c7, A_t7]; rfl
theorem A_v813_7 : r_322 c a1 h1 a2 h2 a3 h3 a5 h5 a8 x0 x1 x2 x4 = dw (dvN 7 x0 x1 x4 z8) (state 7 x2) := by
  simp only [r_322, A_S7, A_v716_7]; rfl
theorem A_v1418_7 : r_429 c a1 h1 a2 h2 a3 h3 a5 h5 a8 x0 x1 x2 x4 = dT (row 1 7 x0) (row 2 7 x0) (dvN 7 x0 x1 x4 z8) (dwN 7 x0 x1 x2 x4 z8) (bt 7 x1) (gc 7 x1) := by
  simp only [r_429, r_155, r_383, r_111, r_379, r_380, r_381, r_382, A_v716_7, A_v7, A_b7, A_v813_7, A_v383_7]; rfl
theorem A_v1421_7 : r_431 c a1 h1 a2 h2 a4 h4 a5 h5 a8 x0 x1 x3 x4 = dv (tvN 7 x0 x1 x3 x4 z8) (bt 7 x1) := by
  simp only [r_431, r_111, A_T7, A_v716_7, A_b7]; rfl
theorem A_v1525_7 : r_486 c a1 h1 a2 h2 a3 h3 a4 h4 a5 h5 x0 x1 x2 x3 x4 = dq (row 1 7 x0) (outCt 7 x4) (vnN 7 x0 x1 x2 x3) (gc 7 x1) (state 7 x2) := by
  simp only [r_486, r_299, r_364, r_136, r_273, r_87, A_k7, A_S7, A_v226_7, A_v717_7, A_d7, A_c7]; rfl
theorem A_v1523_7 : r_485 c a1 h1 a2 h2 a3 h3 a4 h4 a5 h5 a8 x0 x1 x2 x3 x4 = dk0 (row 0 7 x0) (outCt 7 x4) (vnN 7 x0 x1 x2 x3) (dkN 7 x0 x1 x2 x3 z8) (twN 7 x0 x1 x2 x3 x4 z8) (bt 7 x1) (gc 7 x1) (gt 7 x1) := by
  simp only [r_485, r_364, r_386, r_111, r_136, r_338, r_87, A_q7, A_v226_7, A_v717_7, A_T7, A_v813_7, A_b7, A_v512_7, A_v663_7, A_c7]; rfl
theorem A_v1541_7 : r_501 c a1 h1 a2 h2 a3 h3 a4 h4 a5 h5 a8 x0 x1 x2 x3 x4 = db0 (row 1 7 x0) (row 2 7 x0) (tvN 7 x0 x1 x3 x4 z8) (twN 7 x0 x1 x2 x3 x4 z8) (gc 7 x1) := by
  simp only [r_501, r_430, r_385, r_136, r_87, A_v7, A_T7, A_v716_7, A_k7, A_v813_7, A_c7]; rfl
theorem A_v1581_7 : r_509 c a1 h1 a2 h2 a3 h3 a4 h4 a8 x0 x1 x2 x3 = dgt (row 1 7 x0) (dkN 7 x0 x1 x2 x3 z8) (gc 7 x1) (gt 7 x1) (state 7 x2) (carry 7 z8) := by
  simp only [r_509, r_340, r_242, r_236, r_240, r_103, A_k7, A_v512_7, A_v663_7, A_S7, A_D7, A_t7]; rfl
theorem A_v1621_7 : r_525 c a1 h1 a2 h2 a3 h3 a4 h4 a5 h5 a8 x0 x1 x2 x3 x4 = dgc0 (row 0 7 x0) (row 1 7 x0) (outCt 7 x4) (vnN 7 x0 x1 x2 x3) (dkN 7 x0 x1 x2 x3 z8) (twN 7 x0 x1 x2 x3 x4 z8) (bt 7 x1) (gc 7 x1) (gt 7 x1) (state 7 x2) := by
  simp only [r_525, r_468, r_518, r_136, r_339, r_384, r_476, r_87, r_186, r_298, r_363, r_111, r_273, A_k7, A_v512_7, A_v663_7, A_T7, A_v813_7, A_v226_7, A_c7, A_q7, A_S7, A_v214_7, A_v717_7, A_b7, A_d7]; rfl
theorem A_v1640_7 : r_556 c a1 h1 a2 h2 a3 h3 a4 h4 a5 h5 a8 x0 x1 x2 x3 x4 = neg (matmul dot_S64x64_S64x64_S64x64_1_0_0_1_n_n none (matmul dot_S64x64_S64x64_S64x64_1_0_0_1_n_n none (tr (inv 7 x3)) (dTN 7 x0 x1 x2 x4 z8) (zero S64x64)) (tr (inv 7 x3)) (zero S64x64)) := by
  simp only [r_556, r_540, r_548, A_T7, A_v1418_7]; rfl
theorem A_v1825_7 : r_609 c a1 h1 a2 h2 a3 h3 a4 h4 a5 h5 a8 x0 x1 x2 x3 x4 = dk1 (row 1 7 x0) (bt 7 x1) (gc 7 x1) (dMN 7 x0 x1 x2 x3 x4 z8) := by
  simp only [r_609, r_573, r_592, r_594, r_581, r_564, A_k7, A_b7, A_v1640_7, A_c7]; rfl
theorem A_v1897_7 : r_634 c a1 h1 a2 h2 a3 h3 a4 h4 a5 h5 a8 x0 x1 x2 x3 x4 = db1 (row 1 7 x0) (gc 7 x1) (dMN 7 x0 x1 x2 x3 x4 z8) := by
  simp only [r_634, r_608, r_594, r_581, r_564, A_k7, A_v1640_7, A_c7]; rfl
theorem A_v1913_7 : r_642 c a1 h1 a2 h2 a3 h3 a4 h4 a5 h5 a8 x0 x1 x2 x3 x4 = dgc1 (row 1 7 x0) (bt 7 x1) (gc 7 x1) (dMN 7 x0 x1 x2 x3 x4 z8) := by
  simp only [r_642, r_626, r_582, r_593, r_581, r_573, r_564, A_k7, A_v1640_7, A_b7, A_c7]; rfl
theorem A_v2018_7 : r_658 c a1 h1 a2 h2 a3 h3 a4 h4 a5 h5 a8 x0 x1 x2 x3 x4 = addf (db0 (row 1 7 x0) (row 2 7 x0) (tvN 7 x0 x1 x3 x4 z8) (twN 7 x0 x1 x2 x3 x4 z8) (gc 7 x1)) (db1 (row 1 7 x0) (gc 7 x1) (dMN 7 x0 x1 x2 x3 x4 z8)) := by
  simp only [r_658, A_v1541_7, A_v1897_7]; rfl
theorem A_v2026_7 : r_662 c a1 h1 a2 h2 a3 h3 a4 h4 a5 h5 a8 x0 x1 x2 x3 x4 = addf (dgc0 (row 0 7 x0) (row 1 7 x0) (outCt 7 x4) (vnN 7 x0 x1 x2 x3) (dkN 7 x0 x1 x2 x3 z8) (twN 7 x0 x1 x2 x3 x4 z8) (bt 7 x1) (gc 7 x1) (gt 7 x1) (state 7 x2)) (dgc1 (row 1 7 x0) (bt 7 x1) (gc 7 x1) (dMN 7 x0 x1 x2 x3 x4 z8)) := by
  simp only [r_662, A_v1621_7, A_v1913_7]; rfl

end Cert.KernelIdeal.Head

end
-- ==== Proof.OutA.lean ====
/-
  The blocks that a grid point 0 leaves (case A of the kernel's run) are the blocks of Block.lean.
-/
module

public import proofs.«01_k».proof.Proof.Block
public import proofs.«01_k».proof.Proof.RunA
public import proofs.«01_k».proof.Proof.Gen.KernelIdeal.Frame
public import Idealize.ShloMosaic.Lib.Pipeline.Value
public import Idealize.ShloMosaic.Lib.Pipeline.ReadBack

@[expose] public section

noncomputable section

namespace Cert.KernelIdeal.Head

open Idealize.ShloMosaic Idealize.SL Idealize.SL.Sem Cert.KernelIdeal Cert.KernelIdeal.Gen

variable {F : FTy → Type} [FloatOps F] [Named F]

theorem out5_A (c : Dev nD) (i : grid0.Coords) (a1 : Memref sig .tc .vmem S3x64x1024 .f32) (h1 : a1.IsWhole) (a2 : Memref sig .tc .vmem S64x128 .f32) (h2 : a2.IsWhole) (a3 : Memref sig .tc .vmem S1x8x128x128 .f32) (h3 : a3.IsWhole) (a4 : Memref sig .tc .vmem S1x8x64x64 .f32) (h4 : a4.IsWhole) (a5 : Memref sig .tc .vmem S64x1024 .f32) (h5 : a5.IsWhole) (a6 : Memref sig .tc .vmem S3x64x1024 .f32) (h6 : a6.IsWhole) (a7 : Memref sig .tc .vmem S64x128 .f32) (h7 : a7.IsWhole) (a8 : Memref sig .tc .vmem S8x128x128 .f32) (h8 : a8.IsWhole) (hc0 : cond0_0 i) (x0 : Vec F S3x64x1024 .f32) (x1 : Vec F S64x128 .f32) (x2 : Vec F S1x8x128x128 .f32) (x3 : Vec F S1x8x64x64 .f32) (x4 : Vec F S64x1024 .f32) :
    out0_A_5 c i a1 h1 a2 h2 a3 h3 a4 h4 a5 h5 a6 h6 a7 h7 a8 h8 hc0 x0 x1 x2 x3 x4 = blockRows x0 x1 x2 x3 x4 (zero S8x128x128) := by
  unfold out0_A_5
  rw [View.read_writes_junk_eq_canon]
  let R : Fin 3 → Fin 8 → FVec F S64x128 .f32 := fun part h => hRows h x0 x1 x2 x3 x4 (zero S8x128x128) part
  have H : View.PiecesOf (Val := Elt F) (blockRows x0 x1 x2 x3 x4 (zero S8x128x128)) (kernelRun0_A c i a1 h1 a2 h2 a3 h3 a4 h4 a5 h5 a6 h6 a7 h7 a8 h8 hc0 x0 x1 x2 x3 x4).1 := by
    unfold kernelRun0_A
    dsimp only
    exact ⟨(fun x => by simp only [k0_pay788, A_v1421_7]; exact piece R 2 7 x),
      (fun x => by simp only [k0_pay787, A_v1523_7, A_v1825_7]; exact piece R 1 7 x),
      (fun x => by simp only [k0_pay786, A_v1525_7]; exact piece R 0 7 x),
      (fun x => by simp only [k0_pay784, A_v1421_6]; exact piece R 2 6 x),
      (fun x => by simp only [k0_pay783, A_v1523_6, A_v1825_6]; exact piece R 1 6 x),
      (fun x => by simp only [k0_pay782, A_v1525_6]; exact piece R 0 6 x),
      (fun x => by simp only [k0_pay780, A_v1421_5]; exact piece R 2 5 x),
      (fun x => by simp only [k0_pay779, A_v1523_5, A_v1825_5]; exact piece R 1 5 x),
      (fun x => by simp only [k0_pay778, A_v1525_5]; exact piece R 0 5 x),
      (fun x => by simp only [k0_pay776, A_v1421_4]; exact piece R 2 4 x),
      (fun x => by simp only [k0_pay775, A_v1523_4, A_v1825_4]; exact piece R 1 4 x),
      (fun x => by simp only [k0_pay774, A_v1525_4]; exact piece R 0 4 x),
      (fun x => by simp only [k0_pay772, A_v1421_3]; exact piece R 2 3 x),
      (fun x => by simp only [k0_pay771, A_v1523_3, A_v1825_3]; exact piece R 1 3 x),
      (fun x => by simp only [k0_pay770, A_v1525_3]; exact piece R 0 3 x),
      (fun x => by simp only [k0_pay768, A_v1421_2]; exact piece R 2 2 x),
      (fun x => by simp only [k0_pay767, A_v1523_2, A_v1825_2]; exact piece R 1 2 x),
      (fun x => by simp only [k0_pay766, A_v1525_2]; exact piece R 0 2 x),
      (fun x => by simp only [k0_pay764, A_v1421_1]; exact piece R 2 1 x),
      (fun x => by simp only [k0_pay763, A_v1523_1, A_v1825_1]; exact piece R 1 1 x),
      (fun x => by simp only [k0_pay762, A_v1525_1]; exact piece R 0 1 x),
      (fun x => by simp only [k0_pay760, A_v1421_0]; exact piece R 2 0 x),
      (fun x => by simp only [k0_pay759, A_v1523_0, A_v1825_0]; exact piece R 1 0 x),
      (fun x => by simp only [k0_pay758, A_v1525_0]; exact piece R 0 0 x), trivial⟩
  funext y
  have := View.canon_append_of_pieces (blockRows x0 x1 x2 x3 x4 (zero S8x128x128)) [] _ H.mem y (cover0_A_5 c i a1 h1 a2 h2 a3 h3 a4 h4 a5 h5 a6 h6 a7 h7 a8 h8 hc0 x0 x1 x2 x3 x4 y)
  rwa [List.append_nil] at this

theorem carry_A (c : Dev nD) (i : grid0.Coords) (a1 : Memref sig .tc .vmem S3x64x1024 .f32) (h1 : a1.IsWhole) (a2 : Memref sig .tc .vmem S64x128 .f32) (h2 : a2.IsWhole) (a3 : Memref sig .tc .vmem S1x8x128x128 .f32) (h3 : a3.IsWhole) (a4 : Memref sig .tc .vmem S1x8x64x64 .f32) (h4 : a4.IsWhole) (a5 : Memref sig .tc .vmem S64x1024 .f32) (h5 : a5.IsWhole) (a6 : Memref sig .tc .vmem S3x64x1024 .f32) (h6 : a6.IsWhole) (a7 : Memref sig .tc .vmem S64x128 .f32) (h7 : a7.IsWhole) (a8 : Memref sig .tc .vmem S8x128x128 .f32) (h8 : a8.IsWhole) (hc0 : cond0_0 i) (x0 : Vec F S3x64x1024 .f32) (x1 : Vec F S64x128 .f32) (x2 : Vec F S1x8x128x128 .f32) (x3 : Vec F S1x8x64x64 .f32) (x4 : Vec F S64x1024 .f32) :
    sout0_A_0 c i a1 h1 a2 h2 a3 h3 a4 h4 a5 h5 a6 h6 a7 h7 a8 h8 hc0 x0 x1 x2 x3 x4 = blockCarry x0 x1 x3 x4 (zero S8x128x128) := by
  unfold sout0_A_0
  rw [View.read_writes_junk_eq_canon]
  let R : Fin 8 → FVec F S128x128 .f32 := fun h => hS h x0 x1 x3 x4 (zero S8x128x128)
  have H : ∃ L L', (kernelRun0_A c i a1 h1 a2 h2 a3 h3 a4 h4 a5 h5 a6 h6 a7 h7 a8 h8 hc0 x0 x1 x2 x3 x4).2.2.1 = L ++ L' ∧ View.PiecesOf (Val := Elt F) (blockCarry x0 x1 x3 x4 (zero S8x128x128)) L
      ∧ ∀ y : S8x128x128.Idx, ∃ p ∈ L, y ∈ p.1.set := by
    unfold kernelRun0_A
    dsimp only
    refine ⟨[_, _, _, _, _, _, _, _], [_], rfl, ?_, ?_⟩
    · exact ⟨(fun x => by simp only [k0_pay789, A_v812_7]; exact pieceS R 7 x),
      (fun x => by simp only [k0_pay785, A_v812_6]; exact pieceS R 6 x),
      (fun x => by simp only [k0_pay781, A_v812_5]; exact pieceS R 5 x),
      (fun x => by simp only [k0_pay777, A_v812_4]; exact pieceS R 4 x),
      (fun x => by simp only [k0_pay773, A_v812_3]; exact pieceS R 3 x),
      (fun x => by simp only [k0_pay769, A_v812_2]; exact pieceS R 2 x),
      (fun x => by simp only [k0_pay765, kernelRun0_A.sl.r_650, A_v812_1]; exact pieceS R 1 x),
      (fun x => by simp only [k0_pay761, A_v812_0]; exact pieceS R 0 x), trivial⟩
    · exact fun y => cover8 _ _ _ _ _ _ _ _ y
  obtain ⟨L, L', e, h, hc⟩ := H
  rw [e]
  funext y
  exact View.canon_append_of_piecesOf (blockCarry x0 x1 x3 x4 (zero S8x128x128)) L' L h y (hc y)

theorem out6_A (c : Dev nD) (i : grid0.Coords) (a1 : Memref sig .tc .vmem S3x64x1024 .f32) (h1 : a1.IsWhole) (a2 : Memref sig .tc .vmem S64x128 .f32) (h2 : a2.IsWhole) (a3 : Memref sig .tc .vmem S1x8x128x128 .f32) (h3 : a3.IsWhole) (a4 : Memref sig .tc .vmem S1x8x64x64 .f32) (h4 : a4.IsWhole) (a5 : Memref sig .tc .vmem S64x1024 .f32) (h5 : a5.IsWhole) (a6 : Memref sig .tc .vmem S3x64x1024 .f32) (h6 : a6.IsWhole) (a7 : Memref sig .tc .vmem S64x128 .f32) (h7 : a7.IsWhole) (a8 : Memref sig .tc .vmem S8x128x128 .f32) (h8 : a8.IsWhole) (hc0 : cond0_0 i) (x0 : Vec F S3x64x1024 .f32) (x1 : Vec F S64x128 .f32) (x2 : Vec F S1x8x128x128 .f32) (x3 : Vec F S1x8x64x64 .f32) (x4 : Vec F S64x1024 .f32) :
    out0_A_6 c i a1 h1 a2 h2 a3 h3 a4 h4 a5 h5 a6 h6 a7 h7 a8 h8 hc0 x0 x1 x2 x3 x4 = blockGates x0 x1 x2 x3 x4 (zero S8x128x128) := by
  unfold out0_A_6
  rw [View.read_writes_junk_eq_canon]
  unfold kernelRun0_A
  dsimp only
  rw [View.canon_cons_unit_zero hz2A]
  simp only [kernelRun0_A.sl.r_663, kernelRun0_A.sl.r_664, kernelRun0_A.sl.r_665, kernelRun0_A.sl.r_666, kernelRun0_A.sl.r_667, kernelRun0_A.sl.r_668, kernelRun0_A.sl.v2034, A_v2018_0, A_v2018_1, A_v2018_2, A_v2018_3, A_v2018_4, A_v2018_5, A_v2018_6, A_v2018_7, A_v2026_4, A_v2026_5, A_v2026_6, A_v2026_7, A_v1621_0, A_v1621_1, A_v1621_2, A_v1621_3, A_v1913_0, A_v1913_1, A_v1913_2, A_v1913_3, A_v1581_0, A_v1581_1, A_v1581_2, A_v1581_3, A_v1581_4, A_v1581_5, A_v1581_6, A_v1581_7]
  rfl

end Cert.KernelIdeal.Head

end
-- ==== Proof.RunB.lean ====
/-
  The values the kernel's run names at a grid point after the first, head by head: each is the head's function
  (Head.lean) of the point's blocks. A name's own operations are compared with the function's by unfolding, one value at a
  time, so no comparison goes deeper than a few operations.
-/
module

public import proofs.«01_k».proof.Proof.Head
public import proofs.«01_k».proof.Proof.Gen.KernelIdeal.Frame.RunB
public import Idealize.ShloMosaic.Lib.Pipeline.Value

@[expose] public section

noncomputable section

namespace Cert.KernelIdeal.Head

open Idealize.ShloMosaic Idealize.SL Idealize.SL.Sem Cert.KernelIdeal Cert.KernelIdeal.Gen Cert.KernelIdeal.Gen.kernelRun0_B.sl

variable {F : FTy → Type} [FloatOps F] [Named F]
variable (c : Dev nD) (a1 : Memref sig .tc .vmem S3x64x1024 .f32) (h1 : a1.IsWhole) (a2 : Memref sig .tc .vmem S64x128 .f32) (h2 : a2.IsWhole) (a3 : Memref sig .tc .vmem S1x8x128x128 .f32) (h3 : a3.IsWhole) (a4 : Memref sig .tc .vmem S1x8x64x64 .f32) (h4 : a4.IsWhole) (a5 : Memref sig .tc .vmem S64x1024 .f32) (h5 : a5.IsWhole) (a8 : Memref sig .tc .vmem S8x128x128 .f32) (h8 : a8.IsWhole)
  (x0 : Vec F S3x64x1024 .f32) (x1 : Vec F S64x128 .f32) (x2 : Vec F S1x8x128x128 .f32) (x3 : Vec F S1x8x64x64 .f32) (x4 : Vec F S64x1024 .f32) (xs0 : Vec F S8x128x128 .f32)

theorem hz2B : (![0, 0] : Fin 2 → ℕ) = fun _ => 0 := by funext a; fin_cases a <;> rfl

theorem B_q0 : r c a1 h1 x0 = (row 0 0 x0) := by
  simp only [r, View.readAt_eq_ld, h1.read_unread]; rfl
theorem B_k0 : r_8 c a1 h1 x0 = (row 1 0 x0) := by
  simp only [r_8, View.readAt_eq_ld, h1.read_unread]; rfl
theorem B_v0 : r_16 c a1 h1 x0 = (row 2 0 x0) := by
  simp only [r_16, View.readAt_eq_ld, h1.read_unread]; rfl
theorem B_c0 : r_24 c a2 h2 x1 = (gc 0 x1) := by
  simp only [r_24, View.readAt_eq_ld, h2.read_unread, View.ld_unit_zero (S := S64x128) hz2B]; rfl
theorem B_t0 : r_32 c a2 h2 x1 = (gt 0 x1) := by
  simp only [r_32, View.readAt_eq_ld, h2.read_unread, View.ld_unit_zero (S := S64x128) hz2B]; rfl
theorem B_b0 : r_40 c a2 h2 x1 = (bt 0 x1) := by
  simp only [r_40, View.readAt_eq_ld, h2.read_unread, View.ld_unit_zero (S := S64x128) hz2B]; rfl
theorem B_S0 : r_48 c a3 h3 x2 = (state 0 x2) := by
  simp only [r_48, View.readAt_eq_ld, h3.read_unread]; rfl
theorem B_T0 : r_56 c a4 h4 x3 = (inv 0 x3) := by
  simp only [r_56, View.readAt_eq_ld, h4.read_unread]; rfl
theorem B_d0 : r_64 c a5 h5 x4 = (outCt 0 x4) := by
  simp only [r_64, View.readAt_eq_ld, h5.read_unread]; rfl
theorem B_D0 : r_72 (F := F) c a8 h8 xs0 = (carry 0 xs0) := by
  simp only [r_72, View.readAt_eq_ld, h8.read_unread]; rfl
theorem B_q1 : r_1 c a1 h1 x0 = (row 0 1 x0) := by
  simp only [r_1, View.readAt_eq_ld, h1.read_unread]; rfl
theorem B_k1 : r_9 c a1 h1 x0 = (row 1 1 x0) := by
  simp only [r_9, View.readAt_eq_ld, h1.read_unread]; rfl
theorem B_v1 : r_17 c a1 h1 x0 = (row 2 1 x0) := by
  simp only [r_17, View.readAt_eq_ld, h1.read_unread]; rfl
theorem B_c1 : r_25 c a2 h2 x1 = (gc 1 x1) := by
  simp only [r_25, View.readAt_eq_ld, h2.read_unread, View.ld_unit_zero (S := S64x128) hz2B]; rfl
theorem B_t1 : r_33 c a2 h2 x1 = (gt 1 x1) := by
  simp only [r_33, View.readAt_eq_ld, h2.read_unread, View.ld_unit_zero (S := S64x128) hz2B]; rfl
theorem B_b1 : r_41 c a2 h2 x1 = (bt 1 x1) := by
  simp only [r_41, View.readAt_eq_ld, h2.read_unread, View.ld_unit_zero (S := S64x128) hz2B]; rfl
theorem B_S1 : r_49 c a3 h3 x2 = (state 1 x2) := by
  simp only [r_49, View.readAt_eq_ld, h3.read_unread]; rfl
theorem B_T1 : r_57 c a4 h4 x3 = (inv 1 x3) := by
  simp only [r_57, View.readAt_eq_ld, h4.read_unread]; rfl
theorem B_d1 : r_65 c a5 h5 x4 = (outCt 1 x4) := by
  simp only [r_65, View.readAt_eq_ld, h5.read_unread]; rfl
theorem B_D1 : r_73 (F := F) c a8 h8 xs0 = (carry 1 xs0) := by
  simp only [r_73, View.readAt_eq_ld, h8.read_unread]; rfl
theorem B_q2 : r_2 c a1 h1 x0 = (row 0 2 x0) := by
  simp only [r_2, View.readAt_eq_ld, h1.read_unread]; rfl
theorem B_k2 : r_10 c a1 h1 x0 = (row 1 2 x0) := by
  simp only [r_10, View.readAt_eq_ld, h1.read_unread]; rfl
theorem B_v2 : r_18 c a1 h1 x0 = (row 2 2 x0) := by
  simp only [r_18, View.readAt_eq_ld, h1.read_unread]; rfl
theorem B_c2 : r_26 c a2 h2 x1 = (gc 2 x1) := by
  simp only [r_26, View.readAt_eq_ld, h2.read_unread, View.ld_unit_zero (S := S64x128) hz2B]; rfl
theorem B_t2 : r_34 c a2 h2 x1 = (gt 2 x1) := by
  simp only [r_34, View.readAt_eq_ld, h2.read_unread, View.ld_unit_zero (S := S64x128) hz2B]; rfl
theorem B_b2 : r_42 c a2 h2 x1 = (bt 2 x1) := by
  simp only [r_42, View.readAt_eq_ld, h2.read_unread, View.ld_unit_zero (S := S64x128) hz2B]; rfl
theorem B_S2 : r_50 c a3 h3 x2 = (state 2 x2) := by
  simp only [r_50, View.readAt_eq_ld, h3.read_unread]; rfl
theorem B_T2 : r_58 c a4 h4 x3 = (inv 2 x3) := by
  simp only [r_58, View.readAt_eq_ld, h4.read_unread]; rfl
theorem B_d2 : r_66 c a5 h5 x4 = (outCt 2 x4) := by
  simp only [r_66, View.readAt_eq_ld, h5.read_unread]; rfl
theorem B_D2 : r_74 (F := F) c a8 h8 xs0 = (carry 2 xs0) := by
  simp only [r_74, View.readAt_eq_ld, h8.read_unread]; rfl
theorem B_q3 : r_3 c a1 h1 x0 = (row 0 3 x0) := by
  simp only [r_3, View.readAt_eq_ld, h1.read_unread]; rfl
theorem B_k3 : r_11 c a1 h1 x0 = (row 1 3 x0) := by
  simp only [r_11, View.readAt_eq_ld, h1.read_unread]; rfl
theorem B_v3 : r_19 c a1 h1 x0 = (row 2 3 x0) := by
  simp only [r_19, View.readAt_eq_ld, h1.read_unread]; rfl
theorem B_c3 : r_27 c a2 h2 x1 = (gc 3 x1) := by
  simp only [r_27, View.readAt_eq_ld, h2.read_unread, View.ld_unit_zero (S := S64x128) hz2B]; rfl
theorem B_t3 : r_35 c a2 h2 x1 = (gt 3 x1) := by
  simp only [r_35, View.readAt_eq_ld, h2.read_unread, View.ld_unit_zero (S := S64x128) hz2B]; rfl
theorem B_b3 : r_43 c a2 h2 x1 = (bt 3 x1) := by
  simp only [r_43, View.readAt_eq_ld, h2.read_unread, View.ld_unit_zero (S := S64x128) hz2B]; rfl
theorem B_S3 : r_51 c a3 h3 x2 = (state 3 x2) := by
  simp only [r_51, View.readAt_eq_ld, h3.read_unread]; rfl
theorem B_T3 : r_59 c a4 h4 x3 = (inv 3 x3) := by
  simp only [r_59, View.readAt_eq_ld, h4.read_unread]; rfl
theorem B_d3 : r_67 c a5 h5 x4 = (outCt 3 x4) := by
  simp only [r_67, View.readAt_eq_ld, h5.read_unread]; rfl
theorem B_D3 : r_75 (F := F) c a8 h8 xs0 = (carry 3 xs0) := by
  simp only [r_75, View.readAt_eq_ld, h8.read_unread]; rfl
theorem B_q4 : r_4 c a1 h1 x0 = (row 0 4 x0) := by
  simp only [r_4, View.readAt_eq_ld, h1.read_unread]; rfl
theorem B_k4 : r_12 c a1 h1 x0 = (row 1 4 x0) := by
  simp only [r_12, View.readAt_eq_ld, h1.read_unread]; rfl
theorem B_v4 : r_20 c a1 h1 x0 = (row 2 4 x0) := by
  simp only [r_20, View.readAt_eq_ld, h1.read_unread]; rfl
theorem B_c4 : r_28 c a2 h2 x1 = (gc 4 x1) := by
  simp only [r_28, View.readAt_eq_ld, h2.read_unread, View.ld_unit_zero (S := S64x128) hz2B]; rfl
theorem B_t4 : r_36 c a2 h2 x1 = (gt 4 x1) := by
  simp only [r_36, View.readAt_eq_ld, h2.read_unread, View.ld_unit_zero (S := S64x128) hz2B]; rfl
theorem B_b4 : r_44 c a2 h2 x1 = (bt 4 x1) := by
  simp only [r_44, View.readAt_eq_ld, h2.read_unread, View.ld_unit_zero (S := S64x128) hz2B]; rfl
theorem B_S4 : r_52 c a3 h3 x2 = (state 4 x2) := by
  simp only [r_52, View.readAt_eq_ld, h3.read_unread]; rfl
theorem B_T4 : r_60 c a4 h4 x3 = (inv 4 x3) := by
  simp only [r_60, View.readAt_eq_ld, h4.read_unread]; rfl
theorem B_d4 : r_68 c a5 h5 x4 = (outCt 4 x4) := by
  simp only [r_68, View.readAt_eq_ld, h5.read_unread]; rfl
theorem B_D4 : r_76 (F := F) c a8 h8 xs0 = (carry 4 xs0) := by
  simp only [r_76, View.readAt_eq_ld, h8.read_unread]; rfl
theorem B_q5 : r_5 c a1 h1 x0 = (row 0 5 x0) := by
  simp only [r_5, View.readAt_eq_ld, h1.read_unread]; rfl
theorem B_k5 : r_13 c a1 h1 x0 = (row 1 5 x0) := by
  simp only [r_13, View.readAt_eq_ld, h1.read_unread]; rfl
theorem B_v5 : r_21 c a1 h1 x0 = (row 2 5 x0) := by
  simp only [r_21, View.readAt_eq_ld, h1.read_unread]; rfl
theorem B_c5 : r_29 c a2 h2 x1 = (gc 5 x1) := by
  simp only [r_29, View.readAt_eq_ld, h2.read_unread, View.ld_unit_zero (S := S64x128) hz2B]; rfl
theorem B_t5 : r_37 c a2 h2 x1 = (gt 5 x1) := by
  simp only [r_37, View.readAt_eq_ld, h2.read_unread, View.ld_unit_zero (S := S64x128) hz2B]; rfl
theorem B_b5 : r_45 c a2 h2 x1 = (bt 5 x1) := by
  simp only [r_45, View.readAt_eq_ld, h2.read_unread, View.ld_unit_zero (S := S64x128) hz2B]; rfl
theorem B_S5 : r_53 c a3 h3 x2 = (state 5 x2) := by
  simp only [r_53, View.readAt_eq_ld, h3.read_unread]; rfl
theorem B_T5 : r_61 c a4 h4 x3 = (inv 5 x3) := by
  simp only [r_61, View.readAt_eq_ld, h4.read_unread]; rfl
theorem B_d5 : r_69 c a5 h5 x4 = (outCt 5 x4) := by
  simp only [r_69, View.readAt_eq_ld, h5.read_unread]; rfl
theorem B_D5 : r_77 (F := F) c a8 h8 xs0 = (carry 5 xs0) := by
  simp only [r_77, View.readAt_eq_ld, h8.read_unread]; rfl
theorem B_q6 : r_6 c a1 h1 x0 = (row 0 6 x0) := by
  simp only [r_6, View.readAt_eq_ld, h1.read_unread]; rfl
theorem B_k6 : r_14 c a1 h1 x0 = (row 1 6 x0) := by
  simp only [r_14, View.readAt_eq_ld, h1.read_unread]; rfl
theorem B_v6 : r_22 c a1 h1 x0 = (row 2 6 x0) := by
  simp only [r_22, View.readAt_eq_ld, h1.read_unread]; rfl
theorem B_c6 : r_30 c a2 h2 x1 = (gc 6 x1) := by
  simp only [r_30, View.readAt_eq_ld, h2.read_unread, View.ld_unit_zero (S := S64x128) hz2B]; rfl
theorem B_t6 : r_38 c a2 h2 x1 = (gt 6 x1) := by
  simp only [r_38, View.readAt_eq_ld, h2.read_unread, View.ld_unit_zero (S := S64x128) hz2B]; rfl
theorem B_b6 : r_46 c a2 h2 x1 = (bt 6 x1) := by
  simp only [r_46, View.readAt_eq_ld, h2.read_unread, View.ld_unit_zero (S := S64x128) hz2B]; rfl
theorem B_S6 : r_54 c a3 h3 x2 = (state 6 x2) := by
  simp only [r_54, View.readAt_eq_ld, h3.read_unread]; rfl
theorem B_T6 : r_62 c a4 h4 x3 = (inv 6 x3) := by
  simp only [r_62, View.readAt_eq_ld, h4.read_unread]; rfl
theorem B_d6 : r_70 c a5 h5 x4 = (outCt 6 x4) := by
  simp only [r_70, View.readAt_eq_ld, h5.read_unread]; rfl
theorem B_D6 : r_78 (F := F) c a8 h8 xs0 = (carry 6 xs0) := by
  simp only [r_78, View.readAt_eq_ld, h8.read_unread]; rfl
theorem B_q7 : r_7 c a1 h1 x0 = (row 0 7 x0) := by
  simp only [r_7, View.readAt_eq_ld, h1.read_unread]; rfl
theorem B_k7 : r_15 c a1 h1 x0 = (row 1 7 x0) := by
  simp only [r_15, View.readAt_eq_ld, h1.read_unread]; rfl
theorem B_v7 : r_23 c a1 h1 x0 = (row 2 7 x0) := by
  simp only [r_23, View.readAt_eq_ld, h1.read_unread]; rfl
theorem B_c7 : r_31 c a2 h2 x1 = (gc 7 x1) := by
  simp only [r_31, View.readAt_eq_ld, h2.read_unread, View.ld_unit_zero (S := S64x128) hz2B]; rfl
theorem B_t7 : r_39 c a2 h2 x1 = (gt 7 x1) := by
  simp only [r_39, View.readAt_eq_ld, h2.read_unread, View.ld_unit_zero (S := S64x128) hz2B]; rfl
theorem B_b7 : r_47 c a2 h2 x1 = (bt 7 x1) := by
  simp only [r_47, View.readAt_eq_ld, h2.read_unread, View.ld_unit_zero (S := S64x128) hz2B]; rfl
theorem B_S7 : r_55 c a3 h3 x2 = (state 7 x2) := by
  simp only [r_55, View.readAt_eq_ld, h3.read_unread]; rfl
theorem B_T7 : r_63 c a4 h4 x3 = (inv 7 x3) := by
  simp only [r_63, View.readAt_eq_ld, h4.read_unread]; rfl
theorem B_d7 : r_71 c a5 h5 x4 = (outCt 7 x4) := by
  simp only [r_71, View.readAt_eq_ld, h5.read_unread]; rfl
theorem B_D7 : r_79 (F := F) c a8 h8 xs0 = (carry 7 xs0) := by
  simp only [r_79, View.readAt_eq_ld, h8.read_unread]; rfl
theorem B_v214_0 : r_112 c a1 h1 x0 = qk (row 0 0 x0) (row 1 0 x0) := by
  simp only [r_112, B_q0, B_k0]; rfl
theorem B_v226_0 : r_121 c a2 h2 x1 = decay (gc 0 x1) := by
  simp only [r_121, r_120, r_88, B_c0]; rfl
theorem B_v283_0 : r_142 c a1 h1 a2 h2 a4 h4 x0 x1 x3 = u (inv 0 x3) (row 2 0 x0) (bt 0 x1) := by
  simp only [r_142, r_138, r_139, r_140, r_141, r_104, B_T0, B_v0, B_b0]; rfl
theorem B_v383_0 : r_162 c a1 h1 a2 h2 x0 x1 = kbe (row 1 0 x0) (bt 0 x1) (gc 0 x1) := by
  simp only [r_162, r_104, r_129, r_80, B_k0, B_b0, B_c0]; rfl
theorem B_v396_0 : r_163 c a1 h1 a2 h2 a4 h4 x0 x1 x3 = w (inv 0 x3) (row 1 0 x0) (bt 0 x1) (gc 0 x1) := by
  simp only [r_163, r_104, r_129, r_80, B_k0, B_T0, B_b0, B_c0]; rfl
theorem B_v512_0 : r_197 c a2 h2 x1 = erest (gc 0 x1) (gt 0 x1) := by
  simp only [r_197, r_80, r_96, B_c0, B_t0]; rfl
theorem B_v543_0 : r_213 c a1 h1 a2 h2 a3 h3 a4 h4 x0 x1 x2 x3 = vnew (u (inv 0 x3) (row 2 0 x0) (bt 0 x1)) (w (inv 0 x3) (row 1 0 x0) (bt 0 x1) (gc 0 x1)) (state 0 x2) := by
  simp only [r_213, B_S0, B_v283_0, B_v396_0]; rfl
theorem B_v663_0 : r_270 c a1 h1 a2 h2 a3 h3 a4 h4 a8 h8 x0 x1 x2 x3 xs0 = dkd (carry 0 xs0) (vnN 0 x0 x1 x2 x3) := by
  simp only [r_270, B_D0, B_v543_0]; rfl
theorem B_v716_0 : r_295 c a1 h1 a2 h2 a5 h5 a8 h8 x0 x1 x4 xs0 = dvn (row 0 0 x0) (row 1 0 x0) (outCt 0 x4) (gc 0 x1) (gt 0 x1) (carry 0 xs0) := by
  simp only [r_295, r_189, r_269, r_198, r_80, r_96, B_d0, B_v214_0, B_v226_0, B_D0, B_k0, B_c0, B_t0]; rfl
theorem B_v717_0 : r_296 c a1 h1 a2 h2 a3 h3 a4 h4 a5 h5 x0 x1 x2 x3 x4 = dqk (outCt 0 x4) (vnN 0 x0 x1 x2 x3) := by
  simp only [r_296, B_d0, B_v543_0]; rfl
theorem B_v812_0 : r_336 c a1 h1 a2 h2 a4 h4 a5 h5 a8 h8 x0 x1 x3 x4 xs0 = dS (row 0 0 x0) (outCt 0 x4) (w (inv 0 x3) (row 1 0 x0) (bt 0 x1) (gc 0 x1)) (dvN 0 x0 x1 x4 xs0) (gc 0 x1) (gt 0 x1) (carry 0 xs0) := by
  simp only [r_336, r_318, r_221, r_271, r_294, r_129, r_229, r_80, r_96, B_v396_0, B_v716_0, B_q0, B_D0, B_d0, B_c0, B_t0]; rfl
theorem B_v813_0 : r_337 c a1 h1 a2 h2 a3 h3 a5 h5 a8 h8 x0 x1 x2 x4 xs0 = dw (dvN 0 x0 x1 x4 xs0) (state 0 x2) := by
  simp only [r_337, B_S0, B_v716_0]; rfl
theorem B_v1418_0 : r_465 c a1 h1 a2 h2 a3 h3 a5 h5 a8 h8 x0 x1 x2 x4 xs0 = dT (row 1 0 x0) (row 2 0 x0) (dvN 0 x0 x1 x4 xs0) (dwN 0 x0 x1 x2 x4 xs0) (bt 0 x1) (gc 0 x1) := by
  simp only [r_465, r_423, r_460, r_137, r_104, B_v383_0, B_v813_0, B_v716_0, B_v0, B_b0]; rfl
theorem B_v1421_0 : r_467 c a1 h1 a2 h2 a4 h4 a5 h5 a8 h8 x0 x1 x3 x4 xs0 = dv (tvN 0 x0 x1 x3 x4 xs0) (bt 0 x1) := by
  simp only [r_467, r_104, r_461, r_462, r_463, r_464, B_b0, B_T0, B_v716_0]; rfl
theorem B_v1525_0 : r_500 c a1 h1 a2 h2 a3 h3 a4 h4 a5 h5 x0 x1 x2 x3 x4 = dq (row 1 0 x0) (outCt 0 x4) (vnN 0 x0 x1 x2 x3) (gc 0 x1) (state 0 x2) := by
  simp only [r_500, r_320, r_378, r_129, r_294, r_80, B_k0, B_S0, B_v226_0, B_v717_0, B_d0, B_c0]; rfl
theorem B_v1523_0 : r_499 c a1 h1 a2 h2 a3 h3 a4 h4 a5 h5 a8 h8 x0 x1 x2 x3 x4 xs0 = dk0 (row 0 0 x0) (outCt 0 x4) (vnN 0 x0 x1 x2 x3) (dkN 0 x0 x1 x2 x3 xs0) (twN 0 x0 x1 x2 x3 x4 xs0) (bt 0 x1) (gc 0 x1) (gt 0 x1) := by
  simp only [r_499, r_378, r_428, r_104, r_129, r_360, r_424, r_425, r_80, B_q0, B_v226_0, B_v717_0, B_b0, B_v512_0, B_v663_0, B_T0, B_v813_0, B_c0]; rfl
theorem B_v1541_0 : r_508 c a1 h1 a2 h2 a3 h3 a4 h4 a5 h5 a8 h8 x0 x1 x2 x3 x4 xs0 = db0 (row 1 0 x0) (row 2 0 x0) (tvN 0 x0 x1 x3 x4 xs0) (twN 0 x0 x1 x2 x3 x4 xs0) (gc 0 x1) := by
  simp only [r_508, r_466, r_427, r_461, r_462, r_463, r_464, r_129, r_424, r_425, r_80, B_v0, B_k0, B_T0, B_v716_0, B_v813_0, B_c0]; rfl
theorem B_v1581_0 : r_517 c a1 h1 a2 h2 a3 h3 a4 h4 a8 h8 x0 x1 x2 x3 xs0 = dgt (row 1 0 x0) (dkN 0 x0 x1 x2 x3 xs0) (gc 0 x1) (gt 0 x1) (state 0 x2) (carry 0 xs0) := by
  simp only [r_517, r_362, r_272, r_229, r_96, B_k0, B_v512_0, B_v663_0, B_S0, B_D0, B_t0]; rfl
theorem B_v1621_0 : r_532 c a1 h1 a2 h2 a3 h3 a4 h4 a5 h5 a8 h8 x0 x1 x2 x3 x4 xs0 = dgc0 (row 0 0 x0) (row 1 0 x0) (outCt 0 x4) (vnN 0 x0 x1 x2 x3) (dkN 0 x0 x1 x2 x3 xs0) (twN 0 x0 x1 x2 x3 x4 xs0) (bt 0 x1) (gc 0 x1) (gt 0 x1) (state 0 x2) := by
  simp only [r_532, r_475, r_484, r_129, r_361, r_426, r_377, r_80, r_161, r_319, r_424, r_425, r_104, r_294, B_v226_0, B_k0, B_v512_0, B_v663_0, B_v214_0, B_v717_0, B_c0, B_q0, B_S0, B_T0, B_v813_0, B_b0, B_d0]; rfl
theorem B_v1640_0 : r_549 c a1 h1 a2 h2 a3 h3 a4 h4 a5 h5 a8 h8 x0 x1 x2 x3 x4 xs0 = neg (matmul dot_S64x64_S64x64_S64x64_1_0_0_1_n_n none (matmul dot_S64x64_S64x64_S64x64_1_0_0_1_n_n none (tr (inv 0 x3)) (dTN 0 x0 x1 x2 x4 xs0) (zero S64x64)) (tr (inv 0 x3)) (zero S64x64)) := by
  simp only [r_549, r_533, r_541, B_T0, B_v1418_0]; rfl
theorem B_v1822_0 : r_623 c a1 h1 a2 h2 a3 h3 a4 h4 a5 h5 a8 h8 x0 x1 x2 x3 x4 xs0 = dMk (row 1 0 x0) (gc 0 x1) (dMN 0 x0 x1 x2 x3 x4 xs0) := by
  simp only [r_623, r_574, r_557, B_k0, B_v1640_0, B_c0]; rfl
theorem B_v1825_0 : r_625 c a1 h1 a2 h2 a3 h3 a4 h4 a5 h5 a8 h8 x0 x1 x2 x3 x4 xs0 = dk1 (row 1 0 x0) (bt 0 x1) (gc 0 x1) (dMN 0 x0 x1 x2 x3 x4 xs0) := by
  simp only [r_625, r_565, r_622, r_574, r_583, r_557, B_v1822_0, B_b0, B_v1640_0, B_k0, B_c0]; rfl
theorem B_v1897_0 : r_641 c a1 h1 a2 h2 a3 h3 a4 h4 a5 h5 a8 h8 x0 x1 x2 x3 x4 xs0 = db1 (row 1 0 x0) (gc 0 x1) (dMN 0 x0 x1 x2 x3 x4 xs0) := by
  simp only [r_641, r_624, B_k0, B_v1822_0]; rfl
theorem B_v1913_0 : r_649 c a1 h1 a2 h2 a3 h3 a4 h4 a5 h5 a8 h8 x0 x1 x2 x3 x4 xs0 = dgc1 (row 1 0 x0) (bt 0 x1) (gc 0 x1) (dMN 0 x0 x1 x2 x3 x4 xs0) := by
  simp only [r_649, r_633, r_574, r_607, r_557, r_584, r_565, B_v1640_0, B_c0, B_k0, B_b0]; rfl
theorem B_v2018_0 : r_651 c a1 h1 a2 h2 a3 h3 a4 h4 a5 h5 a8 h8 x0 x1 x2 x3 x4 xs0 = addf (db0 (row 1 0 x0) (row 2 0 x0) (tvN 0 x0 x1 x3 x4 xs0) (twN 0 x0 x1 x2 x3 x4 xs0) (gc 0 x1)) (db1 (row 1 0 x0) (gc 0 x1) (dMN 0 x0 x1 x2 x3 x4 xs0)) := by
  simp only [r_651, B_v1541_0, B_v1897_0]; rfl
theorem B_v214_1 : r_113 c a1 h1 x0 = qk (row 0 1 x0) (row 1 1 x0) := by
  simp only [r_113, B_q1, B_k1]; rfl
theorem B_v226_1 : r_122 c a2 h2 x1 = decay (gc 1 x1) := by
  simp only [r_122, r_89, B_c1]; rfl
theorem B_v283_1 : r_144 c a1 h1 a2 h2 a4 h4 x0 x1 x3 = u (inv 1 x3) (row 2 1 x0) (bt 1 x1) := by
  simp only [r_144, r_105, B_v1, B_T1, B_b1]; rfl
theorem B_v383_1 : r_165 c a1 h1 a2 h2 x0 x1 = kbe (row 1 1 x0) (bt 1 x1) (gc 1 x1) := by
  simp only [r_165, r_105, r_130, r_81, B_k1, B_b1, B_c1]; rfl
theorem B_v396_1 : r_166 c a1 h1 a2 h2 a4 h4 x0 x1 x3 = w (inv 1 x3) (row 1 1 x0) (bt 1 x1) (gc 1 x1) := by
  simp only [r_166, r_105, r_130, r_81, B_k1, B_T1, B_b1, B_c1]; rfl
theorem B_v512_1 : r_199 c a2 h2 x1 = erest (gc 1 x1) (gt 1 x1) := by
  simp only [r_199, r_81, r_97, B_c1, B_t1]; rfl
theorem B_v543_1 : r_214 c a1 h1 a2 h2 a3 h3 a4 h4 x0 x1 x2 x3 = vnew (u (inv 1 x3) (row 2 1 x0) (bt 1 x1)) (w (inv 1 x3) (row 1 1 x0) (bt 1 x1) (gc 1 x1)) (state 1 x2) := by
  simp only [r_214, B_S1, B_v283_1, B_v396_1]; rfl
theorem B_v663_1 : r_266 c a1 h1 a2 h2 a3 h3 a4 h4 a8 h8 x0 x1 x2 x3 xs0 = dkd (carry 1 xs0) (vnN 1 x0 x1 x2 x3) := by
  simp only [r_266, B_D1, B_v543_1]; rfl
theorem B_v716_1 : r_292 c a1 h1 a2 h2 a5 h5 a8 h8 x0 x1 x4 xs0 = dvn (row 0 1 x0) (row 1 1 x0) (outCt 1 x4) (gc 1 x1) (gt 1 x1) (carry 1 xs0) := by
  simp only [r_292, r_190, r_265, r_200, r_81, r_97, B_d1, B_v214_1, B_v226_1, B_D1, B_k1, B_c1, B_t1]; rfl
theorem B_v717_1 : r_293 c a1 h1 a2 h2 a3 h3 a4 h4 a5 h5 x0 x1 x2 x3 x4 = dqk (outCt 1 x4) (vnN 1 x0 x1 x2 x3) := by
  simp only [r_293, B_d1, B_v543_1]; rfl
theorem B_v812_1 : r_334 c a1 h1 a2 h2 a4 h4 a5 h5 a8 h8 x0 x1 x3 x4 xs0 = dS (row 0 1 x0) (outCt 1 x4) (w (inv 1 x3) (row 1 1 x0) (bt 1 x1) (gc 1 x1)) (dvN 1 x0 x1 x4 xs0) (gc 1 x1) (gt 1 x1) (carry 1 xs0) := by
  simp only [r_334, r_315, r_222, r_267, r_291, r_130, r_230, r_81, r_97, B_v396_1, B_v716_1, B_q1, B_D1, B_d1, B_c1, B_t1]; rfl
theorem B_v813_1 : r_335 c a1 h1 a2 h2 a3 h3 a5 h5 a8 h8 x0 x1 x2 x4 xs0 = dw (dvN 1 x0 x1 x4 xs0) (state 1 x2) := by
  simp only [r_335, r_333, B_S1, B_v716_1]; rfl
theorem B_v1418_1 : r_457 c a1 h1 a2 h2 a3 h3 a5 h5 a8 h8 x0 x1 x2 x4 xs0 = dT (row 1 1 x0) (row 2 1 x0) (dvN 1 x0 x1 x4 xs0) (dwN 1 x0 x1 x2 x4 xs0) (bt 1 x1) (gc 1 x1) := by
  simp only [r_457, r_419, r_454, r_455, r_456, r_415, r_416, r_417, r_418, r_143, r_105, B_v716_1, B_v813_1, B_v383_1, B_v1, B_b1]; rfl
theorem B_v1421_1 : r_459 c a1 h1 a2 h2 a4 h4 a5 h5 a8 h8 x0 x1 x3 x4 xs0 = dv (tvN 1 x0 x1 x3 x4 xs0) (bt 1 x1) := by
  simp only [r_459, r_105, B_T1, B_v716_1, B_b1]; rfl
theorem B_v1525_1 : r_498 c a1 h1 a2 h2 a3 h3 a4 h4 a5 h5 x0 x1 x2 x3 x4 = dq (row 1 1 x0) (outCt 1 x4) (vnN 1 x0 x1 x2 x3) (gc 1 x1) (state 1 x2) := by
  simp only [r_498, r_317, r_376, r_130, r_291, r_81, B_k1, B_S1, B_v226_1, B_v717_1, B_d1, B_c1]; rfl
theorem B_v1523_1 : r_497 c a1 h1 a2 h2 a3 h3 a4 h4 a5 h5 a8 h8 x0 x1 x2 x3 x4 xs0 = dk0 (row 0 1 x0) (outCt 1 x4) (vnN 1 x0 x1 x2 x3) (dkN 1 x0 x1 x2 x3 xs0) (twN 1 x0 x1 x2 x3 x4 xs0) (bt 1 x1) (gc 1 x1) (gt 1 x1) := by
  simp only [r_497, r_376, r_422, r_105, r_130, r_357, r_81, B_q1, B_v226_1, B_v717_1, B_T1, B_v813_1, B_b1, B_v512_1, B_v663_1, B_c1]; rfl
theorem B_v1541_1 : r_507 c a1 h1 a2 h2 a3 h3 a4 h4 a5 h5 a8 h8 x0 x1 x2 x3 x4 xs0 = db0 (row 1 1 x0) (row 2 1 x0) (tvN 1 x0 x1 x3 x4 xs0) (twN 1 x0 x1 x2 x3 x4 xs0) (gc 1 x1) := by
  simp only [r_507, r_458, r_421, r_130, r_81, B_v1, B_T1, B_v716_1, B_k1, B_v813_1, B_c1]; rfl
theorem B_v1581_1 : r_516 c a1 h1 a2 h2 a3 h3 a4 h4 a8 h8 x0 x1 x2 x3 xs0 = dgt (row 1 1 x0) (dkN 1 x0 x1 x2 x3 xs0) (gc 1 x1) (gt 1 x1) (state 1 x2) (carry 1 xs0) := by
  simp only [r_516, r_359, r_268, r_230, r_97, B_k1, B_v512_1, B_v663_1, B_S1, B_D1, B_t1]; rfl
theorem B_v1621_1 : r_531 c a1 h1 a2 h2 a3 h3 a4 h4 a5 h5 a8 h8 x0 x1 x2 x3 x4 xs0 = dgc0 (row 0 1 x0) (row 1 1 x0) (outCt 1 x4) (vnN 1 x0 x1 x2 x3) (dkN 1 x0 x1 x2 x3 xs0) (twN 1 x0 x1 x2 x3 x4 xs0) (bt 1 x1) (gc 1 x1) (gt 1 x1) (state 1 x2) := by
  simp only [r_531, r_474, r_524, r_130, r_358, r_420, r_483, r_81, r_164, r_316, r_375, r_105, r_291, B_k1, B_v512_1, B_v663_1, B_T1, B_v813_1, B_v226_1, B_c1, B_q1, B_S1, B_v214_1, B_v717_1, B_b1, B_d1]; rfl
theorem B_v1640_1 : r_550 c a1 h1 a2 h2 a3 h3 a4 h4 a5 h5 a8 h8 x0 x1 x2 x3 x4 xs0 = neg (matmul dot_S64x64_S64x64_S64x64_1_0_0_1_n_n none (matmul dot_S64x64_S64x64_S64x64_1_0_0_1_n_n none (tr (inv 1 x3)) (dTN 1 x0 x1 x2 x4 xs0) (zero S64x64)) (tr (inv 1 x3)) (zero S64x64)) := by
  simp only [r_550, r_534, r_542, B_T1, B_v1418_1]; rfl
theorem B_v1783_1 : r_605 c a1 h1 a2 h2 a3 h3 a4 h4 a5 h5 a8 h8 x0 x1 x2 x3 x4 xs0 = dM (inv 1 x3) (dTN 1 x0 x1 x2 x4 xs0) := by
  simp only [r_605, B_v1640_1]; rfl
theorem B_v1825_1 : r_621 c a1 h1 a2 h2 a3 h3 a4 h4 a5 h5 a8 h8 x0 x1 x2 x3 x4 xs0 = dk1 (row 1 1 x0) (bt 1 x1) (gc 1 x1) (dMN 1 x0 x1 x2 x3 x4 xs0) := by
  simp only [r_621, r_566, r_575, r_585, r_558, B_k1, B_v1783_1, B_b1, B_c1]; rfl
theorem B_v1897_1 : r_640 c a1 h1 a2 h2 a3 h3 a4 h4 a5 h5 a8 h8 x0 x1 x2 x3 x4 xs0 = db1 (row 1 1 x0) (gc 1 x1) (dMN 1 x0 x1 x2 x3 x4 xs0) := by
  simp only [r_640, r_620, r_575, r_558, B_k1, B_v1783_1, B_c1]; rfl
theorem B_v1913_1 : r_648 c a1 h1 a2 h2 a3 h3 a4 h4 a5 h5 a8 h8 x0 x1 x2 x3 x4 xs0 = dgc1 (row 1 1 x0) (bt 1 x1) (gc 1 x1) (dMN 1 x0 x1 x2 x3 x4 xs0) := by
  simp only [r_648, r_632, r_575, r_606, r_558, r_586, r_566, B_v1783_1, B_c1, B_k1, B_b1]; rfl
theorem B_v2018_1 : r_652 c a1 h1 a2 h2 a3 h3 a4 h4 a5 h5 a8 h8 x0 x1 x2 x3 x4 xs0 = addf (db0 (row 1 1 x0) (row 2 1 x0) (tvN 1 x0 x1 x3 x4 xs0) (twN 1 x0 x1 x2 x3 x4 xs0) (gc 1 x1)) (db1 (row 1 1 x0) (gc 1 x1) (dMN 1 x0 x1 x2 x3 x4 xs0)) := by
  simp only [r_652, B_v1541_1, B_v1897_1]; rfl
theorem B_v214_2 : r_114 c a1 h1 x0 = qk (row 0 2 x0) (row 1 2 x0) := by
  simp only [r_114, B_q2, B_k2]; rfl
theorem B_v226_2 : r_123 c a2 h2 x1 = decay (gc 2 x1) := by
  simp only [r_123, r_90, B_c2]; rfl
theorem B_v283_2 : r_146 c a1 h1 a2 h2 a4 h4 x0 x1 x3 = u (inv 2 x3) (row 2 2 x0) (bt 2 x1) := by
  simp only [r_146, r_106, B_v2, B_T2, B_b2]; rfl
theorem B_v383_2 : r_168 c a1 h1 a2 h2 x0 x1 = kbe (row 1 2 x0) (bt 2 x1) (gc 2 x1) := by
  simp only [r_168, r_106, r_131, r_82, B_k2, B_b2, B_c2]; rfl
theorem B_v396_2 : r_171 c a1 h1 a2 h2 a4 h4 x0 x1 x3 = w (inv 2 x3) (row 1 2 x0) (bt 2 x1) (gc 2 x1) := by
  simp only [r_171, r_169, r_170, r_106, r_131, r_82, B_k2, B_T2, B_b2, B_c2]; rfl
theorem B_v512_2 : r_201 c a2 h2 x1 = erest (gc 2 x1) (gt 2 x1) := by
  simp only [r_201, r_82, r_98, B_c2, B_t2]; rfl
theorem B_v543_2 : r_215 c a1 h1 a2 h2 a3 h3 a4 h4 x0 x1 x2 x3 = vnew (u (inv 2 x3) (row 2 2 x0) (bt 2 x1)) (w (inv 2 x3) (row 1 2 x0) (bt 2 x1) (gc 2 x1)) (state 2 x2) := by
  simp only [r_215, B_S2, B_v283_2, B_v396_2]; rfl
theorem B_v663_2 : r_262 c a1 h1 a2 h2 a3 h3 a4 h4 a8 h8 x0 x1 x2 x3 xs0 = dkd (carry 2 xs0) (vnN 2 x0 x1 x2 x3) := by
  simp only [r_262, B_D2, B_v543_2]; rfl
theorem B_v716_2 : r_289 c a1 h1 a2 h2 a5 h5 a8 h8 x0 x1 x4 xs0 = dvn (row 0 2 x0) (row 1 2 x0) (outCt 2 x4) (gc 2 x1) (gt 2 x1) (carry 2 xs0) := by
  simp only [r_289, r_191, r_261, r_202, r_82, r_98, B_d2, B_v214_2, B_v226_2, B_D2, B_k2, B_c2, B_t2]; rfl
theorem B_v717_2 : r_290 c a1 h1 a2 h2 a3 h3 a4 h4 a5 h5 x0 x1 x2 x3 x4 = dqk (outCt 2 x4) (vnN 2 x0 x1 x2 x3) := by
  simp only [r_290, B_d2, B_v543_2]; rfl
theorem B_v812_2 : r_331 c a1 h1 a2 h2 a4 h4 a5 h5 a8 h8 x0 x1 x3 x4 xs0 = dS (row 0 2 x0) (outCt 2 x4) (w (inv 2 x3) (row 1 2 x0) (bt 2 x1) (gc 2 x1)) (dvN 2 x0 x1 x4 xs0) (gc 2 x1) (gt 2 x1) (carry 2 xs0) := by
  simp only [r_331, r_312, r_223, r_263, r_288, r_131, r_231, r_82, r_98, B_v396_2, B_v716_2, B_q2, B_D2, B_d2, B_c2, B_t2]; rfl
theorem B_v813_2 : r_332 c a1 h1 a2 h2 a3 h3 a5 h5 a8 h8 x0 x1 x2 x4 xs0 = dw (dvN 2 x0 x1 x4 xs0) (state 2 x2) := by
  simp only [r_332, B_S2, B_v716_2]; rfl
theorem B_v1418_2 : r_451 c a1 h1 a2 h2 a3 h3 a5 h5 a8 h8 x0 x1 x2 x4 xs0 = dT (row 1 2 x0) (row 2 2 x0) (dvN 2 x0 x1 x4 xs0) (dwN 2 x0 x1 x2 x4 xs0) (bt 2 x1) (gc 2 x1) := by
  simp only [r_451, r_145, r_411, r_106, B_v716_2, B_v2, B_v383_2, B_v813_2, B_b2]; rfl
theorem B_v1421_2 : r_453 c a1 h1 a2 h2 a4 h4 a5 h5 a8 h8 x0 x1 x3 x4 xs0 = dv (tvN 2 x0 x1 x3 x4 xs0) (bt 2 x1) := by
  simp only [r_453, r_106, B_T2, B_v716_2, B_b2]; rfl
theorem B_v1525_2 : r_496 c a1 h1 a2 h2 a3 h3 a4 h4 a5 h5 x0 x1 x2 x3 x4 = dq (row 1 2 x0) (outCt 2 x4) (vnN 2 x0 x1 x2 x3) (gc 2 x1) (state 2 x2) := by
  simp only [r_496, r_314, r_374, r_131, r_288, r_82, B_k2, B_S2, B_v226_2, B_v717_2, B_d2, B_c2]; rfl
theorem B_v1523_2 : r_495 c a1 h1 a2 h2 a3 h3 a4 h4 a5 h5 a8 h8 x0 x1 x2 x3 x4 xs0 = dk0 (row 0 2 x0) (outCt 2 x4) (vnN 2 x0 x1 x2 x3) (dkN 2 x0 x1 x2 x3 xs0) (twN 2 x0 x1 x2 x3 x4 xs0) (bt 2 x1) (gc 2 x1) (gt 2 x1) := by
  simp only [r_495, r_374, r_414, r_106, r_131, r_354, r_82, B_q2, B_v226_2, B_v717_2, B_T2, B_v813_2, B_b2, B_v512_2, B_v663_2, B_c2]; rfl
theorem B_v1541_2 : r_506 c a1 h1 a2 h2 a3 h3 a4 h4 a5 h5 a8 h8 x0 x1 x2 x3 x4 xs0 = db0 (row 1 2 x0) (row 2 2 x0) (tvN 2 x0 x1 x3 x4 xs0) (twN 2 x0 x1 x2 x3 x4 xs0) (gc 2 x1) := by
  simp only [r_506, r_452, r_413, r_131, r_82, B_v2, B_T2, B_v716_2, B_k2, B_v813_2, B_c2]; rfl
theorem B_v1581_2 : r_515 c a1 h1 a2 h2 a3 h3 a4 h4 a8 h8 x0 x1 x2 x3 xs0 = dgt (row 1 2 x0) (dkN 2 x0 x1 x2 x3 xs0) (gc 2 x1) (gt 2 x1) (state 2 x2) (carry 2 xs0) := by
  simp only [r_515, r_356, r_264, r_231, r_98, B_k2, B_v512_2, B_v663_2, B_S2, B_D2, B_t2]; rfl
theorem B_v1621_2 : r_530 c a1 h1 a2 h2 a3 h3 a4 h4 a5 h5 a8 h8 x0 x1 x2 x3 x4 xs0 = dgc0 (row 0 2 x0) (row 1 2 x0) (outCt 2 x4) (vnN 2 x0 x1 x2 x3) (dkN 2 x0 x1 x2 x3 xs0) (twN 2 x0 x1 x2 x3 x4 xs0) (bt 2 x1) (gc 2 x1) (gt 2 x1) (state 2 x2) := by
  simp only [r_530, r_473, r_523, r_131, r_355, r_412, r_482, r_82, r_167, r_313, r_373, r_106, r_288, B_k2, B_v512_2, B_v663_2, B_T2, B_v813_2, B_v226_2, B_c2, B_q2, B_S2, B_v214_2, B_v717_2, B_b2, B_d2]; rfl
theorem B_v1640_2 : r_551 c a1 h1 a2 h2 a3 h3 a4 h4 a5 h5 a8 h8 x0 x1 x2 x3 x4 xs0 = neg (matmul dot_S64x64_S64x64_S64x64_1_0_0_1_n_n none (matmul dot_S64x64_S64x64_S64x64_1_0_0_1_n_n none (tr (inv 2 x3)) (dTN 2 x0 x1 x2 x4 xs0) (zero S64x64)) (tr (inv 2 x3)) (zero S64x64)) := by
  simp only [r_551, r_535, r_543, B_T2, B_v1418_2]; rfl
theorem B_v1825_2 : r_619 c a1 h1 a2 h2 a3 h3 a4 h4 a5 h5 a8 h8 x0 x1 x2 x3 x4 xs0 = dk1 (row 1 2 x0) (bt 2 x1) (gc 2 x1) (dMN 2 x0 x1 x2 x3 x4 xs0) := by
  simp only [r_619, r_568, r_587, r_604, r_567, r_576, r_559, B_k2, B_v1640_2, B_b2, B_c2]; rfl
theorem B_v1897_2 : r_639 c a1 h1 a2 h2 a3 h3 a4 h4 a5 h5 a8 h8 x0 x1 x2 x3 x4 xs0 = db1 (row 1 2 x0) (gc 2 x1) (dMN 2 x0 x1 x2 x3 x4 xs0) := by
  simp only [r_639, r_618, r_604, r_576, r_559, B_k2, B_v1640_2, B_c2]; rfl
theorem B_v1913_2 : r_647 c a1 h1 a2 h2 a3 h3 a4 h4 a5 h5 a8 h8 x0 x1 x2 x3 x4 xs0 = dgc1 (row 1 2 x0) (bt 2 x1) (gc 2 x1) (dMN 2 x0 x1 x2 x3 x4 xs0) := by
  simp only [r_647, r_631, r_576, r_603, r_559, r_568, r_567, B_k2, B_v1640_2, B_c2, B_b2]; rfl
theorem B_v2018_2 : r_653 c a1 h1 a2 h2 a3 h3 a4 h4 a5 h5 a8 h8 x0 x1 x2 x3 x4 xs0 = addf (db0 (row 1 2 x0) (row 2 2 x0) (tvN 2 x0 x1 x3 x4 xs0) (twN 2 x0 x1 x2 x3 x4 xs0) (gc 2 x1)) (db1 (row 1 2 x0) (gc 2 x1) (dMN 2 x0 x1 x2 x3 x4 xs0)) := by
  simp only [r_653, B_v1541_2, B_v1897_2]; rfl
theorem B_v214_3 : r_115 c a1 h1 x0 = qk (row 0 3 x0) (row 1 3 x0) := by
  simp only [r_115, B_q3, B_k3]; rfl
theorem B_v226_3 : r_124 c a2 h2 x1 = decay (gc 3 x1) := by
  simp only [r_124, r_91, B_c3]; rfl
theorem B_v283_3 : r_148 c a1 h1 a2 h2 a4 h4 x0 x1 x3 = u (inv 3 x3) (row 2 3 x0) (bt 3 x1) := by
  simp only [r_148, r_107, B_v3, B_T3, B_b3]; rfl
theorem B_v383_3 : r_173 c a1 h1 a2 h2 x0 x1 = kbe (row 1 3 x0) (bt 3 x1) (gc 3 x1) := by
  simp only [r_173, r_107, r_132, r_83, B_k3, B_b3, B_c3]; rfl
theorem B_v396_3 : r_174 c a1 h1 a2 h2 a4 h4 x0 x1 x3 = w (inv 3 x3) (row 1 3 x0) (bt 3 x1) (gc 3 x1) := by
  simp only [r_174, r_107, r_132, r_83, B_k3, B_T3, B_b3, B_c3]; rfl
theorem B_v512_3 : r_203 c a2 h2 x1 = erest (gc 3 x1) (gt 3 x1) := by
  simp only [r_203, r_83, r_99, B_c3, B_t3]; rfl
theorem B_v543_3 : r_216 c a1 h1 a2 h2 a3 h3 a4 h4 x0 x1 x2 x3 = vnew (u (inv 3 x3) (row 2 3 x0) (bt 3 x1)) (w (inv 3 x3) (row 1 3 x0) (bt 3 x1) (gc 3 x1)) (state 3 x2) := by
  simp only [r_216, B_S3, B_v283_3, B_v396_3]; rfl
theorem B_v663_3 : r_257 c a1 h1 a2 h2 a3 h3 a4 h4 a8 h8 x0 x1 x2 x3 xs0 = dkd (carry 3 xs0) (vnN 3 x0 x1 x2 x3) := by
  simp only [r_257, B_D3, B_v543_3]; rfl
theorem B_v716_3 : r_286 c a1 h1 a2 h2 a5 h5 a8 h8 x0 x1 x4 xs0 = dvn (row 0 3 x0) (row 1 3 x0) (outCt 3 x4) (gc 3 x1) (gt 3 x1) (carry 3 xs0) := by
  simp only [r_286, r_192, r_256, r_204, r_83, r_99, B_d3, B_v214_3, B_v226_3, B_D3, B_k3, B_c3, B_t3]; rfl
theorem B_v717_3 : r_287 c a1 h1 a2 h2 a3 h3 a4 h4 a5 h5 x0 x1 x2 x3 x4 = dqk (outCt 3 x4) (vnN 3 x0 x1 x2 x3) := by
  simp only [r_287, B_d3, B_v543_3]; rfl
theorem B_v812_3 : r_329 c a1 h1 a2 h2 a4 h4 a5 h5 a8 h8 x0 x1 x3 x4 xs0 = dS (row 0 3 x0) (outCt 3 x4) (w (inv 3 x3) (row 1 3 x0) (bt 3 x1) (gc 3 x1)) (dvN 3 x0 x1 x4 xs0) (gc 3 x1) (gt 3 x1) (carry 3 xs0) := by
  simp only [r_329, r_309, r_224, r_259, r_285, r_132, r_232, r_255, r_83, r_99, B_v396_3, B_v716_3, B_q3, B_d3, B_D3, B_c3, B_t3]; rfl
theorem B_v813_3 : r_330 c a1 h1 a2 h2 a3 h3 a5 h5 a8 h8 x0 x1 x2 x4 xs0 = dw (dvN 3 x0 x1 x4 xs0) (state 3 x2) := by
  simp only [r_330, B_S3, B_v716_3]; rfl
theorem B_v1418_3 : r_448 c a1 h1 a2 h2 a3 h3 a5 h5 a8 h8 x0 x1 x2 x4 xs0 = dT (row 1 3 x0) (row 2 3 x0) (dvN 3 x0 x1 x4 xs0) (dwN 3 x0 x1 x2 x4 xs0) (bt 3 x1) (gc 3 x1) := by
  simp only [r_448, r_405, r_445, r_147, r_107, B_v383_3, B_v813_3, B_v716_3, B_v3, B_b3]; rfl
theorem B_v1421_3 : r_450 c a1 h1 a2 h2 a4 h4 a5 h5 a8 h8 x0 x1 x3 x4 xs0 = dv (tvN 3 x0 x1 x3 x4 xs0) (bt 3 x1) := by
  simp only [r_450, r_107, r_446, r_447, B_v716_3, B_b3, B_T3]; rfl
theorem B_v1525_3 : r_494 c a1 h1 a2 h2 a3 h3 a4 h4 a5 h5 x0 x1 x2 x3 x4 = dq (row 1 3 x0) (outCt 3 x4) (vnN 3 x0 x1 x2 x3) (gc 3 x1) (state 3 x2) := by
  simp only [r_494, r_311, r_372, r_132, r_285, r_83, B_k3, B_S3, B_v226_3, B_v717_3, B_d3, B_c3]; rfl
theorem B_v1523_3 : r_493 c a1 h1 a2 h2 a3 h3 a4 h4 a5 h5 a8 h8 x0 x1 x2 x3 x4 xs0 = dk0 (row 0 3 x0) (outCt 3 x4) (vnN 3 x0 x1 x2 x3) (dkN 3 x0 x1 x2 x3 xs0) (twN 3 x0 x1 x2 x3 x4 xs0) (bt 3 x1) (gc 3 x1) (gt 3 x1) := by
  simp only [r_493, r_372, r_410, r_107, r_132, r_350, r_406, r_407, r_83, B_q3, B_v226_3, B_v717_3, B_b3, B_v512_3, B_v663_3, B_T3, B_v813_3, B_c3]; rfl
theorem B_v1541_3 : r_505 c a1 h1 a2 h2 a3 h3 a4 h4 a5 h5 a8 h8 x0 x1 x2 x3 x4 xs0 = db0 (row 1 3 x0) (row 2 3 x0) (tvN 3 x0 x1 x3 x4 xs0) (twN 3 x0 x1 x2 x3 x4 xs0) (gc 3 x1) := by
  simp only [r_505, r_449, r_409, r_446, r_447, r_132, r_406, r_407, r_83, B_v3, B_v716_3, B_k3, B_T3, B_v813_3, B_c3]; rfl
theorem B_v1581_3 : r_514 c a1 h1 a2 h2 a3 h3 a4 h4 a8 h8 x0 x1 x2 x3 xs0 = dgt (row 1 3 x0) (dkN 3 x0 x1 x2 x3 xs0) (gc 3 x1) (gt 3 x1) (state 3 x2) (carry 3 xs0) := by
  simp only [r_514, r_353, r_260, r_351, r_232, r_258, r_99, B_k3, B_v512_3, B_v663_3, B_S3, B_D3, B_t3]; rfl
theorem B_v1621_3 : r_529 c a1 h1 a2 h2 a3 h3 a4 h4 a5 h5 a8 h8 x0 x1 x2 x3 x4 xs0 = dgc0 (row 0 3 x0) (row 1 3 x0) (outCt 3 x4) (vnN 3 x0 x1 x2 x3) (dkN 3 x0 x1 x2 x3 xs0) (twN 3 x0 x1 x2 x3 x4 xs0) (bt 3 x1) (gc 3 x1) (gt 3 x1) (state 3 x2) := by
  simp only [r_529, r_472, r_522, r_132, r_352, r_408, r_481, r_83, r_172, r_310, r_406, r_407, r_371, r_107, r_285, B_k3, B_v512_3, B_v663_3, B_v226_3, B_c3, B_q3, B_S3, B_T3, B_v813_3, B_v214_3, B_v717_3, B_b3, B_d3]; rfl
theorem B_v1640_3 : r_552 c a1 h1 a2 h2 a3 h3 a4 h4 a5 h5 a8 h8 x0 x1 x2 x3 x4 xs0 = neg (matmul dot_S64x64_S64x64_S64x64_1_0_0_1_n_n none (matmul dot_S64x64_S64x64_S64x64_1_0_0_1_n_n none (tr (inv 3 x3)) (dTN 3 x0 x1 x2 x4 xs0) (zero S64x64)) (tr (inv 3 x3)) (zero S64x64)) := by
  simp only [r_552, r_536, r_544, B_T3, B_v1418_3]; rfl
theorem B_v1825_3 : r_617 c a1 h1 a2 h2 a3 h3 a4 h4 a5 h5 a8 h8 x0 x1 x2 x3 x4 xs0 = dk1 (row 1 3 x0) (bt 3 x1) (gc 3 x1) (dMN 3 x0 x1 x2 x3 x4 xs0) := by
  simp only [r_617, r_569, r_588, r_602, r_577, r_560, B_k3, B_b3, B_v1640_3, B_c3]; rfl
theorem B_v1897_3 : r_638 c a1 h1 a2 h2 a3 h3 a4 h4 a5 h5 a8 h8 x0 x1 x2 x3 x4 xs0 = db1 (row 1 3 x0) (gc 3 x1) (dMN 3 x0 x1 x2 x3 x4 xs0) := by
  simp only [r_638, r_616, r_602, r_577, r_560, B_k3, B_v1640_3, B_c3]; rfl
theorem B_v1913_3 : r_646 c a1 h1 a2 h2 a3 h3 a4 h4 a5 h5 a8 h8 x0 x1 x2 x3 x4 xs0 = dgc1 (row 1 3 x0) (bt 3 x1) (gc 3 x1) (dMN 3 x0 x1 x2 x3 x4 xs0) := by
  simp only [r_646, r_630, r_577, r_601, r_560, r_569, B_k3, B_v1640_3, B_c3, B_b3]; rfl
theorem B_v2018_3 : r_654 c a1 h1 a2 h2 a3 h3 a4 h4 a5 h5 a8 h8 x0 x1 x2 x3 x4 xs0 = addf (db0 (row 1 3 x0) (row 2 3 x0) (tvN 3 x0 x1 x3 x4 xs0) (twN 3 x0 x1 x2 x3 x4 xs0) (gc 3 x1)) (db1 (row 1 3 x0) (gc 3 x1) (dMN 3 x0 x1 x2 x3 x4 xs0)) := by
  simp only [r_654, B_v1541_3, B_v1897_3]; rfl
theorem B_v214_4 : r_116 c a1 h1 x0 = qk (row 0 4 x0) (row 1 4 x0) := by
  simp only [r_116, B_q4, B_k4]; rfl
theorem B_v226_4 : r_125 c a2 h2 x1 = decay (gc 4 x1) := by
  simp only [r_125, r_92, B_c4]; rfl
theorem B_v283_4 : r_150 c a1 h1 a2 h2 a4 h4 x0 x1 x3 = u (inv 4 x3) (row 2 4 x0) (bt 4 x1) := by
  simp only [r_150, r_149, r_108, B_T4, B_v4, B_b4]; rfl
theorem B_v383_4 : r_176 c a1 h1 a2 h2 x0 x1 = kbe (row 1 4 x0) (bt 4 x1) (gc 4 x1) := by
  simp only [r_176, r_108, r_133, r_84, B_k4, B_b4, B_c4]; rfl
theorem B_v396_4 : r_177 c a1 h1 a2 h2 a4 h4 x0 x1 x3 = w (inv 4 x3) (row 1 4 x0) (bt 4 x1) (gc 4 x1) := by
  simp only [r_177, r_108, r_133, r_84, B_k4, B_T4, B_b4, B_c4]; rfl
theorem B_v512_4 : r_205 c a2 h2 x1 = erest (gc 4 x1) (gt 4 x1) := by
  simp only [r_205, r_84, r_100, B_c4, B_t4]; rfl
theorem B_v543_4 : r_217 c a1 h1 a2 h2 a3 h3 a4 h4 x0 x1 x2 x3 = vnew (u (inv 4 x3) (row 2 4 x0) (bt 4 x1)) (w (inv 4 x3) (row 1 4 x0) (bt 4 x1) (gc 4 x1)) (state 4 x2) := by
  simp only [r_217, B_S4, B_v283_4, B_v396_4]; rfl
theorem B_v663_4 : r_252 c a1 h1 a2 h2 a3 h3 a4 h4 a8 h8 x0 x1 x2 x3 xs0 = dkd (carry 4 xs0) (vnN 4 x0 x1 x2 x3) := by
  simp only [r_252, B_D4, B_v543_4]; rfl
theorem B_v716_4 : r_283 c a1 h1 a2 h2 a5 h5 a8 h8 x0 x1 x4 xs0 = dvn (row 0 4 x0) (row 1 4 x0) (outCt 4 x4) (gc 4 x1) (gt 4 x1) (carry 4 xs0) := by
  simp only [r_283, r_193, r_251, r_206, r_84, r_100, B_d4, B_v214_4, B_v226_4, B_D4, B_k4, B_c4, B_t4]; rfl
theorem B_v717_4 : r_284 c a1 h1 a2 h2 a3 h3 a4 h4 a5 h5 x0 x1 x2 x3 x4 = dqk (outCt 4 x4) (vnN 4 x0 x1 x2 x3) := by
  simp only [r_284, B_d4, B_v543_4]; rfl
theorem B_v812_4 : r_327 c a1 h1 a2 h2 a4 h4 a5 h5 a8 h8 x0 x1 x3 x4 xs0 = dS (row 0 4 x0) (outCt 4 x4) (w (inv 4 x3) (row 1 4 x0) (bt 4 x1) (gc 4 x1)) (dvN 4 x0 x1 x4 xs0) (gc 4 x1) (gt 4 x1) (carry 4 xs0) := by
  simp only [r_327, r_306, r_225, r_253, r_282, r_133, r_233, r_84, r_100, B_v396_4, B_v716_4, B_q4, B_D4, B_d4, B_c4, B_t4]; rfl
theorem B_v813_4 : r_328 c a1 h1 a2 h2 a3 h3 a5 h5 a8 h8 x0 x1 x2 x4 xs0 = dw (dvN 4 x0 x1 x4 xs0) (state 4 x2) := by
  simp only [r_328, B_S4, B_v716_4]; rfl
theorem B_v1418_4 : r_442 c a1 h1 a2 h2 a3 h3 a5 h5 a8 h8 x0 x1 x2 x4 xs0 = dT (row 1 4 x0) (row 2 4 x0) (dvN 4 x0 x1 x4 xs0) (dwN 4 x0 x1 x2 x4 xs0) (bt 4 x1) (gc 4 x1) := by
  simp only [r_442, r_149, r_401, r_108, r_397, r_398, r_399, r_400, B_v716_4, B_v4, B_b4, B_v813_4, B_v383_4]; rfl
theorem B_v1421_4 : r_444 c a1 h1 a2 h2 a4 h4 a5 h5 a8 h8 x0 x1 x3 x4 xs0 = dv (tvN 4 x0 x1 x3 x4 xs0) (bt 4 x1) := by
  simp only [r_444, r_108, B_T4, B_v716_4, B_b4]; rfl
theorem B_v1525_4 : r_492 c a1 h1 a2 h2 a3 h3 a4 h4 a5 h5 x0 x1 x2 x3 x4 = dq (row 1 4 x0) (outCt 4 x4) (vnN 4 x0 x1 x2 x3) (gc 4 x1) (state 4 x2) := by
  simp only [r_492, r_308, r_370, r_133, r_282, r_84, B_k4, B_S4, B_v226_4, B_v717_4, B_d4, B_c4]; rfl
theorem B_v1523_4 : r_491 c a1 h1 a2 h2 a3 h3 a4 h4 a5 h5 a8 h8 x0 x1 x2 x3 x4 xs0 = dk0 (row 0 4 x0) (outCt 4 x4) (vnN 4 x0 x1 x2 x3) (dkN 4 x0 x1 x2 x3 xs0) (twN 4 x0 x1 x2 x3 x4 xs0) (bt 4 x1) (gc 4 x1) (gt 4 x1) := by
  simp only [r_491, r_370, r_404, r_108, r_133, r_347, r_84, B_q4, B_v226_4, B_v717_4, B_T4, B_v813_4, B_b4, B_v512_4, B_v663_4, B_c4]; rfl
theorem B_v1541_4 : r_504 c a1 h1 a2 h2 a3 h3 a4 h4 a5 h5 a8 h8 x0 x1 x2 x3 x4 xs0 = db0 (row 1 4 x0) (row 2 4 x0) (tvN 4 x0 x1 x3 x4 xs0) (twN 4 x0 x1 x2 x3 x4 xs0) (gc 4 x1) := by
  simp only [r_504, r_443, r_403, r_133, r_84, B_v4, B_T4, B_v716_4, B_k4, B_v813_4, B_c4]; rfl
theorem B_v1581_4 : r_513 c a1 h1 a2 h2 a3 h3 a4 h4 a8 h8 x0 x1 x2 x3 xs0 = dgt (row 1 4 x0) (dkN 4 x0 x1 x2 x3 xs0) (gc 4 x1) (gt 4 x1) (state 4 x2) (carry 4 xs0) := by
  simp only [r_513, r_349, r_254, r_233, r_100, B_k4, B_v512_4, B_v663_4, B_S4, B_D4, B_t4]; rfl
theorem B_v1621_4 : r_528 c a1 h1 a2 h2 a3 h3 a4 h4 a5 h5 a8 h8 x0 x1 x2 x3 x4 xs0 = dgc0 (row 0 4 x0) (row 1 4 x0) (outCt 4 x4) (vnN 4 x0 x1 x2 x3) (dkN 4 x0 x1 x2 x3 xs0) (twN 4 x0 x1 x2 x3 x4 xs0) (bt 4 x1) (gc 4 x1) (gt 4 x1) (state 4 x2) := by
  simp only [r_528, r_471, r_521, r_133, r_348, r_402, r_480, r_84, r_175, r_307, r_479, r_108, r_282, r_369, B_k4, B_v512_4, B_v663_4, B_T4, B_v813_4, B_c4, B_q4, B_S4, B_v226_4, B_b4, B_d4, B_v214_4, B_v717_4]; rfl
theorem B_v1640_4 : r_553 c a1 h1 a2 h2 a3 h3 a4 h4 a5 h5 a8 h8 x0 x1 x2 x3 x4 xs0 = neg (matmul dot_S64x64_S64x64_S64x64_1_0_0_1_n_n none (matmul dot_S64x64_S64x64_S64x64_1_0_0_1_n_n none (tr (inv 4 x3)) (dTN 4 x0 x1 x2 x4 xs0) (zero S64x64)) (tr (inv 4 x3)) (zero S64x64)) := by
  simp only [r_553, r_537, r_545, B_T4, B_v1418_4]; rfl
theorem B_v1825_4 : r_615 c a1 h1 a2 h2 a3 h3 a4 h4 a5 h5 a8 h8 x0 x1 x2 x3 x4 xs0 = dk1 (row 1 4 x0) (bt 4 x1) (gc 4 x1) (dMN 4 x0 x1 x2 x3 x4 xs0) := by
  simp only [r_615, r_570, r_589, r_600, r_578, r_561, B_k4, B_b4, B_v1640_4, B_c4]; rfl
theorem B_v1897_4 : r_637 c a1 h1 a2 h2 a3 h3 a4 h4 a5 h5 a8 h8 x0 x1 x2 x3 x4 xs0 = db1 (row 1 4 x0) (gc 4 x1) (dMN 4 x0 x1 x2 x3 x4 xs0) := by
  simp only [r_637, r_614, r_600, r_578, r_561, B_k4, B_v1640_4, B_c4]; rfl
theorem B_v1913_4 : r_645 c a1 h1 a2 h2 a3 h3 a4 h4 a5 h5 a8 h8 x0 x1 x2 x3 x4 xs0 = dgc1 (row 1 4 x0) (bt 4 x1) (gc 4 x1) (dMN 4 x0 x1 x2 x3 x4 xs0) := by
  simp only [r_645, r_629, r_578, r_599, r_561, r_570, B_k4, B_v1640_4, B_c4, B_b4]; rfl
theorem B_v2018_4 : r_655 c a1 h1 a2 h2 a3 h3 a4 h4 a5 h5 a8 h8 x0 x1 x2 x3 x4 xs0 = addf (db0 (row 1 4 x0) (row 2 4 x0) (tvN 4 x0 x1 x3 x4 xs0) (twN 4 x0 x1 x2 x3 x4 xs0) (gc 4 x1)) (db1 (row 1 4 x0) (gc 4 x1) (dMN 4 x0 x1 x2 x3 x4 xs0)) := by
  simp only [r_655, B_v1541_4, B_v1897_4]; rfl
theorem B_v2026_4 : r_659 c a1 h1 a2 h2 a3 h3 a4 h4 a5 h5 a8 h8 x0 x1 x2 x3 x4 xs0 = addf (dgc0 (row 0 4 x0) (row 1 4 x0) (outCt 4 x4) (vnN 4 x0 x1 x2 x3) (dkN 4 x0 x1 x2 x3 xs0) (twN 4 x0 x1 x2 x3 x4 xs0) (bt 4 x1) (gc 4 x1) (gt 4 x1) (state 4 x2)) (dgc1 (row 1 4 x0) (bt 4 x1) (gc 4 x1) (dMN 4 x0 x1 x2 x3 x4 xs0)) := by
  simp only [r_659, B_v1621_4, B_v1913_4]; rfl
theorem B_v214_5 : r_117 c a1 h1 x0 = qk (row 0 5 x0) (row 1 5 x0) := by
  simp only [r_117, B_q5, B_k5]; rfl
theorem B_v226_5 : r_126 c a2 h2 x1 = decay (gc 5 x1) := by
  simp only [r_126, r_93, B_c5]; rfl
theorem B_v283_5 : r_152 c a1 h1 a2 h2 a4 h4 x0 x1 x3 = u (inv 5 x3) (row 2 5 x0) (bt 5 x1) := by
  simp only [r_152, r_109, B_v5, B_T5, B_b5]; rfl
theorem B_v383_5 : r_179 c a1 h1 a2 h2 x0 x1 = kbe (row 1 5 x0) (bt 5 x1) (gc 5 x1) := by
  simp only [r_179, r_109, r_134, r_85, B_k5, B_b5, B_c5]; rfl
theorem B_v396_5 : r_180 c a1 h1 a2 h2 a4 h4 x0 x1 x3 = w (inv 5 x3) (row 1 5 x0) (bt 5 x1) (gc 5 x1) := by
  simp only [r_180, r_109, r_134, r_85, B_k5, B_T5, B_b5, B_c5]; rfl
theorem B_v512_5 : r_208 c a2 h2 x1 = erest (gc 5 x1) (gt 5 x1) := by
  simp only [r_208, r_85, r_207, r_101, B_c5, B_t5]; rfl
theorem B_v543_5 : r_218 c a1 h1 a2 h2 a3 h3 a4 h4 x0 x1 x2 x3 = vnew (u (inv 5 x3) (row 2 5 x0) (bt 5 x1)) (w (inv 5 x3) (row 1 5 x0) (bt 5 x1) (gc 5 x1)) (state 5 x2) := by
  simp only [r_218, B_S5, B_v283_5, B_v396_5]; rfl
theorem B_v663_5 : r_248 c a1 h1 a2 h2 a3 h3 a4 h4 a8 h8 x0 x1 x2 x3 xs0 = dkd (carry 5 xs0) (vnN 5 x0 x1 x2 x3) := by
  simp only [r_248, B_D5, B_v543_5]; rfl
theorem B_v716_5 : r_280 c a1 h1 a2 h2 a5 h5 a8 h8 x0 x1 x4 xs0 = dvn (row 0 5 x0) (row 1 5 x0) (outCt 5 x4) (gc 5 x1) (gt 5 x1) (carry 5 xs0) := by
  simp only [r_280, r_194, r_247, r_209, r_85, r_207, r_101, B_d5, B_v214_5, B_v226_5, B_D5, B_k5, B_c5, B_t5]; rfl
theorem B_v717_5 : r_281 c a1 h1 a2 h2 a3 h3 a4 h4 a5 h5 x0 x1 x2 x3 x4 = dqk (outCt 5 x4) (vnN 5 x0 x1 x2 x3) := by
  simp only [r_281, B_d5, B_v543_5]; rfl
theorem B_v812_5 : r_325 c a1 h1 a2 h2 a4 h4 a5 h5 a8 h8 x0 x1 x3 x4 xs0 = dS (row 0 5 x0) (outCt 5 x4) (w (inv 5 x3) (row 1 5 x0) (bt 5 x1) (gc 5 x1)) (dvN 5 x0 x1 x4 xs0) (gc 5 x1) (gt 5 x1) (carry 5 xs0) := by
  simp only [r_325, r_303, r_226, r_249, r_279, r_134, r_234, r_85, r_101, B_v396_5, B_v716_5, B_q5, B_D5, B_d5, B_c5, B_t5]; rfl
theorem B_v813_5 : r_326 c a1 h1 a2 h2 a3 h3 a5 h5 a8 h8 x0 x1 x2 x4 xs0 = dw (dvN 5 x0 x1 x4 xs0) (state 5 x2) := by
  simp only [r_326, B_S5, B_v716_5]; rfl
theorem B_v1417_5 : r_438 c a1 h1 a2 h2 a4 h4 a5 h5 a8 h8 x0 x1 x3 x4 xs0 = tdot (inv 5 x3) (dvN 5 x0 x1 x4 xs0) := by
  simp only [r_438, B_T5, B_v716_5]; rfl
theorem B_v1418_5 : r_439 c a1 h1 a2 h2 a3 h3 a5 h5 a8 h8 x0 x1 x2 x4 xs0 = dT (row 1 5 x0) (row 2 5 x0) (dvN 5 x0 x1 x4 xs0) (dwN 5 x0 x1 x2 x4 xs0) (bt 5 x1) (gc 5 x1) := by
  simp only [r_439, r_151, r_393, r_109, B_v716_5, B_v5, B_v383_5, B_v813_5, B_b5]; rfl
theorem B_v1421_5 : r_441 c a1 h1 a2 h2 a4 h4 a5 h5 a8 h8 x0 x1 x3 x4 xs0 = dv (tvN 5 x0 x1 x3 x4 xs0) (bt 5 x1) := by
  simp only [r_441, r_109, B_v1417_5, B_b5]; rfl
theorem B_v1525_5 : r_490 c a1 h1 a2 h2 a3 h3 a4 h4 a5 h5 x0 x1 x2 x3 x4 = dq (row 1 5 x0) (outCt 5 x4) (vnN 5 x0 x1 x2 x3) (gc 5 x1) (state 5 x2) := by
  simp only [r_490, r_305, r_368, r_134, r_279, r_85, B_k5, B_S5, B_v226_5, B_v717_5, B_d5, B_c5]; rfl
theorem B_v1523_5 : r_489 c a1 h1 a2 h2 a3 h3 a4 h4 a5 h5 a8 h8 x0 x1 x2 x3 x4 xs0 = dk0 (row 0 5 x0) (outCt 5 x4) (vnN 5 x0 x1 x2 x3) (dkN 5 x0 x1 x2 x3 xs0) (twN 5 x0 x1 x2 x3 x4 xs0) (bt 5 x1) (gc 5 x1) (gt 5 x1) := by
  simp only [r_489, r_368, r_396, r_109, r_134, r_344, r_85, B_q5, B_v226_5, B_v717_5, B_T5, B_v813_5, B_b5, B_v512_5, B_v663_5, B_c5]; rfl
theorem B_v1541_5 : r_503 c a1 h1 a2 h2 a3 h3 a4 h4 a5 h5 a8 h8 x0 x1 x2 x3 x4 xs0 = db0 (row 1 5 x0) (row 2 5 x0) (tvN 5 x0 x1 x3 x4 xs0) (twN 5 x0 x1 x2 x3 x4 xs0) (gc 5 x1) := by
  simp only [r_503, r_440, r_395, r_134, r_85, B_v5, B_T5, B_v716_5, B_k5, B_v813_5, B_c5]; rfl
theorem B_v1581_5 : r_512 c a1 h1 a2 h2 a3 h3 a4 h4 a8 h8 x0 x1 x2 x3 xs0 = dgt (row 1 5 x0) (dkN 5 x0 x1 x2 x3 xs0) (gc 5 x1) (gt 5 x1) (state 5 x2) (carry 5 xs0) := by
  simp only [r_512, r_346, r_250, r_234, r_101, B_k5, B_v512_5, B_v663_5, B_S5, B_D5, B_t5]; rfl
theorem B_v1621_5 : r_527 c a1 h1 a2 h2 a3 h3 a4 h4 a5 h5 a8 h8 x0 x1 x2 x3 x4 xs0 = dgc0 (row 0 5 x0) (row 1 5 x0) (outCt 5 x4) (vnN 5 x0 x1 x2 x3) (dkN 5 x0 x1 x2 x3 xs0) (twN 5 x0 x1 x2 x3 x4 xs0) (bt 5 x1) (gc 5 x1) (gt 5 x1) (state 5 x2) := by
  simp only [r_527, r_470, r_520, r_134, r_345, r_394, r_478, r_85, r_178, r_304, r_367, r_109, r_279, B_k5, B_v512_5, B_v663_5, B_T5, B_v813_5, B_v226_5, B_c5, B_q5, B_S5, B_v214_5, B_v717_5, B_b5, B_d5]; rfl
theorem B_v1640_5 : r_554 c a1 h1 a2 h2 a3 h3 a4 h4 a5 h5 a8 h8 x0 x1 x2 x3 x4 xs0 = neg (matmul dot_S64x64_S64x64_S64x64_1_0_0_1_n_n none (matmul dot_S64x64_S64x64_S64x64_1_0_0_1_n_n none (tr (inv 5 x3)) (dTN 5 x0 x1 x2 x4 xs0) (zero S64x64)) (tr (inv 5 x3)) (zero S64x64)) := by
  simp only [r_554, r_538, r_546, B_T5, B_v1418_5]; rfl
theorem B_v1825_5 : r_613 c a1 h1 a2 h2 a3 h3 a4 h4 a5 h5 a8 h8 x0 x1 x2 x3 x4 xs0 = dk1 (row 1 5 x0) (bt 5 x1) (gc 5 x1) (dMN 5 x0 x1 x2 x3 x4 xs0) := by
  simp only [r_613, r_571, r_590, r_598, r_579, r_562, B_k5, B_b5, B_v1640_5, B_c5]; rfl
theorem B_v1897_5 : r_636 c a1 h1 a2 h2 a3 h3 a4 h4 a5 h5 a8 h8 x0 x1 x2 x3 x4 xs0 = db1 (row 1 5 x0) (gc 5 x1) (dMN 5 x0 x1 x2 x3 x4 xs0) := by
  simp only [r_636, r_612, r_598, r_579, r_562, B_k5, B_v1640_5, B_c5]; rfl
theorem B_v1913_5 : r_644 c a1 h1 a2 h2 a3 h3 a4 h4 a5 h5 a8 h8 x0 x1 x2 x3 x4 xs0 = dgc1 (row 1 5 x0) (bt 5 x1) (gc 5 x1) (dMN 5 x0 x1 x2 x3 x4 xs0) := by
  simp only [r_644, r_628, r_579, r_597, r_562, r_571, B_k5, B_v1640_5, B_c5, B_b5]; rfl
theorem B_v2018_5 : r_656 c a1 h1 a2 h2 a3 h3 a4 h4 a5 h5 a8 h8 x0 x1 x2 x3 x4 xs0 = addf (db0 (row 1 5 x0) (row 2 5 x0) (tvN 5 x0 x1 x3 x4 xs0) (twN 5 x0 x1 x2 x3 x4 xs0) (gc 5 x1)) (db1 (row 1 5 x0) (gc 5 x1) (dMN 5 x0 x1 x2 x3 x4 xs0)) := by
  simp only [r_656, B_v1541_5, B_v1897_5]; rfl
theorem B_v2026_5 : r_660 c a1 h1 a2 h2 a3 h3 a4 h4 a5 h5 a8 h8 x0 x1 x2 x3 x4 xs0 = addf (dgc0 (row 0 5 x0) (row 1 5 x0) (outCt 5 x4) (vnN 5 x0 x1 x2 x3) (dkN 5 x0 x1 x2 x3 xs0) (twN 5 x0 x1 x2 x3 x4 xs0) (bt 5 x1) (gc 5 x1) (gt 5 x1) (state 5 x2)) (dgc1 (row 1 5 x0) (bt 5 x1) (gc 5 x1) (dMN 5 x0 x1 x2 x3 x4 xs0)) := by
  simp only [r_660, B_v1621_5, B_v1913_5]; rfl
theorem B_v214_6 : r_118 c a1 h1 x0 = qk (row 0 6 x0) (row 1 6 x0) := by
  simp only [r_118, B_q6, B_k6]; rfl
theorem B_v226_6 : r_127 c a2 h2 x1 = decay (gc 6 x1) := by
  simp only [r_127, r_94, B_c6]; rfl
theorem B_v283_6 : r_154 c a1 h1 a2 h2 a4 h4 x0 x1 x3 = u (inv 6 x3) (row 2 6 x0) (bt 6 x1) := by
  simp only [r_154, r_110, B_v6, B_T6, B_b6]; rfl
theorem B_v383_6 : r_182 c a1 h1 a2 h2 x0 x1 = kbe (row 1 6 x0) (bt 6 x1) (gc 6 x1) := by
  simp only [r_182, r_110, r_135, r_86, B_k6, B_b6, B_c6]; rfl
theorem B_v396_6 : r_185 c a1 h1 a2 h2 a4 h4 x0 x1 x3 = w (inv 6 x3) (row 1 6 x0) (bt 6 x1) (gc 6 x1) := by
  simp only [r_185, r_183, r_184, B_v383_6, B_T6]; rfl
theorem B_v512_6 : r_210 c a2 h2 x1 = erest (gc 6 x1) (gt 6 x1) := by
  simp only [r_210, r_86, r_102, B_c6, B_t6]; rfl
theorem B_v543_6 : r_219 c a1 h1 a2 h2 a3 h3 a4 h4 x0 x1 x2 x3 = vnew (u (inv 6 x3) (row 2 6 x0) (bt 6 x1)) (w (inv 6 x3) (row 1 6 x0) (bt 6 x1) (gc 6 x1)) (state 6 x2) := by
  simp only [r_219, B_S6, B_v283_6, B_v396_6]; rfl
theorem B_v663_6 : r_244 c a1 h1 a2 h2 a3 h3 a4 h4 a8 h8 x0 x1 x2 x3 xs0 = dkd (carry 6 xs0) (vnN 6 x0 x1 x2 x3) := by
  simp only [r_244, B_D6, B_v543_6]; rfl
theorem B_v716_6 : r_277 c a1 h1 a2 h2 a5 h5 a8 h8 x0 x1 x4 xs0 = dvn (row 0 6 x0) (row 1 6 x0) (outCt 6 x4) (gc 6 x1) (gt 6 x1) (carry 6 xs0) := by
  simp only [r_277, r_195, r_243, r_211, r_86, r_102, B_d6, B_v214_6, B_v226_6, B_D6, B_k6, B_c6, B_t6]; rfl
theorem B_v717_6 : r_278 c a1 h1 a2 h2 a3 h3 a4 h4 a5 h5 x0 x1 x2 x3 x4 = dqk (outCt 6 x4) (vnN 6 x0 x1 x2 x3) := by
  simp only [r_278, B_d6, B_v543_6]; rfl
theorem B_v812_6 : r_323 c a1 h1 a2 h2 a4 h4 a5 h5 a8 h8 x0 x1 x3 x4 xs0 = dS (row 0 6 x0) (outCt 6 x4) (w (inv 6 x3) (row 1 6 x0) (bt 6 x1) (gc 6 x1)) (dvN 6 x0 x1 x4 xs0) (gc 6 x1) (gt 6 x1) (carry 6 xs0) := by
  simp only [r_323, r_300, r_227, r_245, r_276, r_135, r_235, r_86, r_102, B_v396_6, B_v716_6, B_q6, B_D6, B_d6, B_c6, B_t6]; rfl
theorem B_v813_6 : r_324 c a1 h1 a2 h2 a3 h3 a5 h5 a8 h8 x0 x1 x2 x4 xs0 = dw (dvN 6 x0 x1 x4 xs0) (state 6 x2) := by
  simp only [r_324, B_S6, B_v716_6]; rfl
theorem B_v1418_6 : r_435 c a1 h1 a2 h2 a3 h3 a5 h5 a8 h8 x0 x1 x2 x4 xs0 = dT (row 1 6 x0) (row 2 6 x0) (dvN 6 x0 x1 x4 xs0) (dwN 6 x0 x1 x2 x4 xs0) (bt 6 x1) (gc 6 x1) := by
  simp only [r_435, r_387, r_432, r_433, r_434, r_153, r_110, B_v383_6, B_v813_6, B_v716_6, B_v6, B_b6]; rfl
theorem B_v1421_6 : r_437 c a1 h1 a2 h2 a4 h4 a5 h5 a8 h8 x0 x1 x3 x4 xs0 = dv (tvN 6 x0 x1 x3 x4 xs0) (bt 6 x1) := by
  simp only [r_437, r_110, B_T6, B_v716_6, B_b6]; rfl
theorem B_v1525_6 : r_488 c a1 h1 a2 h2 a3 h3 a4 h4 a5 h5 x0 x1 x2 x3 x4 = dq (row 1 6 x0) (outCt 6 x4) (vnN 6 x0 x1 x2 x3) (gc 6 x1) (state 6 x2) := by
  simp only [r_488, r_302, r_366, r_135, r_276, r_86, B_k6, B_S6, B_v226_6, B_v717_6, B_d6, B_c6]; rfl
theorem B_v1523_6 : r_487 c a1 h1 a2 h2 a3 h3 a4 h4 a5 h5 a8 h8 x0 x1 x2 x3 x4 xs0 = dk0 (row 0 6 x0) (outCt 6 x4) (vnN 6 x0 x1 x2 x3) (dkN 6 x0 x1 x2 x3 xs0) (twN 6 x0 x1 x2 x3 x4 xs0) (bt 6 x1) (gc 6 x1) (gt 6 x1) := by
  simp only [r_487, r_366, r_392, r_110, r_135, r_341, r_388, r_389, r_86, B_q6, B_v226_6, B_v717_6, B_b6, B_v512_6, B_v663_6, B_T6, B_v813_6, B_c6]; rfl
theorem B_v1541_6 : r_502 c a1 h1 a2 h2 a3 h3 a4 h4 a5 h5 a8 h8 x0 x1 x2 x3 x4 xs0 = db0 (row 1 6 x0) (row 2 6 x0) (tvN 6 x0 x1 x3 x4 xs0) (twN 6 x0 x1 x2 x3 x4 xs0) (gc 6 x1) := by
  simp only [r_502, r_436, r_391, r_135, r_388, r_389, r_86, B_v6, B_T6, B_v716_6, B_k6, B_v813_6, B_c6]; rfl
theorem B_v1581_6 : r_511 c a1 h1 a2 h2 a3 h3 a4 h4 a8 h8 x0 x1 x2 x3 xs0 = dgt (row 1 6 x0) (dkN 6 x0 x1 x2 x3 xs0) (gc 6 x1) (gt 6 x1) (state 6 x2) (carry 6 xs0) := by
  simp only [r_511, r_510, r_343, r_246, r_235, r_102, B_k6, B_v512_6, B_v663_6, B_S6, B_D6, B_t6]; rfl
theorem B_v1621_6 : r_526 c a1 h1 a2 h2 a3 h3 a4 h4 a5 h5 a8 h8 x0 x1 x2 x3 x4 xs0 = dgc0 (row 0 6 x0) (row 1 6 x0) (outCt 6 x4) (vnN 6 x0 x1 x2 x3) (dkN 6 x0 x1 x2 x3 xs0) (twN 6 x0 x1 x2 x3 x4 xs0) (bt 6 x1) (gc 6 x1) (gt 6 x1) (state 6 x2) := by
  simp only [r_526, r_469, r_519, r_135, r_342, r_390, r_477, r_86, r_181, r_301, r_388, r_389, r_365, r_110, r_276, B_k6, B_v512_6, B_v663_6, B_v226_6, B_c6, B_q6, B_S6, B_T6, B_v813_6, B_v214_6, B_v717_6, B_b6, B_d6]; rfl
theorem B_v1640_6 : r_555 c a1 h1 a2 h2 a3 h3 a4 h4 a5 h5 a8 h8 x0 x1 x2 x3 x4 xs0 = neg (matmul dot_S64x64_S64x64_S64x64_1_0_0_1_n_n none (matmul dot_S64x64_S64x64_S64x64_1_0_0_1_n_n none (tr (inv 6 x3)) (dTN 6 x0 x1 x2 x4 xs0) (zero S64x64)) (tr (inv 6 x3)) (zero S64x64)) := by
  simp only [r_555, r_539, r_547, B_T6, B_v1418_6]; rfl
theorem B_v1825_6 : r_611 c a1 h1 a2 h2 a3 h3 a4 h4 a5 h5 a8 h8 x0 x1 x2 x3 x4 xs0 = dk1 (row 1 6 x0) (bt 6 x1) (gc 6 x1) (dMN 6 x0 x1 x2 x3 x4 xs0) := by
  simp only [r_611, r_572, r_591, r_596, r_580, r_563, B_k6, B_b6, B_v1640_6, B_c6]; rfl
theorem B_v1897_6 : r_635 c a1 h1 a2 h2 a3 h3 a4 h4 a5 h5 a8 h8 x0 x1 x2 x3 x4 xs0 = db1 (row 1 6 x0) (gc 6 x1) (dMN 6 x0 x1 x2 x3 x4 xs0) := by
  simp only [r_635, r_610, r_596, r_580, r_563, B_k6, B_v1640_6, B_c6]; rfl
theorem B_v1913_6 : r_643 c a1 h1 a2 h2 a3 h3 a4 h4 a5 h5 a8 h8 x0 x1 x2 x3 x4 xs0 = dgc1 (row 1 6 x0) (bt 6 x1) (gc 6 x1) (dMN 6 x0 x1 x2 x3 x4 xs0) := by
  simp only [r_643, r_627, r_580, r_595, r_563, r_572, B_k6, B_v1640_6, B_c6, B_b6]; rfl
theorem B_v2018_6 : r_657 c a1 h1 a2 h2 a3 h3 a4 h4 a5 h5 a8 h8 x0 x1 x2 x3 x4 xs0 = addf (db0 (row 1 6 x0) (row 2 6 x0) (tvN 6 x0 x1 x3 x4 xs0) (twN 6 x0 x1 x2 x3 x4 xs0) (gc 6 x1)) (db1 (row 1 6 x0) (gc 6 x1) (dMN 6 x0 x1 x2 x3 x4 xs0)) := by
  simp only [r_657, B_v1541_6, B_v1897_6]; rfl
theorem B_v2026_6 : r_661 c a1 h1 a2 h2 a3 h3 a4 h4 a5 h5 a8 h8 x0 x1 x2 x3 x4 xs0 = addf (dgc0 (row 0 6 x0) (row 1 6 x0) (outCt 6 x4) (vnN 6 x0 x1 x2 x3) (dkN 6 x0 x1 x2 x3 xs0) (twN 6 x0 x1 x2 x3 x4 xs0) (bt 6 x1) (gc 6 x1) (gt 6 x1) (state 6 x2)) (dgc1 (row 1 6 x0) (bt 6 x1) (gc 6 x1) (dMN 6 x0 x1 x2 x3 x4 xs0)) := by
  simp only [r_661, B_v1621_6, B_v1913_6]; rfl
theorem B_v214_7 : r_119 c a1 h1 x0 = qk (row 0 7 x0) (row 1 7 x0) := by
  simp only [r_119, B_q7, B_k7]; rfl
theorem B_v226_7 : r_128 c a2 h2 x1 = decay (gc 7 x1) := by
  simp only [r_128, r_95, B_c7]; rfl
theorem B_v283_7 : r_160 c a1 h1 a2 h2 a4 h4 x0 x1 x3 = u (inv 7 x3) (row 2 7 x0) (bt 7 x1) := by
  simp only [r_160, r_156, r_157, r_158, r_159, r_111, B_T7, B_v7, B_b7]; rfl
theorem B_v383_7 : r_187 c a1 h1 a2 h2 x0 x1 = kbe (row 1 7 x0) (bt 7 x1) (gc 7 x1) := by
  simp only [r_187, r_111, r_136, r_87, B_k7, B_b7, B_c7]; rfl
theorem B_v396_7 : r_188 c a1 h1 a2 h2 a4 h4 x0 x1 x3 = w (inv 7 x3) (row 1 7 x0) (bt 7 x1) (gc 7 x1) := by
  simp only [r_188, r_111, r_136, r_87, B_k7, B_T7, B_b7, B_c7]; rfl
theorem B_v512_7 : r_212 c a2 h2 x1 = erest (gc 7 x1) (gt 7 x1) := by
  simp only [r_212, r_87, r_103, B_c7, B_t7]; rfl
theorem B_v543_7 : r_220 c a1 h1 a2 h2 a3 h3 a4 h4 x0 x1 x2 x3 = vnew (u (inv 7 x3) (row 2 7 x0) (bt 7 x1)) (w (inv 7 x3) (row 1 7 x0) (bt 7 x1) (gc 7 x1)) (state 7 x2) := by
  simp only [r_220, B_S7, B_v283_7, B_v396_7]; rfl
theorem B_v663_7 : r_239 c a1 h1 a2 h2 a3 h3 a4 h4 a8 h8 x0 x1 x2 x3 xs0 = dkd (carry 7 xs0) (vnN 7 x0 x1 x2 x3) := by
  simp only [r_239, B_S7, B_D7, B_v283_7, B_v396_7]; rfl
theorem B_v716_7 : r_274 c a1 h1 a2 h2 a5 h5 a8 h8 x0 x1 x4 xs0 = dvn (row 0 7 x0) (row 1 7 x0) (outCt 7 x4) (gc 7 x1) (gt 7 x1) (carry 7 xs0) := by
  simp only [r_274, r_196, r_238, r_87, r_103, B_d7, B_v214_7, B_v226_7, B_k7, B_D7, B_c7, B_t7]; rfl
theorem B_v717_7 : r_275 c a1 h1 a2 h2 a3 h3 a4 h4 a5 h5 x0 x1 x2 x3 x4 = dqk (outCt 7 x4) (vnN 7 x0 x1 x2 x3) := by
  simp only [r_275, B_d7, B_v543_7]; rfl
theorem B_v812_7 : r_321 c a1 h1 a2 h2 a4 h4 a5 h5 a8 h8 x0 x1 x3 x4 xs0 = dS (row 0 7 x0) (outCt 7 x4) (w (inv 7 x3) (row 1 7 x0) (bt 7 x1) (gc 7 x1)) (dvN 7 x0 x1 x4 xs0) (gc 7 x1) (gt 7 x1) (carry 7 xs0) := by
  simp only [r_321, r_297, r_228, r_241, r_273, r_136, r_236, r_237, r_87, r_103, B_v396_7, B_v716_7, B_q7, B_d7, B_D7, B_c7, B_t7]; rfl
theorem B_v813_7 : r_322 c a1 h1 a2 h2 a3 h3 a5 h5 a8 h8 x0 x1 x2 x4 xs0 = dw (dvN 7 x0 x1 x4 xs0) (state 7 x2) := by
  simp only [r_322, B_S7, B_v716_7]; rfl
theorem B_v1418_7 : r_429 c a1 h1 a2 h2 a3 h3 a5 h5 a8 h8 x0 x1 x2 x4 xs0 = dT (row 1 7 x0) (row 2 7 x0) (dvN 7 x0 x1 x4 xs0) (dwN 7 x0 x1 x2 x4 xs0) (bt 7 x1) (gc 7 x1) := by
  simp only [r_429, r_155, r_383, r_111, r_379, r_380, r_381, r_382, B_v716_7, B_v7, B_b7, B_v813_7, B_v383_7]; rfl
theorem B_v1421_7 : r_431 c a1 h1 a2 h2 a4 h4 a5 h5 a8 h8 x0 x1 x3 x4 xs0 = dv (tvN 7 x0 x1 x3 x4 xs0) (bt 7 x1) := by
  simp only [r_431, r_111, B_T7, B_v716_7, B_b7]; rfl
theorem B_v1525_7 : r_486 c a1 h1 a2 h2 a3 h3 a4 h4 a5 h5 x0 x1 x2 x3 x4 = dq (row 1 7 x0) (outCt 7 x4) (vnN 7 x0 x1 x2 x3) (gc 7 x1) (state 7 x2) := by
  simp only [r_486, r_299, r_364, r_136, r_273, r_87, B_k7, B_S7, B_v226_7, B_v717_7, B_d7, B_c7]; rfl
theorem B_v1523_7 : r_485 c a1 h1 a2 h2 a3 h3 a4 h4 a5 h5 a8 h8 x0 x1 x2 x3 x4 xs0 = dk0 (row 0 7 x0) (outCt 7 x4) (vnN 7 x0 x1 x2 x3) (dkN 7 x0 x1 x2 x3 xs0) (twN 7 x0 x1 x2 x3 x4 xs0) (bt 7 x1) (gc 7 x1) (gt 7 x1) := by
  simp only [r_485, r_364, r_386, r_111, r_136, r_338, r_87, B_q7, B_v226_7, B_v717_7, B_T7, B_v813_7, B_b7, B_v512_7, B_v663_7, B_c7]; rfl
theorem B_v1541_7 : r_501 c a1 h1 a2 h2 a3 h3 a4 h4 a5 h5 a8 h8 x0 x1 x2 x3 x4 xs0 = db0 (row 1 7 x0) (row 2 7 x0) (tvN 7 x0 x1 x3 x4 xs0) (twN 7 x0 x1 x2 x3 x4 xs0) (gc 7 x1) := by
  simp only [r_501, r_430, r_385, r_136, r_87, B_v7, B_T7, B_v716_7, B_k7, B_v813_7, B_c7]; rfl
theorem B_v1581_7 : r_509 c a1 h1 a2 h2 a3 h3 a4 h4 a8 h8 x0 x1 x2 x3 xs0 = dgt (row 1 7 x0) (dkN 7 x0 x1 x2 x3 xs0) (gc 7 x1) (gt 7 x1) (state 7 x2) (carry 7 xs0) := by
  simp only [r_509, r_340, r_242, r_236, r_240, r_103, B_k7, B_v512_7, B_v663_7, B_S7, B_D7, B_t7]; rfl
theorem B_v1621_7 : r_525 c a1 h1 a2 h2 a3 h3 a4 h4 a5 h5 a8 h8 x0 x1 x2 x3 x4 xs0 = dgc0 (row 0 7 x0) (row 1 7 x0) (outCt 7 x4) (vnN 7 x0 x1 x2 x3) (dkN 7 x0 x1 x2 x3 xs0) (twN 7 x0 x1 x2 x3 x4 xs0) (bt 7 x1) (gc 7 x1) (gt 7 x1) (state 7 x2) := by
  simp only [r_525, r_468, r_518, r_136, r_339, r_384, r_476, r_87, r_186, r_298, r_363, r_111, r_273, B_k7, B_v512_7, B_v663_7, B_T7, B_v813_7, B_v226_7, B_c7, B_q7, B_S7, B_v214_7, B_v717_7, B_b7, B_d7]; rfl
theorem B_v1640_7 : r_556 c a1 h1 a2 h2 a3 h3 a4 h4 a5 h5 a8 h8 x0 x1 x2 x3 x4 xs0 = neg (matmul dot_S64x64_S64x64_S64x64_1_0_0_1_n_n none (matmul dot_S64x64_S64x64_S64x64_1_0_0_1_n_n none (tr (inv 7 x3)) (dTN 7 x0 x1 x2 x4 xs0) (zero S64x64)) (tr (inv 7 x3)) (zero S64x64)) := by
  simp only [r_556, r_540, r_548, B_T7, B_v1418_7]; rfl
theorem B_v1825_7 : r_609 c a1 h1 a2 h2 a3 h3 a4 h4 a5 h5 a8 h8 x0 x1 x2 x3 x4 xs0 = dk1 (row 1 7 x0) (bt 7 x1) (gc 7 x1) (dMN 7 x0 x1 x2 x3 x4 xs0) := by
  simp only [r_609, r_573, r_592, r_594, r_581, r_564, B_k7, B_b7, B_v1640_7, B_c7]; rfl
theorem B_v1897_7 : r_634 c a1 h1 a2 h2 a3 h3 a4 h4 a5 h5 a8 h8 x0 x1 x2 x3 x4 xs0 = db1 (row 1 7 x0) (gc 7 x1) (dMN 7 x0 x1 x2 x3 x4 xs0) := by
  simp only [r_634, r_608, r_594, r_581, r_564, B_k7, B_v1640_7, B_c7]; rfl
theorem B_v1913_7 : r_642 c a1 h1 a2 h2 a3 h3 a4 h4 a5 h5 a8 h8 x0 x1 x2 x3 x4 xs0 = dgc1 (row 1 7 x0) (bt 7 x1) (gc 7 x1) (dMN 7 x0 x1 x2 x3 x4 xs0) := by
  simp only [r_642, r_626, r_582, r_593, r_581, r_573, r_564, B_k7, B_v1640_7, B_b7, B_c7]; rfl
theorem B_v2018_7 : r_658 c a1 h1 a2 h2 a3 h3 a4 h4 a5 h5 a8 h8 x0 x1 x2 x3 x4 xs0 = addf (db0 (row 1 7 x0) (row 2 7 x0) (tvN 7 x0 x1 x3 x4 xs0) (twN 7 x0 x1 x2 x3 x4 xs0) (gc 7 x1)) (db1 (row 1 7 x0) (gc 7 x1) (dMN 7 x0 x1 x2 x3 x4 xs0)) := by
  simp only [r_658, B_v1541_7, B_v1897_7]; rfl
theorem B_v2026_7 : r_662 c a1 h1 a2 h2 a3 h3 a4 h4 a5 h5 a8 h8 x0 x1 x2 x3 x4 xs0 = addf (dgc0 (row 0 7 x0) (row 1 7 x0) (outCt 7 x4) (vnN 7 x0 x1 x2 x3) (dkN 7 x0 x1 x2 x3 xs0) (twN 7 x0 x1 x2 x3 x4 xs0) (bt 7 x1) (gc 7 x1) (gt 7 x1) (state 7 x2)) (dgc1 (row 1 7 x0) (bt 7 x1) (gc 7 x1) (dMN 7 x0 x1 x2 x3 x4 xs0)) := by
  simp only [r_662, B_v1621_7, B_v1913_7]; rfl

end Cert.KernelIdeal.Head

end
-- ==== Proof.OutB.lean ====
/-
  The blocks that a grid point after the first leaves (case B of the kernel's run) are the blocks of Block.lean.
-/
module

public import proofs.«01_k».proof.Proof.Block
public import proofs.«01_k».proof.Proof.RunB
public import proofs.«01_k».proof.Proof.Gen.KernelIdeal.Frame
public import Idealize.ShloMosaic.Lib.Pipeline.Value
public import Idealize.ShloMosaic.Lib.Pipeline.ReadBack

@[expose] public section

noncomputable section

namespace Cert.KernelIdeal.Head

open Idealize.ShloMosaic Idealize.SL Idealize.SL.Sem Cert.KernelIdeal Cert.KernelIdeal.Gen

variable {F : FTy → Type} [FloatOps F] [Named F]

theorem out5_B (c : Dev nD) (i : grid0.Coords) (a1 : Memref sig .tc .vmem S3x64x1024 .f32) (h1 : a1.IsWhole) (a2 : Memref sig .tc .vmem S64x128 .f32) (h2 : a2.IsWhole) (a3 : Memref sig .tc .vmem S1x8x128x128 .f32) (h3 : a3.IsWhole) (a4 : Memref sig .tc .vmem S1x8x64x64 .f32) (h4 : a4.IsWhole) (a5 : Memref sig .tc .vmem S64x1024 .f32) (h5 : a5.IsWhole) (a6 : Memref sig .tc .vmem S3x64x1024 .f32) (h6 : a6.IsWhole) (a7 : Memref sig .tc .vmem S64x128 .f32) (h7 : a7.IsWhole) (a8 : Memref sig .tc .vmem S8x128x128 .f32) (h8 : a8.IsWhole) (hc0 : ¬cond0_0 i) (x0 : Vec F S3x64x1024 .f32) (x1 : Vec F S64x128 .f32) (x2 : Vec F S1x8x128x128 .f32) (x3 : Vec F S1x8x64x64 .f32) (x4 : Vec F S64x1024 .f32) (xs0 : Vec F S8x128x128 .f32) :
    out0_B_5 c i a1 h1 a2 h2 a3 h3 a4 h4 a5 h5 a6 h6 a7 h7 a8 h8 hc0 x0 x1 x2 x3 x4 xs0 = blockRows x0 x1 x2 x3 x4 xs0 := by
  unfold out0_B_5
  rw [View.read_writes_junk_eq_canon]
  let R : Fin 3 → Fin 8 → FVec F S64x128 .f32 := fun part h => hRows h x0 x1 x2 x3 x4 xs0 part
  have H : View.PiecesOf (Val := Elt F) (blockRows x0 x1 x2 x3 x4 xs0) (kernelRun0_B c i a1 h1 a2 h2 a3 h3 a4 h4 a5 h5 a6 h6 a7 h7 a8 h8 hc0 x0 x1 x2 x3 x4 xs0).1 := by
    unfold kernelRun0_B
    dsimp only
    exact ⟨(fun x => by simp only [k0_pay788, B_v1421_7]; exact piece R 2 7 x),
      (fun x => by simp only [k0_pay787, B_v1523_7, B_v1825_7]; exact piece R 1 7 x),
      (fun x => by simp only [k0_pay786, B_v1525_7]; exact piece R 0 7 x),
      (fun x => by simp only [k0_pay784, B_v1421_6]; exact piece R 2 6 x),
      (fun x => by simp only [k0_pay783, B_v1523_6, B_v1825_6]; exact piece R 1 6 x),
      (fun x => by simp only [k0_pay782, B_v1525_6]; exact piece R 0 6 x),
      (fun x => by simp only [k0_pay780, B_v1421_5]; exact piece R 2 5 x),
      (fun x => by simp only [k0_pay779, B_v1523_5, B_v1825_5]; exact piece R 1 5 x),
      (fun x => by simp only [k0_pay778, B_v1525_5]; exact piece R 0 5 x),
      (fun x => by simp only [k0_pay776, B_v1421_4]; exact piece R 2 4 x),
      (fun x => by simp only [k0_pay775, B_v1523_4, B_v1825_4]; exact piece R 1 4 x),
      (fun x => by simp only [k0_pay774, B_v1525_4]; exact piece R 0 4 x),
      (fun x => by simp only [k0_pay772, B_v1421_3]; exact piece R 2 3 x),
      (fun x => by simp only [k0_pay771, B_v1523_3, B_v1825_3]; exact piece R 1 3 x),
      (fun x => by simp only [k0_pay770, B_v1525_3]; exact piece R 0 3 x),
      (fun x => by simp only [k0_pay768, B_v1421_2]; exact piece R 2 2 x),
      (fun x => by simp only [k0_pay767, B_v1523_2, B_v1825_2]; exact piece R 1 2 x),
      (fun x => by simp only [k0_pay766, B_v1525_2]; exact piece R 0 2 x),
      (fun x => by simp only [k0_pay764, B_v1421_1]; exact piece R 2 1 x),
      (fun x => by simp only [k0_pay763, B_v1523_1, B_v1825_1]; exact piece R 1 1 x),
      (fun x => by simp only [k0_pay762, B_v1525_1]; exact piece R 0 1 x),
      (fun x => by simp only [k0_pay760, B_v1421_0]; exact piece R 2 0 x),
      (fun x => by simp only [k0_pay759, B_v1523_0, B_v1825_0]; exact piece R 1 0 x),
      (fun x => by simp only [k0_pay758, B_v1525_0]; exact piece R 0 0 x), trivial⟩
  funext y
  have := View.canon_append_of_pieces (blockRows x0 x1 x2 x3 x4 xs0) [] _ H.mem y (cover0_B_5 c i a1 h1 a2 h2 a3 h3 a4 h4 a5 h5 a6 h6 a7 h7 a8 h8 hc0 x0 x1 x2 x3 x4 xs0 y)
  rwa [List.append_nil] at this

theorem carry_B (c : Dev nD) (i : grid0.Coords) (a1 : Memref sig .tc .vmem S3x64x1024 .f32) (h1 : a1.IsWhole) (a2 : Memref sig .tc .vmem S64x128 .f32) (h2 : a2.IsWhole) (a3 : Memref sig .tc .vmem S1x8x128x128 .f32) (h3 : a3.IsWhole) (a4 : Memref sig .tc .vmem S1x8x64x64 .f32) (h4 : a4.IsWhole) (a5 : Memref sig .tc .vmem S64x1024 .f32) (h5 : a5.IsWhole) (a6 : Memref sig .tc .vmem S3x64x1024 .f32) (h6 : a6.IsWhole) (a7 : Memref sig .tc .vmem S64x128 .f32) (h7 : a7.IsWhole) (a8 : Memref sig .tc .vmem S8x128x128 .f32) (h8 : a8.IsWhole) (hc0 : ¬cond0_0 i) (x0 : Vec F S3x64x1024 .f32) (x1 : Vec F S64x128 .f32) (x2 : Vec F S1x8x128x128 .f32) (x3 : Vec F S1x8x64x64 .f32) (x4 : Vec F S64x1024 .f32) (xs0 : Vec F S8x128x128 .f32) :
    sout0_B_0 c i a1 h1 a2 h2 a3 h3 a4 h4 a5 h5 a6 h6 a7 h7 a8 h8 hc0 x0 x1 x2 x3 x4 xs0 = blockCarry x0 x1 x3 x4 xs0 := by
  unfold sout0_B_0
  rw [View.read_writes_junk_eq_canon]
  let R : Fin 8 → FVec F S128x128 .f32 := fun h => hS h x0 x1 x3 x4 xs0
  have H : View.PiecesOf (Val := Elt F) (blockCarry x0 x1 x3 x4 xs0) (kernelRun0_B c i a1 h1 a2 h2 a3 h3 a4 h4 a5 h5 a6 h6 a7 h7 a8 h8 hc0 x0 x1 x2 x3 x4 xs0).2.2.1 := by
    unfold kernelRun0_B
    dsimp only
    exact ⟨(fun x => by simp only [k0_pay789, B_v812_7]; exact pieceS R 7 x),
      (fun x => by simp only [k0_pay785, B_v812_6]; exact pieceS R 6 x),
      (fun x => by simp only [k0_pay781, B_v812_5]; exact pieceS R 5 x),
      (fun x => by simp only [k0_pay777, B_v812_4]; exact pieceS R 4 x),
      (fun x => by simp only [k0_pay773, B_v812_3]; exact pieceS R 3 x),
      (fun x => by simp only [k0_pay769, B_v812_2]; exact pieceS R 2 x),
      (fun x => by simp only [k0_pay765, kernelRun0_B.sl.r_650, B_v812_1]; exact pieceS R 1 x),
      (fun x => by simp only [k0_pay761, B_v812_0]; exact pieceS R 0 x), trivial⟩
  funext y
  have := View.canon_append_of_pieces (blockCarry x0 x1 x3 x4 xs0) [] _ H.mem y (scover0_B_0 c i a1 h1 a2 h2 a3 h3 a4 h4 a5 h5 a6 h6 a7 h7 a8 h8 hc0 x0 x1 x2 x3 x4 xs0 y)
  rwa [List.append_nil] at this

theorem out6_B (c : Dev nD) (i : grid0.Coords) (a1 : Memref sig .tc .vmem S3x64x1024 .f32) (h1 : a1.IsWhole) (a2 : Memref sig .tc .vmem S64x128 .f32) (h2 : a2.IsWhole) (a3 : Memref sig .tc .vmem S1x8x128x128 .f32) (h3 : a3.IsWhole) (a4 : Memref sig .tc .vmem S1x8x64x64 .f32) (h4 : a4.IsWhole) (a5 : Memref sig .tc .vmem S64x1024 .f32) (h5 : a5.IsWhole) (a6 : Memref sig .tc .vmem S3x64x1024 .f32) (h6 : a6.IsWhole) (a7 : Memref sig .tc .vmem S64x128 .f32) (h7 : a7.IsWhole) (a8 : Memref sig .tc .vmem S8x128x128 .f32) (h8 : a8.IsWhole) (hc0 : ¬cond0_0 i) (x0 : Vec F S3x64x1024 .f32) (x1 : Vec F S64x128 .f32) (x2 : Vec F S1x8x128x128 .f32) (x3 : Vec F S1x8x64x64 .f32) (x4 : Vec F S64x1024 .f32) (xs0 : Vec F S8x128x128 .f32) :
    out0_B_6 c i a1 h1 a2 h2 a3 h3 a4 h4 a5 h5 a6 h6 a7 h7 a8 h8 hc0 x0 x1 x2 x3 x4 xs0 = blockGates x0 x1 x2 x3 x4 xs0 := by
  unfold out0_B_6
  rw [View.read_writes_junk_eq_canon]
  unfold kernelRun0_B
  dsimp only
  rw [View.canon_cons_unit_zero hz2B]
  simp only [kernelRun0_B.sl.r_663, kernelRun0_B.sl.r_664, kernelRun0_B.sl.r_665, kernelRun0_B.sl.r_666, kernelRun0_B.sl.r_667, kernelRun0_B.sl.r_668, kernelRun0_B.sl.v2034, B_v2018_0, B_v2018_1, B_v2018_2, B_v2018_3, B_v2018_4, B_v2018_5, B_v2018_6, B_v2018_7, B_v2026_4, B_v2026_5, B_v2026_6, B_v2026_7, B_v1621_0, B_v1621_1, B_v1621_2, B_v1621_3, B_v1913_0, B_v1913_1, B_v1913_2, B_v1913_3, B_v1581_0, B_v1581_1, B_v1581_2, B_v1581_3, B_v1581_4, B_v1581_5, B_v1581_6, B_v1581_7]
  rfl

end Cert.KernelIdeal.Head

end
-- ==== Proof.KernelValue.lean ====
/-
  THE KERNEL'S RESULTS over the reals. Grid point `t` reads chunk `129 - t` of every argument; by induction on the points
  the scratch holds the state's cotangents of `Data.ct`, so the blocks written are those of `Data.rowsOut` and
  `Data.gatesOut`, and these are the final arrays.
-/
module

public import proofs.«01_k».proof.Proof.KernelReads
public import proofs.«01_k».proof.Proof.OutA
public import proofs.«01_k».proof.Proof.OutB
public import proofs.«01_k».proof.Proof.Gen.KernelIdeal.Value
public import Idealize.ShloMosaic.Lib.Pipeline.ValueKit.Geometry

@[expose] public section

noncomputable section

namespace Cert.KernelValue

open Idealize.ShloMosaic Idealize.ShloMosaic.ValueIdx Idealize.SL Idealize.SL.Sem Matrix
open Cert.Chunk Cert.Rep Cert.Gates Cert.Data Cert.BlockReal Cert.KernelReads Cert.KernelIdeal Cert.KernelIdeal.Gen

/-! ## The points -/

variable (m : (ℓ : Loc nD τ sig) → Buf (Elt Ideal) ℓ) (c : Dev nD)
variable (P : Data)
  (H : Holds P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))
include H

/-- What the buffers hold after point `n`, given what the scratch held before it. -/
def Point (n : ℕ) (hn : n < cfg0.N) (xs : FVec Ideal S8x128x128 .f32) : Prop :=
  outsAt0 m c n hn
    = (Head.blockRows (F := Ideal) (iblk m c 0 ⟨n, hn⟩) (iblk m c 1 ⟨n, hn⟩) (iblk m c 2 ⟨n, hn⟩) (iblk m c 3 ⟨n, hn⟩) (iblk m c 4 ⟨n, hn⟩) xs,
      Head.blockGates (F := Ideal) (iblk m c 0 ⟨n, hn⟩) (iblk m c 1 ⟨n, hn⟩) (iblk m c 2 ⟨n, hn⟩) (iblk m c 3 ⟨n, hn⟩) (iblk m c 4 ⟨n, hn⟩) xs,
      Head.blockCarry (F := Ideal) (iblk m c 0 ⟨n, hn⟩) (iblk m c 1 ⟨n, hn⟩) (iblk m c 3 ⟨n, hn⟩) (iblk m c 4 ⟨n, hn⟩) xs)

omit H in
theorem point_zero (hn : 0 < cfg0.N) : Point m c 0 hn (Head.zero S8x128x128) := by
  unfold Point
  refine (outsAt0_A m c ⟨0, hn⟩ rfl).trans ?_
  rw [Head.out5_A, Head.out6_A, Head.carry_A]
omit H in
theorem point_succ (n : ℕ) (hn : n + 1 < cfg0.N) : Point m c (n + 1) hn (outsAt0 m c n (Nat.lt_of_succ_lt hn)).2.2 := by
  unfold Point
  have hN : cfg0.N = 130 := N_0
  have hB : ¬(⟨n + 1, hn⟩ : Fin cfg0.N).val % 130 = 0 := by dsimp only; omega
  refine (outsAt0_B m c ⟨n + 1, hn⟩ hB).trans ?_
  rw [Head.out5_B, Head.out6_B, Head.carry_B]
  rfl

omit H in
theorem carry_stack (R : Fin 8 → FVec Ideal S128x128 .f32) (h : Fin 8) {M : Matrix (Fin 128) (Fin 128) ℝ} (hR : Rep (R h) M) :
    Rep (Head.carry h (Head.stackS R)) M := fun i j => (carry_apply h _ i j).trans (hR i j)

theorem next (n : ℕ) (hn : n < cfg0.N) (xs : FVec Ideal S8x128x128 .f32) (hxs : ∀ h, Rep (Head.carry h xs) (ct P h n)) (e : Point m c n hn xs) (h : Fin 8) :
    Rep (Head.carry h ((outsAt0 m c n hn).2.2 : FVec Ideal S8x128x128 .f32)) (ct P h (n + 1)) := by
  have e2 : ((outsAt0 m c n hn).2.2 : FVec Ideal S8x128x128 .f32) = _ := congrArg (fun z => z.2.2) e
  rw [e2]
  exact carry_stack (fun h => Head.hS (F := Ideal) h (iblk m c 0 ⟨n, hn⟩) (iblk m c 1 ⟨n, hn⟩) (iblk m c 3 ⟨n, hn⟩) (iblk m c 4 ⟨n, hn⟩) xs) h (reads m c P H ⟨n, hn⟩ h xs _ (hxs h)).hS

/-- The scratch before point `n` holds the state's cotangents. -/
theorem point (n : ℕ) : ∀ hn : n < cfg0.N, ∃ xs : FVec Ideal S8x128x128 .f32, (∀ h, Rep (Head.carry h xs) (ct P h n)) ∧ Point m c n hn xs := by
  induction n with
  | zero => exact fun hn => ⟨_, fun h i j => (carry_apply h _ i j).trans (Rep.zero_apply _ _), point_zero m c hn⟩
  | succ n ih =>
    intro hn
    obtain ⟨xs, hxs, e⟩ := ih (Nat.lt_of_succ_lt hn)
    exact ⟨_, next m c P H n _ xs hxs e, point_succ m c n hn⟩

theorem rows_at (t : Fin cfg0.N) (y : S3x64x1024.Idx) :
    ((outsAt0 m c t.val t.isLt).1 : FVec Ideal S3x64x1024 .f32) y = ((rowsBlk P t.val (y 0) (y 1) (y 2) : ℝ) : EReal) := by
  obtain ⟨xs, hxs, e⟩ := point m c P H t.val t.isLt
  have e1 : ((outsAt0 m c t.val t.isLt).1 : FVec Ideal S3x64x1024 .f32) = _ := congrArg (fun z => z.1) e
  rw [e1]
  have hy : (y 2).val < 1024 := (y 2).isLt
  have R := reads m c P H t ⟨(y 2).val / 128, by omega⟩ xs _ (hxs _)
  show Head.hRows (F := Ideal) _ _ _ _ _ _ _ (y 0) _ = _
  unfold rowsBlk
  generalize y 0 = p
  match p with
  | ⟨0, _⟩ => exact R.hQ _ _
  | ⟨1, _⟩ => exact R.hK _ _
  | ⟨2, _⟩ => exact R.hV _ _

theorem gates_at (t : Fin cfg0.N) (i : Fin 64) (l : Fin 128) :
    ((outsAt0 m c t.val t.isLt).2.1 : FVec Ideal S64x128 .f32) (ValueIdx.ix2 i l) = ((gatesBlk P t.val i l : ℝ) : EReal) := by
  obtain ⟨xs, hxs, e⟩ := point m c P H t.val t.isLt
  have e1 : ((outsAt0 m c t.val t.isLt).2.1 : FVec Ideal S64x128 .f32) = _ := congrArg (fun z => z.2.1) e
  rw [e1]
  unfold gatesBlk
  by_cases h1 : l.val < 8
  · rw [dif_pos h1]
    exact (reads m c P H t ⟨l.val, h1⟩ xs _ (hxs _)).gates_b i
  · rw [dif_neg h1]
    by_cases h2 : l.val < 16
    · rw [dif_pos h2]
      have := (reads m c P H t ⟨l.val - 8, by omega⟩ xs _ (hxs _)).gates_g i
      rwa [show (⟨(⟨l.val - 8, by omega⟩ : Fin 8).val + 8, by dsimp only; omega⟩ : Fin 128) = l from Fin.ext (by show l.val - 8 + 8 = l.val; omega)] at this
    · rw [dif_neg h2]
      exact gates_rest l (by omega) i

/-! ## The final arrays -/

theorem final5 : (dats m 0 c).arrAt 5 cfg0.N = rowsOut P := by
  refine (dats m 0 c).arrAt_eq_of_covers 5 _ (by decide +kernel) fun t hf y => ?_
  blk_simp
  rw [after0_5]
  have ht : t.val < 130 := lt_of_lt_of_eq t.isLt (show cfg0.N = 130 from N_0)
  refine (rows_at m c P H t y).trans (rowsOut_at P t.val ht _ (y 0) (y 1) (y 2) ?_ ?_ ?_).symm
  · show win0_5.index t 0 * 3 + 1 * (y 0).val = (y 0).val; rw [i5]; show 0 * 3 + _ = _; omega
  · show win0_5.index t 1 * 64 + 1 * (y 1).val = (129 - t.val) * 64 + (y 1).val; rw [i5]; show (129 - t.val) * 64 + _ = _; omega
  · show win0_5.index t 2 * 1024 + 1 * (y 2).val = (y 2).val; rw [i5]; show 0 * 1024 + _ = _; omega

theorem final6 : (dats m 0 c).arrAt 6 cfg0.N = gatesOut P := by
  refine (dats m 0 c).arrAt_eq_of_covers 6 _ (by decide +kernel) fun t hf y => ?_
  blk_simp
  rw [after0_6]
  have ht : t.val < 130 := lt_of_lt_of_eq t.isLt (show cfg0.N = 130 from N_0)
  have hy : y = ValueIdx.ix2 (n0 := 64) (n1 := 128) (y 0) (y 1) := funext fun a => by match a with | ⟨0, _⟩ => rfl | ⟨1, _⟩ => rfl
  refine ((congrArg ((outsAt0 m c t.val t.isLt).2.1 : FVec Ideal S64x128 .f32) hy).trans (gates_at m c P H t (y 0) (y 1))).trans (gatesOut_at P t.val ht _ (y 0) (y 1) ?_ ?_).symm
  · show win0_6.index t 0 * 64 + 1 * (y 0).val = (129 - t.val) * 64 + (y 0).val; rw [i6]; show (129 - t.val) * 64 + _ = _; omega
  · show win0_6.index t 1 * 128 + 1 * (y 1).val = (y 1).val; rw [i6]; show 0 * 128 + _ = _; omega

end Cert.KernelValue

end
-- ==== Proof.RefRun.lean ====
/-
  The reference's run, trip by trip: a valuation of its buffers that holds a state of the loop holds the next state after one
  trip (`step`, the trip's function), so the results are fields of the state after 130 trips. The values a trip names are taken in
  the program's order, each from those before it.
-/
module

public import proofs.«01_k».proof.Proof.Gen.ReferenceIdeal.Run
public import proofs.«01_k».proof.Proof.Gen.ReferenceIdeal.Step

@[expose] public section

set_option maxRecDepth 8192

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The loop's buffers hold the state `s`, and its counter the number `j`. -/
structure Reads (V0 : Valuation τ sig (Elt F)) (s : State F) (j : ℕ) : Prop where
  n_7 : V0 (Proc.devRef .tc main_v20_7) = constantI S_ 32 (BitVec.ofNat 32 j)
  f_8 : V0 (Proc.devRef .tc main_v20_8) = s.main_v20_8
  f_9 : V0 (Proc.devRef .tc main_v20_9) = s.main_v20_9
  f_10 : V0 (Proc.devRef .tc main_v20_10) = s.main_v20_10
  f_0 : V0 (Proc.devRef .tc main_v20_0) = s.main_v20_0
  f_1 : V0 (Proc.devRef .tc main_v20_1) = s.main_v20_1
  f_2 : V0 (Proc.devRef .tc main_v20_2) = s.main_v20_2
  f_3 : V0 (Proc.devRef .tc main_v20_3) = s.main_v20_3
  f_4 : V0 (Proc.devRef .tc main_v20_4) = s.main_v20_4
  f_5 : V0 (Proc.devRef .tc main_v20_5) = s.main_v20_5
  f_6 : V0 (Proc.devRef .tc main_v20_6) = s.main_v20_6

variable {V0 : Valuation τ sig (Elt F)} {s : State F} {j : ℕ}

/-! ## The values one trip names -/

theorem v28 (h : Reads V0 s j) : res_main_while0b_v28 V0 = b3 j s := by
  unfold res_main_while0b_v28
  rw [h.n_7]
  rfl
theorem v29 (h : Reads V0 s j) : res_main_while0b_v29 V0 = b8 j s := by
  unfold res_main_while0b_v29
  rw [v28 h, h.f_0]
  rfl
theorem v30 (h : Reads V0 s j) : res_main_while0b_v30 V0 = b13 j s := by
  unfold res_main_while0b_v30
  rw [v28 h, h.f_1]
  rfl
theorem v31 (h : Reads V0 s j) : res_main_while0b_v31 V0 = b18 j s := by
  unfold res_main_while0b_v31
  rw [v28 h, h.f_2]
  rfl
theorem v32 (h : Reads V0 s j) : res_main_while0b_v32 V0 = b23 j s := by
  unfold res_main_while0b_v32
  rw [v28 h, h.f_3]
  rfl
theorem v33 (h : Reads V0 s j) : res_main_while0b_v33 V0 = b28 j s := by
  unfold res_main_while0b_v33
  rw [v28 h, h.f_4]
  rfl
theorem v34 (h : Reads V0 s j) : res_main_while0b_v34 V0 = b32 j s := by
  unfold res_main_while0b_v34
  rw [v28 h, h.f_5]
  rfl
theorem v35 (h : Reads V0 s j) : res_main_while0b_v35 V0 = b37 j s := by
  unfold res_main_while0b_v35
  rw [v28 h, h.f_6]
  rfl
theorem v37 (h : Reads V0 s j) : res_main_while0b_v37 V0 = b39 j s := by
  unfold res_main_while0b_v37
  rw [v34 h]
  rfl
theorem v38 (h : Reads V0 s j) : res_main_while0b_v38 V0 = b42 j s := by
  unfold res_main_while0b_v38
  rw [v34 h]
  rfl
theorem v48_1 (h : Reads V0 s j) : res_main_while0b_v48_1 V0 = b72 j s := by
  unfold res_main_while0b_v48_1
  rfl
theorem v49 (h : Reads V0 s j) : res_main_while0b_v49 V0 = b77 j s := by
  unfold res_main_while0b_v49
  rw [v48_1 h, v38 h]
  rfl
theorem v50 (h : Reads V0 s j) : res_main_while0b_v50 V0 = b78 j s := by
  unfold res_main_while0b_v50
  rw [v37 h]
  rfl
theorem v52 (h : Reads V0 s j) : res_main_while0b_v52 V0 = b80 j s := by
  unfold res_main_while0b_v52
  rw [v32 h, v50 h]
  rfl
theorem v53 (h : Reads V0 s j) : res_main_while0b_v53 V0 = b81 j s := by
  unfold res_main_while0b_v53
  rw [v37 h]
  rfl
theorem v56 (h : Reads V0 s j) : res_main_while0b_v56 V0 = b84 j s := by
  unfold res_main_while0b_v56
  rw [v52 h, v32 h]
  rfl
theorem v58_1 (h : Reads V0 s j) : res_main_while0b_v58_1 V0 = b88 j s := by
  unfold res_main_while0b_v58_1
  rfl
theorem v59 (h : Reads V0 s j) : res_main_while0b_v59 V0 = b93 j s := by
  unfold res_main_while0b_v59
  rw [v29 h, v33 h, v53 h]
  rfl
theorem v60 (h : Reads V0 s j) : res_main_while0b_v60 V0 = b94 j s := by
  unfold res_main_while0b_v60
  rw [v38 h]
  rfl
theorem v61 (h : Reads V0 s j) : res_main_while0b_v61 V0 = b95 j s := by
  unfold res_main_while0b_v61
  rw [v60 h]
  rfl
theorem v64 (h : Reads V0 s j) : res_main_while0b_v64 V0 = b98 j s := by
  unfold res_main_while0b_v64
  rw [v29 h, v52 h, v61 h]
  rfl
theorem v65 (h : Reads V0 s j) : res_main_while0b_v65 V0 = b99 j s := by
  unfold res_main_while0b_v65
  rw [v31 h, v32 h]
  rfl
theorem v66 (h : Reads V0 s j) : res_main_while0b_v66 V0 = b100 j s := by
  unfold res_main_while0b_v66
  rw [v65 h, v49 h]
  rfl
theorem v67 (h : Reads V0 s j) : res_main_while0b_v67 V0 = b101 j s := by
  unfold res_main_while0b_v67
  rw [v38 h]
  rfl
theorem v68 (h : Reads V0 s j) : res_main_while0b_v68 V0 = b102 j s := by
  unfold res_main_while0b_v68
  rw [v67 h]
  rfl
theorem v70 (h : Reads V0 s j) : res_main_while0b_v70 V0 = b104 j s := by
  unfold res_main_while0b_v70
  rw [v31 h, v68 h]
  rfl
theorem v72 (h : Reads V0 s j) : res_main_while0b_v72 V0 = b106 j s := by
  unfold res_main_while0b_v72
  rw [v38 h]
  rfl
theorem v76 (h : Reads V0 s j) : res_main_while0b_v76 V0 = b110 j s := by
  unfold res_main_while0b_v76
  rw [v72 h, v38 h]
  rfl
theorem v77 (h : Reads V0 s j) : res_main_while0b_v77 V0 = b111 j s := by
  unfold res_main_while0b_v77
  rw [v76 h]
  rfl
theorem v79 (h : Reads V0 s j) : res_main_while0b_v79 V0 = b113 j s := by
  unfold res_main_while0b_v79
  rw [v32 h, v77 h]
  rfl
theorem v81 (h : Reads V0 s j) : res_main_while0b_v81 V0 = b115 j s := by
  unfold res_main_while0b_v81
  rw [v59 h, v64 h, v30 h]
  rfl
theorem v85 (h : Reads V0 s j) : res_main_while0b_v85 V0 = b119 j s := by
  unfold res_main_while0b_v85
  rw [v72 h]
  rfl
theorem v86 (h : Reads V0 s j) : res_main_while0b_v86 V0 = b120 j s := by
  unfold res_main_while0b_v86
  rw [v85 h]
  rfl
theorem v94 (h : Reads V0 s j) : res_main_while0b_v94 V0 = b128 j s := by
  unfold res_main_while0b_v94
  rw [v81 h, h.f_8]
  rfl
theorem v104 (h : Reads V0 s j) : res_main_while0b_v104 V0 = b140 j s := by
  unfold res_main_while0b_v104
  rw [v79 h, v35 h, v66 h, h.f_8]
  rfl
theorem v105 (h : Reads V0 s j) : res_main_while0b_v105 V0 = b141 j s := by
  unfold res_main_while0b_v105
  rw [v35 h, v81 h]
  rfl
theorem v109 (h : Reads V0 s j) : res_main_while0b_v109 V0 = b145 j s := by
  unfold res_main_while0b_v109
  rw [v35 h, v30 h]
  rfl
theorem v110 (h : Reads V0 s j) : res_main_while0b_v110 V0 = b146 j s := by
  unfold res_main_while0b_v110
  rw [v104 h]
  rfl
theorem v121 (h : Reads V0 s j) : res_main_while0b_v121 V0 = b159 j s := by
  unfold res_main_while0b_v121
  rw [v32 h, v94 h, v76 h]
  rfl
theorem v139 (h : Reads V0 s j) : res_main_while0b_v139 V0 = b182 j s := by
  unfold res_main_while0b_v139
  rw [v105 h, v49 h]
  rfl
theorem v145 (h : Reads V0 s j) : res_main_while0b_v145 V0 = b188 j s := by
  unfold res_main_while0b_v145
  rw [v29 h, v110 h, v30 h]
  rfl
theorem v159 (h : Reads V0 s j) : res_main_while0b_v159 V0 = b205 j s := by
  unfold res_main_while0b_v159
  rw [v29 h, v104 h]
  rfl
theorem v165 (h : Reads V0 s j) : res_main_while0b_v165 V0 = b214 j s := by
  unfold res_main_while0b_v165
  rw [v58_1 h, v145 h, v64 h, v159 h, v59 h]
  rfl
theorem v168 (h : Reads V0 s j) : res_main_while0b_v168 V0 = b217 j s := by
  unfold res_main_while0b_v168
  rw [v165 h, v49 h]
  rfl
theorem v172 (h : Reads V0 s j) : res_main_while0b_v172 V0 = b221 j s := by
  unfold res_main_while0b_v172
  rw [v145 h, v61 h, v168 h, v32 h]
  rfl
theorem v188 (h : Reads V0 s j) : res_main_while0b_v188 V0 = b243 j s := by
  unfold res_main_while0b_v188
  rw [v48_1 h, v65 h, v105 h, v56 h, v165 h, v49 h]
  rfl

/-! ## One trip -/

theorem next_8 (h : Reads V0 s j) : Cert.ReferenceIdeal.Value.step_main_v20_8 V0 = (step j s).main_v20_8 := by
  unfold Cert.ReferenceIdeal.Value.step_main_v20_8
  rw [v86 h, v35 h, v70 h, v110 h, v64 h, h.f_8]
  rfl
theorem next_9 (h : Reads V0 s j) : Cert.ReferenceIdeal.Value.step_main_v20_9 V0 = (step j s).main_v20_9 := by
  unfold Cert.ReferenceIdeal.Value.step_main_v20_9
  rw [v109 h, v68 h, v139 h, v32 h, v94 h, v77 h, v31 h, v168 h, v52 h, v172 h, v50 h, v159 h, v53 h, v28 h, h.f_9]
  rfl
theorem next_10 (h : Reads V0 s j) : Cert.ReferenceIdeal.Value.step_main_v20_10 V0 = (step j s).main_v20_10 := by
  unfold Cert.ReferenceIdeal.Value.step_main_v20_10
  rw [v33 h, v159 h, v32 h, v172 h, v121 h, v30 h, v85 h, v31 h, v109 h, v67 h, v52 h, v145 h, v60 h, v188 h, v28 h, h.f_10, h.f_8]
  rfl
theorem next_7 (h : Reads V0 s j) : Cert.ReferenceIdeal.Value.step_main_v20_7 V0 = constantI S_ 32 (BitVec.ofNat 32 (j + 1)) := by
  unfold Cert.ReferenceIdeal.Value.step_main_v20_7
  rw [h.n_7]
  exact funext fun _ => (BitVec.ofNat_add j 1).symm

theorem Reads.next (h : Reads V0 s j) : Reads (STEP V0) (step j s) (j + 1) where
  n_7 := (STEP_main_v20_7 V0).trans (next_7 h)
  f_8 := (STEP_main_v20_8 V0).trans (next_8 h)
  f_9 := (STEP_main_v20_9 V0).trans (next_9 h)
  f_10 := (STEP_main_v20_10 V0).trans (next_10 h)
  f_0 := (STEP_main_v20_0 V0).trans h.f_0
  f_1 := (STEP_main_v20_1 V0).trans h.f_1
  f_2 := (STEP_main_v20_2 V0).trans h.f_2
  f_3 := (STEP_main_v20_3 V0).trans h.f_3
  f_4 := (STEP_main_v20_4 V0).trans h.f_4
  f_5 := (STEP_main_v20_5 V0).trans h.f_5
  f_6 := (STEP_main_v20_6 V0).trans h.f_6

/-! ## The run -/

/-- The state before the first trip. -/
def start (m : (ℓ : Loc nD τ sig) → Buf (Elt F) ℓ) (c : Dev nD) : State F :=
  init (m ((c.tc : Thread nD τ).loc main_arg3)) (m ((c.tc : Thread nD τ).loc main_arg2)) (m ((c.tc : Thread nD τ).loc main_arg0)) (m ((c.tc : Thread nD τ).loc main_arg1)) (m ((c.tc : Thread nD τ).loc main_arg4))

/-- The state before trip `n`. -/
def state (m : (ℓ : Loc nD τ sig) → Buf (Elt F) ℓ) (c : Dev nD) : ℕ → State F
  | 0 => start m c
  | n + 1 => step n (state m c n)

variable (m : (ℓ : Loc nD τ sig) → Buf (Elt F) ℓ) (c : Dev nD)

set_option maxRecDepth 65536 in
set_option maxHeartbeats 400000 in
theorem start_reads : Reads (entryContents preI m c) (start m c) 0 := by
  unfold start
  constructor <;> (simp only [entryContents, afterL_cons, afterL_nil]; after_reads_simp) <;> rfl

theorem state_reads (k : ℕ) : Reads (STEP^[k] (entryContents preI m c)) (state m c k) k := by
  induction k with
  | zero => exact start_reads m c
  | succ k ih =>
    rw [Function.iterate_succ_apply']
    exact ih.next

theorem first_out (h : Reads V0 s j) : out_main_v24 V0 = R_main_v24 s := by
  unfold out_main_v24
  rw [h.f_9]
  rfl
theorem second_out (h : Reads V0 s j) : out_main_v26 V0 = R_main_v26 s := by
  unfold out_main_v26
  rw [h.f_10]
  rfl

/-- Every run of the reference ends with its results at the fields of the state after 130 trips, its arguments as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v24) = R_main_v24 (state m c 130)
      ∧ r.2.mem ((c.tc : Thread nD τ).loc main_v26) = R_main_v26 (state m c 130))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨⟨(h c).1.trans (first_out (state_reads m c 130)), (h c).2.1.trans (second_out (state_reads m c 130))⟩, (h c).2.2⟩) (Value.run m ρ)

end Cert.RefRun

end
-- ==== Proof.RefData.lean ====
/-
  The reference's layout at coordinates: what its host lines hand the loop (chunks and heads of the argument arrays), what
  a trip's slices read and its updates write, and what the results are of the stacked blocks.
-/
module

public import proofs.«01_k».proof.Proof.Data
public import proofs.«01_k».proof.Proof.Gen.ReferenceIdeal.Step
public import Idealize.ShloMosaic.Lib.Pointwise
public import Idealize.ShloMosaic.Lib.Pipeline.Value
public import Idealize.ShloMosaic.Lib.ValueLayout
public import Idealize.ShloMosaic.Lib.WordCmp

@[expose] public section

noncomputable section

namespace Cert.RefData

open Idealize.ShloMosaic Cert.Data Cert.ReferenceIdeal Cert.ReferenceIdeal.Gen Cert.ReferenceIdeal.Step

/-! ## A chunk sliced out, a chunk written back -/

section
variable {α : Type} {A B C : ℕ}

theorem slice4 (x : (⟨4, ![130, A, B, C]⟩ : Shape).Idx → α) (st : Fin 4 → Int) (h) (h') (n : Fin 130)
    (e : ∀ a, st a = ((![n.val, 0, 0, 0] : Fin 4 → ℕ) a : Int)) (i : Fin A) (j : Fin B) (k : Fin C) :
    shapeCast ⟨3, ![A, B, C]⟩ (Host.dynamicSlice ⟨4, ![1, A, B, C]⟩ x st h) h' (ValueIdx.ix3 i j k) = x (ValueIdx.ix4 n i j k) := by
  have hk : (⟨4, ![130, A, B, C]⟩ : Shape).Slices ![n.val, 0, 0, 0] ⟨4, ![1, A, B, C]⟩ := ⟨rfl, fun a => by
    match a with
    | ⟨0, _⟩ => show n.val + 1 ≤ 130; omega
    | ⟨1, _⟩ => show 0 + A ≤ A; omega
    | ⟨2, _⟩ => show 0 + B ≤ B; omega
    | ⟨3, _⟩ => show 0 + C ≤ C; omega⟩
  rw [WordCmp.dynamicSlice_eq_extract _ x st h ![n.val, 0, 0, 0] hk e]
  refine (ValueIdx.shapeCast_1abc_abc_apply _ _ i j k).trans (congrArg x (funext fun a => Fin.ext ?_))
  match a with
  | ⟨0, _⟩ => show n.val + 0 = n.val; omega
  | ⟨1, _⟩ => show 0 + i.val = i.val; omega
  | ⟨2, _⟩ => show 0 + j.val = j.val; omega
  | ⟨3, _⟩ => show 0 + k.val = k.val; omega

theorem slice3 (x : (⟨3, ![130, A, B]⟩ : Shape).Idx → α) (st : Fin 3 → Int) (h) (h') (n : Fin 130)
    (e : ∀ a, st a = ((![n.val, 0, 0] : Fin 3 → ℕ) a : Int)) (i : Fin A) (j : Fin B) :
    shapeCast ⟨2, ![A, B]⟩ (Host.dynamicSlice ⟨3, ![1, A, B]⟩ x st h) h' (ValueIdx.ix2 i j) = x (ValueIdx.ix3 n i j) := by
  have hk : (⟨3, ![130, A, B]⟩ : Shape).Slices ![n.val, 0, 0] ⟨3, ![1, A, B]⟩ := ⟨rfl, fun a => by
    match a with
    | ⟨0, _⟩ => show n.val + 1 ≤ 130; omega
    | ⟨1, _⟩ => show 0 + A ≤ A; omega
    | ⟨2, _⟩ => show 0 + B ≤ B; omega⟩
  rw [WordCmp.dynamicSlice_eq_extract _ x st h ![n.val, 0, 0] hk e]
  refine (ValueIdx.shapeCast_1ab_ab_apply _ _ i j).trans (congrArg x (funext fun a => Fin.ext ?_))
  match a with
  | ⟨0, _⟩ => show n.val + 0 = n.val; omega
  | ⟨1, _⟩ => show 0 + i.val = i.val; omega
  | ⟨2, _⟩ => show 0 + j.val = j.val; omega

end

section
variable {α : Type} {A B C D : ℕ}

/-- A block of the stack after a block has been written: the new block at its own place, the others as they were. -/
theorem write5 (x : (⟨5, ![130, A, B, C, D]⟩ : Shape).Idx → α) (u : (⟨5, ![1, A, B, C, D]⟩ : Shape).Idx → α) (st : Fin 5 → Int) (h) (n : Fin 130)
    (e : ∀ a, st a = ((![n.val, 0, 0, 0, 0] : Fin 5 → ℕ) a : Int)) (r : Fin 130) (i : Fin A) (j : Fin B) (k : Fin C) (l : Fin D) :
    Host.dynamicUpdateSlice x u st h (ValueIdx.ix5 r i j k l) = if r = n then u (ValueIdx.ix5 0 i j k l) else x (ValueIdx.ix5 r i j k l) := by
  have hk : (⟨5, ![130, A, B, C, D]⟩ : Shape).Slices ![n.val, 0, 0, 0, 0] ⟨5, ![1, A, B, C, D]⟩ := ⟨rfl, fun a => by
    match a with
    | ⟨0, _⟩ => show n.val + 1 ≤ 130; omega
    | ⟨1, _⟩ => show 0 + A ≤ A; omega
    | ⟨2, _⟩ => show 0 + B ≤ B; omega
    | ⟨3, _⟩ => show 0 + C ≤ C; omega
    | ⟨4, _⟩ => show 0 + D ≤ D; omega⟩
  rw [WordCmp.dynamicUpdateSlice_eq_update x u st h ![n.val, 0, 0, 0, 0] hk e]
  unfold updateSlice
  by_cases hr : r = n
  · subst hr
    rw [if_pos rfl]
    refine (dif_pos fun a => ?_).trans (congrArg u (funext fun a => Fin.ext ?_))
    · match a with
      | ⟨0, _⟩ => exact ⟨le_refl r.val, (show r.val < r.val + 1 by omega)⟩
      | ⟨1, _⟩ => exact ⟨Nat.zero_le _, (show i.val < 0 + A by omega)⟩
      | ⟨2, _⟩ => exact ⟨Nat.zero_le _, (show j.val < 0 + B by omega)⟩
      | ⟨3, _⟩ => exact ⟨Nat.zero_le _, (show k.val < 0 + C by omega)⟩
      | ⟨4, _⟩ => exact ⟨Nat.zero_le _, (show l.val < 0 + D by omega)⟩
    · match a with
      | ⟨0, _⟩ => show r.val - r.val = 0; omega
      | ⟨1, _⟩ => show i.val - 0 = i.val; omega
      | ⟨2, _⟩ => show j.val - 0 = j.val; omega
      | ⟨3, _⟩ => show k.val - 0 = k.val; omega
      | ⟨4, _⟩ => show l.val - 0 = l.val; omega
  · rw [if_neg hr]
    refine dif_neg fun hin => hr (Fin.ext ?_)
    have h0 : n.val ≤ r.val ∧ r.val < n.val + 1 := hin 0
    omega

theorem write3 (x : (⟨3, ![130, A, B]⟩ : Shape).Idx → α) (u : (⟨3, ![1, A, B]⟩ : Shape).Idx → α) (st : Fin 3 → Int) (h) (n : Fin 130)
    (e : ∀ a, st a = ((![n.val, 0, 0] : Fin 3 → ℕ) a : Int)) (r : Fin 130) (i : Fin A) (j : Fin B) :
    Host.dynamicUpdateSlice x u st h (ValueIdx.ix3 r i j) = if r = n then u (ValueIdx.ix3 0 i j) else x (ValueIdx.ix3 r i j) := by
  have hk : (⟨3, ![130, A, B]⟩ : Shape).Slices ![n.val, 0, 0] ⟨3, ![1, A, B]⟩ := ⟨rfl, fun a => by
    match a with
    | ⟨0, _⟩ => show n.val + 1 ≤ 130; omega
    | ⟨1, _⟩ => show 0 + A ≤ A; omega
    | ⟨2, _⟩ => show 0 + B ≤ B; omega⟩
  rw [WordCmp.dynamicUpdateSlice_eq_update x u st h ![n.val, 0, 0] hk e]
  unfold updateSlice
  by_cases hr : r = n
  · subst hr
    rw [if_pos rfl]
    refine (dif_pos fun a => ?_).trans (congrArg u (funext fun a => Fin.ext ?_))
    · match a with
      | ⟨0, _⟩ => exact ⟨le_refl r.val, (show r.val < r.val + 1 by omega)⟩
      | ⟨1, _⟩ => exact ⟨Nat.zero_le _, (show i.val < 0 + A by omega)⟩
      | ⟨2, _⟩ => exact ⟨Nat.zero_le _, (show j.val < 0 + B by omega)⟩
    · match a with
      | ⟨0, _⟩ => show r.val - r.val = 0; omega
      | ⟨1, _⟩ => show i.val - 0 = i.val; omega
      | ⟨2, _⟩ => show j.val - 0 = j.val; omega
  · rw [if_neg hr]
    refine dif_neg fun hin => hr (Fin.ext ?_)
    have h0 : n.val ≤ r.val ∧ r.val < n.val + 1 := hin 0
    omega

end

/-! ## What the loop is handed -/

variable (A0 : FVec Ideal SQ .f32) (A1 : FVec Ideal SG .f32) (A4 : FVec Ideal SD .f32)

/-- A token-major array cut into chunks and heads. -/
theorem heads (X : FVec Ideal SD .f32) (c : Fin 130) (h : Fin 8) (i : Fin 64) (j : Fin 128) :
    transpose S130x8x64x128 [0, 2, 1, 3] (shapeCast S130x64x8x128 X shapeCasts_S8320x1024_S130x64x8x128) transposes_S130x64x8x128_S130x8x64x128_0_2_1_3
      (ValueIdx.ix4 c h i j) = X (ValueIdx.ix2 (tok c i) (lane h j)) := by
  refine (transpose_apply _ _ _ _ (ValueIdx.ix4 c i h j) fun b => by
    match b with | ⟨0, _⟩ => rfl | ⟨1, _⟩ => rfl | ⟨2, _⟩ => rfl | ⟨3, _⟩ => rfl).trans (shapeCast_apply X _ _ _ ?_)
  rw [Shape.rowMajor_val_four, Shape.rowMajor_val_two]
  show (64 * c.val + i.val) * 1024 + (128 * h.val + j.val) = ((c.val * 64 + i.val) * 8 + h.val) * 128 + j.val
  omega

theorem part0 (p : Fin 3) (off : Fin 3 → ℕ) (ho : off = ![p.val, 0, 0]) (hs) (hc) (r : Fin 8320) (l : Fin 1024) :
    shapeCast S8320x1024 (extractStridedSlice S1x8320x1024 off A0 hs) hc (ValueIdx.ix2 r l) = A0 (ValueIdx.ix3 p r l) := by
  subst ho
  refine (ValueIdx.shapeCast_1ab_ab_apply _ _ r l).trans (congrArg A0 (funext fun a => Fin.ext ?_))
  match a with
  | ⟨0, _⟩ => show p.val + 0 = p.val; omega
  | ⟨1, _⟩ => show 0 + r.val = r.val; omega
  | ⟨2, _⟩ => show 0 + l.val = l.val; omega

theorem q_apply (c : Fin 130) (h : Fin 8) (i : Fin 64) (j : Fin 128) :
    A_main_v3 (F := Ideal) A0 A1 A4 (ValueIdx.ix4 c h i j) = A0 (ValueIdx.ix3 0 (tok c i) (lane h j)) := by
  unfold A_main_v3 A_main_v2
  exact (heads _ c h i j).trans (part0 A0 0 _ rfl _ _ _ _)
theorem k_apply (c : Fin 130) (h : Fin 8) (i : Fin 64) (j : Fin 128) :
    A_main_v7 (F := Ideal) A0 A1 A4 (ValueIdx.ix4 c h i j) = A0 (ValueIdx.ix3 1 (tok c i) (lane h j)) := by
  unfold A_main_v7 A_main_v6
  exact (heads _ c h i j).trans (part0 A0 1 _ rfl _ _ _ _)
theorem v_apply (c : Fin 130) (h : Fin 8) (i : Fin 64) (j : Fin 128) :
    A_main_v11 (F := Ideal) A0 A1 A4 (ValueIdx.ix4 c h i j) = A0 (ValueIdx.ix3 2 (tok c i) (lane h j)) := by
  unfold A_main_v11 A_main_v10
  exact (heads _ c h i j).trans (part0 A0 2 _ rfl _ _ _ _)
theorem d_apply (c : Fin 130) (h : Fin 8) (i : Fin 64) (j : Fin 128) :
    A_main_v16 (F := Ideal) A0 A1 A4 (ValueIdx.ix4 c h i j) = A4 (ValueIdx.ix2 (tok c i) (lane h j)) := by
  unfold A_main_v16 A_main_v15
  exact heads A4 c h i j
theorem g_apply (c : Fin 130) (l : Fin 16) (i : Fin 64) :
    A_main_v14 (F := Ideal) A0 A1 A4 (ValueIdx.ix3 c l i) = A1 (ValueIdx.ix2 (tok c i) ⟨l.val, by omega⟩) := by
  unfold A_main_v14 A_main_v13 A_main_v12
  refine (ValueIdx.transpose_ix3_021_apply _ _ c l i).trans ((shapeCast_apply _ _ _ (ValueIdx.ix2 (tok c i) l) ?_).trans (congrArg A1 (funext fun a => Fin.ext ?_)))
  · rw [Shape.rowMajor_val_three, Shape.rowMajor_val_two]
    show (64 * c.val + i.val) * 16 + l.val = (c.val * 64 + i.val) * 16 + l.val
    omega
  · match a with
    | ⟨0, _⟩ => show 0 + (64 * c.val + i.val) = 64 * c.val + i.val; omega
    | ⟨1, _⟩ => show 0 + l.val = l.val; omega

/-! ## What a trip stacks -/

variable (j : ℕ) (s : State Ideal)

theorem add_unit (X : FVec Ideal S8x64x128 .f32) (hb) (h : Fin 8) (i : Fin 64) (l : Fin 128) :
    broadcastInDim S1x8x64x128 ![1, 2, 3] hb X (ValueIdx.ix4 0 h i l) = X (ValueIdx.ix3 h i l) :=
  broadcastInDim_apply _ _ _ _ _ fun a => by match a with | ⟨0, _⟩ => rfl | ⟨1, _⟩ => rfl | ⟨2, _⟩ => rfl

theorem rows_new (p : Fin 3) (h : Fin 8) (i : Fin 64) (l : Fin 128) :
    b265 j s (ValueIdx.ix5 0 p h i l) = (match p with | 0 => b186 j s | 1 => b236 j s | 2 => b227 j s : FVec Ideal S8x64x128 .f32) (ValueIdx.ix3 h i l) := by
  unfold b265
  refine (broadcastInDim_apply _ _ _ _ (ValueIdx.ix4 p h i l) fun a => by match a with | ⟨0, _⟩ => rfl | ⟨1, _⟩ => rfl | ⟨2, _⟩ => rfl | ⟨3, _⟩ => rfl).trans ?_
  unfold b263
  match p with
  | ⟨0, _⟩ =>
    refine (concatenate_apply_piece (t := S3x8x64x128) 0 [⟨S1x8x64x128, b260 j s⟩, ⟨S1x8x64x128, b261 j s⟩, ⟨S1x8x64x128, b262 j s⟩] _ _ 0 (show 0 < 3 by decide) S1x8x64x128 (b260 j s) rfl rfl 0 rfl (ValueIdx.ix4 0 h i l) ?_ rfl).trans (add_unit _ _ h i l)
    intro b hb
    match b with | ⟨0, _⟩ => exact absurd rfl hb | ⟨1, _⟩ => rfl | ⟨2, _⟩ => rfl | ⟨3, _⟩ => rfl
  | ⟨1, _⟩ =>
    refine (concatenate_apply_piece (t := S3x8x64x128) 0 [⟨S1x8x64x128, b260 j s⟩, ⟨S1x8x64x128, b261 j s⟩, ⟨S1x8x64x128, b262 j s⟩] _ _ 1 (show 1 < 3 by decide) S1x8x64x128 (b261 j s) rfl rfl 1 rfl (ValueIdx.ix4 0 h i l) ?_ rfl).trans (add_unit _ _ h i l)
    intro b hb
    match b with | ⟨0, _⟩ => exact absurd rfl hb | ⟨1, _⟩ => rfl | ⟨2, _⟩ => rfl | ⟨3, _⟩ => rfl
  | ⟨2, _⟩ =>
    refine (concatenate_apply_piece (t := S3x8x64x128) 0 [⟨S1x8x64x128, b260 j s⟩, ⟨S1x8x64x128, b261 j s⟩, ⟨S1x8x64x128, b262 j s⟩] _ _ 2 (show 2 < 3 by decide) S1x8x64x128 (b262 j s) rfl rfl 2 rfl (ValueIdx.ix4 0 h i l) ?_ rfl).trans (add_unit _ _ h i l)
    intro b hb
    match b with | ⟨0, _⟩ => exact absurd rfl hb | ⟨1, _⟩ => rfl | ⟨2, _⟩ => rfl | ⟨3, _⟩ => rfl

theorem gates_new_b (h : Fin 8) (i : Fin 64) : b271 j s (ValueIdx.ix3 0 ⟨h.val, by omega⟩ i) = b239 j s (ValueIdx.ix2 h i) := by
  unfold b271
  refine (broadcastInDim_apply _ _ _ _ (ValueIdx.ix2 ⟨h.val, by omega⟩ i) fun a => by match a with | ⟨0, _⟩ => rfl | ⟨1, _⟩ => rfl).trans ?_
  unfold b264
  exact concatenate_pair_apply_left (t := S16x64) (s₁ := S8x64) (s₂ := S8x64) 0 (b239 j s) (b259 j s) _ (ValueIdx.ix2 ⟨h.val, by omega⟩ i) rfl (ValueIdx.ix2 h i) fun b => by match b with | ⟨0, _⟩ => rfl | ⟨1, _⟩ => rfl
theorem gates_new_g (h : Fin 8) (i : Fin 64) : b271 j s (ValueIdx.ix3 0 ⟨h.val + 8, by omega⟩ i) = b259 j s (ValueIdx.ix2 h i) := by
  unfold b271
  refine (broadcastInDim_apply _ _ _ _ (ValueIdx.ix2 ⟨h.val + 8, by omega⟩ i) fun a => by match a with | ⟨0, _⟩ => rfl | ⟨1, _⟩ => rfl).trans ?_
  unfold b264
  refine concatenate_pair_apply_right (t := S16x64) (s₁ := S8x64) (s₂ := S8x64) 0 (b239 j s) (b259 j s) _ (ValueIdx.ix2 ⟨h.val + 8, by omega⟩ i) rfl rfl (ValueIdx.ix2 h i) ?_ rfl
  intro b hb
  match b with | ⟨0, _⟩ => exact absurd rfl hb | ⟨1, _⟩ => rfl

/-! ## The results -/

theorem rows_result (p : Fin 3) (c : Fin 130) (h : Fin 8) (i : Fin 64) (l : Fin 128) :
    R_main_v24 s (ValueIdx.ix3 p (tok c i) (lane h l)) = s.main_v20_9 (ValueIdx.ix5 c p h i l) := by
  unfold R_main_v24
  refine (shapeCast_apply _ _ _ (ValueIdx.ix5 p c i h l) ?_).trans (transpose_apply _ _ _ _ _ fun b => by
    match b with | ⟨0, _⟩ => rfl | ⟨1, _⟩ => rfl | ⟨2, _⟩ => rfl | ⟨3, _⟩ => rfl | ⟨4, _⟩ => rfl)
  rw [Shape.rowMajor_val_five, Shape.rowMajor_val_three]
  show (((p.val * 130 + c.val) * 64 + i.val) * 8 + h.val) * 128 + l.val = (p.val * 8320 + (64 * c.val + i.val)) * 1024 + (128 * h.val + l.val)
  omega

theorem gates_result (c : Fin 130) (i : Fin 64) (l : Fin 16) :
    R_main_v26 s (ValueIdx.ix2 (tok c i) ⟨l.val, by omega⟩) = s.main_v20_10 (ValueIdx.ix3 c l i) := by
  unfold R_main_v26
  refine (concatenate_pair_apply_left (t := S8320x128) (s₁ := S8320x16) (s₂ := S8320x112) 1 _ _ _ (ValueIdx.ix2 (tok c i) ⟨l.val, by omega⟩) rfl (ValueIdx.ix2 (tok c i) l) fun b => by match b with | ⟨0, _⟩ => rfl | ⟨1, _⟩ => rfl).trans ?_
  refine (shapeCast_apply _ _ _ (ValueIdx.ix3 c i l) ?_).trans (ValueIdx.transpose_ix3_021_apply _ _ c i l)
  rw [Shape.rowMajor_val_three, Shape.rowMajor_val_two]
  show (c.val * 64 + i.val) * 16 + l.val = (64 * c.val + i.val) * 16 + l.val
  omega

theorem gates_result_rest (r : Fin 8320) (l : Fin 128) (hl : 16 ≤ l.val) : R_main_v26 s (ValueIdx.ix2 r l) = (0 : EReal) := by
  unfold R_main_v26
  refine (concatenate_pair_apply_right (t := S8320x128) (s₁ := S8320x16) (s₂ := S8320x112) 1 _ _ _ (ValueIdx.ix2 r l) rfl rfl (ValueIdx.ix2 (n0 := 8320) (n1 := 112) r ⟨l.val - 16, by omega⟩) ?_ (show l.val - 16 + 16 = l.val by omega)).trans ?_
  · intro b hb
    match b with | ⟨0, _⟩ => rfl | ⟨1, _⟩ => exact absurd rfl hb
  · exact Ideal.ofBits_zero_f32

end Cert.RefData

end
-- ==== Proof.RefOps.lean ====
/-
  REAL READINGS of the reference's arrays, one head at a time: `Rep3 h X M` says that slice `h` of a stack of matrices holds
  the real matrix `M`, `RepV h X a` that row `h` of a stack of vectors holds `a`. One lemma for each operation of the
  reference: products head by head, transposes, copies of a column or a row, sums, running sums, masks.
-/
module

public import proofs.«01_k».proof.Proof.Chunk
public import proofs.«01_k».proof.Proof.Gen.ReferenceIdeal.Step
public import Idealize.ShloMosaic.Lib.Pointwise

@[expose] public section

noncomputable section

namespace Cert.RefOps

open Idealize.ShloMosaic Matrix Cert.Chunk Cert.ReferenceIdeal Cert.ReferenceIdeal.Gen

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type*} [Fintype ι] {f : ι → EReal} {a : ι → ℝ} (h : ∀ i, f i = (a i : EReal)) : ∑ i, f i = ((∑ i, a i : ℝ) : EReal) := by
  rw [coe_sum]; exact Finset.sum_congr rfl fun i _ => h i

theorem sum_mul_coe {ι : Type*} [Fintype ι] {f g : ι → EReal} {a b : ι → ℝ} (hf : ∀ i, f i = (a i : EReal)) (hg : ∀ i, g i = (b i : EReal)) :
    ∑ i, f i * g i = ((∑ i, a i * b i : ℝ) : EReal) := sum_coe fun i => by rw [hf, hg, EReal.coe_mul]

/-- Slice `h` of `X` holds the matrix `M`. -/
def Rep3 {H m n : ℕ} (h : Fin H) (X : FVec Ideal ⟨3, ![H, m, n]⟩ .f32) (M : Matrix (Fin m) (Fin n) ℝ) : Prop :=
  ∀ i j, X (ValueIdx.ix3 h i j) = ((M i j : ℝ) : EReal)
/-- Row `h` of `X` holds the vector `a`. -/
def RepV {H n : ℕ} (h : Fin H) (X : FVec Ideal ⟨2, ![H, n]⟩ .f32) (a : Fin n → ℝ) : Prop :=
  ∀ i, X (ValueIdx.ix2 h i) = ((a i : ℝ) : EReal)
/-- Entry `h` of `X` is the number `a`. -/
def RepN {H : ℕ} (h : Fin H) (X : FVec Ideal ⟨1, ![H]⟩ .f32) (a : ℝ) : Prop := X (ValueIdx.ix1 h) = ((a : ℝ) : EReal)

section
variable {H m n : ℕ} {h : Fin H} {X Y : FVec Ideal ⟨3, ![H, m, n]⟩ .f32} {A B : Matrix (Fin m) (Fin n) ℝ}

theorem Rep3.congr (hX : Rep3 h X A) (e : A = B) : Rep3 h X B := e ▸ hX
theorem Rep3.addf (hX : Rep3 h X A) (hY : Rep3 h Y B) : Rep3 h (addf X Y) (A + B) := fun i j => by
  show X _ + Y _ = _
  rw [hX, hY, Matrix.add_apply, EReal.coe_add]
theorem Rep3.mulf (hX : Rep3 h X A) (hY : Rep3 h Y B) : Rep3 h (mulf X Y) (ew A B) := fun i j => by
  show X _ * Y _ = _
  rw [hX, hY, ew_apply, EReal.coe_mul]
theorem Rep3.subf (hX : Rep3 h X A) (hY : Rep3 h Y B) : Rep3 h (subf X Y) (A - B) := fun i j => by
  show X _ - Y _ = _
  rw [hX, hY, Matrix.sub_apply, EReal.coe_sub]
theorem Rep3.negf (hX : Rep3 h X A) : Rep3 h (Host.negf X) (-A) := fun i j => by
  show -X _ = _
  rw [hX, Matrix.neg_apply, EReal.coe_neg]
/-- Each row times its own number. -/
theorem Rep3.rows {a : Fin m → ℝ} (hX : Rep3 h X A) (hY : Rep3 h Y (of fun i _ => a i)) : Rep3 h (Idealize.ShloMosaic.mulf X Y) (rows A a) := (hX.mulf hY).congr rfl
end

section
variable {H n : ℕ} {h : Fin H} {X Y : FVec Ideal ⟨2, ![H, n]⟩ .f32} {a b : Fin n → ℝ}
theorem RepV.congr (hX : RepV h X a) (e : a = b) : RepV h X b := e ▸ hX
theorem RepV.addf (hX : RepV h X a) (hY : RepV h Y b) : RepV h (addf X Y) (fun i => a i + b i) := fun i => by
  show X _ + Y _ = _
  rw [hX, hY, EReal.coe_add]
theorem RepV.subf (hX : RepV h X a) (hY : RepV h Y b) : RepV h (subf X Y) (fun i => a i - b i) := fun i => by
  show X _ - Y _ = _
  rw [hX, hY, EReal.coe_sub]
theorem RepV.mulf (hX : RepV h X a) (hY : RepV h Y b) : RepV h (mulf X Y) (fun i => a i * b i) := fun i => by
  show X _ * Y _ = _
  rw [hX, hY, EReal.coe_mul]
theorem RepV.negf (hX : RepV h X a) : RepV h (Host.negf X) (fun i => -a i) := fun i => by
  show -X _ = _
  rw [hX, EReal.coe_neg]
theorem RepV.exp (hX : RepV h X a) : RepV h (Host.exp X) (fun i => Real.exp (a i)) := fun i => by
  show Ideal.exp (X _) = _
  rw [hX, Ideal.exp_coe]
end

variable {h : Fin 8}

/-! ## Products -/

theorem mm_nt {X Y : FVec Ideal S8x64x128 .f32} {A B : Matrix (Fin 64) (Fin 128) ℝ} (hX : Rep3 h X A) (hY : Rep3 h Y B) :
    Rep3 h (Host.dotGeneral dot_S8x64x128_S8x64x128_S8x64x64_2_2_1_1_0_0 none X Y) (A * Bᵀ) := fun i j => by
  simp only [pointwise]
  exact (zero_add _).trans (sum_mul_coe (fun k => hX i k) (fun k => hY j k))
theorem mm_sq {X : FVec Ideal S8x64x64 .f32} {Y : FVec Ideal S8x64x128 .f32} {A : Matrix (Fin 64) (Fin 64) ℝ} {B : Matrix (Fin 64) (Fin 128) ℝ}
    (hX : Rep3 h X A) (hY : Rep3 h Y B) : Rep3 h (Host.dotGeneral dot_S8x64x64_S8x64x128_S8x64x128_2_1_1_2_0_0 none X Y) (A * B) := fun i j => by
  simp only [pointwise]
  exact (zero_add _).trans (sum_mul_coe (fun k => hX i k) (fun k => hY k j))
theorem mm_sqT {X : FVec Ideal S8x64x64 .f32} {Y : FVec Ideal S8x64x128 .f32} {A : Matrix (Fin 64) (Fin 64) ℝ} {B : Matrix (Fin 64) (Fin 128) ℝ}
    (hX : Rep3 h X A) (hY : Rep3 h Y B) : Rep3 h (Host.dotGeneral dot_S8x64x64_S8x64x128_S8x64x128_1_1_2_2_0_0 none X Y) (Aᵀ * B) := fun i j => by
  simp only [pointwise]
  exact (zero_add _).trans (sum_mul_coe (fun k => hX k i) (fun k => hY k j))
theorem mm_state {X : FVec Ideal S8x64x128 .f32} {Y : FVec Ideal S8x128x128 .f32} {A : Matrix (Fin 64) (Fin 128) ℝ} {B : Matrix (Fin 128) (Fin 128) ℝ}
    (hX : Rep3 h X A) (hY : Rep3 h Y B) : Rep3 h (Host.dotGeneral dot_S8x64x128_S8x128x128_S8x64x128_2_1_1_2_0_0 none X Y) (A * B) := fun i j => by
  simp only [pointwise]
  exact (zero_add _).trans (sum_mul_coe (fun k => hX i k) (fun k => hY k j))
theorem mm_stateT {X : FVec Ideal S8x64x128 .f32} {Y : FVec Ideal S8x128x128 .f32} {A : Matrix (Fin 64) (Fin 128) ℝ} {B : Matrix (Fin 128) (Fin 128) ℝ}
    (hX : Rep3 h X A) (hY : Rep3 h Y B) : Rep3 h (Host.dotGeneral dot_S8x64x128_S8x128x128_S8x64x128_2_2_1_1_0_0 none X Y) (A * Bᵀ) := fun i j => by
  simp only [pointwise]
  exact (zero_add _).trans (sum_mul_coe (fun k => hX i k) (fun k => hY j k))
theorem mm_outer {X Y : FVec Ideal S8x64x128 .f32} {A B : Matrix (Fin 64) (Fin 128) ℝ} (hX : Rep3 h X A) (hY : Rep3 h Y B) :
    Rep3 h (Host.dotGeneral dot_S8x64x128_S8x64x128_S8x128x128_1_1_2_2_0_0 none X Y) (Aᵀ * B) := fun i j => by
  simp only [pointwise]
  exact (zero_add _).trans (sum_mul_coe (fun k => hX k i) (fun k => hY k j))
theorem mm_tt {X : FVec Ideal S8x128x128 .f32} {Y : FVec Ideal S8x64x128 .f32} {A : Matrix (Fin 128) (Fin 128) ℝ} {B : Matrix (Fin 64) (Fin 128) ℝ}
    (hX : Rep3 h X A) (hY : Rep3 h Y B) : Rep3 h (Host.dotGeneral dot_S8x128x128_S8x64x128_S8x128x64_1_2_2_1_0_0 none X Y) (Aᵀ * Bᵀ) := fun i j => by
  simp only [pointwise]
  exact (zero_add _).trans (sum_mul_coe (fun k => hX k i) (fun k => hY j k))
theorem mm_Snt {X : FVec Ideal S8x128x128 .f32} {Y : FVec Ideal S8x64x128 .f32} {A : Matrix (Fin 128) (Fin 128) ℝ} {B : Matrix (Fin 64) (Fin 128) ℝ}
    (hX : Rep3 h X A) (hY : Rep3 h Y B) : Rep3 h (Host.dotGeneral dot_S8x128x128_S8x64x128_S8x128x64_2_2_1_1_0_0 none X Y) (A * Bᵀ) := fun i j => by
  simp only [pointwise]
  exact (zero_add _).trans (sum_mul_coe (fun k => hX i k) (fun k => hY j k))
theorem mm_tn {X : FVec Ideal S8x64x128 .f32} {Y : FVec Ideal S8x64x64 .f32} {A : Matrix (Fin 64) (Fin 128) ℝ} {B : Matrix (Fin 64) (Fin 64) ℝ}
    (hX : Rep3 h X A) (hY : Rep3 h Y B) : Rep3 h (Host.dotGeneral dot_S8x64x128_S8x64x64_S8x128x64_1_1_2_2_0_0 none X Y) (Aᵀ * B) := fun i j => by
  simp only [pointwise]
  exact (zero_add _).trans (sum_mul_coe (fun k => hX k i) (fun k => hY k j))
theorem mm_back {X : FVec Ideal S8x64x128 .f32} {Y : FVec Ideal S8x128x64 .f32} {A : Matrix (Fin 64) (Fin 128) ℝ} {B : Matrix (Fin 128) (Fin 64) ℝ}
    (hX : Rep3 h X A) (hY : Rep3 h Y B) : Rep3 h (Host.dotGeneral dot_S8x64x128_S8x128x64_S8x64x64_2_1_1_2_0_0 none X Y) (A * B) := fun i j => by
  simp only [pointwise]
  exact (zero_add _).trans (sum_mul_coe (fun k => hX i k) (fun k => hY k j))

/-! ## Transposes and copies -/

theorem tr_rows {X : FVec Ideal S8x128x64 .f32} {A : Matrix (Fin 128) (Fin 64) ℝ} {p} (hX : Rep3 h X A) : Rep3 h (transpose S8x64x128 [0, 2, 1] X p) Aᵀ := fun i j => by
  simp only [pointwise]; exact hX j i
theorem tr_cols {X : FVec Ideal S8x64x128 .f32} {A : Matrix (Fin 64) (Fin 128) ℝ} {p} (hX : Rep3 h X A) : Rep3 h (transpose S8x128x64 [0, 2, 1] X p) Aᵀ := fun i j => by
  simp only [pointwise]; exact hX j i
theorem tr_state {X : FVec Ideal S8x128x128 .f32} {A : Matrix (Fin 128) (Fin 128) ℝ} {p} (hX : Rep3 h X A) : Rep3 h (transpose S8x128x128 [0, 2, 1] X p) Aᵀ := fun i j => by
  simp only [pointwise]; exact hX j i
theorem tr_sq {X : FVec Ideal S8x64x64 .f32} {A : Matrix (Fin 64) (Fin 64) ℝ} {p} (hX : Rep3 h X A) : Rep3 h (transpose S8x64x64 [0, 2, 1] X p) Aᵀ := fun i j => by
  simp only [pointwise]; exact hX j i

theorem wide {X : FVec Ideal S8x64 .f32} {a : Fin 64 → ℝ} {p q} (hX : RepV h X a) :
    Rep3 h (broadcastInDim S8x64x128 ![0, 1, 2] p (broadcastInDim S8x64x1 ![0, 1] q X)) (of fun i _ => a i) := fun i j => by
  simp only [pointwise]; exact hX i
theorem wideSq {X : FVec Ideal S8x64 .f32} {a : Fin 64 → ℝ} {p q} (hX : RepV h X a) :
    Rep3 h (broadcastInDim S8x64x64 ![0, 1, 2] p (broadcastInDim S8x64x1 ![0, 1] q X)) (of fun i _ => a i) := fun i j => by
  simp only [pointwise]; exact hX i
theorem downSq {X : FVec Ideal S8x64 .f32} {a : Fin 64 → ℝ} {p q} (hX : RepV h X a) :
    Rep3 h (broadcastInDim S8x64x64 ![0, 1, 2] p (broadcastInDim S8x1x64 ![0, 2] q X)) (of fun _ j => a j) := fun i j => by
  simp only [pointwise]; exact hX j
theorem overState {X : FVec Ideal S8 .f32} {a : ℝ} {p q} (hX : RepN h X a) :
    Rep3 h (broadcastInDim S8x128x128 ![0, 1, 2] p (broadcastInDim S8x1x1 ![0] q X)) (of fun _ _ => a) := fun i j => by
  simp only [pointwise]; exact hX
theorem overVec {X : FVec Ideal S8 .f32} {a : ℝ} {p q} (hX : RepN h X a) :
    RepV h (broadcastInDim S8x64 ![0, 1] p (broadcastInDim S8x1 ![0] q X)) (fun _ => a) := fun i => by
  simp only [pointwise]; exact hX
theorem lastOf {X : FVec Ideal S8x64 .f32} {a : Fin 64 → ℝ} {p q} (hX : RepV h X a) :
    RepN h (shapeCast S8 (extractStridedSlice S8x1 ![0, 63] X p) q) (a 63) := by
  unfold RepN
  simp only [pointwise]
  refine (congrArg X (funext fun k => Fin.ext ?_)).trans (hX 63)
  match k with
  | ⟨0, _⟩ => show 0 + h.val = h.val; omega
  | ⟨1, _⟩ => rfl

/-! ## Sums -/

theorem zero_S (z : FVec Ideal S_ .f32) (hz : z = constant S_ .f32 0x00000000#32) (i : S_.Idx) : z i = (0 : EReal) := by
  subst hz; exact Ideal.ofBits_zero_f32

theorem rowSums {X : FVec Ideal S8x64x128 .f32} {A : Matrix (Fin 64) (Fin 128) ℝ} {q} (hX : Rep3 h X A) :
    RepV h (Host.reduceAdd (shapeCast S8x64x1 (Host.reduceAdd X (constant S_ .f32 0x00000000#32) reducesTo_S8x64x128_S8x64_d2 h_S_) q)
      (constant S_ .f32 0x00000000#32) reducesTo_S8x64x1_S8x64_d2 h_S_) (sums A) := fun i => by
  simp only [pointwise, zero_S _ rfl, Fin.sum_univ_one, zero_add]
  exact sum_coe fun k => hX i k
theorem rowSumsSq {X : FVec Ideal S8x64x64 .f32} {A : Matrix (Fin 64) (Fin 64) ℝ} {q} (hX : Rep3 h X A) :
    RepV h (Host.reduceAdd (shapeCast S8x64x1 (Host.reduceAdd X (constant S_ .f32 0x00000000#32) reducesTo_S8x64x64_S8x64_d2 h_S_) q)
      (constant S_ .f32 0x00000000#32) reducesTo_S8x64x1_S8x64_d2 h_S_) (sums A) := fun i => by
  simp only [pointwise, zero_S _ rfl, Fin.sum_univ_one, zero_add]
  exact sum_coe fun k => hX i k
theorem colSumsSq {X : FVec Ideal S8x64x64 .f32} {A : Matrix (Fin 64) (Fin 64) ℝ} {q} (hX : Rep3 h X A) :
    RepV h (Host.reduceAdd (shapeCast S8x1x64 (Host.reduceAdd X (constant S_ .f32 0x00000000#32) reducesTo_S8x64x64_S8x64_d1 h_S_) q)
      (constant S_ .f32 0x00000000#32) reducesTo_S8x1x64_S8x64_d1 h_S_) (sums Aᵀ) := fun i => by
  simp only [pointwise, zero_S _ rfl, Fin.sum_univ_one, zero_add]
  exact sum_coe fun k => hX k i
theorem total {X : FVec Ideal S8x128x128 .f32} {A : Matrix (Fin 128) (Fin 128) ℝ} {q} (hX : Rep3 h X A) :
    RepN h (Host.reduceAdd (shapeCast S8x1x1 (Host.reduceAdd X (constant S_ .f32 0x00000000#32) reducesTo_S8x128x128_S8_d1_2 h_S_) q)
      (constant S_ .f32 0x00000000#32) reducesTo_S8x1x1_S8_d1_2 h_S_) (∑ a, ∑ l, A a l) := by
  unfold RepN
  simp only [pointwise, zero_S _ rfl, Fin.sum_univ_one, zero_add]
  exact sum_coe fun k => sum_coe fun l => hX k l
theorem totalV {X : FVec Ideal S8x64 .f32} {a : Fin 64 → ℝ} {q} (hX : RepV h X a) :
    RepN h (Host.reduceAdd (shapeCast S8x1 (Host.reduceAdd X (constant S_ .f32 0x00000000#32) reducesTo_S8x64_S8_d1 h_S_) q)
      (constant S_ .f32 0x00000000#32) reducesTo_S8x1_S8_d1 h_S_) (∑ i, a i) := by
  unfold RepN
  simp only [pointwise, zero_S _ rfl, Fin.sum_univ_one, zero_add]
  exact sum_coe fun k => hX k

/-- A number put in the last place of a row of zeros. -/
theorem padLast {X : FVec Ideal S8 .f32} {a : ℝ} {p q} (hX : RepN h X a) :
    RepV h (pad S8x64 ![0, 63] ![0, 0] ![0, 0] (broadcastInDim S8x1 ![0] q X) (constant (F := Ideal) S_ .f32 0x00000000#32) p h_S_) (fun i => if i = 63 then a else 0) := fun i => by
  unfold RepN at hX
  unfold pad
  by_cases hi : i = 63
  · subst hi
    rw [dif_pos (by
      intro k
      match k with
      | ⟨0, _⟩ => exact ⟨Nat.zero_le _, Nat.mod_one _, by show (h.val - 0) / 1 < 8; omega⟩
      | ⟨1, _⟩ => exact ⟨le_rfl, rfl, by show (63 - 63) / (0 + 1) < 1; decide⟩)]
    refine (congrArg X (funext fun k => Fin.ext ?_)).trans (hX.trans (by simp))
    match k with
    | ⟨0, _⟩ => show (h.val - 0) / 1 = h.val; omega
  · have : i.val < 63 := by have := i.isLt; have : i.val ≠ 63 := fun e => hi (Fin.ext e); omega
    rw [dif_neg (fun c => by have := (c 1).1; have : 63 ≤ i.val := this; omega)]
    rw [zero_S _ rfl]
    simp [hi]

/-! ## Running sums -/

theorem foldl_add {n : ℕ} (f : Fin n → EReal) (v : EReal) : (List.finRange n).foldl (fun r k => r + f k) v = v + ∑ k, f k := by
  have : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [this, Fin.sum_univ_def]

theorem rotate_down (f : Fin 64 → EReal) (i : Fin 64) :
    (∑ n : Fin 64, if hp : 63 ≤ i.val + n.val ∧ i.val + n.val - 63 < 64 then f ⟨i.val + n.val - 63, hp.2⟩ else 0) = ∑ p, if p ≤ i then f p else 0 := by
  rw [← Equiv.sum_comp (Equiv.addRight (i + 1)) (fun p => if p ≤ i then f p else 0)]
  refine Finset.sum_congr rfl fun n _ => ?_
  have hv : (n + (i + 1)).val = (n.val + (i.val + 1) % 64) % 64 := by simp [Fin.val_add]
  have hi := i.isLt
  have hn := n.isLt
  show _ = if n + (i + 1) ≤ i then f (n + (i + 1)) else 0
  by_cases hp : 63 ≤ i.val + n.val
  · have e : (n + (i + 1)) = (⟨i.val + n.val - 63, by omega⟩ : Fin 64) := Fin.ext (by rw [hv]; show _ = i.val + n.val - 63; omega)
    rw [dif_pos ⟨hp, by omega⟩, e, if_pos (by rw [Fin.le_def]; show i.val + n.val - 63 ≤ i.val; omega)]
  · rw [dif_neg (fun c => hp c.1), if_neg]
    intro c
    have c' : (n + (i + 1)).val ≤ i.val := c
    rw [hv] at c'
    omega

theorem rotate_up (f : Fin 64 → EReal) (i : Fin 64) :
    (∑ n : Fin 64, if hp : i.val + n.val < 64 then f ⟨i.val + n.val, hp⟩ else 0) = ∑ p, if i ≤ p then f p else 0 := by
  rw [← Equiv.sum_comp (Equiv.addRight i) (fun p => if i ≤ p then f p else 0)]
  refine Finset.sum_congr rfl fun n _ => ?_
  have hv : (n + i).val = (n.val + i.val) % 64 := by simp [Fin.val_add]
  have hi := i.isLt
  have hn := n.isLt
  show _ = if i ≤ n + i then f (n + i) else 0
  by_cases hp : i.val + n.val < 64
  · have e : (n + i) = (⟨i.val + n.val, hp⟩ : Fin 64) := Fin.ext (by rw [hv]; show _ = i.val + n.val; omega)
    rw [dif_pos hp, e, if_pos (by rw [Fin.le_def]; show i.val ≤ i.val + n.val; omega)]
  · rw [dif_neg hp, if_neg]
    intro c
    have c' : i.val ≤ (n + i).val := c
    rw [hv] at c'
    omega

theorem sum_if_coe {f : Fin 64 → EReal} {a : Fin 64 → ℝ} (hf : ∀ i, f i = (a i : EReal)) (P : Fin 64 → Prop) [DecidablePred P] :
    (∑ p, if P p then f p else 0) = ((∑ p, if P p then a p else 0 : ℝ) : EReal) := sum_coe fun p => by
  split
  · exact hf p
  · rfl

theorem window_eq (lo hi : Fin 2 → ℕ) (X : FVec Ideal S8x64 .f32) (z : FVec Ideal S_ .f32) (hw : S8x64.ReduceWindows ![1, 64] ![1, 1] lo hi S8x64) (hz : z = fun _ => 0) (i : Fin 64) :
    Host.reduceWindowAdd ![1, 64] ![1, 1] lo hi X z hw h_S_ (ValueIdx.ix2 h i)
      = ∑ n : Fin 64, (if hp : ∀ a, lo a ≤ (![h.val, i.val + n.val] : Fin 2 → ℕ) a ∧ (![h.val, i.val + n.val] : Fin 2 → ℕ) a - lo a < S8x64.size a then
          X (fun a => ⟨(![h.val, i.val + n.val] : Fin 2 → ℕ) a - lo a, (hp a).2⟩) else 0) := by
  subst hz
  let W : Shape := ⟨2, ![1, 64]⟩
  let P : (Fin 2 → ℕ) → EReal := fun p =>
    if hp : ∀ a, lo a ≤ p a ∧ p a - lo a < S8x64.size a then X (fun a => ⟨p a - lo a, (hp a).2⟩) else 0
  let G : W.Idx → EReal := fun y => P (fun a => ((ValueIdx.ix2 h i : S8x64.Idx) a).val * (![1, 1] : Fin 2 → ℕ) a + (y a).val)
  have h1 : Host.reduceWindowAdd ![1, 64] ![1, 1] lo hi X (fun _ => (0 : EReal)) hw h_S_ (ValueIdx.ix2 h i)
      = (List.finRange W.numel).foldl (fun r n => r + G (W.rowMajor.symm n)) 0 := by
    unfold Host.reduceWindowAdd
    rw [Ideal.hostReduceWindowAdd_def]
    unfold Ideal.hostReduceWindowAdd Host.reduceWindow
    refine congrArg (fun f => List.foldl f (0 : EReal) (List.finRange W.numel)) (funext fun r => funext fun n => congrArg (r + ·) ?_)
    let q : Fin 2 → ℕ := fun a => ((ValueIdx.ix2 h i : S8x64.Idx) a).val * (![1, 1] : Fin 2 → ℕ) a + (W.rowMajor.symm n a).val
    by_cases hin : ∀ a : Fin 2, lo a ≤ q a ∧ q a - lo a < S8x64.size a
    · have e : G (W.rowMajor.symm n) = X (fun a => ⟨q a - lo a, (hin a).2⟩) := dif_pos hin
      exact (@dif_pos _ _ hin _ _ _).trans e.symm
    · have e : G (W.rowMajor.symm n) = 0 := dif_neg hin
      exact (@dif_neg _ _ hin _ _ _).trans e.symm
  rw [h1, foldl_add, zero_add, Equiv.sum_comp W.rowMajor.symm G, ValueIdx.sum_idx2 G, Fin.sum_univ_one]
  refine Finset.sum_congr rfl fun n _ => ?_
  have e : (fun a => ((ValueIdx.ix2 h i : S8x64.Idx) a).val * (![1, 1] : Fin 2 → ℕ) a + ((ValueIdx.ix2 0 n : W.Idx) a).val) = (![h.val, i.val + n.val] : Fin 2 → ℕ) := by
    funext a
    match a with
    | ⟨0, _⟩ => show h.val * 1 + 0 = h.val; omega
    | ⟨1, _⟩ => show i.val * 1 + n.val = i.val + n.val; omega
  exact congrArg P e

theorem cumsum {X : FVec Ideal S8x64 .f32} {a : Fin 64 → ℝ} {z : FVec Ideal S_ .f32} {hw} (hz : z = fun _ => 0) (hX : RepV h X a) :
    RepV h (Host.reduceWindowAdd ![1, 64] ![1, 1] ![0, 63] ![0, 0] X z hw h_S_) (cum a) := fun i => by
  rw [window_eq _ _ X z hw hz, cum, ← sum_if_coe (f := fun p => X (ValueIdx.ix2 h p)) hX, ← rotate_down]
  refine Finset.sum_congr rfl fun n _ => ?_
  by_cases hp : 63 ≤ i.val + n.val ∧ i.val + n.val - 63 < 64
  · rw [dif_pos hp, dif_pos (by intro a; match a with | ⟨0, _⟩ => exact ⟨Nat.zero_le _, h.isLt⟩ | ⟨1, _⟩ => exact hp)]
    refine congrArg X (funext fun a => Fin.ext ?_)
    match a with
    | ⟨0, _⟩ => rfl
    | ⟨1, _⟩ => rfl
  · rw [dif_neg hp, dif_neg (fun c => hp (c 1))]

theorem cumsumr {X : FVec Ideal S8x64 .f32} {a : Fin 64 → ℝ} {z : FVec Ideal S_ .f32} {hw} (hz : z = fun _ => 0) (hX : RepV h X a) :
    RepV h (Host.reduceWindowAdd ![1, 64] ![1, 1] ![0, 0] ![0, 63] X z hw h_S_) (cumr a) := fun i => by
  rw [window_eq _ _ X z hw hz, cumr, ← sum_if_coe (f := fun p => X (ValueIdx.ix2 h p)) hX, ← rotate_up]
  refine Finset.sum_congr rfl fun n _ => ?_
  by_cases hp : i.val + n.val < 64
  · rw [dif_pos hp, dif_pos (by intro a; match a with | ⟨0, _⟩ => exact ⟨Nat.zero_le _, h.isLt⟩ | ⟨1, _⟩ => exact ⟨Nat.zero_le _, hp⟩)]
    refine congrArg X (funext fun a => Fin.ext ?_)
    match a with
    | ⟨0, _⟩ => rfl
    | ⟨1, _⟩ => rfl
  · rw [dif_neg hp, dif_neg (fun c => hp (c 1).2)]

/-! ## Masks -/

theorem selMask {m : IVec S64x64 1} {P : Fin 64 → Fin 64 → Prop} [∀ i j, Decidable (P i j)] {X Y : FVec Ideal S8x64x64 .f32} {A : Matrix (Fin 64) (Fin 64) ℝ} {p}
    (hm : ∀ i j, m (ValueIdx.ix2 i j) = if P i j then 1#1 else 0#1) (hX : Rep3 h X A) (hY : Rep3 h Y 0) :
    Rep3 h (select (broadcastInDim S8x64x64 ![1, 2] p m) X Y) (of fun i j => if P i j then A i j else 0) := fun i j => by
  rw [ValueIdx.select_apply]
  have e : broadcastInDim S8x64x64 ![1, 2] p m (ValueIdx.ix3 h i j) = m (ValueIdx.ix2 i j) := by simp only [pointwise]; rfl
  rw [e, hm]
  by_cases hp : P i j
  · simp [hp, hX i j, ValueIdx.select_one]
  · simp [hp, hY i j, ValueIdx.select_zero]

theorem zeroSq {p} : Rep3 h (broadcastInDim S8x64x64 ![] p (constant (F := Ideal) S_ .f32 0x00000000#32)) 0 := fun i j => by
  simp only [pointwise, zero_S _ rfl]; rfl

theorem ofBits_negInf : Ideal.ofBits .f32 0xFF800000#32 = ⊥ := by simp [Ideal.ofBits, Ideal.ieee]

/-- `exp` of the masked differences of running sums. -/
theorem decayMask {m : IVec S64x64 1} {X Y : FVec Ideal S8x64x64 .f32} {A : Matrix (Fin 64) (Fin 64) ℝ} {p}
    (hm : ∀ i j, m (ValueIdx.ix2 i j) = if j ≤ i then 1#1 else 0#1) (hX : Rep3 h X A) (hY : ∀ y, Y y = (⊥ : EReal)) :
    Rep3 h (Host.exp (select (broadcastInDim S8x64x64 ![1, 2] p m) X Y)) (low (of fun i j => Real.exp (A i j))) := fun i j => by
  show Ideal.exp (select _ X Y _) = _
  rw [ValueIdx.select_apply]
  have e : broadcastInDim S8x64x64 ![1, 2] p m (ValueIdx.ix3 h i j) = m (ValueIdx.ix2 i j) := by simp only [pointwise]; rfl
  rw [e, hm]
  unfold low
  by_cases hp : j ≤ i
  · simp only [hp, if_true, Matrix.of_apply]
    rw [ValueIdx.select_one, hX i j, Ideal.exp_coe]
  · simp only [hp, if_false, Matrix.of_apply]
    rw [ValueIdx.select_zero, hY]
    rfl

end Cert.RefOps

end
-- ==== Proof.RefReal.lean ====
/-
  ONE TRIP OF THE REFERENCE'S LOOP, head by head, over the reals: when the slices a trip reads hold a tile's matrices and the
  carried array holds the state's cotangent, each value of the trip holds the matrix that the chunk's derivative names.
-/
module

public import proofs.«01_k».proof.Proof.RefOps

@[expose] public section

noncomputable section

namespace Cert.RefReal

open Idealize.ShloMosaic Matrix Cert.Chunk Cert.RefOps Cert.ReferenceIdeal Cert.ReferenceIdeal.Gen Cert.ReferenceIdeal.Step

/-- Head `h` of trip `j` from state `s` reads the tile `x` and carries the cotangent `D`. -/
structure At (j : ℕ) (s : State Ideal) (h : Fin 8) (x : Tile) (D : Matrix (Fin 128) (Fin 128) ℝ) : Prop where
  T : Rep3 h (b8 j s) x.T
  S : Rep3 h (b13 j s) x.S
  q : Rep3 h (b18 j s) x.q
  k : Rep3 h (b23 j s) x.k
  v : Rep3 h (b28 j s) x.v
  d : Rep3 h (b37 j s) x.d
  g : RepV h (b38 j s) x.g
  b : RepV h (b39 j s) x.b
  D : Rep3 h s.main_v20_8 D

theorem causal (j : ℕ) (s : State Ideal) (r c : Fin 64) : b53 j s (ValueIdx.ix2 r c) = if c ≤ r then 1#1 else 0#1 := by
  unfold b53 b44 b43 b50 b48 b45 b47 b46 b49 b52 b51
  revert r c; decide +kernel
theorem strictly (j : ℕ) (s : State Ideal) (r c : Fin 64) : b64 j s (ValueIdx.ix2 r c) = if c < r then 1#1 else 0#1 := by
  unfold b64 b55 b54 b61 b59 b56 b58 b57 b60 b63 b62
  revert r c; decide +kernel

namespace At

variable {j : ℕ} {s : State Ideal} {h : Fin 8} {x : Tile} {D : Matrix (Fin 128) (Fin 128) ℝ} (H : At j s h x D)
include H

/-! ## Forward -/

theorem gc : RepV h (b42 j s) x.gc := cumsum (by funext i; unfold b41; simp only [pointwise]; exact zero_S _ rfl _) H.g
theorem decay : Rep3 h (b77 j s) x.decay :=
  decayMask (causal j s) ((wideSq H.gc).subf (downSq H.gc)) (fun y => by unfold b73; simp only [pointwise]; exact ofBits_negInf)
theorem kb : Rep3 h (b80 j s) x.kb := H.k.rows (wide H.b)
theorem vb : Rep3 h (b83 j s) x.vb := H.v.rows (wide H.b)
theorem kk : Rep3 h (b84 j s) (x.kb * x.kᵀ) := mm_nt H.kb H.k
theorem u : Rep3 h (b93 j s) x.u := mm_sq H.T H.vb
theorem eg : RepV h (b94 j s) x.eg := H.gc.exp
theorem kbe : Rep3 h (b97 j s) x.kbe := H.kb.rows (wide H.eg)
theorem w : Rep3 h (b98 j s) x.w := mm_sq H.T H.kbe
theorem qkRaw : Rep3 h (b99 j s) (x.q * x.kᵀ) := mm_nt H.q H.k
theorem qk : Rep3 h (b100 j s) x.qk := H.qkRaw.mulf H.decay
theorem eg' : RepV h (b101 j s) x.eg := H.gc.exp
theorem qe : Rep3 h (b104 j s) x.qe := H.q.rows (wide H.eg')
theorem gl : RepN h (b106 j s) x.gl := lastOf H.gc
theorem erest : RepV h (b110 j s) x.erest := ((overVec H.gl).subf H.gc).exp
theorem kd : Rep3 h (b113 j s) x.kd := H.k.rows (wide H.erest)
theorem vn : Rep3 h (b115 j s) x.vn := H.u.subf (mm_state H.w H.S)
theorem egl : RepN h (b119 j s) (Real.exp x.gl) := by
  have := H.gl
  unfold RepN at this ⊢
  show Ideal.exp (b106 j s (ValueIdx.ix1 h)) = _
  rw [this, Ideal.exp_coe]

/-! ## Backward -/

theorem dvn : Rep3 h (b140 j s) (x.dvn D) :=
  ((tr_rows (mm_tt H.D H.kd)).addf (tr_rows (mm_tn H.d H.qk))).congr (by
    rw [Matrix.transpose_mul, Matrix.transpose_mul, Matrix.transpose_transpose, Matrix.transpose_transpose, Matrix.transpose_transpose]
    rfl)
theorem dkd : Rep3 h (b128 j s) (x.dkd D) := (tr_rows (mm_Snt H.D H.vn)).congr (by rw [Matrix.transpose_mul, Matrix.transpose_transpose]; rfl)
theorem dqk : Rep3 h (b141 j s) x.dqk := mm_nt H.d H.vn
theorem dqe : Rep3 h (b145 j s) x.dqe := mm_stateT H.d H.S
theorem dS : Rep3 h (b149 j s) (x.dS D) :=
  (((H.D.mulf (overState H.egl)).addf (tr_state (mm_outer H.d H.qe))).addf (tr_state (mm_outer H.dvn.negf H.w))).congr (by
    rw [Matrix.transpose_mul, Matrix.transpose_mul, Matrix.transpose_transpose, Matrix.transpose_transpose, Matrix.mul_neg]
    unfold Tile.dS
    congr 2
    ext a c
    simp [ew_apply, mul_comm])
theorem dw : Rep3 h (b150 j s) (x.dw D) := mm_stateT H.dvn.negf H.S
theorem tw : Rep3 h (b188 j s) (x.tw D) := mm_sq (tr_sq H.T) H.dw
theorem tv : Rep3 h (b205 j s) (x.tv D) := mm_sq (tr_sq H.T) H.dvn
theorem dq : Rep3 h (b186 j s) x.dq := (H.dqe.rows (wide H.eg')).addf (mm_sq (H.dqk.mulf H.decay) H.k)
theorem dv : Rep3 h (b227 j s) (x.dv D) := H.tv.rows (wide H.b)
theorem dM : Rep3 h (b214 j s) (x.dM D) :=
  selMask (strictly j s) ((mm_back H.tw (tr_cols H.w)).negf.addf (mm_back H.tv (tr_cols H.u)).negf) zeroSq
theorem dkb : Rep3 h (b221 j s) (x.dkb D) := (H.tw.rows (wide H.eg)).addf (mm_sq (H.dM.mulf H.decay) H.k)
theorem dk : Rep3 h (b236 j s) (x.dk D) :=
  (((H.dkd.rows (wide H.erest)).addf (mm_sqT (H.dqk.mulf H.decay) H.q)).addf (mm_sqT (H.dM.mulf H.decay) H.kb)).addf (H.dkb.rows (wide H.b))
theorem db : RepV h (b239 j s) (x.db D) := (rowSums (H.v.mulf H.tv)).addf (rowSums (H.k.mulf H.dkb))
theorem ge : RepV h (b159 j s) (fun i => sums (ew x.k (x.dkd D)) i * x.erest i) := (rowSums (H.k.mulf H.dkd)).mulf H.erest
theorem dgl : RepN h (b166 j s) (x.dgl D) := by
  have h1 : RepN h (b136 j s) _ := total (H.S.mulf H.D)
  have h2 := H.egl
  have h3 : RepN h (b165 j s) _ := totalV H.ge
  unfold RepN at h1 h2 h3 ⊢
  show b136 j s _ * b119 j s _ + b165 j s _ = _
  rw [h1, h2, h3, ← EReal.coe_mul, ← EReal.coe_add]
  rfl
theorem ddec : Rep3 h (b243 j s) (x.ddec D) := selMask (causal j s) (((H.qkRaw.mulf H.dqk).addf (H.kk.mulf H.dM)).mulf H.decay) zeroSq
theorem dgc : RepV h (b256 j s) (x.dgc D) :=
  (((((H.ge.negf.addf (padLast H.dgl)).addf ((rowSums (H.q.mulf H.dqe)).mulf H.eg')).addf ((rowSums (H.kb.mulf H.tw)).mulf H.eg)).addf
    (colSumsSq H.ddec.negf)).addf (rowSumsSq H.ddec)).congr rfl
theorem dg : RepV h (b259 j s) (x.dg D) := cumsumr (by funext i; unfold b258; simp only [pointwise]; exact zero_S _ rfl _) H.dgc

end At

end Cert.RefReal

end
-- ==== Proof.RefValue.lean ====
/-
  THE REFERENCE'S RESULTS over the reals. Trip `n` reads chunk `129 - n`; by induction on the trips the carried array holds
  the state's cotangents of `Data.ct` and the stacked blocks those of `Data.part` and `Data.gatesBlk`, so the results are
  `Data.rowsOut` and `Data.gatesOut`.
-/
module

public import proofs.«01_k».proof.Proof.RefData
public import proofs.«01_k».proof.Proof.RefReal
public import proofs.«01_k».proof.Proof.RefRun

@[expose] public section

noncomputable section

namespace Cert.RefValue

open Idealize.ShloMosaic Matrix Cert.Chunk Cert.Data Cert.RefData Cert.RefOps Cert.RefReal Cert.ReferenceIdeal Cert.ReferenceIdeal.Gen Cert.ReferenceIdeal.Step

variable (P : Data)

/-- The loop's state before trip `n`. -/
structure Good (n : ℕ) (s : State Ideal) : Prop where
  T : ∀ c h i j, s.main_v20_0 (ValueIdx.ix4 c h i j) = (((tile P c h).T i j : ℝ) : EReal)
  S : ∀ c h i j, s.main_v20_1 (ValueIdx.ix4 c h i j) = (((tile P c h).S i j : ℝ) : EReal)
  q : ∀ c h i j, s.main_v20_2 (ValueIdx.ix4 c h i j) = (((tile P c h).q i j : ℝ) : EReal)
  k : ∀ c h i j, s.main_v20_3 (ValueIdx.ix4 c h i j) = (((tile P c h).k i j : ℝ) : EReal)
  v : ∀ c h i j, s.main_v20_4 (ValueIdx.ix4 c h i j) = (((tile P c h).v i j : ℝ) : EReal)
  b : ∀ c (h : Fin 8) i, s.main_v20_5 (ValueIdx.ix3 c ⟨h.val, by omega⟩ i) = (((tile P c h).b i : ℝ) : EReal)
  g : ∀ c (h : Fin 8) i, s.main_v20_5 (ValueIdx.ix3 c ⟨h.val + 8, by omega⟩ i) = (((tile P c h).g i : ℝ) : EReal)
  d : ∀ c h i j, s.main_v20_6 (ValueIdx.ix4 c h i j) = (((tile P c h).d i j : ℝ) : EReal)
  D : ∀ h, Rep3 h s.main_v20_8 (ct P h n)
  rows : ∀ t, t < n → ∀ p h i l, s.main_v20_9 (ValueIdx.ix5 (chunk t) p h i l) = ((part P t h p i l : ℝ) : EReal)
  db : ∀ t, t < n → ∀ (h : Fin 8) i, s.main_v20_10 (ValueIdx.ix3 (chunk t) ⟨h.val, by omega⟩ i) = (((tile P (chunk t) h).db (ct P h t) i : ℝ) : EReal)
  dg : ∀ t, t < n → ∀ (h : Fin 8) i, s.main_v20_10 (ValueIdx.ix3 (chunk t) ⟨h.val + 8, by omega⟩ i) = (((tile P (chunk t) h).dg (ct P h t) i : ℝ) : EReal)

theorem word : ∀ n : Fin 130, (IntOp.subi (IntOp.subi 130#32 (BitVec.ofNat 32 n.val)) 1#32).toInt = ((129 - n.val : ℕ) : Int) := by decide +kernel

variable {P} {n : ℕ} {s : State Ideal}

theorem start_toInt (hn : n < 130) (i) : (b3 n s i).toInt = ((chunk n).val : Int) := word ⟨n, hn⟩

theorem start4 (hn : n < 130) (x y z : (⟨S_, .i32⟩ : BufTy).Contents (Elt Ideal)) (hx : x = constantI S_ 32 0#32) (hy : y = constantI S_ 32 0#32) (hz : z = constantI S_ 32 0#32) (a : Fin 4) :
    (((![b3 n s, x, y, z] : Fin 4 → (⟨S_, .i32⟩ : BufTy).Contents (Elt Ideal))) a (Shape.Idx.first h_S_)).toInt = ((![(chunk n).val, 0, 0, 0] : Fin 4 → ℕ) a : Int) := by
  subst hx; subst hy; subst hz
  match a with
  | ⟨0, _⟩ => exact start_toInt hn _
  | ⟨1, _⟩ => rfl
  | ⟨2, _⟩ => rfl
  | ⟨3, _⟩ => rfl
theorem start3 (hn : n < 130) (x y : (⟨S_, .i32⟩ : BufTy).Contents (Elt Ideal)) (hx : x = constantI S_ 32 0#32) (hy : y = constantI S_ 32 0#32) (a : Fin 3) :
    (((![b3 n s, x, y] : Fin 3 → (⟨S_, .i32⟩ : BufTy).Contents (Elt Ideal))) a (Shape.Idx.first h_S_)).toInt = ((![(chunk n).val, 0, 0] : Fin 3 → ℕ) a : Int) := by
  subst hx; subst hy
  match a with
  | ⟨0, _⟩ => exact start_toInt hn _
  | ⟨1, _⟩ => rfl
  | ⟨2, _⟩ => rfl
theorem start5 (hn : n < 130) (x y z w : (⟨S_, .i32⟩ : BufTy).Contents (Elt Ideal)) (hx : x = constantI S_ 32 0#32) (hy : y = constantI S_ 32 0#32) (hz : z = constantI S_ 32 0#32) (hw : w = constantI S_ 32 0#32) (a : Fin 5) :
    (((![b3 n s, x, y, z, w] : Fin 5 → (⟨S_, .i32⟩ : BufTy).Contents (Elt Ideal))) a (Shape.Idx.first h_S_)).toInt = ((![(chunk n).val, 0, 0, 0, 0] : Fin 5 → ℕ) a : Int) := by
  subst hx; subst hy; subst hz; subst hw
  match a with
  | ⟨0, _⟩ => exact start_toInt hn _
  | ⟨1, _⟩ => rfl
  | ⟨2, _⟩ => rfl
  | ⟨3, _⟩ => rfl
  | ⟨4, _⟩ => rfl

/-! ## One trip -/

theorem gateRows (hn : n < 130) (l : Fin 16) (i : Fin 64) : b32 n s (ValueIdx.ix2 l i) = s.main_v20_5 (ValueIdx.ix3 (chunk n) l i) := by
  unfold b32 b31
  exact slice3 s.main_v20_5 _ _ _ (chunk n) (start3 hn _ _ rfl rfl) l i

/-- A trip's slices hold the chunk's operands. -/
theorem Good.at (G : Good P n s) (hn : n < 130) (h : Fin 8) : At n s h (tile P (chunk n) h) (ct P h n) where
  T i j := by unfold b8 b7; exact (slice4 s.main_v20_0 _ _ _ (chunk n) (start4 hn _ _ _ rfl rfl rfl) h i j).trans (G.T _ h i j)
  S i j := by unfold b13 b12; exact (slice4 s.main_v20_1 _ _ _ (chunk n) (start4 hn _ _ _ rfl rfl rfl) h i j).trans (G.S _ h i j)
  q i j := by unfold b18 b17; exact (slice4 s.main_v20_2 _ _ _ (chunk n) (start4 hn _ _ _ rfl rfl rfl) h i j).trans (G.q _ h i j)
  k i j := by unfold b23 b22; exact (slice4 s.main_v20_3 _ _ _ (chunk n) (start4 hn _ _ _ rfl rfl rfl) h i j).trans (G.k _ h i j)
  v i j := by unfold b28 b27; exact (slice4 s.main_v20_4 _ _ _ (chunk n) (start4 hn _ _ _ rfl rfl rfl) h i j).trans (G.v _ h i j)
  d i j := by unfold b37 b36; exact (slice4 s.main_v20_6 _ _ _ (chunk n) (start4 hn _ _ _ rfl rfl rfl) h i j).trans (G.d _ h i j)
  g i := by
    unfold b38
    refine Eq.trans (congrArg (b32 n s) (funext fun a => Fin.ext ?_ : _ = ValueIdx.ix2 (⟨h.val + 8, by omega⟩ : Fin 16) i)) ((gateRows hn _ i).trans (G.g _ h i))
    match a with
    | ⟨0, _⟩ => show 8 + h.val = h.val + 8; omega
    | ⟨1, _⟩ => show 0 + i.val = i.val; omega
  b i := by
    unfold b39
    refine Eq.trans (congrArg (b32 n s) (funext fun a => Fin.ext ?_ : _ = ValueIdx.ix2 (⟨h.val, by omega⟩ : Fin 16) i)) ((gateRows hn _ i).trans (G.b _ h i))
    match a with
    | ⟨0, _⟩ => show 0 + h.val = h.val; omega
    | ⟨1, _⟩ => show 0 + i.val = i.val; omega
  D := G.D h

theorem chunk_ne {t : ℕ} (hn : n < 130) (ht : t < n) : chunk t ≠ chunk n := fun e => by
  have : 129 - t = 129 - n := congrArg Fin.val e
  omega

theorem rows_write (hn : n < 130) (r : Fin 130) (p : Fin 3) (h : Fin 8) (i : Fin 64) (l : Fin 128) :
    b270 n s (ValueIdx.ix5 r p h i l) = if r = chunk n then b265 n s (ValueIdx.ix5 0 p h i l) else s.main_v20_9 (ValueIdx.ix5 r p h i l) := by
  unfold b270
  exact write5 s.main_v20_9 _ _ _ (chunk n) (start5 hn _ _ _ _ rfl rfl rfl rfl) r p h i l
theorem gates_write (hn : n < 130) (r : Fin 130) (l : Fin 16) (i : Fin 64) :
    b274 n s (ValueIdx.ix3 r l i) = if r = chunk n then b271 n s (ValueIdx.ix3 0 l i) else s.main_v20_10 (ValueIdx.ix3 r l i) := by
  unfold b274
  exact write3 s.main_v20_10 _ _ _ (chunk n) (start3 hn _ _ rfl rfl) r l i

theorem Good.step (G : Good P n s) (hn : n < 130) : Good P (n + 1) (step n s) where
  T := G.T
  S := G.S
  q := G.q
  k := G.k
  v := G.v
  b := G.b
  g := G.g
  d := G.d
  D h := (G.at hn h).dS
  rows t ht p h i l := by
    refine (rows_write hn _ p h i l).trans ?_
    by_cases e : t = n
    · subst e
      rw [if_pos rfl, rows_new]
      match p with
      | ⟨0, _⟩ => exact (G.at hn h).dq i l
      | ⟨1, _⟩ => exact (G.at hn h).dk i l
      | ⟨2, _⟩ => exact (G.at hn h).dv i l
    · rw [if_neg (chunk_ne hn (by omega))]
      exact G.rows t (by omega) p h i l
  db t ht h i := by
    refine (gates_write hn _ _ i).trans ?_
    by_cases e : t = n
    · subst e
      rw [if_pos rfl, gates_new_b]
      exact (G.at hn h).db i
    · rw [if_neg (chunk_ne hn (by omega))]
      exact G.db t (by omega) h i
  dg t ht h i := by
    refine (gates_write hn _ _ i).trans ?_
    by_cases e : t = n
    · subst e
      rw [if_pos rfl, gates_new_g]
      exact (G.at hn h).dg i
    · rw [if_neg (chunk_ne hn (by omega))]
      exact G.dg t (by omega) h i

theorem Good.init {A0 : FVec Ideal SQ .f32} {A1 : FVec Ideal SG .f32} {A2 : FVec Ideal SS .f32} {A3 : FVec Ideal ST .f32} {A4 : FVec Ideal SD .f32}
    (H : Holds P A0 A1 A2 A3 A4) : Good P 0 (init (F := Ideal) A3 A2 A0 A1 A4) where
  T c h i j := H.h3 _
  S c h i j := H.h2 _
  q c h i j := (q_apply A0 A1 A4 c h i j).trans (H.h0 _)
  k c h i j := (k_apply A0 A1 A4 c h i j).trans (H.h0 _)
  v c h i j := (v_apply A0 A1 A4 c h i j).trans (H.h0 _)
  b c h i := (g_apply A0 A1 A4 c _ i).trans (H.h1 (ValueIdx.ix2 (tok c i) _) (show h.val < 16 by omega))
  g c h i := (g_apply A0 A1 A4 c _ i).trans (H.h1 (ValueIdx.ix2 (tok c i) _) (show h.val + 8 < 16 by omega))
  d c h i j := (d_apply A0 A1 A4 c h i j).trans (H.h4 _)
  D h i j := Ideal.ofBits_zero_f32
  rows t ht := absurd ht (Nat.not_lt_zero t)
  db t ht := absurd ht (Nat.not_lt_zero t)
  dg t ht := absurd ht (Nat.not_lt_zero t)

theorem Good.after {m : (ℓ : Loc nD τ sig) → Buf (Elt Ideal) ℓ} {c : Dev nD} (G : Good P 0 (RefRun.start m c)) : Good P 130 (RefRun.state m c 130) := by
  have : ∀ n, n ≤ 130 → Good P n (RefRun.state m c n) := fun n => by
    induction n with
    | zero => exact fun _ => G
    | succ n ih => exact fun h => (ih (by omega)).step (by omega)
  exact this 130 (le_refl _)

/-! ## The results -/

theorem Good.rows_out (G : Good P 130 s) : R_main_v24 s = rowsOut P := by
  funext y
  have h1 : (y 1).val < 8320 := (y 1).isLt
  have h2 : (y 2).val < 1024 := (y 2).isLt
  let t : ℕ := 129 - (y 1).val / 64
  let h : Fin 8 := ⟨(y 2).val / 128, by omega⟩
  let i : Fin 64 := ⟨(y 1).val % 64, by omega⟩
  let l : Fin 128 := ⟨(y 2).val % 128, by omega⟩
  have ht : t < 130 := by show 129 - (y 1).val / 64 < 130; omega
  have e : y = ValueIdx.ix3 (n0 := 3) (n1 := 8320) (n2 := 1024) (y 0) (tok (chunk t) i) (lane h l) := funext fun a => Fin.ext (by
    match a with
    | ⟨0, _⟩ => rfl
    | ⟨1, _⟩ => show (y 1).val = 64 * (129 - (129 - (y 1).val / 64)) + (y 1).val % 64; omega
    | ⟨2, _⟩ => show (y 2).val = 128 * ((y 2).val / 128) + (y 2).val % 128; omega)
  refine ((congrArg (R_main_v24 s) e).trans (rows_result s (y 0) (chunk t) h i l)).trans ?_
  exact G.rows t ht (y 0) h i l

theorem Good.gates_out (G : Good P 130 s) : R_main_v26 s = gatesOut P := by
  funext y
  have h0 : (y 0).val < 8320 := (y 0).isLt
  have h1 : (y 1).val < 128 := (y 1).isLt
  let t : ℕ := 129 - (y 0).val / 64
  let i : Fin 64 := ⟨(y 0).val % 64, by omega⟩
  have ht : t < 130 := by show 129 - (y 0).val / 64 < 130; omega
  have e0 : (y 0).val = (tok (chunk t) i).val := by show (y 0).val = 64 * (129 - (129 - (y 0).val / 64)) + (y 0).val % 64; omega
  unfold gatesOut gatesBlk
  by_cases hb : (y 1).val < 8
  · rw [dif_pos hb]
    have e : y = ValueIdx.ix2 (n0 := 8320) (n1 := 128) (tok (chunk t) i) ⟨(⟨(y 1).val, by omega⟩ : Fin 16).val, by dsimp only; omega⟩ := funext fun a => Fin.ext (by
      match a with | ⟨0, _⟩ => exact e0 | ⟨1, _⟩ => rfl)
    exact ((congrArg (R_main_v26 s) e).trans (gates_result s (chunk t) i ⟨(y 1).val, by omega⟩)).trans (G.db t ht ⟨(y 1).val, hb⟩ i)
  · rw [dif_neg hb]
    by_cases hg : (y 1).val < 16
    · rw [dif_pos hg]
      have e : y = ValueIdx.ix2 (n0 := 8320) (n1 := 128) (tok (chunk t) i) ⟨(⟨(y 1).val - 8 + 8, by omega⟩ : Fin 16).val, by dsimp only; omega⟩ := funext fun a => Fin.ext (by
        match a with | ⟨0, _⟩ => exact e0 | ⟨1, _⟩ => show (y 1).val = (y 1).val - 8 + 8; omega)
      exact ((congrArg (R_main_v26 s) e).trans (gates_result s (chunk t) i ⟨(y 1).val - 8 + 8, by omega⟩)).trans (G.dg t ht ⟨(y 1).val - 8, by omega⟩ i)
    · rw [dif_neg hg]
      have e : y = ValueIdx.ix2 (n0 := 8320) (n1 := 128) (y 0) (y 1) := funext fun a => by
        match a with | ⟨0, _⟩ => rfl | ⟨1, _⟩ => rfl
      exact (congrArg (R_main_v26 s) e).trans (gates_result_rest s (y 0) (y 1) (by omega))

end Cert.RefValue

end
-- ==== Proof.Finite.lean ====
/-
  THE PRECONDITION: every entry that the kernel reads is finite, so it is a real and the arguments hold a `Data`.
-/
module

public import proofs.«01_k».proof.Defs
public import proofs.«01_k».proof.Proof.Data
public import Idealize.ShloMosaic.Lib.Pointwise

@[expose] public section

noncomputable section

namespace Cert.Finite

open Idealize.ShloMosaic Idealize.SL Idealize.SL.Sem Cert.Data Cert.KernelIdeal

/-- What the precondition's function states of its shapes. -/
theorem facts : Cert.Pre_finite.Facts where
  slices_S8320x128_S8320x16_0_0 := by decide
  bcast_S_S3x8320x1024 := by decide
  bcast_S_S8320x16 := by decide
  bcast_S_S130x8x128x128 := by decide
  bcast_S_S130x8x64x64 := by decide
  bcast_S_S8320x1024 := by decide

theorem ofBits_inf : Ideal.ofBits .f32 0x7F800000#32 = ⊤ := by simp [Ideal.ofBits, Ideal.ieee]

/-- An extended real whose absolute value is below infinity is a real. -/
theorem real {x : EReal} (h : BitVec.ofBool (decide (max x (-x) < Ideal.ofBits .f32 0x7F800000#32)) = 1#1) : x = ((x.toReal : ℝ) : EReal) := by
  rw [ofBits_inf] at h
  have h : max x (-x) < ⊤ := by
    by_contra e
    rw [decide_eq_false e] at h
    exact absurd h (by decide)
  obtain ⟨h1, h2⟩ := max_lt_iff.1 h
  exact (EReal.coe_toReal h1.ne (fun e => h2.ne (by rw [e]; rfl))).symm

variable (m : (ℓ : Loc nD τ sig) → Buf (Elt Ideal) ℓ) (c : Dev nD)

/-- The reals which the arguments hold. -/
def data : Data where
  a0 y := ((m ((c.tc : Thread nD τ).loc main_arg0) : FVec Ideal SQ .f32) y : EReal).toReal
  a1 y := ((m ((c.tc : Thread nD τ).loc main_arg1) : FVec Ideal SG .f32) y : EReal).toReal
  a2 y := ((m ((c.tc : Thread nD τ).loc main_arg2) : FVec Ideal SS .f32) y : EReal).toReal
  a3 y := ((m ((c.tc : Thread nD τ).loc main_arg3) : FVec Ideal ST .f32) y : EReal).toReal
  a4 y := ((m ((c.tc : Thread nD τ).loc main_arg4) : FVec Ideal SD .f32) y : EReal).toReal

theorem holds (h : Cert.Pre_KernelIdeal_finite (hPre_finite := facts) m) :
    Holds (data m c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) where
  h0 y := real (congrFun (h c).1 y)
  h1 y hy := by
    have e := congrFun (h c).2.1 (ValueIdx.ix2 (y 0) ⟨(y 1).val, hy⟩)
    have i : y = fun a => ⟨(![0, 0] : Fin 2 → ℕ) a + (ValueIdx.ix2 (n0 := 8320) (n1 := 16) (y 0) ⟨(y 1).val, hy⟩ a).val, by
        match a with
        | ⟨0, _⟩ => show 0 + (y 0).val < 8320; have : (y 0).val < 8320 := (y 0).isLt; omega
        | ⟨1, _⟩ => show 0 + (y 1).val < 128; omega⟩ := funext fun a => Fin.ext (by
      match a with
      | ⟨0, _⟩ => show (y 0).val = 0 + (y 0).val; omega
      | ⟨1, _⟩ => show (y 1).val = 0 + (y 1).val; omega)
    rw [i]
    exact real e
  h2 y := real (congrFun (h c).2.2.1 y)
  h3 y := real (congrFun (h c).2.2.2.1 y)
  h4 y := real (congrFun (h c).2.2.2.2 y)

end Cert.Finite

end
-- ==== Proof.Norm.lean ====
/-
  A LAYER NORM'S GRADIENT over the reals, of one row of 1024 entries: the form which the kernel computes (the row's means of
  `dy γ` and of `dy γ x̂` taken off) and the form which differentiating the norm's lines gives are the same.
-/
module

public import Mathlib.Analysis.SpecialFunctions.Pow.Real
public import Mathlib.Tactic.Ring
public import Mathlib.Tactic.FieldSimp
public import Mathlib.Tactic.Linarith

@[expose] public section

noncomputable section

namespace Cert.Norm

open scoped BigOperators

/-- A row. -/
abbrev Row := Fin 1024 → ℝ

variable (e : ℝ) (x w : Row)

def mean (x : Row) : ℝ := (∑ j, x j) * (1 / 1024)
def cent (x : Row) : Row := fun j => x j - mean x
/-- The variance plus `e`. -/
def spread : ℝ := mean (fun j => cent x j * cent x j) + e
def rstd : ℝ := (Real.sqrt (spread e x))⁻¹
/-- The normalised row. -/
def unit : Row := fun j => cent x j * rstd e x
/-- The gradient of the row, `w` the cotangent of the normalised row. -/
def grad : Row := fun j => rstd e x * (w j - mean w - unit e x j * mean (fun j => w j * unit e x j))

theorem spread_pos (he : 0 < e) : 0 < spread e x :=
  add_pos_of_nonneg_of_pos (mul_nonneg (Finset.sum_nonneg fun j _ => mul_self_nonneg _) (by norm_num)) he

theorem sum_cent : ∑ j, cent x j = 0 := by
  unfold cent mean
  rw [Finset.sum_sub_distrib, Finset.sum_const, Finset.card_univ, Fintype.card_fin, nsmul_eq_mul]
  push_cast
  ring

theorem rstd_div (he : 0 < e) : rstd e x * (1 / spread e x) = rstd e x * rstd e x * rstd e x := by
  have h := spread_pos e x he
  have s : Real.sqrt (spread e x) * Real.sqrt (spread e x) = spread e x := Real.mul_self_sqrt h.le
  have d : 1 / spread e x = (Real.sqrt (spread e x))⁻¹ * (Real.sqrt (spread e x))⁻¹ := by rw [← mul_inv, s, one_div]
  unfold rstd
  rw [d]
  ring

/-- Half the derivative of the variance's part, before the row's mean is taken: what multiplies `2 (x - mean)`. -/
def slope : ℝ := (∑ j, cent x j * w j) * (-(1 / 2) * (rstd e x * (1 / spread e x))) * (1 / 1024)

/-- The gradient as differentiation gives it. -/
theorem grad_eq (he : 0 < e) (j : Fin 1024) :
    w j * rstd e x + slope e x w * (2 * cent x j) + ((∑ i, -(w i * rstd e x)) + ∑ i, -(slope e x w * (2 * cent x i))) * (1 / 1024) = grad e x w j := by
  have h1 : ∑ i, -(w i * rstd e x) = -((∑ i, w i) * rstd e x) := by rw [Finset.sum_neg_distrib, Finset.sum_mul]
  have h2 : ∑ i, -(slope e x w * (2 * cent x i)) = 0 := by
    rw [Finset.sum_neg_distrib, ← Finset.mul_sum, ← Finset.mul_sum, sum_cent]; ring
  have h3 : ∑ i, w i * (cent x i * rstd e x) = (∑ i, cent x i * w i) * rstd e x := by
    rw [Finset.sum_mul]; exact Finset.sum_congr rfl fun i _ => by ring
  rw [h1, h2]
  unfold slope grad unit mean
  rw [rstd_div e x he, h3]
  ring

end Cert.Norm

end
-- ==== Proof.Tile.lean ====
/-
  THE SECOND KERNEL'S PAYLOADS over the reals: the product of a block, the two ways it enters the accumulated rows, and the
  layer norm's gradient of half a tile with the partial sums (over the rows of equal position modulo 8) that go into the
  gain's and the bias's gradients.
-/
module

public import proofs.«01_k».proof.Proof.Rep
public import proofs.«01_k».proof.Proof.Norm
public import proofs.«01_k».proof.Proof.Gen.Kernel2Ideal.Skeleton
public import Idealize.ShloMosaic.Lib.ValueLayout

@[expose] public section

noncomputable section

namespace Cert.Tile

open Idealize.ShloMosaic Idealize.ShloMosaic.ValueIdx Matrix
open Cert.Chunk Cert.Rep Cert.Kernel2Ideal Cert.Kernel2Ideal.Gen

/-! ## The constants -/

/-- The norm's epsilon: the number its word stands for. -/
def eps : ℝ := (Ideal.ofBits .f32 0x3727C5AC#32 : EReal).toReal
/-- The residual's factor: the number its word stands for. -/
def alpha : ℝ := (Ideal.ofBits .f32 0x3FB504F3#32 : EReal).toReal

theorem ofBits_eps : Ideal.ofBits .f32 0x3727C5AC#32 = ((eps : ℝ) : EReal) := by
  unfold eps
  simp [Ideal.ofBits, Ideal.ieee, -EReal.coe_mul]
theorem ofBits_alpha : Ideal.ofBits .f32 0x3FB504F3#32 = ((alpha : ℝ) : EReal) := by
  unfold alpha
  simp [Ideal.ofBits, Ideal.ieee, -EReal.coe_mul]
theorem ofBits_1024 : Ideal.ofBits .f32 0x44800000#32 = ((1024 : ℝ) : EReal) := by
  simp [Ideal.ofBits, Ideal.ieee, -EReal.coe_mul]
  norm_num
theorem eps_pos : 0 < eps := by
  unfold eps
  simp [Ideal.ofBits, Ideal.ieee, -EReal.coe_mul]

/-! ## The product and the accumulated rows -/

/-- A block with a leading axis of length one holds the real matrix `M`. -/
def Rep1 {φ : FTy} {a b : ℕ} (X : FVec Ideal ⟨3, ![1, a, b]⟩ φ) (M : Matrix (Fin a) (Fin b) ℝ) : Prop :=
  ∀ i j, X (ValueIdx.ix3 0 i j) = ((M i j : ℝ) : EReal)

theorem pay1 {x0 : FVec Ideal S1x1040x1408 .bf16} {x1 : FVec Ideal S1x1x1024x1408 .bf16} {A : Matrix (Fin 1040) (Fin 1408) ℝ} {B : Matrix (Fin 1024) (Fin 1408) ℝ}
    (h0 : Rep1 x0 A) (h1 : ∀ i j, x1 (ValueIdx.ix4 0 0 i j) = ((B i j : ℝ) : EReal)) : Rep (k0_pay1 (F := Ideal) x0 x1) (of fun i j => ∑ k, A i k * B j k) := fun i j => by
  have hz : (constant (F := Ideal) S1040x1024 .f32 0x00000000#32) (ValueIdx.ix2 i j) = (0 : EReal) := Ideal.ofBits_zero_f32
  unfold k0_pay1
  simp only [pointwise, hz]
  refine sum_mul_coe (fun k => ?_) (fun k => ?_)
  · exact h0 i k
  · exact h1 j k

theorem pay3 {x0 : FVec Ideal S1x1040x1408 .bf16} {x1 : FVec Ideal S1x1x1024x1408 .bf16} {x2 : FVec Ideal S1x1040x1024 .f32} {P D : Matrix (Fin 1040) (Fin 1024) ℝ}
    (hp : Rep (k0_pay1 (F := Ideal) x0 x1) P) (h2 : Rep1 x2 D) : Rep1 (k0_pay3 (F := Ideal) x0 x1 x2) (of fun i j => P i j + alpha * D i j) := fun i j => by
  unfold k0_pay3
  refine (shapeCast_ab_1ab_apply _ _ 0 i j).trans ?_
  show k0_pay1 (F := Ideal) x0 x1 (ValueIdx.ix2 i j) + Ideal.ofBits .f32 0x3FB504F3#32 * (shapeCast S1040x1024 x2 shapeCasts_S1x1040x1024_S1040x1024 (ValueIdx.ix2 i j) : EReal) = _
  rw [hp i j, ofBits_alpha, (shapeCast_1ab_ab_apply x2 _ i j).trans (h2 i j)]
  rfl

theorem pay4 {x0 : FVec Ideal S1x1040x1408 .bf16} {x1 : FVec Ideal S1x1x1024x1408 .bf16} {x5 : FVec Ideal S1x1040x1024 .f32} {P D : Matrix (Fin 1040) (Fin 1024) ℝ}
    (hp : Rep (k0_pay1 (F := Ideal) x0 x1) P) (h5 : Rep1 x5 D) : Rep1 (k0_pay4 (F := Ideal) x0 x1 x5) (D + P) := fun i j => by
  unfold k0_pay4
  refine (shapeCast_ab_1ab_apply _ _ 0 i j).trans ?_
  show (shapeCast S1040x1024 x5 shapeCasts_S1x1040x1024_S1040x1024 (ValueIdx.ix2 i j) : EReal) + k0_pay1 (F := Ideal) x0 x1 (ValueIdx.ix2 i j) = _
  rw [hp i j, (shapeCast_1ab_ab_apply x5 _ i j).trans (h5 i j)]
  rfl

/-! ## The gradient of half a tile -/

theorem meanR {X : FVec Ideal S520x1024 .f32} {A : Matrix (Fin 520) (Fin 1024) ℝ} (h : Rep X A) :
    Rep (divf (shapeCast S520x1 (multiReduction .add [1] S520 X 0x00000000#32 reduces_S520x1024_S520 (.inl rfl) rfl) shapeCasts_S520_S520x1)
      (broadcast S520x1 (Scalar.ofBits (F := Ideal) .f32 0x44800000#32))) (col fun i => Norm.mean (A i)) := fun i j => by
  show Ideal.div (shapeCast S520x1 (multiReduction .add [1] S520 X 0x00000000#32 reduces_S520x1024_S520 (.inl rfl) rfl) shapeCasts_S520_S520x1 (ValueIdx.ix2 i j)) (Ideal.ofBits .f32 0x44800000#32) = _
  have e : (shapeCast S520x1 (multiReduction .add [1] S520 X 0x00000000#32 reduces_S520x1024_S520 (.inl rfl) rfl) shapeCasts_S520_S520x1 (ValueIdx.ix2 i j) : EReal) = ((∑ l, A i l : ℝ) : EReal) := by
    simp only [pointwise]; exact sum_coe fun l => h i l
  rw [e, ofBits_1024, Ideal.div_coe (by norm_num), ← EReal.coe_mul]
  rfl
theorem wideR {c : FVec Ideal S520x1 .f32} {a : Fin 520 → ℝ} (h : Rep c (col a)) : Rep (broadcastTo S520x1024 c broadcasts_S520x1_S520x1024) (of fun i _ => a i) := fun i j => by
  simp only [pointwise]; exact h i 0
theorem downR {g : FVec Ideal S1x1024 .f32} {γ : Norm.Row} (h : ∀ j, g (ValueIdx.ix2 0 j) = ((γ j : ℝ) : EReal)) :
    Rep (broadcastTo S520x1024 g broadcasts_S1x1024_S520x1024) (of fun _ j => γ j) := fun i j => by
  simp only [pointwise]; exact h j

section
variable {v19 v21 : FVec Ideal S1x520x1024 .f32} {v23 : FVec Ideal S1x1024 .f32} {A B : Matrix (Fin 520) (Fin 1024) ℝ} {γ : Norm.Row}

theorem castR {v : FVec Ideal S1x520x1024 .f32} (h : Rep1 v A) : Rep (shapeCast S520x1024 v shapeCasts_S1x520x1024_S520x1024) A := fun i j =>
  (shapeCast_1ab_ab_apply v _ i j).trans (h i j)
theorem pay7 (h : Rep1 v19 A) : Rep (k0_pay7 (F := Ideal) v19) (of fun i j => Norm.cent (A i) j) :=
  ((castR h).subf (wideR (meanR (castR h)))).congr rfl
theorem pay8 (h : Rep1 v19 A) : Rep (k0_pay8 (F := Ideal) v19) (col fun i => Norm.rstd eps (A i)) := fun i j => by
  have hv := meanR ((pay7 h).mulf (pay7 h)) i j
  unfold k0_pay8
  show Ideal.rsqrt (_ + Ideal.ofBits .f32 0x3727C5AC#32) = _
  rw [hv, ofBits_eps, ← EReal.coe_add, Ideal.rsqrt_coe]
  have hs : 0 < Norm.spread eps (A i) := Norm.spread_pos _ _ eps_pos
  show (if Norm.spread eps (A i) < 0 then _ else if Norm.spread eps (A i) = 0 then _ else _) = _
  rw [if_neg hs.not_gt, if_neg hs.ne']
  rfl
theorem pay9 (h : Rep1 v19 A) : Rep (k0_pay9 (F := Ideal) v19) (of fun i j => Norm.unit eps (A i) j) :=
  ((pay7 h).mulf (wideR (pay8 h))).congr rfl
theorem pay10 (h : Rep1 v19 A) (hd : Rep1 v21 B) (hg : ∀ j, v23 (ValueIdx.ix2 0 j) = ((γ j : ℝ) : EReal)) :
    Rep (k0_pay10 (F := Ideal) v19 v21 v23) (of fun i j => Norm.grad eps (A i) (fun l => B i l * γ l) j) :=
  have hw := (castR hd).mulf (downR hg)
  ((wideR (pay8 h)).mulf ((hw.subf (wideR (meanR hw))).subf ((pay9 h).mulf (wideR (meanR (hw.mulf (pay9 h))))))).congr rfl
end

/-! ## The partial sums -/

/-- Row `8 q + s` of half a tile. -/
def sub (q : Fin 65) (s : Fin 8) : Fin 520 := ⟨8 * q.val + s.val, by omega⟩

theorem partR {X : FVec Ideal S520x1024 .f32} {A : Matrix (Fin 520) (Fin 1024) ℝ} (h : Rep X A) :
    Rep (multiReduction .add [0] S8x1024 (shapeCast S65x8x1024 X shapeCasts_S520x1024_S65x8x1024) 0x00000000#32 reduces_S65x8x1024_S8x1024 (.inl rfl) rfl)
      (of fun s j => ∑ q, A (sub q s) j) := fun s j => by
  simp only [pointwise]
  refine sum_coe fun q => Eq.trans ?_ (h (sub q s) j)
  refine congrArg X (funext fun a => Fin.ext ?_)
  match a with
  | ⟨0, _⟩ => show q.val * 8 + s.val = 8 * q.val + s.val; omega
  | ⟨1, _⟩ => rfl

section
variable {v19 v21 : FVec Ideal S1x520x1024 .f32} {v23 : FVec Ideal S1x1024 .f32} {A B : Matrix (Fin 520) (Fin 1024) ℝ} {γ : Norm.Row}

theorem pay11 (h : Rep1 v19 A) (hd : Rep1 v21 B) : Rep (k0_pay11 (F := Ideal) v19 v21) (of fun s j => ∑ q, B (sub q s) j * Norm.unit eps (A (sub q s)) j) :=
  partR ((castR hd).mulf (pay9 h))
theorem pay20 (hd : Rep1 v21 B) : Rep (k0_pay20 (F := Ideal) (k0_pay15 (F := Ideal) v21)) (of fun s j => ∑ q, B (sub q s) j) :=
  partR (castR hd)

/-- A row of the sums' block plus a partial sum. -/
theorem pay13 {v60 : FVec Ideal S8x1024 .f32} {v66 : FVec Ideal S1x8x1024 .f32} {C G : Matrix (Fin 8) (Fin 1024) ℝ} (hc : Rep v60 C) (hg : Rep1 v66 G) :
    Rep1 (k0_pay13 (F := Ideal) v60 v66) (G + C) := fun i j => by
  unfold k0_pay13
  refine (shapeCast_ab_1ab_apply _ _ 0 i j).trans ?_
  show (shapeCast S8x1024 v66 shapeCasts_S1x8x1024_S8x1024 (ValueIdx.ix2 i j) : EReal) + v60 (ValueIdx.ix2 i j) = _
  rw [hc i j, (shapeCast_1ab_ab_apply v66 _ i j).trans (hg i j)]
  rfl
theorem pay12 {v57 : FVec Ideal S520x1024 .f32} (h : Rep v57 A) : Rep1 (k0_pay12 (F := Ideal) v57) A := fun i j =>
  (shapeCast_ab_1ab_apply v57 _ 0 i j).trans (h i j)

theorem pay14_eq (v72 : FVec Ideal S1x8x1024 .f32) : k0_pay14 (F := Ideal) (k0_pay6 (F := Ideal) v21) v72 = k0_pay13 (F := Ideal) (k0_pay20 (F := Ideal) (k0_pay15 (F := Ideal) v21)) v72 := rfl
theorem pay21_eq : k0_pay21 (F := Ideal) (k0_pay15 (F := Ideal) v21) v23 (k0_pay16 (F := Ideal) v19) (k0_pay17 (F := Ideal) v19) = k0_pay12 (F := Ideal) (k0_pay10 (F := Ideal) v19 v21 v23) := rfl
theorem pay22_eq (v125 : FVec Ideal S1x8x1024 .f32) :
    k0_pay22 (F := Ideal) (k0_pay15 (F := Ideal) v21) (k0_pay16 (F := Ideal) v19) (k0_pay17 (F := Ideal) v19) v125 = k0_pay13 (F := Ideal) (k0_pay11 (F := Ideal) v19 v21) v125 := rfl
theorem pay5_eq (v121 : FVec Ideal S8x1024 .f32) (v131 : FVec Ideal S1x8x1024 .f32) : k0_pay5 (F := Ideal) v121 v131 = k0_pay13 (F := Ideal) v121 v131 := rfl
end

end Cert.Tile

end
-- ==== Proof.NormData.lean ====
/-
  THE SECOND CERTIFICATE'S MATHEMATICS over the reals: the arrays the arguments hold, the cotangent `dh` of the norm's
  output (the four column groups' products summed, plus the residual's part), and the three results: the gradients of the
  norm's input, gain and bias. And the sum over all rows, taken tile by tile as the kernel takes it.
-/
module

public import proofs.«01_k».proof.Proof.Tile
public import Mathlib.Logic.Equiv.Fin.Basic
public import Mathlib.Algebra.BigOperators.Fin

@[expose] public section

noncomputable section

namespace Cert.NormData

open Idealize.ShloMosaic Cert.Tile
open Cert.Norm (Row)

abbrev SY : Shape := ⟨3, ![4, 8320, 1408]⟩
abbrev SW : Shape := ⟨4, ![1, 4, 1024, 1408]⟩
abbrev SR : Shape := ⟨3, ![1, 8320, 1024]⟩
abbrev SG : Shape := ⟨2, ![1, 1024]⟩
abbrev SV : Shape := ⟨1, ![1024]⟩

/-- The real arrays of the arguments. -/
structure Data where
  dy : Fin 4 → Fin 8320 → Fin 1408 → ℝ
  w : Fin 4 → Fin 1024 → Fin 1408 → ℝ
  d : Fin 8320 → Row
  r : Fin 8320 → Row
  g : Row

/-- The arguments hold the real arrays. -/
structure Holds (P : Data) (a0 : FVec Ideal SY .bf16) (a1 : FVec Ideal SW .bf16) (a2 a3 : FVec Ideal SR .f32) (a4 : FVec Ideal SG .f32) : Prop where
  dy : ∀ n i k, a0 (ValueIdx.ix3 n i k) = ((P.dy n i k : ℝ) : EReal)
  w : ∀ n j k, a1 (ValueIdx.ix4 0 n j k) = ((P.w n j k : ℝ) : EReal)
  d : ∀ i j, a2 (ValueIdx.ix3 0 i j) = ((P.d i j : ℝ) : EReal)
  r : ∀ i j, a3 (ValueIdx.ix3 0 i j) = ((P.r i j : ℝ) : EReal)
  g : ∀ j, a4 (ValueIdx.ix2 0 j) = ((P.g j : ℝ) : EReal)

variable (P : Data)

/-- One column group's product. -/
def prod (n : Fin 4) (i : Fin 8320) : Row := fun j => ∑ k, P.dy n i k * P.w n j k
/-- The cotangent of the norm's output. -/
def dh (i : Fin 8320) : Row := fun j => alpha * P.d i j + ∑ n, prod P n i j
/-- The cotangent of the normalised row. -/
def dx (i : Fin 8320) : Row := fun j => dh P i j * P.g j

/-- The gradient of the norm's input. -/
def dr (i : Fin 8320) : Row := Norm.grad eps (P.r i) (dx P i)
/-- What a row adds to the gain's gradient. -/
def toGain (i : Fin 8320) : Row := fun j => dh P i j * Norm.unit eps (P.r i) j

def rowsOut : FVec Ideal SR .f32 := fun y => ((dr P (y 1) (y 2) : ℝ) : EReal)
def gainOut : FVec Ideal SV .f32 := fun y => ((∑ i, toGain P i (y 0) : ℝ) : EReal)
def biasOut : FVec Ideal SV .f32 := fun y => ((∑ i, dh P i (y 0) : ℝ) : EReal)

/-! ## Tiles -/

/-- Row `i` of the tile which grid point `t` works on, and the column group it adds. -/
def row (t : ℕ) (i : Fin 1040) : Fin 8320 := ⟨1040 * (t / 4 % 8) + i.val, by omega⟩
def slot (t : ℕ) : Fin 4 := ⟨t % 4, by omega⟩

/-- The accumulated rows after a tile's first `n + 1` column groups. -/
def part (n : ℕ) (i : Fin 8320) : Row := fun j => alpha * P.d i j + ∑ l ∈ Finset.range (n + 1), prod P (slot l) i j

theorem part_zero (i : Fin 8320) (j : Fin 1024) : part P 0 i j = alpha * P.d i j + prod P (slot 0) i j := by
  unfold part; rw [Finset.sum_range_one]
theorem part_succ (n : ℕ) (i : Fin 8320) (j : Fin 1024) : part P (n + 1) i j = part P n i j + prod P (slot (n + 1)) i j := by
  unfold part; rw [Finset.sum_range_succ, ← add_assoc]
theorem part_three (i : Fin 8320) : part P 3 i = dh P i := by
  funext j
  unfold part dh
  rw [Finset.sum_range_succ, Finset.sum_range_succ, Finset.sum_range_succ, Finset.sum_range_one, Fin.sum_univ_four]
  rfl

/-- Row `8 q + s` of a tile's first and second half. -/
def low (q : Fin 65) (s : Fin 8) : Fin 1040 := ⟨(sub q s).val, by have := (sub q s).isLt; omega⟩
def high (q : Fin 65) (s : Fin 8) : Fin 1040 := ⟨520 + (sub q s).val, by have := (sub q s).isLt; omega⟩

/-- What tile `k` adds to the partial sum of the rows that are `s` modulo 8. -/
def tile (f : Fin 8320 → ℝ) (k : ℕ) (s : Fin 8) : ℝ := (∑ q, f (row (4 * k) (low q s))) + ∑ q, f (row (4 * k) (high q s))

theorem sum_split {a b n : ℕ} (hn : a * b = n) (f : Fin n → ℝ) : ∑ i, f i = ∑ x : Fin a, ∑ y : Fin b, f ⟨b * x.val + y.val, by
    subst hn
    calc b * x.val + y.val < b * x.val + b := by omega
      _ = b * (x.val + 1) := by ring
      _ ≤ b * a := Nat.mul_le_mul_left _ x.isLt
      _ = a * b := Nat.mul_comm _ _⟩ := by
  subst hn
  rw [← Fintype.sum_prod_type', ← finProdFinEquiv.sum_comp]
  refine Finset.sum_congr rfl fun x _ => congrArg f (Fin.ext ?_)
  show x.2.val + b * x.1.val = b * x.1.val + x.2.val
  omega

/-- The partial sums of all tiles, summed, are the sum over all rows. -/
theorem sum_tiles (f : Fin 8320 → ℝ) : ∑ s : Fin 8, ∑ k ∈ Finset.range 8, tile f k s = ∑ i, f i := by
  rw [sum_split (a := 8) (b := 1040) rfl f, Finset.sum_comm, Finset.sum_range]
  refine Finset.sum_congr rfl fun k _ => ?_
  rw [sum_split (a := 2) (b := 520) rfl fun i => f ⟨1040 * k.val + i.val, by omega⟩, Fin.sum_univ_two,
    sum_split (a := 65) (b := 8) rfl, sum_split (a := 65) (b := 8) rfl, Finset.sum_comm (γ := Fin 65), Finset.sum_comm (γ := Fin 65), ← Finset.sum_add_distrib]
  refine Finset.sum_congr rfl fun s _ => ?_
  unfold tile
  have hk := k.isLt
  have ek : 4 * k.val / 4 % 8 = k.val := by omega
  refine congrArg₂ (· + ·) (Finset.sum_congr rfl fun q _ => congrArg f (Fin.ext ?_)) (Finset.sum_congr rfl fun q _ => congrArg f (Fin.ext ?_))
  · show 1040 * (4 * k.val / 4 % 8) + (8 * q.val + s.val) = 1040 * k.val + (520 * 0 + (8 * q.val + s.val))
    omega
  · show 1040 * (4 * k.val / 4 % 8) + (520 + (8 * q.val + s.val)) = 1040 * k.val + (520 * 1 + (8 * q.val + s.val))
    omega

end Cert.NormData

end
-- ==== Proof.Cases.lean ====
/-
  The blocks that each case of the second kernel's run leaves in its two outputs.
-/
module

public import proofs.«01_k».proof.Proof.Tile
public import proofs.«01_k».proof.Proof.Gen.Kernel2Ideal.Frame
public import Idealize.ShloMosaic.Lib.Pipeline.Value
public import Idealize.ShloMosaic.Lib.Pipeline.ReadBack

@[expose] public section

noncomputable section

namespace Cert.Tile

open Idealize.ShloMosaic Idealize.SL Idealize.SL.Sem Cert.Kernel2Ideal Cert.Kernel2Ideal.Gen

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

variable (c : Dev nD) (i : grid0.Coords)
  (arg2 : Memref sig .tc .vmem S1x1040x1408 .bf16) (harg2 : arg2.IsWhole) (arg3 : Memref sig .tc .vmem S1x1x1024x1408 .bf16) (harg3 : arg3.IsWhole)
  (arg4 : Memref sig .tc .vmem S1x1040x1024 .f32) (harg4 : arg4.IsWhole) (arg5 : Memref sig .tc .vmem S1x1040x1024 .f32) (harg5 : arg5.IsWhole)
  (arg6 : Memref sig .tc .vmem S1x1024 .f32) (harg6 : arg6.IsWhole) (arg7 : Memref sig .tc .vmem S1x1040x1024 .f32) (harg7 : arg7.IsWhole)
  (arg8 : Memref sig .tc .vmem S2x8x1024 .f32) (harg8 : arg8.IsWhole)
  (x0 : Vec F S1x1040x1408 .bf16) (x1 : Vec F S1x1x1024x1408 .bf16) (x2 x3 : Vec F S1x1040x1024 .f32) (x4 : Vec F S1x1024 .f32)
  (xo5 : Vec F S1x1040x1024 .f32) (xo6 : Vec F S2x8x1024 .f32)

theorem out5_A (hc0 : cond0_0 i) (hc1 : cond0_1 i) (hc2 : ¬cond0_2 i) (hc3 : ¬cond0_3 i) :
    out0_A_5 c i arg2 harg2 arg3 harg3 arg4 harg4 arg5 harg5 arg6 harg6 arg7 harg7 arg8 harg8 hc0 hc1 hc2 hc3 x0 x1 x2 x3 x4 = k0_pay3 x0 x1 x2 := by
  unfold out0_A_5
  rw [View.read_writes_junk_eq_canon]
  unfold kernelRun0_A
  dsimp only
  rw [View.canon_cons_unit_zero hz3]
  simp only [View.readAt_eq_ld, harg2.read_unread, harg3.read_unread, harg4.read_unread, harg5.read_unread, harg6.read_unread, harg7.read_unread, harg8.read_unread,
    View.ld_unit_zero (S := S1x1040x1408) hz3, View.ld_unit_zero (S := S1x1x1024x1408) hz4, View.ld_unit_zero (S := S1x1040x1024) hz3]
theorem out6_A (hc0 : cond0_0 i) (hc1 : cond0_1 i) (hc2 : ¬cond0_2 i) (hc3 : ¬cond0_3 i) :
    out0_A_6 c i arg2 harg2 arg3 harg3 arg4 harg4 arg5 harg5 arg6 harg6 arg7 harg7 arg8 harg8 hc0 hc1 hc2 hc3 x0 x1 x2 x3 x4 = k0_pay2 := by
  unfold out0_A_6
  rw [View.read_writes_junk_eq_canon]
  unfold kernelRun0_A
  dsimp only
  rw [View.canon_cons_unit_zero hz3]
theorem out5_B (hc0 : ¬cond0_0 i) (hc1 : ¬cond0_1 i) (hc2 : cond0_2 i) (hc3 : ¬cond0_3 i) :
    out0_B_5 c i arg2 harg2 arg3 harg3 arg4 harg4 arg5 harg5 arg6 harg6 arg7 harg7 arg8 harg8 hc0 hc1 hc2 hc3 x0 x1 x2 x3 x4 xo5 = k0_pay4 x0 x1 xo5 := by
  unfold out0_B_5
  rw [View.read_writes_junk_eq_canon]
  unfold kernelRun0_B
  dsimp only
  rw [View.canon_cons_unit_zero hz3]
  simp only [View.readAt_eq_ld, harg2.read_unread, harg3.read_unread, harg4.read_unread, harg5.read_unread, harg6.read_unread, harg7.read_unread, harg8.read_unread,
    View.ld_unit_zero (S := S1x1040x1408) hz3, View.ld_unit_zero (S := S1x1x1024x1408) hz4, View.ld_unit_zero (S := S1x1040x1024) hz3]
/-- Half a tile's rows, the first half and the second. -/
def lo (X : Vec F S1x1040x1024 .f32) : Vec F S1x520x1024 .f32 := View.ld X (Rect.unit ![0, 0, 0] ![1, 520, 1024] inb_S1x1040x1024_S1x520x1024_0_0_0)
def hi (X : Vec F S1x1040x1024 .f32) : Vec F S1x520x1024 .f32 := View.ld X (Rect.unit ![0, 520, 0] ![1, 520, 1024] inb_S1x1040x1024_S1x520x1024_0_520_0)
/-- The two rows of the sums' block. -/
def row0 (X : Vec F S2x8x1024 .f32) : Vec F S1x8x1024 .f32 := View.ld X (Rect.unit ![0, 0, 0] ![1, 8, 1024] inb_S2x8x1024_S1x8x1024_0_0_0)
def row1 (X : Vec F S2x8x1024 .f32) : Vec F S1x8x1024 .f32 := View.ld X (Rect.unit ![1, 0, 0] ![1, 8, 1024] inb_S2x8x1024_S1x8x1024_1_0_0)

/-- Two halves, one below the other. -/
def halves (X Y : Vec F S1x520x1024 .f32) : Vec F S1x1040x1024 .f32 := fun y =>
  if h : (y 1).val < 520 then X (ValueIdx.ix3 (n0 := 1) (n1 := 520) (n2 := 1024) 0 ⟨(y 1).val, h⟩ (y 2))
  else Y (ValueIdx.ix3 (n0 := 1) (n1 := 520) (n2 := 1024) 0 ⟨(y 1).val - 520, by have : (y 1).val < 1040 := (y 1).isLt; omega⟩ (y 2))
/-- Two rows of sums. -/
def rows (X Y : Vec F S1x8x1024 .f32) : Vec F S2x8x1024 .f32 := fun y =>
  if (y 0).val = 0 then X (ValueIdx.ix3 (n0 := 1) (n1 := 8) (n2 := 1024) 0 (y 1) (y 2)) else Y (ValueIdx.ix3 (n0 := 1) (n1 := 8) (n2 := 1024) 0 (y 1) (y 2))

theorem halves_lo (X Y : Vec F S1x520x1024 .f32) (x : S1x520x1024.Idx) :
    X x = halves X Y ((Rect.unit (s := S1x1040x1024) ![0, 0, 0] ![1, 520, 1024] inb_S1x1040x1024_S1x520x1024_0_0_0).emb x) := by
  have h0 : (x 0).val < 1 := (x 0).isLt
  have h1 : (x 1).val < 520 := (x 1).isLt
  unfold halves
  refine Eq.trans ?_ (dif_pos (show 0 + 1 * (x 1).val < 520 by omega)).symm
  refine congrArg X (funext fun a => Fin.ext ?_)
  match a with
  | ⟨0, _⟩ => show (x 0).val = 0; omega
  | ⟨1, _⟩ => show (x 1).val = 0 + 1 * (x 1).val; omega
  | ⟨2, _⟩ => show (x 2).val = 0 + 1 * (x 2).val; omega
theorem halves_hi (X Y : Vec F S1x520x1024 .f32) (x : S1x520x1024.Idx) :
    Y x = halves X Y ((Rect.unit (s := S1x1040x1024) ![0, 520, 0] ![1, 520, 1024] inb_S1x1040x1024_S1x520x1024_0_520_0).emb x) := by
  have h0 : (x 0).val < 1 := (x 0).isLt
  have h1 : (x 1).val < 520 := (x 1).isLt
  unfold halves
  refine Eq.trans ?_ (dif_neg (show ¬520 + 1 * (x 1).val < 520 by omega)).symm
  refine congrArg Y (funext fun a => Fin.ext ?_)
  match a with
  | ⟨0, _⟩ => show (x 0).val = 0; omega
  | ⟨1, _⟩ => show (x 1).val = 520 + 1 * (x 1).val - 520; omega
  | ⟨2, _⟩ => show (x 2).val = 0 + 1 * (x 2).val; omega
theorem rows_0 (X Y : Vec F S1x8x1024 .f32) (x : S1x8x1024.Idx) :
    X x = rows X Y ((Rect.unit (s := S2x8x1024) ![0, 0, 0] ![1, 8, 1024] inb_S2x8x1024_S1x8x1024_0_0_0).emb x) := by
  have h0 : (x 0).val < 1 := (x 0).isLt
  unfold rows
  refine Eq.trans ?_ (if_pos (show 0 + 1 * (x 0).val = 0 by omega)).symm
  refine congrArg X (funext fun a => Fin.ext ?_)
  match a with
  | ⟨0, _⟩ => show (x 0).val = 0; omega
  | ⟨1, _⟩ => show (x 1).val = 0 + 1 * (x 1).val; omega
  | ⟨2, _⟩ => show (x 2).val = 0 + 1 * (x 2).val; omega
theorem rows_1 (X Y : Vec F S1x8x1024 .f32) (x : S1x8x1024.Idx) :
    Y x = rows X Y ((Rect.unit (s := S2x8x1024) ![1, 0, 0] ![1, 8, 1024] inb_S2x8x1024_S1x8x1024_1_0_0).emb x) := by
  have h0 : (x 0).val < 1 := (x 0).isLt
  unfold rows
  refine Eq.trans ?_ (if_neg (show ¬1 + 1 * (x 0).val = 0 by omega)).symm
  refine congrArg Y (funext fun a => Fin.ext ?_)
  match a with
  | ⟨0, _⟩ => show (x 0).val = 0; omega
  | ⟨1, _⟩ => show (x 1).val = 0 + 1 * (x 1).val; omega
  | ⟨2, _⟩ => show (x 2).val = 0 + 1 * (x 2).val; omega

theorem cover_halves (w1 w0 : S1x520x1024.Idx → Elt F .f32) (y : S1x1040x1024.Idx) :
    ∃ p ∈ ([⟨Rect.unit (s := S1x1040x1024) ![0, 520, 0] ![1, 520, 1024] inb_S1x1040x1024_S1x520x1024_0_520_0, w1⟩,
      ⟨Rect.unit (s := S1x1040x1024) ![0, 0, 0] ![1, 520, 1024] inb_S1x1040x1024_S1x520x1024_0_0_0, w0⟩] : List (View.Piece (Elt F) S1x1040x1024 .f32)), y ∈ p.1.set :=
  View.cover_of_tiledL _ ![1, 520, 1024] (by sl_kernel_rfl) y
theorem cover_rows (w1 w0 : S1x8x1024.Idx → Elt F .f32) (y : S2x8x1024.Idx) :
    ∃ p ∈ ([⟨Rect.unit (s := S2x8x1024) ![1, 0, 0] ![1, 8, 1024] inb_S2x8x1024_S1x8x1024_1_0_0, w1⟩,
      ⟨Rect.unit (s := S2x8x1024) ![0, 0, 0] ![1, 8, 1024] inb_S2x8x1024_S1x8x1024_0_0_0, w0⟩] : List (View.Piece (Elt F) S2x8x1024 .f32)), y ∈ p.1.set :=
  View.cover_of_tiledL _ ![1, 8, 1024] (by sl_kernel_rfl) y

theorem C_v21 : kernelRun0_C.sl.v21 (F := F) c arg2 harg2 arg3 harg3 arg7 harg7 x0 x1 xo5 = lo (k0_pay4 x0 x1 xo5) := by
  unfold kernelRun0_C.sl.v21
  unfold kernelRun0_C.sl.H5_1
  rw [View.readCov_eq_canon', View.canon_cons_unit_zero hz3]
  simp only [kernelRun0_C.sl.v2, View.readAt_eq_ld, harg2.read_unread, harg3.read_unread, harg7.read_unread,
    View.ld_unit_zero (S := S1x1040x1408) hz3, View.ld_unit_zero (S := S1x1x1024x1408) hz4, View.ld_unit_zero (S := S1x1040x1024) hz3]
  rfl
theorem C_v80 : kernelRun0_C.sl.v80 (F := F) c arg2 harg2 arg3 harg3 arg5 harg5 arg6 harg6 arg7 harg7 x0 x1 x3 x4 xo5 = hi (k0_pay4 x0 x1 xo5) := by
  unfold kernelRun0_C.sl.v80
  unfold kernelRun0_C.sl.H5_2 kernelRun0_C.sl.H5_1
  rw [View.readCov_skip _ _ _ _ _ (by decide), View.readCov_eq_canon', View.canon_cons_unit_zero hz3]
  simp only [kernelRun0_C.sl.v2, View.readAt_eq_ld, harg2.read_unread, harg3.read_unread, harg5.read_unread, harg6.read_unread, harg7.read_unread,
    View.ld_unit_zero (S := S1x1040x1408) hz3, View.ld_unit_zero (S := S1x1x1024x1408) hz4, View.ld_unit_zero (S := S1x1040x1024) hz3]
  rfl
theorem C_r_1 : kernelRun0_C.sl.r_1 (F := F) c arg2 harg2 arg3 harg3 arg5 harg5 arg6 harg6 arg7 harg7 x0 x1 x3 x4 xo5 = k0_pay10 (lo x3) (lo (k0_pay4 x0 x1 xo5)) x4 := by
  unfold kernelRun0_C.sl.r_1
  simp only [C_v21, View.readAt_eq_ld, harg2.read_unread, harg3.read_unread, harg5.read_unread, harg6.read_unread, harg7.read_unread, View.ld_unit_zero (S := S1x1024) hz2]
  rfl
theorem C_v125 : kernelRun0_C.sl.v125 (F := F) c arg2 harg2 arg3 harg3 arg5 harg5 arg7 harg7 arg8 harg8 x0 x1 x3 xo5 xo6
    = k0_pay13 (k0_pay11 (lo x3) (lo (k0_pay4 x0 x1 xo5))) (row0 xo6) := by
  unfold kernelRun0_C.sl.v125 kernelRun0_C.sl.H6_2
  rw [View.readCov_skip _ _ _ _ _ (by decide), View.readCov_cons_toLoadRect]
  simp only [kernelRun0_C.sl.r_2, C_v21, View.readAt_eq_ld, harg2.read_unread, harg3.read_unread, harg5.read_unread, harg7.read_unread, harg8.read_unread]
  rfl
theorem C_v131 : kernelRun0_C.sl.v131 (F := F) c arg2 harg2 arg3 harg3 arg5 harg5 arg6 harg6 arg7 harg7 arg8 harg8 x0 x1 x3 x4 xo5 xo6
    = k0_pay13 (k0_pay20 (k0_pay15 (lo (k0_pay4 x0 x1 xo5)))) (row1 xo6) := by
  unfold kernelRun0_C.sl.v131 kernelRun0_C.sl.H6_3 kernelRun0_C.sl.H6_2
  rw [View.readCov_skip _ _ _ _ _ (by decide)]
  refine (View.readCov_cons_toLoadRect _ _ _ _).trans ?_
  simp only [kernelRun0_C.sl.r, kernelRun0_C.sl.v72, C_v21, View.readAt_eq_ld, harg2.read_unread, harg3.read_unread, harg5.read_unread, harg6.read_unread, harg7.read_unread, harg8.read_unread]
  rfl

theorem out5_C (hc0 : ¬cond0_0 i) (hc1 : ¬cond0_1 i) (hc2 : cond0_2 i) (hc3 : cond0_3 i) :
    out0_C_5 c i arg2 harg2 arg3 harg3 arg4 harg4 arg5 harg5 arg6 harg6 arg7 harg7 arg8 harg8 hc0 hc1 hc2 hc3 x0 x1 x2 x3 x4 xo5 xo6
      = halves (k0_pay12 (k0_pay10 (lo x3) (lo (k0_pay4 x0 x1 xo5)) x4)) (k0_pay12 (k0_pay10 (hi x3) (hi (k0_pay4 x0 x1 xo5)) x4)) := by
  unfold out0_C_5
  rw [View.read_writes_junk_eq_canon]
  unfold kernelRun0_C
  dsimp only
  simp only [kernelRun0_C.sl.r_3, kernelRun0_C.sl.r_4, kernelRun0_C.sl.r_5, kernelRun0_C.sl.r_6, kernelRun0_C.sl.H5_2, C_v80, C_r_1, View.readAt_eq_ld, harg5.read_unread, harg6.read_unread,
    View.ld_unit_zero (S := S1x1024) hz2]
  funext y
  exact View.canon_append_of_piecesOf _ _ [_, _] ⟨fun x => halves_hi _ _ x, fun x => halves_lo _ _ x, trivial⟩ y (cover_halves _ _ y)
theorem out6_C (hc0 : ¬cond0_0 i) (hc1 : ¬cond0_1 i) (hc2 : cond0_2 i) (hc3 : cond0_3 i) :
    out0_C_6 c i arg2 harg2 arg3 harg3 arg4 harg4 arg5 harg5 arg6 harg6 arg7 harg7 arg8 harg8 hc0 hc1 hc2 hc3 x0 x1 x2 x3 x4 xo5 xo6
      = rows (k0_pay13 (k0_pay11 (hi x3) (hi (k0_pay4 x0 x1 xo5))) (k0_pay13 (k0_pay11 (lo x3) (lo (k0_pay4 x0 x1 xo5))) (row0 xo6)))
          (k0_pay13 (k0_pay20 (k0_pay15 (hi (k0_pay4 x0 x1 xo5)))) (k0_pay13 (k0_pay20 (k0_pay15 (lo (k0_pay4 x0 x1 xo5)))) (row1 xo6))) := by
  unfold out0_C_6
  rw [View.read_writes_junk_eq_canon]
  unfold kernelRun0_C
  dsimp only
  simp only [C_v131]
  simp only [kernelRun0_C.sl.r_3, kernelRun0_C.sl.r_4, kernelRun0_C.sl.r_5, kernelRun0_C.sl.r_6, kernelRun0_C.sl.r_7, kernelRun0_C.sl.H6_3, C_v80, C_v125, View.readAt_eq_ld, harg5.read_unread]
  funext y
  exact View.canon_append_of_piecesOf _ _ [_, _] ⟨fun x => rows_1 _ _ x, fun x => rows_0 _ _ x, trivial⟩ y (cover_rows _ _ y)
theorem out5_D (hc0 : ¬cond0_0 i) (hc1 : cond0_1 i) (hc2 : ¬cond0_2 i) (hc3 : ¬cond0_3 i) :
    out0_D_5 c i arg2 harg2 arg3 harg3 arg4 harg4 arg5 harg5 arg6 harg6 arg7 harg7 arg8 harg8 hc0 hc1 hc2 hc3 x0 x1 x2 x3 x4 = k0_pay3 x0 x1 x2 := by
  unfold out0_D_5
  rw [View.read_writes_junk_eq_canon]
  unfold kernelRun0_D
  dsimp only
  rw [View.canon_cons_unit_zero hz3]
  simp only [View.readAt_eq_ld, harg2.read_unread, harg3.read_unread, harg4.read_unread, harg5.read_unread, harg6.read_unread, harg7.read_unread, harg8.read_unread,
    View.ld_unit_zero (S := S1x1040x1408) hz3, View.ld_unit_zero (S := S1x1x1024x1408) hz4, View.ld_unit_zero (S := S1x1040x1024) hz3]

end Cert.Tile

end
-- ==== Proof.Points.lean ====
/-
  THE SECOND KERNEL over the reals, point by point: grid point `t` works on tile `t / 4` and adds column group `t % 4`; by
  induction on the points the first output's buffer holds the accumulated rows (after a tile's last group: their gradient)
  and the second's the partial sums of the tiles that are done.
-/
module

public import proofs.«01_k».proof.Proof.NormData
public import proofs.«01_k».proof.Proof.Cases

@[expose] public section

noncomputable section

namespace Cert.Points

open Idealize.ShloMosaic Idealize.ShloMosaic.ValueIdx Idealize.SL Idealize.SL.Sem Matrix
open Cert.Rep Cert.Tile Cert.NormData Cert.Kernel2Ideal Cert.Kernel2Ideal.Gen

/-! ## The blocks read at a point -/

theorem i0 : ∀ t : Fin cfg0.N, win0_0.index t = ![t.val % 4, t.val / 4, 0] := (by decide +kernel : ∀ t : Fin grid0.N, _)
theorem i1 : ∀ t : Fin cfg0.N, win0_1.index t = ![0, t.val % 4, 0, 0] := (by decide +kernel : ∀ t : Fin grid0.N, _)
theorem i2 : ∀ t : Fin cfg0.N, win0_2.index t = ![0, t.val / 4, 0] := (by decide +kernel : ∀ t : Fin grid0.N, _)
theorem i3 : ∀ t : Fin cfg0.N, win0_3.index t = ![0, t.val / 4, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, t.val / 4, 0] := (by decide +kernel : ∀ t : Fin grid0.N, _)
theorem i6 : ∀ t : Fin cfg0.N, win0_6.index t = ![0, 0, 0] := (by decide +kernel : ∀ t : Fin grid0.N, _)

variable (m : (ℓ : Loc nD τ sig) → Buf (Elt Ideal) ℓ) (c : Dev nD)

theorem lt_N (t : Fin cfg0.N) : t.val < 32 := lt_of_lt_of_eq t.isLt (show cfg0.N = 32 from N_0)

theorem blk0 (t : Fin cfg0.N) (i : Fin 1040) (k : Fin 1408) :
    (iblk m c 0 t : FVec Ideal S1x1040x1408 .bf16) (ValueIdx.ix3 0 i k) = (m ((c.tc : Thread nD τ).loc main_arg0) : FVec Ideal SY .bf16) (ValueIdx.ix3 (slot t.val) (row t.val i) k) := by
  have ht := lt_N t
  unfold iblk
  rw [View.read_apply]
  refine congrArg (m ((c.tc : Thread nD τ).loc main_arg0) : FVec Ideal SY .bf16) (funext fun a => Fin.ext ?_)
  match a with
  | ⟨0, _⟩ => show win0_0.index t 0 * 1 + 1 * 0 = t.val % 4; rw [i0]; show t.val % 4 * 1 + _ = _; omega
  | ⟨1, _⟩ => show win0_0.index t 1 * 1040 + 1 * i.val = 1040 * (t.val / 4 % 8) + i.val; rw [i0]; show t.val / 4 * 1040 + _ = _; omega
  | ⟨2, _⟩ => show win0_0.index t 2 * 1408 + 1 * k.val = k.val; rw [i0]; show 0 * 1408 + _ = _; omega
theorem blk1 (t : Fin cfg0.N) (j : Fin 1024) (k : Fin 1408) :
    (iblk m c 1 t : FVec Ideal S1x1x1024x1408 .bf16) (ValueIdx.ix4 0 0 j k) = (m ((c.tc : Thread nD τ).loc main_arg1) : FVec Ideal SW .bf16) (ValueIdx.ix4 0 (slot t.val) j k) := by
  unfold iblk
  rw [View.read_apply]
  refine congrArg (m ((c.tc : Thread nD τ).loc main_arg1) : FVec Ideal SW .bf16) (funext fun a => Fin.ext ?_)
  match a with
  | ⟨0, _⟩ => show win0_1.index t 0 * 1 + 1 * 0 = 0; rw [i1]; rfl
  | ⟨1, _⟩ => show win0_1.index t 1 * 1 + 1 * 0 = t.val % 4; rw [i1]; show t.val % 4 * 1 + _ = _; omega
  | ⟨2, _⟩ => show win0_1.index t 2 * 1024 + 1 * j.val = j.val; rw [i1]; show 0 * 1024 + _ = _; omega
  | ⟨3, _⟩ => show win0_1.index t 3 * 1408 + 1 * k.val = k.val; rw [i1]; show 0 * 1408 + _ = _; omega
theorem blk2 (t : Fin cfg0.N) (i : Fin 1040) (j : Fin 1024) :
    (iblk m c 2 t : FVec Ideal S1x1040x1024 .f32) (ValueIdx.ix3 0 i j) = (m ((c.tc : Thread nD τ).loc main_arg2) : FVec Ideal SR .f32) (ValueIdx.ix3 0 (row t.val i) j) := by
  have ht := lt_N t
  unfold iblk
  rw [View.read_apply]
  refine congrArg (m ((c.tc : Thread nD τ).loc main_arg2) : FVec Ideal SR .f32) (funext fun a => Fin.ext ?_)
  match a with
  | ⟨0, _⟩ => show win0_2.index t 0 * 1 + 1 * 0 = 0; rw [i2]; rfl
  | ⟨1, _⟩ => show win0_2.index t 1 * 1040 + 1 * i.val = 1040 * (t.val / 4 % 8) + i.val; rw [i2]; show t.val / 4 * 1040 + _ = _; omega
  | ⟨2, _⟩ => show win0_2.index t 2 * 1024 + 1 * j.val = j.val; rw [i2]; show 0 * 1024 + _ = _; omega
theorem blk3 (t : Fin cfg0.N) (i : Fin 1040) (j : Fin 1024) :
    (iblk m c 3 t : FVec Ideal S1x1040x1024 .f32) (ValueIdx.ix3 0 i j) = (m ((c.tc : Thread nD τ).loc main_arg3) : FVec Ideal SR .f32) (ValueIdx.ix3 0 (row t.val i) j) := by
  have ht := lt_N t
  unfold iblk
  rw [View.read_apply]
  refine congrArg (m ((c.tc : Thread nD τ).loc main_arg3) : FVec Ideal SR .f32) (funext fun a => Fin.ext ?_)
  match a with
  | ⟨0, _⟩ => show win0_3.index t 0 * 1 + 1 * 0 = 0; rw [i3]; rfl
  | ⟨1, _⟩ => show win0_3.index t 1 * 1040 + 1 * i.val = 1040 * (t.val / 4 % 8) + i.val; rw [i3]; show t.val / 4 * 1040 + _ = _; omega
  | ⟨2, _⟩ => show win0_3.index t 2 * 1024 + 1 * j.val = j.val; rw [i3]; show 0 * 1024 + _ = _; omega
theorem blk4 (t : Fin cfg0.N) (j : Fin 1024) :
    (iblk m c 4 t : FVec Ideal S1x1024 .f32) (ValueIdx.ix2 0 j) = (m ((c.tc : Thread nD τ).loc main_arg4) : FVec Ideal SG .f32) (ValueIdx.ix2 0 j) := by
  unfold iblk
  rw [View.read_apply]
  refine congrArg (m ((c.tc : Thread nD τ).loc main_arg4) : FVec Ideal SG .f32) (funext fun a => Fin.ext ?_)
  match a with
  | ⟨0, _⟩ => show win0_4.index t 0 * 1 + 1 * 0 = 0; rw [i4]; rfl
  | ⟨1, _⟩ => show win0_4.index t 1 * 1024 + 1 * j.val = j.val; rw [i4]; show 0 * 1024 + _ = _; omega

/-! ## Halves and rows of a block -/

theorem lo_apply (X : FVec Ideal S1x1040x1024 .f32) (i : Fin 520) (j : Fin 1024) : lo (F := Ideal) X (ValueIdx.ix3 0 i j) = X (ValueIdx.ix3 0 ⟨i.val, by omega⟩ j) := by
  unfold lo
  refine congrArg X (funext fun a => Fin.ext ?_)
  match a with
  | ⟨0, _⟩ => rfl
  | ⟨1, _⟩ => show 0 + 1 * i.val = i.val; omega
  | ⟨2, _⟩ => show 0 + 1 * j.val = j.val; omega
theorem hi_apply (X : FVec Ideal S1x1040x1024 .f32) (i : Fin 520) (j : Fin 1024) : hi (F := Ideal) X (ValueIdx.ix3 0 i j) = X (ValueIdx.ix3 0 ⟨520 + i.val, by omega⟩ j) := by
  unfold hi
  refine congrArg X (funext fun a => Fin.ext ?_)
  match a with
  | ⟨0, _⟩ => rfl
  | ⟨1, _⟩ => show 520 + 1 * i.val = 520 + i.val; omega
  | ⟨2, _⟩ => show 0 + 1 * j.val = j.val; omega
theorem row0_apply (X : FVec Ideal S2x8x1024 .f32) (s : Fin 8) (j : Fin 1024) : row0 (F := Ideal) X (ValueIdx.ix3 0 s j) = X (ValueIdx.ix3 0 s j) := by
  unfold row0
  refine congrArg X (funext fun a => Fin.ext ?_)
  match a with
  | ⟨0, _⟩ => rfl
  | ⟨1, _⟩ => show 0 + 1 * s.val = s.val; omega
  | ⟨2, _⟩ => show 0 + 1 * j.val = j.val; omega
theorem row1_apply (X : FVec Ideal S2x8x1024 .f32) (s : Fin 8) (j : Fin 1024) : row1 (F := Ideal) X (ValueIdx.ix3 0 s j) = X (ValueIdx.ix3 1 s j) := by
  unfold row1
  refine congrArg X (funext fun a => Fin.ext ?_)
  match a with
  | ⟨0, _⟩ => rfl
  | ⟨1, _⟩ => show 0 + 1 * s.val = s.val; omega
  | ⟨2, _⟩ => show 0 + 1 * j.val = j.val; omega

theorem Rep1.lo {X : FVec Ideal S1x1040x1024 .f32} {A : Matrix (Fin 1040) (Fin 1024) ℝ} (h : Rep1 (φ := .f32) X A) : Rep1 (φ := .f32) (Tile.lo (F := Ideal) X) (of fun i : Fin 520 => A ⟨i.val, by omega⟩) :=
  fun i j => (lo_apply X i j).trans (h _ j)
theorem Rep1.hi {X : FVec Ideal S1x1040x1024 .f32} {A : Matrix (Fin 1040) (Fin 1024) ℝ} (h : Rep1 (φ := .f32) X A) : Rep1 (φ := .f32) (Tile.hi (F := Ideal) X) (of fun i : Fin 520 => A ⟨520 + i.val, by omega⟩) :=
  fun i j => (hi_apply X i j).trans (h _ j)
theorem Rep1.halves {X Y : FVec Ideal S1x520x1024 .f32} {A : Matrix (Fin 1040) (Fin 1024) ℝ} (hX : Rep1 (φ := .f32) X (of fun i : Fin 520 => A ⟨i.val, by omega⟩))
    (hY : Rep1 (φ := .f32) Y (of fun i : Fin 520 => A ⟨520 + i.val, by omega⟩)) : Rep1 (φ := .f32) (Tile.halves (F := Ideal) X Y) A := fun i j => by
  unfold Tile.halves
  by_cases h : i.val < 520
  · refine (dif_pos (show ((ValueIdx.ix3 (n0 := 1) (n1 := 1040) (n2 := 1024) 0 i j) 1).val < 520 from h)).trans ?_
    exact hX ⟨i.val, h⟩ j
  · refine (dif_neg (show ¬((ValueIdx.ix3 (n0 := 1) (n1 := 1040) (n2 := 1024) 0 i j) 1).val < 520 from h)).trans ?_
    refine (hY ⟨i.val - 520, by omega⟩ j).trans ?_
    show ((A ⟨520 + (i.val - 520), _⟩ j : ℝ) : EReal) = _
    rw [show (⟨520 + (i.val - 520), by omega⟩ : Fin 1040) = i from Fin.ext (by dsimp only; omega)]

/-! ## The points -/

/-- One tile more. -/
theorem tiles_succ (f : Fin 8320 → ℝ) (n : ℕ) (h : (n + 1) % 4 = 3) (hn : n + 1 < 32) (s : Fin 8) :
    ((∑ k ∈ Finset.range ((n + 1) / 4), tile f k s) + ∑ q : Fin 65, f (row (n + 1) (low q s))) + ∑ q : Fin 65, f (row (n + 1) (high q s))
      = ∑ k ∈ Finset.range ((n + 1 + 1) / 4), tile f k s := by
  rw [show (n + 1 + 1) / 4 = (n + 1) / 4 + 1 by omega, Finset.sum_range_succ, add_assoc]
  refine congrArg (_ + ·) ?_
  have hr : ∀ i : Fin 1040, NormData.row (4 * ((n + 1) / 4)) i = NormData.row (n + 1) i := fun i => Fin.ext (by
    show 1040 * (4 * ((n + 1) / 4) / 4 % 8) + i.val = 1040 * ((n + 1) / 4 % 8) + i.val
    rw [Nat.mul_div_cancel_left _ (by decide)])
  unfold tile
  simp only [hr]

variable (P : Data)
  (H : Holds P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))
include H

theorem prod_at (t : Fin cfg0.N) : Rep (k0_pay1 (F := Ideal) (iblk m c 0 t) (iblk m c 1 t)) (of fun i => prod P (slot t.val) (row t.val i)) :=
  (pay1 (x0 := iblk m c 0 t) (x1 := iblk m c 1 t) (A := of fun i k => P.dy (slot t.val) (row t.val i) k) (B := of fun j k => P.w (slot t.val) j k)
    (fun i k => (blk0 m c t i k).trans (H.dy _ _ _)) (fun j k => (blk1 m c t j k).trans (H.w _ _ _))).congr rfl
theorem res_at (t : Fin cfg0.N) : Rep1 (φ := .f32) (iblk m c 2 t) (of fun i => P.d (row t.val i)) := fun i j => (blk2 m c t i j).trans (H.d _ _)
theorem r_at (t : Fin cfg0.N) : Rep1 (φ := .f32) (iblk m c 3 t) (of fun i => P.r (row t.val i)) := fun i j => (blk3 m c t i j).trans (H.r _ _)
theorem g_at (t : Fin cfg0.N) (j : Fin 1024) : (iblk m c 4 t : FVec Ideal S1x1024 .f32) (ValueIdx.ix2 0 j) = ((P.g j : ℝ) : EReal) := (blk4 m c t j).trans (H.g _)

/-- What the two buffers hold after point `n`. -/
structure After (n : ℕ) (X : FVec Ideal S1x1040x1024 .f32) (Y : FVec Ideal S2x8x1024 .f32) : Prop where
  acc : n % 4 < 3 → Rep1 X (of fun i => part P (n % 4) (row n i))
  done : n % 4 = 3 → Rep1 X (of fun i => dr P (row n i))
  gain : ∀ s j, Y (ValueIdx.ix3 0 s j) = ((∑ k ∈ Finset.range ((n + 1) / 4), tile (fun i => toGain P i j) k s : ℝ) : EReal)
  bias : ∀ s j, Y (ValueIdx.ix3 1 s j) = ((∑ k ∈ Finset.range ((n + 1) / 4), tile (fun i => dh P i j) k s : ℝ) : EReal)

/-- The first column group. -/
theorem first (t : Fin cfg0.N) (h : t.val % 4 = 0) : Rep1 (k0_pay3 (F := Ideal) (iblk m c 0 t) (iblk m c 1 t) (iblk m c 2 t)) (of fun i => part P (t.val % 4) (row t.val i)) := by
  intro i j
  refine (pay3 (prod_at m c P H t) (res_at m c P H t) i j).trans ?_
  show ((prod P (slot t.val) (row t.val i) j + alpha * P.d (row t.val i) j : ℝ) : EReal) = ((part P (t.val % 4) (row t.val i) j : ℝ) : EReal)
  rw [h, part_zero, show slot t.val = slot 0 from Fin.ext h, add_comm]
/-- The next one. -/
theorem more (t : Fin cfg0.N) (n : ℕ) (e : t.val = n + 1) (h : t.val % 4 ≠ 0) (X : FVec Ideal S1x1040x1024 .f32) (hX : Rep1 (φ := .f32) X (of fun i => part P (n % 4) (row n i))) :
    Rep1 (k0_pay4 (F := Ideal) (iblk m c 0 t) (iblk m c 1 t) X) (of fun i => part P (t.val % 4) (row t.val i)) := by
  intro i j
  refine (pay4 (prod_at m c P H t) hX i j).trans ?_
  show ((part P (n % 4) (row n i) j + prod P (slot t.val) (row t.val i) j : ℝ) : EReal) = ((part P (t.val % 4) (row t.val i) j : ℝ) : EReal)
  have hr : row n i = row t.val i := Fin.ext (by show 1040 * (n / 4 % 8) + i.val = 1040 * (t.val / 4 % 8) + i.val; omega)
  have hs : slot t.val = slot (n % 4 + 1) := Fin.ext (by show t.val % 4 = (n % 4 + 1) % 4; omega)
  rw [hr, hs, show t.val % 4 = n % 4 + 1 by omega, part_succ]

theorem after_zero (hn : 0 < cfg0.N) : After P 0 (outsAt0 m c 0 hn).1 (outsAt0 m c 0 hn).2 := by
  have e := outsAt0_A m c ⟨0, hn⟩ rfl rfl (show ¬1 ≤ 0 % 4 by decide) (show ¬0 % 4 = 3 by decide)
  rw [out5_A, out6_A] at e
  have e1 : ((outsAt0 m c 0 hn).1 : FVec Ideal S1x1040x1024 .f32) = _ := congrArg Prod.fst e
  have e2 : ((outsAt0 m c 0 hn).2 : FVec Ideal S2x8x1024 .f32) = _ := congrArg Prod.snd e
  rw [e1, e2]
  refine ⟨fun _ => first m c P H ⟨0, hn⟩ rfl, fun h => absurd h (by decide), fun s j => ?_, fun s j => ?_⟩
  · show Ideal.ofBits .f32 0x00000000#32 = _
    rw [Ideal.ofBits_zero_f32]; rfl
  · show Ideal.ofBits .f32 0x00000000#32 = _
    rw [Ideal.ofBits_zero_f32]; rfl

theorem after_succ (n : ℕ) (hn : n + 1 < cfg0.N) (ih : After P n (outsAt0 m c n (Nat.lt_of_succ_lt hn)).1 (outsAt0 m c n (Nat.lt_of_succ_lt hn)).2) :
    After P (n + 1) (outsAt0 m c (n + 1) hn).1 (outsAt0 m c (n + 1) hn).2 := by
  have hN := lt_N ⟨n + 1, hn⟩
  dsimp only at hN
  by_cases h1 : (n + 1) % 4 = 0
  · have e := outsAt0_D m c ⟨n + 1, hn⟩ (by dsimp only; omega) h1 (by dsimp only; omega) (by dsimp only; omega)
    rw [out5_D] at e
    have e1 : ((outsAt0 m c (n + 1) hn).1 : FVec Ideal S1x1040x1024 .f32) = _ := congrArg Prod.fst e
    have e2 : ((outsAt0 m c (n + 1) hn).2 : FVec Ideal S2x8x1024 .f32) = (outsAt0 m c n (Nat.lt_of_succ_lt hn)).2 := (congrArg Prod.snd e).trans rfl
    rw [e1, e2]
    refine ⟨fun _ => first m c P H ⟨n + 1, hn⟩ h1, fun h => absurd h (by omega), fun s j => ?_, fun s j => ?_⟩
    · rw [show (n + 1 + 1) / 4 = (n + 1) / 4 by omega]; exact ih.gain s j
    · rw [show (n + 1 + 1) / 4 = (n + 1) / 4 by omega]; exact ih.bias s j
  · have hp := more m c P H ⟨n + 1, hn⟩ n rfl h1 _ (ih.acc (by omega))
    by_cases h3 : (n + 1) % 4 = 3
    · have e := outsAt0_C m c ⟨n + 1, hn⟩ (by dsimp only; omega) h1 (by dsimp only; omega) h3
      rw [out5_C, out6_C] at e
      have e1 : ((outsAt0 m c (n + 1) hn).1 : FVec Ideal S1x1040x1024 .f32) = _ := congrArg Prod.fst e
      have e2 : ((outsAt0 m c (n + 1) hn).2 : FVec Ideal S2x8x1024 .f32) = _ := congrArg Prod.snd e
      rw [e1, e2]
      have hd : Rep1 (k0_pay4 (F := Ideal) (iblk m c 0 ⟨n + 1, hn⟩) (iblk m c 1 ⟨n + 1, hn⟩) (outsAt0 m c n (Nat.lt_of_succ_lt hn)).1) (of fun i => dh P (row (n + 1) i)) := by
        intro i j
        refine (hp i j).trans ?_
        show ((part P ((n + 1) % 4) (row (n + 1) i) j : ℝ) : EReal) = _
        rw [h3, part_three]; rfl
      have hr := r_at m c P H ⟨n + 1, hn⟩
      have hg := g_at m c P H ⟨n + 1, hn⟩
      refine ⟨fun h => absurd h (by omega), fun _ => ?_, fun s j => ?_, fun s j => ?_⟩
      · exact Rep1.halves (pay12 (pay10 (Rep1.lo hr) (Rep1.lo hd) hg)) (pay12 (pay10 (Rep1.hi hr) (Rep1.hi hd) hg))
      · refine (pay13 (pay11 (Rep1.hi hr) (Rep1.hi hd)) (pay13 (pay11 (Rep1.lo hr) (Rep1.lo hd)) (G := of fun s j => ∑ k ∈ Finset.range ((n + 1) / 4), tile (fun i => toGain P i j) k s) (fun s j => (row0_apply _ s j).trans (ih.gain s j))) s j).trans ?_
        exact congrArg ((↑) : ℝ → EReal) (tiles_succ (fun i => toGain P i j) n h3 hN s)
      · refine (pay13 (pay20 (Rep1.hi hd)) (pay13 (pay20 (Rep1.lo hd)) (G := of fun s j => ∑ k ∈ Finset.range ((n + 1) / 4), tile (fun i => dh P i j) k s) (fun s j => (row1_apply _ s j).trans (ih.bias s j))) s j).trans ?_
        exact congrArg ((↑) : ℝ → EReal) (tiles_succ (fun i => dh P i j) n h3 hN s)
    · have e := outsAt0_B m c ⟨n + 1, hn⟩ (by dsimp only; omega) h1 (by dsimp only; omega) h3
      rw [out5_B] at e
      have e1 : ((outsAt0 m c (n + 1) hn).1 : FVec Ideal S1x1040x1024 .f32) = _ := congrArg Prod.fst e
      have e2 : ((outsAt0 m c (n + 1) hn).2 : FVec Ideal S2x8x1024 .f32) = (outsAt0 m c n (Nat.lt_of_succ_lt hn)).2 := (congrArg Prod.snd e).trans rfl
      rw [e1, e2]
      refine ⟨fun _ => hp, fun h => absurd h h3, fun s j => ?_, fun s j => ?_⟩
      · rw [show (n + 1 + 1) / 4 = (n + 1) / 4 by omega]; exact ih.gain s j
      · rw [show (n + 1 + 1) / 4 = (n + 1) / 4 by omega]; exact ih.bias s j

theorem after (n : ℕ) : ∀ hn : n < cfg0.N, After P n (outsAt0 m c n hn).1 (outsAt0 m c n hn).2 := by
  induction n with
  | zero => exact fun hn => after_zero m c P H hn
  | succ n ih => exact fun hn => after_succ m c P H n hn (ih _)

end Cert.Points

end
-- ==== Proof.Result.lean ====
/-
  THE SECOND KERNEL'S RESULTS over the reals: the arrays it writes, and the host operations after it, which add up the
  eight partial sums of either gradient, end at `NormData.rowsOut`, `NormData.gainOut` and `NormData.biasOut`.
-/
module

public import proofs.«01_k».proof.Proof.Points
public import proofs.«01_k».proof.Proof.Gen.Kernel2Ideal.Frame
public import Idealize.ShloMosaic.Lib.Pipeline.ValueKit.Geometry

@[expose] public section

noncomputable section

namespace Cert.Result

open Idealize.ShloMosaic Idealize.ShloMosaic.ValueIdx Idealize.ShloMosaic.StableHlo Idealize.SL Idealize.SL.Sem Matrix
open Cert.Rep Cert.Tile Cert.NormData Cert.Points Cert.Kernel2Ideal Cert.Kernel2Ideal.Gen

variable (m : (ℓ : Loc nD τ sig) → Buf (Elt Ideal) ℓ) (c : Dev nD)
variable (P : Data)
  (H : Holds P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))

/-- The partial sums of all tiles, as the second output holds them. -/
def sumsOut : FVec Ideal S2x8x1024 .f32 := fun y =>
  if (y 0).val = 0 then ((∑ k ∈ Finset.range 8, tile (fun i => toGain P i (y 2)) k (y 1) : ℝ) : EReal)
  else ((∑ k ∈ Finset.range 8, tile (fun i => dh P i (y 2)) k (y 1) : ℝ) : EReal)

theorem rowsOut_at (z : SR.Idx) (i : Fin 8320) (j : Fin 1024) (e1 : (z 1).val = i.val) (e2 : (z 2).val = j.val) : rowsOut P z = ((dr P i j : ℝ) : EReal) := by
  unfold rowsOut
  rw [show (z 1 : Fin 8320) = i from Fin.ext e1, show (z 2 : Fin 1024) = j from Fin.ext e2]
theorem sumsOut_zero (z : S2x8x1024.Idx) (s : Fin 8) (j : Fin 1024) (e0 : (z 0).val = 0) (e1 : (z 1).val = s.val) (e2 : (z 2).val = j.val) :
    sumsOut P z = ((∑ k ∈ Finset.range 8, tile (fun i => toGain P i j) k s : ℝ) : EReal) := by
  unfold sumsOut
  rw [if_pos e0, show (z 1 : Fin 8) = s from Fin.ext e1, show (z 2 : Fin 1024) = j from Fin.ext e2]
theorem sumsOut_one (z : S2x8x1024.Idx) (s : Fin 8) (j : Fin 1024) (e0 : (z 0).val = 1) (e1 : (z 1).val = s.val) (e2 : (z 2).val = j.val) :
    sumsOut P z = ((∑ k ∈ Finset.range 8, tile (fun i => dh P i j) k s : ℝ) : EReal) := by
  unfold sumsOut
  rw [if_neg (by omega), show (z 1 : Fin 8) = s from Fin.ext e1, show (z 2 : Fin 1024) = j from Fin.ext e2]

/-- The first output is written back after a tile's last column group only. -/
theorem last5 : ∀ t : Fin cfg0.N, win0_5.flush t = true → t.val % 4 = 3 := (by decide +kernel : ∀ t : Fin grid0.N, _)
theorem last6 : ∀ t : Fin cfg0.N, win0_6.flush t = true → t.val = 31 := (by decide +kernel : ∀ t : Fin grid0.N, _)

include H

theorem final5 : (dats m 0 c).arrAt 5 cfg0.N = rowsOut P := by
  refine (dats m 0 c).arrAt_eq_of_covers 5 _ (by decide +kernel) fun t hf y => ?_
  blk_simp
  rw [after0_5]
  have ht := lt_N t
  have h3 := last5 t hf
  have hy : y = ValueIdx.ix3 (n0 := 1) (n1 := 1040) (n2 := 1024) 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  refine ((congrArg ((outsAt0 m c t.val t.isLt).1 : FVec Ideal S1x1040x1024 .f32) hy).trans ((after m c P H t.val t.isLt).done h3 (y 1) (y 2))).trans (rowsOut_at P _ (NormData.row t.val (y 1)) (y 2) ?_ ?_).symm
  · show win0_5.index t 1 * 1040 + 1 * (y 1).val = 1040 * (t.val / 4 % 8) + (y 1).val; rw [i5]; show t.val / 4 * 1040 + _ = _; omega
  · show win0_5.index t 2 * 1024 + 1 * (y 2).val = (y 2).val; rw [i5]; show 0 * 1024 + _ = _; omega

theorem final6 : (dats m 0 c).arrAt 6 cfg0.N = sumsOut P := by
  refine (dats m 0 c).arrAt_eq_of_covers 6 _ (by decide +kernel) fun t hf y => ?_
  blk_simp
  rw [after0_6]
  have ht := last6 t hf
  have A := after m c P H t.val t.isLt
  have h8 : (t.val + 1) / 4 = 8 := by omega
  have hy0 : (y 0).val < 2 := (y 0).isLt
  have z0 : win0_6.index t 0 * 2 + 1 * (y 0).val = (y 0).val := by rw [i6]; show 0 * 2 + _ = _; omega
  have z1 : win0_6.index t 1 * 8 + 1 * (y 1).val = (y 1).val := by rw [i6]; show 0 * 8 + _ = _; omega
  have z2 : win0_6.index t 2 * 1024 + 1 * (y 2).val = (y 2).val := by rw [i6]; show 0 * 1024 + _ = _; omega
  by_cases h0 : (y 0).val = 0
  · have hy : y = ValueIdx.ix3 (n0 := 2) (n1 := 8) (n2 := 1024) 0 (y 1) (y 2) := funext fun a => by
      match a with
      | ⟨0, _⟩ => exact Fin.ext h0
      | ⟨1, _⟩ => rfl
      | ⟨2, _⟩ => rfl
    refine ((congrArg ((outsAt0 m c t.val t.isLt).2 : FVec Ideal S2x8x1024 .f32) hy).trans (A.gain (y 1) (y 2))).trans ?_
    rw [h8]
    exact (sumsOut_zero P _ (y 1) (y 2) (Eq.trans z0 h0) z1 z2).symm
  · have h1 : (y 0).val = 1 := by omega
    have hy : y = ValueIdx.ix3 (n0 := 2) (n1 := 8) (n2 := 1024) 1 (y 1) (y 2) := funext fun a => by
      match a with
      | ⟨0, _⟩ => exact Fin.ext h1
      | ⟨1, _⟩ => rfl
      | ⟨2, _⟩ => rfl
    refine ((congrArg ((outsAt0 m c t.val t.isLt).2 : FVec Ideal S2x8x1024 .f32) hy).trans (A.bias (y 1) (y 2))).trans ?_
    rw [h8]
    exact (sumsOut_one P _ (y 1) (y 2) (Eq.trans z0 h1) z1 z2).symm

omit H in
/-- The host operations after the kernel, at either row of the sums. -/
theorem host_gain : Host.reduceAdd (F := Ideal) (shapeCast S8x1024 (extractStridedSlice S1x8x1024 ![0, 0, 0] (sumsOut P) slices_S2x8x1024_S1x8x1024_0_0_0) shapeCasts_S1x8x1024_S8x1024)
    (constant S_ .f32 0x00000000#32) reducesTo_S8x1024_S1024_d0 h_S_ = gainOut P := funext fun y => by
  obtain ⟨j, rfl⟩ : ∃ j : Fin 1024, y = ValueIdx.ix1 j := ⟨y 0, funext fun a => by match a with | ⟨0, _⟩ => rfl⟩
  simp only [pointwise, Ideal.hostReduceAdd_def]
  refine (congrArg ((0 : EReal) + ·) (sum_coe (a := fun s => ∑ k ∈ Finset.range 8, tile (fun i => toGain P i j) k s) fun s => sumsOut_zero P _ s j ?_ ?_ ?_)).trans ?_
  · rfl
  · show 0 + s.val = s.val; omega
  · show 0 + j.val = j.val; omega
  · rw [zero_add, sum_tiles]; rfl
omit H in
theorem host_bias : Host.reduceAdd (F := Ideal) (shapeCast S8x1024 (extractStridedSlice S1x8x1024 ![1, 0, 0] (sumsOut P) slices_S2x8x1024_S1x8x1024_1_0_0) shapeCasts_S1x8x1024_S8x1024)
    (constant S_ .f32 0x00000000#32) reducesTo_S8x1024_S1024_d0 h_S_ = biasOut P := funext fun y => by
  obtain ⟨j, rfl⟩ : ∃ j : Fin 1024, y = ValueIdx.ix1 j := ⟨y 0, funext fun a => by match a with | ⟨0, _⟩ => rfl⟩
  simp only [pointwise, Ideal.hostReduceAdd_def]
  refine (congrArg ((0 : EReal) + ·) (sum_coe (a := fun s => ∑ k ∈ Finset.range 8, tile (fun i => dh P i j) k s) fun s => sumsOut_one P _ s j ?_ ?_ ?_)).trans ?_
  · rfl
  · show 0 + s.val = s.val; omega
  · show 0 + j.val = j.val; omega
  · rw [zero_add, sum_tiles]; rfl

/-- The second output's array as the host operations read it. -/
theorem sums_read : Pipeline.withArrays cfg0.spec c (V0 m c) (fun w => (dats m 0 c).arrAt w cfg0.N) (Proc.devRef .tc main_v0_1) = sumsOut P :=
  (Pipeline.withArrays_arr cfg0.spec launch0.win.arr_inj c (V0 m c) (fun w => (dats m 0 c).arrAt w cfg0.N) 6).trans (final6 m c P H)

omit H in
/-- What the host operations leave, from what they find. -/
theorem tail_gain (W : Valuation τ sig (Elt Ideal)) : StableHlo.after hostOps1 W (Proc.devRef .tc main_v3)
    = Host.reduceAdd (F := Ideal) (shapeCast S8x1024 (extractStridedSlice S1x8x1024 ![0, 0, 0] (W (Proc.devRef .tc main_v0_1) : FVec Ideal S2x8x1024 .f32) slices_S2x8x1024_S1x8x1024_0_0_0) shapeCasts_S1x8x1024_S8x1024)
      (constant S_ .f32 0x00000000#32) reducesTo_S8x1024_S1024_d0 h_S_ := by
  after_results_simp <;> rfl
omit H in
theorem tail_bias (W : Valuation τ sig (Elt Ideal)) : StableHlo.after hostOps1 W (Proc.devRef .tc main_v6)
    = Host.reduceAdd (F := Ideal) (shapeCast S8x1024 (extractStridedSlice S1x8x1024 ![1, 0, 0] (W (Proc.devRef .tc main_v0_1) : FVec Ideal S2x8x1024 .f32) slices_S2x8x1024_S1x8x1024_1_0_0) shapeCasts_S1x8x1024_S8x1024)
      (constant S_ .f32 0x00000000#32) reducesTo_S8x1024_S1024_d0 h_S_ := by
  after_results_simp <;> rfl

theorem gain_read : Pipeline.afterTail₀ cfgs (dats m) 0 (V0 m) [hostOps1] c main_v3 = gainOut P := by
  refine (tail_gain (Pipeline.withArrays cfg0.spec c (V0 m c) (fun w => (dats m 0 c).arrAt w cfg0.N))).trans ?_
  rw [sums_read m c P H]
  exact host_gain P
theorem bias_read : Pipeline.afterTail₀ cfgs (dats m) 0 (V0 m) [hostOps1] c main_v6 = biasOut P := by
  refine (tail_bias (Pipeline.withArrays cfg0.spec c (V0 m c) (fun w => (dats m 0 c).arrAt w cfg0.N))).trans ?_
  rw [sums_read m c P H]
  exact host_bias P

omit H in
theorem rest3 : main_v3 ∈ Pipeline.restRefs sig cfg0.spec := Pipeline.mem_restRefs_of _ (by decide) (by decide)
omit H in
theorem rest6 : main_v6 ∈ Pipeline.restRefs sig cfg0.spec := Pipeline.mem_restRefs_of _ (by decide) (by decide)

omit H in
/-- The run: every device's results, and the arguments unchanged. -/
theorem run (ρ : Dev nD → PrngReg) (D : Dev nD → Data)
    (H : ∀ c, Holds (D c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) :
    θ_run defs (onTc (τ := τ) (main (F := Ideal))) ⟨m, fun _ => 0, ρ⟩ (fun r => ∀ c : Dev nD,
      r.2.mem ((c.tc : Thread nD τ).loc main_v0_0) = rowsOut (D c)
      ∧ r.2.mem ((c.tc : Thread nD τ).loc main_v3) = gainOut (D c)
      ∧ r.2.mem ((c.tc : Thread nD τ).loc main_v6) = biasOut (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c _ (H c)), ((h.1 c).2 main_v3 rest3).trans (gain_read m c _ (H c)),
      ((h.1 c).2 main_v6 rest6).trans (bias_read m c _ (H c)), h.2 c⟩)
    (θ_run_and (run_main m ρ) (unchanged m ρ))

end Cert.Result

end
-- ==== Proof.RefNorm.lean ====
/-
  THE SECOND REFERENCE over the reals: the lines which differentiating the norm and the product gives, one after another,
  hold the real matrices of `NormData`, so the reference's results are `NormData.rowsOut`, `gainOut` and `biasOut`.
-/
module

public import proofs.«01_k».proof.Proof.NormData
public import proofs.«01_k».proof.Proof.Gen.Reference2Ideal
public import proofs.«01_k».proof.Proof.Gen.Reference2Ideal.Run
public import Idealize.ShloMosaic.Lib.Pointwise

@[expose] public section

noncomputable section

namespace Cert.RefNorm

open Idealize.ShloMosaic Idealize.ShloMosaic.ValueIdx Matrix
open Cert.Chunk Cert.Rep Cert.Tile Cert.NormData Cert.Reference2Ideal Cert.Reference2Ideal.Gen

/-! ## The operations -/

abbrev Big := FVec Ideal S8320x1024 .f32
abbrev Col := FVec Ideal S8320x1 .f32

def zero : FVec Ideal S_ .f32 := constant S_ .f32 0x00000000#32
/-- A column's entry in every column. -/
def wide (c : Col) : Big := broadcastInDim S8320x1024 ![0, 1] bcast_S8320x1_S8320x1024_0_1 c
/-- A literal, as a column and as a block. -/
def litCol (w : BitVec 32) : Col := broadcastInDim S8320x1 ![] bcast_S_S8320x1 (constant S_ .f32 w)
def lit (w : BitVec 32) : Big := broadcastInDim S8320x1024 ![] bcast_S_S8320x1024 (constant S_ .f32 w)
/-- The rows' sums and the columns' sums. -/
def sums (X : Big) : FVec Ideal S8320 .f32 := Host.reduceAdd X zero reducesTo_S8320x1024_S8320_d1 h_S_
def sumsCol (X : Big) : Col := shapeCast S8320x1 (sums X) shapeCasts_S8320_S8320x1
def down (X : Big) : FVec Ideal S1024 .f32 :=
  Host.reduceAdd (shapeCast S1x1024 (Host.reduceAdd X zero reducesTo_S8320x1024_S1024_d0 h_S_) shapeCasts_S1024_S1x1024) zero reducesTo_S1x1024_S1024_d0 h_S_
/-- A column, summed over its one entry a row and put in every column. -/
def spreadCol (c : Col) : Big := broadcastInDim S8320x1024 ![0] bcast_S8320_S8320x1024_0 (Host.reduceAdd c zero reducesTo_S8320x1_S8320_d1 h_S_)
/-- The rows' means. -/
def meanCol (X : Big) : Col := Host.divf (broadcastInDim S8320x1 ![0] bcast_S8320_S8320x1_0 (sums X)) (litCol 0x44800000#32)

section
variable {X Y : Big} {A B : Matrix (Fin 8320) (Fin 1024) ℝ} {c : Col} {a : Fin 8320 → ℝ}

theorem sumsR (h : Rep X A) (i : Fin 8320) : sums X (ValueIdx.ix1 i) = ((∑ j, A i j : ℝ) : EReal) := by
  unfold sums zero
  simp only [pointwise, Ideal.hostReduceAdd_def]
  exact (zero_add _).trans (sum_coe fun j => h i j)
theorem sumsColR (h : Rep X A) : Rep (sumsCol X) (col fun i => ∑ j, A i j) := fun i j => by
  unfold sumsCol
  simp only [pointwise]
  exact sumsR h i
theorem downR (h : Rep X A) (j : Fin 1024) : down X (ValueIdx.ix1 j) = ((∑ i, A i j : ℝ) : EReal) := by
  unfold down zero
  simp only [pointwise, Ideal.hostReduceAdd_def]
  exact (zero_add _).trans ((Fin.sum_univ_one _).trans ((zero_add _).trans (sum_coe fun i => h i j)))
theorem wideR (h : Rep c (col a)) : Rep (wide c) (of fun i _ => a i) := fun i j => by
  unfold wide
  simp only [pointwise]; exact h i 0
theorem spreadR (h : Rep c (col a)) : Rep (spreadCol c) (of fun i _ => a i) := fun i j => by
  unfold spreadCol zero
  simp only [pointwise, Ideal.hostReduceAdd_def]
  exact (zero_add _).trans ((Fin.sum_univ_one _).trans (h i 0))
theorem litColR {w : BitVec 32} {x : ℝ} (h : Ideal.ofBits .f32 w = (x : EReal)) : Rep (litCol w) (col fun _ => x) := fun i j => by
  unfold litCol
  simp only [pointwise]; exact h
theorem litR {w : BitVec 32} {x : ℝ} (h : Ideal.ofBits .f32 w = (x : EReal)) : Rep (lit w) (of fun _ _ => x) := fun i j => by
  unfold lit
  simp only [pointwise]; exact h
theorem divR {c d : Col} {a b : Fin 8320 → ℝ} (hc : Rep c (col a)) (hd : Rep d (col b)) (h : ∀ i, b i ≠ 0) : Rep (Host.divf c d) (col fun i => a i * (1 / b i)) := fun i j => by
  show Ideal.div (c _) (d _) = _
  rw [hc i j, hd i j]
  show Ideal.div ((a i : ℝ) : EReal) ((b i : ℝ) : EReal) = _
  rw [Ideal.div_coe (h i), ← EReal.coe_mul]; rfl
theorem meanR (h : Rep X A) : Rep (meanCol X) (col fun i => Norm.mean (A i)) :=
  divR (fun i j => by simp only [pointwise]; exact sumsR h i) (litColR ofBits_1024) fun _ => by norm_num
theorem negR (h : Rep X A) : Rep (Host.negf X) (-A) := fun i j => by
  show -(X _) = _
  rw [h i j, ← EReal.coe_neg]; rfl
end

/-! ## The norm's lines -/

section
variable (X D : Big) (g : FVec Ideal S1024 .f32)

def cent : Big := subf X (wide (meanCol X))
def spread : Col := addf (meanCol (mulf (cent X) (cent X))) (litCol 0x3727C5AC#32)
def rstd : Col := Host.rsqrt (spread X)
def unit : Big := mulf (cent X) (wide (rstd X))
/-- The cotangent of the normalised rows. -/
def cot : Big := mulf D (broadcastInDim S8320x1024 ![0, 1] bcast_S1x1024_S8320x1024_0_1 (broadcastInDim S1x1024 ![1] bcast_S1024_S1x1024_1 g))
def slope (W : Big) : Col := Host.divf (mulf (sumsCol (mulf (cent X) W)) (mulf (litCol 0xBF000000#32) (Host.divf (rstd X) (spread X)))) (litCol 0x44800000#32)
def left (W : Big) : Big := mulf W (wide (rstd X))
def right (W : Big) : Big := mulf (spreadCol (slope X W)) (mulf (lit 0x40000000#32) (cent X))
def grad (W : Big) : Big :=
  addf (addf (left X W) (right X W)) (spreadCol (Host.divf (addf (sumsCol (Host.negf (left X W))) (sumsCol (Host.negf (right X W)))) (litCol 0x44800000#32)))

variable {X D g} {A B : Matrix (Fin 8320) (Fin 1024) ℝ} {γ : Norm.Row} {W : Big}

theorem ofBits_two : Ideal.ofBits .f32 0x40000000#32 = ((2 : ℝ) : EReal) := by
  simp [Ideal.ofBits, Ideal.ieee, -EReal.coe_mul]
  try norm_num
theorem ofBits_half : Ideal.ofBits .f32 0xBF000000#32 = ((-(1 / 2) : ℝ) : EReal) := by
  simp [Ideal.ofBits, Ideal.ieee, -EReal.coe_mul]
  try norm_num

theorem centR (h : Rep X A) : Rep (cent X) (of fun i j => Norm.cent (A i) j) := (h.subf (wideR (meanR h))).congr rfl
theorem spreadRowR (h : Rep X A) : Rep (spread X) (col fun i => Norm.spread eps (A i)) :=
  ((meanR ((centR h).mulf (centR h))).addf (litColR ofBits_eps)).congr rfl
theorem rstdR (h : Rep X A) : Rep (rstd X) (col fun i => Norm.rstd eps (A i)) := fun i j => by
  show Ideal.rsqrt (spread X _) = _
  rw [spreadRowR h i j, Ideal.rsqrt_coe]
  have hs : 0 < Norm.spread eps (A i) := Norm.spread_pos _ _ eps_pos
  show (if Norm.spread eps (A i) < 0 then _ else if Norm.spread eps (A i) = 0 then _ else _) = _
  rw [if_neg hs.not_gt, if_neg hs.ne']
  rfl
theorem unitR (h : Rep X A) : Rep (unit X) (of fun i j => Norm.unit eps (A i) j) := ((centR h).mulf (wideR (rstdR h))).congr rfl
theorem cotR (hD : Rep D B) (hg : ∀ j, g (ValueIdx.ix1 j) = ((γ j : ℝ) : EReal)) : Rep (cot D g) (of fun i j => B i j * γ j) :=
  (hD.mulf (B := of fun _ j => γ j) fun i j => by simp only [pointwise]; exact hg j).congr rfl
theorem slopeR (h : Rep X A) (hW : Rep W B) : Rep (slope X W) (col fun i => Norm.slope eps (A i) (B i)) :=
  (divR (((sumsColR ((centR h).mulf hW)).mulf ((litColR ofBits_half).mulf (divR (rstdR h) (spreadRowR h) fun i => (Norm.spread_pos _ _ eps_pos).ne'))).congr
    (B := Chunk.col fun i => (∑ j, Norm.cent (A i) j * B i j) * (-(1 / 2) * (Norm.rstd eps (A i) * (1 / Norm.spread eps (A i))))) rfl) (litColR ofBits_1024) fun _ => by norm_num).congr rfl
theorem leftR (h : Rep X A) (hW : Rep W B) : Rep (left X W) (of fun i j => B i j * Norm.rstd eps (A i)) := (hW.mulf (wideR (rstdR h))).congr rfl
theorem rightR (h : Rep X A) (hW : Rep W B) : Rep (right X W) (of fun i j => Norm.slope eps (A i) (B i) * (2 * Norm.cent (A i) j)) :=
  ((spreadR (slopeR h hW)).mulf ((litR ofBits_two).mulf (centR h))).congr rfl
theorem gradR (h : Rep X A) (hW : Rep W B) : Rep (grad X W) (of fun i j => Norm.grad eps (A i) (B i) j) :=
  (((leftR h hW).addf (rightR h hW)).addf (spreadR (divR (((sumsColR (negR (leftR h hW))).addf (sumsColR (negR (rightR h hW)))).congr
    (B := Chunk.col fun i => (∑ l, -(B i l * Norm.rstd eps (A i))) + ∑ l, -(Norm.slope eps (A i) (B i) * (2 * Norm.cent (A i) l))) rfl)
    (litColR ofBits_1024) fun _ => by norm_num))).congr (Matrix.ext fun i j => Norm.grad_eq eps (A i) (B i) eps_pos j)
end

/-! ## The product -/

section
variable (a0 : FVec Ideal SY .bf16) (a1 : FVec Ideal SW .bf16)

def wide0 : FVec Ideal S4x8320x1408 .f32 := extf .f32 a0 bitsLt_bf16_f32
def wide1 : FVec Ideal S4x1024x1408 .f32 := extf .f32 (shapeCast S4x1024x1408 a1 shapeCasts_S1x4x1024x1408_S4x1024x1408) bitsLt_bf16_f32

/-- The four column groups side by side. -/
def cat0 : FVec Ideal S8320x5632 .f32 :=
  Value.fn_main_v56 (F := Ideal) (shapeCast S8320x1408 (extractStridedSlice S1x8320x1408 ![0, 0, 0] (wide0 a0) slices_S4x8320x1408_S1x8320x1408_0_0_0) shapeCasts_S1x8320x1408_S8320x1408)
    (shapeCast S8320x1408 (extractStridedSlice S1x8320x1408 ![1, 0, 0] (wide0 a0) slices_S4x8320x1408_S1x8320x1408_1_0_0) shapeCasts_S1x8320x1408_S8320x1408)
    (shapeCast S8320x1408 (extractStridedSlice S1x8320x1408 ![2, 0, 0] (wide0 a0) slices_S4x8320x1408_S1x8320x1408_2_0_0) shapeCasts_S1x8320x1408_S8320x1408)
    (shapeCast S8320x1408 (extractStridedSlice S1x8320x1408 ![3, 0, 0] (wide0 a0) slices_S4x8320x1408_S1x8320x1408_3_0_0) shapeCasts_S1x8320x1408_S8320x1408)
def cat1 : FVec Ideal S1024x5632 .f32 :=
  Value.fn_main_v43 (F := Ideal) (shapeCast S1024x1408 (extractStridedSlice S1x1024x1408 ![0, 0, 0] (wide1 a1) slices_S4x1024x1408_S1x1024x1408_0_0_0) shapeCasts_S1x1024x1408_S1024x1408)
    (shapeCast S1024x1408 (extractStridedSlice S1x1024x1408 ![1, 0, 0] (wide1 a1) slices_S4x1024x1408_S1x1024x1408_1_0_0) shapeCasts_S1x1024x1408_S1024x1408)
    (shapeCast S1024x1408 (extractStridedSlice S1x1024x1408 ![2, 0, 0] (wide1 a1) slices_S4x1024x1408_S1x1024x1408_2_0_0) shapeCasts_S1x1024x1408_S1024x1408)
    (shapeCast S1024x1408 (extractStridedSlice S1x1024x1408 ![3, 0, 0] (wide1 a1) slices_S4x1024x1408_S1x1024x1408_3_0_0) shapeCasts_S1x1024x1408_S1024x1408)

/-- The column of entry `k` of group `n`. -/
def at4 (n : Fin 4) (k : Fin 1408) : Fin 5632 := ⟨1408 * n.val + k.val, by omega⟩

theorem fn56 (u : Fin 4 → FVec Ideal S8320x1408 .f32) (n : Fin 4) (i : Fin 8320) (k : Fin 1408) :
    (Value.fn_main_v56 (F := Ideal) (u 0) (u 1) (u 2) (u 3) : FVec Ideal S8320x5632 .f32) (ValueIdx.ix2 i (at4 n k)) = u n (ValueIdx.ix2 i k) := by
  have hi : ∀ b : Fin 2, b ≠ 1 → ((ValueIdx.ix2 (n0 := 8320) (n1 := 1408) i k) b).val = ((ValueIdx.ix2 (n0 := 8320) (n1 := 5632) i (at4 n k)) b).val := fun b hb => by
    match b with
    | ⟨0, _⟩ => rfl
    | ⟨1, _⟩ => exact absurd rfl hb
  unfold Value.fn_main_v56
  match n with
  | ⟨0, _⟩ => exact concatenate_apply_piece (t := S8320x5632) 1 _ _ _ 0 (by show 0 < 4; omega) S8320x1408 (u 0) rfl rfl 0 rfl (ValueIdx.ix2 i k) hi (by show 0 + k.val = 1408 * 0 + k.val; omega)
  | ⟨1, _⟩ => exact concatenate_apply_piece (t := S8320x5632) 1 _ _ _ 1 (by show 1 < 4; omega) S8320x1408 (u 1) rfl rfl 1408 rfl (ValueIdx.ix2 i k) hi (by show 1408 + k.val = 1408 * 1 + k.val; omega)
  | ⟨2, _⟩ => exact concatenate_apply_piece (t := S8320x5632) 1 _ _ _ 2 (by show 2 < 4; omega) S8320x1408 (u 2) rfl rfl 2816 rfl (ValueIdx.ix2 i k) hi (by show 2816 + k.val = 1408 * 2 + k.val; omega)
  | ⟨3, _⟩ => exact concatenate_apply_piece (t := S8320x5632) 1 _ _ _ 3 (by show 3 < 4; omega) S8320x1408 (u 3) rfl rfl 4224 rfl (ValueIdx.ix2 i k) hi (by show 4224 + k.val = 1408 * 3 + k.val; omega)
theorem fn43 (u : Fin 4 → FVec Ideal S1024x1408 .f32) (n : Fin 4) (i : Fin 1024) (k : Fin 1408) :
    (Value.fn_main_v43 (F := Ideal) (u 0) (u 1) (u 2) (u 3) : FVec Ideal S1024x5632 .f32) (ValueIdx.ix2 i (at4 n k)) = u n (ValueIdx.ix2 i k) := by
  have hi : ∀ b : Fin 2, b ≠ 1 → ((ValueIdx.ix2 (n0 := 1024) (n1 := 1408) i k) b).val = ((ValueIdx.ix2 (n0 := 1024) (n1 := 5632) i (at4 n k)) b).val := fun b hb => by
    match b with
    | ⟨0, _⟩ => rfl
    | ⟨1, _⟩ => exact absurd rfl hb
  unfold Value.fn_main_v43
  match n with
  | ⟨0, _⟩ => exact concatenate_apply_piece (t := S1024x5632) 1 _ _ _ 0 (by show 0 < 4; omega) S1024x1408 (u 0) rfl rfl 0 rfl (ValueIdx.ix2 i k) hi (by show 0 + k.val = 1408 * 0 + k.val; omega)
  | ⟨1, _⟩ => exact concatenate_apply_piece (t := S1024x5632) 1 _ _ _ 1 (by show 1 < 4; omega) S1024x1408 (u 1) rfl rfl 1408 rfl (ValueIdx.ix2 i k) hi (by show 1408 + k.val = 1408 * 1 + k.val; omega)
  | ⟨2, _⟩ => exact concatenate_apply_piece (t := S1024x5632) 1 _ _ _ 2 (by show 2 < 4; omega) S1024x1408 (u 2) rfl rfl 2816 rfl (ValueIdx.ix2 i k) hi (by show 2816 + k.val = 1408 * 2 + k.val; omega)
  | ⟨3, _⟩ => exact concatenate_apply_piece (t := S1024x5632) 1 _ _ _ 3 (by show 3 < 4; omega) S1024x1408 (u 3) rfl rfl 4224 rfl (ValueIdx.ix2 i k) hi (by show 4224 + k.val = 1408 * 3 + k.val; omega)

/-- One column group. -/
def group0 (n : Fin 4) : FVec Ideal S8320x1408 .f32 := fun y => a0 (ValueIdx.ix3 n (y 0) (y 1))
def group1 (n : Fin 4) : FVec Ideal S1024x1408 .f32 := fun y => a1 (ValueIdx.ix4 0 n (y 0) (y 1))

theorem slice0 (n : Fin 4) (h : S4x8320x1408.Slices ![n.val, 0, 0] S1x8320x1408) :
    shapeCast S8320x1408 (extractStridedSlice S1x8320x1408 ![n.val, 0, 0] (wide0 a0) h) shapeCasts_S1x8320x1408_S8320x1408 = group0 a0 n := funext fun y => by
  obtain ⟨i, k, rfl⟩ : ∃ (i : Fin 8320) (k : Fin 1408), y = ValueIdx.ix2 i k := ⟨y 0, y 1, funext fun a => by match a with | ⟨0, _⟩ => rfl | ⟨1, _⟩ => rfl⟩
  refine (shapeCast_1ab_ab_apply _ _ i k).trans ?_
  refine congrArg a0 (funext fun a => Fin.ext ?_)
  match a with
  | ⟨0, _⟩ => show n.val + 0 = n.val; omega
  | ⟨1, _⟩ => show 0 + i.val = i.val; omega
  | ⟨2, _⟩ => show 0 + k.val = k.val; omega
theorem wide1_apply (n : Fin 4) (j : Fin 1024) (k : Fin 1408) : wide1 a1 (ValueIdx.ix3 n j k) = a1 (ValueIdx.ix4 0 n j k) := by
  unfold wide1
  simp only [pointwise]
  rfl
theorem slice1 (n : Fin 4) (h : S4x1024x1408.Slices ![n.val, 0, 0] S1x1024x1408) :
    shapeCast S1024x1408 (extractStridedSlice S1x1024x1408 ![n.val, 0, 0] (wide1 a1) h) shapeCasts_S1x1024x1408_S1024x1408 = group1 a1 n := funext fun y => by
  obtain ⟨j, k, rfl⟩ : ∃ (j : Fin 1024) (k : Fin 1408), y = ValueIdx.ix2 j k := ⟨y 0, y 1, funext fun a => by match a with | ⟨0, _⟩ => rfl | ⟨1, _⟩ => rfl⟩
  refine (shapeCast_1ab_ab_apply _ _ j k).trans (Eq.trans ?_ (wide1_apply a1 n j k))
  refine congrArg (wide1 a1) (funext fun a => Fin.ext ?_)
  match a with
  | ⟨0, _⟩ => show n.val + 0 = n.val; omega
  | ⟨1, _⟩ => show 0 + j.val = j.val; omega
  | ⟨2, _⟩ => show 0 + k.val = k.val; omega

theorem cat0_apply (n : Fin 4) (i : Fin 8320) (k : Fin 1408) : cat0 a0 (ValueIdx.ix2 i (at4 n k)) = a0 (ValueIdx.ix3 n i k) := by
  have e : cat0 a0 = Value.fn_main_v56 (F := Ideal) (group0 a0 0) (group0 a0 1) (group0 a0 2) (group0 a0 3) := by
    unfold cat0
    rw [← slice0 a0 0 slices_S4x8320x1408_S1x8320x1408_0_0_0, ← slice0 a0 1 slices_S4x8320x1408_S1x8320x1408_1_0_0,
      ← slice0 a0 2 slices_S4x8320x1408_S1x8320x1408_2_0_0, ← slice0 a0 3 slices_S4x8320x1408_S1x8320x1408_3_0_0]
    rfl
  rw [e]
  exact fn56 (group0 a0) n i k
theorem cat1_apply (n : Fin 4) (j : Fin 1024) (k : Fin 1408) : cat1 a1 (ValueIdx.ix2 j (at4 n k)) = a1 (ValueIdx.ix4 0 n j k) := by
  have e : cat1 a1 = Value.fn_main_v43 (F := Ideal) (group1 a1 0) (group1 a1 1) (group1 a1 2) (group1 a1 3) := by
    unfold cat1
    rw [← slice1 a1 0 slices_S4x1024x1408_S1x1024x1408_0_0_0, ← slice1 a1 1 slices_S4x1024x1408_S1x1024x1408_1_0_0,
      ← slice1 a1 2 slices_S4x1024x1408_S1x1024x1408_2_0_0, ← slice1 a1 3 slices_S4x1024x1408_S1x1024x1408_3_0_0]
    rfl
  rw [e]
  exact fn43 (group1 a1) n j k
end

end Cert.RefNorm

end
-- ==== Proof.RefResult.lean ====
/-
  THE SECOND REFERENCE'S RESULTS: the printed terms are the lines of `RefNorm` put together, and hold the arrays
  `NormData.rowsOut`, `gainOut` and `biasOut`.
-/
module

public import proofs.«01_k».proof.Proof.RefNorm

@[expose] public section

noncomputable section

namespace Cert.RefResult

open Idealize.ShloMosaic Idealize.ShloMosaic.ValueIdx Idealize.SL Idealize.SL.Sem Matrix
open Cert.Chunk Cert.Rep Cert.Tile Cert.NormData Cert.RefNorm Cert.Reference2Ideal Cert.Reference2Ideal.Gen

/-- The column group and the column within it. -/
def outerOf (k : Fin 5632) : Fin 4 := ⟨k.val / 1408, by omega⟩
def innerOf (k : Fin 5632) : Fin 1408 := ⟨k.val % 1408, by omega⟩

section
variable (a0 : FVec Ideal SY .bf16) (a1 : FVec Ideal SW .bf16) (a2 a3 : FVec Ideal SR .f32) (a4 : FVec Ideal SG .f32)

/-- The cotangent of the norm's output: the residual's part and the product. -/
def outer : Big := addf (mulf (lit 0x3FB504F3#32) (shapeCast S8320x1024 a2 shapeCasts_S1x8320x1024_S8320x1024))
  (Host.dotGeneral (F := Ideal) dot_S8320x5632_S1024x5632_S8320x1024_1_1_0_0_n_n none (cat0 a0) (cat1 a1))
def input : Big := shapeCast S8320x1024 a3 shapeCasts_S1x8320x1024_S8320x1024
def gain : FVec Ideal S1024 .f32 := shapeCast S1024 a4 shapeCasts_S1x1024_S1024

variable {a0 a1 a2 a3 a4} {P : Data} (H : Holds P a0 a1 a2 a3 a4)
include H

theorem outerR : Rep (outer a0 a1 a2) (of fun i => dh P i) := by
  have h1 : Rep (shapeCast S8320x1024 a2 shapeCasts_S1x8320x1024_S8320x1024) (of fun i => P.d i) := fun i j => (shapeCast_1ab_ab_apply a2 _ i j).trans (H.d i j)
  have h2 : Rep (Host.dotGeneral (F := Ideal) dot_S8320x5632_S1024x5632_S8320x1024_1_1_0_0_n_n none (cat0 a0) (cat1 a1)) (of fun i j => ∑ n, prod P n i j) := fun i j => by
    have at4_eq : ∀ k : Fin 5632, k = at4 (outerOf k) (innerOf k) := fun k => Fin.ext (Nat.div_add_mod k.val 1408).symm
    simp only [pointwise]
    refine (sum_mul_coe (a := fun k => P.dy (outerOf k) i (innerOf k)) (b := fun k => P.w (outerOf k) j (innerOf k)) (fun k => ?_) (fun k => ?_)).trans
      (congrArg ((↑) : ℝ → EReal) ?_)
    · exact ((congrArg (fun l => cat0 a0 (ValueIdx.ix2 i l)) (at4_eq k)).trans (cat0_apply a0 _ i _)).trans (H.dy _ _ _)
    · exact ((congrArg (fun l => cat1 a1 (ValueIdx.ix2 j l)) (at4_eq k)).trans (cat1_apply a1 _ j _)).trans (H.w _ _ _)
    · show _ = ∑ n, ∑ k, P.dy n i k * P.w n j k
      refine (sum_split (a := 4) (b := 1408) (n := 5632) rfl _).trans (Finset.sum_congr rfl fun n _ => Finset.sum_congr rfl fun k _ => ?_)
      have e1 : ∀ h, outerOf ⟨1408 * n.val + k.val, h⟩ = n := fun h => Fin.ext (by show (1408 * n.val + k.val) / 1408 = n.val; omega)
      have e2 : ∀ h, innerOf ⟨1408 * n.val + k.val, h⟩ = k := fun h => Fin.ext (by show (1408 * n.val + k.val) % 1408 = k.val; omega)
      simp only [e1, e2]
  exact (((litR ofBits_alpha).mulf h1).addf h2).congr rfl
theorem inputR : Rep (input a3) (of fun i => P.r i) := fun i j => (shapeCast_1ab_ab_apply a3 _ i j).trans (H.r i j)
theorem gainR (j : Fin 1024) : gain a4 (ValueIdx.ix1 j) = ((P.g j : ℝ) : EReal) := (shapeCast_1a_a_apply a4 _ j).trans (H.g j)

theorem rows : broadcastInDim S1x8320x1024 ![1, 2] bcast_S8320x1024_S1x8320x1024_1_2 (grad (input a3) (cot (outer a0 a1 a2) (gain a4))) = rowsOut P := funext fun y => by
  obtain ⟨i, j, rfl⟩ : ∃ (i : Fin 8320) (j : Fin 1024), y = ValueIdx.ix3 0 i j := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  simp only [pointwise]
  exact gradR (inputR H) (cotR (outerR H) (gainR H)) i j
theorem gains : down (mulf (unit (input a3)) (outer a0 a1 a2)) = gainOut P := funext fun y => by
  obtain ⟨j, rfl⟩ : ∃ j : Fin 1024, y = ValueIdx.ix1 j := ⟨y 0, funext fun a => by match a with | ⟨0, _⟩ => rfl⟩
  refine (downR ((unitR (inputR H)).mulf (outerR H)) j).trans (congrArg ((↑) : ℝ → EReal) ?_)
  exact Finset.sum_congr rfl fun i _ => mul_comm _ _
theorem biases : down (outer a0 a1 a2) = biasOut P := funext fun y => by
  obtain ⟨j, rfl⟩ : ∃ j : Fin 1024, y = ValueIdx.ix1 j := ⟨y 0, funext fun a => by match a with | ⟨0, _⟩ => rfl⟩
  exact downR (outerR H) j
end

variable (m : (ℓ : Loc nD τ sig) → Buf (Elt Ideal) ℓ) (c : Dev nD)

theorem res0 : Value.res_out0 (F := Ideal) m c = broadcastInDim S1x8320x1024 ![1, 2] bcast_S8320x1024_S1x8320x1024_1_2
    (grad (input (m ((c.tc : Thread nD τ).loc main_arg3))) (cot (outer (m ((c.tc : Thread nD τ).loc main_arg0)) (m ((c.tc : Thread nD τ).loc main_arg1)) (m ((c.tc : Thread nD τ).loc main_arg2))) (gain (m ((c.tc : Thread nD τ).loc main_arg4))))) := rfl
theorem res1 : Value.res_out1 (F := Ideal) m c = down (mulf (unit (input (m ((c.tc : Thread nD τ).loc main_arg3))))
    (outer (m ((c.tc : Thread nD τ).loc main_arg0)) (m ((c.tc : Thread nD τ).loc main_arg1)) (m ((c.tc : Thread nD τ).loc main_arg2)))) := rfl

/-- The run: every device's results, and the arguments unchanged. -/
theorem run (ρ : Dev nD → PrngReg) (D : Dev nD → Data)
    (H : ∀ c, Holds (D c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) :
    θ_run defs (onTc (τ := τ) (main (F := Ideal))) ⟨m, fun _ => 0, ρ⟩ (fun r => ∀ c : Dev nD,
      r.2.mem ((c.tc : Thread nD τ).loc main_v95) = rowsOut (D c)
      ∧ r.2.mem ((c.tc : Thread nD τ).loc main_v70) = gainOut (D c)
      ∧ r.2.mem ((c.tc : Thread nD τ).loc main_v64) = biasOut (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans ((res0 m c).trans (rows (H c))), (h c).2.1.trans ((res1 m c).trans (gains (H c))),
      (h c).2.2.1.trans (Eq.trans rfl (biases (H c))), (h c).2.2.2⟩)
    (Value.run (F := Ideal) m ρ)

end Cert.RefResult

end
-- ==== Proof.Finite2.lean ====
/-
  THE SECOND PRECONDITION: every entry of the arguments is finite, so it is a real and the arguments hold a `NormData.Data`.
-/
module

public import proofs.«01_k».proof.Defs
public import proofs.«01_k».proof.Proof.NormData
public import proofs.«01_k».proof.Proof.Finite
public import Idealize.ShloMosaic.Lib.Pointwise

@[expose] public section

noncomputable section

namespace Cert.Finite2

open Idealize.ShloMosaic Idealize.SL Idealize.SL.Sem Cert.NormData Cert.Kernel2Ideal

/-- What the precondition's function states of its shapes. -/
theorem facts : Cert.Pre_finite2.Facts := by
  constructor <;> decide

variable (m : (ℓ : Loc nD τ sig) → Buf (Elt Ideal) ℓ) (c : Dev nD)

/-- The reals which the arguments hold. -/
def data : Data where
  dy n i k := ((m ((c.tc : Thread nD τ).loc main_arg0) : FVec Ideal SY .bf16) (ValueIdx.ix3 n i k) : EReal).toReal
  w n j k := ((m ((c.tc : Thread nD τ).loc main_arg1) : FVec Ideal SW .bf16) (ValueIdx.ix4 0 n j k) : EReal).toReal
  d i j := ((m ((c.tc : Thread nD τ).loc main_arg2) : FVec Ideal SR .f32) (ValueIdx.ix3 0 i j) : EReal).toReal
  r i j := ((m ((c.tc : Thread nD τ).loc main_arg3) : FVec Ideal SR .f32) (ValueIdx.ix3 0 i j) : EReal).toReal
  g j := ((m ((c.tc : Thread nD τ).loc main_arg4) : FVec Ideal SG .f32) (ValueIdx.ix2 0 j) : EReal).toReal

theorem holds (h : Cert.Pre_Kernel2Ideal_finite2 (hPre_finite2 := facts) m) :
    Holds (data m c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) where
  dy n i k := Cert.Finite.real (congrFun (h c).1 (ValueIdx.ix3 n i k))
  w n j k := Cert.Finite.real (congrFun (h c).2.1 (ValueIdx.ix4 0 n j k))
  d i j := Cert.Finite.real (congrFun (h c).2.2.1 (ValueIdx.ix3 0 i j))
  r i j := Cert.Finite.real (congrFun (h c).2.2.2.1 (ValueIdx.ix3 0 i j))
  g j := Cert.Finite.real (congrFun (h c).2.2.2.2 (ValueIdx.ix2 0 j))

end Cert.Finite2

end
-- ==== Proof.Products.lean ====
/-
  THE PLAIN PRODUCTS' RESULTS: what each of the plain products is in terms of its arguments, entry by entry, for any number of
  column tiles and any width of a tile, and the position of a tile's column in the whole row.
-/
module

public import Idealize.ShloMosaic.Lib.Pointwise
public import Idealize.ShloMosaic.Lib.ValueLayout

@[expose] public section

noncomputable section

namespace Cert.Products

open Idealize.ShloMosaic Idealize.ShloMosaic.ValueIdx

/-- The activations of one device in `n` column tiles of width `w`, the residual stream as one tile, and a weight in tiles of
rows and of columns. -/
abbrev Cols (n w : ℕ) : Shape := ⟨3, ![n, 8320, w]⟩
abbrev Rows : Shape := ⟨3, ![1, 8320, 1024]⟩
abbrev Weight (k n r w : ℕ) : Shape := ⟨4, ![k, n, r, w]⟩

variable {k n r w : ℕ} {f : FTy}

/-- `h @ w`, in column tiles. -/
def up (h : FVec Ideal Rows .bf16) (W : FVec Ideal (Weight 1 n 1024 w) .bf16) : FVec Ideal (Cols n w) .f32 := fun y =>
  ∑ k : Fin 1024, ((h (ValueIdx.ix3 0 (y 1) k) : EReal) * (W (ValueIdx.ix4 0 (y 0) k (y 2)) : EReal))
/-- `dy @ wᵀ`, in column tiles. -/
def toAct (d : FVec Ideal Rows .f32) (W : FVec Ideal (Weight n 1 w 1024) .bf16) : FVec Ideal (Cols n w) .f32 := fun y =>
  ∑ k : Fin 1024, ((d (ValueIdx.ix3 0 (y 1) k) : EReal) * (W (ValueIdx.ix4 (y 0) 0 (y 2) k) : EReal))
/-- `xᵀ @ dy`, in tiles of rows and of columns. -/
def grad (x : FVec Ideal (Cols k r) .bf16) (d : FVec Ideal (Cols n w) f) : FVec Ideal (Weight k n r w) .f32 := fun y =>
  ∑ i : Fin 8320, ((x (ValueIdx.ix3 (y 0) i (y 2)) : EReal) * (d (ValueIdx.ix3 (y 1) i (y 3)) : EReal))
/-- `a * res + dy @ wᵀ`, the sum tile by tile. -/
def toIn (a : EReal) (d : FVec Ideal (Cols n w) .bf16) (W : FVec Ideal (Weight 1 n 1024 w) .bf16) (res : FVec Ideal Rows .f32) : FVec Ideal Rows .f32 := fun y =>
  a * (res (ValueIdx.ix3 0 (y 1) (y 2)) : EReal)
    + ∑ q : Fin n, ∑ k : Fin w, ((d (ValueIdx.ix3 q (y 1) k) : EReal) * (W (ValueIdx.ix4 0 q (y 2) k) : EReal))

/-- Column `j` of tile `i` in the whole row. -/
def at4 (i : Fin 4) (j : Fin 1408) : Fin 5632 := ⟨i.val * 1408 + j.val, by omega⟩
def at2 (i : Fin 2) (j : Fin 1408) : Fin 2816 := ⟨i.val * 1408 + j.val, by omega⟩
def in4 (i : Fin 4) (j : Fin 1024) : Fin 4096 := ⟨i.val * 1024 + j.val, by omega⟩
def in3 (i : Fin 3) (j : Fin 1024) : Fin 3072 := ⟨i.val * 1024 + j.val, by omega⟩

theorem tile_div {w j : ℕ} (i : ℕ) (h : j < w) : (i * w + j) / w = i := by
  rw [Nat.mul_comm, Nat.mul_add_div (Nat.zero_lt_of_lt h), Nat.div_eq_of_lt h, Nat.add_zero]
theorem tile_mod {w j : ℕ} (i : ℕ) (h : j < w) : (i * w + j) % w = j := by
  rw [Nat.mul_comm, Nat.mul_add_mod, Nat.mod_eq_of_lt h]

/-- An index by its coordinates. -/
theorem idx3 {n0 n1 n2 : ℕ} (y : Shape.Idx ⟨3, ![n0, n1, n2]⟩) (a : Fin n0) (b : Fin n1) (c : Fin n2)
    (e0 : (y 0).val = a.val) (e1 : (y 1).val = b.val) (e2 : (y 2).val = c.val) : y = ValueIdx.ix3 a b c := funext fun d => by
  match d with
  | ⟨0, _⟩ => exact Fin.ext e0
  | ⟨1, _⟩ => exact Fin.ext e1
  | ⟨2, _⟩ => exact Fin.ext e2
theorem idx4 {n0 n1 n2 n3 : ℕ} (y : Shape.Idx ⟨4, ![n0, n1, n2, n3]⟩) (a : Fin n0) (b : Fin n1) (c : Fin n2) (d : Fin n3)
    (e0 : (y 0).val = a.val) (e1 : (y 1).val = b.val) (e2 : (y 2).val = c.val) (e3 : (y 3).val = d.val) : y = ValueIdx.ix4 a b c d := funext fun x => by
  match x with
  | ⟨0, _⟩ => exact Fin.ext e0
  | ⟨1, _⟩ => exact Fin.ext e1
  | ⟨2, _⟩ => exact Fin.ext e2
  | ⟨3, _⟩ => exact Fin.ext e3

theorem hz3 : (![0, 0, 0] : Fin 3 → ℕ) = fun _ => 0 := by funext a; fin_cases a <;> rfl
theorem hz4 : (![0, 0, 0, 0] : Fin 4 → ℕ) = fun _ => 0 := by funext a; fin_cases a <;> rfl

end Cert.Products

end
-- ==== Proof.Strips.lean ====
/-
  THE GRADIENTS OF WEIGHTS, whatever their tiles: a grid point adds the product of one row tile to the result's block, strip by
  strip of the block's rows; by induction on the points, after the fifth row tile the block holds `Products.grad`.
-/
module

public import proofs.«01_k».proof.Proof.Products
public import Idealize.ShloMosaic.Lib.Pipeline.Value
public import Idealize.ShloMosaic.Lib.Pipeline.ReadBack
public import Idealize.ShloMosaic.Lib.Pipeline.ValueKit.Geometry

@[expose] public section

noncomputable section

namespace Cert.Strips

open Idealize.ShloMosaic Idealize.ShloMosaic.ValueIdx Cert.Products

/-- The result's block, and a row tile. -/
abbrev Blk (r w : ℕ) : Shape := ⟨4, ![1, 1, r, w]⟩
abbrev Tile (w : ℕ) : Shape := ⟨3, ![1, 1664, w]⟩

variable {k n r w : ℕ} {f : FTy}

/-! ## A strip of the block -/

theorem ld4 {F : FTy → Type} (X : Vec F (Blk r w) .f32) (o s : ℕ) (ho : o + s ≤ r) (inb) (a : Fin s) (b : Fin w) :
    View.ld X (Rect.unit (s := Blk r w) ![0, 0, o, 0] ![1, 1, s, w] inb) (ValueIdx.ix4 0 0 a b) = X (ValueIdx.ix4 0 0 ⟨o + a.val, by omega⟩ b) :=
  congrArg X (idx4 _ _ _ _ _ rfl rfl (by show o + 1 * a.val = o + a.val; omega) (by show 0 + 1 * b.val = b.val; omega))
theorem ld3 {F : FTy → Type} (X : Vec F (Tile r) .bf16) (o s : ℕ) (ho : o + s ≤ r) (inb) (i : Fin 1664) (a : Fin s) :
    View.ld X (Rect.unit (s := Tile r) ![0, 0, o] ![1, 1664, s] inb) (ValueIdx.ix3 0 i a) = X (ValueIdx.ix3 0 i ⟨o + a.val, by omega⟩) :=
  congrArg X (idx3 _ _ _ _ rfl (by show 0 + 1 * i.val = i.val; omega) (by show o + 1 * a.val = o + a.val; omega))

/-- The block plus a row tile's product. -/
def more (X : FVec Ideal (Blk r w) .f32) (x0 : FVec Ideal (Tile r) .bf16) (x1 : FVec Ideal (Tile w) f) : FVec Ideal (Blk r w) .f32 := fun y =>
  (X (ValueIdx.ix4 0 0 (y 2) (y 3)) : EReal) + ∑ i : Fin 1664, ((x0 (ValueIdx.ix3 0 i (y 2)) : EReal) * (x1 (ValueIdx.ix3 0 i (y 3)) : EReal))

/-- The value of a strip: what it held, plus the product of its columns. -/
def IsStrip {s : ℕ} (x1 : FVec Ideal (Tile w) f) (P : FVec Ideal (Blk s w) .f32 → FVec Ideal (Tile s) .bf16 → FVec Ideal (Blk s w) .f32) : Prop :=
  ∀ V C (a : Fin s) (b : Fin w), P V C (ValueIdx.ix4 0 0 a b)
    = (V (ValueIdx.ix4 0 0 a b) : EReal) + ∑ i : Fin 1664, ((C (ValueIdx.ix3 0 i a) : EReal) * (x1 (ValueIdx.ix3 0 i b) : EReal))

theorem piece {s : ℕ} (X : FVec Ideal (Blk r w) .f32) (x0 : FVec Ideal (Tile r) .bf16) (x1 : FVec Ideal (Tile w) f)
    (P : FVec Ideal (Blk s w) .f32 → FVec Ideal (Tile s) .bf16 → FVec Ideal (Blk s w) .f32) (hP : IsStrip x1 P) (o : ℕ) (ho : o + s ≤ r) (inb) (inb') (x : (Blk s w).Idx) :
    P (View.ld (Val := Elt Ideal) (e' := .f32) X (Rect.unit (s := Blk r w) ![0, 0, o, 0] ![1, 1, s, w] inb)) (View.ld (Val := Elt Ideal) (e' := .bf16) x0 (Rect.unit (s := Tile r) ![0, 0, o] ![1, 1664, s] inb')) x
      = more X x0 x1 ((Rect.unit (s := Blk r w) ![0, 0, o, 0] ![1, 1, s, w] inb).emb x) := by
  have h0 : (x 0).val < 1 := (x 0).isLt
  have h1 : (x 1).val < 1 := (x 1).isLt
  have h2 : (x 2).val < s := (x 2).isLt
  have lt : o + (x 2).val < r := by omega
  have e2 : ((Rect.unit (s := Blk r w) ![0, 0, o, 0] ![1, 1, s, w] inb).emb x 2 : Fin r) = ⟨o + (x 2).val, lt⟩ := Fin.ext (by show o + 1 * (x 2).val = o + (x 2).val; omega)
  have e3 : ((Rect.unit (s := Blk r w) ![0, 0, o, 0] ![1, 1, s, w] inb).emb x 3 : Fin w) = x 3 := Fin.ext (by show 0 + 1 * (x 3).val = (x 3).val; omega)
  refine ((congrArg _ (idx4 x 0 0 (x 2) (x 3) (by show (x 0).val = 0; omega) (by show (x 1).val = 0; omega) rfl rfl)).trans (hP _ _ (x 2) (x 3))).trans ?_
  unfold more
  rw [e2, e3]
  exact congrArg₂ (fun a b : EReal => a + b) (ld4 (F := Ideal) X o s ho inb (x 2) (x 3)) (Finset.sum_congr rfl fun i _ => congrArg₂ (fun a b : EReal => a * b) (ld3 (F := Ideal) x0 o s ho inb' i (x 2)) rfl)

/-! ## The points -/

/-- A row of tile `q`. -/
def row (q : ℕ) (i : Fin 1664) : Fin 8320 := ⟨1664 * (q % 5) + i.val, by omega⟩

/-- Row tile `q`'s part of an entry. -/
def part (x : FVec Ideal (Cols k r) .bf16) (d : FVec Ideal (Cols n w) f) (u : Fin k) (v : Fin n) (q : ℕ) (a : Fin r) (b : Fin w) : EReal :=
  ∑ i : Fin 1664, ((x (ValueIdx.ix3 u (row q i) a) : EReal) * (d (ValueIdx.ix3 v (row q i) b) : EReal))

theorem row_mod (q : ℕ) (i : Fin 1664) : row (q % 5) i = row q i := Fin.ext (by show 1664 * (q % 5 % 5) + i.val = 1664 * (q % 5) + i.val; omega)

/-- The sum over all rows, tile by tile. -/
theorem sum_rows (g : Fin 8320 → EReal) : ∑ i, g i = ∑ q ∈ Finset.range 5, ∑ i : Fin 1664, g (row q i) := by
  rw [Finset.sum_range, ← Fintype.sum_prod_type', ← (finProdFinEquiv (m := 5) (n := 1664)).sum_comp]
  refine Finset.sum_congr rfl fun x _ => congrArg g (Fin.ext ?_)
  show x.2.val + 1664 * x.1.val = 1664 * (x.1.val % 5) + x.2.val
  have := x.1.isLt
  omega

section
variable (x : FVec Ideal (Cols k r) .bf16) (d : FVec Ideal (Cols n w) f) {N : ℕ} (u : ℕ → Fin k) (v : ℕ → Fin n)
  (b0 : ∀ t, t < N → FVec Ideal (Tile r) .bf16) (b1 : ∀ t, t < N → FVec Ideal (Tile w) f) (Z : FVec Ideal (Blk r w) .f32)
  (outs : ∀ t, t < N → FVec Ideal (Blk r w) .f32)

/-- What is known of a grid's points: their tiles, the blocks they read, and the blocks they leave. -/
structure Points : Prop where
  hu : ∀ t, (t + 1) % 5 ≠ 0 → u (t + 1) = u t
  hv : ∀ t, (t + 1) % 5 ≠ 0 → v (t + 1) = v t
  h0 : ∀ t h i a, b0 t h (ValueIdx.ix3 0 i a) = x (ValueIdx.ix3 (u t) (row t i) a)
  h1 : ∀ t h i b, b1 t h (ValueIdx.ix3 0 i b) = d (ValueIdx.ix3 (v t) (row t i) b)
  hZ : ∀ a b, Z (ValueIdx.ix4 0 0 a b) = (0 : EReal)
  first : ∀ t h, t % 5 = 0 → outs t h = more Z (b0 t h) (b1 t h)
  next : ∀ t h, ¬(t + 1) % 5 = 0 → outs (t + 1) h = more (outs t (Nat.lt_of_succ_lt h)) (b0 (t + 1) h) (b1 (t + 1) h)

variable {x d u v b0 b1 Z outs} (H : Points x d u v b0 b1 Z outs)
include H

theorem Points.more_at (X : FVec Ideal (Blk r w) .f32) (t : ℕ) (h : t < N) (a : Fin r) (b : Fin w) :
    more X (b0 t h) (b1 t h) (ValueIdx.ix4 0 0 a b) = (X (ValueIdx.ix4 0 0 a b) : EReal) + part x d (u t) (v t) (t % 5) a b := by
  refine congrArg (fun s : EReal => (X (ValueIdx.ix4 0 0 a b) : EReal) + s) (Finset.sum_congr rfl fun i _ => ?_)
  rw [row_mod]
  exact congrArg₂ (fun a b : EReal => a * b) (H.h0 t h i a) (H.h1 t h i b)

theorem Points.after (t : ℕ) : ∀ (h : t < N) (a : Fin r) (b : Fin w),
    outs t h (ValueIdx.ix4 0 0 a b) = ∑ q ∈ Finset.range (t % 5 + 1), part x d (u t) (v t) q a b := by
  have first : ∀ (t : ℕ) (h : t < N) (e : t % 5 = 0) (a : Fin r) (b : Fin w), outs t h (ValueIdx.ix4 0 0 a b) = ∑ q ∈ Finset.range (t % 5 + 1), part x d (u t) (v t) q a b := fun t h e a b => by
    rw [H.first t h e]
    refine (H.more_at Z t h a b).trans ?_
    rw [H.hZ, zero_add, e, Finset.sum_range_one]
  induction t with
  | zero => exact fun h a b => first 0 h rfl a b
  | succ t ih =>
    intro h a b
    by_cases e : (t + 1) % 5 = 0
    · exact first (t + 1) h e a b
    · rw [H.next t h e]
      refine (H.more_at _ (t + 1) h a b).trans ((congrArg (fun s : EReal => s + _) (ih (Nat.lt_of_succ_lt h) a b)).trans ?_)
      rw [show (t + 1) % 5 = t % 5 + 1 by omega, Finset.sum_range_succ _ (t % 5 + 1), H.hu t e, H.hv t e]

theorem Points.last (t : ℕ) (h : t < N) (e : t % 5 = 4) (y : (Blk r w).Idx) (z : (Weight k n r w).Idx) (e0 : (z 0).val = (u t).val) (e1 : (z 1).val = (v t).val)
    (e2 : (z 2).val = (y 2).val) (e3 : (z 3).val = (y 3).val) : outs t h y = grad x d z := by
  have h0 : (y 0).val < 1 := (y 0).isLt
  have h1 : (y 1).val < 1 := (y 1).isLt
  refine ((congrArg (outs t h) (idx4 y 0 0 (y 2) (y 3) (by show (y 0).val = 0; omega) (by show (y 1).val = 0; omega) rfl rfl)).trans (H.after t h (y 2) (y 3))).trans ?_
  rw [e, idx4 z (u t) (v t) (y 2) (y 3) e0 e1 e2 e3]
  exact (sum_rows fun i => (x (ValueIdx.ix3 (u t) i (y 2)) : EReal) * (d (ValueIdx.ix3 (v t) i (y 3)) : EReal)).symm
end

end Cert.Strips

end
-- ==== Proof.UpGradKernel.lean ====
/-
  THE UP-PROJECTION'S GRADIENT is `Products.grad` of its arguments: its grid's points are `Strips.Points`, point `t` having column tile `t / 5` and row tile `t % 5`.
-/
module

public import proofs.«01_k».proof.Proof.Strips
public import proofs.«01_k».proof.Proof.Gen.Kernel3Ideal.Frame

@[expose] public section

noncomputable section

namespace Cert.UpGradKernel

open Idealize.ShloMosaic Idealize.ShloMosaic.ValueIdx Idealize.SL Idealize.SL.Sem
open Cert.Products Cert.Strips Cert.Kernel3Ideal Cert.Kernel3Ideal.Gen

variable {F : FTy → Type} [FloatOps F] (c : Dev nD) (i : grid0.Coords)
    (a3 : Memref sig .tc .vmem S1x1664x1024 .bf16) (h3 : a3.IsWhole) (a4 : Memref sig .tc .vmem S1x1664x1408 .bf16) (h4 : a4.IsWhole)
    (a5 : Memref sig .tc .vmem S1x1x1024x1408 .f32) (h5 : a5.IsWhole)
    (x0 : Vec F S1x1664x1024 .bf16) (x1 : Vec F S1x1664x1408 .bf16) (xo2 : Vec F S1x1x1024x1408 .f32)

/-- The strips of the result's block. -/
abbrev s0 : Rect S1x1x1024x1408 := Rect.unit (s := S1x1x1024x1408) ![0, 0, 0, 0] ![1, 1, 256, 1408] inb_S1x1x1024x1408_S1x1x256x1408_0_0_0_0
abbrev s256 : Rect S1x1x1024x1408 := Rect.unit (s := S1x1x1024x1408) ![0, 0, 256, 0] ![1, 1, 256, 1408] inb_S1x1x1024x1408_S1x1x256x1408_0_0_256_0
abbrev s512 : Rect S1x1x1024x1408 := Rect.unit (s := S1x1x1024x1408) ![0, 0, 512, 0] ![1, 1, 256, 1408] inb_S1x1x1024x1408_S1x1x256x1408_0_0_512_0
abbrev s768 : Rect S1x1x1024x1408 := Rect.unit (s := S1x1x1024x1408) ![0, 0, 768, 0] ![1, 1, 256, 1408] inb_S1x1x1024x1408_S1x1x256x1408_0_0_768_0

/-! ## Where the run reads the result's block, it finds it as it was -/

theorem B_v14 : kernelRun0_B.sl.v14 (F := F) c a5 h5 xo2 = View.ld xo2 s256 := by
  unfold kernelRun0_B.sl.v14
  simp only [View.readAt_eq_ld, h5.read_unread]
theorem B_v23 : kernelRun0_B.sl.v23 (F := F) c a5 h5 xo2 = View.ld xo2 s512 := by
  unfold kernelRun0_B.sl.v23
  simp only [View.readAt_eq_ld, h5.read_unread]
theorem B_v32 : kernelRun0_B.sl.v32 (F := F) c a5 h5 xo2 = View.ld xo2 s768 := by
  unfold kernelRun0_B.sl.v32
  simp only [View.readAt_eq_ld, h5.read_unread]
theorem A_v5 : kernelRun0_A.sl.v5 (F := F) c a5 = View.ld k0_pay3 s0 := by
  unfold kernelRun0_A.sl.v5 kernelRun0_A.sl.H2_1
  rw [View.readCov_eq_canon', View.canon_cons_unit_zero hz4]
theorem A_v14 : kernelRun0_A.sl.v14 (F := F) c a3 h3 a4 h4 a5 x0 x1 = View.ld k0_pay3 s256 := by
  unfold kernelRun0_A.sl.v14 kernelRun0_A.sl.H2_2 kernelRun0_A.sl.H2_1
  rw [View.readCov_skip _ _ _ _ _ (by decide), View.readCov_eq_canon', View.canon_cons_unit_zero hz4]
theorem A_v23 : kernelRun0_A.sl.v23 (F := F) c a3 h3 a4 h4 a5 x0 x1 = View.ld k0_pay3 s512 := by
  unfold kernelRun0_A.sl.v23 kernelRun0_A.sl.H2_3 kernelRun0_A.sl.H2_2 kernelRun0_A.sl.H2_1
  rw [View.readCov_skip _ _ _ _ _ (by decide), View.readCov_skip _ _ _ _ _ (by decide), View.readCov_eq_canon', View.canon_cons_unit_zero hz4]
theorem A_v32 : kernelRun0_A.sl.v32 (F := F) c a3 h3 a4 h4 a5 x0 x1 = View.ld k0_pay3 s768 := by
  unfold kernelRun0_A.sl.v32 kernelRun0_A.sl.H2_4 kernelRun0_A.sl.H2_3 kernelRun0_A.sl.H2_2 kernelRun0_A.sl.H2_1
  rw [View.readCov_skip _ _ _ _ _ (by decide), View.readCov_skip _ _ _ _ _ (by decide), View.readCov_skip _ _ _ _ _ (by decide), View.readCov_eq_canon', View.canon_cons_unit_zero hz4]

/-! ## The block a point leaves -/

theorem cover (w3 w2 w1 w0 : S1x1x256x1408.Idx → Elt F .f32) (y : S1x1x1024x1408.Idx) :
    ∃ p ∈ ([⟨s768, w3⟩, ⟨s512, w2⟩, ⟨s256, w1⟩, ⟨s0, w0⟩] : List (View.Piece (Elt F) S1x1x1024x1408 .f32)), y ∈ p.1.set :=
  View.cover_of_tiledL _ ![1, 1, 256, 1408] (by sl_kernel_rfl) y

theorem strip (x1 : FVec Ideal S1x1664x1408 .bf16) : IsStrip (s := 256) (w := 1408) (f := .bf16) x1 (fun V C => k0_pay5 (F := Ideal) x1 V C) := fun V C a b => by
  have hz : (constant (F := Ideal) S256x1408 .f32 0x00000000#32) (ValueIdx.ix2 a b) = (0 : EReal) := Ideal.ofBits_zero_f32
  unfold k0_pay5 k0_pay4
  simp only [pointwise]
  exact congrArg ((V (ValueIdx.ix4 0 0 a b) : EReal) + ·) (zero_add _)

theorem outB (hc0 : ¬cond0_0 i) (X : FVec Ideal S1x1x1024x1408 .f32) (x0 : FVec Ideal S1x1664x1024 .bf16) (x1 : FVec Ideal S1x1664x1408 .bf16) :
    out0_B_2 (F := Ideal) c i a3 h3 a4 h4 a5 h5 hc0 x0 x1 X = more (r := 1024) (w := 1408) (f := .bf16) X x0 x1 := by
  unfold out0_B_2
  rw [View.read_writes_junk_eq_canon]
  unfold kernelRun0_B
  dsimp only
  simp only [kernelRun0_B.sl.r, B_v14, B_v23, B_v32, View.readAt_eq_ld, h3.read_unread, h4.read_unread, h5.read_unread, View.ld_unit_zero (S := S1x1664x1408) hz3]
  funext y
  exact View.canon_append_of_piecesOf _ [] [_, _, _, _] ⟨fun x => piece (r := 1024) (w := 1408) (s := 256) (f := .bf16) X x0 x1 _ (strip x1) 768 (by decide) _ _ x,
    fun x => piece (r := 1024) (w := 1408) (s := 256) (f := .bf16) X x0 x1 _ (strip x1) 512 (by decide) _ _ x,
    fun x => piece (r := 1024) (w := 1408) (s := 256) (f := .bf16) X x0 x1 _ (strip x1) 256 (by decide) _ _ x,
    fun x => piece (r := 1024) (w := 1408) (s := 256) (f := .bf16) X x0 x1 _ (strip x1) 0 (by decide) _ _ x, trivial⟩ y (cover _ _ _ _ y)
theorem outA (hc0 : cond0_0 i) (x0 : FVec Ideal S1x1664x1024 .bf16) (x1 : FVec Ideal S1x1664x1408 .bf16) :
    out0_A_2 (F := Ideal) c i a3 h3 a4 h4 a5 h5 hc0 x0 x1 = more (r := 1024) (w := 1408) (f := .bf16) (k0_pay3 (F := Ideal)) x0 x1 := by
  unfold out0_A_2
  rw [View.read_writes_junk_eq_canon]
  unfold kernelRun0_A
  dsimp only
  unfold kernelRun0_A.sl.H2_4 kernelRun0_A.sl.H2_3 kernelRun0_A.sl.H2_2 kernelRun0_A.sl.H2_1
  simp only [kernelRun0_A.sl.r, A_v5, A_v14, A_v23, A_v32, View.readAt_eq_ld, h3.read_unread, h4.read_unread, View.ld_unit_zero (S := S1x1664x1408) hz3]
  funext y
  exact View.canon_append_of_piecesOf _ [_] [_, _, _, _] ⟨fun x => piece (r := 1024) (w := 1408) (s := 256) (f := .bf16) (k0_pay3 (F := Ideal)) x0 x1 _ (strip x1) 768 (by decide) _ _ x,
    fun x => piece (r := 1024) (w := 1408) (s := 256) (f := .bf16) (k0_pay3 (F := Ideal)) x0 x1 _ (strip x1) 512 (by decide) _ _ x,
    fun x => piece (r := 1024) (w := 1408) (s := 256) (f := .bf16) (k0_pay3 (F := Ideal)) x0 x1 _ (strip x1) 256 (by decide) _ _ x,
    fun x => piece (r := 1024) (w := 1408) (s := 256) (f := .bf16) (k0_pay3 (F := Ideal)) x0 x1 _ (strip x1) 0 (by decide) _ _ x, trivial⟩ y (cover _ _ _ _ y)

/-! ## The blocks read at a point -/

theorem i0 : ∀ t : Fin cfg0.N, win0_0.index t = ![0, t.val % 5, 0] := (by decide +kernel : ∀ t : Fin grid0.N, _)
theorem i1 : ∀ t : Fin cfg0.N, win0_1.index t = ![t.val / 5, t.val % 5, 0] := (by decide +kernel : ∀ t : Fin grid0.N, _)
theorem i2 : ∀ t : Fin cfg0.N, win0_2.index t = ![0, t.val / 5, 0, 0] := (by decide +kernel : ∀ t : Fin grid0.N, _)
theorem last : ∀ t : Fin cfg0.N, win0_2.flush t = true → t.val % 5 = 4 := (by decide +kernel : ∀ t : Fin grid0.N, _)

theorem lt_N (t : Fin cfg0.N) : t.val < 20 := lt_of_lt_of_eq t.isLt (show cfg0.N = 20 from N_0)

/-- The result's row tile and column tile at a point. -/
def rowTile (t : ℕ) : Fin 1 := 0
def colTile (t : ℕ) : Fin 4 := ⟨t / 5 % 4, by omega⟩

variable (m : (ℓ : Loc nD τ sig) → Buf (Elt Ideal) ℓ)

/-- The operands. -/
abbrev X0 : FVec Ideal (Cols 1 1024) .bf16 := m ((c.tc : Thread nD τ).loc main_arg0)
abbrev X1 : FVec Ideal (Cols 4 1408) .bf16 := m ((c.tc : Thread nD τ).loc main_arg1)

theorem points : Points (f := .bf16) (X0 c m) (X1 c m) (N := cfg0.N) rowTile colTile
    (fun t h => (iblk m c 0 ⟨t, h⟩ : FVec Ideal S1x1664x1024 .bf16)) (fun t h => (iblk m c 1 ⟨t, h⟩ : FVec Ideal S1x1664x1408 .bf16)) (k0_pay3 (F := Ideal)) (outsAt0 m c) where
  hu t e := rfl
  hv t e := Fin.ext (by show (t + 1) / 5 % 4 = t / 5 % 4; omega)
  h0 t h i a := by
    generalize et : (⟨t, h⟩ : Fin cfg0.N) = t'
    obtain rfl : t = t'.val := congrArg Fin.val et
    have ht := lt_N t'
    unfold iblk
    rw [View.read_apply]
    refine congrArg (X0 c m) (idx3 _ _ _ _ ?_ ?_ ?_)
    · show win0_0.index t' 0 * 1 + 1 * 0 = 0; rw [i0]; rfl
    · show win0_0.index t' 1 * 1664 + 1 * i.val = 1664 * (t'.val % 5) + i.val; rw [i0]; show t'.val % 5 * 1664 + _ = _; omega
    · show win0_0.index t' 2 * 1024 + 1 * a.val = a.val; rw [i0]; show 0 * 1024 + _ = _; omega
  h1 t h i b := by
    generalize et : (⟨t, h⟩ : Fin cfg0.N) = t'
    obtain rfl : t = t'.val := congrArg Fin.val et
    have ht := lt_N t'
    unfold iblk
    rw [View.read_apply]
    refine congrArg (X1 c m) (idx3 _ _ _ _ ?_ ?_ ?_)
    · show win0_1.index t' 0 * 1 + 1 * 0 = t'.val / 5 % 4; rw [i1]; show t'.val / 5 * 1 + _ = _; omega
    · show win0_1.index t' 1 * 1664 + 1 * i.val = 1664 * (t'.val % 5) + i.val; rw [i1]; show t'.val % 5 * 1664 + _ = _; omega
    · show win0_1.index t' 2 * 1408 + 1 * b.val = b.val; rw [i1]; show 0 * 1408 + _ = _; omega
  hZ a b := by
    unfold k0_pay3
    simp only [pointwise]
  first t h e := (outsAt0_A m c ⟨t, h⟩ e).trans (outA ..)
  next t h e := (outsAt0_B m c ⟨t + 1, h⟩ e).trans (outB ..)

theorem final : (dats m 0 c).arrAt 2 cfg0.N = grad (f := .bf16) (X0 c m) (X1 c m) := by
  refine (dats m 0 c).arrAt_eq_of_covers 2 _ (by decide +kernel) fun t hf y => ?_
  blk_simp
  rw [after0_2]
  have ht := lt_N t
  have hy0 : (y 0).val < 1 := (y 0).isLt
  have hy1 : (y 1).val < 1 := (y 1).isLt
  refine (points c m).last t.val t.isLt (last t hf) y _ ?_ ?_ ?_ ?_
  · show win0_2.index t 0 * 1 + 1 * (y 0).val = 0; rw [i2]; show 0 * 1 + _ = _; omega
  · show win0_2.index t 1 * 1 + 1 * (y 1).val = t.val / 5 % 4; rw [i2]; show t.val / 5 * 1 + _ = _; omega
  · show win0_2.index t 2 * 1024 + 1 * (y 2).val = (y 2).val; rw [i2]; show 0 * 1024 + _ = _; omega
  · show win0_2.index t 3 * 1408 + 1 * (y 3).val = (y 3).val; rw [i2]; show 0 * 1408 + _ = _; omega

end Cert.UpGradKernel

end
-- ==== Proof.UpGradRef.lean ====
/-
  THE REFERENCE OF THE UP-PROJECTION'S GRADIENT is `Products.grad`.
-/
module

public import proofs.«01_k».proof.Proof.Products
public import proofs.«01_k».proof.Proof.Gen.Reference3Ideal
public import proofs.«01_k».proof.Proof.Gen.Reference3Ideal.Run
public import Idealize.ShloMosaic.Lib.Pipeline.Value

@[expose] public section

noncomputable section

namespace Cert.UpGradRef

open Idealize.ShloMosaic Idealize.ShloMosaic.ValueIdx
open Cert.Products Cert.Reference3Ideal Cert.Reference3Ideal.Gen

theorem value (a0 : FVec Ideal S1x8320x1024 .bf16) (a1 : FVec Ideal S4x8320x1408 .bf16) :
    broadcastInDim S1x4x1024x1408 ![1, 2, 3] bcast_S4x1024x1408_S1x4x1024x1408_1_2_3 (transpose S4x1024x1408 [1, 0, 2] (shapeCast _ (transpose S1024x5632 [1, 0] (Host.dotGeneral (F := Ideal) dot_S8320x5632_S8320x1024_S5632x1024_0_0_1_1_n_n none (shapeCast _ (transpose S8320x4x1408 [1, 0, 2] (extf .f32 a1 bitsLt_bf16_f32) transposes_S4x8320x1408_S8320x4x1408_1_0_2) shapeCasts_S8320x4x1408_S8320x5632) (extf .f32 (shapeCast _ a0 shapeCasts_S1x8320x1024_S8320x1024) bitsLt_bf16_f32)) transposes_S5632x1024_S1024x5632_1_0) shapeCasts_S1024x5632_S1024x4x1408) transposes_S1024x4x1408_S4x1024x1408_1_0_2)
    = grad (k := 1) (r := 1024) (n := 4) (w := 1408) (f := .bf16) a0 a1 := funext fun y => by
  obtain ⟨u, n, i, j, rfl⟩ : ∃ (u : Fin 1) (n : Fin 4) (i : Fin 1024) (j : Fin 1408), y = ValueIdx.ix4 u n i j := ⟨y 0, y 1, y 2, y 3, idx4 y _ _ _ _ rfl rfl rfl rfl⟩
  obtain rfl : u = 0 := Subsingleton.elim _ _
  simp only [pointwise]
  exact (zero_add _).trans (Finset.sum_congr rfl fun k _ => (mul_comm (_ : EReal) _).trans (congrArg₂ (fun a b : EReal => a * b) rfl (congrArg (a1 : S4x8320x1408.Idx → EReal) (idx3 _ _ _ _ rfl rfl rfl))))

end Cert.UpGradRef

end
-- ==== Proof.UpKernel.lean ====
/-
  THE UP-PROJECTION'S KERNEL leaves `Products.up`: grid point `t` multiplies row tile `t % 5` with column tile `t / 5`.
-/
module

public import proofs.«01_k».proof.Proof.Products
public import proofs.«01_k».proof.Proof.Gen.Kernel4Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.UpKernel

open Idealize.ShloMosaic Idealize.ShloMosaic.ValueIdx Idealize.SL Idealize.SL.Sem
open Cert.Products Cert.Kernel4Ideal Cert.Kernel4Ideal.Gen

/-! ## The block a point leaves -/

theorem out {F : FTy → Type} [FloatOps F] (c : Dev nD) (i : grid0.Coords)
    (arg3 : Memref sig .tc .vmem S1x1664x1024 .bf16) (harg3 : arg3.IsWhole) (arg4 : Memref sig .tc .vmem S1x1x1024x1408 .bf16) (harg4 : arg4.IsWhole)
    (arg5 : Memref sig .tc .vmem S1x1664x1408 .f32) (harg5 : arg5.IsWhole) (hc0 : cond0_0 i) (hc1 : ¬cond0_1 i)
    (x0 : Vec F S1x1664x1024 .bf16) (x1 : Vec F S1x1x1024x1408 .bf16) :
    out0_A_2 c i arg3 harg3 arg4 harg4 arg5 harg5 hc0 hc1 x0 x1 = k0_pay2 x0 x1 := by
  unfold out0_A_2
  rw [View.read_writes_junk_eq_canon]
  unfold kernelRun0_A
  dsimp only
  rw [View.canon_cons_unit_zero hz3]
  simp only [View.readAt_eq_ld, harg3.read_unread, harg4.read_unread, View.ld_unit_zero (S := S1x1664x1024) hz3, View.ld_unit_zero (S := S1x1x1024x1408) hz4]

theorem pay (x0 : FVec Ideal S1x1664x1024 .bf16) (x1 : FVec Ideal S1x1x1024x1408 .bf16) (i : Fin 1664) (j : Fin 1408) :
    k0_pay2 (F := Ideal) x0 x1 (ValueIdx.ix3 0 i j) = ∑ k : Fin 1024, ((x0 (ValueIdx.ix3 0 i k) : EReal) * (x1 (ValueIdx.ix4 0 0 k j) : EReal)) := by
  have hz : (constant (F := Ideal) S1664x1408 .f32 0x00000000#32) (ValueIdx.ix2 i j) = (0 : EReal) := Ideal.ofBits_zero_f32
  unfold k0_pay2
  refine (shapeCast_ab_1ab_apply _ _ 0 i j).trans ?_
  unfold k0_pay1
  simp only [pointwise, hz]
  exact zero_add _

/-! ## The blocks read at a point -/

theorem i0 : ∀ t : Fin cfg0.N, win0_0.index t = ![0, t.val % 5, 0] := (by decide +kernel : ∀ t : Fin grid0.N, _)
theorem i1 : ∀ t : Fin cfg0.N, win0_1.index t = ![0, t.val / 5, 0, 0] := (by decide +kernel : ∀ t : Fin grid0.N, _)
theorem i2 : ∀ t : Fin cfg0.N, win0_2.index t = ![t.val / 5, t.val % 5, 0] := (by decide +kernel : ∀ t : Fin grid0.N, _)

variable (m : (ℓ : Loc nD τ sig) → Buf (Elt Ideal) ℓ) (c : Dev nD)

/-- The operands. -/
abbrev X0 : FVec Ideal Rows .bf16 := m ((c.tc : Thread nD τ).loc main_arg0)
abbrev X1 : FVec Ideal (Weight 1 4 1024 1408) .bf16 := m ((c.tc : Thread nD τ).loc main_arg1)

theorem lt_N (t : Fin cfg0.N) : t.val < 20 := lt_of_lt_of_eq t.isLt (show cfg0.N = 20 from N_0)

/-- The row and the column tile of a point. -/
def row (t : Fin cfg0.N) (i : Fin 1664) : Fin 8320 := ⟨t.val % 5 * 1664 + i.val, by omega⟩
def tile (t : Fin cfg0.N) : Fin 4 := ⟨t.val / 5, by have := lt_N t; omega⟩

theorem blk0 (t : Fin cfg0.N) (i : Fin 1664) (k : Fin 1024) :
    (iblk m c 0 t : FVec Ideal S1x1664x1024 .bf16) (ValueIdx.ix3 0 i k) = (X0 m c) (ValueIdx.ix3 0 (row t i) k) := by
  unfold iblk
  rw [View.read_apply]
  refine congrArg (X0 m c) (idx3 _ _ _ _ ?_ ?_ ?_)
  · show win0_0.index t 0 * 1 + 1 * 0 = 0; rw [i0]; rfl
  · show win0_0.index t 1 * 1664 + 1 * i.val = t.val % 5 * 1664 + i.val; rw [i0]; show t.val % 5 * 1664 + _ = _; omega
  · show win0_0.index t 2 * 1024 + 1 * k.val = k.val; rw [i0]; show 0 * 1024 + _ = _; omega
theorem blk1 (t : Fin cfg0.N) (k : Fin 1024) (j : Fin 1408) :
    (iblk m c 1 t : FVec Ideal S1x1x1024x1408 .bf16) (ValueIdx.ix4 0 0 k j) = (X1 m c) (ValueIdx.ix4 0 (tile t) k j) := by
  unfold iblk
  rw [View.read_apply]
  refine congrArg (X1 m c) (idx4 _ _ _ _ _ ?_ ?_ ?_ ?_)
  · show win0_1.index t 0 * 1 + 1 * 0 = 0; rw [i1]; rfl
  · show win0_1.index t 1 * 1 + 1 * 0 = t.val / 5; rw [i1]; show t.val / 5 * 1 + _ = _; omega
  · show win0_1.index t 2 * 1024 + 1 * k.val = k.val; rw [i1]; show 0 * 1024 + _ = _; omega
  · show win0_1.index t 3 * 1408 + 1 * j.val = j.val; rw [i1]; show 0 * 1408 + _ = _; omega

/-! ## The result -/

theorem up_at (h : FVec Ideal Rows .bf16) (W : FVec Ideal (Weight 1 4 1024 1408) .bf16) (z : (Cols 4 1408).Idx) (t : Fin 4) (i : Fin 8320) (j : Fin 1408)
    (e0 : (z 0).val = t.val) (e1 : (z 1).val = i.val) (e2 : (z 2).val = j.val) :
    up h W z = ∑ k : Fin 1024, ((h (ValueIdx.ix3 0 i k) : EReal) * (W (ValueIdx.ix4 0 t k j) : EReal)) := by
  rw [idx3 z t i j e0 e1 e2]
  rfl

theorem final : (dats m 0 c).arrAt 2 cfg0.N = up (X0 m c) (X1 m c) := by
  refine (dats m 0 c).arrAt_eq_of_covers 2 _ (by decide +kernel) fun t hf y => ?_
  blk_simp
  rw [after0_2]
  have hy0 : (y 0).val < 1 := (y 0).isLt
  have hy : y = ValueIdx.ix3 (n0 := 1) (n1 := 1664) (n2 := 1408) 0 (y 1) (y 2) := idx3 y _ _ _ (by show (y 0).val = 0; omega) rfl rfl
  unfold outsAt0
  rw [out]
  refine ((congrArg (k0_pay2 (F := Ideal) (iblk m c 0 t) (iblk m c 1 t)) hy).trans (pay _ _ (y 1) (y 2))).trans (Eq.trans ?_ (up_at _ _ _ (tile t) (row t (y 1)) (y 2) ?_ ?_ ?_).symm)
  · exact Finset.sum_congr rfl fun k _ => congrArg₂ (fun a b : EReal => a * b) (blk0 m c t (y 1) k) (blk1 m c t k (y 2))
  · show win0_2.index t 0 * 1 + 1 * (y 0).val = t.val / 5; rw [i2]; show t.val / 5 * 1 + _ = _; omega
  · show win0_2.index t 1 * 1664 + 1 * (y 1).val = t.val % 5 * 1664 + (y 1).val; rw [i2]; show t.val % 5 * 1664 + _ = _; omega
  · show win0_2.index t 2 * 1408 + 1 * (y 2).val = (y 2).val; rw [i2]; show 0 * 1408 + _ = _; omega

end Cert.UpKernel

end
-- ==== Proof.UpRef.lean ====
/-
  THE UP-PROJECTION'S REFERENCE is `Products.up`.
-/
module

public import proofs.«01_k».proof.Proof.Products
public import proofs.«01_k».proof.Proof.Gen.Reference4Ideal
public import proofs.«01_k».proof.Proof.Gen.Reference4Ideal.Run
public import Idealize.ShloMosaic.Lib.Pipeline.Value

@[expose] public section

noncomputable section

namespace Cert.UpRef

open Idealize.ShloMosaic Idealize.ShloMosaic.ValueIdx
open Cert.Products Cert.Reference4Ideal Cert.Reference4Ideal.Gen

theorem split {α : Type} (x : S8320x5632.Idx → α) (h : S8320x5632.ShapeCasts S8320x4x1408) (i : Fin 8320) (n : Fin 4) (j : Fin 1408) :
    shapeCast S8320x4x1408 x h (ValueIdx.ix3 i n j) = x (ValueIdx.ix2 i (at4 n j)) :=
  shapeCast_apply x h _ _ (by
    rw [Shape.rowMajor_val_three, Shape.rowMajor_val_two]
    show i.val * 5632 + (n.val * 1408 + j.val) = (i.val * 4 + n.val) * 1408 + j.val
    omega)
theorem value (a0 : FVec Ideal S1x8320x1024 .bf16) (a1 : FVec Ideal S1x4x1024x1408 .bf16) :
    transpose S4x8320x1408 [1, 0, 2] (shapeCast _ (Host.dotGeneral (F := Ideal) dot_S8320x1024_S1024x5632_S8320x5632_1_0_0_1_n_n none (extf .f32 (shapeCast _ a0 shapeCasts_S1x8320x1024_S8320x1024) bitsLt_bf16_f32) (shapeCast _ (transpose S1024x4x1408 [1, 0, 2] (extf .f32 (shapeCast _ a1 shapeCasts_S1x4x1024x1408_S4x1024x1408) bitsLt_bf16_f32) transposes_S4x1024x1408_S1024x4x1408_1_0_2) shapeCasts_S1024x4x1408_S1024x5632)) shapeCasts_S8320x5632_S8320x4x1408) transposes_S8320x4x1408_S4x8320x1408_1_0_2
    = up (n := 4) (w := 1408) a0 a1 := funext fun y => by
  obtain ⟨n, i, j, rfl⟩ : ∃ (n : Fin 4) (i : Fin 8320) (j : Fin 1408), y = ValueIdx.ix3 n i j := ⟨y 0, y 1, y 2, idx3 y _ _ _ rfl rfl rfl⟩
  refine (transpose_apply [1, 0, 2] _ _ _ (ValueIdx.ix3 i n j) (fun a => by match a with | ⟨0, _⟩ => rfl | ⟨1, _⟩ => rfl | ⟨2, _⟩ => rfl)).trans ?_
  refine (split _ _ i n j).trans ?_
  simp only [pointwise]
  exact (zero_add _).trans (Finset.sum_congr rfl fun k _ => congrArg₂ (fun a b : EReal => a * b) rfl
    (congrArg (a1 : S1x4x1024x1408.Idx → EReal) (idx4 _ _ _ _ _ rfl (tile_div n.val j.isLt) rfl (tile_mod n.val j.isLt))))

end Cert.UpRef

end
-- ==== Proof.ActKernel.lean ====
/-
  THE KERNEL OF THE PRODUCT WITH THE DOWN-PROJECTION TRANSPOSED leaves `Products.toAct`: grid point `t` multiplies row tile `t % 5` with column tile `t / 5`.
-/
module

public import proofs.«01_k».proof.Proof.Products
public import proofs.«01_k».proof.Proof.Gen.Kernel5Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.ActKernel

open Idealize.ShloMosaic Idealize.ShloMosaic.ValueIdx Idealize.SL Idealize.SL.Sem
open Cert.Products Cert.Kernel5Ideal Cert.Kernel5Ideal.Gen

/-! ## The block a point leaves -/

theorem out {F : FTy → Type} [FloatOps F] (c : Dev nD) (i : grid0.Coords)
    (arg3 : Memref sig .tc .vmem S1x1664x1024 .f32) (harg3 : arg3.IsWhole) (arg4 : Memref sig .tc .vmem S1x1x1408x1024 .bf16) (harg4 : arg4.IsWhole)
    (arg5 : Memref sig .tc .vmem S1x1664x1408 .f32) (harg5 : arg5.IsWhole) (hc0 : cond0_0 i) (hc1 : ¬cond0_1 i)
    (x0 : Vec F S1x1664x1024 .f32) (x1 : Vec F S1x1x1408x1024 .bf16) :
    out0_A_2 c i arg3 harg3 arg4 harg4 arg5 harg5 hc0 hc1 x0 x1 = k0_pay2 x0 x1 := by
  unfold out0_A_2
  rw [View.read_writes_junk_eq_canon]
  unfold kernelRun0_A
  dsimp only
  rw [View.canon_cons_unit_zero hz3]
  simp only [View.readAt_eq_ld, harg3.read_unread, harg4.read_unread, View.ld_unit_zero (S := S1x1664x1024) hz3, View.ld_unit_zero (S := S1x1x1408x1024) hz4]

theorem pay (x0 : FVec Ideal S1x1664x1024 .f32) (x1 : FVec Ideal S1x1x1408x1024 .bf16) (i : Fin 1664) (j : Fin 1408) :
    k0_pay2 (F := Ideal) x0 x1 (ValueIdx.ix3 0 i j) = ∑ k : Fin 1024, ((x0 (ValueIdx.ix3 0 i k) : EReal) * (x1 (ValueIdx.ix4 0 0 j k) : EReal)) := by
  have hz : (constant (F := Ideal) S1664x1408 .f32 0x00000000#32) (ValueIdx.ix2 i j) = (0 : EReal) := Ideal.ofBits_zero_f32
  unfold k0_pay2
  refine (shapeCast_ab_1ab_apply _ _ 0 i j).trans ?_
  unfold k0_pay1
  simp only [pointwise, hz]
  exact zero_add _

/-! ## The blocks read at a point -/

theorem i0 : ∀ t : Fin cfg0.N, win0_0.index t = ![0, t.val % 5, 0] := (by decide +kernel : ∀ t : Fin grid0.N, _)
theorem i1 : ∀ t : Fin cfg0.N, win0_1.index t = ![t.val / 5, 0, 0, 0] := (by decide +kernel : ∀ t : Fin grid0.N, _)
theorem i2 : ∀ t : Fin cfg0.N, win0_2.index t = ![t.val / 5, t.val % 5, 0] := (by decide +kernel : ∀ t : Fin grid0.N, _)

variable (m : (ℓ : Loc nD τ sig) → Buf (Elt Ideal) ℓ) (c : Dev nD)

/-- The operands. -/
abbrev X0 : FVec Ideal Rows .f32 := m ((c.tc : Thread nD τ).loc main_arg0)
abbrev X1 : FVec Ideal (Weight 2 1 1408 1024) .bf16 := m ((c.tc : Thread nD τ).loc main_arg1)

theorem lt_N (t : Fin cfg0.N) : t.val < 10 := lt_of_lt_of_eq t.isLt (show cfg0.N = 10 from N_0)

/-- The row and the column tile of a point. -/
def row (t : Fin cfg0.N) (i : Fin 1664) : Fin 8320 := ⟨t.val % 5 * 1664 + i.val, by omega⟩
def tile (t : Fin cfg0.N) : Fin 2 := ⟨t.val / 5, by have := lt_N t; omega⟩

theorem blk0 (t : Fin cfg0.N) (i : Fin 1664) (k : Fin 1024) :
    (iblk m c 0 t : FVec Ideal S1x1664x1024 .f32) (ValueIdx.ix3 0 i k) = (X0 m c) (ValueIdx.ix3 0 (row t i) k) := by
  unfold iblk
  rw [View.read_apply]
  refine congrArg (X0 m c) (idx3 _ _ _ _ ?_ ?_ ?_)
  · show win0_0.index t 0 * 1 + 1 * 0 = 0; rw [i0]; rfl
  · show win0_0.index t 1 * 1664 + 1 * i.val = t.val % 5 * 1664 + i.val; rw [i0]; show t.val % 5 * 1664 + _ = _; omega
  · show win0_0.index t 2 * 1024 + 1 * k.val = k.val; rw [i0]; show 0 * 1024 + _ = _; omega
theorem blk1 (t : Fin cfg0.N) (k : Fin 1024) (j : Fin 1408) :
    (iblk m c 1 t : FVec Ideal S1x1x1408x1024 .bf16) (ValueIdx.ix4 0 0 j k) = (X1 m c) (ValueIdx.ix4 (tile t) 0 j k) := by
  unfold iblk
  rw [View.read_apply]
  refine congrArg (X1 m c) (idx4 _ _ _ _ _ ?_ ?_ ?_ ?_)
  · show win0_1.index t 0 * 1 + 1 * 0 = t.val / 5; rw [i1]; show t.val / 5 * 1 + _ = _; omega
  · show win0_1.index t 1 * 1 + 1 * 0 = 0; rw [i1]; rfl
  · show win0_1.index t 2 * 1408 + 1 * j.val = j.val; rw [i1]; show 0 * 1408 + _ = _; omega
  · show win0_1.index t 3 * 1024 + 1 * k.val = k.val; rw [i1]; show 0 * 1024 + _ = _; omega

/-! ## The result -/

theorem toAct_at (h : FVec Ideal Rows .f32) (W : FVec Ideal (Weight 2 1 1408 1024) .bf16) (z : (Cols 2 1408).Idx) (t : Fin 2) (i : Fin 8320) (j : Fin 1408)
    (e0 : (z 0).val = t.val) (e1 : (z 1).val = i.val) (e2 : (z 2).val = j.val) :
    toAct h W z = ∑ k : Fin 1024, ((h (ValueIdx.ix3 0 i k) : EReal) * (W (ValueIdx.ix4 t 0 j k) : EReal)) := by
  rw [idx3 z t i j e0 e1 e2]
  rfl

theorem final : (dats m 0 c).arrAt 2 cfg0.N = toAct (X0 m c) (X1 m c) := by
  refine (dats m 0 c).arrAt_eq_of_covers 2 _ (by decide +kernel) fun t hf y => ?_
  blk_simp
  rw [after0_2]
  have hy0 : (y 0).val < 1 := (y 0).isLt
  have hy : y = ValueIdx.ix3 (n0 := 1) (n1 := 1664) (n2 := 1408) 0 (y 1) (y 2) := idx3 y _ _ _ (by show (y 0).val = 0; omega) rfl rfl
  unfold outsAt0
  rw [out]
  refine ((congrArg (k0_pay2 (F := Ideal) (iblk m c 0 t) (iblk m c 1 t)) hy).trans (pay _ _ (y 1) (y 2))).trans (Eq.trans ?_ (toAct_at _ _ _ (tile t) (row t (y 1)) (y 2) ?_ ?_ ?_).symm)
  · exact Finset.sum_congr rfl fun k _ => congrArg₂ (fun a b : EReal => a * b) (blk0 m c t (y 1) k) (blk1 m c t k (y 2))
  · show win0_2.index t 0 * 1 + 1 * (y 0).val = t.val / 5; rw [i2]; show t.val / 5 * 1 + _ = _; omega
  · show win0_2.index t 1 * 1664 + 1 * (y 1).val = t.val % 5 * 1664 + (y 1).val; rw [i2]; show t.val % 5 * 1664 + _ = _; omega
  · show win0_2.index t 2 * 1408 + 1 * (y 2).val = (y 2).val; rw [i2]; show 0 * 1408 + _ = _; omega

end Cert.ActKernel

end
-- ==== Proof.ActRef.lean ====
/-
  THE REFERENCE OF THE PRODUCT WITH THE DOWN-PROJECTION TRANSPOSED is `Products.toAct`.
-/
module

public import proofs.«01_k».proof.Proof.Products
public import proofs.«01_k».proof.Proof.Gen.Reference5Ideal
public import proofs.«01_k».proof.Proof.Gen.Reference5Ideal.Run
public import Idealize.ShloMosaic.Lib.Pipeline.Value

@[expose] public section

noncomputable section

namespace Cert.ActRef

open Idealize.ShloMosaic Idealize.ShloMosaic.ValueIdx
open Cert.Products Cert.Reference5Ideal Cert.Reference5Ideal.Gen

theorem split {α : Type} (x : S8320x2816.Idx → α) (h : S8320x2816.ShapeCasts S8320x2x1408) (i : Fin 8320) (n : Fin 2) (j : Fin 1408) :
    shapeCast S8320x2x1408 x h (ValueIdx.ix3 i n j) = x (ValueIdx.ix2 i (at2 n j)) :=
  shapeCast_apply x h _ _ (by
    rw [Shape.rowMajor_val_three, Shape.rowMajor_val_two]
    show i.val * 2816 + (n.val * 1408 + j.val) = (i.val * 2 + n.val) * 1408 + j.val
    omega)
theorem value (a0 : FVec Ideal S1x8320x1024 .f32) (a1 : FVec Ideal S2x1x1408x1024 .bf16) :
    transpose S2x8320x1408 [1, 0, 2] (shapeCast _ (Host.dotGeneral (F := Ideal) dot_S8320x1024_S2816x1024_S8320x2816_1_1_0_0_n_n none (shapeCast _ a0 shapeCasts_S1x8320x1024_S8320x1024) (shapeCast _ (extf .f32 a1 bitsLt_bf16_f32) shapeCasts_S2x1x1408x1024_S2816x1024)) shapeCasts_S8320x2816_S8320x2x1408) transposes_S8320x2x1408_S2x8320x1408_1_0_2
    = toAct (n := 2) (w := 1408) a0 a1 := funext fun y => by
  obtain ⟨n, i, j, rfl⟩ : ∃ (n : Fin 2) (i : Fin 8320) (j : Fin 1408), y = ValueIdx.ix3 n i j := ⟨y 0, y 1, y 2, idx3 y _ _ _ rfl rfl rfl⟩
  refine (transpose_apply [1, 0, 2] _ _ _ (ValueIdx.ix3 i n j) (fun a => by match a with | ⟨0, _⟩ => rfl | ⟨1, _⟩ => rfl | ⟨2, _⟩ => rfl)).trans ?_
  refine (split _ _ i n j).trans ?_
  simp only [pointwise]
  exact (zero_add _).trans (Finset.sum_congr rfl fun k _ => congrArg₂ (fun a b : EReal => a * b) rfl
    (congrArg (a1 : S2x1x1408x1024.Idx → EReal) (idx4 _ _ _ _ _ (tile_div n.val j.isLt) rfl (tile_mod n.val j.isLt) rfl)))

end Cert.ActRef

end
-- ==== Proof.DownGradKernel.lean ====
/-
  THE DOWN-PROJECTION'S GRADIENT is `Products.grad` of its arguments: its grid's points are `Strips.Points`, point `t` having the
  result's row tile `t / 5` and adding row tile `t % 5` of the operands.
-/
module

public import proofs.«01_k».proof.Proof.Strips
public import proofs.«01_k».proof.Proof.Gen.Kernel6Ideal.Frame

@[expose] public section

noncomputable section

namespace Cert.DownGradKernel

open Idealize.ShloMosaic Idealize.ShloMosaic.ValueIdx Idealize.SL Idealize.SL.Sem
open Cert.Products Cert.Strips Cert.Kernel6Ideal Cert.Kernel6Ideal.Gen

variable {F : FTy → Type} [FloatOps F] (c : Dev nD) (i : grid0.Coords)
    (a3 : Memref sig .tc .vmem S1x1664x1408 .bf16) (h3 : a3.IsWhole) (a4 : Memref sig .tc .vmem S1x1664x1024 .f32) (h4 : a4.IsWhole)
    (a5 : Memref sig .tc .vmem S1x1x1408x1024 .f32) (h5 : a5.IsWhole)
    (x0 : Vec F S1x1664x1408 .bf16) (x1 : Vec F S1x1664x1024 .f32) (xo2 : Vec F S1x1x1408x1024 .f32)

/-- The strips of the result's block. -/
abbrev s0 : Rect S1x1x1408x1024 := Rect.unit (s := S1x1x1408x1024) ![0, 0, 0, 0] ![1, 1, 256, 1024] inb_S1x1x1408x1024_S1x1x256x1024_0_0_0_0
abbrev s256 : Rect S1x1x1408x1024 := Rect.unit (s := S1x1x1408x1024) ![0, 0, 256, 0] ![1, 1, 256, 1024] inb_S1x1x1408x1024_S1x1x256x1024_0_0_256_0
abbrev s512 : Rect S1x1x1408x1024 := Rect.unit (s := S1x1x1408x1024) ![0, 0, 512, 0] ![1, 1, 256, 1024] inb_S1x1x1408x1024_S1x1x256x1024_0_0_512_0
abbrev s768 : Rect S1x1x1408x1024 := Rect.unit (s := S1x1x1408x1024) ![0, 0, 768, 0] ![1, 1, 256, 1024] inb_S1x1x1408x1024_S1x1x256x1024_0_0_768_0
abbrev s1024 : Rect S1x1x1408x1024 := Rect.unit (s := S1x1x1408x1024) ![0, 0, 1024, 0] ![1, 1, 256, 1024] inb_S1x1x1408x1024_S1x1x256x1024_0_0_1024_0
abbrev s1280 : Rect S1x1x1408x1024 := Rect.unit (s := S1x1x1408x1024) ![0, 0, 1280, 0] ![1, 1, 128, 1024] inb_S1x1x1408x1024_S1x1x128x1024_0_0_1280_0

/-! ## Where the run reads the result's block, it finds it as it was -/

theorem B_v15 : kernelRun0_B.sl.v15 (F := F) c a5 h5 xo2 = View.ld xo2 s256 := by
  unfold kernelRun0_B.sl.v15
  simp only [View.readAt_eq_ld, h5.read_unread]
theorem B_v24 : kernelRun0_B.sl.v24 (F := F) c a5 h5 xo2 = View.ld xo2 s512 := by
  unfold kernelRun0_B.sl.v24
  simp only [View.readAt_eq_ld, h5.read_unread]
theorem B_v33 : kernelRun0_B.sl.v33 (F := F) c a5 h5 xo2 = View.ld xo2 s768 := by
  unfold kernelRun0_B.sl.v33
  simp only [View.readAt_eq_ld, h5.read_unread]
theorem B_v42 : kernelRun0_B.sl.v42 (F := F) c a5 h5 xo2 = View.ld xo2 s1024 := by
  unfold kernelRun0_B.sl.v42
  simp only [View.readAt_eq_ld, h5.read_unread]
theorem B_v51 : kernelRun0_B.sl.v51 (F := F) c a5 h5 xo2 = View.ld xo2 s1280 := by
  unfold kernelRun0_B.sl.v51
  simp only [View.readAt_eq_ld, h5.read_unread]
theorem A_v6 : kernelRun0_A.sl.v6 (F := F) c a5 = View.ld k0_pay3 s0 := by
  unfold kernelRun0_A.sl.v6 kernelRun0_A.sl.H2_1
  rw [View.readCov_eq_canon', View.canon_cons_unit_zero hz4]
theorem A_v15 : kernelRun0_A.sl.v15 (F := F) c a3 h3 a4 h4 a5 x0 x1 = View.ld k0_pay3 s256 := by
  unfold kernelRun0_A.sl.v15 kernelRun0_A.sl.H2_2 kernelRun0_A.sl.H2_1
  rw [View.readCov_skip _ _ _ _ _ (by decide), View.readCov_eq_canon', View.canon_cons_unit_zero hz4]
theorem A_v24 : kernelRun0_A.sl.v24 (F := F) c a3 h3 a4 h4 a5 x0 x1 = View.ld k0_pay3 s512 := by
  unfold kernelRun0_A.sl.v24 kernelRun0_A.sl.H2_3 kernelRun0_A.sl.H2_2 kernelRun0_A.sl.H2_1
  rw [View.readCov_skip _ _ _ _ _ (by decide), View.readCov_skip _ _ _ _ _ (by decide), View.readCov_eq_canon', View.canon_cons_unit_zero hz4]
theorem A_v33 : kernelRun0_A.sl.v33 (F := F) c a3 h3 a4 h4 a5 x0 x1 = View.ld k0_pay3 s768 := by
  unfold kernelRun0_A.sl.v33 kernelRun0_A.sl.H2_4 kernelRun0_A.sl.H2_3 kernelRun0_A.sl.H2_2 kernelRun0_A.sl.H2_1
  rw [View.readCov_skip _ _ _ _ _ (by decide), View.readCov_skip _ _ _ _ _ (by decide), View.readCov_skip _ _ _ _ _ (by decide), View.readCov_eq_canon', View.canon_cons_unit_zero hz4]
theorem A_v42 : kernelRun0_A.sl.v42 (F := F) c a3 h3 a4 h4 a5 x0 x1 = View.ld k0_pay3 s1024 := by
  unfold kernelRun0_A.sl.v42 kernelRun0_A.sl.H2_5 kernelRun0_A.sl.H2_4 kernelRun0_A.sl.H2_3 kernelRun0_A.sl.H2_2 kernelRun0_A.sl.H2_1
  rw [View.readCov_skip _ _ _ _ _ (by decide), View.readCov_skip _ _ _ _ _ (by decide), View.readCov_skip _ _ _ _ _ (by decide), View.readCov_skip _ _ _ _ _ (by decide), View.readCov_eq_canon', View.canon_cons_unit_zero hz4]
theorem A_v51 : kernelRun0_A.sl.v51 (F := F) c a3 h3 a4 h4 a5 x0 x1 = View.ld k0_pay3 s1280 := by
  unfold kernelRun0_A.sl.v51 kernelRun0_A.sl.H2_6 kernelRun0_A.sl.H2_5 kernelRun0_A.sl.H2_4 kernelRun0_A.sl.H2_3 kernelRun0_A.sl.H2_2 kernelRun0_A.sl.H2_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_eq_canon', View.canon_cons_unit_zero hz4]

/-! ## The block a point leaves -/

theorem cover (w5 : S1x1x128x1024.Idx → Elt F .f32) (w4 : S1x1x256x1024.Idx → Elt F .f32) (w3 : S1x1x256x1024.Idx → Elt F .f32) (w2 : S1x1x256x1024.Idx → Elt F .f32) (w1 : S1x1x256x1024.Idx → Elt F .f32) (w0 : S1x1x256x1024.Idx → Elt F .f32) (y : S1x1x1408x1024.Idx) :
    ∃ p ∈ ([⟨s1280, w5⟩, ⟨s1024, w4⟩, ⟨s768, w3⟩, ⟨s512, w2⟩, ⟨s256, w1⟩, ⟨s0, w0⟩] : List (View.Piece (Elt F) S1x1x1408x1024 .f32)), y ∈ p.1.set :=
  View.cover_of_tiledBy _ ![1, 1, 128, 1024] (by sl_kernel_rfl) y

theorem strip (x1 : FVec Ideal S1x1664x1024 .f32) : IsStrip (s := 256) (w := 1024) (f := .f32) x1 (fun V C => k0_pay5 (F := Ideal) x1 V C) := fun V C a b => by
  have hz : (constant (F := Ideal) S256x1024 .f32 0x00000000#32) (ValueIdx.ix2 a b) = (0 : EReal) := Ideal.ofBits_zero_f32
  unfold k0_pay5 k0_pay4
  simp only [pointwise]
  exact congrArg ((V (ValueIdx.ix4 0 0 a b) : EReal) + ·) (zero_add _)
theorem strip128 (x1 : FVec Ideal S1x1664x1024 .f32) : IsStrip (s := 128) (w := 1024) (f := .f32) x1 (fun V C => k0_pay2 (F := Ideal) (k0_pay4 (F := Ideal) x1) V C) := fun V C a b => by
  have hz : (constant (F := Ideal) S128x1024 .f32 0x00000000#32) (ValueIdx.ix2 a b) = (0 : EReal) := Ideal.ofBits_zero_f32
  unfold k0_pay2 k0_pay4
  simp only [pointwise]
  exact congrArg ((V (ValueIdx.ix4 0 0 a b) : EReal) + ·) (zero_add _)

theorem outB (hc0 : ¬cond0_0 i) (X : FVec Ideal S1x1x1408x1024 .f32) (x0 : FVec Ideal S1x1664x1408 .bf16) (x1 : FVec Ideal S1x1664x1024 .f32) :
    out0_B_2 (F := Ideal) c i a3 h3 a4 h4 a5 h5 hc0 x0 x1 X = more (r := 1408) (w := 1024) (f := .f32) X x0 x1 := by
  unfold out0_B_2
  rw [View.read_writes_junk_eq_canon]
  unfold kernelRun0_B
  dsimp only
  simp only [kernelRun0_B.sl.r, kernelRun0_B.sl.r_1, B_v15, B_v24, B_v33, B_v42, B_v51, View.readAt_eq_ld, h3.read_unread, h4.read_unread, h5.read_unread, View.ld_unit_zero (S := S1x1664x1024) hz3]
  funext y
  exact View.canon_append_of_piecesOf _ [] [_, _, _, _, _, _] ⟨fun x => piece (r := 1408) (w := 1024) (s := 128) (f := .f32) X x0 x1 _ (strip128 x1) 1280 (by decide) _ _ x,
    fun x => piece (r := 1408) (w := 1024) (s := 256) (f := .f32) X x0 x1 _ (strip x1) 1024 (by decide) _ _ x,
    fun x => piece (r := 1408) (w := 1024) (s := 256) (f := .f32) X x0 x1 _ (strip x1) 768 (by decide) _ _ x,
    fun x => piece (r := 1408) (w := 1024) (s := 256) (f := .f32) X x0 x1 _ (strip x1) 512 (by decide) _ _ x,
    fun x => piece (r := 1408) (w := 1024) (s := 256) (f := .f32) X x0 x1 _ (strip x1) 256 (by decide) _ _ x,
    fun x => piece (r := 1408) (w := 1024) (s := 256) (f := .f32) X x0 x1 _ (strip x1) 0 (by decide) _ _ x, trivial⟩ y (cover _ _ _ _ _ _ y)
theorem outA (hc0 : cond0_0 i) (x0 : FVec Ideal S1x1664x1408 .bf16) (x1 : FVec Ideal S1x1664x1024 .f32) :
    out0_A_2 (F := Ideal) c i a3 h3 a4 h4 a5 h5 hc0 x0 x1 = more (r := 1408) (w := 1024) (f := .f32) (k0_pay3 (F := Ideal)) x0 x1 := by
  unfold out0_A_2
  rw [View.read_writes_junk_eq_canon]
  unfold kernelRun0_A
  dsimp only
  unfold kernelRun0_A.sl.H2_6 kernelRun0_A.sl.H2_5 kernelRun0_A.sl.H2_4 kernelRun0_A.sl.H2_3 kernelRun0_A.sl.H2_2 kernelRun0_A.sl.H2_1
  simp only [kernelRun0_A.sl.r, kernelRun0_A.sl.r_1, A_v6, A_v15, A_v24, A_v33, A_v42, A_v51, View.readAt_eq_ld, h3.read_unread, h4.read_unread, View.ld_unit_zero (S := S1x1664x1024) hz3]
  funext y
  exact View.canon_append_of_piecesOf _ [_] [_, _, _, _, _, _] ⟨fun x => piece (r := 1408) (w := 1024) (s := 128) (f := .f32) (k0_pay3 (F := Ideal)) x0 x1 _ (strip128 x1) 1280 (by decide) _ _ x,
    fun x => piece (r := 1408) (w := 1024) (s := 256) (f := .f32) (k0_pay3 (F := Ideal)) x0 x1 _ (strip x1) 1024 (by decide) _ _ x,
    fun x => piece (r := 1408) (w := 1024) (s := 256) (f := .f32) (k0_pay3 (F := Ideal)) x0 x1 _ (strip x1) 768 (by decide) _ _ x,
    fun x => piece (r := 1408) (w := 1024) (s := 256) (f := .f32) (k0_pay3 (F := Ideal)) x0 x1 _ (strip x1) 512 (by decide) _ _ x,
    fun x => piece (r := 1408) (w := 1024) (s := 256) (f := .f32) (k0_pay3 (F := Ideal)) x0 x1 _ (strip x1) 256 (by decide) _ _ x,
    fun x => piece (r := 1408) (w := 1024) (s := 256) (f := .f32) (k0_pay3 (F := Ideal)) x0 x1 _ (strip x1) 0 (by decide) _ _ x, trivial⟩ y (cover _ _ _ _ _ _ y)

/-! ## The blocks read at a point -/

theorem i0 : ∀ t : Fin cfg0.N, win0_0.index t = ![t.val / 5, t.val % 5, 0] := (by decide +kernel : ∀ t : Fin grid0.N, _)
theorem i1 : ∀ t : Fin cfg0.N, win0_1.index t = ![0, t.val % 5, 0] := (by decide +kernel : ∀ t : Fin grid0.N, _)
theorem i2 : ∀ t : Fin cfg0.N, win0_2.index t = ![t.val / 5, 0, 0, 0] := (by decide +kernel : ∀ t : Fin grid0.N, _)
theorem last : ∀ t : Fin cfg0.N, win0_2.flush t = true → t.val % 5 = 4 := (by decide +kernel : ∀ t : Fin grid0.N, _)

theorem lt_N (t : Fin cfg0.N) : t.val < 10 := lt_of_lt_of_eq t.isLt (show cfg0.N = 10 from N_0)

/-- The result's row tile and column tile at a point. -/
def rowTile (t : ℕ) : Fin 2 := ⟨t / 5 % 2, by omega⟩
def colTile (t : ℕ) : Fin 1 := 0

variable (m : (ℓ : Loc nD τ sig) → Buf (Elt Ideal) ℓ)

/-- The operands. -/
abbrev X0 : FVec Ideal (Cols 2 1408) .bf16 := m ((c.tc : Thread nD τ).loc main_arg0)
abbrev X1 : FVec Ideal (Cols 1 1024) .f32 := m ((c.tc : Thread nD τ).loc main_arg1)

theorem points : Points (f := .f32) (X0 c m) (X1 c m) (N := cfg0.N) rowTile colTile
    (fun t h => (iblk m c 0 ⟨t, h⟩ : FVec Ideal S1x1664x1408 .bf16)) (fun t h => (iblk m c 1 ⟨t, h⟩ : FVec Ideal S1x1664x1024 .f32)) (k0_pay3 (F := Ideal)) (outsAt0 m c) where
  hu t e := Fin.ext (by show (t + 1) / 5 % 2 = t / 5 % 2; omega)
  hv t e := rfl
  h0 t h i a := by
    generalize et : (⟨t, h⟩ : Fin cfg0.N) = t'
    obtain rfl : t = t'.val := congrArg Fin.val et
    have ht := lt_N t'
    unfold iblk
    rw [View.read_apply]
    refine congrArg (X0 c m) (idx3 _ _ _ _ ?_ ?_ ?_)
    · show win0_0.index t' 0 * 1 + 1 * 0 = t'.val / 5 % 2; rw [i0]; show t'.val / 5 * 1 + _ = _; omega
    · show win0_0.index t' 1 * 1664 + 1 * i.val = 1664 * (t'.val % 5) + i.val; rw [i0]; show t'.val % 5 * 1664 + _ = _; omega
    · show win0_0.index t' 2 * 1408 + 1 * a.val = a.val; rw [i0]; show 0 * 1408 + _ = _; omega
  h1 t h i b := by
    generalize et : (⟨t, h⟩ : Fin cfg0.N) = t'
    obtain rfl : t = t'.val := congrArg Fin.val et
    have ht := lt_N t'
    unfold iblk
    rw [View.read_apply]
    refine congrArg (X1 c m) (idx3 _ _ _ _ ?_ ?_ ?_)
    · show win0_1.index t' 0 * 1 + 1 * 0 = 0; rw [i1]; rfl
    · show win0_1.index t' 1 * 1664 + 1 * i.val = 1664 * (t'.val % 5) + i.val; rw [i1]; show t'.val % 5 * 1664 + _ = _; omega
    · show win0_1.index t' 2 * 1024 + 1 * b.val = b.val; rw [i1]; show 0 * 1024 + _ = _; omega
  hZ a b := by
    unfold k0_pay3
    simp only [pointwise]
  first t h e := (outsAt0_A m c ⟨t, h⟩ e).trans (outA ..)
  next t h e := (outsAt0_B m c ⟨t + 1, h⟩ e).trans (outB ..)

theorem final : (dats m 0 c).arrAt 2 cfg0.N = grad (f := .f32) (X0 c m) (X1 c m) := by
  refine (dats m 0 c).arrAt_eq_of_covers 2 _ (by decide +kernel) fun t hf y => ?_
  blk_simp
  rw [after0_2]
  have ht := lt_N t
  have hy0 : (y 0).val < 1 := (y 0).isLt
  have hy1 : (y 1).val < 1 := (y 1).isLt
  refine (points c m).last t.val t.isLt (last t hf) y _ ?_ ?_ ?_ ?_
  · show win0_2.index t 0 * 1 + 1 * (y 0).val = t.val / 5 % 2; rw [i2]; show t.val / 5 * 1 + _ = _; omega
  · show win0_2.index t 1 * 1 + 1 * (y 1).val = 0; rw [i2]; show 0 * 1 + _ = _; omega
  · show win0_2.index t 2 * 1408 + 1 * (y 2).val = (y 2).val; rw [i2]; show 0 * 1408 + _ = _; omega
  · show win0_2.index t 3 * 1024 + 1 * (y 3).val = (y 3).val; rw [i2]; show 0 * 1024 + _ = _; omega

end Cert.DownGradKernel

end
-- ==== Proof.DownGradRef.lean ====
/-
  THE REFERENCE OF THE DOWN-PROJECTION'S GRADIENT is `Products.grad`.
-/
module

public import proofs.«01_k».proof.Proof.Products
public import proofs.«01_k».proof.Proof.Gen.Reference6Ideal
public import proofs.«01_k».proof.Proof.Gen.Reference6Ideal.Run
public import Idealize.ShloMosaic.Lib.Pipeline.Value

@[expose] public section

noncomputable section

namespace Cert.DownGradRef

open Idealize.ShloMosaic Idealize.ShloMosaic.ValueIdx
open Cert.Products Cert.Reference6Ideal Cert.Reference6Ideal.Gen

theorem split {α : Type} (x : S2816x1024.Idx → α) (h : S2816x1024.ShapeCasts S2x1x1408x1024) (n : Fin 2) (i : Fin 1408) (j : Fin 1024) :
    shapeCast S2x1x1408x1024 x h (ValueIdx.ix4 n 0 i j) = x (ValueIdx.ix2 (at2 n i) j) :=
  shapeCast_apply x h _ _ (by
    rw [Shape.rowMajor_val_four, Shape.rowMajor_val_two]
    show (n.val * 1408 + i.val) * 1024 + j.val = ((n.val * 1 + 0) * 1408 + i.val) * 1024 + j.val
    omega)
theorem value (a0 : FVec Ideal S2x8320x1408 .bf16) (a1 : FVec Ideal S1x8320x1024 .f32) :
    shapeCast _ (transpose S2816x1024 [1, 0] (Host.dotGeneral (F := Ideal) dot_S8320x1024_S8320x2816_S1024x2816_0_0_1_1_n_n none (shapeCast _ a1 shapeCasts_S1x8320x1024_S8320x1024) (shapeCast _ (transpose S8320x2x1408 [1, 0, 2] (extf .f32 a0 bitsLt_bf16_f32) transposes_S2x8320x1408_S8320x2x1408_1_0_2) shapeCasts_S8320x2x1408_S8320x2816)) transposes_S1024x2816_S2816x1024_1_0) shapeCasts_S2816x1024_S2x1x1408x1024
    = grad (k := 2) (r := 1408) (n := 1) (w := 1024) (f := .f32) a0 a1 := funext fun y => by
  obtain ⟨n, u, i, j, rfl⟩ : ∃ (n : Fin 2) (u : Fin 1) (i : Fin 1408) (j : Fin 1024), y = ValueIdx.ix4 n u i j := ⟨y 0, y 1, y 2, y 3, idx4 y _ _ _ _ rfl rfl rfl rfl⟩
  obtain rfl : u = 0 := Subsingleton.elim _ _
  refine (split _ _ n i j).trans ?_
  simp only [pointwise]
  exact (zero_add _).trans (Finset.sum_congr rfl fun k _ => (mul_comm (_ : EReal) _).trans (congrArg₂ (fun a b : EReal => a * b)
    (congrArg (a0 : S2x8320x1408.Idx → EReal) (idx3 _ _ _ _ (tile_div n.val i.isLt) rfl (tile_mod n.val i.isLt))) rfl))

end Cert.DownGradRef

end
-- ==== Proof.InGradKernel.lean ====
/-
  THE GRADIENT OF THE DELTA-RULE LAYER'S INPUT WEIGHT is `Products.grad` of its arguments: its grid's points are `Strips.Points`, point `t` having column tile `t / 5` and row tile `t % 5`.
-/
module

public import proofs.«01_k».proof.Proof.Strips
public import proofs.«01_k».proof.Proof.Gen.Kernel7Ideal.Frame

@[expose] public section

noncomputable section

namespace Cert.InGradKernel

open Idealize.ShloMosaic Idealize.ShloMosaic.ValueIdx Idealize.SL Idealize.SL.Sem
open Cert.Products Cert.Strips Cert.Kernel7Ideal Cert.Kernel7Ideal.Gen

variable {F : FTy → Type} [FloatOps F] (c : Dev nD) (i : grid0.Coords)
    (a3 : Memref sig .tc .vmem S1x1664x1024 .bf16) (h3 : a3.IsWhole) (a4 : Memref sig .tc .vmem S1x1664x1024 .bf16) (h4 : a4.IsWhole)
    (a5 : Memref sig .tc .vmem S1x1x1024x1024 .f32) (h5 : a5.IsWhole)
    (x0 : Vec F S1x1664x1024 .bf16) (x1 : Vec F S1x1664x1024 .bf16) (xo2 : Vec F S1x1x1024x1024 .f32)

/-- The strips of the result's block. -/
abbrev s0 : Rect S1x1x1024x1024 := Rect.unit (s := S1x1x1024x1024) ![0, 0, 0, 0] ![1, 1, 256, 1024] inb_S1x1x1024x1024_S1x1x256x1024_0_0_0_0
abbrev s256 : Rect S1x1x1024x1024 := Rect.unit (s := S1x1x1024x1024) ![0, 0, 256, 0] ![1, 1, 256, 1024] inb_S1x1x1024x1024_S1x1x256x1024_0_0_256_0
abbrev s512 : Rect S1x1x1024x1024 := Rect.unit (s := S1x1x1024x1024) ![0, 0, 512, 0] ![1, 1, 256, 1024] inb_S1x1x1024x1024_S1x1x256x1024_0_0_512_0
abbrev s768 : Rect S1x1x1024x1024 := Rect.unit (s := S1x1x1024x1024) ![0, 0, 768, 0] ![1, 1, 256, 1024] inb_S1x1x1024x1024_S1x1x256x1024_0_0_768_0

/-! ## Where the run reads the result's block, it finds it as it was -/

theorem B_v14 : kernelRun0_B.sl.v14 (F := F) c a5 h5 xo2 = View.ld xo2 s256 := by
  unfold kernelRun0_B.sl.v14
  simp only [View.readAt_eq_ld, h5.read_unread]
theorem B_v23 : kernelRun0_B.sl.v23 (F := F) c a5 h5 xo2 = View.ld xo2 s512 := by
  unfold kernelRun0_B.sl.v23
  simp only [View.readAt_eq_ld, h5.read_unread]
theorem B_v32 : kernelRun0_B.sl.v32 (F := F) c a5 h5 xo2 = View.ld xo2 s768 := by
  unfold kernelRun0_B.sl.v32
  simp only [View.readAt_eq_ld, h5.read_unread]
theorem A_v5 : kernelRun0_A.sl.v5 (F := F) c a5 = View.ld k0_pay3 s0 := by
  unfold kernelRun0_A.sl.v5 kernelRun0_A.sl.H2_1
  rw [View.readCov_eq_canon', View.canon_cons_unit_zero hz4]
theorem A_v14 : kernelRun0_A.sl.v14 (F := F) c a3 h3 a4 h4 a5 x0 x1 = View.ld k0_pay3 s256 := by
  unfold kernelRun0_A.sl.v14 kernelRun0_A.sl.H2_2 kernelRun0_A.sl.H2_1
  rw [View.readCov_skip _ _ _ _ _ (by decide), View.readCov_eq_canon', View.canon_cons_unit_zero hz4]
theorem A_v23 : kernelRun0_A.sl.v23 (F := F) c a3 h3 a4 h4 a5 x0 x1 = View.ld k0_pay3 s512 := by
  unfold kernelRun0_A.sl.v23 kernelRun0_A.sl.H2_3 kernelRun0_A.sl.H2_2 kernelRun0_A.sl.H2_1
  rw [View.readCov_skip _ _ _ _ _ (by decide), View.readCov_skip _ _ _ _ _ (by decide), View.readCov_eq_canon', View.canon_cons_unit_zero hz4]
theorem A_v32 : kernelRun0_A.sl.v32 (F := F) c a3 h3 a4 h4 a5 x0 x1 = View.ld k0_pay3 s768 := by
  unfold kernelRun0_A.sl.v32 kernelRun0_A.sl.H2_4 kernelRun0_A.sl.H2_3 kernelRun0_A.sl.H2_2 kernelRun0_A.sl.H2_1
  rw [View.readCov_skip _ _ _ _ _ (by decide), View.readCov_skip _ _ _ _ _ (by decide), View.readCov_skip _ _ _ _ _ (by decide), View.readCov_eq_canon', View.canon_cons_unit_zero hz4]

/-! ## The block a point leaves -/

theorem cover (w3 w2 w1 w0 : S1x1x256x1024.Idx → Elt F .f32) (y : S1x1x1024x1024.Idx) :
    ∃ p ∈ ([⟨s768, w3⟩, ⟨s512, w2⟩, ⟨s256, w1⟩, ⟨s0, w0⟩] : List (View.Piece (Elt F) S1x1x1024x1024 .f32)), y ∈ p.1.set :=
  View.cover_of_tiledL _ ![1, 1, 256, 1024] (by sl_kernel_rfl) y

theorem strip (x1 : FVec Ideal S1x1664x1024 .bf16) : IsStrip (s := 256) (w := 1024) (f := .bf16) x1 (fun V C => k0_pay5 (F := Ideal) x1 V C) := fun V C a b => by
  have hz : (constant (F := Ideal) S256x1024 .f32 0x00000000#32) (ValueIdx.ix2 a b) = (0 : EReal) := Ideal.ofBits_zero_f32
  unfold k0_pay5 k0_pay4
  simp only [pointwise]
  exact congrArg ((V (ValueIdx.ix4 0 0 a b) : EReal) + ·) (zero_add _)

theorem outB (hc0 : ¬cond0_0 i) (X : FVec Ideal S1x1x1024x1024 .f32) (x0 : FVec Ideal S1x1664x1024 .bf16) (x1 : FVec Ideal S1x1664x1024 .bf16) :
    out0_B_2 (F := Ideal) c i a3 h3 a4 h4 a5 h5 hc0 x0 x1 X = more (r := 1024) (w := 1024) (f := .bf16) X x0 x1 := by
  unfold out0_B_2
  rw [View.read_writes_junk_eq_canon]
  unfold kernelRun0_B
  dsimp only
  simp only [kernelRun0_B.sl.r, B_v14, B_v23, B_v32, View.readAt_eq_ld, h3.read_unread, h4.read_unread, h5.read_unread, View.ld_unit_zero (S := S1x1664x1024) hz3]
  funext y
  exact View.canon_append_of_piecesOf _ [] [_, _, _, _] ⟨fun x => piece (r := 1024) (w := 1024) (s := 256) (f := .bf16) X x0 x1 _ (strip x1) 768 (by decide) _ _ x,
    fun x => piece (r := 1024) (w := 1024) (s := 256) (f := .bf16) X x0 x1 _ (strip x1) 512 (by decide) _ _ x,
    fun x => piece (r := 1024) (w := 1024) (s := 256) (f := .bf16) X x0 x1 _ (strip x1) 256 (by decide) _ _ x,
    fun x => piece (r := 1024) (w := 1024) (s := 256) (f := .bf16) X x0 x1 _ (strip x1) 0 (by decide) _ _ x, trivial⟩ y (cover _ _ _ _ y)
theorem outA (hc0 : cond0_0 i) (x0 : FVec Ideal S1x1664x1024 .bf16) (x1 : FVec Ideal S1x1664x1024 .bf16) :
    out0_A_2 (F := Ideal) c i a3 h3 a4 h4 a5 h5 hc0 x0 x1 = more (r := 1024) (w := 1024) (f := .bf16) (k0_pay3 (F := Ideal)) x0 x1 := by
  unfold out0_A_2
  rw [View.read_writes_junk_eq_canon]
  unfold kernelRun0_A
  dsimp only
  unfold kernelRun0_A.sl.H2_4 kernelRun0_A.sl.H2_3 kernelRun0_A.sl.H2_2 kernelRun0_A.sl.H2_1
  simp only [kernelRun0_A.sl.r, A_v5, A_v14, A_v23, A_v32, View.readAt_eq_ld, h3.read_unread, h4.read_unread, View.ld_unit_zero (S := S1x1664x1024) hz3]
  funext y
  exact View.canon_append_of_piecesOf _ [_] [_, _, _, _] ⟨fun x => piece (r := 1024) (w := 1024) (s := 256) (f := .bf16) (k0_pay3 (F := Ideal)) x0 x1 _ (strip x1) 768 (by decide) _ _ x,
    fun x => piece (r := 1024) (w := 1024) (s := 256) (f := .bf16) (k0_pay3 (F := Ideal)) x0 x1 _ (strip x1) 512 (by decide) _ _ x,
    fun x => piece (r := 1024) (w := 1024) (s := 256) (f := .bf16) (k0_pay3 (F := Ideal)) x0 x1 _ (strip x1) 256 (by decide) _ _ x,
    fun x => piece (r := 1024) (w := 1024) (s := 256) (f := .bf16) (k0_pay3 (F := Ideal)) x0 x1 _ (strip x1) 0 (by decide) _ _ x, trivial⟩ y (cover _ _ _ _ y)

/-! ## The blocks read at a point -/

theorem i0 : ∀ t : Fin cfg0.N, win0_0.index t = ![0, t.val % 5, 0] := (by decide +kernel : ∀ t : Fin grid0.N, _)
theorem i1 : ∀ t : Fin cfg0.N, win0_1.index t = ![t.val / 5, t.val % 5, 0] := (by decide +kernel : ∀ t : Fin grid0.N, _)
theorem i2 : ∀ t : Fin cfg0.N, win0_2.index t = ![0, t.val / 5, 0, 0] := (by decide +kernel : ∀ t : Fin grid0.N, _)
theorem last : ∀ t : Fin cfg0.N, win0_2.flush t = true → t.val % 5 = 4 := (by decide +kernel : ∀ t : Fin grid0.N, _)

theorem lt_N (t : Fin cfg0.N) : t.val < 20 := lt_of_lt_of_eq t.isLt (show cfg0.N = 20 from N_0)

/-- The result's row tile and column tile at a point. -/
def rowTile (t : ℕ) : Fin 1 := 0
def colTile (t : ℕ) : Fin 4 := ⟨t / 5 % 4, by omega⟩

variable (m : (ℓ : Loc nD τ sig) → Buf (Elt Ideal) ℓ)

/-- The operands. -/
abbrev X0 : FVec Ideal (Cols 1 1024) .bf16 := m ((c.tc : Thread nD τ).loc main_arg0)
abbrev X1 : FVec Ideal (Cols 4 1024) .bf16 := m ((c.tc : Thread nD τ).loc main_arg1)

theorem points : Points (f := .bf16) (X0 c m) (X1 c m) (N := cfg0.N) rowTile colTile
    (fun t h => (iblk m c 0 ⟨t, h⟩ : FVec Ideal S1x1664x1024 .bf16)) (fun t h => (iblk m c 1 ⟨t, h⟩ : FVec Ideal S1x1664x1024 .bf16)) (k0_pay3 (F := Ideal)) (outsAt0 m c) where
  hu t e := rfl
  hv t e := Fin.ext (by show (t + 1) / 5 % 4 = t / 5 % 4; omega)
  h0 t h i a := by
    generalize et : (⟨t, h⟩ : Fin cfg0.N) = t'
    obtain rfl : t = t'.val := congrArg Fin.val et
    have ht := lt_N t'
    unfold iblk
    rw [View.read_apply]
    refine congrArg (X0 c m) (idx3 _ _ _ _ ?_ ?_ ?_)
    · show win0_0.index t' 0 * 1 + 1 * 0 = 0; rw [i0]; rfl
    · show win0_0.index t' 1 * 1664 + 1 * i.val = 1664 * (t'.val % 5) + i.val; rw [i0]; show t'.val % 5 * 1664 + _ = _; omega
    · show win0_0.index t' 2 * 1024 + 1 * a.val = a.val; rw [i0]; show 0 * 1024 + _ = _; omega
  h1 t h i b := by
    generalize et : (⟨t, h⟩ : Fin cfg0.N) = t'
    obtain rfl : t = t'.val := congrArg Fin.val et
    have ht := lt_N t'
    unfold iblk
    rw [View.read_apply]
    refine congrArg (X1 c m) (idx3 _ _ _ _ ?_ ?_ ?_)
    · show win0_1.index t' 0 * 1 + 1 * 0 = t'.val / 5 % 4; rw [i1]; show t'.val / 5 * 1 + _ = _; omega
    · show win0_1.index t' 1 * 1664 + 1 * i.val = 1664 * (t'.val % 5) + i.val; rw [i1]; show t'.val % 5 * 1664 + _ = _; omega
    · show win0_1.index t' 2 * 1024 + 1 * b.val = b.val; rw [i1]; show 0 * 1024 + _ = _; omega
  hZ a b := by
    unfold k0_pay3
    simp only [pointwise]
  first t h e := (outsAt0_A m c ⟨t, h⟩ e).trans (outA ..)
  next t h e := (outsAt0_B m c ⟨t + 1, h⟩ e).trans (outB ..)

theorem final : (dats m 0 c).arrAt 2 cfg0.N = grad (f := .bf16) (X0 c m) (X1 c m) := by
  refine (dats m 0 c).arrAt_eq_of_covers 2 _ (by decide +kernel) fun t hf y => ?_
  blk_simp
  rw [after0_2]
  have ht := lt_N t
  have hy0 : (y 0).val < 1 := (y 0).isLt
  have hy1 : (y 1).val < 1 := (y 1).isLt
  refine (points c m).last t.val t.isLt (last t hf) y _ ?_ ?_ ?_ ?_
  · show win0_2.index t 0 * 1 + 1 * (y 0).val = 0; rw [i2]; show 0 * 1 + _ = _; omega
  · show win0_2.index t 1 * 1 + 1 * (y 1).val = t.val / 5 % 4; rw [i2]; show t.val / 5 * 1 + _ = _; omega
  · show win0_2.index t 2 * 1024 + 1 * (y 2).val = (y 2).val; rw [i2]; show 0 * 1024 + _ = _; omega
  · show win0_2.index t 3 * 1024 + 1 * (y 3).val = (y 3).val; rw [i2]; show 0 * 1024 + _ = _; omega

end Cert.InGradKernel

end
-- ==== Proof.InGradRef.lean ====
/-
  THE REFERENCE OF THE GRADIENT OF THE DELTA-RULE LAYER'S INPUT WEIGHT is `Products.grad`.
-/
module

public import proofs.«01_k».proof.Proof.Products
public import proofs.«01_k».proof.Proof.Gen.Reference7Ideal
public import proofs.«01_k».proof.Proof.Gen.Reference7Ideal.Run
public import Idealize.ShloMosaic.Lib.Pipeline.Value

@[expose] public section

noncomputable section

namespace Cert.InGradRef

open Idealize.ShloMosaic Idealize.ShloMosaic.ValueIdx
open Cert.Products Cert.Reference7Ideal Cert.Reference7Ideal.Gen

theorem value (a0 : FVec Ideal S1x8320x1024 .bf16) (a1 : FVec Ideal S4x8320x1024 .bf16) :
    broadcastInDim S1x4x1024x1024 ![1, 2, 3] bcast_S4x1024x1024_S1x4x1024x1024_1_2_3 (transpose S4x1024x1024 [1, 0, 2] (shapeCast _ (transpose S1024x4096 [1, 0] (Host.dotGeneral (F := Ideal) dot_S8320x4096_S8320x1024_S4096x1024_0_0_1_1_n_n none (shapeCast _ (transpose S8320x4x1024 [1, 0, 2] (extf .f32 a1 bitsLt_bf16_f32) transposes_S4x8320x1024_S8320x4x1024_1_0_2) shapeCasts_S8320x4x1024_S8320x4096) (extf .f32 (shapeCast _ a0 shapeCasts_S1x8320x1024_S8320x1024) bitsLt_bf16_f32)) transposes_S4096x1024_S1024x4096_1_0) shapeCasts_S1024x4096_S1024x4x1024) transposes_S1024x4x1024_S4x1024x1024_1_0_2)
    = grad (k := 1) (r := 1024) (n := 4) (w := 1024) (f := .bf16) a0 a1 := funext fun y => by
  obtain ⟨u, n, i, j, rfl⟩ : ∃ (u : Fin 1) (n : Fin 4) (i : Fin 1024) (j : Fin 1024), y = ValueIdx.ix4 u n i j := ⟨y 0, y 1, y 2, y 3, idx4 y _ _ _ _ rfl rfl rfl rfl⟩
  obtain rfl : u = 0 := Subsingleton.elim _ _
  simp only [pointwise]
  exact (zero_add _).trans (Finset.sum_congr rfl fun k _ => (mul_comm (_ : EReal) _).trans (congrArg₂ (fun a b : EReal => a * b) rfl (congrArg (a1 : S4x8320x1024.Idx → EReal) (idx3 _ _ _ _ rfl rfl rfl))))

end Cert.InGradRef

end
-- ==== Proof.ConvGradKernel.lean ====
/-
  THE GRADIENT OF THE CONVOLUTION LAYER'S INPUT WEIGHT is `Products.grad` of its arguments: its grid's points are `Strips.Points`, point `t` having column tile `t / 5` and row tile `t % 5`.
-/
module

public import proofs.«01_k».proof.Proof.Strips
public import proofs.«01_k».proof.Proof.Gen.Kernel8Ideal.Frame

@[expose] public section

noncomputable section

namespace Cert.ConvGradKernel

open Idealize.ShloMosaic Idealize.ShloMosaic.ValueIdx Idealize.SL Idealize.SL.Sem
open Cert.Products Cert.Strips Cert.Kernel8Ideal Cert.Kernel8Ideal.Gen

variable {F : FTy → Type} [FloatOps F] (c : Dev nD) (i : grid0.Coords)
    (a3 : Memref sig .tc .vmem S1x1664x1024 .bf16) (h3 : a3.IsWhole) (a4 : Memref sig .tc .vmem S1x1664x1024 .bf16) (h4 : a4.IsWhole)
    (a5 : Memref sig .tc .vmem S1x1x1024x1024 .f32) (h5 : a5.IsWhole)
    (x0 : Vec F S1x1664x1024 .bf16) (x1 : Vec F S1x1664x1024 .bf16) (xo2 : Vec F S1x1x1024x1024 .f32)

/-- The strips of the result's block. -/
abbrev s0 : Rect S1x1x1024x1024 := Rect.unit (s := S1x1x1024x1024) ![0, 0, 0, 0] ![1, 1, 256, 1024] inb_S1x1x1024x1024_S1x1x256x1024_0_0_0_0
abbrev s256 : Rect S1x1x1024x1024 := Rect.unit (s := S1x1x1024x1024) ![0, 0, 256, 0] ![1, 1, 256, 1024] inb_S1x1x1024x1024_S1x1x256x1024_0_0_256_0
abbrev s512 : Rect S1x1x1024x1024 := Rect.unit (s := S1x1x1024x1024) ![0, 0, 512, 0] ![1, 1, 256, 1024] inb_S1x1x1024x1024_S1x1x256x1024_0_0_512_0
abbrev s768 : Rect S1x1x1024x1024 := Rect.unit (s := S1x1x1024x1024) ![0, 0, 768, 0] ![1, 1, 256, 1024] inb_S1x1x1024x1024_S1x1x256x1024_0_0_768_0

/-! ## Where the run reads the result's block, it finds it as it was -/

theorem B_v14 : kernelRun0_B.sl.v14 (F := F) c a5 h5 xo2 = View.ld xo2 s256 := by
  unfold kernelRun0_B.sl.v14
  simp only [View.readAt_eq_ld, h5.read_unread]
theorem B_v23 : kernelRun0_B.sl.v23 (F := F) c a5 h5 xo2 = View.ld xo2 s512 := by
  unfold kernelRun0_B.sl.v23
  simp only [View.readAt_eq_ld, h5.read_unread]
theorem B_v32 : kernelRun0_B.sl.v32 (F := F) c a5 h5 xo2 = View.ld xo2 s768 := by
  unfold kernelRun0_B.sl.v32
  simp only [View.readAt_eq_ld, h5.read_unread]
theorem A_v5 : kernelRun0_A.sl.v5 (F := F) c a5 = View.ld k0_pay3 s0 := by
  unfold kernelRun0_A.sl.v5 kernelRun0_A.sl.H2_1
  rw [View.readCov_eq_canon', View.canon_cons_unit_zero hz4]
theorem A_v14 : kernelRun0_A.sl.v14 (F := F) c a3 h3 a4 h4 a5 x0 x1 = View.ld k0_pay3 s256 := by
  unfold kernelRun0_A.sl.v14 kernelRun0_A.sl.H2_2 kernelRun0_A.sl.H2_1
  rw [View.readCov_skip _ _ _ _ _ (by decide), View.readCov_eq_canon', View.canon_cons_unit_zero hz4]
theorem A_v23 : kernelRun0_A.sl.v23 (F := F) c a3 h3 a4 h4 a5 x0 x1 = View.ld k0_pay3 s512 := by
  unfold kernelRun0_A.sl.v23 kernelRun0_A.sl.H2_3 kernelRun0_A.sl.H2_2 kernelRun0_A.sl.H2_1
  rw [View.readCov_skip _ _ _ _ _ (by decide), View.readCov_skip _ _ _ _ _ (by decide), View.readCov_eq_canon', View.canon_cons_unit_zero hz4]
theorem A_v32 : kernelRun0_A.sl.v32 (F := F) c a3 h3 a4 h4 a5 x0 x1 = View.ld k0_pay3 s768 := by
  unfold kernelRun0_A.sl.v32 kernelRun0_A.sl.H2_4 kernelRun0_A.sl.H2_3 kernelRun0_A.sl.H2_2 kernelRun0_A.sl.H2_1
  rw [View.readCov_skip _ _ _ _ _ (by decide), View.readCov_skip _ _ _ _ _ (by decide), View.readCov_skip _ _ _ _ _ (by decide), View.readCov_eq_canon', View.canon_cons_unit_zero hz4]

/-! ## The block a point leaves -/

theorem cover (w3 w2 w1 w0 : S1x1x256x1024.Idx → Elt F .f32) (y : S1x1x1024x1024.Idx) :
    ∃ p ∈ ([⟨s768, w3⟩, ⟨s512, w2⟩, ⟨s256, w1⟩, ⟨s0, w0⟩] : List (View.Piece (Elt F) S1x1x1024x1024 .f32)), y ∈ p.1.set :=
  View.cover_of_tiledL _ ![1, 1, 256, 1024] (by sl_kernel_rfl) y

theorem strip (x1 : FVec Ideal S1x1664x1024 .bf16) : IsStrip (s := 256) (w := 1024) (f := .bf16) x1 (fun V C => k0_pay5 (F := Ideal) x1 V C) := fun V C a b => by
  have hz : (constant (F := Ideal) S256x1024 .f32 0x00000000#32) (ValueIdx.ix2 a b) = (0 : EReal) := Ideal.ofBits_zero_f32
  unfold k0_pay5 k0_pay4
  simp only [pointwise]
  exact congrArg ((V (ValueIdx.ix4 0 0 a b) : EReal) + ·) (zero_add _)

theorem outB (hc0 : ¬cond0_0 i) (X : FVec Ideal S1x1x1024x1024 .f32) (x0 : FVec Ideal S1x1664x1024 .bf16) (x1 : FVec Ideal S1x1664x1024 .bf16) :
    out0_B_2 (F := Ideal) c i a3 h3 a4 h4 a5 h5 hc0 x0 x1 X = more (r := 1024) (w := 1024) (f := .bf16) X x0 x1 := by
  unfold out0_B_2
  rw [View.read_writes_junk_eq_canon]
  unfold kernelRun0_B
  dsimp only
  simp only [kernelRun0_B.sl.r, B_v14, B_v23, B_v32, View.readAt_eq_ld, h3.read_unread, h4.read_unread, h5.read_unread, View.ld_unit_zero (S := S1x1664x1024) hz3]
  funext y
  exact View.canon_append_of_piecesOf _ [] [_, _, _, _] ⟨fun x => piece (r := 1024) (w := 1024) (s := 256) (f := .bf16) X x0 x1 _ (strip x1) 768 (by decide) _ _ x,
    fun x => piece (r := 1024) (w := 1024) (s := 256) (f := .bf16) X x0 x1 _ (strip x1) 512 (by decide) _ _ x,
    fun x => piece (r := 1024) (w := 1024) (s := 256) (f := .bf16) X x0 x1 _ (strip x1) 256 (by decide) _ _ x,
    fun x => piece (r := 1024) (w := 1024) (s := 256) (f := .bf16) X x0 x1 _ (strip x1) 0 (by decide) _ _ x, trivial⟩ y (cover _ _ _ _ y)
theorem outA (hc0 : cond0_0 i) (x0 : FVec Ideal S1x1664x1024 .bf16) (x1 : FVec Ideal S1x1664x1024 .bf16) :
    out0_A_2 (F := Ideal) c i a3 h3 a4 h4 a5 h5 hc0 x0 x1 = more (r := 1024) (w := 1024) (f := .bf16) (k0_pay3 (F := Ideal)) x0 x1 := by
  unfold out0_A_2
  rw [View.read_writes_junk_eq_canon]
  unfold kernelRun0_A
  dsimp only
  unfold kernelRun0_A.sl.H2_4 kernelRun0_A.sl.H2_3 kernelRun0_A.sl.H2_2 kernelRun0_A.sl.H2_1
  simp only [kernelRun0_A.sl.r, A_v5, A_v14, A_v23, A_v32, View.readAt_eq_ld, h3.read_unread, h4.read_unread, View.ld_unit_zero (S := S1x1664x1024) hz3]
  funext y
  exact View.canon_append_of_piecesOf _ [_] [_, _, _, _] ⟨fun x => piece (r := 1024) (w := 1024) (s := 256) (f := .bf16) (k0_pay3 (F := Ideal)) x0 x1 _ (strip x1) 768 (by decide) _ _ x,
    fun x => piece (r := 1024) (w := 1024) (s := 256) (f := .bf16) (k0_pay3 (F := Ideal)) x0 x1 _ (strip x1) 512 (by decide) _ _ x,
    fun x => piece (r := 1024) (w := 1024) (s := 256) (f := .bf16) (k0_pay3 (F := Ideal)) x0 x1 _ (strip x1) 256 (by decide) _ _ x,
    fun x => piece (r := 1024) (w := 1024) (s := 256) (f := .bf16) (k0_pay3 (F := Ideal)) x0 x1 _ (strip x1) 0 (by decide) _ _ x, trivial⟩ y (cover _ _ _ _ y)

/-! ## The blocks read at a point -/

theorem i0 : ∀ t : Fin cfg0.N, win0_0.index t = ![0, t.val % 5, 0] := (by decide +kernel : ∀ t : Fin grid0.N, _)
theorem i1 : ∀ t : Fin cfg0.N, win0_1.index t = ![t.val / 5, t.val % 5, 0] := (by decide +kernel : ∀ t : Fin grid0.N, _)
theorem i2 : ∀ t : Fin cfg0.N, win0_2.index t = ![0, t.val / 5, 0, 0] := (by decide +kernel : ∀ t : Fin grid0.N, _)
theorem last : ∀ t : Fin cfg0.N, win0_2.flush t = true → t.val % 5 = 4 := (by decide +kernel : ∀ t : Fin grid0.N, _)

theorem lt_N (t : Fin cfg0.N) : t.val < 15 := lt_of_lt_of_eq t.isLt (show cfg0.N = 15 from N_0)

/-- The result's row tile and column tile at a point. -/
def rowTile (t : ℕ) : Fin 1 := 0
def colTile (t : ℕ) : Fin 3 := ⟨t / 5 % 3, by omega⟩

variable (m : (ℓ : Loc nD τ sig) → Buf (Elt Ideal) ℓ)

/-- The operands. -/
abbrev X0 : FVec Ideal (Cols 1 1024) .bf16 := m ((c.tc : Thread nD τ).loc main_arg0)
abbrev X1 : FVec Ideal (Cols 3 1024) .bf16 := m ((c.tc : Thread nD τ).loc main_arg1)

theorem points : Points (f := .bf16) (X0 c m) (X1 c m) (N := cfg0.N) rowTile colTile
    (fun t h => (iblk m c 0 ⟨t, h⟩ : FVec Ideal S1x1664x1024 .bf16)) (fun t h => (iblk m c 1 ⟨t, h⟩ : FVec Ideal S1x1664x1024 .bf16)) (k0_pay3 (F := Ideal)) (outsAt0 m c) where
  hu t e := rfl
  hv t e := Fin.ext (by show (t + 1) / 5 % 3 = t / 5 % 3; omega)
  h0 t h i a := by
    generalize et : (⟨t, h⟩ : Fin cfg0.N) = t'
    obtain rfl : t = t'.val := congrArg Fin.val et
    have ht := lt_N t'
    unfold iblk
    rw [View.read_apply]
    refine congrArg (X0 c m) (idx3 _ _ _ _ ?_ ?_ ?_)
    · show win0_0.index t' 0 * 1 + 1 * 0 = 0; rw [i0]; rfl
    · show win0_0.index t' 1 * 1664 + 1 * i.val = 1664 * (t'.val % 5) + i.val; rw [i0]; show t'.val % 5 * 1664 + _ = _; omega
    · show win0_0.index t' 2 * 1024 + 1 * a.val = a.val; rw [i0]; show 0 * 1024 + _ = _; omega
  h1 t h i b := by
    generalize et : (⟨t, h⟩ : Fin cfg0.N) = t'
    obtain rfl : t = t'.val := congrArg Fin.val et
    have ht := lt_N t'
    unfold iblk
    rw [View.read_apply]
    refine congrArg (X1 c m) (idx3 _ _ _ _ ?_ ?_ ?_)
    · show win0_1.index t' 0 * 1 + 1 * 0 = t'.val / 5 % 3; rw [i1]; show t'.val / 5 * 1 + _ = _; omega
    · show win0_1.index t' 1 * 1664 + 1 * i.val = 1664 * (t'.val % 5) + i.val; rw [i1]; show t'.val % 5 * 1664 + _ = _; omega
    · show win0_1.index t' 2 * 1024 + 1 * b.val = b.val; rw [i1]; show 0 * 1024 + _ = _; omega
  hZ a b := by
    unfold k0_pay3
    simp only [pointwise]
  first t h e := (outsAt0_A m c ⟨t, h⟩ e).trans (outA ..)
  next t h e := (outsAt0_B m c ⟨t + 1, h⟩ e).trans (outB ..)

theorem final : (dats m 0 c).arrAt 2 cfg0.N = grad (f := .bf16) (X0 c m) (X1 c m) := by
  refine (dats m 0 c).arrAt_eq_of_covers 2 _ (by decide +kernel) fun t hf y => ?_
  blk_simp
  rw [after0_2]
  have ht := lt_N t
  have hy0 : (y 0).val < 1 := (y 0).isLt
  have hy1 : (y 1).val < 1 := (y 1).isLt
  refine (points c m).last t.val t.isLt (last t hf) y _ ?_ ?_ ?_ ?_
  · show win0_2.index t 0 * 1 + 1 * (y 0).val = 0; rw [i2]; show 0 * 1 + _ = _; omega
  · show win0_2.index t 1 * 1 + 1 * (y 1).val = t.val / 5 % 3; rw [i2]; show t.val / 5 * 1 + _ = _; omega
  · show win0_2.index t 2 * 1024 + 1 * (y 2).val = (y 2).val; rw [i2]; show 0 * 1024 + _ = _; omega
  · show win0_2.index t 3 * 1024 + 1 * (y 3).val = (y 3).val; rw [i2]; show 0 * 1024 + _ = _; omega

end Cert.ConvGradKernel

end
-- ==== Proof.ConvGradRef.lean ====
/-
  THE REFERENCE OF THE GRADIENT OF THE CONVOLUTION LAYER'S INPUT WEIGHT is `Products.grad`.
-/
module

public import proofs.«01_k».proof.Proof.Products
public import proofs.«01_k».proof.Proof.Gen.Reference8Ideal
public import proofs.«01_k».proof.Proof.Gen.Reference8Ideal.Run
public import Idealize.ShloMosaic.Lib.Pipeline.Value

@[expose] public section

noncomputable section

namespace Cert.ConvGradRef

open Idealize.ShloMosaic Idealize.ShloMosaic.ValueIdx
open Cert.Products Cert.Reference8Ideal Cert.Reference8Ideal.Gen

theorem value (a0 : FVec Ideal S1x8320x1024 .bf16) (a1 : FVec Ideal S3x8320x1024 .bf16) :
    broadcastInDim S1x3x1024x1024 ![1, 2, 3] bcast_S3x1024x1024_S1x3x1024x1024_1_2_3 (transpose S3x1024x1024 [1, 0, 2] (shapeCast _ (transpose S1024x3072 [1, 0] (Host.dotGeneral (F := Ideal) dot_S8320x3072_S8320x1024_S3072x1024_0_0_1_1_n_n none (shapeCast _ (transpose S8320x3x1024 [1, 0, 2] (extf .f32 a1 bitsLt_bf16_f32) transposes_S3x8320x1024_S8320x3x1024_1_0_2) shapeCasts_S8320x3x1024_S8320x3072) (extf .f32 (shapeCast _ a0 shapeCasts_S1x8320x1024_S8320x1024) bitsLt_bf16_f32)) transposes_S3072x1024_S1024x3072_1_0) shapeCasts_S1024x3072_S1024x3x1024) transposes_S1024x3x1024_S3x1024x1024_1_0_2)
    = grad (k := 1) (r := 1024) (n := 3) (w := 1024) (f := .bf16) a0 a1 := funext fun y => by
  obtain ⟨u, n, i, j, rfl⟩ : ∃ (u : Fin 1) (n : Fin 3) (i : Fin 1024) (j : Fin 1024), y = ValueIdx.ix4 u n i j := ⟨y 0, y 1, y 2, y 3, idx4 y _ _ _ _ rfl rfl rfl rfl⟩
  obtain rfl : u = 0 := Subsingleton.elim _ _
  simp only [pointwise]
  exact (zero_add _).trans (Finset.sum_congr rfl fun k _ => (mul_comm (_ : EReal) _).trans (congrArg₂ (fun a b : EReal => a * b) rfl (congrArg (a1 : S3x8320x1024.Idx → EReal) (idx3 _ _ _ _ rfl rfl rfl))))

end Cert.ConvGradRef

end
-- ==== Proof.OutGradKernel.lean ====
/-
  THE GRADIENT OF AN OUTPUT WEIGHT is `Products.grad` of its arguments: its grid's five points are `Strips.Points`.
-/
module

public import proofs.«01_k».proof.Proof.Strips
public import proofs.«01_k».proof.Proof.Gen.Kernel9Ideal.Frame

@[expose] public section

noncomputable section

namespace Cert.OutGradKernel

open Idealize.ShloMosaic Idealize.ShloMosaic.ValueIdx Idealize.SL Idealize.SL.Sem
open Cert.Products Cert.Strips Cert.Kernel9Ideal Cert.Kernel9Ideal.Gen

variable {F : FTy → Type} [FloatOps F] (c : Dev nD) (i : grid0.Coords)
    (a3 : Memref sig .tc .vmem S1x1664x1024 .bf16) (h3 : a3.IsWhole) (a4 : Memref sig .tc .vmem S1x1664x1024 .f32) (h4 : a4.IsWhole)
    (a5 : Memref sig .tc .vmem S1x1x1024x1024 .f32) (h5 : a5.IsWhole)
    (x0 : Vec F S1x1664x1024 .bf16) (x1 : Vec F S1x1664x1024 .f32) (xo2 : Vec F S1x1x1024x1024 .f32)

/-- The strips of the result's block. -/
abbrev s0 : Rect S1x1x1024x1024 := Rect.unit (s := S1x1x1024x1024) ![0, 0, 0, 0] ![1, 1, 256, 1024] inb_S1x1x1024x1024_S1x1x256x1024_0_0_0_0
abbrev s256 : Rect S1x1x1024x1024 := Rect.unit (s := S1x1x1024x1024) ![0, 0, 256, 0] ![1, 1, 256, 1024] inb_S1x1x1024x1024_S1x1x256x1024_0_0_256_0
abbrev s512 : Rect S1x1x1024x1024 := Rect.unit (s := S1x1x1024x1024) ![0, 0, 512, 0] ![1, 1, 256, 1024] inb_S1x1x1024x1024_S1x1x256x1024_0_0_512_0
abbrev s768 : Rect S1x1x1024x1024 := Rect.unit (s := S1x1x1024x1024) ![0, 0, 768, 0] ![1, 1, 256, 1024] inb_S1x1x1024x1024_S1x1x256x1024_0_0_768_0

/-! ## Where the run reads the result's block, it finds it as it was -/

theorem B_v15 : kernelRun0_B.sl.v15 (F := F) c a5 h5 xo2 = View.ld xo2 s256 := by
  unfold kernelRun0_B.sl.v15
  simp only [View.readAt_eq_ld, h5.read_unread]
theorem B_v24 : kernelRun0_B.sl.v24 (F := F) c a5 h5 xo2 = View.ld xo2 s512 := by
  unfold kernelRun0_B.sl.v24
  simp only [View.readAt_eq_ld, h5.read_unread]
theorem B_v33 : kernelRun0_B.sl.v33 (F := F) c a5 h5 xo2 = View.ld xo2 s768 := by
  unfold kernelRun0_B.sl.v33
  simp only [View.readAt_eq_ld, h5.read_unread]
theorem A_v6 : kernelRun0_A.sl.v6 (F := F) c a5 = View.ld k0_pay3 s0 := by
  unfold kernelRun0_A.sl.v6 kernelRun0_A.sl.H2_1
  rw [View.readCov_eq_canon', View.canon_cons_unit_zero hz4]
theorem A_v15 : kernelRun0_A.sl.v15 (F := F) c a3 h3 a4 h4 a5 x0 x1 = View.ld k0_pay3 s256 := by
  unfold kernelRun0_A.sl.v15 kernelRun0_A.sl.H2_2 kernelRun0_A.sl.H2_1
  rw [View.readCov_skip _ _ _ _ _ (by decide), View.readCov_eq_canon', View.canon_cons_unit_zero hz4]
theorem A_v24 : kernelRun0_A.sl.v24 (F := F) c a3 h3 a4 h4 a5 x0 x1 = View.ld k0_pay3 s512 := by
  unfold kernelRun0_A.sl.v24 kernelRun0_A.sl.H2_3 kernelRun0_A.sl.H2_2 kernelRun0_A.sl.H2_1
  rw [View.readCov_skip _ _ _ _ _ (by decide), View.readCov_skip _ _ _ _ _ (by decide), View.readCov_eq_canon', View.canon_cons_unit_zero hz4]
theorem A_v33 : kernelRun0_A.sl.v33 (F := F) c a3 h3 a4 h4 a5 x0 x1 = View.ld k0_pay3 s768 := by
  unfold kernelRun0_A.sl.v33 kernelRun0_A.sl.H2_4 kernelRun0_A.sl.H2_3 kernelRun0_A.sl.H2_2 kernelRun0_A.sl.H2_1
  rw [View.readCov_skip _ _ _ _ _ (by decide), View.readCov_skip _ _ _ _ _ (by decide), View.readCov_skip _ _ _ _ _ (by decide), View.readCov_eq_canon', View.canon_cons_unit_zero hz4]

/-! ## The block a point leaves -/

theorem cover (w3 w2 w1 w0 : S1x1x256x1024.Idx → Elt F .f32) (y : S1x1x1024x1024.Idx) :
    ∃ p ∈ ([⟨s768, w3⟩, ⟨s512, w2⟩, ⟨s256, w1⟩, ⟨s0, w0⟩] : List (View.Piece (Elt F) S1x1x1024x1024 .f32)), y ∈ p.1.set :=
  View.cover_of_tiledL _ ![1, 1, 256, 1024] (by sl_kernel_rfl) y

theorem strip (x1 : FVec Ideal S1x1664x1024 .f32) : IsStrip (s := 256) (w := 1024) (f := .f32) x1 (fun V C => k0_pay5 (F := Ideal) x1 V C) := fun V C a b => by
  have hz : (constant (F := Ideal) S256x1024 .f32 0x00000000#32) (ValueIdx.ix2 a b) = (0 : EReal) := Ideal.ofBits_zero_f32
  unfold k0_pay5 k0_pay4
  simp only [pointwise]
  exact congrArg ((V (ValueIdx.ix4 0 0 a b) : EReal) + ·) (zero_add _)

theorem outB (hc0 : ¬cond0_0 i) (X : FVec Ideal S1x1x1024x1024 .f32) (x0 : FVec Ideal S1x1664x1024 .bf16) (x1 : FVec Ideal S1x1664x1024 .f32) :
    out0_B_2 (F := Ideal) c i a3 h3 a4 h4 a5 h5 hc0 x0 x1 X = more (r := 1024) (w := 1024) (f := .f32) X x0 x1 := by
  unfold out0_B_2
  rw [View.read_writes_junk_eq_canon]
  unfold kernelRun0_B
  dsimp only
  simp only [kernelRun0_B.sl.r, B_v15, B_v24, B_v33, View.readAt_eq_ld, h3.read_unread, h4.read_unread, h5.read_unread, View.ld_unit_zero (S := S1x1664x1024) hz3]
  funext y
  exact View.canon_append_of_piecesOf _ [] [_, _, _, _] ⟨fun x => piece (r := 1024) (w := 1024) (s := 256) (f := .f32) X x0 x1 _ (strip x1) 768 (by decide) _ _ x,
    fun x => piece (r := 1024) (w := 1024) (s := 256) (f := .f32) X x0 x1 _ (strip x1) 512 (by decide) _ _ x,
    fun x => piece (r := 1024) (w := 1024) (s := 256) (f := .f32) X x0 x1 _ (strip x1) 256 (by decide) _ _ x,
    fun x => piece (r := 1024) (w := 1024) (s := 256) (f := .f32) X x0 x1 _ (strip x1) 0 (by decide) _ _ x, trivial⟩ y (cover _ _ _ _ y)
theorem outA (hc0 : cond0_0 i) (x0 : FVec Ideal S1x1664x1024 .bf16) (x1 : FVec Ideal S1x1664x1024 .f32) :
    out0_A_2 (F := Ideal) c i a3 h3 a4 h4 a5 h5 hc0 x0 x1 = more (r := 1024) (w := 1024) (f := .f32) (k0_pay3 (F := Ideal)) x0 x1 := by
  unfold out0_A_2
  rw [View.read_writes_junk_eq_canon]
  unfold kernelRun0_A
  dsimp only
  unfold kernelRun0_A.sl.H2_4 kernelRun0_A.sl.H2_3 kernelRun0_A.sl.H2_2 kernelRun0_A.sl.H2_1
  simp only [kernelRun0_A.sl.r, A_v6, A_v15, A_v24, A_v33, View.readAt_eq_ld, h3.read_unread, h4.read_unread, View.ld_unit_zero (S := S1x1664x1024) hz3]
  funext y
  exact View.canon_append_of_piecesOf _ [_] [_, _, _, _] ⟨fun x => piece (r := 1024) (w := 1024) (s := 256) (f := .f32) (k0_pay3 (F := Ideal)) x0 x1 _ (strip x1) 768 (by decide) _ _ x,
    fun x => piece (r := 1024) (w := 1024) (s := 256) (f := .f32) (k0_pay3 (F := Ideal)) x0 x1 _ (strip x1) 512 (by decide) _ _ x,
    fun x => piece (r := 1024) (w := 1024) (s := 256) (f := .f32) (k0_pay3 (F := Ideal)) x0 x1 _ (strip x1) 256 (by decide) _ _ x,
    fun x => piece (r := 1024) (w := 1024) (s := 256) (f := .f32) (k0_pay3 (F := Ideal)) x0 x1 _ (strip x1) 0 (by decide) _ _ x, trivial⟩ y (cover _ _ _ _ y)

/-! ## The blocks read at a point -/

theorem i0 : ∀ t : Fin cfg0.N, win0_0.index t = ![0, t.val % 5, 0] := (by decide +kernel : ∀ t : Fin grid0.N, _)
theorem i1 : ∀ t : Fin cfg0.N, win0_1.index t = ![t.val / 5, t.val % 5, 0] := (by decide +kernel : ∀ t : Fin grid0.N, _)
theorem i2 : ∀ t : Fin cfg0.N, win0_2.index t = ![0, t.val / 5, 0, 0] := (by decide +kernel : ∀ t : Fin grid0.N, _)
theorem last : ∀ t : Fin cfg0.N, win0_2.flush t = true → t.val % 5 = 4 := (by decide +kernel : ∀ t : Fin grid0.N, _)

theorem lt_N (t : Fin cfg0.N) : t.val < 5 := lt_of_lt_of_eq t.isLt (show cfg0.N = 5 from N_0)

/-- The result's row tile and column tile at a point. -/
def rowTile (t : ℕ) : Fin 1 := 0
def colTile (t : ℕ) : Fin 1 := ⟨t / 5 % 1, by omega⟩

variable (m : (ℓ : Loc nD τ sig) → Buf (Elt Ideal) ℓ)

/-- The operands. -/
abbrev X0 : FVec Ideal (Cols 1 1024) .bf16 := m ((c.tc : Thread nD τ).loc main_arg0)
abbrev X1 : FVec Ideal (Cols 1 1024) .f32 := m ((c.tc : Thread nD τ).loc main_arg1)

theorem points : Points (f := .f32) (X0 c m) (X1 c m) (N := cfg0.N) rowTile colTile
    (fun t h => (iblk m c 0 ⟨t, h⟩ : FVec Ideal S1x1664x1024 .bf16)) (fun t h => (iblk m c 1 ⟨t, h⟩ : FVec Ideal S1x1664x1024 .f32)) (k0_pay3 (F := Ideal)) (outsAt0 m c) where
  hu t e := rfl
  hv t e := Fin.ext (by show (t + 1) / 5 % 1 = t / 5 % 1; omega)
  h0 t h i a := by
    generalize et : (⟨t, h⟩ : Fin cfg0.N) = t'
    obtain rfl : t = t'.val := congrArg Fin.val et
    have ht := lt_N t'
    unfold iblk
    rw [View.read_apply]
    refine congrArg (X0 c m) (idx3 _ _ _ _ ?_ ?_ ?_)
    · show win0_0.index t' 0 * 1 + 1 * 0 = 0; rw [i0]; rfl
    · show win0_0.index t' 1 * 1664 + 1 * i.val = 1664 * (t'.val % 5) + i.val; rw [i0]; show t'.val % 5 * 1664 + _ = _; omega
    · show win0_0.index t' 2 * 1024 + 1 * a.val = a.val; rw [i0]; show 0 * 1024 + _ = _; omega
  h1 t h i b := by
    generalize et : (⟨t, h⟩ : Fin cfg0.N) = t'
    obtain rfl : t = t'.val := congrArg Fin.val et
    have ht := lt_N t'
    unfold iblk
    rw [View.read_apply]
    refine congrArg (X1 c m) (idx3 _ _ _ _ ?_ ?_ ?_)
    · show win0_1.index t' 0 * 1 + 1 * 0 = t'.val / 5 % 1; rw [i1]; show t'.val / 5 * 1 + _ = _; omega
    · show win0_1.index t' 1 * 1664 + 1 * i.val = 1664 * (t'.val % 5) + i.val; rw [i1]; show t'.val % 5 * 1664 + _ = _; omega
    · show win0_1.index t' 2 * 1024 + 1 * b.val = b.val; rw [i1]; show 0 * 1024 + _ = _; omega
  hZ a b := by
    unfold k0_pay3
    simp only [pointwise]
  first t h e := (outsAt0_A m c ⟨t, h⟩ e).trans (outA ..)
  next t h e := (outsAt0_B m c ⟨t + 1, h⟩ e).trans (outB ..)

theorem final : (dats m 0 c).arrAt 2 cfg0.N = grad (f := .f32) (X0 c m) (X1 c m) := by
  refine (dats m 0 c).arrAt_eq_of_covers 2 _ (by decide +kernel) fun t hf y => ?_
  blk_simp
  rw [after0_2]
  have ht := lt_N t
  have hy0 : (y 0).val < 1 := (y 0).isLt
  have hy1 : (y 1).val < 1 := (y 1).isLt
  refine (points c m).last t.val t.isLt (last t hf) y _ ?_ ?_ ?_ ?_
  · show win0_2.index t 0 * 1 + 1 * (y 0).val = 0; rw [i2]; show 0 * 1 + _ = _; omega
  · show win0_2.index t 1 * 1 + 1 * (y 1).val = t.val / 5 % 1; rw [i2]; show t.val / 5 * 1 + _ = _; omega
  · show win0_2.index t 2 * 1024 + 1 * (y 2).val = (y 2).val; rw [i2]; show 0 * 1024 + _ = _; omega
  · show win0_2.index t 3 * 1024 + 1 * (y 3).val = (y 3).val; rw [i2]; show 0 * 1024 + _ = _; omega

end Cert.OutGradKernel

end
-- ==== Proof.OutGradRef.lean ====
/-
  THE REFERENCE OF THE GRADIENT OF AN OUTPUT WEIGHT is `Products.grad`.
-/
module

public import proofs.«01_k».proof.Proof.Products
public import proofs.«01_k».proof.Proof.Gen.Reference9Ideal
public import proofs.«01_k».proof.Proof.Gen.Reference9Ideal.Run
public import Idealize.ShloMosaic.Lib.Pipeline.Value

@[expose] public section

noncomputable section

namespace Cert.OutGradRef

open Idealize.ShloMosaic Idealize.ShloMosaic.ValueIdx
open Cert.Products Cert.Reference9Ideal Cert.Reference9Ideal.Gen

theorem value (a0 : FVec Ideal S1x8320x1024 .bf16) (a1 : FVec Ideal S1x8320x1024 .f32) :
    broadcastInDim S1x1x1024x1024 ![2, 3] bcast_S1024x1024_S1x1x1024x1024_2_3 (transpose S1024x1024 [1, 0] (Host.dotGeneral (F := Ideal) dot_S8320x1024_S8320x1024_S1024x1024_0_0_1_1_n_n none (shapeCast _ a1 shapeCasts_S1x8320x1024_S8320x1024) (extf .f32 (shapeCast _ a0 shapeCasts_S1x8320x1024_S8320x1024) bitsLt_bf16_f32)) transposes_S1024x1024_S1024x1024_1_0)
    = grad (k := 1) (r := 1024) (n := 1) (w := 1024) (f := .f32) a0 a1 := funext fun y => by
  obtain ⟨u, v, i, j, rfl⟩ : ∃ (u v : Fin 1) (i j : Fin 1024), y = ValueIdx.ix4 u v i j := ⟨y 0, y 1, y 2, y 3, idx4 y _ _ _ _ rfl rfl rfl rfl⟩
  obtain rfl : u = 0 := Subsingleton.elim _ _
  obtain rfl : v = 0 := Subsingleton.elim _ _
  simp only [pointwise]
  exact (zero_add _).trans (Finset.sum_congr rfl fun k _ => mul_comm (_ : EReal) _)

end Cert.OutGradRef

end
-- ==== Proof.InKernel.lean ====
/-
  THE KERNEL OF THE DELTA-RULE LAYER'S INPUT PRODUCT leaves `Products.up`: grid point `t` multiplies row tile `t % 5` with column tile `t / 5`.
-/
module

public import proofs.«01_k».proof.Proof.Products
public import proofs.«01_k».proof.Proof.Gen.Kernel10Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.InKernel

open Idealize.ShloMosaic Idealize.ShloMosaic.ValueIdx Idealize.SL Idealize.SL.Sem
open Cert.Products Cert.Kernel10Ideal Cert.Kernel10Ideal.Gen

/-! ## The block a point leaves -/

theorem out {F : FTy → Type} [FloatOps F] (c : Dev nD) (i : grid0.Coords)
    (arg3 : Memref sig .tc .vmem S1x1664x1024 .bf16) (harg3 : arg3.IsWhole) (arg4 : Memref sig .tc .vmem S1x1x1024x1024 .bf16) (harg4 : arg4.IsWhole)
    (arg5 : Memref sig .tc .vmem S1x1664x1024 .f32) (harg5 : arg5.IsWhole) (hc0 : cond0_0 i) (hc1 : ¬cond0_1 i)
    (x0 : Vec F S1x1664x1024 .bf16) (x1 : Vec F S1x1x1024x1024 .bf16) :
    out0_A_2 c i arg3 harg3 arg4 harg4 arg5 harg5 hc0 hc1 x0 x1 = k0_pay2 x0 x1 := by
  unfold out0_A_2
  rw [View.read_writes_junk_eq_canon]
  unfold kernelRun0_A
  dsimp only
  rw [View.canon_cons_unit_zero hz3]
  simp only [View.readAt_eq_ld, harg3.read_unread, harg4.read_unread, View.ld_unit_zero (S := S1x1664x1024) hz3, View.ld_unit_zero (S := S1x1x1024x1024) hz4]

theorem pay (x0 : FVec Ideal S1x1664x1024 .bf16) (x1 : FVec Ideal S1x1x1024x1024 .bf16) (i : Fin 1664) (j : Fin 1024) :
    k0_pay2 (F := Ideal) x0 x1 (ValueIdx.ix3 0 i j) = ∑ k : Fin 1024, ((x0 (ValueIdx.ix3 0 i k) : EReal) * (x1 (ValueIdx.ix4 0 0 k j) : EReal)) := by
  have hz : (constant (F := Ideal) S1664x1024 .f32 0x00000000#32) (ValueIdx.ix2 i j) = (0 : EReal) := Ideal.ofBits_zero_f32
  unfold k0_pay2
  refine (shapeCast_ab_1ab_apply _ _ 0 i j).trans ?_
  unfold k0_pay1
  simp only [pointwise, hz]
  exact zero_add _

/-! ## The blocks read at a point -/

theorem i0 : ∀ t : Fin cfg0.N, win0_0.index t = ![0, t.val % 5, 0] := (by decide +kernel : ∀ t : Fin grid0.N, _)
theorem i1 : ∀ t : Fin cfg0.N, win0_1.index t = ![0, t.val / 5, 0, 0] := (by decide +kernel : ∀ t : Fin grid0.N, _)
theorem i2 : ∀ t : Fin cfg0.N, win0_2.index t = ![t.val / 5, t.val % 5, 0] := (by decide +kernel : ∀ t : Fin grid0.N, _)

variable (m : (ℓ : Loc nD τ sig) → Buf (Elt Ideal) ℓ) (c : Dev nD)

/-- The operands. -/
abbrev X0 : FVec Ideal Rows .bf16 := m ((c.tc : Thread nD τ).loc main_arg0)
abbrev X1 : FVec Ideal (Weight 1 4 1024 1024) .bf16 := m ((c.tc : Thread nD τ).loc main_arg1)

theorem lt_N (t : Fin cfg0.N) : t.val < 20 := lt_of_lt_of_eq t.isLt (show cfg0.N = 20 from N_0)

/-- The row and the column tile of a point. -/
def row (t : Fin cfg0.N) (i : Fin 1664) : Fin 8320 := ⟨t.val % 5 * 1664 + i.val, by omega⟩
def tile (t : Fin cfg0.N) : Fin 4 := ⟨t.val / 5, by have := lt_N t; omega⟩

theorem blk0 (t : Fin cfg0.N) (i : Fin 1664) (k : Fin 1024) :
    (iblk m c 0 t : FVec Ideal S1x1664x1024 .bf16) (ValueIdx.ix3 0 i k) = (X0 m c) (ValueIdx.ix3 0 (row t i) k) := by
  unfold iblk
  rw [View.read_apply]
  refine congrArg (X0 m c) (idx3 _ _ _ _ ?_ ?_ ?_)
  · show win0_0.index t 0 * 1 + 1 * 0 = 0; rw [i0]; rfl
  · show win0_0.index t 1 * 1664 + 1 * i.val = t.val % 5 * 1664 + i.val; rw [i0]; show t.val % 5 * 1664 + _ = _; omega
  · show win0_0.index t 2 * 1024 + 1 * k.val = k.val; rw [i0]; show 0 * 1024 + _ = _; omega
theorem blk1 (t : Fin cfg0.N) (k : Fin 1024) (j : Fin 1024) :
    (iblk m c 1 t : FVec Ideal S1x1x1024x1024 .bf16) (ValueIdx.ix4 0 0 k j) = (X1 m c) (ValueIdx.ix4 0 (tile t) k j) := by
  unfold iblk
  rw [View.read_apply]
  refine congrArg (X1 m c) (idx4 _ _ _ _ _ ?_ ?_ ?_ ?_)
  · show win0_1.index t 0 * 1 + 1 * 0 = 0; rw [i1]; rfl
  · show win0_1.index t 1 * 1 + 1 * 0 = t.val / 5; rw [i1]; show t.val / 5 * 1 + _ = _; omega
  · show win0_1.index t 2 * 1024 + 1 * k.val = k.val; rw [i1]; show 0 * 1024 + _ = _; omega
  · show win0_1.index t 3 * 1024 + 1 * j.val = j.val; rw [i1]; show 0 * 1024 + _ = _; omega

/-! ## The result -/

theorem up_at (h : FVec Ideal Rows .bf16) (W : FVec Ideal (Weight 1 4 1024 1024) .bf16) (z : (Cols 4 1024).Idx) (t : Fin 4) (i : Fin 8320) (j : Fin 1024)
    (e0 : (z 0).val = t.val) (e1 : (z 1).val = i.val) (e2 : (z 2).val = j.val) :
    up h W z = ∑ k : Fin 1024, ((h (ValueIdx.ix3 0 i k) : EReal) * (W (ValueIdx.ix4 0 t k j) : EReal)) := by
  rw [idx3 z t i j e0 e1 e2]
  rfl

theorem final : (dats m 0 c).arrAt 2 cfg0.N = up (X0 m c) (X1 m c) := by
  refine (dats m 0 c).arrAt_eq_of_covers 2 _ (by decide +kernel) fun t hf y => ?_
  blk_simp
  rw [after0_2]
  have hy0 : (y 0).val < 1 := (y 0).isLt
  have hy : y = ValueIdx.ix3 (n0 := 1) (n1 := 1664) (n2 := 1024) 0 (y 1) (y 2) := idx3 y _ _ _ (by show (y 0).val = 0; omega) rfl rfl
  unfold outsAt0
  rw [out]
  refine ((congrArg (k0_pay2 (F := Ideal) (iblk m c 0 t) (iblk m c 1 t)) hy).trans (pay _ _ (y 1) (y 2))).trans (Eq.trans ?_ (up_at _ _ _ (tile t) (row t (y 1)) (y 2) ?_ ?_ ?_).symm)
  · exact Finset.sum_congr rfl fun k _ => congrArg₂ (fun a b : EReal => a * b) (blk0 m c t (y 1) k) (blk1 m c t k (y 2))
  · show win0_2.index t 0 * 1 + 1 * (y 0).val = t.val / 5; rw [i2]; show t.val / 5 * 1 + _ = _; omega
  · show win0_2.index t 1 * 1664 + 1 * (y 1).val = t.val % 5 * 1664 + (y 1).val; rw [i2]; show t.val % 5 * 1664 + _ = _; omega
  · show win0_2.index t 2 * 1024 + 1 * (y 2).val = (y 2).val; rw [i2]; show 0 * 1024 + _ = _; omega

end Cert.InKernel

end
-- ==== Proof.InRef.lean ====
/-
  THE REFERENCE OF THE DELTA-RULE LAYER'S INPUT PRODUCT is `Products.up`.
-/
module

public import proofs.«01_k».proof.Proof.Products
public import proofs.«01_k».proof.Proof.Gen.Reference10Ideal
public import proofs.«01_k».proof.Proof.Gen.Reference10Ideal.Run
public import Idealize.ShloMosaic.Lib.Pipeline.Value

@[expose] public section

noncomputable section

namespace Cert.InRef

open Idealize.ShloMosaic Idealize.ShloMosaic.ValueIdx
open Cert.Products Cert.Reference10Ideal Cert.Reference10Ideal.Gen

theorem split {α : Type} (x : S8320x4096.Idx → α) (h : S8320x4096.ShapeCasts S8320x4x1024) (i : Fin 8320) (n : Fin 4) (j : Fin 1024) :
    shapeCast S8320x4x1024 x h (ValueIdx.ix3 i n j) = x (ValueIdx.ix2 i (in4 n j)) :=
  shapeCast_apply x h _ _ (by
    rw [Shape.rowMajor_val_three, Shape.rowMajor_val_two]
    show i.val * 4096 + (n.val * 1024 + j.val) = (i.val * 4 + n.val) * 1024 + j.val
    omega)
theorem value (a0 : FVec Ideal S1x8320x1024 .bf16) (a1 : FVec Ideal S1x4x1024x1024 .bf16) :
    transpose S4x8320x1024 [1, 0, 2] (shapeCast _ (Host.dotGeneral (F := Ideal) dot_S8320x1024_S1024x4096_S8320x4096_1_0_0_1_n_n none (extf .f32 (shapeCast _ a0 shapeCasts_S1x8320x1024_S8320x1024) bitsLt_bf16_f32) (shapeCast _ (transpose S1024x4x1024 [1, 0, 2] (extf .f32 (shapeCast _ a1 shapeCasts_S1x4x1024x1024_S4x1024x1024) bitsLt_bf16_f32) transposes_S4x1024x1024_S1024x4x1024_1_0_2) shapeCasts_S1024x4x1024_S1024x4096)) shapeCasts_S8320x4096_S8320x4x1024) transposes_S8320x4x1024_S4x8320x1024_1_0_2
    = up (n := 4) (w := 1024) a0 a1 := funext fun y => by
  obtain ⟨n, i, j, rfl⟩ : ∃ (n : Fin 4) (i : Fin 8320) (j : Fin 1024), y = ValueIdx.ix3 n i j := ⟨y 0, y 1, y 2, idx3 y _ _ _ rfl rfl rfl⟩
  refine (transpose_apply [1, 0, 2] _ _ _ (ValueIdx.ix3 i n j) (fun a => by match a with | ⟨0, _⟩ => rfl | ⟨1, _⟩ => rfl | ⟨2, _⟩ => rfl)).trans ?_
  refine (split _ _ i n j).trans ?_
  simp only [pointwise]
  exact (zero_add _).trans (Finset.sum_congr rfl fun k _ => congrArg₂ (fun a b : EReal => a * b) rfl
    (congrArg (a1 : S1x4x1024x1024.Idx → EReal) (idx4 _ _ _ _ _ rfl (tile_div n.val j.isLt) rfl (tile_mod n.val j.isLt))))

end Cert.InRef

end
-- ==== Proof.ConvInKernel.lean ====
/-
  THE KERNEL OF THE CONVOLUTION LAYER'S INPUT PRODUCT leaves `Products.up`: grid point `t` multiplies row tile `t % 5` with column tile `t / 5`.
-/
module

public import proofs.«01_k».proof.Proof.Products
public import proofs.«01_k».proof.Proof.Gen.Kernel11Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.ConvInKernel

open Idealize.ShloMosaic Idealize.ShloMosaic.ValueIdx Idealize.SL Idealize.SL.Sem
open Cert.Products Cert.Kernel11Ideal Cert.Kernel11Ideal.Gen

/-! ## The block a point leaves -/

theorem out {F : FTy → Type} [FloatOps F] (c : Dev nD) (i : grid0.Coords)
    (arg3 : Memref sig .tc .vmem S1x1664x1024 .bf16) (harg3 : arg3.IsWhole) (arg4 : Memref sig .tc .vmem S1x1x1024x1024 .bf16) (harg4 : arg4.IsWhole)
    (arg5 : Memref sig .tc .vmem S1x1664x1024 .f32) (harg5 : arg5.IsWhole) (hc0 : cond0_0 i) (hc1 : ¬cond0_1 i)
    (x0 : Vec F S1x1664x1024 .bf16) (x1 : Vec F S1x1x1024x1024 .bf16) :
    out0_A_2 c i arg3 harg3 arg4 harg4 arg5 harg5 hc0 hc1 x0 x1 = k0_pay2 x0 x1 := by
  unfold out0_A_2
  rw [View.read_writes_junk_eq_canon]
  unfold kernelRun0_A
  dsimp only
  rw [View.canon_cons_unit_zero hz3]
  simp only [View.readAt_eq_ld, harg3.read_unread, harg4.read_unread, View.ld_unit_zero (S := S1x1664x1024) hz3, View.ld_unit_zero (S := S1x1x1024x1024) hz4]

theorem pay (x0 : FVec Ideal S1x1664x1024 .bf16) (x1 : FVec Ideal S1x1x1024x1024 .bf16) (i : Fin 1664) (j : Fin 1024) :
    k0_pay2 (F := Ideal) x0 x1 (ValueIdx.ix3 0 i j) = ∑ k : Fin 1024, ((x0 (ValueIdx.ix3 0 i k) : EReal) * (x1 (ValueIdx.ix4 0 0 k j) : EReal)) := by
  have hz : (constant (F := Ideal) S1664x1024 .f32 0x00000000#32) (ValueIdx.ix2 i j) = (0 : EReal) := Ideal.ofBits_zero_f32
  unfold k0_pay2
  refine (shapeCast_ab_1ab_apply _ _ 0 i j).trans ?_
  unfold k0_pay1
  simp only [pointwise, hz]
  exact zero_add _

/-! ## The blocks read at a point -/

theorem i0 : ∀ t : Fin cfg0.N, win0_0.index t = ![0, t.val % 5, 0] := (by decide +kernel : ∀ t : Fin grid0.N, _)
theorem i1 : ∀ t : Fin cfg0.N, win0_1.index t = ![0, t.val / 5, 0, 0] := (by decide +kernel : ∀ t : Fin grid0.N, _)
theorem i2 : ∀ t : Fin cfg0.N, win0_2.index t = ![t.val / 5, t.val % 5, 0] := (by decide +kernel : ∀ t : Fin grid0.N, _)

variable (m : (ℓ : Loc nD τ sig) → Buf (Elt Ideal) ℓ) (c : Dev nD)

/-- The operands. -/
abbrev X0 : FVec Ideal Rows .bf16 := m ((c.tc : Thread nD τ).loc main_arg0)
abbrev X1 : FVec Ideal (Weight 1 3 1024 1024) .bf16 := m ((c.tc : Thread nD τ).loc main_arg1)

theorem lt_N (t : Fin cfg0.N) : t.val < 15 := lt_of_lt_of_eq t.isLt (show cfg0.N = 15 from N_0)

/-- The row and the column tile of a point. -/
def row (t : Fin cfg0.N) (i : Fin 1664) : Fin 8320 := ⟨t.val % 5 * 1664 + i.val, by omega⟩
def tile (t : Fin cfg0.N) : Fin 3 := ⟨t.val / 5, by have := lt_N t; omega⟩

theorem blk0 (t : Fin cfg0.N) (i : Fin 1664) (k : Fin 1024) :
    (iblk m c 0 t : FVec Ideal S1x1664x1024 .bf16) (ValueIdx.ix3 0 i k) = (X0 m c) (ValueIdx.ix3 0 (row t i) k) := by
  unfold iblk
  rw [View.read_apply]
  refine congrArg (X0 m c) (idx3 _ _ _ _ ?_ ?_ ?_)
  · show win0_0.index t 0 * 1 + 1 * 0 = 0; rw [i0]; rfl
  · show win0_0.index t 1 * 1664 + 1 * i.val = t.val % 5 * 1664 + i.val; rw [i0]; show t.val % 5 * 1664 + _ = _; omega
  · show win0_0.index t 2 * 1024 + 1 * k.val = k.val; rw [i0]; show 0 * 1024 + _ = _; omega
theorem blk1 (t : Fin cfg0.N) (k : Fin 1024) (j : Fin 1024) :
    (iblk m c 1 t : FVec Ideal S1x1x1024x1024 .bf16) (ValueIdx.ix4 0 0 k j) = (X1 m c) (ValueIdx.ix4 0 (tile t) k j) := by
  unfold iblk
  rw [View.read_apply]
  refine congrArg (X1 m c) (idx4 _ _ _ _ _ ?_ ?_ ?_ ?_)
  · show win0_1.index t 0 * 1 + 1 * 0 = 0; rw [i1]; rfl
  · show win0_1.index t 1 * 1 + 1 * 0 = t.val / 5; rw [i1]; show t.val / 5 * 1 + _ = _; omega
  · show win0_1.index t 2 * 1024 + 1 * k.val = k.val; rw [i1]; show 0 * 1024 + _ = _; omega
  · show win0_1.index t 3 * 1024 + 1 * j.val = j.val; rw [i1]; show 0 * 1024 + _ = _; omega

/-! ## The result -/

theorem up_at (h : FVec Ideal Rows .bf16) (W : FVec Ideal (Weight 1 3 1024 1024) .bf16) (z : (Cols 3 1024).Idx) (t : Fin 3) (i : Fin 8320) (j : Fin 1024)
    (e0 : (z 0).val = t.val) (e1 : (z 1).val = i.val) (e2 : (z 2).val = j.val) :
    up h W z = ∑ k : Fin 1024, ((h (ValueIdx.ix3 0 i k) : EReal) * (W (ValueIdx.ix4 0 t k j) : EReal)) := by
  rw [idx3 z t i j e0 e1 e2]
  rfl

theorem final : (dats m 0 c).arrAt 2 cfg0.N = up (X0 m c) (X1 m c) := by
  refine (dats m 0 c).arrAt_eq_of_covers 2 _ (by decide +kernel) fun t hf y => ?_
  blk_simp
  rw [after0_2]
  have hy0 : (y 0).val < 1 := (y 0).isLt
  have hy : y = ValueIdx.ix3 (n0 := 1) (n1 := 1664) (n2 := 1024) 0 (y 1) (y 2) := idx3 y _ _ _ (by show (y 0).val = 0; omega) rfl rfl
  unfold outsAt0
  rw [out]
  refine ((congrArg (k0_pay2 (F := Ideal) (iblk m c 0 t) (iblk m c 1 t)) hy).trans (pay _ _ (y 1) (y 2))).trans (Eq.trans ?_ (up_at _ _ _ (tile t) (row t (y 1)) (y 2) ?_ ?_ ?_).symm)
  · exact Finset.sum_congr rfl fun k _ => congrArg₂ (fun a b : EReal => a * b) (blk0 m c t (y 1) k) (blk1 m c t k (y 2))
  · show win0_2.index t 0 * 1 + 1 * (y 0).val = t.val / 5; rw [i2]; show t.val / 5 * 1 + _ = _; omega
  · show win0_2.index t 1 * 1664 + 1 * (y 1).val = t.val % 5 * 1664 + (y 1).val; rw [i2]; show t.val % 5 * 1664 + _ = _; omega
  · show win0_2.index t 2 * 1024 + 1 * (y 2).val = (y 2).val; rw [i2]; show 0 * 1024 + _ = _; omega

end Cert.ConvInKernel

end
-- ==== Proof.ConvInRef.lean ====
/-
  THE REFERENCE OF THE CONVOLUTION LAYER'S INPUT PRODUCT is `Products.up`.
-/
module

public import proofs.«01_k».proof.Proof.Products
public import proofs.«01_k».proof.Proof.Gen.Reference11Ideal
public import proofs.«01_k».proof.Proof.Gen.Reference11Ideal.Run
public import Idealize.ShloMosaic.Lib.Pipeline.Value

@[expose] public section

noncomputable section

namespace Cert.ConvInRef

open Idealize.ShloMosaic Idealize.ShloMosaic.ValueIdx
open Cert.Products Cert.Reference11Ideal Cert.Reference11Ideal.Gen

theorem split {α : Type} (x : S8320x3072.Idx → α) (h : S8320x3072.ShapeCasts S8320x3x1024) (i : Fin 8320) (n : Fin 3) (j : Fin 1024) :
    shapeCast S8320x3x1024 x h (ValueIdx.ix3 i n j) = x (ValueIdx.ix2 i (in3 n j)) :=
  shapeCast_apply x h _ _ (by
    rw [Shape.rowMajor_val_three, Shape.rowMajor_val_two]
    show i.val * 3072 + (n.val * 1024 + j.val) = (i.val * 3 + n.val) * 1024 + j.val
    omega)
theorem value (a0 : FVec Ideal S1x8320x1024 .bf16) (a1 : FVec Ideal S1x3x1024x1024 .bf16) :
    transpose S3x8320x1024 [1, 0, 2] (shapeCast _ (Host.dotGeneral (F := Ideal) dot_S8320x1024_S1024x3072_S8320x3072_1_0_0_1_n_n none (extf .f32 (shapeCast _ a0 shapeCasts_S1x8320x1024_S8320x1024) bitsLt_bf16_f32) (shapeCast _ (transpose S1024x3x1024 [1, 0, 2] (extf .f32 (shapeCast _ a1 shapeCasts_S1x3x1024x1024_S3x1024x1024) bitsLt_bf16_f32) transposes_S3x1024x1024_S1024x3x1024_1_0_2) shapeCasts_S1024x3x1024_S1024x3072)) shapeCasts_S8320x3072_S8320x3x1024) transposes_S8320x3x1024_S3x8320x1024_1_0_2
    = up (n := 3) (w := 1024) a0 a1 := funext fun y => by
  obtain ⟨n, i, j, rfl⟩ : ∃ (n : Fin 3) (i : Fin 8320) (j : Fin 1024), y = ValueIdx.ix3 n i j := ⟨y 0, y 1, y 2, idx3 y _ _ _ rfl rfl rfl⟩
  refine (transpose_apply [1, 0, 2] _ _ _ (ValueIdx.ix3 i n j) (fun a => by match a with | ⟨0, _⟩ => rfl | ⟨1, _⟩ => rfl | ⟨2, _⟩ => rfl)).trans ?_
  refine (split _ _ i n j).trans ?_
  simp only [pointwise]
  exact (zero_add _).trans (Finset.sum_congr rfl fun k _ => congrArg₂ (fun a b : EReal => a * b) rfl
    (congrArg (a1 : S1x3x1024x1024.Idx → EReal) (idx4 _ _ _ _ _ rfl (tile_div n.val j.isLt) rfl (tile_mod n.val j.isLt))))

end Cert.ConvInRef

end
-- ==== Proof.OutBackKernel.lean ====
/-
  THE KERNEL OF THE PRODUCT WITH AN OUTPUT WEIGHT TRANSPOSED leaves `Products.toAct`: grid point `t` multiplies row tile `t`.
-/
module

public import proofs.«01_k».proof.Proof.Products
public import proofs.«01_k».proof.Proof.Gen.Kernel12Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.OutBackKernel

open Idealize.ShloMosaic Idealize.ShloMosaic.ValueIdx Idealize.SL Idealize.SL.Sem
open Cert.Products Cert.Kernel12Ideal Cert.Kernel12Ideal.Gen

/-! ## The block a point leaves -/

theorem out {F : FTy → Type} [FloatOps F] (c : Dev nD) (i : grid0.Coords)
    (arg3 : Memref sig .tc .vmem S1x1664x1024 .f32) (harg3 : arg3.IsWhole) (arg4 : Memref sig .tc .vmem S1x1x1024x1024 .bf16) (harg4 : arg4.IsWhole)
    (arg5 : Memref sig .tc .vmem S1x1664x1024 .f32) (harg5 : arg5.IsWhole) (hc0 : cond0_0 i) (hc1 : ¬cond0_1 i)
    (x0 : Vec F S1x1664x1024 .f32) (x1 : Vec F S1x1x1024x1024 .bf16) :
    out0_A_2 c i arg3 harg3 arg4 harg4 arg5 harg5 hc0 hc1 x0 x1 = k0_pay2 x0 x1 := by
  unfold out0_A_2
  rw [View.read_writes_junk_eq_canon]
  unfold kernelRun0_A
  dsimp only
  rw [View.canon_cons_unit_zero hz3]
  simp only [View.readAt_eq_ld, harg3.read_unread, harg4.read_unread, View.ld_unit_zero (S := S1x1664x1024) hz3, View.ld_unit_zero (S := S1x1x1024x1024) hz4]

theorem pay (x0 : FVec Ideal S1x1664x1024 .f32) (x1 : FVec Ideal S1x1x1024x1024 .bf16) (i : Fin 1664) (j : Fin 1024) :
    k0_pay2 (F := Ideal) x0 x1 (ValueIdx.ix3 0 i j) = ∑ k : Fin 1024, ((x0 (ValueIdx.ix3 0 i k) : EReal) * (x1 (ValueIdx.ix4 0 0 j k) : EReal)) := by
  have hz : (constant (F := Ideal) S1664x1024 .f32 0x00000000#32) (ValueIdx.ix2 i j) = (0 : EReal) := Ideal.ofBits_zero_f32
  unfold k0_pay2
  refine (shapeCast_ab_1ab_apply _ _ 0 i j).trans ?_
  unfold k0_pay1
  simp only [pointwise, hz]
  exact zero_add _

/-! ## The blocks read at a point -/

theorem i0 : ∀ t : Fin cfg0.N, win0_0.index t = ![0, t.val % 5, 0] := (by decide +kernel : ∀ t : Fin grid0.N, _)
theorem i1 : ∀ t : Fin cfg0.N, win0_1.index t = ![t.val / 5, 0, 0, 0] := (by decide +kernel : ∀ t : Fin grid0.N, _)
theorem i2 : ∀ t : Fin cfg0.N, win0_2.index t = ![t.val / 5, t.val % 5, 0] := (by decide +kernel : ∀ t : Fin grid0.N, _)

variable (m : (ℓ : Loc nD τ sig) → Buf (Elt Ideal) ℓ) (c : Dev nD)

/-- The operands. -/
abbrev X0 : FVec Ideal Rows .f32 := m ((c.tc : Thread nD τ).loc main_arg0)
abbrev X1 : FVec Ideal (Weight 1 1 1024 1024) .bf16 := m ((c.tc : Thread nD τ).loc main_arg1)

theorem lt_N (t : Fin cfg0.N) : t.val < 5 := lt_of_lt_of_eq t.isLt (show cfg0.N = 5 from N_0)

/-- The row and the column tile of a point. -/
def row (t : Fin cfg0.N) (i : Fin 1664) : Fin 8320 := ⟨t.val % 5 * 1664 + i.val, by omega⟩
def tile (t : Fin cfg0.N) : Fin 1 := ⟨t.val / 5, by have := lt_N t; omega⟩

theorem blk0 (t : Fin cfg0.N) (i : Fin 1664) (k : Fin 1024) :
    (iblk m c 0 t : FVec Ideal S1x1664x1024 .f32) (ValueIdx.ix3 0 i k) = (X0 m c) (ValueIdx.ix3 0 (row t i) k) := by
  unfold iblk
  rw [View.read_apply]
  refine congrArg (X0 m c) (idx3 _ _ _ _ ?_ ?_ ?_)
  · show win0_0.index t 0 * 1 + 1 * 0 = 0; rw [i0]; rfl
  · show win0_0.index t 1 * 1664 + 1 * i.val = t.val % 5 * 1664 + i.val; rw [i0]; show t.val % 5 * 1664 + _ = _; omega
  · show win0_0.index t 2 * 1024 + 1 * k.val = k.val; rw [i0]; show 0 * 1024 + _ = _; omega
theorem blk1 (t : Fin cfg0.N) (k : Fin 1024) (j : Fin 1024) :
    (iblk m c 1 t : FVec Ideal S1x1x1024x1024 .bf16) (ValueIdx.ix4 0 0 j k) = (X1 m c) (ValueIdx.ix4 (tile t) 0 j k) := by
  unfold iblk
  rw [View.read_apply]
  refine congrArg (X1 m c) (idx4 _ _ _ _ _ ?_ ?_ ?_ ?_)
  · show win0_1.index t 0 * 1 + 1 * 0 = t.val / 5; rw [i1]; show t.val / 5 * 1 + _ = _; omega
  · show win0_1.index t 1 * 1 + 1 * 0 = 0; rw [i1]; rfl
  · show win0_1.index t 2 * 1024 + 1 * j.val = j.val; rw [i1]; show 0 * 1024 + _ = _; omega
  · show win0_1.index t 3 * 1024 + 1 * k.val = k.val; rw [i1]; show 0 * 1024 + _ = _; omega

/-! ## The result -/

theorem toAct_at (h : FVec Ideal Rows .f32) (W : FVec Ideal (Weight 1 1 1024 1024) .bf16) (z : (Cols 1 1024).Idx) (t : Fin 1) (i : Fin 8320) (j : Fin 1024)
    (e0 : (z 0).val = t.val) (e1 : (z 1).val = i.val) (e2 : (z 2).val = j.val) :
    toAct h W z = ∑ k : Fin 1024, ((h (ValueIdx.ix3 0 i k) : EReal) * (W (ValueIdx.ix4 t 0 j k) : EReal)) := by
  rw [idx3 z t i j e0 e1 e2]
  rfl

theorem final : (dats m 0 c).arrAt 2 cfg0.N = toAct (X0 m c) (X1 m c) := by
  refine (dats m 0 c).arrAt_eq_of_covers 2 _ (by decide +kernel) fun t hf y => ?_
  blk_simp
  rw [after0_2]
  have hy0 : (y 0).val < 1 := (y 0).isLt
  have hy : y = ValueIdx.ix3 (n0 := 1) (n1 := 1664) (n2 := 1024) 0 (y 1) (y 2) := idx3 y _ _ _ (by show (y 0).val = 0; omega) rfl rfl
  unfold outsAt0
  rw [out]
  refine ((congrArg (k0_pay2 (F := Ideal) (iblk m c 0 t) (iblk m c 1 t)) hy).trans (pay _ _ (y 1) (y 2))).trans (Eq.trans ?_ (toAct_at _ _ _ (tile t) (row t (y 1)) (y 2) ?_ ?_ ?_).symm)
  · exact Finset.sum_congr rfl fun k _ => congrArg₂ (fun a b : EReal => a * b) (blk0 m c t (y 1) k) (blk1 m c t k (y 2))
  · show win0_2.index t 0 * 1 + 1 * (y 0).val = t.val / 5; rw [i2]; show t.val / 5 * 1 + _ = _; omega
  · show win0_2.index t 1 * 1664 + 1 * (y 1).val = t.val % 5 * 1664 + (y 1).val; rw [i2]; show t.val % 5 * 1664 + _ = _; omega
  · show win0_2.index t 2 * 1024 + 1 * (y 2).val = (y 2).val; rw [i2]; show 0 * 1024 + _ = _; omega

end Cert.OutBackKernel

end
-- ==== Proof.OutBackRef.lean ====
/-
  THE REFERENCE OF THE PRODUCT WITH AN OUTPUT WEIGHT TRANSPOSED is `Products.toAct`.
-/
module

public import proofs.«01_k».proof.Proof.Products
public import proofs.«01_k».proof.Proof.Gen.Reference12Ideal
public import proofs.«01_k».proof.Proof.Gen.Reference12Ideal.Run
public import Idealize.ShloMosaic.Lib.Pipeline.Value

@[expose] public section

noncomputable section

namespace Cert.OutBackRef

open Idealize.ShloMosaic Idealize.ShloMosaic.ValueIdx
open Cert.Products Cert.Reference12Ideal Cert.Reference12Ideal.Gen

theorem value (a0 : FVec Ideal S1x8320x1024 .f32) (a1 : FVec Ideal S1x1x1024x1024 .bf16) :
    broadcastInDim S1x8320x1024 ![1, 2] bcast_S8320x1024_S1x8320x1024_1_2 (Host.dotGeneral (F := Ideal) dot_S8320x1024_S1024x1024_S8320x1024_1_1_0_0_n_n none (shapeCast _ a0 shapeCasts_S1x8320x1024_S8320x1024) (extf .f32 (shapeCast _ a1 shapeCasts_S1x1x1024x1024_S1024x1024) bitsLt_bf16_f32))
    = toAct (n := 1) (w := 1024) a0 a1 := funext fun y => by
  obtain ⟨u, i, j, rfl⟩ : ∃ (u : Fin 1) (i : Fin 8320) (j : Fin 1024), y = ValueIdx.ix3 u i j := ⟨y 0, y 1, y 2, idx3 y _ _ _ rfl rfl rfl⟩
  obtain rfl : u = 0 := Subsingleton.elim _ _
  simp only [pointwise]
  exact zero_add _

end Cert.OutBackRef

end
-- ==== Proof.InBackKernel.lean ====
/-
  THE KERNEL OF THE GRADIENT OF THE DELTA-RULE LAYER'S INPUT leaves `Products.toIn`: grid point `t` adds column tile `t % 4`'s product to row tile
  `t / 4`, and the first of the four adds `ALPHA` times the residual's gradient.
-/
module

public import proofs.«01_k».proof.Proof.Products
public import proofs.«01_k».proof.Proof.Gen.Kernel13Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.InBackKernel

open Idealize.ShloMosaic Idealize.ShloMosaic.ValueIdx Idealize.SL Idealize.SL.Sem
open Cert.Products Cert.Kernel13Ideal Cert.Kernel13Ideal.Gen

/-! ## The block a point leaves -/

theorem outA {F : FTy → Type} [FloatOps F] (c : Dev nD) (i : grid0.Coords)
    (arg3 : Memref sig .tc .vmem S1x1664x1024 .bf16) (harg3 : arg3.IsWhole) (arg4 : Memref sig .tc .vmem S1x1x1024x1024 .bf16) (harg4 : arg4.IsWhole)
    (arg5 : Memref sig .tc .vmem S1x1664x1024 .f32) (harg5 : arg5.IsWhole) (arg6 : Memref sig .tc .vmem S1x1664x1024 .f32) (harg6 : arg6.IsWhole) (hc0 : cond0_0 i) (hc1 : ¬cond0_1 i)
    (x0 : Vec F S1x1664x1024 .bf16) (x1 : Vec F S1x1x1024x1024 .bf16) (x2 : Vec F S1x1664x1024 .f32) :
    out0_A_3 c i arg3 harg3 arg4 harg4 arg5 harg5 arg6 harg6 hc0 hc1 x0 x1 x2 = k0_pay2 x0 x1 x2 := by
  unfold out0_A_3
  rw [View.read_writes_junk_eq_canon]
  unfold kernelRun0_A
  dsimp only
  rw [View.canon_cons_unit_zero hz3]
  simp only [View.readAt_eq_ld, harg3.read_unread, harg4.read_unread, harg5.read_unread, View.ld_unit_zero (S := S1x1664x1024) hz3, View.ld_unit_zero (S := S1x1x1024x1024) hz4]
theorem outB {F : FTy → Type} [FloatOps F] (c : Dev nD) (i : grid0.Coords)
    (arg3 : Memref sig .tc .vmem S1x1664x1024 .bf16) (harg3 : arg3.IsWhole) (arg4 : Memref sig .tc .vmem S1x1x1024x1024 .bf16) (harg4 : arg4.IsWhole)
    (arg5 : Memref sig .tc .vmem S1x1664x1024 .f32) (harg5 : arg5.IsWhole) (arg6 : Memref sig .tc .vmem S1x1664x1024 .f32) (harg6 : arg6.IsWhole) (hc0 : ¬cond0_0 i) (hc1 : cond0_1 i)
    (x0 : Vec F S1x1664x1024 .bf16) (x1 : Vec F S1x1x1024x1024 .bf16) (x2 : Vec F S1x1664x1024 .f32) (xo3 : Vec F S1x1664x1024 .f32) :
    out0_B_3 c i arg3 harg3 arg4 harg4 arg5 harg5 arg6 harg6 hc0 hc1 x0 x1 x2 xo3 = k0_pay3 x0 x1 xo3 := by
  unfold out0_B_3
  rw [View.read_writes_junk_eq_canon]
  unfold kernelRun0_B
  dsimp only
  rw [View.canon_cons_unit_zero hz3]
  simp only [View.readAt_eq_ld, harg3.read_unread, harg4.read_unread, harg6.read_unread, View.ld_unit_zero (S := S1x1664x1024) hz3, View.ld_unit_zero (S := S1x1x1024x1024) hz4]

section
variable (x0 : FVec Ideal S1x1664x1024 .bf16) (x1 : FVec Ideal S1x1x1024x1024 .bf16) (X : FVec Ideal S1x1664x1024 .f32) (i : Fin 1664) (j : Fin 1024)

theorem pay1 : k0_pay1 (F := Ideal) x0 x1 (ValueIdx.ix2 i j) = ∑ k : Fin 1024, ((x0 (ValueIdx.ix3 0 i k) : EReal) * (x1 (ValueIdx.ix4 0 0 j k) : EReal)) := by
  have hz : (constant (F := Ideal) S1664x1024 .f32 0x00000000#32) (ValueIdx.ix2 i j) = (0 : EReal) := Ideal.ofBits_zero_f32
  unfold k0_pay1
  simp only [pointwise, hz]
  exact zero_add _
theorem pay2 : k0_pay2 (F := Ideal) x0 x1 X (ValueIdx.ix3 0 i j)
    = Ideal.ofBits .f32 0x3FB504F3#32 * (X (ValueIdx.ix3 0 i j) : EReal) + ∑ k : Fin 1024, ((x0 (ValueIdx.ix3 0 i k) : EReal) * (x1 (ValueIdx.ix4 0 0 j k) : EReal)) := by
  unfold k0_pay2
  refine (shapeCast_ab_1ab_apply _ _ 0 i j).trans ?_
  show k0_pay1 (F := Ideal) x0 x1 (ValueIdx.ix2 i j) + Ideal.ofBits .f32 0x3FB504F3#32 * (shapeCast S1664x1024 X shapeCasts_S1x1664x1024_S1664x1024 (ValueIdx.ix2 i j) : EReal) = _
  rw [pay1, shapeCast_1ab_ab_apply]
  exact add_comm (_ : EReal) _
theorem pay3 : k0_pay3 (F := Ideal) x0 x1 X (ValueIdx.ix3 0 i j)
    = (X (ValueIdx.ix3 0 i j) : EReal) + ∑ k : Fin 1024, ((x0 (ValueIdx.ix3 0 i k) : EReal) * (x1 (ValueIdx.ix4 0 0 j k) : EReal)) := by
  unfold k0_pay3
  refine (shapeCast_ab_1ab_apply _ _ 0 i j).trans ?_
  show (shapeCast S1664x1024 X shapeCasts_S1x1664x1024_S1664x1024 (ValueIdx.ix2 i j) : EReal) + k0_pay1 (F := Ideal) x0 x1 (ValueIdx.ix2 i j) = _
  rw [pay1, shapeCast_1ab_ab_apply]
end

/-! ## The blocks read at a point -/

theorem i0 : ∀ t : Fin cfg0.N, win0_0.index t = ![t.val % 4, t.val / 4, 0] := (by decide +kernel : ∀ t : Fin grid0.N, _)
theorem i1 : ∀ t : Fin cfg0.N, win0_1.index t = ![0, t.val % 4, 0, 0] := (by decide +kernel : ∀ t : Fin grid0.N, _)
theorem i2 : ∀ t : Fin cfg0.N, win0_2.index t = ![0, t.val / 4, 0] := (by decide +kernel : ∀ t : Fin grid0.N, _)
theorem i3 : ∀ t : Fin cfg0.N, win0_3.index t = ![0, t.val / 4, 0] := (by decide +kernel : ∀ t : Fin grid0.N, _)
theorem last : ∀ t : Fin cfg0.N, win0_3.flush t = true → t.val % 4 = 3 := (by decide +kernel : ∀ t : Fin grid0.N, _)

theorem lt_N (t : Fin cfg0.N) : t.val < 20 := lt_of_lt_of_eq t.isLt (show cfg0.N = 20 from N_0)

/-- The row and the column tile of a point. -/
def row (t : ℕ) (i : Fin 1664) : Fin 8320 := ⟨t / 4 % 5 * 1664 + i.val, by omega⟩
def tile (t : ℕ) : Fin 4 := ⟨t % 4, by omega⟩

variable (m : (ℓ : Loc nD τ sig) → Buf (Elt Ideal) ℓ) (c : Dev nD)

/-- The arguments, and the blocks read, with their types. -/
abbrev dy : FVec Ideal (Cols 4 1024) .bf16 := m ((c.tc : Thread nD τ).loc main_arg0)
abbrev wt : FVec Ideal (Weight 1 4 1024 1024) .bf16 := m ((c.tc : Thread nD τ).loc main_arg1)
abbrev res : FVec Ideal Rows .f32 := m ((c.tc : Thread nD τ).loc main_arg2)
abbrev b0 (t : Fin cfg0.N) : FVec Ideal S1x1664x1024 .bf16 := iblk m c 0 t
abbrev b1 (t : Fin cfg0.N) : FVec Ideal S1x1x1024x1024 .bf16 := iblk m c 1 t
abbrev b2 (t : Fin cfg0.N) : FVec Ideal S1x1664x1024 .f32 := iblk m c 2 t
abbrev b3 (t : ℕ) (h : t < cfg0.N) : FVec Ideal S1x1664x1024 .f32 := outsAt0 m c t h

theorem blk0 (t : Fin cfg0.N) (i : Fin 1664) (k : Fin 1024) : b0 m c t (ValueIdx.ix3 0 i k) = dy m c (ValueIdx.ix3 (tile t.val) (row t.val i) k) := by
  have ht := lt_N t
  unfold b0 iblk
  rw [View.read_apply]
  refine congrArg (dy m c) (idx3 _ _ _ _ ?_ ?_ ?_)
  · show win0_0.index t 0 * 1 + 1 * 0 = t.val % 4; rw [i0]; show t.val % 4 * 1 + _ = _; omega
  · show win0_0.index t 1 * 1664 + 1 * i.val = t.val / 4 % 5 * 1664 + i.val; rw [i0]; show t.val / 4 * 1664 + _ = _; omega
  · show win0_0.index t 2 * 1024 + 1 * k.val = k.val; rw [i0]; show 0 * 1024 + _ = _; omega
theorem blk1 (t : Fin cfg0.N) (j k : Fin 1024) : b1 m c t (ValueIdx.ix4 0 0 j k) = wt m c (ValueIdx.ix4 0 (tile t.val) j k) := by
  unfold b1 iblk
  rw [View.read_apply]
  refine congrArg (wt m c) (idx4 _ _ _ _ _ ?_ ?_ ?_ ?_)
  · show win0_1.index t 0 * 1 + 1 * 0 = 0; rw [i1]; rfl
  · show win0_1.index t 1 * 1 + 1 * 0 = t.val % 4; rw [i1]; show t.val % 4 * 1 + _ = _; omega
  · show win0_1.index t 2 * 1024 + 1 * j.val = j.val; rw [i1]; show 0 * 1024 + _ = _; omega
  · show win0_1.index t 3 * 1024 + 1 * k.val = k.val; rw [i1]; show 0 * 1024 + _ = _; omega
theorem blk2 (t : Fin cfg0.N) (i : Fin 1664) (j : Fin 1024) : b2 m c t (ValueIdx.ix3 0 i j) = res m c (ValueIdx.ix3 0 (row t.val i) j) := by
  have ht := lt_N t
  unfold b2 iblk
  rw [View.read_apply]
  refine congrArg (res m c) (idx3 _ _ _ _ ?_ ?_ ?_)
  · show win0_2.index t 0 * 1 + 1 * 0 = 0; rw [i2]; rfl
  · show win0_2.index t 1 * 1664 + 1 * i.val = t.val / 4 % 5 * 1664 + i.val; rw [i2]; show t.val / 4 * 1664 + _ = _; omega
  · show win0_2.index t 2 * 1024 + 1 * j.val = j.val; rw [i2]; show 0 * 1024 + _ = _; omega

/-! ## The points -/

/-- Column tile `q`'s part of an entry. -/
def part (q : ℕ) (i : Fin 8320) (j : Fin 1024) : EReal :=
  ∑ k : Fin 1024, ((dy m c (ValueIdx.ix3 (tile q) i k) : EReal) * (wt m c (ValueIdx.ix4 0 (tile q) j k) : EReal))
/-- What an entry starts from. -/
def start (i : Fin 8320) (j : Fin 1024) : EReal := Ideal.ofBits .f32 0x3FB504F3#32 * (res m c (ValueIdx.ix3 0 i j) : EReal)

theorem part_mod (q : ℕ) : part m c (q % 4) = part m c q := by
  unfold part
  rw [show tile (q % 4) = tile q from Fin.ext (by show q % 4 % 4 = q % 4; omega)]
theorem part_at (t : Fin cfg0.N) (i : Fin 1664) (j : Fin 1024) :
    ∑ k : Fin 1024, ((b0 m c t (ValueIdx.ix3 0 i k) : EReal) * (b1 m c t (ValueIdx.ix4 0 0 j k) : EReal)) = part m c (t.val % 4) (row t.val i) j := by
  rw [part_mod]
  exact Finset.sum_congr rfl fun k _ => congrArg₂ (fun a b : EReal => a * b) (blk0 m c t i k) (blk1 m c t j k)

theorem after (t : ℕ) : ∀ (h : t < cfg0.N) (i : Fin 1664) (j : Fin 1024),
    b3 m c t h (ValueIdx.ix3 0 i j) = start m c (row t i) j + ∑ q ∈ Finset.range (t % 4 + 1), part m c q (row t i) j := by
  have first : ∀ (t : Fin cfg0.N) (e : t.val % 4 = 0) (i : Fin 1664) (j : Fin 1024),
      b3 m c t.val t.isLt (ValueIdx.ix3 0 i j) = start m c (row t.val i) j + ∑ q ∈ Finset.range (t.val % 4 + 1), part m c q (row t.val i) j := fun t e i j => by
    have o := outsAt0_A m c t e (by omega)
    refine (congrFun (o.trans (outA ..)) _).trans ((pay2 (b0 m c t) (b1 m c t) (b2 m c t) i j).trans ?_)
    rw [part_at, e, Finset.sum_range_one, blk2]
    rfl
  induction t with
  | zero => exact fun h i j => first ⟨0, h⟩ rfl i j
  | succ t ih =>
    intro h i j
    by_cases e : (t + 1) % 4 = 0
    · exact first ⟨t + 1, h⟩ e i j
    · have o := outsAt0_B m c ⟨t + 1, h⟩ e (by show 1 ≤ (t + 1) % 4; omega)
      refine (congrFun (o.trans (outB ..)) _).trans ((pay3 (b0 m c ⟨t + 1, h⟩) (b1 m c ⟨t + 1, h⟩) (b3 m c t (Nat.lt_of_succ_lt h)) i j).trans ?_)
      rw [part_at, ih, add_assoc]
      have er : row t i = row (t + 1) i := Fin.ext (by show t / 4 % 5 * 1664 + i.val = (t + 1) / 4 % 5 * 1664 + i.val; omega)
      rw [er]
      refine congrArg (fun s : EReal => start m c (row (t + 1) i) j + s) ?_
      show _ + part m c ((t + 1) % 4) (row (t + 1) i) j = _
      rw [show (t + 1) % 4 = t % 4 + 1 by omega, Finset.sum_range_succ _ (t % 4 + 1)]

/-! ## The result -/

theorem toIn_at (z : Rows.Idx) (i : Fin 8320) (j : Fin 1024) (e1 : (z 1).val = i.val) (e2 : (z 2).val = j.val) :
    toIn (Ideal.ofBits .f32 0x3FB504F3#32) (dy m c) (wt m c) (res m c) z = start m c i j + ∑ q ∈ Finset.range (3 + 1), part m c q i j := by
  have h0 : (z 0).val < 1 := (z 0).isLt
  rw [idx3 z 0 i j (by show (z 0).val = 0; omega) e1 e2, Finset.sum_range]
  refine congrArg (fun s : EReal => start m c i j + s) (Finset.sum_congr rfl fun q _ => ?_)
  unfold part
  rw [show tile q.val = q from Fin.ext (Nat.mod_eq_of_lt q.isLt)]

theorem final : (dats m 0 c).arrAt 3 cfg0.N = toIn (Ideal.ofBits .f32 0x3FB504F3#32) (dy m c) (wt m c) (res m c) := by
  refine (dats m 0 c).arrAt_eq_of_covers 3 _ (by decide +kernel) fun t hf y => ?_
  blk_simp
  rw [after0_3]
  have ht := lt_N t
  have hy0 : (y 0).val < 1 := (y 0).isLt
  have hy : y = ValueIdx.ix3 (n0 := 1) (n1 := 1664) (n2 := 1024) 0 (y 1) (y 2) := idx3 y _ _ _ (by show (y 0).val = 0; omega) rfl rfl
  refine ((congrArg (b3 m c t.val t.isLt) hy).trans (after m c t.val t.isLt (y 1) (y 2))).trans ?_
  rw [last t hf]
  refine (toIn_at m c _ (row t.val (y 1)) (y 2) ?_ ?_).symm
  · show win0_3.index t 1 * 1664 + 1 * (y 1).val = t.val / 4 % 5 * 1664 + (y 1).val; rw [i3]; show t.val / 4 * 1664 + _ = _; omega
  · show win0_3.index t 2 * 1024 + 1 * (y 2).val = (y 2).val; rw [i3]; show 0 * 1024 + _ = _; omega

end Cert.InBackKernel

end
-- ==== Proof.InBackRef.lean ====
/-
  THE REFERENCE OF THE GRADIENT OF THE DELTA-RULE LAYER'S INPUT is `Products.toIn`.
-/
module

public import proofs.«01_k».proof.Proof.Products
public import proofs.«01_k».proof.Proof.Gen.Reference13Ideal
public import proofs.«01_k».proof.Proof.Gen.Reference13Ideal.Run
public import Idealize.ShloMosaic.Lib.Pipeline.Value

@[expose] public section

noncomputable section

namespace Cert.InBackRef

open Idealize.ShloMosaic Idealize.ShloMosaic.ValueIdx
open Cert.Products Cert.Reference13Ideal Cert.Reference13Ideal.Gen

/-- The sum over a whole row, tile by tile. -/
theorem sum_cols (g : Fin 4096 → EReal) : ∑ x, g x = ∑ q : Fin 4, ∑ k : Fin 1024, g (in4 q k) := by
  rw [← Fintype.sum_prod_type', ← (finProdFinEquiv (m := 4) (n := 1024)).sum_comp]
  refine Finset.sum_congr rfl fun x _ => congrArg g (Fin.ext ?_)
  show x.2.val + 1024 * x.1.val = x.1.val * 1024 + x.2.val
  omega
theorem value (a0 : FVec Ideal S4x8320x1024 .bf16) (a1 : FVec Ideal S1x4x1024x1024 .bf16) (a2 : FVec Ideal S1x8320x1024 .f32) :
    broadcastInDim S1x8320x1024 ![1, 2] bcast_S8320x1024_S1x8320x1024_1_2 (addf (mulf (broadcastInDim S8320x1024 ![] bcast_S_S8320x1024 (constant (F := Ideal) S_ .f32 0x3FB504F3#32)) (shapeCast _ a2 shapeCasts_S1x8320x1024_S8320x1024)) (Host.dotGeneral (F := Ideal) dot_S8320x4096_S1024x4096_S8320x1024_1_1_0_0_n_n none (shapeCast _ (transpose S8320x4x1024 [1, 0, 2] (extf .f32 a0 bitsLt_bf16_f32) transposes_S4x8320x1024_S8320x4x1024_1_0_2) shapeCasts_S8320x4x1024_S8320x4096) (shapeCast _ (transpose S1024x4x1024 [1, 0, 2] (extf .f32 (shapeCast _ a1 shapeCasts_S1x4x1024x1024_S4x1024x1024) bitsLt_bf16_f32) transposes_S4x1024x1024_S1024x4x1024_1_0_2) shapeCasts_S1024x4x1024_S1024x4096)))
    = toIn (n := 4) (w := 1024) (Ideal.ofBits .f32 0x3FB504F3#32) a0 a1 a2 := funext fun y => by
  obtain ⟨u, i, j, rfl⟩ : ∃ (u : Fin 1) (i : Fin 8320) (j : Fin 1024), y = ValueIdx.ix3 u i j := ⟨y 0, y 1, y 2, idx3 y _ _ _ rfl rfl rfl⟩
  obtain rfl : u = 0 := Subsingleton.elim _ _
  simp only [pointwise]
  refine congrArg₂ (fun a b : EReal => a + b) rfl ((zero_add _).trans ((sum_cols _).trans (Finset.sum_congr rfl fun q _ => Finset.sum_congr rfl fun k _ => congrArg₂ (fun a b : EReal => a * b) ?_ ?_)))
  · exact congrArg (a0 : S4x8320x1024.Idx → EReal) (idx3 _ _ _ _ (tile_div q.val k.isLt) rfl (tile_mod q.val k.isLt))
  · exact congrArg (a1 : S1x4x1024x1024.Idx → EReal) (idx4 _ _ _ _ _ rfl (tile_div q.val k.isLt) rfl (tile_mod q.val k.isLt))

end Cert.InBackRef

end
-- ==== Proof.NormSum.lean ====
/-
  A PRODUCT, THE RESIDUAL AND THE NORM AFTER THEM: the sum and its normed rows in terms of the arguments, entry by entry, for any number
  of tiles of the summed rows and any width of a tile.
-/
module

public import proofs.«01_k».proof.Proof.Products

@[expose] public section

noncomputable section

namespace Cert.NormSum

open Idealize.ShloMosaic Idealize.ShloMosaic.ValueIdx
open Cert.Products

/-- A row's mean. -/
def mean (x : Fin 1024 → EReal) : EReal := Ideal.div (∑ k, x k) (Ideal.ofBits .f32 0x44800000#32)
/-- The layer norm of a row, with gain `g` and bias `b`. -/
def normed (x g b : Fin 1024 → EReal) (j : Fin 1024) : EReal :=
  (x j - mean x) * Ideal.rsqrt (mean (fun k => (x k - mean x) * (x k - mean x)) + Ideal.ofBits .f32 0x3727C5AC#32) * g j + b j

abbrev Vec1 : Shape := ⟨2, ![1, 1024]⟩

variable {n w : ℕ} (A : FVec Ideal (Cols n w) .bf16) (W : FVec Ideal (Weight n 1 w 1024) .bf16) (H : FVec Ideal Rows .f32) (g b : FVec Ideal Vec1 .f32)

/-- `ALPHA * h + a @ w`, the product tile by tile. -/
def total (i : Fin 8320) (j : Fin 1024) : EReal :=
  Ideal.ofBits .f32 0x3FB504F3#32 * (H (ValueIdx.ix3 0 i j) : EReal)
    + ∑ q : Fin n, ∑ k : Fin w, ((A (ValueIdx.ix3 q i k) : EReal) * (W (ValueIdx.ix4 q 0 k j) : EReal))
def sums : FVec Ideal Rows .f32 := fun y => total A W H (y 1) (y 2)
def norms (f : FTy) : FVec Ideal Rows f := fun y => normed (total A W H (y 1)) (fun k => g (ValueIdx.ix2 0 k)) (fun k => b (ValueIdx.ix2 0 k)) (y 2)

theorem sums_at (z : Rows.Idx) (i : Fin 8320) (j : Fin 1024) (e1 : (z 1).val = i.val) (e2 : (z 2).val = j.val) : sums A W H z = total A W H i j := by
  obtain rfl : z 1 = i := Fin.ext e1
  obtain rfl : z 2 = j := Fin.ext e2
  rfl
theorem norms_at (f : FTy) (z : Rows.Idx) (i : Fin 8320) (j : Fin 1024) (e1 : (z 1).val = i.val) (e2 : (z 2).val = j.val) :
    norms A W H g b f z = normed (total A W H i) (fun k => g (ValueIdx.ix2 0 k)) (fun k => b (ValueIdx.ix2 0 k)) j := by
  obtain rfl : z 1 = i := Fin.ext e1
  obtain rfl : z 2 = j := Fin.ext e2
  rfl

theorem hz2 : (![0, 0] : Fin 2 → ℕ) = fun _ => 0 := by funext a; fin_cases a <;> rfl
theorem idx2 {n0 n1 : ℕ} (y : Shape.Idx ⟨2, ![n0, n1]⟩) (a : Fin n0) (b : Fin n1) (e0 : (y 0).val = a.val) (e1 : (y 1).val = b.val) : y = ValueIdx.ix2 a b := funext fun d => by
  match d with
  | ⟨0, _⟩ => exact Fin.ext e0
  | ⟨1, _⟩ => exact Fin.ext e1

end Cert.NormSum

end
-- ==== Proof.DownKernel.lean ====
/-
  THE DOWN-PROJECTION'S KERNEL leaves `NormSum.sums` and `NormSum.norms`: of a row tile's two points the first leaves a product, the second
  adds the other and the residual and does the norm.
-/
module

public import proofs.«01_k».proof.Proof.NormSum
public import proofs.«01_k».proof.Proof.Gen.Kernel15Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.DownKernel

open Idealize.ShloMosaic Idealize.ShloMosaic.ValueIdx Idealize.SL Idealize.SL.Sem
open Cert.Products Cert.NormSum Cert.Kernel15Ideal Cert.Kernel15Ideal.Gen

/-! ## The sum and its norm -/

section
variable (v w : FVec Ideal S1x832x1024 .f32) (g b : FVec Ideal S1x1024 .f32) (i : Fin 832) (j : Fin 1024)

theorem pay5 : k0_pay5 (F := Ideal) v w (ValueIdx.ix2 i j) = Ideal.ofBits .f32 0x3FB504F3#32 * (v (ValueIdx.ix3 0 i j) : EReal) + (w (ValueIdx.ix3 0 i j) : EReal) :=
  congrArg₂ (fun a b : EReal => Ideal.ofBits .f32 0x3FB504F3#32 * a + b) (shapeCast_1ab_ab_apply v _ i j) (shapeCast_1ab_ab_apply w _ i j)
theorem pay7 : k0_pay7 (F := Ideal) v w g b (ValueIdx.ix2 i j)
    = normed (fun k => k0_pay5 (F := Ideal) v w (ValueIdx.ix2 i k)) (fun k => g (ValueIdx.ix2 0 k)) (fun k => b (ValueIdx.ix2 0 k)) j := by
  unfold k0_pay7
  generalize k0_pay5 (F := Ideal) v w = X
  simp only [pointwise]
  rfl
end

/-! ## The blocks a point leaves -/

section
variable {F : FTy → Type} [FloatOps F] (c : Dev nD) (i : grid0.Coords)
    (arg2 : Memref sig .tc .vmem S1x832x1408 .bf16) (harg2 : arg2.IsWhole) (arg3 : Memref sig .tc .vmem S1x1x1408x1024 .bf16) (harg3 : arg3.IsWhole)
    (arg4 : Memref sig .tc .vmem S1x832x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x832x1024 .f32) (harg7 : arg7.IsWhole)
    (arg8 : Memref sig .tc .vmem S1x832x1024 .f32) (harg8 : arg8.IsWhole) (arg9 : Memref sig .tc .vmem S1x832x1024 .bf16) (harg9 : arg9.IsWhole)
    (hc0 : ¬cond0_0 i) (hc1 : cond0_1 i) (hc2 : cond0_2 i) (x0 : Vec F S1x832x1408 .bf16) (x1 : Vec F S1x1x1408x1024 .bf16) (x2 : Vec F S1x832x1024 .f32) (x3 x4 : Vec F S1x1024 .f32) (xo5 : Vec F S1x832x1024 .f32)

theorem back : kernelRun0_B.sl.v18 (F := F) c arg2 harg2 arg3 harg3 arg7 harg7 x0 x1 xo5 = k0_pay3 x0 x1 xo5 := by
  unfold kernelRun0_B.sl.v18 kernelRun0_B.sl.H5_1
  rw [View.readCov_eq_canon', View.canon_cons_unit_zero hz3]
  simp only [View.readAt_eq_ld, harg2.read_unread, harg3.read_unread, harg7.read_unread, kernelRun0_B.sl.v2, View.ld_unit_zero (S := S1x832x1408) hz3, View.ld_unit_zero (S := S1x1x1408x1024) hz4, View.ld_unit_zero (S := S1x832x1024) hz3, View.ld_unit_zero (S := S1x1024) hz2]
  exact View.ld_unit_zero (S := S1x832x1024) (Val := Elt F) (e := .f32) hz3 _ (k0_pay3 x0 x1 xo5)
theorem out5 : out0_B_5 c i arg2 harg2 arg3 harg3 arg4 harg4 arg5 harg5 arg6 harg6 arg7 harg7 arg8 harg8 arg9 harg9 hc0 hc1 hc2 x0 x1 x2 x3 x4 xo5 = k0_pay6 x2 (k0_pay3 x0 x1 xo5) := by
  unfold out0_B_5
  rw [View.read_writes_junk_eq_canon]
  unfold kernelRun0_B
  dsimp only
  rw [View.canon_cons_unit_zero hz3]
  simp only [back, View.readAt_eq_ld, harg2.read_unread, harg3.read_unread, harg4.read_unread, harg5.read_unread, harg6.read_unread, harg7.read_unread, View.ld_unit_zero (S := S1x832x1408) hz3, View.ld_unit_zero (S := S1x1x1408x1024) hz4, View.ld_unit_zero (S := S1x832x1024) hz3, View.ld_unit_zero (S := S1x1024) hz2]
theorem out6 : out0_B_6 c i arg2 harg2 arg3 harg3 arg4 harg4 arg5 harg5 arg6 harg6 arg7 harg7 arg8 harg8 arg9 harg9 hc0 hc1 hc2 x0 x1 x2 x3 x4 xo5 = k0_pay8 x2 (k0_pay3 x0 x1 xo5) x3 x4 := by
  unfold out0_B_6
  rw [View.read_writes_junk_eq_canon]
  unfold kernelRun0_B
  dsimp only
  rw [View.canon_cons_unit_zero hz3]
  simp only [back, View.readAt_eq_ld, harg2.read_unread, harg3.read_unread, harg4.read_unread, harg5.read_unread, harg6.read_unread, harg7.read_unread, View.ld_unit_zero (S := S1x832x1408) hz3, View.ld_unit_zero (S := S1x1x1408x1024) hz4, View.ld_unit_zero (S := S1x832x1024) hz3, View.ld_unit_zero (S := S1x1024) hz2]
theorem out7 : out0_B_7 c i arg2 harg2 arg3 harg3 arg4 harg4 arg5 harg5 arg6 harg6 arg7 harg7 arg8 harg8 arg9 harg9 hc0 hc1 hc2 x0 x1 x2 x3 x4 xo5 = k0_pay4 (k0_pay9 x2 (k0_pay3 x0 x1 xo5) x3 x4) := by
  unfold out0_B_7
  rw [View.read_writes_junk_eq_canon]
  unfold kernelRun0_B
  dsimp only
  rw [View.canon_cons_unit_zero hz3]
  simp only [kernelRun0_B.sl.r, back, View.readAt_eq_ld, harg2.read_unread, harg3.read_unread, harg4.read_unread, harg5.read_unread, harg6.read_unread, harg7.read_unread, View.ld_unit_zero (S := S1x832x1408) hz3, View.ld_unit_zero (S := S1x1x1408x1024) hz4, View.ld_unit_zero (S := S1x832x1024) hz3, View.ld_unit_zero (S := S1x1024) hz2]
theorem first (hd0 : cond0_0 i) (hd1 : ¬cond0_1 i) (hd2 : ¬cond0_2 i) :
    out0_A_5 c i arg2 harg2 arg3 harg3 arg4 harg4 arg5 harg5 arg6 harg6 arg7 harg7 arg8 harg8 arg9 harg9 hd0 hd1 hd2 x0 x1 x2 x3 x4 = k0_pay2 x0 x1 := by
  unfold out0_A_5
  rw [View.read_writes_junk_eq_canon]
  unfold kernelRun0_A
  dsimp only
  rw [View.canon_cons_unit_zero hz3]
  simp only [View.readAt_eq_ld, harg2.read_unread, harg3.read_unread, View.ld_unit_zero (S := S1x832x1408) hz3, View.ld_unit_zero (S := S1x1x1408x1024) hz4]
end

theorem pay2 (x0 : FVec Ideal S1x832x1408 .bf16) (x1 : FVec Ideal S1x1x1408x1024 .bf16) (i : Fin 832) (j : Fin 1024) :
    k0_pay2 (F := Ideal) x0 x1 (ValueIdx.ix3 0 i j) = ∑ k : Fin 1408, ((x0 (ValueIdx.ix3 0 i k) : EReal) * (x1 (ValueIdx.ix4 0 0 k j) : EReal)) := by
  have hz : (constant (F := Ideal) S832x1024 .f32 0x00000000#32) (ValueIdx.ix2 i j) = (0 : EReal) := Ideal.ofBits_zero_f32
  unfold k0_pay2
  refine (shapeCast_ab_1ab_apply _ _ 0 i j).trans ?_
  unfold k0_pay1
  simp only [pointwise, hz]
  exact zero_add _
theorem pay3 (x0 : FVec Ideal S1x832x1408 .bf16) (x1 : FVec Ideal S1x1x1408x1024 .bf16) (X : FVec Ideal S1x832x1024 .f32) (i : Fin 832) (j : Fin 1024) :
    k0_pay3 (F := Ideal) x0 x1 X (ValueIdx.ix3 0 i j) = (X (ValueIdx.ix3 0 i j) : EReal) + k0_pay2 (F := Ideal) x0 x1 (ValueIdx.ix3 0 i j) := by
  unfold k0_pay3 k0_pay2
  refine (shapeCast_ab_1ab_apply _ _ 0 i j).trans (Eq.trans ?_ (congrArg (fun s : EReal => (X (ValueIdx.ix3 0 i j) : EReal) + s) (shapeCast_ab_1ab_apply _ _ 0 i j).symm))
  exact congrArg (fun s : EReal => s + k0_pay1 (F := Ideal) x0 x1 (ValueIdx.ix2 i j)) (shapeCast_1ab_ab_apply X _ i j)

/-! ## The blocks read at a point -/

theorem i0 : ∀ t : Fin cfg0.N, win0_0.index t = ![t.val % 2, t.val / 2, 0] := (by decide +kernel : ∀ t : Fin grid0.N, _)
theorem i1 : ∀ t : Fin cfg0.N, win0_1.index t = ![t.val % 2, 0, 0, 0] := (by decide +kernel : ∀ t : Fin grid0.N, _)
theorem i2 : ∀ t : Fin cfg0.N, win0_2.index t = ![0, t.val / 2, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, t.val / 2, 0] := (by decide +kernel : ∀ t : Fin grid0.N, _)
theorem i6 : ∀ t : Fin cfg0.N, win0_6.index t = ![0, t.val / 2, 0] := (by decide +kernel : ∀ t : Fin grid0.N, _)
theorem i7 : ∀ t : Fin cfg0.N, win0_7.index t = ![0, t.val / 2, 0] := (by decide +kernel : ∀ t : Fin grid0.N, _)
theorem last5 : ∀ t : Fin cfg0.N, win0_5.flush t = true → t.val % 2 = 1 := (by decide +kernel : ∀ t : Fin grid0.N, _)
theorem last6 : ∀ t : Fin cfg0.N, win0_6.flush t = true → t.val % 2 = 1 := (by decide +kernel : ∀ t : Fin grid0.N, _)
theorem last7 : ∀ t : Fin cfg0.N, win0_7.flush t = true → t.val % 2 = 1 := (by decide +kernel : ∀ t : Fin grid0.N, _)
theorem lt_N (t : Fin cfg0.N) : t.val < 20 := lt_of_lt_of_eq t.isLt (show cfg0.N = 20 from N_0)

/-- The row tile of a point and the tile of the summed rows. -/
def row (t : ℕ) (i : Fin 832) : Fin 8320 := ⟨t / 2 % 10 * 832 + i.val, by omega⟩
def tile (t : ℕ) : Fin 2 := ⟨t % 2, by omega⟩

variable (m : (ℓ : Loc nD τ sig) → Buf (Elt Ideal) ℓ) (c : Dev nD)

/-- The arguments, and the blocks read, with their types. -/
abbrev a0 : FVec Ideal (Cols 2 1408) .bf16 := m ((c.tc : Thread nD τ).loc main_arg0)
abbrev a1 : FVec Ideal (Weight 2 1 1408 1024) .bf16 := m ((c.tc : Thread nD τ).loc main_arg1)
abbrev a2 : FVec Ideal Rows .f32 := m ((c.tc : Thread nD τ).loc main_arg2)
abbrev a3 : FVec Ideal Vec1 .f32 := m ((c.tc : Thread nD τ).loc main_arg3)
abbrev a4 : FVec Ideal Vec1 .f32 := m ((c.tc : Thread nD τ).loc main_arg4)
abbrev b0 (t : Fin cfg0.N) : FVec Ideal S1x832x1408 .bf16 := iblk m c 0 t
abbrev b1 (t : Fin cfg0.N) : FVec Ideal S1x1x1408x1024 .bf16 := iblk m c 1 t
abbrev b2 (t : Fin cfg0.N) : FVec Ideal S1x832x1024 .f32 := iblk m c 2 t
abbrev b3 (t : Fin cfg0.N) : FVec Ideal S1x1024 .f32 := iblk m c 3 t
abbrev b4 (t : Fin cfg0.N) : FVec Ideal S1x1024 .f32 := iblk m c 4 t

theorem blk0 (t : Fin cfg0.N) (i : Fin 832) (k : Fin 1408) : b0 m c t (ValueIdx.ix3 0 i k) = a0 m c (ValueIdx.ix3 (tile t.val) (row t.val i) k) := by
  have ht := lt_N t
  unfold b0 iblk
  rw [View.read_apply]
  refine congrArg (a0 m c) (idx3 _ _ _ _ ?_ ?_ ?_)
  · show win0_0.index t 0 * 1 + 1 * 0 = t.val % 2; rw [i0]; show t.val % 2 * 1 + _ = _; omega
  · show win0_0.index t 1 * 832 + 1 * i.val = t.val / 2 % 10 * 832 + i.val; rw [i0]; show t.val / 2 * 832 + _ = _; omega
  · show win0_0.index t 2 * 1408 + 1 * k.val = k.val; rw [i0]; show 0 * 1408 + _ = _; omega
theorem blk1 (t : Fin cfg0.N) (k : Fin 1408) (j : Fin 1024) : b1 m c t (ValueIdx.ix4 0 0 k j) = a1 m c (ValueIdx.ix4 (tile t.val) 0 k j) := by
  unfold b1 iblk
  rw [View.read_apply]
  refine congrArg (a1 m c) (idx4 _ _ _ _ _ ?_ ?_ ?_ ?_)
  · show win0_1.index t 0 * 1 + 1 * 0 = t.val % 2; rw [i1]; show t.val % 2 * 1 + _ = _; omega
  · show win0_1.index t 1 * 1 + 1 * 0 = 0; rw [i1]; rfl
  · show win0_1.index t 2 * 1408 + 1 * k.val = k.val; rw [i1]; show 0 * 1408 + _ = _; omega
  · show win0_1.index t 3 * 1024 + 1 * j.val = j.val; rw [i1]; show 0 * 1024 + _ = _; omega
theorem blk2 (t : Fin cfg0.N) (i : Fin 832) (j : Fin 1024) : b2 m c t (ValueIdx.ix3 0 i j) = a2 m c (ValueIdx.ix3 0 (row t.val i) j) := by
  have ht := lt_N t
  unfold b2 iblk
  rw [View.read_apply]
  refine congrArg (a2 m c) (idx3 _ _ _ _ ?_ ?_ ?_)
  · show win0_2.index t 0 * 1 + 1 * 0 = 0; rw [i2]; rfl
  · show win0_2.index t 1 * 832 + 1 * i.val = t.val / 2 % 10 * 832 + i.val; rw [i2]; show t.val / 2 * 832 + _ = _; omega
  · show win0_2.index t 2 * 1024 + 1 * j.val = j.val; rw [i2]; show 0 * 1024 + _ = _; omega
theorem blk3 (t : Fin cfg0.N) (k : Fin 1024) : b3 m c t (ValueIdx.ix2 0 k) = a3 m c (ValueIdx.ix2 0 k) := by
  unfold b3 iblk
  rw [View.read_apply]
  refine congrArg (a3 m c) (idx2 _ _ _ ?_ ?_)
  · show win0_3.index t 0 * 1 + 1 * 0 = 0; rw [i3]; rfl
  · show win0_3.index t 1 * 1024 + 1 * k.val = k.val; rw [i3]; show 0 * 1024 + _ = _; omega
theorem blk4 (t : Fin cfg0.N) (k : Fin 1024) : b4 m c t (ValueIdx.ix2 0 k) = a4 m c (ValueIdx.ix2 0 k) := by
  unfold b4 iblk
  rw [View.read_apply]
  refine congrArg (a4 m c) (idx2 _ _ _ ?_ ?_)
  · show win0_4.index t 0 * 1 + 1 * 0 = 0; rw [i4]; rfl
  · show win0_4.index t 1 * 1024 + 1 * k.val = k.val; rw [i4]; show 0 * 1024 + _ = _; omega

/-! ## The results -/

theorem part (t : Fin cfg0.N) (i : Fin 832) (j : Fin 1024) :
    k0_pay2 (F := Ideal) (b0 m c t) (b1 m c t) (ValueIdx.ix3 0 i j) = ∑ k : Fin 1408, ((a0 m c (ValueIdx.ix3 (tile t.val) (row t.val i) k) : EReal) * (a1 m c (ValueIdx.ix4 (tile t.val) 0 k j) : EReal)) :=
  (pay2 _ _ i j).trans (Finset.sum_congr rfl fun k _ => congrArg₂ (fun a b : EReal => a * b) (blk0 m c t i k) (blk1 m c t k j))

/-- The sum's block after the second of a row tile's points. -/
def block (t : Fin cfg0.N) : FVec Ideal S1x832x1024 .f32 := k0_pay3 (F := Ideal) (b0 m c t) (b1 m c t) (outsAt0 m c (t.val - 1) (Nat.lt_of_le_of_lt (Nat.sub_le _ _) t.isLt)).1

theorem prev (t : Fin cfg0.N) (e : t.val % 2 = 0) : (outsAt0 m c t.val t.isLt).1 = k0_pay2 (F := Ideal) (b0 m c t) (b1 m c t) := by
  rw [outsAt0_A m c t e (by omega) (by omega)]
  dsimp only
  rw [first]
theorem block_at (t : Fin cfg0.N) (e : t.val % 2 = 1) (i : Fin 832) (j : Fin 1024) :
    block m c t (ValueIdx.ix3 0 i j) = ∑ q : Fin 2, ∑ k : Fin 1408, ((a0 m c (ValueIdx.ix3 q (row t.val i) k) : EReal) * (a1 m c (ValueIdx.ix4 q 0 k j) : EReal)) := by
  have h : t.val - 1 < cfg0.N := Nat.lt_of_le_of_lt (Nat.sub_le _ _) t.isLt
  have o1 := prev m c ⟨t.val - 1, h⟩ (by show (t.val - 1) % 2 = 0; omega)
  unfold block
  refine (pay3 _ _ _ i j).trans ?_
  rw [show (outsAt0 m c (t.val - 1) h).1 = _ from o1, part, part, Fin.sum_univ_two]
  have er : row (t.val - 1) i = row t.val i := Fin.ext (by show (t.val - 1) / 2 % 10 * 832 + i.val = t.val / 2 % 10 * 832 + i.val; omega)
  rw [er, show tile (t.val - 1) = 0 from Fin.ext (by show (t.val - 1) % 2 = 0; omega), show tile t.val = 1 from Fin.ext e]
theorem total_at (t : Fin cfg0.N) (e : t.val % 2 = 1) (i : Fin 832) (j : Fin 1024) :
    k0_pay5 (F := Ideal) (b2 m c t) (block m c t) (ValueIdx.ix2 i j) = total (a0 m c) (a1 m c) (a2 m c) (row t.val i) j :=
  (pay5 _ _ i j).trans (congrArg₂ (fun a b : EReal => Ideal.ofBits .f32 0x3FB504F3#32 * a + b) (blk2 m c t i j) (block_at m c t e i j))
theorem norm_at (t : Fin cfg0.N) (e : t.val % 2 = 1) (i : Fin 832) (j : Fin 1024) :
    k0_pay7 (F := Ideal) (b2 m c t) (block m c t) (b3 m c t) (b4 m c t) (ValueIdx.ix2 i j)
      = normed (total (a0 m c) (a1 m c) (a2 m c) (row t.val i)) (fun k => a3 m c (ValueIdx.ix2 0 k)) (fun k => a4 m c (ValueIdx.ix2 0 k)) j := by
  refine (pay7 _ _ _ _ i j).trans ?_
  rw [show (fun k => (k0_pay5 (F := Ideal) (b2 m c t) (block m c t) (ValueIdx.ix2 i k) : EReal)) = total (a0 m c) (a1 m c) (a2 m c) (row t.val i) from funext (total_at m c t e i),
    show (fun k => (b3 m c t (ValueIdx.ix2 0 k) : EReal)) = fun k => a3 m c (ValueIdx.ix2 0 k) from funext (blk3 m c t),
    show (fun k => (b4 m c t (ValueIdx.ix2 0 k) : EReal)) = fun k => a4 m c (ValueIdx.ix2 0 k) from funext (blk4 m c t)]

theorem whole (y : Shape.Idx S1x832x1024) : y = ValueIdx.ix3 (n0 := 1) (n1 := 832) (n2 := 1024) 0 (y 1) (y 2) := by
  have hy0 : (y 0).val < 1 := (y 0).isLt
  exact idx3 y _ _ _ (by show (y 0).val = 0; omega) rfl rfl
theorem left5 (t : Fin cfg0.N) (e : t.val % 2 = 1) : (outsAt0 m c t.val t.isLt).1 = k0_pay6 (F := Ideal) (b2 m c t) (block m c t) := by
  rw [outsAt0_B m c t (by omega) e e]
  dsimp only
  rw [out5]
  rfl
theorem sum : (dats m 0 c).arrAt 5 cfg0.N = sums (a0 m c) (a1 m c) (a2 m c) := by
  refine (dats m 0 c).arrAt_eq_of_covers 5 _ (by decide +kernel) fun t hf y => ?_
  blk_simp
  rw [after0_5]
  have ht := lt_N t
  refine ((congrFun (left5 m c t (last5 t hf)) y).trans (congrArg (k0_pay6 (F := Ideal) (b2 m c t) (block m c t)) (whole y))).trans ?_
  refine ((shapeCast_ab_1ab_apply _ _ 0 (y 1) (y 2)).trans (total_at m c t (last5 t hf) (y 1) (y 2))).trans (Eq.symm (sums_at _ _ _ _ (row t.val (y 1)) (y 2) ?_ ?_))
  · show win0_5.index t 1 * 832 + 1 * (y 1).val = t.val / 2 % 10 * 832 + (y 1).val; rw [i5]; show t.val / 2 * 832 + _ = _; omega
  · show win0_5.index t 2 * 1024 + 1 * (y 2).val = (y 2).val; rw [i5]; show 0 * 1024 + _ = _; omega
theorem left6 (t : Fin cfg0.N) (e : t.val % 2 = 1) : (outsAt0 m c t.val t.isLt).2.1 = k0_pay8 (F := Ideal) (b2 m c t) (block m c t) (b3 m c t) (b4 m c t) := by
  rw [outsAt0_B m c t (by omega) e e]
  dsimp only
  rw [out6]
  rfl
theorem norm : (dats m 0 c).arrAt 6 cfg0.N = norms (a0 m c) (a1 m c) (a2 m c) (a3 m c) (a4 m c) .f32 := by
  refine (dats m 0 c).arrAt_eq_of_covers 6 _ (by decide +kernel) fun t hf y => ?_
  blk_simp
  rw [after0_6]
  have ht := lt_N t
  refine ((congrFun (left6 m c t (last6 t hf)) y).trans (congrArg (k0_pay8 (F := Ideal) (b2 m c t) (block m c t) (b3 m c t) (b4 m c t)) (whole y))).trans ?_
  refine ((shapeCast_ab_1ab_apply _ _ 0 (y 1) (y 2)).trans (norm_at m c t (last6 t hf) (y 1) (y 2))).trans (Eq.symm (norms_at _ _ _ _ _ _ _ (row t.val (y 1)) (y 2) ?_ ?_))
  · show win0_6.index t 1 * 832 + 1 * (y 1).val = t.val / 2 % 10 * 832 + (y 1).val; rw [i6]; show t.val / 2 * 832 + _ = _; omega
  · show win0_6.index t 2 * 1024 + 1 * (y 2).val = (y 2).val; rw [i6]; show 0 * 1024 + _ = _; omega
theorem left7 (t : Fin cfg0.N) (e : t.val % 2 = 1) : (outsAt0 m c t.val t.isLt).2.2 = k0_pay4 (F := Ideal) (k0_pay9 (F := Ideal) (b2 m c t) (block m c t) (b3 m c t) (b4 m c t)) := by
  rw [outsAt0_B m c t (by omega) e e]
  dsimp only
  rw [out7]
  rfl
theorem cast : (dats m 0 c).arrAt 7 cfg0.N = norms (a0 m c) (a1 m c) (a2 m c) (a3 m c) (a4 m c) .bf16 := by
  refine (dats m 0 c).arrAt_eq_of_covers 7 _ (by decide +kernel) fun t hf y => ?_
  blk_simp
  rw [after0_7]
  have ht := lt_N t
  refine ((congrFun (left7 m c t (last7 t hf)) y).trans (congrArg (k0_pay4 (F := Ideal) (k0_pay9 (F := Ideal) (b2 m c t) (block m c t) (b3 m c t) (b4 m c t))) (whole y))).trans ?_
  refine ((shapeCast_ab_1ab_apply _ _ 0 (y 1) (y 2)).trans (norm_at m c t (last7 t hf) (y 1) (y 2))).trans (Eq.symm (norms_at _ _ _ _ _ _ _ (row t.val (y 1)) (y 2) ?_ ?_))
  · show win0_7.index t 1 * 832 + 1 * (y 1).val = t.val / 2 % 10 * 832 + (y 1).val; rw [i7]; show t.val / 2 * 832 + _ = _; omega
  · show win0_7.index t 2 * 1024 + 1 * (y 2).val = (y 2).val; rw [i7]; show 0 * 1024 + _ = _; omega

end Cert.DownKernel

end
-- ==== Proof.OutKernel.lean ====
/-
  THE OUTPUT PRODUCT'S KERNEL leaves `NormSum.sums` and `NormSum.norms`: a point does a row tile's product, adds the residual and does the norm.
-/
module

public import proofs.«01_k».proof.Proof.DownKernel
public import proofs.«01_k».proof.Proof.Gen.Kernel14Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.OutKernel

open Idealize.ShloMosaic Idealize.ShloMosaic.ValueIdx Idealize.SL Idealize.SL.Sem
open Cert.Products Cert.NormSum Cert.Kernel14Ideal Cert.Kernel14Ideal.Gen

/-! ## The sum and its norm, as after the down-projection -/

section
variable (v w : FVec Ideal S1x832x1024 .f32) (g b : FVec Ideal S1x1024 .f32) (i : Fin 832) (j : Fin 1024)

theorem pay5 : k0_pay5 (F := Ideal) v w (ValueIdx.ix2 i j) = Ideal.ofBits .f32 0x3FB504F3#32 * (v (ValueIdx.ix3 0 i j) : EReal) + (w (ValueIdx.ix3 0 i j) : EReal) :=
  DownKernel.pay5 v w i j
theorem pay7 : k0_pay7 (F := Ideal) v w g b (ValueIdx.ix2 i j)
    = normed (fun k => k0_pay5 (F := Ideal) v w (ValueIdx.ix2 i k)) (fun k => g (ValueIdx.ix2 0 k)) (fun k => b (ValueIdx.ix2 0 k)) j :=
  DownKernel.pay7 v w g b i j
end

/-! ## The blocks a point leaves -/

section
variable {F : FTy → Type} [FloatOps F] (c : Dev nD) (i : grid0.Coords)
    (arg2 : Memref sig .tc .vmem S1x832x1024 .bf16) (harg2 : arg2.IsWhole) (arg3 : Memref sig .tc .vmem S1x1x1024x1024 .bf16) (harg3 : arg3.IsWhole)
    (arg4 : Memref sig .tc .vmem S1x832x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x832x1024 .f32) (harg7 : arg7.IsWhole)
    (arg8 : Memref sig .tc .vmem S1x832x1024 .f32) (harg8 : arg8.IsWhole) (arg9 : Memref sig .tc .vmem S1x832x1024 .bf16) (harg9 : arg9.IsWhole)
    (hc0 : cond0_0 i) (hc1 : ¬cond0_1 i) (hc2 : cond0_2 i) (x0 : Vec F S1x832x1024 .bf16) (x1 : Vec F S1x1x1024x1024 .bf16) (x2 : Vec F S1x832x1024 .f32) (x3 x4 : Vec F S1x1024 .f32)

theorem back : kernelRun0_A.sl.v18 (F := F) c arg2 harg2 arg3 harg3 arg7 x0 x1 = k0_pay2 x0 x1 := by
  unfold kernelRun0_A.sl.v18 kernelRun0_A.sl.H5_1
  rw [View.readCov_eq_canon', View.canon_cons_unit_zero hz3]
  simp only [View.readAt_eq_ld, harg2.read_unread, harg3.read_unread, kernelRun0_A.sl.v2, View.ld_unit_zero (S := S1x832x1024) hz3, View.ld_unit_zero (S := S1x1x1024x1024) hz4, View.ld_unit_zero (S := S1x832x1024) hz3, View.ld_unit_zero (S := S1x1024) hz2]
  exact View.ld_unit_zero (S := S1x832x1024) (Val := Elt F) (e := .f32) hz3 _ (k0_pay2 x0 x1)
theorem out5 : out0_A_5 c i arg2 harg2 arg3 harg3 arg4 harg4 arg5 harg5 arg6 harg6 arg7 harg7 arg8 harg8 arg9 harg9 hc0 hc1 hc2 x0 x1 x2 x3 x4 = k0_pay6 x2 (k0_pay2 x0 x1) := by
  unfold out0_A_5
  rw [View.read_writes_junk_eq_canon]
  unfold kernelRun0_A
  dsimp only
  rw [View.canon_cons_unit_zero hz3]
  simp only [back, View.readAt_eq_ld, harg2.read_unread, harg3.read_unread, harg4.read_unread, harg5.read_unread, harg6.read_unread, View.ld_unit_zero (S := S1x832x1024) hz3, View.ld_unit_zero (S := S1x1x1024x1024) hz4, View.ld_unit_zero (S := S1x832x1024) hz3, View.ld_unit_zero (S := S1x1024) hz2]
theorem out6 : out0_A_6 c i arg2 harg2 arg3 harg3 arg4 harg4 arg5 harg5 arg6 harg6 arg7 harg7 arg8 harg8 arg9 harg9 hc0 hc1 hc2 x0 x1 x2 x3 x4 = k0_pay8 x2 (k0_pay2 x0 x1) x3 x4 := by
  unfold out0_A_6
  rw [View.read_writes_junk_eq_canon]
  unfold kernelRun0_A
  dsimp only
  rw [View.canon_cons_unit_zero hz3]
  simp only [back, View.readAt_eq_ld, harg2.read_unread, harg3.read_unread, harg4.read_unread, harg5.read_unread, harg6.read_unread, View.ld_unit_zero (S := S1x832x1024) hz3, View.ld_unit_zero (S := S1x1x1024x1024) hz4, View.ld_unit_zero (S := S1x832x1024) hz3, View.ld_unit_zero (S := S1x1024) hz2]
theorem out7 : out0_A_7 c i arg2 harg2 arg3 harg3 arg4 harg4 arg5 harg5 arg6 harg6 arg7 harg7 arg8 harg8 arg9 harg9 hc0 hc1 hc2 x0 x1 x2 x3 x4 = k0_pay4 (k0_pay9 x2 (k0_pay2 x0 x1) x3 x4) := by
  unfold out0_A_7
  rw [View.read_writes_junk_eq_canon]
  unfold kernelRun0_A
  dsimp only
  rw [View.canon_cons_unit_zero hz3]
  simp only [kernelRun0_A.sl.r, back, View.readAt_eq_ld, harg2.read_unread, harg3.read_unread, harg4.read_unread, harg5.read_unread, harg6.read_unread, View.ld_unit_zero (S := S1x832x1024) hz3, View.ld_unit_zero (S := S1x1x1024x1024) hz4, View.ld_unit_zero (S := S1x832x1024) hz3, View.ld_unit_zero (S := S1x1024) hz2]
end

theorem pay2 (x0 : FVec Ideal S1x832x1024 .bf16) (x1 : FVec Ideal S1x1x1024x1024 .bf16) (i : Fin 832) (j : Fin 1024) :
    k0_pay2 (F := Ideal) x0 x1 (ValueIdx.ix3 0 i j) = ∑ k : Fin 1024, ((x0 (ValueIdx.ix3 0 i k) : EReal) * (x1 (ValueIdx.ix4 0 0 k j) : EReal)) := by
  have hz : (constant (F := Ideal) S832x1024 .f32 0x00000000#32) (ValueIdx.ix2 i j) = (0 : EReal) := Ideal.ofBits_zero_f32
  unfold k0_pay2
  refine (shapeCast_ab_1ab_apply _ _ 0 i j).trans ?_
  unfold k0_pay1
  simp only [pointwise, hz]
  exact zero_add _

/-! ## The blocks read at a point -/

theorem i0 : ∀ t : Fin cfg0.N, win0_0.index t = ![0, t.val, 0] := (by decide +kernel : ∀ t : Fin grid0.N, _)
theorem i1 : ∀ t : Fin cfg0.N, win0_1.index t = ![0, 0, 0, 0] := (by decide +kernel : ∀ t : Fin grid0.N, _)
theorem i2 : ∀ t : Fin cfg0.N, win0_2.index t = ![0, t.val, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, t.val, 0] := (by decide +kernel : ∀ t : Fin grid0.N, _)
theorem i6 : ∀ t : Fin cfg0.N, win0_6.index t = ![0, t.val, 0] := (by decide +kernel : ∀ t : Fin grid0.N, _)
theorem i7 : ∀ t : Fin cfg0.N, win0_7.index t = ![0, t.val, 0] := (by decide +kernel : ∀ t : Fin grid0.N, _)
theorem lt_N (t : Fin cfg0.N) : t.val < 10 := lt_of_lt_of_eq t.isLt (show cfg0.N = 10 from N_0)

/-- The row tile of a point. -/
def row (t : ℕ) (i : Fin 832) : Fin 8320 := ⟨t % 10 * 832 + i.val, by omega⟩
def tile (t : ℕ) : Fin 1 := 0

variable (m : (ℓ : Loc nD τ sig) → Buf (Elt Ideal) ℓ) (c : Dev nD)

/-- The arguments, and the blocks read, with their types. -/
abbrev a0 : FVec Ideal (Cols 1 1024) .bf16 := m ((c.tc : Thread nD τ).loc main_arg0)
abbrev a1 : FVec Ideal (Weight 1 1 1024 1024) .bf16 := m ((c.tc : Thread nD τ).loc main_arg1)
abbrev a2 : FVec Ideal Rows .f32 := m ((c.tc : Thread nD τ).loc main_arg2)
abbrev a3 : FVec Ideal Vec1 .f32 := m ((c.tc : Thread nD τ).loc main_arg3)
abbrev a4 : FVec Ideal Vec1 .f32 := m ((c.tc : Thread nD τ).loc main_arg4)
abbrev b0 (t : Fin cfg0.N) : FVec Ideal S1x832x1024 .bf16 := iblk m c 0 t
abbrev b1 (t : Fin cfg0.N) : FVec Ideal S1x1x1024x1024 .bf16 := iblk m c 1 t
abbrev b2 (t : Fin cfg0.N) : FVec Ideal S1x832x1024 .f32 := iblk m c 2 t
abbrev b3 (t : Fin cfg0.N) : FVec Ideal S1x1024 .f32 := iblk m c 3 t
abbrev b4 (t : Fin cfg0.N) : FVec Ideal S1x1024 .f32 := iblk m c 4 t

theorem blk0 (t : Fin cfg0.N) (i : Fin 832) (k : Fin 1024) : b0 m c t (ValueIdx.ix3 0 i k) = a0 m c (ValueIdx.ix3 (tile t.val) (row t.val i) k) := by
  have ht := lt_N t
  unfold b0 iblk
  rw [View.read_apply]
  refine congrArg (a0 m c) (idx3 _ _ _ _ ?_ ?_ ?_)
  · show win0_0.index t 0 * 1 + 1 * 0 = 0; rw [i0]; show 0 * 1 + _ = _; omega
  · show win0_0.index t 1 * 832 + 1 * i.val = t.val % 10 * 832 + i.val; rw [i0]; show t.val * 832 + _ = _; omega
  · show win0_0.index t 2 * 1024 + 1 * k.val = k.val; rw [i0]; show 0 * 1024 + _ = _; omega
theorem blk1 (t : Fin cfg0.N) (k : Fin 1024) (j : Fin 1024) : b1 m c t (ValueIdx.ix4 0 0 k j) = a1 m c (ValueIdx.ix4 (tile t.val) 0 k j) := by
  unfold b1 iblk
  rw [View.read_apply]
  refine congrArg (a1 m c) (idx4 _ _ _ _ _ ?_ ?_ ?_ ?_)
  · show win0_1.index t 0 * 1 + 1 * 0 = 0; rw [i1]; show 0 * 1 + _ = _; omega
  · show win0_1.index t 1 * 1 + 1 * 0 = 0; rw [i1]; rfl
  · show win0_1.index t 2 * 1024 + 1 * k.val = k.val; rw [i1]; show 0 * 1024 + _ = _; omega
  · show win0_1.index t 3 * 1024 + 1 * j.val = j.val; rw [i1]; show 0 * 1024 + _ = _; omega
theorem blk2 (t : Fin cfg0.N) (i : Fin 832) (j : Fin 1024) : b2 m c t (ValueIdx.ix3 0 i j) = a2 m c (ValueIdx.ix3 0 (row t.val i) j) := by
  have ht := lt_N t
  unfold b2 iblk
  rw [View.read_apply]
  refine congrArg (a2 m c) (idx3 _ _ _ _ ?_ ?_ ?_)
  · show win0_2.index t 0 * 1 + 1 * 0 = 0; rw [i2]; rfl
  · show win0_2.index t 1 * 832 + 1 * i.val = t.val % 10 * 832 + i.val; rw [i2]; show t.val * 832 + _ = _; omega
  · show win0_2.index t 2 * 1024 + 1 * j.val = j.val; rw [i2]; show 0 * 1024 + _ = _; omega
theorem blk3 (t : Fin cfg0.N) (k : Fin 1024) : b3 m c t (ValueIdx.ix2 0 k) = a3 m c (ValueIdx.ix2 0 k) := by
  unfold b3 iblk
  rw [View.read_apply]
  refine congrArg (a3 m c) (idx2 _ _ _ ?_ ?_)
  · show win0_3.index t 0 * 1 + 1 * 0 = 0; rw [i3]; rfl
  · show win0_3.index t 1 * 1024 + 1 * k.val = k.val; rw [i3]; show 0 * 1024 + _ = _; omega
theorem blk4 (t : Fin cfg0.N) (k : Fin 1024) : b4 m c t (ValueIdx.ix2 0 k) = a4 m c (ValueIdx.ix2 0 k) := by
  unfold b4 iblk
  rw [View.read_apply]
  refine congrArg (a4 m c) (idx2 _ _ _ ?_ ?_)
  · show win0_4.index t 0 * 1 + 1 * 0 = 0; rw [i4]; rfl
  · show win0_4.index t 1 * 1024 + 1 * k.val = k.val; rw [i4]; show 0 * 1024 + _ = _; omega

/-! ## The results -/

theorem part (t : Fin cfg0.N) (i : Fin 832) (j : Fin 1024) :
    k0_pay2 (F := Ideal) (b0 m c t) (b1 m c t) (ValueIdx.ix3 0 i j) = ∑ k : Fin 1024, ((a0 m c (ValueIdx.ix3 (tile t.val) (row t.val i) k) : EReal) * (a1 m c (ValueIdx.ix4 (tile t.val) 0 k j) : EReal)) :=
  (pay2 _ _ i j).trans (Finset.sum_congr rfl fun k _ => congrArg₂ (fun a b : EReal => a * b) (blk0 m c t i k) (blk1 m c t k j))

/-- The product's block at a point. -/
def block (t : Fin cfg0.N) : FVec Ideal S1x832x1024 .f32 := k0_pay2 (F := Ideal) (b0 m c t) (b1 m c t)

theorem block_at (t : Fin cfg0.N) (i : Fin 832) (j : Fin 1024) :
    block m c t (ValueIdx.ix3 0 i j) = ∑ q : Fin 1, ∑ k : Fin 1024, ((a0 m c (ValueIdx.ix3 q (row t.val i) k) : EReal) * (a1 m c (ValueIdx.ix4 q 0 k j) : EReal)) := by
  unfold block
  rw [part, Fin.sum_univ_one]
  rfl
theorem total_at (t : Fin cfg0.N) (i : Fin 832) (j : Fin 1024) :
    k0_pay5 (F := Ideal) (b2 m c t) (block m c t) (ValueIdx.ix2 i j) = total (a0 m c) (a1 m c) (a2 m c) (row t.val i) j :=
  (pay5 _ _ i j).trans (congrArg₂ (fun a b : EReal => Ideal.ofBits .f32 0x3FB504F3#32 * a + b) (blk2 m c t i j) (block_at m c t i j))
theorem norm_at (t : Fin cfg0.N) (i : Fin 832) (j : Fin 1024) :
    k0_pay7 (F := Ideal) (b2 m c t) (block m c t) (b3 m c t) (b4 m c t) (ValueIdx.ix2 i j)
      = normed (total (a0 m c) (a1 m c) (a2 m c) (row t.val i)) (fun k => a3 m c (ValueIdx.ix2 0 k)) (fun k => a4 m c (ValueIdx.ix2 0 k)) j := by
  refine (pay7 _ _ _ _ i j).trans ?_
  rw [show (fun k => (k0_pay5 (F := Ideal) (b2 m c t) (block m c t) (ValueIdx.ix2 i k) : EReal)) = total (a0 m c) (a1 m c) (a2 m c) (row t.val i) from funext (total_at m c t i),
    show (fun k => (b3 m c t (ValueIdx.ix2 0 k) : EReal)) = fun k => a3 m c (ValueIdx.ix2 0 k) from funext (blk3 m c t),
    show (fun k => (b4 m c t (ValueIdx.ix2 0 k) : EReal)) = fun k => a4 m c (ValueIdx.ix2 0 k) from funext (blk4 m c t)]

theorem whole (y : Shape.Idx S1x832x1024) : y = ValueIdx.ix3 (n0 := 1) (n1 := 832) (n2 := 1024) 0 (y 1) (y 2) := by
  have hy0 : (y 0).val < 1 := (y 0).isLt
  exact idx3 y _ _ _ (by show (y 0).val = 0; omega) rfl rfl
theorem sum : (dats m 0 c).arrAt 5 cfg0.N = sums (a0 m c) (a1 m c) (a2 m c) := by
  refine (dats m 0 c).arrAt_eq_of_covers 5 _ (by decide +kernel) fun t hf y => ?_
  blk_simp
  rw [after0_5]
  have ht := lt_N t
  unfold outsAt0
  dsimp only
  rw [out5]
  refine (congrArg (k0_pay6 (F := Ideal) (b2 m c t) (block m c t)) (whole y)).trans ?_
  refine ((shapeCast_ab_1ab_apply _ _ 0 (y 1) (y 2)).trans (total_at m c t (y 1) (y 2))).trans (Eq.symm (sums_at _ _ _ _ (row t.val (y 1)) (y 2) ?_ ?_))
  · show win0_5.index t 1 * 832 + 1 * (y 1).val = t.val % 10 * 832 + (y 1).val; rw [i5]; show t.val * 832 + _ = _; omega
  · show win0_5.index t 2 * 1024 + 1 * (y 2).val = (y 2).val; rw [i5]; show 0 * 1024 + _ = _; omega
theorem norm : (dats m 0 c).arrAt 6 cfg0.N = norms (a0 m c) (a1 m c) (a2 m c) (a3 m c) (a4 m c) .f32 := by
  refine (dats m 0 c).arrAt_eq_of_covers 6 _ (by decide +kernel) fun t hf y => ?_
  blk_simp
  rw [after0_6]
  have ht := lt_N t
  unfold outsAt0
  dsimp only
  rw [out6]
  refine (congrArg (k0_pay8 (F := Ideal) (b2 m c t) (block m c t) (b3 m c t) (b4 m c t)) (whole y)).trans ?_
  refine ((shapeCast_ab_1ab_apply _ _ 0 (y 1) (y 2)).trans (norm_at m c t (y 1) (y 2))).trans (Eq.symm (norms_at _ _ _ _ _ _ _ (row t.val (y 1)) (y 2) ?_ ?_))
  · show win0_6.index t 1 * 832 + 1 * (y 1).val = t.val % 10 * 832 + (y 1).val; rw [i6]; show t.val * 832 + _ = _; omega
  · show win0_6.index t 2 * 1024 + 1 * (y 2).val = (y 2).val; rw [i6]; show 0 * 1024 + _ = _; omega
theorem cast : (dats m 0 c).arrAt 7 cfg0.N = norms (a0 m c) (a1 m c) (a2 m c) (a3 m c) (a4 m c) .bf16 := by
  refine (dats m 0 c).arrAt_eq_of_covers 7 _ (by decide +kernel) fun t hf y => ?_
  blk_simp
  rw [after0_7]
  have ht := lt_N t
  unfold outsAt0
  dsimp only
  rw [out7]
  refine (congrArg (k0_pay4 (F := Ideal) (k0_pay9 (F := Ideal) (b2 m c t) (block m c t) (b3 m c t) (b4 m c t))) (whole y)).trans ?_
  refine ((shapeCast_ab_1ab_apply _ _ 0 (y 1) (y 2)).trans (norm_at m c t (y 1) (y 2))).trans (Eq.symm (norms_at _ _ _ _ _ _ _ (row t.val (y 1)) (y 2) ?_ ?_))
  · show win0_7.index t 1 * 832 + 1 * (y 1).val = t.val % 10 * 832 + (y 1).val; rw [i7]; show t.val * 832 + _ = _; omega
  · show win0_7.index t 2 * 1024 + 1 * (y 2).val = (y 2).val; rw [i7]; show 0 * 1024 + _ = _; omega

end Cert.OutKernel

end
-- ==== Proof.DownRef.lean ====
/-
  THE REFERENCE OF THE DOWN-PROJECTION AND THE NORM AFTER IT is `NormSum.sums` and `NormSum.norms`.
-/
module

public import proofs.«01_k».proof.Proof.NormSum
public import proofs.«01_k».proof.Proof.Gen.Reference15Ideal
public import proofs.«01_k».proof.Proof.Gen.Reference15Ideal.Run
public import Idealize.ShloMosaic.Lib.Pipeline.Value

@[expose] public section

noncomputable section

namespace Cert.DownRef

open Idealize.ShloMosaic Idealize.ShloMosaic.ValueIdx Idealize.SL.Sem
open Cert.Products Cert.NormSum Cert.Reference15Ideal Cert.Reference15Ideal.Gen

/-- A column in every column; a row in every row; the rows under a leading axis. -/
theorem over_at (X : FVec Ideal S8320x1 .f32) (i : Fin 8320) (j : Fin 1024) : broadcastInDim S8320x1024 ![0, 1] bcast_S8320x1_S8320x1024_0_1 X (ValueIdx.ix2 i j) = X (ValueIdx.ix2 i 0) := by
  simp only [pointwise]
  exact congrArg X (idx2 _ _ _ rfl rfl)
theorem row_at (g : FVec Ideal S1x1024 .f32) (i : Fin 8320) (j : Fin 1024) : broadcastInDim S8320x1024 ![0, 1] bcast_S1x1024_S8320x1024_0_1 (broadcastInDim S1x1024 ![1] bcast_S1024_S1x1024_1 (shapeCast S1024 g shapeCasts_S1x1024_S1024)) (ValueIdx.ix2 i j) = g (ValueIdx.ix2 0 j) := by
  simp only [pointwise]
  exact congrArg g (idx2 _ _ _ rfl rfl)
theorem lead_at (X : FVec Ideal S8320x1024 .f32) (u : Fin 1) (i : Fin 8320) (j : Fin 1024) : broadcastInDim S1x8320x1024 ![1, 2] bcast_S8320x1024_S1x8320x1024_1_2 X (ValueIdx.ix3 u i j) = X (ValueIdx.ix2 i j) := by
  simp only [pointwise]
  exact congrArg X (idx2 _ _ _ rfl rfl)
/-- The rows' means. -/
def means (X : FVec Ideal S8320x1024 .f32) : FVec Ideal S8320x1 .f32 :=
  Host.divf (broadcastInDim S8320x1 ![0] bcast_S8320_S8320x1_0 (Host.reduceAdd (X) (constant (F := Ideal) S_ .f32 0x00000000#32) reducesTo_S8320x1024_S8320_d1 h_S_)) (broadcastInDim S8320x1 ![] bcast_S_S8320x1 (constant (F := Ideal) S_ .f32 0x44800000#32))
theorem means_at (X : FVec Ideal S8320x1024 .f32) (i : Fin 8320) : means X (ValueIdx.ix2 i 0) = mean fun k => X (ValueIdx.ix2 i k) := by
  unfold means
  simp only [pointwise, Ideal.hostReduceAdd_def]
  exact congrArg (fun s : EReal => Ideal.div s (Ideal.ofBits .f32 0x44800000#32)) (zero_add _)
/-- The rows without their means. -/
def devs (X : FVec Ideal S8320x1024 .f32) : FVec Ideal S8320x1024 .f32 :=
  subf X (broadcastInDim S8320x1024 ![0, 1] bcast_S8320x1_S8320x1024_0_1 (means X))
theorem devs_at (X : FVec Ideal S8320x1024 .f32) (i : Fin 8320) (j : Fin 1024) :
    devs X (ValueIdx.ix2 i j) = (X (ValueIdx.ix2 i j) : EReal) - mean fun k => X (ValueIdx.ix2 i k) := by
  unfold devs
  exact congrArg (fun s : EReal => (X (ValueIdx.ix2 i j) : EReal) - s) ((over_at _ i j).trans (means_at X i))
/-- The layer norm of the rows. -/
def unit (X : FVec Ideal S8320x1024 .f32) (g b : FVec Ideal S1x1024 .f32) : FVec Ideal S8320x1024 .f32 :=
  addf (mulf (mulf (devs X) (broadcastInDim S8320x1024 ![0, 1] bcast_S8320x1_S8320x1024_0_1 (Host.rsqrt (addf (means (mulf (devs X) (devs X))) (broadcastInDim S8320x1 ![] bcast_S_S8320x1 (constant (F := Ideal) S_ .f32 0x3727C5AC#32)))))) (broadcastInDim S8320x1024 ![0, 1] bcast_S1x1024_S8320x1024_0_1 (broadcastInDim S1x1024 ![1] bcast_S1024_S1x1024_1 (shapeCast S1024 g shapeCasts_S1x1024_S1024)))) (broadcastInDim S8320x1024 ![0, 1] bcast_S1x1024_S8320x1024_0_1 (broadcastInDim S1x1024 ![1] bcast_S1024_S1x1024_1 (shapeCast S1024 b shapeCasts_S1x1024_S1024)))
theorem unit_at (X : FVec Ideal S8320x1024 .f32) (g b : FVec Ideal S1x1024 .f32) (i : Fin 8320) (j : Fin 1024) :
    unit X g b (ValueIdx.ix2 i j) = normed (fun k => X (ValueIdx.ix2 i k)) (fun k => g (ValueIdx.ix2 0 k)) (fun k => b (ValueIdx.ix2 0 k)) j := by
  unfold unit
  exact congrArg₂ (fun a b : EReal => a + b) (congrArg₂ (fun a b : EReal => a * b) (congrArg₂ (fun a b : EReal => a * b) (devs_at X i j)
    ((over_at _ i j).trans (congrArg (fun s : EReal => Ideal.rsqrt (s + Ideal.ofBits .f32 0x3727C5AC#32)) ((means_at _ i).trans
      (congrArg mean (funext fun k => congrArg₂ (fun a b : EReal => a * b) (devs_at X i k) (devs_at X i k)))))))
    (row_at g i j)) (row_at b i j)
/-- The sum. -/
def inner (a0 : FVec Ideal S2x8320x1408 .bf16) (a1 : FVec Ideal S2x1x1408x1024 .bf16) (a2 : FVec Ideal S1x8320x1024 .f32) : FVec Ideal S8320x1024 .f32 :=
  addf (mulf (broadcastInDim S8320x1024 ![] bcast_S_S8320x1024 (constant (F := Ideal) S_ .f32 0x3FB504F3#32)) (shapeCast _ a2 shapeCasts_S1x8320x1024_S8320x1024)) (Host.dotGeneral (F := Ideal) dot_S8320x2816_S2816x1024_S8320x1024_1_0_0_1_n_n none (shapeCast _ (transpose S8320x2x1408 [1, 0, 2] (extf .f32 a0 bitsLt_bf16_f32) transposes_S2x8320x1408_S8320x2x1408_1_0_2) shapeCasts_S8320x2x1408_S8320x2816) (shapeCast _ (extf .f32 (shapeCast _ a1 shapeCasts_S2x1x1408x1024_S2x1408x1024) bitsLt_bf16_f32) shapeCasts_S2x1408x1024_S2816x1024))

/-- The sum over a whole row, tile by tile. -/
theorem sum_cols (g : Fin 2816 → EReal) : ∑ x, g x = ∑ q : Fin 2, ∑ k : Fin 1408, g ⟨q.val * 1408 + k.val, by omega⟩ := by
  rw [← Fintype.sum_prod_type', ← (finProdFinEquiv (m := 2) (n := 1408)).sum_comp]
  refine Finset.sum_congr rfl fun x _ => congrArg g (Fin.ext ?_)
  show x.2.val + 1408 * x.1.val = x.1.val * 1408 + x.2.val
  omega
theorem inner_at (a0 : FVec Ideal S2x8320x1408 .bf16) (a1 : FVec Ideal S2x1x1408x1024 .bf16) (a2 : FVec Ideal S1x8320x1024 .f32) (i : Fin 8320) (j : Fin 1024) :
    inner a0 a1 a2 (ValueIdx.ix2 i j) = total (n := 2) (w := 1408) a0 a1 a2 i j := by
  unfold inner
  simp only [pointwise]
  refine congrArg₂ (fun a b : EReal => a + b) rfl ((zero_add _).trans ((sum_cols _).trans (Finset.sum_congr rfl fun q _ => Finset.sum_congr rfl fun k _ => congrArg₂ (fun a b : EReal => a * b) ?_ ?_)))
  · exact congrArg (a0 : S2x8320x1408.Idx → EReal) (idx3 _ _ _ _ (tile_div q.val k.isLt) rfl (tile_mod q.val k.isLt))
  · exact congrArg (a1 : S2x1x1408x1024.Idx → EReal) (idx4 _ _ _ _ _ (tile_div q.val k.isLt) rfl (tile_mod q.val k.isLt) rfl)

variable (m : (ℓ : Loc nD τ sig) → Buf (Elt Ideal) ℓ) (c : Dev nD)

theorem value0 (a0 : FVec Ideal S2x8320x1408 .bf16) (a1 : FVec Ideal S2x1x1408x1024 .bf16) (a2 : FVec Ideal S1x8320x1024 .f32) :
    broadcastInDim S1x8320x1024 ![1, 2] bcast_S8320x1024_S1x8320x1024_1_2 (addf (mulf (broadcastInDim S8320x1024 ![] bcast_S_S8320x1024 (constant (F := Ideal) S_ .f32 0x3FB504F3#32)) (shapeCast _ a2 shapeCasts_S1x8320x1024_S8320x1024)) (Host.dotGeneral (F := Ideal) dot_S8320x2816_S2816x1024_S8320x1024_1_0_0_1_n_n none (shapeCast _ (transpose S8320x2x1408 [1, 0, 2] (extf .f32 a0 bitsLt_bf16_f32) transposes_S2x8320x1408_S8320x2x1408_1_0_2) shapeCasts_S8320x2x1408_S8320x2816) (shapeCast _ (extf .f32 (shapeCast _ a1 shapeCasts_S2x1x1408x1024_S2x1408x1024) bitsLt_bf16_f32) shapeCasts_S2x1408x1024_S2816x1024))) = sums (n := 2) (w := 1408) a0 a1 a2 := funext fun y => by
  obtain ⟨u, i, j, rfl⟩ : ∃ (u : Fin 1) (i : Fin 8320) (j : Fin 1024), y = ValueIdx.ix3 u i j := ⟨y 0, y 1, y 2, idx3 y _ _ _ rfl rfl rfl⟩
  exact inner_at a0 a1 a2 i j
theorem value1 : Value.res_main_v38 m c = norms (n := 2) (w := 1408) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32 := by
  refine (show Value.res_main_v38 m c = broadcastInDim S1x8320x1024 ![1, 2] bcast_S8320x1024_S1x8320x1024_1_2 (unit (inner (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) from rfl).trans (funext fun y => ?_)
  obtain ⟨u, i, j, rfl⟩ : ∃ (u : Fin 1) (i : Fin 8320) (j : Fin 1024), y = ValueIdx.ix3 u i j := ⟨y 0, y 1, y 2, idx3 y _ _ _ rfl rfl rfl⟩
  refine (lead_at _ u i j).trans ((unit_at _ _ _ i j).trans ?_)
  rw [show (fun k => (inner (m ((c.tc : Thread nD τ).loc main_arg0)) (m ((c.tc : Thread nD τ).loc main_arg1)) (m ((c.tc : Thread nD τ).loc main_arg2)) (ValueIdx.ix2 i k) : EReal)) = total (n := 2) (w := 1408) (m ((c.tc : Thread nD τ).loc main_arg0)) (m ((c.tc : Thread nD τ).loc main_arg1)) (m ((c.tc : Thread nD τ).loc main_arg2)) i from funext (inner_at _ _ _ i)]
  rfl
theorem value2 : Value.res_main_v40 m c = norms (n := 2) (w := 1408) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 := by
  rw [show Value.res_main_v40 m c = truncf (F := Ideal) .bf16 (Value.res_main_v38 m c) bitsLt_bf16_f32 from rfl, value1]
  rfl

end Cert.DownRef

end
-- ==== Proof.OutRef.lean ====
/-
  THE REFERENCE OF THE OUTPUT PRODUCT AND THE NORM AFTER IT is `NormSum.sums` and `NormSum.norms`.
-/
module

public import proofs.«01_k».proof.Proof.DownRef
public import proofs.«01_k».proof.Proof.Gen.Reference14Ideal
public import proofs.«01_k».proof.Proof.Gen.Reference14Ideal.Run
public import Idealize.ShloMosaic.Lib.Pipeline.Value

@[expose] public section

noncomputable section

namespace Cert.OutRef

open Idealize.ShloMosaic Idealize.ShloMosaic.ValueIdx Idealize.SL.Sem
open Cert.Products Cert.NormSum Cert.Reference14Ideal Cert.Reference14Ideal.Gen

/-- The sum. -/
def inner (a0 : FVec Ideal S1x8320x1024 .bf16) (a1 : FVec Ideal S1x1x1024x1024 .bf16) (a2 : FVec Ideal S1x8320x1024 .f32) : FVec Ideal S8320x1024 .f32 :=
  addf (mulf (broadcastInDim S8320x1024 ![] bcast_S_S8320x1024 (constant (F := Ideal) S_ .f32 0x3FB504F3#32)) (shapeCast _ a2 shapeCasts_S1x8320x1024_S8320x1024)) (Host.dotGeneral (F := Ideal) dot_S8320x1024_S1024x1024_S8320x1024_1_0_0_1_n_n none (extf .f32 (shapeCast _ a0 shapeCasts_S1x8320x1024_S8320x1024) bitsLt_bf16_f32) (extf .f32 (shapeCast _ a1 shapeCasts_S1x1x1024x1024_S1024x1024) bitsLt_bf16_f32))

theorem inner_at (a0 : FVec Ideal S1x8320x1024 .bf16) (a1 : FVec Ideal S1x1x1024x1024 .bf16) (a2 : FVec Ideal S1x8320x1024 .f32) (i : Fin 8320) (j : Fin 1024) :
    inner a0 a1 a2 (ValueIdx.ix2 i j) = total (n := 1) (w := 1024) a0 a1 a2 i j := by
  unfold inner
  simp only [pointwise]
  refine congrArg₂ (fun a b : EReal => a + b) rfl ((zero_add _).trans ((Finset.sum_congr rfl fun k _ => ?_).trans (Fin.sum_univ_one (fun q : Fin 1 => ∑ k : Fin 1024, ((a0 (ValueIdx.ix3 q i k) : EReal) * (a1 (ValueIdx.ix4 q 0 k j) : EReal)))).symm))
  rfl

variable (m : (ℓ : Loc nD τ sig) → Buf (Elt Ideal) ℓ) (c : Dev nD)

theorem value0 (a0 : FVec Ideal S1x8320x1024 .bf16) (a1 : FVec Ideal S1x1x1024x1024 .bf16) (a2 : FVec Ideal S1x8320x1024 .f32) :
    broadcastInDim S1x8320x1024 ![1, 2] bcast_S8320x1024_S1x8320x1024_1_2 (addf (mulf (broadcastInDim S8320x1024 ![] bcast_S_S8320x1024 (constant (F := Ideal) S_ .f32 0x3FB504F3#32)) (shapeCast _ a2 shapeCasts_S1x8320x1024_S8320x1024)) (Host.dotGeneral (F := Ideal) dot_S8320x1024_S1024x1024_S8320x1024_1_0_0_1_n_n none (extf .f32 (shapeCast _ a0 shapeCasts_S1x8320x1024_S8320x1024) bitsLt_bf16_f32) (extf .f32 (shapeCast _ a1 shapeCasts_S1x1x1024x1024_S1024x1024) bitsLt_bf16_f32))) = sums (n := 1) (w := 1024) a0 a1 a2 := funext fun y => by
  obtain ⟨u, i, j, rfl⟩ : ∃ (u : Fin 1) (i : Fin 8320) (j : Fin 1024), y = ValueIdx.ix3 u i j := ⟨y 0, y 1, y 2, idx3 y _ _ _ rfl rfl rfl⟩
  exact inner_at a0 a1 a2 i j
theorem value1 : Value.res_main_v36 m c = norms (n := 1) (w := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32 := by
  refine (show Value.res_main_v36 m c = broadcastInDim S1x8320x1024 ![1, 2] bcast_S8320x1024_S1x8320x1024_1_2 (DownRef.unit (inner (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) from rfl).trans (funext fun y => ?_)
  obtain ⟨u, i, j, rfl⟩ : ∃ (u : Fin 1) (i : Fin 8320) (j : Fin 1024), y = ValueIdx.ix3 u i j := ⟨y 0, y 1, y 2, idx3 y _ _ _ rfl rfl rfl⟩
  refine (DownRef.lead_at _ u i j).trans ((DownRef.unit_at _ _ _ i j).trans ?_)
  rw [show (fun k => (inner (m ((c.tc : Thread nD τ).loc main_arg0)) (m ((c.tc : Thread nD τ).loc main_arg1)) (m ((c.tc : Thread nD τ).loc main_arg2)) (ValueIdx.ix2 i k) : EReal)) = total (n := 1) (w := 1024) (m ((c.tc : Thread nD τ).loc main_arg0)) (m ((c.tc : Thread nD τ).loc main_arg1)) (m ((c.tc : Thread nD τ).loc main_arg2)) i from funext (inner_at _ _ _ i)]
  rfl
theorem value2 : Value.res_main_v38 m c = norms (n := 1) (w := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16 := by
  rw [show Value.res_main_v38 m c = truncf (F := Ideal) .bf16 (Value.res_main_v36 m c) bitsLt_bf16_f32 from rfl, value1]
  rfl

end Cert.OutRef

end
-- ==== Proof.GateGradKernel.lean ====
/-
  THE GRADIENT OF THE DELTA-RULE LAYER'S INPUT WEIGHT, THE GATES' COLUMNS, is `Products.grad` of its arguments: its grid's five
  points are `Strips.Points`.
-/
module

public import proofs.«01_k».proof.Proof.Strips
public import proofs.«01_k».proof.Proof.Gen.Kernel16Ideal.Frame

@[expose] public section

noncomputable section

namespace Cert.GateGradKernel

open Idealize.ShloMosaic Idealize.ShloMosaic.ValueIdx Idealize.SL Idealize.SL.Sem
open Cert.Products Cert.Strips Cert.Kernel16Ideal Cert.Kernel16Ideal.Gen

variable {F : FTy → Type} [FloatOps F] (c : Dev nD) (i : grid0.Coords)
    (a3 : Memref sig .tc .vmem S1x1664x1024 .bf16) (h3 : a3.IsWhole) (a4 : Memref sig .tc .vmem S1x1664x128 .bf16) (h4 : a4.IsWhole)
    (a5 : Memref sig .tc .vmem S1x1x1024x128 .f32) (h5 : a5.IsWhole)
    (x0 : Vec F S1x1664x1024 .bf16) (x1 : Vec F S1x1664x128 .bf16) (xo2 : Vec F S1x1x1024x128 .f32)

/-- The strips of the result's block. -/
abbrev s0 : Rect S1x1x1024x128 := Rect.unit (s := S1x1x1024x128) ![0, 0, 0, 0] ![1, 1, 256, 128] inb_S1x1x1024x128_S1x1x256x128_0_0_0_0
abbrev s256 : Rect S1x1x1024x128 := Rect.unit (s := S1x1x1024x128) ![0, 0, 256, 0] ![1, 1, 256, 128] inb_S1x1x1024x128_S1x1x256x128_0_0_256_0
abbrev s512 : Rect S1x1x1024x128 := Rect.unit (s := S1x1x1024x128) ![0, 0, 512, 0] ![1, 1, 256, 128] inb_S1x1x1024x128_S1x1x256x128_0_0_512_0
abbrev s768 : Rect S1x1x1024x128 := Rect.unit (s := S1x1x1024x128) ![0, 0, 768, 0] ![1, 1, 256, 128] inb_S1x1x1024x128_S1x1x256x128_0_0_768_0

/-! ## Where the run reads the result's block, it finds it as it was -/

theorem B_v14 : kernelRun0_B.sl.v14 (F := F) c a5 h5 xo2 = View.ld xo2 s256 := by
  unfold kernelRun0_B.sl.v14
  simp only [View.readAt_eq_ld, h5.read_unread]
theorem B_v23 : kernelRun0_B.sl.v23 (F := F) c a5 h5 xo2 = View.ld xo2 s512 := by
  unfold kernelRun0_B.sl.v23
  simp only [View.readAt_eq_ld, h5.read_unread]
theorem B_v32 : kernelRun0_B.sl.v32 (F := F) c a5 h5 xo2 = View.ld xo2 s768 := by
  unfold kernelRun0_B.sl.v32
  simp only [View.readAt_eq_ld, h5.read_unread]
theorem A_v5 : kernelRun0_A.sl.v5 (F := F) c a5 = View.ld k0_pay3 s0 := by
  unfold kernelRun0_A.sl.v5 kernelRun0_A.sl.H2_1
  rw [View.readCov_eq_canon', View.canon_cons_unit_zero hz4]
theorem A_v14 : kernelRun0_A.sl.v14 (F := F) c a3 h3 a4 h4 a5 x0 x1 = View.ld k0_pay3 s256 := by
  unfold kernelRun0_A.sl.v14 kernelRun0_A.sl.H2_2 kernelRun0_A.sl.H2_1
  rw [View.readCov_skip _ _ _ _ _ (by decide), View.readCov_eq_canon', View.canon_cons_unit_zero hz4]
theorem A_v23 : kernelRun0_A.sl.v23 (F := F) c a3 h3 a4 h4 a5 x0 x1 = View.ld k0_pay3 s512 := by
  unfold kernelRun0_A.sl.v23 kernelRun0_A.sl.H2_3 kernelRun0_A.sl.H2_2 kernelRun0_A.sl.H2_1
  rw [View.readCov_skip _ _ _ _ _ (by decide), View.readCov_skip _ _ _ _ _ (by decide), View.readCov_eq_canon', View.canon_cons_unit_zero hz4]
theorem A_v32 : kernelRun0_A.sl.v32 (F := F) c a3 h3 a4 h4 a5 x0 x1 = View.ld k0_pay3 s768 := by
  unfold kernelRun0_A.sl.v32 kernelRun0_A.sl.H2_4 kernelRun0_A.sl.H2_3 kernelRun0_A.sl.H2_2 kernelRun0_A.sl.H2_1
  rw [View.readCov_skip _ _ _ _ _ (by decide), View.readCov_skip _ _ _ _ _ (by decide), View.readCov_skip _ _ _ _ _ (by decide), View.readCov_eq_canon', View.canon_cons_unit_zero hz4]

/-! ## The block a point leaves -/

theorem cover (w3 w2 w1 w0 : S1x1x256x128.Idx → Elt F .f32) (y : S1x1x1024x128.Idx) :
    ∃ p ∈ ([⟨s768, w3⟩, ⟨s512, w2⟩, ⟨s256, w1⟩, ⟨s0, w0⟩] : List (View.Piece (Elt F) S1x1x1024x128 .f32)), y ∈ p.1.set :=
  View.cover_of_tiledL _ ![1, 1, 256, 128] (by sl_kernel_rfl) y

theorem strip (x1 : FVec Ideal S1x1664x128 .bf16) : IsStrip (s := 256) (w := 128) (f := .bf16) x1 (fun V C => k0_pay5 (F := Ideal) x1 V C) := fun V C a b => by
  have hz : (constant (F := Ideal) S256x128 .f32 0x00000000#32) (ValueIdx.ix2 a b) = (0 : EReal) := Ideal.ofBits_zero_f32
  unfold k0_pay5 k0_pay4
  simp only [pointwise]
  exact congrArg ((V (ValueIdx.ix4 0 0 a b) : EReal) + ·) (zero_add _)

theorem outB (hc0 : ¬cond0_0 i) (X : FVec Ideal S1x1x1024x128 .f32) (x0 : FVec Ideal S1x1664x1024 .bf16) (x1 : FVec Ideal S1x1664x128 .bf16) :
    out0_B_2 (F := Ideal) c i a3 h3 a4 h4 a5 h5 hc0 x0 x1 X = more (r := 1024) (w := 128) (f := .bf16) X x0 x1 := by
  unfold out0_B_2
  rw [View.read_writes_junk_eq_canon]
  unfold kernelRun0_B
  dsimp only
  simp only [kernelRun0_B.sl.r, B_v14, B_v23, B_v32, View.readAt_eq_ld, h3.read_unread, h4.read_unread, h5.read_unread, View.ld_unit_zero (S := S1x1664x128) hz3]
  funext y
  exact View.canon_append_of_piecesOf _ [] [_, _, _, _] ⟨fun x => piece (r := 1024) (w := 128) (s := 256) (f := .bf16) X x0 x1 _ (strip x1) 768 (by decide) _ _ x,
    fun x => piece (r := 1024) (w := 128) (s := 256) (f := .bf16) X x0 x1 _ (strip x1) 512 (by decide) _ _ x,
    fun x => piece (r := 1024) (w := 128) (s := 256) (f := .bf16) X x0 x1 _ (strip x1) 256 (by decide) _ _ x,
    fun x => piece (r := 1024) (w := 128) (s := 256) (f := .bf16) X x0 x1 _ (strip x1) 0 (by decide) _ _ x, trivial⟩ y (cover _ _ _ _ y)
theorem outA (hc0 : cond0_0 i) (x0 : FVec Ideal S1x1664x1024 .bf16) (x1 : FVec Ideal S1x1664x128 .bf16) :
    out0_A_2 (F := Ideal) c i a3 h3 a4 h4 a5 h5 hc0 x0 x1 = more (r := 1024) (w := 128) (f := .bf16) (k0_pay3 (F := Ideal)) x0 x1 := by
  unfold out0_A_2
  rw [View.read_writes_junk_eq_canon]
  unfold kernelRun0_A
  dsimp only
  unfold kernelRun0_A.sl.H2_4 kernelRun0_A.sl.H2_3 kernelRun0_A.sl.H2_2 kernelRun0_A.sl.H2_1
  simp only [kernelRun0_A.sl.r, A_v5, A_v14, A_v23, A_v32, View.readAt_eq_ld, h3.read_unread, h4.read_unread, View.ld_unit_zero (S := S1x1664x128) hz3]
  funext y
  exact View.canon_append_of_piecesOf _ [_] [_, _, _, _] ⟨fun x => piece (r := 1024) (w := 128) (s := 256) (f := .bf16) (k0_pay3 (F := Ideal)) x0 x1 _ (strip x1) 768 (by decide) _ _ x,
    fun x => piece (r := 1024) (w := 128) (s := 256) (f := .bf16) (k0_pay3 (F := Ideal)) x0 x1 _ (strip x1) 512 (by decide) _ _ x,
    fun x => piece (r := 1024) (w := 128) (s := 256) (f := .bf16) (k0_pay3 (F := Ideal)) x0 x1 _ (strip x1) 256 (by decide) _ _ x,
    fun x => piece (r := 1024) (w := 128) (s := 256) (f := .bf16) (k0_pay3 (F := Ideal)) x0 x1 _ (strip x1) 0 (by decide) _ _ x, trivial⟩ y (cover _ _ _ _ y)

/-! ## The blocks read at a point -/

theorem i0 : ∀ t : Fin cfg0.N, win0_0.index t = ![0, t.val % 5, 0] := (by decide +kernel : ∀ t : Fin grid0.N, _)
theorem i1 : ∀ t : Fin cfg0.N, win0_1.index t = ![t.val / 5, t.val % 5, 0] := (by decide +kernel : ∀ t : Fin grid0.N, _)
theorem i2 : ∀ t : Fin cfg0.N, win0_2.index t = ![0, t.val / 5, 0, 0] := (by decide +kernel : ∀ t : Fin grid0.N, _)
theorem last : ∀ t : Fin cfg0.N, win0_2.flush t = true → t.val % 5 = 4 := (by decide +kernel : ∀ t : Fin grid0.N, _)

theorem lt_N (t : Fin cfg0.N) : t.val < 5 := lt_of_lt_of_eq t.isLt (show cfg0.N = 5 from N_0)

/-- The result's row tile and column tile at a point. -/
def rowTile (t : ℕ) : Fin 1 := 0
def colTile (t : ℕ) : Fin 1 := ⟨t / 5 % 1, by omega⟩

variable (m : (ℓ : Loc nD τ sig) → Buf (Elt Ideal) ℓ)

/-- The operands. -/
abbrev X0 : FVec Ideal (Cols 1 1024) .bf16 := m ((c.tc : Thread nD τ).loc main_arg0)
abbrev X1 : FVec Ideal (Cols 1 128) .bf16 := m ((c.tc : Thread nD τ).loc main_arg1)

theorem points : Points (f := .bf16) (X0 c m) (X1 c m) (N := cfg0.N) rowTile colTile
    (fun t h => (iblk m c 0 ⟨t, h⟩ : FVec Ideal S1x1664x1024 .bf16)) (fun t h => (iblk m c 1 ⟨t, h⟩ : FVec Ideal S1x1664x128 .bf16)) (k0_pay3 (F := Ideal)) (outsAt0 m c) where
  hu t e := rfl
  hv t e := Fin.ext (by show (t + 1) / 5 % 1 = t / 5 % 1; omega)
  h0 t h i a := by
    generalize et : (⟨t, h⟩ : Fin cfg0.N) = t'
    obtain rfl : t = t'.val := congrArg Fin.val et
    have ht := lt_N t'
    unfold iblk
    rw [View.read_apply]
    refine congrArg (X0 c m) (idx3 _ _ _ _ ?_ ?_ ?_)
    · show win0_0.index t' 0 * 1 + 1 * 0 = 0; rw [i0]; rfl
    · show win0_0.index t' 1 * 1664 + 1 * i.val = 1664 * (t'.val % 5) + i.val; rw [i0]; show t'.val % 5 * 1664 + _ = _; omega
    · show win0_0.index t' 2 * 1024 + 1 * a.val = a.val; rw [i0]; show 0 * 1024 + _ = _; omega
  h1 t h i b := by
    generalize et : (⟨t, h⟩ : Fin cfg0.N) = t'
    obtain rfl : t = t'.val := congrArg Fin.val et
    have ht := lt_N t'
    unfold iblk
    rw [View.read_apply]
    refine congrArg (X1 c m) (idx3 _ _ _ _ ?_ ?_ ?_)
    · show win0_1.index t' 0 * 1 + 1 * 0 = t'.val / 5 % 1; rw [i1]; show t'.val / 5 * 1 + _ = _; omega
    · show win0_1.index t' 1 * 1664 + 1 * i.val = 1664 * (t'.val % 5) + i.val; rw [i1]; show t'.val % 5 * 1664 + _ = _; omega
    · show win0_1.index t' 2 * 128 + 1 * b.val = b.val; rw [i1]; show 0 * 128 + _ = _; omega
  hZ a b := by
    unfold k0_pay3
    simp only [pointwise]
  first t h e := (outsAt0_A m c ⟨t, h⟩ e).trans (outA ..)
  next t h e := (outsAt0_B m c ⟨t + 1, h⟩ e).trans (outB ..)

theorem final : (dats m 0 c).arrAt 2 cfg0.N = grad (f := .bf16) (X0 c m) (X1 c m) := by
  refine (dats m 0 c).arrAt_eq_of_covers 2 _ (by decide +kernel) fun t hf y => ?_
  blk_simp
  rw [after0_2]
  have ht := lt_N t
  have hy0 : (y 0).val < 1 := (y 0).isLt
  have hy1 : (y 1).val < 1 := (y 1).isLt
  refine (points c m).last t.val t.isLt (last t hf) y _ ?_ ?_ ?_ ?_
  · show win0_2.index t 0 * 1 + 1 * (y 0).val = 0; rw [i2]; show 0 * 1 + _ = _; omega
  · show win0_2.index t 1 * 1 + 1 * (y 1).val = t.val / 5 % 1; rw [i2]; show t.val / 5 * 1 + _ = _; omega
  · show win0_2.index t 2 * 1024 + 1 * (y 2).val = (y 2).val; rw [i2]; show 0 * 1024 + _ = _; omega
  · show win0_2.index t 3 * 128 + 1 * (y 3).val = (y 3).val; rw [i2]; show 0 * 128 + _ = _; omega

end Cert.GateGradKernel

end
-- ==== Proof.GateGradRef.lean ====
/-
  THE REFERENCE OF THE GRADIENT OF THE GATES' COLUMNS OF THE INPUT WEIGHT is `Products.grad`.
-/
module

public import proofs.«01_k».proof.Proof.Products
public import proofs.«01_k».proof.Proof.Gen.Reference16Ideal
public import proofs.«01_k».proof.Proof.Gen.Reference16Ideal.Run
public import Idealize.ShloMosaic.Lib.Pipeline.Value

@[expose] public section

noncomputable section

namespace Cert.GateGradRef

open Idealize.ShloMosaic Idealize.ShloMosaic.ValueIdx
open Cert.Products Cert.Reference16Ideal Cert.Reference16Ideal.Gen

theorem value (a0 : FVec Ideal S1x8320x1024 .bf16) (a1 : FVec Ideal S1x8320x128 .bf16) :
    broadcastInDim S1x1x1024x128 ![2, 3] bcast_S1024x128_S1x1x1024x128_2_3 (transpose S1024x128 [1, 0] (Host.dotGeneral (F := Ideal) dot_S8320x128_S8320x1024_S128x1024_0_0_1_1_n_n none (extf .f32 (shapeCast _ a1 shapeCasts_S1x8320x128_S8320x128) bitsLt_bf16_f32) (extf .f32 (shapeCast _ a0 shapeCasts_S1x8320x1024_S8320x1024) bitsLt_bf16_f32)) transposes_S128x1024_S1024x128_1_0)
    = grad (k := 1) (r := 1024) (n := 1) (w := 128) (f := .bf16) a0 a1 := funext fun y => by
  obtain ⟨u, v, i, j, rfl⟩ : ∃ (u v : Fin 1) (i : Fin 1024) (j : Fin 128), y = ValueIdx.ix4 u v i j := ⟨y 0, y 1, y 2, y 3, idx4 y _ _ _ _ rfl rfl rfl rfl⟩
  obtain rfl : u = 0 := Subsingleton.elim _ _
  obtain rfl : v = 0 := Subsingleton.elim _ _
  simp only [pointwise]
  exact (zero_add _).trans (Finset.sum_congr rfl fun k _ => mul_comm (_ : EReal) _)

end Cert.GateGradRef

end
-- ==== Proof.GateBackKernel.lean ====
/-
  THE KERNEL WHICH ADDS THE GATES' COLUMNS TO THE GRADIENT OF THE DELTA-RULE LAYER'S INPUT leaves `Products.toIn` of one tile: grid
  point `t` multiplies row tile `t` and adds the residual.
-/
module

public import proofs.«01_k».proof.Proof.Products
public import proofs.«01_k».proof.Proof.Gen.Kernel17Ideal.Frame
public import Idealize.ShloMosaic.Lib.Pipeline.Value
public import Idealize.ShloMosaic.Lib.Pipeline.ReadBack
public import Idealize.ShloMosaic.Lib.Pipeline.ValueKit.Geometry

@[expose] public section

noncomputable section

namespace Cert.GateBackKernel

open Idealize.ShloMosaic Idealize.ShloMosaic.ValueIdx Idealize.SL Idealize.SL.Sem
open Cert.Products Cert.Kernel17Ideal Cert.Kernel17Ideal.Gen

theorem out {F : FTy → Type} [FloatOps F] (c : Dev nD) (i : grid0.Coords)
    (arg3 : Memref sig .tc .vmem S1x1664x128 .bf16) (harg3 : arg3.IsWhole) (arg4 : Memref sig .tc .vmem S1x1x1024x128 .bf16) (harg4 : arg4.IsWhole)
    (arg5 : Memref sig .tc .vmem S1x1664x1024 .f32) (harg5 : arg5.IsWhole) (arg6 : Memref sig .tc .vmem S1x1664x1024 .f32) (harg6 : arg6.IsWhole) (hc0 : cond0_0 i) (hc1 : ¬cond0_1 i)
    (x0 : Vec F S1x1664x128 .bf16) (x1 : Vec F S1x1x1024x128 .bf16) (x2 : Vec F S1x1664x1024 .f32) :
    out0_A_3 c i arg3 harg3 arg4 harg4 arg5 harg5 arg6 harg6 hc0 hc1 x0 x1 x2 = k0_pay2 x0 x1 x2 := by
  unfold out0_A_3
  rw [View.read_writes_junk_eq_canon]
  unfold kernelRun0_A
  dsimp only
  rw [View.canon_cons_unit_zero hz3]
  simp only [View.readAt_eq_ld, harg3.read_unread, harg4.read_unread, harg5.read_unread, View.ld_unit_zero (S := S1x1664x128) hz3, View.ld_unit_zero (S := S1x1664x1024) hz3, View.ld_unit_zero (S := S1x1x1024x128) hz4]

theorem pay (x0 : FVec Ideal S1x1664x128 .bf16) (x1 : FVec Ideal S1x1x1024x128 .bf16) (x2 : FVec Ideal S1x1664x1024 .f32) (i : Fin 1664) (j : Fin 1024) :
    k0_pay2 (F := Ideal) x0 x1 x2 (ValueIdx.ix3 0 i j)
      = 1 * (x2 (ValueIdx.ix3 0 i j) : EReal) + ∑ k : Fin 128, ((x0 (ValueIdx.ix3 0 i k) : EReal) * (x1 (ValueIdx.ix4 0 0 j k) : EReal)) := by
  have hz : (constant (F := Ideal) S1664x1024 .f32 0x00000000#32) (ValueIdx.ix2 i j) = (0 : EReal) := Ideal.ofBits_zero_f32
  unfold k0_pay2
  refine (shapeCast_ab_1ab_apply _ _ 0 i j).trans ?_
  unfold k0_pay1
  simp only [pointwise, hz]
  exact (congrArg₂ (fun a b : EReal => a + b) (zero_add _) rfl).trans (add_comm _ _)

/-! ## The blocks read at a point -/

theorem i0 : ∀ t : Fin cfg0.N, win0_0.index t = ![0, t.val, 0] := (by decide +kernel : ∀ t : Fin grid0.N, _)
theorem i1 : ∀ t : Fin cfg0.N, win0_1.index t = ![0, 0, 0, 0] := (by decide +kernel : ∀ t : Fin grid0.N, _)
theorem i2 : ∀ t : Fin cfg0.N, win0_2.index t = ![0, t.val, 0] := (by decide +kernel : ∀ t : Fin grid0.N, _)
theorem i3 : ∀ t : Fin cfg0.N, win0_3.index t = ![0, t.val, 0] := (by decide +kernel : ∀ t : Fin grid0.N, _)

variable (m : (ℓ : Loc nD τ sig) → Buf (Elt Ideal) ℓ) (c : Dev nD)

/-- The operands. -/
abbrev X0 : FVec Ideal (Cols 1 128) .bf16 := m ((c.tc : Thread nD τ).loc main_arg0)
abbrev X1 : FVec Ideal (Weight 1 1 1024 128) .bf16 := m ((c.tc : Thread nD τ).loc main_arg1)
abbrev X2 : FVec Ideal Rows .f32 := m ((c.tc : Thread nD τ).loc main_arg2)

theorem lt_N (t : Fin cfg0.N) : t.val < 5 := lt_of_lt_of_eq t.isLt (show cfg0.N = 5 from N_0)

/-- The row of a point. -/
def row (t : Fin cfg0.N) (i : Fin 1664) : Fin 8320 := ⟨t.val * 1664 + i.val, by have := lt_N t; omega⟩

theorem blk0 (t : Fin cfg0.N) (i : Fin 1664) (k : Fin 128) :
    (iblk m c 0 t : FVec Ideal S1x1664x128 .bf16) (ValueIdx.ix3 0 i k) = (X0 m c) (ValueIdx.ix3 0 (row t i) k) := by
  unfold iblk
  rw [View.read_apply]
  refine congrArg (X0 m c) (idx3 _ _ _ _ ?_ ?_ ?_)
  · show win0_0.index t 0 * 1 + 1 * 0 = 0; rw [i0]; rfl
  · show win0_0.index t 1 * 1664 + 1 * i.val = t.val * 1664 + i.val; rw [i0]; show t.val * 1664 + _ = _; omega
  · show win0_0.index t 2 * 128 + 1 * k.val = k.val; rw [i0]; show 0 * 128 + _ = _; omega
theorem blk1 (t : Fin cfg0.N) (k : Fin 128) (j : Fin 1024) :
    (iblk m c 1 t : FVec Ideal S1x1x1024x128 .bf16) (ValueIdx.ix4 0 0 j k) = (X1 m c) (ValueIdx.ix4 0 0 j k) := by
  unfold iblk
  rw [View.read_apply]
  refine congrArg (X1 m c) (idx4 _ _ _ _ _ ?_ ?_ ?_ ?_)
  · show win0_1.index t 0 * 1 + 1 * 0 = 0; rw [i1]; rfl
  · show win0_1.index t 1 * 1 + 1 * 0 = 0; rw [i1]; rfl
  · show win0_1.index t 2 * 1024 + 1 * j.val = j.val; rw [i1]; show 0 * 1024 + _ = _; omega
  · show win0_1.index t 3 * 128 + 1 * k.val = k.val; rw [i1]; show 0 * 128 + _ = _; omega
theorem blk2 (t : Fin cfg0.N) (i : Fin 1664) (j : Fin 1024) :
    (iblk m c 2 t : FVec Ideal S1x1664x1024 .f32) (ValueIdx.ix3 0 i j) = (X2 m c) (ValueIdx.ix3 0 (row t i) j) := by
  unfold iblk
  rw [View.read_apply]
  refine congrArg (X2 m c) (idx3 _ _ _ _ ?_ ?_ ?_)
  · show win0_2.index t 0 * 1 + 1 * 0 = 0; rw [i2]; rfl
  · show win0_2.index t 1 * 1664 + 1 * i.val = t.val * 1664 + i.val; rw [i2]; show t.val * 1664 + _ = _; omega
  · show win0_2.index t 2 * 1024 + 1 * j.val = j.val; rw [i2]; show 0 * 1024 + _ = _; omega

/-! ## The result -/

theorem toIn_at (d : FVec Ideal (Cols 1 128) .bf16) (W : FVec Ideal (Weight 1 1 1024 128) .bf16) (r : FVec Ideal Rows .f32) (z : Rows.Idx) (i : Fin 8320) (j : Fin 1024)
    (e0 : (z 0).val = 0) (e1 : (z 1).val = i.val) (e2 : (z 2).val = j.val) :
    toIn 1 d W r z = 1 * (r (ValueIdx.ix3 0 i j) : EReal) + ∑ k : Fin 128, ((d (ValueIdx.ix3 0 i k) : EReal) * (W (ValueIdx.ix4 0 0 j k) : EReal)) := by
  rw [idx3 z 0 i j e0 e1 e2]
  exact congrArg _ (Fintype.sum_unique _)

theorem final : (dats m 0 c).arrAt 3 cfg0.N = toIn 1 (X0 m c) (X1 m c) (X2 m c) := by
  refine (dats m 0 c).arrAt_eq_of_covers 3 _ (by decide +kernel) fun t hf y => ?_
  blk_simp
  rw [after0_3]
  have hy0 : (y 0).val < 1 := (y 0).isLt
  have hy : y = ValueIdx.ix3 (n0 := 1) (n1 := 1664) (n2 := 1024) 0 (y 1) (y 2) := idx3 y _ _ _ (by show (y 0).val = 0; omega) rfl rfl
  unfold outsAt0
  rw [out]
  refine ((congrArg (k0_pay2 (F := Ideal) (iblk m c 0 t) (iblk m c 1 t) (iblk m c 2 t)) hy).trans (pay _ _ _ (y 1) (y 2))).trans (Eq.trans ?_ (toIn_at _ _ _ _ (row t (y 1)) (y 2) ?_ ?_ ?_).symm)
  · exact congrArg₂ (fun a b : EReal => 1 * a + b) (blk2 m c t (y 1) (y 2)) (Finset.sum_congr rfl fun k _ => congrArg₂ (fun a b : EReal => a * b) (blk0 m c t (y 1) k) (blk1 m c t k (y 2)))
  · show win0_3.index t 0 * 1 + 1 * (y 0).val = 0; rw [i3]; show 0 * 1 + _ = _; omega
  · show win0_3.index t 1 * 1664 + 1 * (y 1).val = t.val * 1664 + (y 1).val; rw [i3]; show t.val * 1664 + _ = _; omega
  · show win0_3.index t 2 * 1024 + 1 * (y 2).val = (y 2).val; rw [i3]; show 0 * 1024 + _ = _; omega

end Cert.GateBackKernel

end
-- ==== Proof.GateBackRef.lean ====
/-
  THE REFERENCE OF THE GRADIENT OF THE DELTA-RULE LAYER'S INPUT, THE GATES' COLUMNS ADDED, is `Products.toIn` of one tile.
-/
module

public import proofs.«01_k».proof.Proof.Products
public import proofs.«01_k».proof.Proof.Gen.Reference17Ideal
public import proofs.«01_k».proof.Proof.Gen.Reference17Ideal.Run
public import Idealize.ShloMosaic.Lib.Pipeline.Value

@[expose] public section

noncomputable section

namespace Cert.GateBackRef

open Idealize.ShloMosaic Idealize.ShloMosaic.ValueIdx
open Cert.Products Cert.Reference17Ideal Cert.Reference17Ideal.Gen

theorem value (a0 : FVec Ideal S1x8320x128 .bf16) (a1 : FVec Ideal S1x1x1024x128 .bf16) (a2 : FVec Ideal S1x8320x1024 .f32) :
    broadcastInDim S1x8320x1024 ![1, 2] bcast_S8320x1024_S1x8320x1024_1_2 (addf (shapeCast _ a2 shapeCasts_S1x8320x1024_S8320x1024) (Host.dotGeneral (F := Ideal) dot_S8320x128_S1024x128_S8320x1024_1_1_0_0_n_n none (extf .f32 (shapeCast _ a0 shapeCasts_S1x8320x128_S8320x128) bitsLt_bf16_f32) (extf .f32 (shapeCast _ a1 shapeCasts_S1x1x1024x128_S1024x128) bitsLt_bf16_f32)))
    = toIn (n := 1) (w := 128) 1 a0 a1 a2 := funext fun y => by
  obtain ⟨u, i, j, rfl⟩ : ∃ (u : Fin 1) (i : Fin 8320) (j : Fin 1024), y = ValueIdx.ix3 u i j := ⟨y 0, y 1, y 2, idx3 y _ _ _ rfl rfl rfl⟩
  obtain rfl : u = 0 := Subsingleton.elim _ _
  simp only [pointwise]
  refine congrArg₂ (fun a b : EReal => a + b) (one_mul _).symm ((zero_add _).trans ?_)
  exact (Fintype.sum_unique (fun q : Fin 1 => ∑ k : Fin 128, ((a0 (ValueIdx.ix3 q i k) : EReal) * (a1 (ValueIdx.ix4 0 q j k) : EReal)))).symm

end Cert.GateBackRef

end
-- ==== Proof.lean ====
/-
  THE CLAIM, assembled: the frames are the generated runs' last conjuncts. Of the first pair of programs both end with the
  arrays `Data.rowsOut` and `Data.gatesOut` of the reals which the arguments hold; of the second pair both end with
  `NormData.rowsOut`, `NormData.gainOut` and `NormData.biasOut`; of the plain products' pairs both end with the sums of
  `Products`, and of the fourteenth and fifteenth with `NormSum.sums` and `NormSum.norms`, for all arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.KernelValue
public import proofs.«01_k».proof.Proof.RefRun
public import proofs.«01_k».proof.Proof.RefValue
public import proofs.«01_k».proof.Proof.Finite
public import proofs.«01_k».proof.Proof.Result
public import proofs.«01_k».proof.Proof.RefResult
public import proofs.«01_k».proof.Proof.Finite2
public import proofs.«01_k».proof.Proof.UpGradKernel
public import proofs.«01_k».proof.Proof.UpGradRef
public import proofs.«01_k».proof.Proof.UpKernel
public import proofs.«01_k».proof.Proof.UpRef
public import proofs.«01_k».proof.Proof.ActKernel
public import proofs.«01_k».proof.Proof.ActRef
public import proofs.«01_k».proof.Proof.DownGradKernel
public import proofs.«01_k».proof.Proof.DownGradRef
public import proofs.«01_k».proof.Proof.InGradKernel
public import proofs.«01_k».proof.Proof.InGradRef
public import proofs.«01_k».proof.Proof.ConvGradKernel
public import proofs.«01_k».proof.Proof.ConvGradRef
public import proofs.«01_k».proof.Proof.OutGradKernel
public import proofs.«01_k».proof.Proof.OutGradRef
public import proofs.«01_k».proof.Proof.InKernel
public import proofs.«01_k».proof.Proof.InRef
public import proofs.«01_k».proof.Proof.ConvInKernel
public import proofs.«01_k».proof.Proof.ConvInRef
public import proofs.«01_k».proof.Proof.OutBackKernel
public import proofs.«01_k».proof.Proof.OutBackRef
public import proofs.«01_k».proof.Proof.InBackKernel
public import proofs.«01_k».proof.Proof.InBackRef
public import proofs.«01_k».proof.Proof.OutKernel
public import proofs.«01_k».proof.Proof.OutRef
public import proofs.«01_k».proof.Proof.DownKernel
public import proofs.«01_k».proof.Proof.DownRef
public import proofs.«01_k».proof.Proof.GateGradKernel
public import proofs.«01_k».proof.Proof.GateGradRef
public import proofs.«01_k».proof.Proof.GateBackKernel
public import proofs.«01_k».proof.Proof.GateBackRef
public import Idealize.ShloMosaic.Adequacy
public import Idealize.ShloMosaic.Init

@[expose] public section

noncomputable section

namespace Cert.Proof

open Idealize.ShloMosaic Idealize.SL.Sem

attribute [local instance] Finite.facts

/-- The reference changes no argument and leaves no semaphore, of which it has none. -/
theorem frame_reference : quiescent_ReferenceIdeal := fun m ρ _ =>
  (θ_run ReferenceIdeal.defs _ _).mono (fun r h => ⟨fun c => (h c).2, sem_eq_zero_of_no_sems (by decide) r.2⟩) (RefRun.run (F := Ideal) m ρ)

/-- The ledger's one entry: the table gives "mask" the value minus infinity. -/
theorem preserves : preserves_Kernel_KernelIdeal :=
  IdealRules.named_const.statement KernelIdeal.κ "mask" .f32 0xF149F2CA#32 ⊥ rfl

/-- Kernel and reference end with the same arrays. -/
theorem algebraic : algebraic_KernelIdeal_ReferenceIdeal_pre_finite := by
  intro m ρ m' ρ' hpre hagree
  refine ⟨fun c => Data.rowsOut (Finite.data m c), fun c => Data.gatesOut (Finite.data m c), ?_, ?_⟩
  · exact (θ_run KernelIdeal.defs _ _).mono (fun _ h c =>
      ⟨(h c).1.trans (KernelValue.final5 m c _ (Finite.holds m c hpre)), (h c).2.1.trans (KernelValue.final6 m c _ (Finite.holds m c hpre)), (h c).2.2⟩)
      (KernelIdeal.Value.run_blocks (F := Ideal) m ρ)
  · refine (θ_run ReferenceIdeal.defs _ _).mono (fun _ h c => ?_) (RefRun.run (F := Ideal) m' ρ')
    have H := Finite.holds m c hpre
    obtain ⟨e0, e1, e2, e3, e4⟩ := hagree c
    rw [← e0, ← e1, ← e2, ← e3, ← e4] at H
    have G := RefValue.Good.after (RefValue.Good.init H)
    exact ⟨(h c).1.1.trans G.rows_out, (h c).1.2.trans G.gates_out, (h c).2⟩

/-- The second reference changes no argument and leaves no semaphore, of which it has none. -/
theorem frame_reference2 : quiescent_Reference2Ideal := fun m ρ _ =>
  (θ_run Reference2Ideal.defs _ _).mono (fun r h => ⟨fun c => (h c).2.2.2, sem_eq_zero_of_no_sems (by decide) r.2⟩)
    (Reference2Ideal.Value.run (F := Ideal) m ρ)

/-- The second kernel and its reference end with the same arrays. -/
theorem algebraic2 : algebraic_Kernel2Ideal_Reference2Ideal_pre_finite2 (hPre_finite2 := Finite2.facts) := by
  intro m ρ m' ρ' hpre hagree
  refine ⟨fun c => NormData.rowsOut (Finite2.data m c), fun c => NormData.gainOut (Finite2.data m c), fun c => NormData.biasOut (Finite2.data m c), ?_, ?_⟩
  · exact Result.run m ρ (Finite2.data m) fun c => Finite2.holds m c hpre
  · refine RefResult.run m' ρ' (Finite2.data m) fun c => ?_
    have H := Finite2.holds m c hpre
    obtain ⟨e0, e1, e2, e3, e4⟩ := hagree c
    rw [← e0, ← e1, ← e2, ← e3, ← e4] at H
    exact H

/-- The third reference, and each of the others, changes no argument and leaves no semaphore, of which it has none. -/
theorem frame_reference3 : quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

open Kernel3Ideal in
/-- The third kernel and its reference end with the same array. -/
theorem algebraic3 : algebraic_Kernel3Ideal_Reference3Ideal := by
  intro m ρ m' ρ' _ hagree
  refine ⟨fun c => Products.grad (k := 1) (r := 1024) (n := 4) (w := 1408) (f := .bf16)
    (m ((c.tc : Thread nD τ).loc main_arg0)) (m ((c.tc : Thread nD τ).loc main_arg1)), ?_, ?_⟩
  · exact (θ_run Kernel3Ideal.defs _ _).mono (fun _ h c => ⟨(h c).1.trans (UpGradKernel.final c m), (h c).2⟩) (Kernel3Ideal.Value.run_blocks (F := Ideal) m ρ)
  · refine (θ_run Reference3Ideal.defs _ _).mono (fun _ h c => ?_) (Reference3Ideal.Value.run (F := Ideal) m' ρ')
    obtain ⟨e0, e1⟩ := hagree c
    refine ⟨((h c).1.trans (UpGradRef.value _ _)).trans ?_, (h c).2⟩
    rw [e0, e1]

theorem frame_reference4 : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

open Kernel4Ideal in
/-- The fourth kernel and its reference end with the same array. -/
theorem algebraic4 : algebraic_Kernel4Ideal_Reference4Ideal := by
  intro m ρ m' ρ' _ hagree
  refine ⟨fun c => Products.up (n := 4) (w := 1408)
    (m ((c.tc : Thread nD τ).loc main_arg0)) (m ((c.tc : Thread nD τ).loc main_arg1)), ?_, ?_⟩
  · exact (θ_run Kernel4Ideal.defs _ _).mono (fun _ h c => ⟨(h c).1.trans (UpKernel.final m c), (h c).2⟩) (Kernel4Ideal.Value.run_blocks (F := Ideal) m ρ)
  · refine (θ_run Reference4Ideal.defs _ _).mono (fun _ h c => ?_) (Reference4Ideal.Value.run (F := Ideal) m' ρ')
    obtain ⟨e0, e1⟩ := hagree c
    refine ⟨((h c).1.trans (UpRef.value _ _)).trans ?_, (h c).2⟩
    rw [e0, e1]

theorem frame_reference5 : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

open Kernel5Ideal in
/-- The fifth kernel and its reference end with the same array. -/
theorem algebraic5 : algebraic_Kernel5Ideal_Reference5Ideal := by
  intro m ρ m' ρ' _ hagree
  refine ⟨fun c => Products.toAct (n := 2) (w := 1408)
    (m ((c.tc : Thread nD τ).loc main_arg0)) (m ((c.tc : Thread nD τ).loc main_arg1)), ?_, ?_⟩
  · exact (θ_run Kernel5Ideal.defs _ _).mono (fun _ h c => ⟨(h c).1.trans (ActKernel.final m c), (h c).2⟩) (Kernel5Ideal.Value.run_blocks (F := Ideal) m ρ)
  · refine (θ_run Reference5Ideal.defs _ _).mono (fun _ h c => ?_) (Reference5Ideal.Value.run (F := Ideal) m' ρ')
    obtain ⟨e0, e1⟩ := hagree c
    refine ⟨((h c).1.trans (ActRef.value _ _)).trans ?_, (h c).2⟩
    rw [e0, e1]

theorem frame_reference6 : quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

open Kernel6Ideal in
/-- The sixth kernel and its reference end with the same array. -/
theorem algebraic6 : algebraic_Kernel6Ideal_Reference6Ideal := by
  intro m ρ m' ρ' _ hagree
  refine ⟨fun c => Products.grad (k := 2) (r := 1408) (n := 1) (w := 1024) (f := .f32)
    (m ((c.tc : Thread nD τ).loc main_arg0)) (m ((c.tc : Thread nD τ).loc main_arg1)), ?_, ?_⟩
  · exact (θ_run Kernel6Ideal.defs _ _).mono (fun _ h c => ⟨(h c).1.trans (DownGradKernel.final c m), (h c).2⟩) (Kernel6Ideal.Value.run_blocks (F := Ideal) m ρ)
  · refine (θ_run Reference6Ideal.defs _ _).mono (fun _ h c => ?_) (Reference6Ideal.Value.run (F := Ideal) m' ρ')
    obtain ⟨e0, e1⟩ := hagree c
    refine ⟨((h c).1.trans (DownGradRef.value _ _)).trans ?_, (h c).2⟩
    rw [e0, e1]

theorem frame_reference7 : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

open Kernel7Ideal in
/-- The seventh kernel and its reference end with the same array. -/
theorem algebraic7 : algebraic_Kernel7Ideal_Reference7Ideal := by
  intro m ρ m' ρ' _ hagree
  refine ⟨fun c => Products.grad (k := 1) (r := 1024) (n := 4) (w := 1024) (f := .bf16)
    (m ((c.tc : Thread nD τ).loc main_arg0)) (m ((c.tc : Thread nD τ).loc main_arg1)), ?_, ?_⟩
  · exact (θ_run Kernel7Ideal.defs _ _).mono (fun _ h c => ⟨(h c).1.trans (InGradKernel.final c m), (h c).2⟩) (Kernel7Ideal.Value.run_blocks (F := Ideal) m ρ)
  · refine (θ_run Reference7Ideal.defs _ _).mono (fun _ h c => ?_) (Reference7Ideal.Value.run (F := Ideal) m' ρ')
    obtain ⟨e0, e1⟩ := hagree c
    refine ⟨((h c).1.trans (InGradRef.value _ _)).trans ?_, (h c).2⟩
    rw [e0, e1]

theorem frame_reference8 : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

open Kernel8Ideal in
/-- The eighth kernel and its reference end with the same array. -/
theorem algebraic8 : algebraic_Kernel8Ideal_Reference8Ideal := by
  intro m ρ m' ρ' _ hagree
  refine ⟨fun c => Products.grad (k := 1) (r := 1024) (n := 3) (w := 1024) (f := .bf16)
    (m ((c.tc : Thread nD τ).loc main_arg0)) (m ((c.tc : Thread nD τ).loc main_arg1)), ?_, ?_⟩
  · exact (θ_run Kernel8Ideal.defs _ _).mono (fun _ h c => ⟨(h c).1.trans (ConvGradKernel.final c m), (h c).2⟩) (Kernel8Ideal.Value.run_blocks (F := Ideal) m ρ)
  · refine (θ_run Reference8Ideal.defs _ _).mono (fun _ h c => ?_) (Reference8Ideal.Value.run (F := Ideal) m' ρ')
    obtain ⟨e0, e1⟩ := hagree c
    refine ⟨((h c).1.trans (ConvGradRef.value _ _)).trans ?_, (h c).2⟩
    rw [e0, e1]

theorem frame_reference9 : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

open Kernel9Ideal in
/-- The ninth kernel and its reference end with the same array. -/
theorem algebraic9 : algebraic_Kernel9Ideal_Reference9Ideal := by
  intro m ρ m' ρ' _ hagree
  refine ⟨fun c => Products.grad (k := 1) (r := 1024) (n := 1) (w := 1024) (f := .f32)
    (m ((c.tc : Thread nD τ).loc main_arg0)) (m ((c.tc : Thread nD τ).loc main_arg1)), ?_, ?_⟩
  · exact (θ_run Kernel9Ideal.defs _ _).mono (fun _ h c => ⟨(h c).1.trans (OutGradKernel.final c m), (h c).2⟩) (Kernel9Ideal.Value.run_blocks (F := Ideal) m ρ)
  · refine (θ_run Reference9Ideal.defs _ _).mono (fun _ h c => ?_) (Reference9Ideal.Value.run (F := Ideal) m' ρ')
    obtain ⟨e0, e1⟩ := hagree c
    refine ⟨((h c).1.trans (OutGradRef.value _ _)).trans ?_, (h c).2⟩
    rw [e0, e1]

theorem frame_reference10 : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

open Kernel10Ideal in
/-- The tenth kernel and its reference end with the same array. -/
theorem algebraic10 : algebraic_Kernel10Ideal_Reference10Ideal := by
  intro m ρ m' ρ' _ hagree
  refine ⟨fun c => Products.up (n := 4) (w := 1024)
    (m ((c.tc : Thread nD τ).loc main_arg0)) (m ((c.tc : Thread nD τ).loc main_arg1)), ?_, ?_⟩
  · exact (θ_run Kernel10Ideal.defs _ _).mono (fun _ h c => ⟨(h c).1.trans (InKernel.final m c), (h c).2⟩) (Kernel10Ideal.Value.run_blocks (F := Ideal) m ρ)
  · refine (θ_run Reference10Ideal.defs _ _).mono (fun _ h c => ?_) (Reference10Ideal.Value.run (F := Ideal) m' ρ')
    obtain ⟨e0, e1⟩ := hagree c
    refine ⟨((h c).1.trans (InRef.value _ _)).trans ?_, (h c).2⟩
    rw [e0, e1]

theorem frame_reference11 : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

open Kernel11Ideal in
/-- The eleventh kernel and its reference end with the same array. -/
theorem algebraic11 : algebraic_Kernel11Ideal_Reference11Ideal := by
  intro m ρ m' ρ' _ hagree
  refine ⟨fun c => Products.up (n := 3) (w := 1024)
    (m ((c.tc : Thread nD τ).loc main_arg0)) (m ((c.tc : Thread nD τ).loc main_arg1)), ?_, ?_⟩
  · exact (θ_run Kernel11Ideal.defs _ _).mono (fun _ h c => ⟨(h c).1.trans (ConvInKernel.final m c), (h c).2⟩) (Kernel11Ideal.Value.run_blocks (F := Ideal) m ρ)
  · refine (θ_run Reference11Ideal.defs _ _).mono (fun _ h c => ?_) (Reference11Ideal.Value.run (F := Ideal) m' ρ')
    obtain ⟨e0, e1⟩ := hagree c
    refine ⟨((h c).1.trans (ConvInRef.value _ _)).trans ?_, (h c).2⟩
    rw [e0, e1]

theorem frame_reference12 : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)

open Kernel12Ideal in
/-- The twelfth kernel and its reference end with the same array. -/
theorem algebraic12 : algebraic_Kernel12Ideal_Reference12Ideal := by
  intro m ρ m' ρ' _ hagree
  refine ⟨fun c => Products.toAct (n := 1) (w := 1024)
    (m ((c.tc : Thread nD τ).loc main_arg0)) (m ((c.tc : Thread nD τ).loc main_arg1)), ?_, ?_⟩
  · exact (θ_run Kernel12Ideal.defs _ _).mono (fun _ h c => ⟨(h c).1.trans (OutBackKernel.final m c), (h c).2⟩) (Kernel12Ideal.Value.run_blocks (F := Ideal) m ρ)
  · refine (θ_run Reference12Ideal.defs _ _).mono (fun _ h c => ?_) (Reference12Ideal.Value.run (F := Ideal) m' ρ')
    obtain ⟨e0, e1⟩ := hagree c
    refine ⟨((h c).1.trans (OutBackRef.value _ _)).trans ?_, (h c).2⟩
    rw [e0, e1]

theorem frame_reference13 : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

open Kernel13Ideal in
/-- The thirteenth kernel and its reference end with the same array. -/
theorem algebraic13 : algebraic_Kernel13Ideal_Reference13Ideal := by
  intro m ρ m' ρ' _ hagree
  refine ⟨fun c => Products.toIn (n := 4) (w := 1024) (Ideal.ofBits .f32 0x3FB504F3#32)
    (m ((c.tc : Thread nD τ).loc main_arg0)) (m ((c.tc : Thread nD τ).loc main_arg1)) (m ((c.tc : Thread nD τ).loc main_arg2)), ?_, ?_⟩
  · exact (θ_run Kernel13Ideal.defs _ _).mono (fun _ h c => ⟨(h c).1.trans (InBackKernel.final m c), (h c).2⟩) (Kernel13Ideal.Value.run_blocks (F := Ideal) m ρ)
  · refine (θ_run Reference13Ideal.defs _ _).mono (fun _ h c => ?_) (Reference13Ideal.Value.run (F := Ideal) m' ρ')
    obtain ⟨e0, e1, e2⟩ := hagree c
    refine ⟨((h c).1.trans (InBackRef.value _ _ _)).trans ?_, (h c).2⟩
    rw [e0, e1, e2]

theorem frame_reference14 : quiescent_Reference14Ideal := fun m ρ _ =>
  (θ_run Reference14Ideal.defs _ _).mono (fun r h => ⟨fun c => (h c).2.2.2, sem_eq_zero_of_no_sems (by decide) r.2⟩)
    (Reference14Ideal.Value.run (F := Ideal) m ρ)

open Kernel14Ideal in
/-- The fourteenth kernel and its reference end with the same arrays. -/
theorem algebraic14 : algebraic_Kernel14Ideal_Reference14Ideal := by
  intro m ρ m' ρ' _ hagree
  refine ⟨fun c => NormSum.sums (n := 1) (w := 1024) (m ((c.tc : Thread nD τ).loc main_arg0)) (m ((c.tc : Thread nD τ).loc main_arg1)) (m ((c.tc : Thread nD τ).loc main_arg2)),
    fun c => NormSum.norms (n := 1) (w := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32,
    fun c => NormSum.norms (n := 1) (w := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16, ?_, ?_⟩
  · exact (θ_run Kernel14Ideal.defs _ _).mono (fun _ h c => ⟨(h c).1.trans (OutKernel.sum m c), (h c).2.1.trans (OutKernel.norm m c), (h c).2.2.1.trans (OutKernel.cast m c), (h c).2.2.2⟩) (Kernel14Ideal.Value.run_blocks (F := Ideal) m ρ)
  · refine (θ_run Reference14Ideal.defs _ _).mono (fun _ h c => ?_) (Reference14Ideal.Value.run (F := Ideal) m' ρ')
    obtain ⟨e0, e1, e2, e3, e4⟩ := hagree c
    refine ⟨((h c).1.trans (OutRef.value0 _ _ _)).trans ?_, ((h c).2.1.trans (OutRef.value1 m' c)).trans ?_, ((h c).2.2.1.trans (OutRef.value2 m' c)).trans ?_, (h c).2.2.2⟩
    · rw [e0, e1, e2]
    · rw [e0, e1, e2, e3, e4]
    · rw [e0, e1, e2, e3, e4]

theorem frame_reference15 : quiescent_Reference15Ideal := fun m ρ _ =>
  (θ_run Reference15Ideal.defs _ _).mono (fun r h => ⟨fun c => (h c).2.2.2, sem_eq_zero_of_no_sems (by decide) r.2⟩)
    (Reference15Ideal.Value.run (F := Ideal) m ρ)

open Kernel15Ideal in
/-- The fifteenth kernel and its reference end with the same arrays. -/
theorem algebraic15 : algebraic_Kernel15Ideal_Reference15Ideal := by
  intro m ρ m' ρ' _ hagree
  refine ⟨fun c => NormSum.sums (n := 2) (w := 1408) (m ((c.tc : Thread nD τ).loc main_arg0)) (m ((c.tc : Thread nD τ).loc main_arg1)) (m ((c.tc : Thread nD τ).loc main_arg2)),
    fun c => NormSum.norms (n := 2) (w := 1408) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .f32,
    fun c => NormSum.norms (n := 2) (w := 1408) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) .bf16, ?_, ?_⟩
  · exact (θ_run Kernel15Ideal.defs _ _).mono (fun _ h c => ⟨(h c).1.trans (DownKernel.sum m c), (h c).2.1.trans (DownKernel.norm m c), (h c).2.2.1.trans (DownKernel.cast m c), (h c).2.2.2⟩) (Kernel15Ideal.Value.run_blocks (F := Ideal) m ρ)
  · refine (θ_run Reference15Ideal.defs _ _).mono (fun _ h c => ?_) (Reference15Ideal.Value.run (F := Ideal) m' ρ')
    obtain ⟨e0, e1, e2, e3, e4⟩ := hagree c
    refine ⟨((h c).1.trans (DownRef.value0 _ _ _)).trans ?_, ((h c).2.1.trans (DownRef.value1 m' c)).trans ?_, ((h c).2.2.1.trans (DownRef.value2 m' c)).trans ?_, (h c).2.2.2⟩
    · rw [e0, e1, e2]
    · rw [e0, e1, e2, e3, e4]
    · rw [e0, e1, e2, e3, e4]

theorem frame_reference16 : quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

open Kernel16Ideal in
/-- The sixteenth kernel and its reference end with the same array. -/
theorem algebraic16 : algebraic_Kernel16Ideal_Reference16Ideal := by
  intro m ρ m' ρ' _ hagree
  refine ⟨fun c => Products.grad (k := 1) (r := 1024) (n := 1) (w := 128) (f := .bf16)
    (m ((c.tc : Thread nD τ).loc main_arg0)) (m ((c.tc : Thread nD τ).loc main_arg1)), ?_, ?_⟩
  · exact (θ_run Kernel16Ideal.defs _ _).mono (fun _ h c => ⟨(h c).1.trans (GateGradKernel.final c m), (h c).2⟩) (Kernel16Ideal.Value.run_blocks (F := Ideal) m ρ)
  · refine (θ_run Reference16Ideal.defs _ _).mono (fun _ h c => ?_) (Reference16Ideal.Value.run (F := Ideal) m' ρ')
    obtain ⟨e0, e1⟩ := hagree c
    refine ⟨((h c).1.trans (GateGradRef.value _ _)).trans ?_, (h c).2⟩
    rw [e0, e1]

theorem frame_reference17 : quiescent_Reference17Ideal := fun m ρ _ =>
  (θ_run Reference17Ideal.defs _ _).mono (fun r h => ⟨fun c => (h c).2, sem_eq_zero_of_no_sems (by decide) r.2⟩)
    (Reference17Ideal.Value.run (F := Ideal) m ρ)

open Kernel17Ideal in
/-- The seventeenth kernel and its reference end with the same array. -/
theorem algebraic17 : algebraic_Kernel17Ideal_Reference17Ideal := by
  intro m ρ m' ρ' _ hagree
  refine ⟨fun c => Products.toIn (n := 1) (w := 128) 1
    (m ((c.tc : Thread nD τ).loc main_arg0)) (m ((c.tc : Thread nD τ).loc main_arg1)) (m ((c.tc : Thread nD τ).loc main_arg2)), ?_, ?_⟩
  · exact (θ_run Kernel17Ideal.defs _ _).mono (fun _ h c => ⟨(h c).1.trans (GateBackKernel.final m c), (h c).2⟩) (Kernel17Ideal.Value.run_blocks (F := Ideal) m ρ)
  · refine (θ_run Reference17Ideal.defs _ _).mono (fun _ h c => ?_) (Reference17Ideal.Value.run (F := Ideal) m' ρ')
    obtain ⟨e0, e1, e2⟩ := hagree c
    refine ⟨((h c).1.trans (GateBackRef.value _ _ _)).trans ?_, (h c).2⟩
    rw [e0, e1, e2]

theorem claim : Claim :=
  ⟨Kernel.Gen.facts, KernelIdeal.Gen.facts, ReferenceIdeal.Gen.facts, Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Finite.facts, Finite2.facts,
    fun m ρ _ => Kernel.Gen.frame m ρ, fun m ρ _ => KernelIdeal.Gen.frame m ρ, fun m ρ _ => KernelIdeal.Gen.frame m ρ,
    frame_reference, fun m ρ _ => frame_reference m ρ trivial,
    fun m ρ _ => Kernel2.Gen.frame m ρ, fun m ρ _ => Kernel2Ideal.Gen.frame m ρ, fun m ρ _ => Kernel2Ideal.Gen.frame m ρ,
    frame_reference2, fun m ρ _ => frame_reference2 m ρ trivial,
    fun m ρ _ => Kernel3.Gen.frame m ρ, fun m ρ _ => Kernel3Ideal.Gen.frame m ρ, frame_reference3,
    fun m ρ _ => Kernel4.Gen.frame m ρ, fun m ρ _ => Kernel4Ideal.Gen.frame m ρ, frame_reference4,
    fun m ρ _ => Kernel5.Gen.frame m ρ, fun m ρ _ => Kernel5Ideal.Gen.frame m ρ, frame_reference5,
    fun m ρ _ => Kernel6.Gen.frame m ρ, fun m ρ _ => Kernel6Ideal.Gen.frame m ρ, frame_reference6,
    fun m ρ _ => Kernel7.Gen.frame m ρ, fun m ρ _ => Kernel7Ideal.Gen.frame m ρ, frame_reference7,
    fun m ρ _ => Kernel8.Gen.frame m ρ, fun m ρ _ => Kernel8Ideal.Gen.frame m ρ, frame_reference8,
    fun m ρ _ => Kernel9.Gen.frame m ρ, fun m ρ _ => Kernel9Ideal.Gen.frame m ρ, frame_reference9,
    fun m ρ _ => Kernel10.Gen.frame m ρ, fun m ρ _ => Kernel10Ideal.Gen.frame m ρ, frame_reference10,
    fun m ρ _ => Kernel11.Gen.frame m ρ, fun m ρ _ => Kernel11Ideal.Gen.frame m ρ, frame_reference11,
    fun m ρ _ => Kernel12.Gen.frame m ρ, fun m ρ _ => Kernel12Ideal.Gen.frame m ρ, frame_reference12,
    fun m ρ _ => Kernel13.Gen.frame m ρ, fun m ρ _ => Kernel13Ideal.Gen.frame m ρ, frame_reference13,
    fun m ρ _ => Kernel14.Gen.frame m ρ, fun m ρ _ => Kernel14Ideal.Gen.frame m ρ, frame_reference14,
    fun m ρ _ => Kernel15.Gen.frame m ρ, fun m ρ _ => Kernel15Ideal.Gen.frame m ρ, frame_reference15,
    fun m ρ _ => Kernel16.Gen.frame m ρ, fun m ρ _ => Kernel16Ideal.Gen.frame m ρ, frame_reference16,
    fun m ρ _ => Kernel17.Gen.frame m ρ, fun m ρ _ => Kernel17Ideal.Gen.frame m ρ, frame_reference17,
    preserves, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17⟩

end Cert.Proof

end
